-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpD (m : (ℓ : Loc Cert.UpD.nD Cert.UpD.τ Cert.UpD.sig) → Buf (Elt Bits) ℓ) : Prop :=
  True

def Pre_UpDIdeal (m : (ℓ : Loc Cert.UpDIdeal.nD Cert.UpDIdeal.τ Cert.UpDIdeal.sig) → Buf (Elt Ideal) ℓ) : Prop :=
  True

def Pre_UpDRefIdeal (m : (ℓ : Loc Cert.UpDRefIdeal.nD Cert.UpDRefIdeal.τ Cert.UpDRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownD (m : (ℓ : Loc Cert.DownD.nD Cert.DownD.τ Cert.DownD.sig) → Buf (Elt Bits) ℓ) : Prop :=
  True

def Pre_DownDIdeal (m : (ℓ : Loc Cert.DownDIdeal.nD Cert.DownDIdeal.τ Cert.DownDIdeal.sig) → Buf (Elt Ideal) ℓ) : Prop :=
  True

def Pre_DownDRefIdeal (m : (ℓ : Loc Cert.DownDRefIdeal.nD Cert.DownDRefIdeal.τ Cert.DownDRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InD (m : (ℓ : Loc Cert.InD.nD Cert.InD.τ Cert.InD.sig) → Buf (Elt Bits) ℓ) : Prop :=
  True

def Pre_InDIdeal (m : (ℓ : Loc Cert.InDIdeal.nD Cert.InDIdeal.τ Cert.InDIdeal.sig) → Buf (Elt Ideal) ℓ) : Prop :=
  True

def Pre_InDRefIdeal (m : (ℓ : Loc Cert.InDRefIdeal.nD Cert.InDRefIdeal.τ Cert.InDRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDRefIdeal (m : (ℓ : Loc Cert.OutDRefIdeal.nD Cert.OutDRefIdeal.τ Cert.OutDRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpD [hUpD : Cert.UpD.Facts] : Prop :=
  ∀ (m : (ℓ : Loc Cert.UpD.nD Cert.UpD.τ Cert.UpD.sig) → Buf (Elt Bits) ℓ) (g : Dev Cert.UpD.nD → PrngReg), Pre_UpD m →
    θ_run (Cert.UpD.defs (F := Bits)) (onTc (τ := Cert.UpD.τ) (Cert.UpD.main (F := Bits))) ⟨m, fun _ => 0, g⟩ (fun r => (∀ c : Dev Cert.UpD.nD,
      r.2.mem ((c.tc : Thread Cert.UpD.nD Cert.UpD.τ).loc Cert.UpD.main_arg0) = m ((c.tc : Thread Cert.UpD.nD Cert.UpD.τ).loc Cert.UpD.main_arg0)
      ∧ r.2.mem ((c.tc : Thread Cert.UpD.nD Cert.UpD.τ).loc Cert.UpD.main_arg1) = m ((c.tc : Thread Cert.UpD.nD Cert.UpD.τ).loc Cert.UpD.main_arg1))
      ∧ r.2.sem = fun _ => 0)

def quiescent_UpDIdeal [hUpDIdeal : Cert.UpDIdeal.Facts] : Prop :=
  ∀ (m : (ℓ : Loc Cert.UpDIdeal.nD Cert.UpDIdeal.τ Cert.UpDIdeal.sig) → Buf (Elt Ideal) ℓ) (g : Dev Cert.UpDIdeal.nD → PrngReg), Pre_UpDIdeal m →
    θ_run (Cert.UpDIdeal.defs (F := Ideal)) (onTc (τ := Cert.UpDIdeal.τ) (Cert.UpDIdeal.main (F := Ideal))) ⟨m, fun _ => 0, g⟩ (fun r => (∀ c : Dev Cert.UpDIdeal.nD,
      r.2.mem ((c.tc : Thread Cert.UpDIdeal.nD Cert.UpDIdeal.τ).loc Cert.UpDIdeal.main_arg0) = m ((c.tc : Thread Cert.UpDIdeal.nD Cert.UpDIdeal.τ).loc Cert.UpDIdeal.main_arg0)
      ∧ r.2.mem ((c.tc : Thread Cert.UpDIdeal.nD Cert.UpDIdeal.τ).loc Cert.UpDIdeal.main_arg1) = m ((c.tc : Thread Cert.UpDIdeal.nD Cert.UpDIdeal.τ).loc Cert.UpDIdeal.main_arg1))
      ∧ r.2.sem = fun _ => 0)

def quiescent_UpDRefIdeal [hUpDRefIdeal : Cert.UpDRefIdeal.Facts] : Prop :=
  ∀ (m : (ℓ : Loc Cert.UpDRefIdeal.nD Cert.UpDRefIdeal.τ Cert.UpDRefIdeal.sig) → Buf (Elt Ideal) ℓ) (g : Dev Cert.UpDRefIdeal.nD → PrngReg), Pre_UpDRefIdeal m →
    θ_run (Cert.UpDRefIdeal.defs (F := Ideal)) (onTc (τ := Cert.UpDRefIdeal.τ) (Cert.UpDRefIdeal.main (F := Ideal))) ⟨m, fun _ => 0, g⟩ (fun r => (∀ c : Dev Cert.UpDRefIdeal.nD,
      r.2.mem ((c.tc : Thread Cert.UpDRefIdeal.nD Cert.UpDRefIdeal.τ).loc Cert.UpDRefIdeal.main_arg0) = m ((c.tc : Thread Cert.UpDRefIdeal.nD Cert.UpDRefIdeal.τ).loc Cert.UpDRefIdeal.main_arg0)
      ∧ r.2.mem ((c.tc : Thread Cert.UpDRefIdeal.nD Cert.UpDRefIdeal.τ).loc Cert.UpDRefIdeal.main_arg1) = m ((c.tc : Thread Cert.UpDRefIdeal.nD Cert.UpDRefIdeal.τ).loc Cert.UpDRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownD [hDownD : Cert.DownD.Facts] : Prop :=
  ∀ (m : (ℓ : Loc Cert.DownD.nD Cert.DownD.τ Cert.DownD.sig) → Buf (Elt Bits) ℓ) (g : Dev Cert.DownD.nD → PrngReg), Pre_DownD m →
    θ_run (Cert.DownD.defs (F := Bits)) (onTc (τ := Cert.DownD.τ) (Cert.DownD.main (F := Bits))) ⟨m, fun _ => 0, g⟩ (fun r => (∀ c : Dev Cert.DownD.nD,
      r.2.mem ((c.tc : Thread Cert.DownD.nD Cert.DownD.τ).loc Cert.DownD.main_arg0) = m ((c.tc : Thread Cert.DownD.nD Cert.DownD.τ).loc Cert.DownD.main_arg0)
      ∧ r.2.mem ((c.tc : Thread Cert.DownD.nD Cert.DownD.τ).loc Cert.DownD.main_arg1) = m ((c.tc : Thread Cert.DownD.nD Cert.DownD.τ).loc Cert.DownD.main_arg1))
      ∧ r.2.sem = fun _ => 0)

def quiescent_DownDIdeal [hDownDIdeal : Cert.DownDIdeal.Facts] : Prop :=
  ∀ (m : (ℓ : Loc Cert.DownDIdeal.nD Cert.DownDIdeal.τ Cert.DownDIdeal.sig) → Buf (Elt Ideal) ℓ) (g : Dev Cert.DownDIdeal.nD → PrngReg), Pre_DownDIdeal m →
    θ_run (Cert.DownDIdeal.defs (F := Ideal)) (onTc (τ := Cert.DownDIdeal.τ) (Cert.DownDIdeal.main (F := Ideal))) ⟨m, fun _ => 0, g⟩ (fun r => (∀ c : Dev Cert.DownDIdeal.nD,
      r.2.mem ((c.tc : Thread Cert.DownDIdeal.nD Cert.DownDIdeal.τ).loc Cert.DownDIdeal.main_arg0) = m ((c.tc : Thread Cert.DownDIdeal.nD Cert.DownDIdeal.τ).loc Cert.DownDIdeal.main_arg0)
      ∧ r.2.mem ((c.tc : Thread Cert.DownDIdeal.nD Cert.DownDIdeal.τ).loc Cert.DownDIdeal.main_arg1) = m ((c.tc : Thread Cert.DownDIdeal.nD Cert.DownDIdeal.τ).loc Cert.DownDIdeal.main_arg1))
      ∧ r.2.sem = fun _ => 0)

def quiescent_DownDRefIdeal [hDownDRefIdeal : Cert.DownDRefIdeal.Facts] : Prop :=
  ∀ (m : (ℓ : Loc Cert.DownDRefIdeal.nD Cert.DownDRefIdeal.τ Cert.DownDRefIdeal.sig) → Buf (Elt Ideal) ℓ) (g : Dev Cert.DownDRefIdeal.nD → PrngReg), Pre_DownDRefIdeal m →
    θ_run (Cert.DownDRefIdeal.defs (F := Ideal)) (onTc (τ := Cert.DownDRefIdeal.τ) (Cert.DownDRefIdeal.main (F := Ideal))) ⟨m, fun _ => 0, g⟩ (fun r => (∀ c : Dev Cert.DownDRefIdeal.nD,
      r.2.mem ((c.tc : Thread Cert.DownDRefIdeal.nD Cert.DownDRefIdeal.τ).loc Cert.DownDRefIdeal.main_arg0) = m ((c.tc : Thread Cert.DownDRefIdeal.nD Cert.DownDRefIdeal.τ).loc Cert.DownDRefIdeal.main_arg0)
      ∧ r.2.mem ((c.tc : Thread Cert.DownDRefIdeal.nD Cert.DownDRefIdeal.τ).loc Cert.DownDRefIdeal.main_arg1) = m ((c.tc : Thread Cert.DownDRefIdeal.nD Cert.DownDRefIdeal.τ).loc Cert.DownDRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InD [hInD : Cert.InD.Facts] : Prop :=
  ∀ (m : (ℓ : Loc Cert.InD.nD Cert.InD.τ Cert.InD.sig) → Buf (Elt Bits) ℓ) (g : Dev Cert.InD.nD → PrngReg), Pre_InD m →
    θ_run (Cert.InD.defs (F := Bits)) (onTc (τ := Cert.InD.τ) (Cert.InD.main (F := Bits))) ⟨m, fun _ => 0, g⟩ (fun r => (∀ c : Dev Cert.InD.nD,
      r.2.mem ((c.tc : Thread Cert.InD.nD Cert.InD.τ).loc Cert.InD.main_arg0) = m ((c.tc : Thread Cert.InD.nD Cert.InD.τ).loc Cert.InD.main_arg0)
      ∧ r.2.mem ((c.tc : Thread Cert.InD.nD Cert.InD.τ).loc Cert.InD.main_arg1) = m ((c.tc : Thread Cert.InD.nD Cert.InD.τ).loc Cert.InD.main_arg1))
      ∧ r.2.sem = fun _ => 0)

def quiescent_InDIdeal [hInDIdeal : Cert.InDIdeal.Facts] : Prop :=
  ∀ (m : (ℓ : Loc Cert.InDIdeal.nD Cert.InDIdeal.τ Cert.InDIdeal.sig) → Buf (Elt Ideal) ℓ) (g : Dev Cert.InDIdeal.nD → PrngReg), Pre_InDIdeal m →
    θ_run (Cert.InDIdeal.defs (F := Ideal)) (onTc (τ := Cert.InDIdeal.τ) (Cert.InDIdeal.main (F := Ideal))) ⟨m, fun _ => 0, g⟩ (fun r => (∀ c : Dev Cert.InDIdeal.nD,
      r.2.mem ((c.tc : Thread Cert.InDIdeal.nD Cert.InDIdeal.τ).loc Cert.InDIdeal.main_arg0) = m ((c.tc : Thread Cert.InDIdeal.nD Cert.InDIdeal.τ).loc Cert.InDIdeal.main_arg0)
      ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ r.2.sem = fun _ => 0)

def quiescent_InDRefIdeal [hInDRefIdeal : Cert.InDRefIdeal.Facts] : Prop :=
  ∀ (m : (ℓ : Loc Cert.InDRefIdeal.nD Cert.InDRefIdeal.τ Cert.InDRefIdeal.sig) → Buf (Elt Ideal) ℓ) (g : Dev Cert.InDRefIdeal.nD → PrngReg), Pre_InDRefIdeal m →
    θ_run (Cert.InDRefIdeal.defs (F := Ideal)) (onTc (τ := Cert.InDRefIdeal.τ) (Cert.InDRefIdeal.main (F := Ideal))) ⟨m, fun _ => 0, g⟩ (fun r => (∀ c : Dev Cert.InDRefIdeal.nD,
      r.2.mem ((c.tc : Thread Cert.InDRefIdeal.nD Cert.InDRefIdeal.τ).loc Cert.InDRefIdeal.main_arg0) = m ((c.tc : Thread Cert.InDRefIdeal.nD Cert.InDRefIdeal.τ).loc Cert.InDRefIdeal.main_arg0)
      ∧ r.2.mem ((c.tc : Thread Cert.InDRefIdeal.nD Cert.InDRefIdeal.τ).loc Cert.InDRefIdeal.main_arg1) = m ((c.tc : Thread Cert.InDRefIdeal.nD Cert.InDRefIdeal.τ).loc Cert.InDRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ r.2.sem = fun _ => 0)

def quiescent_OutDRefIdeal [hOutDRefIdeal : Cert.OutDRefIdeal.Facts] : Prop :=
  ∀ (m : (ℓ : Loc Cert.OutDRefIdeal.nD Cert.OutDRefIdeal.τ Cert.OutDRefIdeal.sig) → Buf (Elt Ideal) ℓ) (g : Dev Cert.OutDRefIdeal.nD → PrngReg), Pre_OutDRefIdeal m →
    θ_run (Cert.OutDRefIdeal.defs (F := Ideal)) (onTc (τ := Cert.OutDRefIdeal.τ) (Cert.OutDRefIdeal.main (F := Ideal))) ⟨m, fun _ => 0, g⟩ (fun r => (∀ c : Dev Cert.OutDRefIdeal.nD,
      r.2.mem ((c.tc : Thread Cert.OutDRefIdeal.nD Cert.OutDRefIdeal.τ).loc Cert.OutDRefIdeal.main_arg0) = m ((c.tc : Thread Cert.OutDRefIdeal.nD Cert.OutDRefIdeal.τ).loc Cert.OutDRefIdeal.main_arg0)
      ∧ r.2.mem ((c.tc : Thread Cert.OutDRefIdeal.nD Cert.OutDRefIdeal.τ).loc Cert.OutDRefIdeal.main_arg1) = m ((c.tc : Thread Cert.OutDRefIdeal.nD Cert.OutDRefIdeal.τ).loc Cert.OutDRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v205) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v203) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpD_UpDIdeal : Prop :=
  True

def algebraic_UpDIdeal_UpDRefIdeal [hUpDIdeal : Cert.UpDIdeal.Facts] [hUpDRefIdeal : Cert.UpDRefIdeal.Facts] : Prop :=
  ∀ (m : (ℓ : Loc Cert.UpDIdeal.nD Cert.UpDIdeal.τ Cert.UpDIdeal.sig) → Buf (Elt Ideal) ℓ) (g : Dev Cert.UpDIdeal.nD → PrngReg)
    (m' : (ℓ : Loc Cert.UpDRefIdeal.nD Cert.UpDRefIdeal.τ Cert.UpDRefIdeal.sig) → Buf (Elt Ideal) ℓ) (g' : Dev Cert.UpDRefIdeal.nD → PrngReg), Pre_UpDIdeal m →
    (∀ c : Dev Cert.UpDIdeal.nD,
      m' ((c.tc : Thread Cert.UpDRefIdeal.nD Cert.UpDRefIdeal.τ).loc Cert.UpDRefIdeal.main_arg0) = m ((c.tc : Thread Cert.UpDIdeal.nD Cert.UpDIdeal.τ).loc Cert.UpDIdeal.main_arg0)
      ∧ m' ((c.tc : Thread Cert.UpDRefIdeal.nD Cert.UpDRefIdeal.τ).loc Cert.UpDRefIdeal.main_arg1) = m ((c.tc : Thread Cert.UpDIdeal.nD Cert.UpDIdeal.τ).loc Cert.UpDIdeal.main_arg1)) →
    ∃ (v0 : (c : Dev Cert.UpDIdeal.nD) → Buf (Elt Ideal) ((c.tc : Thread Cert.UpDIdeal.nD Cert.UpDIdeal.τ).loc Cert.UpDIdeal.main_v0)),
      θ_run (Cert.UpDIdeal.defs (F := Ideal)) (onTc (τ := Cert.UpDIdeal.τ) (Cert.UpDIdeal.main (F := Ideal))) ⟨m, fun _ => 0, g⟩ (fun r => ∀ c : Dev Cert.UpDIdeal.nD,
          r.2.mem ((c.tc : Thread Cert.UpDIdeal.nD Cert.UpDIdeal.τ).loc Cert.UpDIdeal.main_v0) = v0 c
          ∧ r.2.mem ((c.tc : Thread Cert.UpDIdeal.nD Cert.UpDIdeal.τ).loc Cert.UpDIdeal.main_arg0) = m ((c.tc : Thread Cert.UpDIdeal.nD Cert.UpDIdeal.τ).loc Cert.UpDIdeal.main_arg0)
          ∧ r.2.mem ((c.tc : Thread Cert.UpDIdeal.nD Cert.UpDIdeal.τ).loc Cert.UpDIdeal.main_arg1) = m ((c.tc : Thread Cert.UpDIdeal.nD Cert.UpDIdeal.τ).loc Cert.UpDIdeal.main_arg1))
      ∧ θ_run (Cert.UpDRefIdeal.defs (F := Ideal)) (onTc (τ := Cert.UpDRefIdeal.τ) (Cert.UpDRefIdeal.main (F := Ideal))) ⟨m', fun _ => 0, g'⟩ (fun r => ∀ c : Dev Cert.UpDRefIdeal.nD,
          r.2.mem ((c.tc : Thread Cert.UpDRefIdeal.nD Cert.UpDRefIdeal.τ).loc Cert.UpDRefIdeal.main_v16) = v0 c
          ∧ r.2.mem ((c.tc : Thread Cert.UpDRefIdeal.nD Cert.UpDRefIdeal.τ).loc Cert.UpDRefIdeal.main_arg0) = m' ((c.tc : Thread Cert.UpDRefIdeal.nD Cert.UpDRefIdeal.τ).loc Cert.UpDRefIdeal.main_arg0)
          ∧ r.2.mem ((c.tc : Thread Cert.UpDRefIdeal.nD Cert.UpDRefIdeal.τ).loc Cert.UpDRefIdeal.main_arg1) = m' ((c.tc : Thread Cert.UpDRefIdeal.nD Cert.UpDRefIdeal.τ).loc Cert.UpDRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v20) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownD_DownDIdeal : Prop :=
  True

def algebraic_DownDIdeal_DownDRefIdeal [hDownDIdeal : Cert.DownDIdeal.Facts] [hDownDRefIdeal : Cert.DownDRefIdeal.Facts] : Prop :=
  ∀ (m : (ℓ : Loc Cert.DownDIdeal.nD Cert.DownDIdeal.τ Cert.DownDIdeal.sig) → Buf (Elt Ideal) ℓ) (g : Dev Cert.DownDIdeal.nD → PrngReg)
    (m' : (ℓ : Loc Cert.DownDRefIdeal.nD Cert.DownDRefIdeal.τ Cert.DownDRefIdeal.sig) → Buf (Elt Ideal) ℓ) (g' : Dev Cert.DownDRefIdeal.nD → PrngReg), Pre_DownDIdeal m →
    (∀ c : Dev Cert.DownDIdeal.nD,
      m' ((c.tc : Thread Cert.DownDRefIdeal.nD Cert.DownDRefIdeal.τ).loc Cert.DownDRefIdeal.main_arg0) = m ((c.tc : Thread Cert.DownDIdeal.nD Cert.DownDIdeal.τ).loc Cert.DownDIdeal.main_arg0)
      ∧ m' ((c.tc : Thread Cert.DownDRefIdeal.nD Cert.DownDRefIdeal.τ).loc Cert.DownDRefIdeal.main_arg1) = m ((c.tc : Thread Cert.DownDIdeal.nD Cert.DownDIdeal.τ).loc Cert.DownDIdeal.main_arg1)) →
    ∃ (v0 : (c : Dev Cert.DownDIdeal.nD) → Buf (Elt Ideal) ((c.tc : Thread Cert.DownDIdeal.nD Cert.DownDIdeal.τ).loc Cert.DownDIdeal.main_v0)),
      θ_run (Cert.DownDIdeal.defs (F := Ideal)) (onTc (τ := Cert.DownDIdeal.τ) (Cert.DownDIdeal.main (F := Ideal))) ⟨m, fun _ => 0, g⟩ (fun r => ∀ c : Dev Cert.DownDIdeal.nD,
          r.2.mem ((c.tc : Thread Cert.DownDIdeal.nD Cert.DownDIdeal.τ).loc Cert.DownDIdeal.main_v0) = v0 c
          ∧ r.2.mem ((c.tc : Thread Cert.DownDIdeal.nD Cert.DownDIdeal.τ).loc Cert.DownDIdeal.main_arg0) = m ((c.tc : Thread Cert.DownDIdeal.nD Cert.DownDIdeal.τ).loc Cert.DownDIdeal.main_arg0)
          ∧ r.2.mem ((c.tc : Thread Cert.DownDIdeal.nD Cert.DownDIdeal.τ).loc Cert.DownDIdeal.main_arg1) = m ((c.tc : Thread Cert.DownDIdeal.nD Cert.DownDIdeal.τ).loc Cert.DownDIdeal.main_arg1))
      ∧ θ_run (Cert.DownDRefIdeal.defs (F := Ideal)) (onTc (τ := Cert.DownDRefIdeal.τ) (Cert.DownDRefIdeal.main (F := Ideal))) ⟨m', fun _ => 0, g'⟩ (fun r => ∀ c : Dev Cert.DownDRefIdeal.nD,
          r.2.mem ((c.tc : Thread Cert.DownDRefIdeal.nD Cert.DownDRefIdeal.τ).loc Cert.DownDRefIdeal.main_v4) = v0 c
          ∧ r.2.mem ((c.tc : Thread Cert.DownDRefIdeal.nD Cert.DownDRefIdeal.τ).loc Cert.DownDRefIdeal.main_arg0) = m' ((c.tc : Thread Cert.DownDRefIdeal.nD Cert.DownDRefIdeal.τ).loc Cert.DownDRefIdeal.main_arg0)
          ∧ r.2.mem ((c.tc : Thread Cert.DownDRefIdeal.nD Cert.DownDRefIdeal.τ).loc Cert.DownDRefIdeal.main_arg1) = m' ((c.tc : Thread Cert.DownDRefIdeal.nD Cert.DownDRefIdeal.τ).loc Cert.DownDRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InD_InDIdeal : Prop :=
  True

def algebraic_InDIdeal_InDRefIdeal [hInDIdeal : Cert.InDIdeal.Facts] [hInDRefIdeal : Cert.InDRefIdeal.Facts] : Prop :=
  ∀ (m : (ℓ : Loc Cert.InDIdeal.nD Cert.InDIdeal.τ Cert.InDIdeal.sig) → Buf (Elt Ideal) ℓ) (g : Dev Cert.InDIdeal.nD → PrngReg)
    (m' : (ℓ : Loc Cert.InDRefIdeal.nD Cert.InDRefIdeal.τ Cert.InDRefIdeal.sig) → Buf (Elt Ideal) ℓ) (g' : Dev Cert.InDRefIdeal.nD → PrngReg), Pre_InDIdeal m →
    (∀ c : Dev Cert.InDIdeal.nD,
      m' ((c.tc : Thread Cert.InDRefIdeal.nD Cert.InDRefIdeal.τ).loc Cert.InDRefIdeal.main_arg0) = m ((c.tc : Thread Cert.InDIdeal.nD Cert.InDIdeal.τ).loc Cert.InDIdeal.main_arg0)
      ∧ m' ((c.tc : Thread Cert.InDRefIdeal.nD Cert.InDRefIdeal.τ).loc Cert.InDRefIdeal.main_arg1) = m ((c.tc : Thread Cert.InDIdeal.nD Cert.InDIdeal.τ).loc Cert.InDIdeal.main_arg1)) →
    ∃ (v0 : (c : Dev Cert.InDIdeal.nD) → Buf (Elt Ideal) ((c.tc : Thread Cert.InDIdeal.nD Cert.InDIdeal.τ).loc Cert.InDIdeal.main_v0)),
      θ_run (Cert.InDIdeal.defs (F := Ideal)) (onTc (τ := Cert.InDIdeal.τ) (Cert.InDIdeal.main (F := Ideal))) ⟨m, fun _ => 0, g⟩ (fun r => ∀ c : Dev Cert.InDIdeal.nD,
          r.2.mem ((c.tc : Thread Cert.InDIdeal.nD Cert.InDIdeal.τ).loc Cert.InDIdeal.main_v0) = v0 c
          ∧ r.2.mem ((c.tc : Thread Cert.InDIdeal.nD Cert.InDIdeal.τ).loc Cert.InDIdeal.main_arg0) = m ((c.tc : Thread Cert.InDIdeal.nD Cert.InDIdeal.τ).loc Cert.InDIdeal.main_arg0)
          ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ θ_run (Cert.InDRefIdeal.defs (F := Ideal)) (onTc (τ := Cert.InDRefIdeal.τ) (Cert.InDRefIdeal.main (F := Ideal))) ⟨m', fun _ => 0, g'⟩ (fun r => ∀ c : Dev Cert.InDRefIdeal.nD,
          r.2.mem ((c.tc : Thread Cert.InDRefIdeal.nD Cert.InDRefIdeal.τ).loc Cert.InDRefIdeal.main_v4) = v0 c
          ∧ r.2.mem ((c.tc : Thread Cert.InDRefIdeal.nD Cert.InDRefIdeal.τ).loc Cert.InDRefIdeal.main_arg0) = m' ((c.tc : Thread Cert.InDRefIdeal.nD Cert.InDRefIdeal.τ).loc Cert.InDRefIdeal.main_arg0)
          ∧ r.2.mem ((c.tc : Thread Cert.InDRefIdeal.nD Cert.InDRefIdeal.τ).loc Cert.InDRefIdeal.main_arg1) = m' ((c.tc : Thread Cert.InDRefIdeal.nD Cert.InDRefIdeal.τ).loc Cert.InDRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v6) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutD_OutDIdeal : Prop :=
  True

def algebraic_OutDIdeal_OutDRefIdeal [hOutDIdeal : Cert.OutDIdeal.Facts] [hOutDRefIdeal : Cert.OutDRefIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDRefIdeal.nD Cert.OutDRefIdeal.τ Cert.OutDRefIdeal.sig) → Buf (Elt Ideal) ℓ) (g' : Dev Cert.OutDRefIdeal.nD → PrngReg), Pre_OutDIdeal m →
    (∀ c : Dev Cert.OutDIdeal.nD,
      m' ((c.tc : Thread Cert.OutDRefIdeal.nD Cert.OutDRefIdeal.τ).loc Cert.OutDRefIdeal.main_arg0) = m ((c.tc : Thread Cert.OutDIdeal.nD Cert.OutDIdeal.τ).loc Cert.OutDIdeal.main_arg0)
      ∧ m' ((c.tc : Thread Cert.OutDRefIdeal.nD Cert.OutDRefIdeal.τ).loc Cert.OutDRefIdeal.main_arg1) = m ((c.tc : Thread Cert.OutDIdeal.nD Cert.OutDIdeal.τ).loc Cert.OutDIdeal.main_arg1)) →
    ∃ (v0 : (c : Dev Cert.OutDIdeal.nD) → Buf (Elt Ideal) ((c.tc : Thread Cert.OutDIdeal.nD Cert.OutDIdeal.τ).loc Cert.OutDIdeal.main_v0)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v0) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ θ_run (Cert.OutDRefIdeal.defs (F := Ideal)) (onTc (τ := Cert.OutDRefIdeal.τ) (Cert.OutDRefIdeal.main (F := Ideal))) ⟨m', fun _ => 0, g'⟩ (fun r => ∀ c : Dev Cert.OutDRefIdeal.nD,
          r.2.mem ((c.tc : Thread Cert.OutDRefIdeal.nD Cert.OutDRefIdeal.τ).loc Cert.OutDRefIdeal.main_v4) = v0 c
          ∧ r.2.mem ((c.tc : Thread Cert.OutDRefIdeal.nD Cert.OutDRefIdeal.τ).loc Cert.OutDRefIdeal.main_arg0) = m' ((c.tc : Thread Cert.OutDRefIdeal.nD Cert.OutDRefIdeal.τ).loc Cert.OutDRefIdeal.main_arg0)
          ∧ r.2.mem ((c.tc : Thread Cert.OutDRefIdeal.nD Cert.OutDRefIdeal.τ).loc Cert.OutDRefIdeal.main_arg1) = m' ((c.tc : Thread Cert.OutDRefIdeal.nD Cert.OutDRefIdeal.τ).loc Cert.OutDRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)) →
    ∃ (v0 : (c : Dev Cert.AdamSmallIdeal.nD) → Buf (Elt Ideal) ((c.tc : Thread Cert.AdamSmallIdeal.nD Cert.AdamSmallIdeal.τ).loc Cert.AdamSmallIdeal.main_v67)) (v1 : (c : Dev Cert.AdamSmallIdeal.nD) → Buf (Elt Ideal) ((c.tc : Thread Cert.AdamSmallIdeal.nD Cert.AdamSmallIdeal.τ).loc Cert.AdamSmallIdeal.main_v69)) (v2 : (c : Dev Cert.AdamSmallIdeal.nD) → Buf (Elt Ideal) ((c.tc : Thread Cert.AdamSmallIdeal.nD Cert.AdamSmallIdeal.τ).loc Cert.AdamSmallIdeal.main_v71)) (v3 : (c : Dev Cert.AdamSmallIdeal.nD) → Buf (Elt Ideal) ((c.tc : Thread Cert.AdamSmallIdeal.nD Cert.AdamSmallIdeal.τ).loc Cert.AdamSmallIdeal.main_v73)) (v4 : (c : Dev Cert.AdamSmallIdeal.nD) → Buf (Elt Ideal) ((c.tc : Thread Cert.AdamSmallIdeal.nD Cert.AdamSmallIdeal.τ).loc Cert.AdamSmallIdeal.main_v75)) (v5 : (c : Dev Cert.AdamSmallIdeal.nD) → Buf (Elt Ideal) ((c.tc : Thread Cert.AdamSmallIdeal.nD Cert.AdamSmallIdeal.τ).loc Cert.AdamSmallIdeal.main_v77)) (v6 : (c : Dev Cert.AdamSmallIdeal.nD) → Buf (Elt Ideal) ((c.tc : Thread Cert.AdamSmallIdeal.nD Cert.AdamSmallIdeal.τ).loc Cert.AdamSmallIdeal.main_v79)) (v7 : (c : Dev Cert.AdamSmallIdeal.nD) → Buf (Elt Ideal) ((c.tc : Thread Cert.AdamSmallIdeal.nD Cert.AdamSmallIdeal.τ).loc Cert.AdamSmallIdeal.main_v81)) (v8 : (c : Dev Cert.AdamSmallIdeal.nD) → Buf (Elt Ideal) ((c.tc : Thread Cert.AdamSmallIdeal.nD Cert.AdamSmallIdeal.τ).loc Cert.AdamSmallIdeal.main_v83)) (v9 : (c : Dev Cert.AdamSmallIdeal.nD) → Buf (Elt Ideal) ((c.tc : Thread Cert.AdamSmallIdeal.nD Cert.AdamSmallIdeal.τ).loc Cert.AdamSmallIdeal.main_v85)) (v10 : (c : Dev Cert.AdamSmallIdeal.nD) → Buf (Elt Ideal) ((c.tc : Thread Cert.AdamSmallIdeal.nD Cert.AdamSmallIdeal.τ).loc Cert.AdamSmallIdeal.main_v87)) (v11 : (c : Dev Cert.AdamSmallIdeal.nD) → Buf (Elt Ideal) ((c.tc : Thread Cert.AdamSmallIdeal.nD Cert.AdamSmallIdeal.τ).loc Cert.AdamSmallIdeal.main_v89)) (v12 : (c : Dev Cert.AdamSmallIdeal.nD) → Buf (Elt Ideal) ((c.tc : Thread Cert.AdamSmallIdeal.nD Cert.AdamSmallIdeal.τ).loc Cert.AdamSmallIdeal.main_v91)) (v13 : (c : Dev Cert.AdamSmallIdeal.nD) → Buf (Elt Ideal) ((c.tc : Thread Cert.AdamSmallIdeal.nD Cert.AdamSmallIdeal.τ).loc Cert.AdamSmallIdeal.main_v94)) (v14 : (c : Dev Cert.AdamSmallIdeal.nD) → Buf (Elt Ideal) ((c.tc : Thread Cert.AdamSmallIdeal.nD Cert.AdamSmallIdeal.τ).loc Cert.AdamSmallIdeal.main_v96)) (v15 : (c : Dev Cert.AdamSmallIdeal.nD) → Buf (Elt Ideal) ((c.tc : Thread Cert.AdamSmallIdeal.nD Cert.AdamSmallIdeal.τ).loc Cert.AdamSmallIdeal.main_v98)) (v16 : (c : Dev Cert.AdamSmallIdeal.nD) → Buf (Elt Ideal) ((c.tc : Thread Cert.AdamSmallIdeal.nD Cert.AdamSmallIdeal.τ).loc Cert.AdamSmallIdeal.main_v100)) (v17 : (c : Dev Cert.AdamSmallIdeal.nD) → Buf (Elt Ideal) ((c.tc : Thread Cert.AdamSmallIdeal.nD Cert.AdamSmallIdeal.τ).loc Cert.AdamSmallIdeal.main_v102)) (v18 : (c : Dev Cert.AdamSmallIdeal.nD) → Buf (Elt Ideal) ((c.tc : Thread Cert.AdamSmallIdeal.nD Cert.AdamSmallIdeal.τ).loc Cert.AdamSmallIdeal.main_v104)) (v19 : (c : Dev Cert.AdamSmallIdeal.nD) → Buf (Elt Ideal) ((c.tc : Thread Cert.AdamSmallIdeal.nD Cert.AdamSmallIdeal.τ).loc Cert.AdamSmallIdeal.main_v106)) (v20 : (c : Dev Cert.AdamSmallIdeal.nD) → Buf (Elt Ideal) ((c.tc : Thread Cert.AdamSmallIdeal.nD Cert.AdamSmallIdeal.τ).loc Cert.AdamSmallIdeal.main_v108)) (v21 : (c : Dev Cert.AdamSmallIdeal.nD) → Buf (Elt Ideal) ((c.tc : Thread Cert.AdamSmallIdeal.nD Cert.AdamSmallIdeal.τ).loc Cert.AdamSmallIdeal.main_v110)) (v22 : (c : Dev Cert.AdamSmallIdeal.nD) → Buf (Elt Ideal) ((c.tc : Thread Cert.AdamSmallIdeal.nD Cert.AdamSmallIdeal.τ).loc Cert.AdamSmallIdeal.main_v112)) (v23 : (c : Dev Cert.AdamSmallIdeal.nD) → Buf (Elt Ideal) ((c.tc : Thread Cert.AdamSmallIdeal.nD Cert.AdamSmallIdeal.τ).loc Cert.AdamSmallIdeal.main_v114)) (v24 : (c : Dev Cert.AdamSmallIdeal.nD) → Buf (Elt Ideal) ((c.tc : Thread Cert.AdamSmallIdeal.nD Cert.AdamSmallIdeal.τ).loc Cert.AdamSmallIdeal.main_v116)) (v25 : (c : Dev Cert.AdamSmallIdeal.nD) → Buf (Elt Ideal) ((c.tc : Thread Cert.AdamSmallIdeal.nD Cert.AdamSmallIdeal.τ).loc Cert.AdamSmallIdeal.main_v118)) (v26 : (c : Dev Cert.AdamSmallIdeal.nD) → Buf (Elt Ideal) ((c.tc : Thread Cert.AdamSmallIdeal.nD Cert.AdamSmallIdeal.τ).loc Cert.AdamSmallIdeal.main_v121)) (v27 : (c : Dev Cert.AdamSmallIdeal.nD) → Buf (Elt Ideal) ((c.tc : Thread Cert.AdamSmallIdeal.nD Cert.AdamSmallIdeal.τ).loc Cert.AdamSmallIdeal.main_v123)) (v28 : (c : Dev Cert.AdamSmallIdeal.nD) → Buf (Elt Ideal) ((c.tc : Thread Cert.AdamSmallIdeal.nD Cert.AdamSmallIdeal.τ).loc Cert.AdamSmallIdeal.main_v125)) (v29 : (c : Dev Cert.AdamSmallIdeal.nD) → Buf (Elt Ideal) ((c.tc : Thread Cert.AdamSmallIdeal.nD Cert.AdamSmallIdeal.τ).loc Cert.AdamSmallIdeal.main_v127)) (v30 : (c : Dev Cert.AdamSmallIdeal.nD) → Buf (Elt Ideal) ((c.tc : Thread Cert.AdamSmallIdeal.nD Cert.AdamSmallIdeal.τ).loc Cert.AdamSmallIdeal.main_v129)) (v31 : (c : Dev Cert.AdamSmallIdeal.nD) → Buf (Elt Ideal) ((c.tc : Thread Cert.AdamSmallIdeal.nD Cert.AdamSmallIdeal.τ).loc Cert.AdamSmallIdeal.main_v131)) (v32 : (c : Dev Cert.AdamSmallIdeal.nD) → Buf (Elt Ideal) ((c.tc : Thread Cert.AdamSmallIdeal.nD Cert.AdamSmallIdeal.τ).loc Cert.AdamSmallIdeal.main_v133)) (v33 : (c : Dev Cert.AdamSmallIdeal.nD) → Buf (Elt Ideal) ((c.tc : Thread Cert.AdamSmallIdeal.nD Cert.AdamSmallIdeal.τ).loc Cert.AdamSmallIdeal.main_v135)) (v34 : (c : Dev Cert.AdamSmallIdeal.nD) → Buf (Elt Ideal) ((c.tc : Thread Cert.AdamSmallIdeal.nD Cert.AdamSmallIdeal.τ).loc Cert.AdamSmallIdeal.main_v137)) (v35 : (c : Dev Cert.AdamSmallIdeal.nD) → Buf (Elt Ideal) ((c.tc : Thread Cert.AdamSmallIdeal.nD Cert.AdamSmallIdeal.τ).loc Cert.AdamSmallIdeal.main_v139)) (v36 : (c : Dev Cert.AdamSmallIdeal.nD) → Buf (Elt Ideal) ((c.tc : Thread Cert.AdamSmallIdeal.nD Cert.AdamSmallIdeal.τ).loc Cert.AdamSmallIdeal.main_v141)) (v37 : (c : Dev Cert.AdamSmallIdeal.nD) → Buf (Elt Ideal) ((c.tc : Thread Cert.AdamSmallIdeal.nD Cert.AdamSmallIdeal.τ).loc Cert.AdamSmallIdeal.main_v143)) (v38 : (c : Dev Cert.AdamSmallIdeal.nD) → Buf (Elt Ideal) ((c.tc : Thread Cert.AdamSmallIdeal.nD Cert.AdamSmallIdeal.τ).loc Cert.AdamSmallIdeal.main_v145)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v67) = v0 c
          ∧ r.2.mem ((c.tc : Thread Cert.AdamSmallIdeal.nD Cert.AdamSmallIdeal.τ).loc Cert.AdamSmallIdeal.main_v69) = v1 c
          ∧ r.2.mem ((c.tc : Thread Cert.AdamSmallIdeal.nD Cert.AdamSmallIdeal.τ).loc Cert.AdamSmallIdeal.main_v71) = v2 c
          ∧ r.2.mem ((c.tc : Thread Cert.AdamSmallIdeal.nD Cert.AdamSmallIdeal.τ).loc Cert.AdamSmallIdeal.main_v73) = v3 c
          ∧ r.2.mem ((c.tc : Thread Cert.AdamSmallIdeal.nD Cert.AdamSmallIdeal.τ).loc Cert.AdamSmallIdeal.main_v75) = v4 c
          ∧ r.2.mem ((c.tc : Thread Cert.AdamSmallIdeal.nD Cert.AdamSmallIdeal.τ).loc Cert.AdamSmallIdeal.main_v77) = v5 c
          ∧ r.2.mem ((c.tc : Thread Cert.AdamSmallIdeal.nD Cert.AdamSmallIdeal.τ).loc Cert.AdamSmallIdeal.main_v79) = v6 c
          ∧ r.2.mem ((c.tc : Thread Cert.AdamSmallIdeal.nD Cert.AdamSmallIdeal.τ).loc Cert.AdamSmallIdeal.main_v81) = v7 c
          ∧ r.2.mem ((c.tc : Thread Cert.AdamSmallIdeal.nD Cert.AdamSmallIdeal.τ).loc Cert.AdamSmallIdeal.main_v83) = v8 c
          ∧ r.2.mem ((c.tc : Thread Cert.AdamSmallIdeal.nD Cert.AdamSmallIdeal.τ).loc Cert.AdamSmallIdeal.main_v85) = v9 c
          ∧ r.2.mem ((c.tc : Thread Cert.AdamSmallIdeal.nD Cert.AdamSmallIdeal.τ).loc Cert.AdamSmallIdeal.main_v87) = v10 c
          ∧ r.2.mem ((c.tc : Thread Cert.AdamSmallIdeal.nD Cert.AdamSmallIdeal.τ).loc Cert.AdamSmallIdeal.main_v89) = v11 c
          ∧ r.2.mem ((c.tc : Thread Cert.AdamSmallIdeal.nD Cert.AdamSmallIdeal.τ).loc Cert.AdamSmallIdeal.main_v91) = v12 c
          ∧ r.2.mem ((c.tc : Thread Cert.AdamSmallIdeal.nD Cert.AdamSmallIdeal.τ).loc Cert.AdamSmallIdeal.main_v94) = v13 c
          ∧ r.2.mem ((c.tc : Thread Cert.AdamSmallIdeal.nD Cert.AdamSmallIdeal.τ).loc Cert.AdamSmallIdeal.main_v96) = v14 c
          ∧ r.2.mem ((c.tc : Thread Cert.AdamSmallIdeal.nD Cert.AdamSmallIdeal.τ).loc Cert.AdamSmallIdeal.main_v98) = v15 c
          ∧ r.2.mem ((c.tc : Thread Cert.AdamSmallIdeal.nD Cert.AdamSmallIdeal.τ).loc Cert.AdamSmallIdeal.main_v100) = v16 c
          ∧ r.2.mem ((c.tc : Thread Cert.AdamSmallIdeal.nD Cert.AdamSmallIdeal.τ).loc Cert.AdamSmallIdeal.main_v102) = v17 c
          ∧ r.2.mem ((c.tc : Thread Cert.AdamSmallIdeal.nD Cert.AdamSmallIdeal.τ).loc Cert.AdamSmallIdeal.main_v104) = v18 c
          ∧ r.2.mem ((c.tc : Thread Cert.AdamSmallIdeal.nD Cert.AdamSmallIdeal.τ).loc Cert.AdamSmallIdeal.main_v106) = v19 c
          ∧ r.2.mem ((c.tc : Thread Cert.AdamSmallIdeal.nD Cert.AdamSmallIdeal.τ).loc Cert.AdamSmallIdeal.main_v108) = v20 c
          ∧ r.2.mem ((c.tc : Thread Cert.AdamSmallIdeal.nD Cert.AdamSmallIdeal.τ).loc Cert.AdamSmallIdeal.main_v110) = v21 c
          ∧ r.2.mem ((c.tc : Thread Cert.AdamSmallIdeal.nD Cert.AdamSmallIdeal.τ).loc Cert.AdamSmallIdeal.main_v112) = v22 c
          ∧ r.2.mem ((c.tc : Thread Cert.AdamSmallIdeal.nD Cert.AdamSmallIdeal.τ).loc Cert.AdamSmallIdeal.main_v114) = v23 c
          ∧ r.2.mem ((c.tc : Thread Cert.AdamSmallIdeal.nD Cert.AdamSmallIdeal.τ).loc Cert.AdamSmallIdeal.main_v116) = v24 c
          ∧ r.2.mem ((c.tc : Thread Cert.AdamSmallIdeal.nD Cert.AdamSmallIdeal.τ).loc Cert.AdamSmallIdeal.main_v118) = v25 c
          ∧ r.2.mem ((c.tc : Thread Cert.AdamSmallIdeal.nD Cert.AdamSmallIdeal.τ).loc Cert.AdamSmallIdeal.main_v121) = v26 c
          ∧ r.2.mem ((c.tc : Thread Cert.AdamSmallIdeal.nD Cert.AdamSmallIdeal.τ).loc Cert.AdamSmallIdeal.main_v123) = v27 c
          ∧ r.2.mem ((c.tc : Thread Cert.AdamSmallIdeal.nD Cert.AdamSmallIdeal.τ).loc Cert.AdamSmallIdeal.main_v125) = v28 c
          ∧ r.2.mem ((c.tc : Thread Cert.AdamSmallIdeal.nD Cert.AdamSmallIdeal.τ).loc Cert.AdamSmallIdeal.main_v127) = v29 c
          ∧ r.2.mem ((c.tc : Thread Cert.AdamSmallIdeal.nD Cert.AdamSmallIdeal.τ).loc Cert.AdamSmallIdeal.main_v129) = v30 c
          ∧ r.2.mem ((c.tc : Thread Cert.AdamSmallIdeal.nD Cert.AdamSmallIdeal.τ).loc Cert.AdamSmallIdeal.main_v131) = v31 c
          ∧ r.2.mem ((c.tc : Thread Cert.AdamSmallIdeal.nD Cert.AdamSmallIdeal.τ).loc Cert.AdamSmallIdeal.main_v133) = v32 c
          ∧ r.2.mem ((c.tc : Thread Cert.AdamSmallIdeal.nD Cert.AdamSmallIdeal.τ).loc Cert.AdamSmallIdeal.main_v135) = v33 c
          ∧ r.2.mem ((c.tc : Thread Cert.AdamSmallIdeal.nD Cert.AdamSmallIdeal.τ).loc Cert.AdamSmallIdeal.main_v137) = v34 c
          ∧ r.2.mem ((c.tc : Thread Cert.AdamSmallIdeal.nD Cert.AdamSmallIdeal.τ).loc Cert.AdamSmallIdeal.main_v139) = v35 c
          ∧ r.2.mem ((c.tc : Thread Cert.AdamSmallIdeal.nD Cert.AdamSmallIdeal.τ).loc Cert.AdamSmallIdeal.main_v141) = v36 c
          ∧ r.2.mem ((c.tc : Thread Cert.AdamSmallIdeal.nD Cert.AdamSmallIdeal.τ).loc Cert.AdamSmallIdeal.main_v143) = v37 c
          ∧ r.2.mem ((c.tc : Thread Cert.AdamSmallIdeal.nD Cert.AdamSmallIdeal.τ).loc Cert.AdamSmallIdeal.main_v145) = v38 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v47) = v1 c
          ∧ r.2.mem ((c.tc : Thread Cert.AdamSmallRefIdeal.nD Cert.AdamSmallRefIdeal.τ).loc Cert.AdamSmallRefIdeal.main_v71) = v2 c
          ∧ r.2.mem ((c.tc : Thread Cert.AdamSmallRefIdeal.nD Cert.AdamSmallRefIdeal.τ).loc Cert.AdamSmallRefIdeal.main_v95) = v3 c
          ∧ r.2.mem ((c.tc : Thread Cert.AdamSmallRefIdeal.nD Cert.AdamSmallRefIdeal.τ).loc Cert.AdamSmallRefIdeal.main_v119) = v4 c
          ∧ r.2.mem ((c.tc : Thread Cert.AdamSmallRefIdeal.nD Cert.AdamSmallRefIdeal.τ).loc Cert.AdamSmallRefIdeal.main_v143) = v5 c
          ∧ r.2.mem ((c.tc : Thread Cert.AdamSmallRefIdeal.nD Cert.AdamSmallRefIdeal.τ).loc Cert.AdamSmallRefIdeal.main_v167) = v6 c
          ∧ r.2.mem ((c.tc : Thread Cert.AdamSmallRefIdeal.nD Cert.AdamSmallRefIdeal.τ).loc Cert.AdamSmallRefIdeal.main_v191) = v7 c
          ∧ r.2.mem ((c.tc : Thread Cert.AdamSmallRefIdeal.nD Cert.AdamSmallRefIdeal.τ).loc Cert.AdamSmallRefIdeal.main_v215) = v8 c
          ∧ r.2.mem ((c.tc : Thread Cert.AdamSmallRefIdeal.nD Cert.AdamSmallRefIdeal.τ).loc Cert.AdamSmallRefIdeal.main_v239) = v9 c
          ∧ r.2.mem ((c.tc : Thread Cert.AdamSmallRefIdeal.nD Cert.AdamSmallRefIdeal.τ).loc Cert.AdamSmallRefIdeal.main_v263) = v10 c
          ∧ r.2.mem ((c.tc : Thread Cert.AdamSmallRefIdeal.nD Cert.AdamSmallRefIdeal.τ).loc Cert.AdamSmallRefIdeal.main_v287) = v11 c
          ∧ r.2.mem ((c.tc : Thread Cert.AdamSmallRefIdeal.nD Cert.AdamSmallRefIdeal.τ).loc Cert.AdamSmallRefIdeal.main_v311) = v12 c
          ∧ r.2.mem ((c.tc : Thread Cert.AdamSmallRefIdeal.nD Cert.AdamSmallRefIdeal.τ).loc Cert.AdamSmallRefIdeal.main_v4) = v13 c
          ∧ r.2.mem ((c.tc : Thread Cert.AdamSmallRefIdeal.nD Cert.AdamSmallRefIdeal.τ).loc Cert.AdamSmallRefIdeal.main_v28) = v14 c
          ∧ r.2.mem ((c.tc : Thread Cert.AdamSmallRefIdeal.nD Cert.AdamSmallRefIdeal.τ).loc Cert.AdamSmallRefIdeal.main_v52) = v15 c
          ∧ r.2.mem ((c.tc : Thread Cert.AdamSmallRefIdeal.nD Cert.AdamSmallRefIdeal.τ).loc Cert.AdamSmallRefIdeal.main_v76) = v16 c
          ∧ r.2.mem ((c.tc : Thread Cert.AdamSmallRefIdeal.nD Cert.AdamSmallRefIdeal.τ).loc Cert.AdamSmallRefIdeal.main_v100) = v17 c
          ∧ r.2.mem ((c.tc : Thread Cert.AdamSmallRefIdeal.nD Cert.AdamSmallRefIdeal.τ).loc Cert.AdamSmallRefIdeal.main_v124) = v18 c
          ∧ r.2.mem ((c.tc : Thread Cert.AdamSmallRefIdeal.nD Cert.AdamSmallRefIdeal.τ).loc Cert.AdamSmallRefIdeal.main_v148) = v19 c
          ∧ r.2.mem ((c.tc : Thread Cert.AdamSmallRefIdeal.nD Cert.AdamSmallRefIdeal.τ).loc Cert.AdamSmallRefIdeal.main_v172) = v20 c
          ∧ r.2.mem ((c.tc : Thread Cert.AdamSmallRefIdeal.nD Cert.AdamSmallRefIdeal.τ).loc Cert.AdamSmallRefIdeal.main_v196) = v21 c
          ∧ r.2.mem ((c.tc : Thread Cert.AdamSmallRefIdeal.nD Cert.AdamSmallRefIdeal.τ).loc Cert.AdamSmallRefIdeal.main_v220) = v22 c
          ∧ r.2.mem ((c.tc : Thread Cert.AdamSmallRefIdeal.nD Cert.AdamSmallRefIdeal.τ).loc Cert.AdamSmallRefIdeal.main_v244) = v23 c
          ∧ r.2.mem ((c.tc : Thread Cert.AdamSmallRefIdeal.nD Cert.AdamSmallRefIdeal.τ).loc Cert.AdamSmallRefIdeal.main_v268) = v24 c
          ∧ r.2.mem ((c.tc : Thread Cert.AdamSmallRefIdeal.nD Cert.AdamSmallRefIdeal.τ).loc Cert.AdamSmallRefIdeal.main_v292) = v25 c
          ∧ r.2.mem ((c.tc : Thread Cert.AdamSmallRefIdeal.nD Cert.AdamSmallRefIdeal.τ).loc Cert.AdamSmallRefIdeal.main_v10) = v26 c
          ∧ r.2.mem ((c.tc : Thread Cert.AdamSmallRefIdeal.nD Cert.AdamSmallRefIdeal.τ).loc Cert.AdamSmallRefIdeal.main_v34) = v27 c
          ∧ r.2.mem ((c.tc : Thread Cert.AdamSmallRefIdeal.nD Cert.AdamSmallRefIdeal.τ).loc Cert.AdamSmallRefIdeal.main_v58) = v28 c
          ∧ r.2.mem ((c.tc : Thread Cert.AdamSmallRefIdeal.nD Cert.AdamSmallRefIdeal.τ).loc Cert.AdamSmallRefIdeal.main_v82) = v29 c
          ∧ r.2.mem ((c.tc : Thread Cert.AdamSmallRefIdeal.nD Cert.AdamSmallRefIdeal.τ).loc Cert.AdamSmallRefIdeal.main_v106) = v30 c
          ∧ r.2.mem ((c.tc : Thread Cert.AdamSmallRefIdeal.nD Cert.AdamSmallRefIdeal.τ).loc Cert.AdamSmallRefIdeal.main_v130) = v31 c
          ∧ r.2.mem ((c.tc : Thread Cert.AdamSmallRefIdeal.nD Cert.AdamSmallRefIdeal.τ).loc Cert.AdamSmallRefIdeal.main_v154) = v32 c
          ∧ r.2.mem ((c.tc : Thread Cert.AdamSmallRefIdeal.nD Cert.AdamSmallRefIdeal.τ).loc Cert.AdamSmallRefIdeal.main_v178) = v33 c
          ∧ r.2.mem ((c.tc : Thread Cert.AdamSmallRefIdeal.nD Cert.AdamSmallRefIdeal.τ).loc Cert.AdamSmallRefIdeal.main_v202) = v34 c
          ∧ r.2.mem ((c.tc : Thread Cert.AdamSmallRefIdeal.nD Cert.AdamSmallRefIdeal.τ).loc Cert.AdamSmallRefIdeal.main_v226) = v35 c
          ∧ r.2.mem ((c.tc : Thread Cert.AdamSmallRefIdeal.nD Cert.AdamSmallRefIdeal.τ).loc Cert.AdamSmallRefIdeal.main_v250) = v36 c
          ∧ r.2.mem ((c.tc : Thread Cert.AdamSmallRefIdeal.nD Cert.AdamSmallRefIdeal.τ).loc Cert.AdamSmallRefIdeal.main_v274) = v37 c
          ∧ r.2.mem ((c.tc : Thread Cert.AdamSmallRefIdeal.nD Cert.AdamSmallRefIdeal.τ).loc Cert.AdamSmallRefIdeal.main_v298) = v38 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v1_0)) (v1 : (c : Dev Cert.GradXIdeal.nD) → Buf (Elt Ideal) ((c.tc : Thread Cert.GradXIdeal.nD Cert.GradXIdeal.τ).loc Cert.GradXIdeal.main_v1_1)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v1_0) = v0 c
          ∧ r.2.mem ((c.tc : Thread Cert.GradXIdeal.nD Cert.GradXIdeal.τ).loc Cert.GradXIdeal.main_v1_1) = v1 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v36) = v0 c
          ∧ r.2.mem ((c.tc : Thread Cert.GradXRefIdeal.nD Cert.GradXRefIdeal.τ).loc Cert.GradXRefIdeal.main_v37) = v1 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v45)) (v1 : (c : Dev Cert.SumSmallIdeal.nD) → Buf (Elt Ideal) ((c.tc : Thread Cert.SumSmallIdeal.nD Cert.SumSmallIdeal.τ).loc Cert.SumSmallIdeal.main_v50)) (v2 : (c : Dev Cert.SumSmallIdeal.nD) → Buf (Elt Ideal) ((c.tc : Thread Cert.SumSmallIdeal.nD Cert.SumSmallIdeal.τ).loc Cert.SumSmallIdeal.main_v70)) (v3 : (c : Dev Cert.SumSmallIdeal.nD) → Buf (Elt Ideal) ((c.tc : Thread Cert.SumSmallIdeal.nD Cert.SumSmallIdeal.τ).loc Cert.SumSmallIdeal.main_v77)) (v4 : (c : Dev Cert.SumSmallIdeal.nD) → Buf (Elt Ideal) ((c.tc : Thread Cert.SumSmallIdeal.nD Cert.SumSmallIdeal.τ).loc Cert.SumSmallIdeal.main_v84)) (v5 : (c : Dev Cert.SumSmallIdeal.nD) → Buf (Elt Ideal) ((c.tc : Thread Cert.SumSmallIdeal.nD Cert.SumSmallIdeal.τ).loc Cert.SumSmallIdeal.main_v91)) (v6 : (c : Dev Cert.SumSmallIdeal.nD) → Buf (Elt Ideal) ((c.tc : Thread Cert.SumSmallIdeal.nD Cert.SumSmallIdeal.τ).loc Cert.SumSmallIdeal.main_v94)) (v7 : (c : Dev Cert.SumSmallIdeal.nD) → Buf (Elt Ideal) ((c.tc : Thread Cert.SumSmallIdeal.nD Cert.SumSmallIdeal.τ).loc Cert.SumSmallIdeal.main_v99)) (v8 : (c : Dev Cert.SumSmallIdeal.nD) → Buf (Elt Ideal) ((c.tc : Thread Cert.SumSmallIdeal.nD Cert.SumSmallIdeal.τ).loc Cert.SumSmallIdeal.main_v106)) (v9 : (c : Dev Cert.SumSmallIdeal.nD) → Buf (Elt Ideal) ((c.tc : Thread Cert.SumSmallIdeal.nD Cert.SumSmallIdeal.τ).loc Cert.SumSmallIdeal.main_v55)) (v10 : (c : Dev Cert.SumSmallIdeal.nD) → Buf (Elt Ideal) ((c.tc : Thread Cert.SumSmallIdeal.nD Cert.SumSmallIdeal.τ).loc Cert.SumSmallIdeal.main_v60)) (v11 : (c : Dev Cert.SumSmallIdeal.nD) → Buf (Elt Ideal) ((c.tc : Thread Cert.SumSmallIdeal.nD Cert.SumSmallIdeal.τ).loc Cert.SumSmallIdeal.main_v112)) (v12 : (c : Dev Cert.SumSmallIdeal.nD) → Buf (Elt Ideal) ((c.tc : Thread Cert.SumSmallIdeal.nD Cert.SumSmallIdeal.τ).loc Cert.SumSmallIdeal.main_v115)) (v13 : (c : Dev Cert.SumSmallIdeal.nD) → Buf (Elt Ideal) ((c.tc : Thread Cert.SumSmallIdeal.nD Cert.SumSmallIdeal.τ).loc Cert.SumSmallIdeal.main_v65)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v45) = v0 c
          ∧ r.2.mem ((c.tc : Thread Cert.SumSmallIdeal.nD Cert.SumSmallIdeal.τ).loc Cert.SumSmallIdeal.main_v50) = v1 c
          ∧ r.2.mem ((c.tc : Thread Cert.SumSmallIdeal.nD Cert.SumSmallIdeal.τ).loc Cert.SumSmallIdeal.main_v70) = v2 c
          ∧ r.2.mem ((c.tc : Thread Cert.SumSmallIdeal.nD Cert.SumSmallIdeal.τ).loc Cert.SumSmallIdeal.main_v77) = v3 c
          ∧ r.2.mem ((c.tc : Thread Cert.SumSmallIdeal.nD Cert.SumSmallIdeal.τ).loc Cert.SumSmallIdeal.main_v84) = v4 c
          ∧ r.2.mem ((c.tc : Thread Cert.SumSmallIdeal.nD Cert.SumSmallIdeal.τ).loc Cert.SumSmallIdeal.main_v91) = v5 c
          ∧ r.2.mem ((c.tc : Thread Cert.SumSmallIdeal.nD Cert.SumSmallIdeal.τ).loc Cert.SumSmallIdeal.main_v94) = v6 c
          ∧ r.2.mem ((c.tc : Thread Cert.SumSmallIdeal.nD Cert.SumSmallIdeal.τ).loc Cert.SumSmallIdeal.main_v99) = v7 c
          ∧ r.2.mem ((c.tc : Thread Cert.SumSmallIdeal.nD Cert.SumSmallIdeal.τ).loc Cert.SumSmallIdeal.main_v106) = v8 c
          ∧ r.2.mem ((c.tc : Thread Cert.SumSmallIdeal.nD Cert.SumSmallIdeal.τ).loc Cert.SumSmallIdeal.main_v55) = v9 c
          ∧ r.2.mem ((c.tc : Thread Cert.SumSmallIdeal.nD Cert.SumSmallIdeal.τ).loc Cert.SumSmallIdeal.main_v60) = v10 c
          ∧ r.2.mem ((c.tc : Thread Cert.SumSmallIdeal.nD Cert.SumSmallIdeal.τ).loc Cert.SumSmallIdeal.main_v112) = v11 c
          ∧ r.2.mem ((c.tc : Thread Cert.SumSmallIdeal.nD Cert.SumSmallIdeal.τ).loc Cert.SumSmallIdeal.main_v115) = v12 c
          ∧ r.2.mem ((c.tc : Thread Cert.SumSmallIdeal.nD Cert.SumSmallIdeal.τ).loc Cert.SumSmallIdeal.main_v65) = v13 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v45) = v0 c
          ∧ r.2.mem ((c.tc : Thread Cert.SumSmallRefIdeal.nD Cert.SumSmallRefIdeal.τ).loc Cert.SumSmallRefIdeal.main_v55) = v1 c
          ∧ r.2.mem ((c.tc : Thread Cert.SumSmallRefIdeal.nD Cert.SumSmallRefIdeal.τ).loc Cert.SumSmallRefIdeal.main_v60) = v2 c
          ∧ r.2.mem ((c.tc : Thread Cert.SumSmallRefIdeal.nD Cert.SumSmallRefIdeal.τ).loc Cert.SumSmallRefIdeal.main_v67) = v3 c
          ∧ r.2.mem ((c.tc : Thread Cert.SumSmallRefIdeal.nD Cert.SumSmallRefIdeal.τ).loc Cert.SumSmallRefIdeal.main_v74) = v4 c
          ∧ r.2.mem ((c.tc : Thread Cert.SumSmallRefIdeal.nD Cert.SumSmallRefIdeal.τ).loc Cert.SumSmallRefIdeal.main_v81) = v5 c
          ∧ r.2.mem ((c.tc : Thread Cert.SumSmallRefIdeal.nD Cert.SumSmallRefIdeal.τ).loc Cert.SumSmallRefIdeal.main_v84) = v6 c
          ∧ r.2.mem ((c.tc : Thread Cert.SumSmallRefIdeal.nD Cert.SumSmallRefIdeal.τ).loc Cert.SumSmallRefIdeal.main_v89) = v7 c
          ∧ r.2.mem ((c.tc : Thread Cert.SumSmallRefIdeal.nD Cert.SumSmallRefIdeal.τ).loc Cert.SumSmallRefIdeal.main_v96) = v8 c
          ∧ r.2.mem ((c.tc : Thread Cert.SumSmallRefIdeal.nD Cert.SumSmallRefIdeal.τ).loc Cert.SumSmallRefIdeal.main_v101) = v9 c
          ∧ r.2.mem ((c.tc : Thread Cert.SumSmallRefIdeal.nD Cert.SumSmallRefIdeal.τ).loc Cert.SumSmallRefIdeal.main_v106) = v10 c
          ∧ r.2.mem ((c.tc : Thread Cert.SumSmallRefIdeal.nD Cert.SumSmallRefIdeal.τ).loc Cert.SumSmallRefIdeal.main_v107) = v11 c
          ∧ r.2.mem ((c.tc : Thread Cert.SumSmallRefIdeal.nD Cert.SumSmallRefIdeal.τ).loc Cert.SumSmallRefIdeal.main_v110) = v12 c
          ∧ r.2.mem ((c.tc : Thread Cert.SumSmallRefIdeal.nD Cert.SumSmallRefIdeal.τ).loc Cert.SumSmallRefIdeal.main_v115) = v13 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpD : Cert.UpD.Facts) (hUpDIdeal : Cert.UpDIdeal.Facts) (hUpDRefIdeal : Cert.UpDRefIdeal.Facts) (hUpW : Cert.UpW.Facts) (hUpWIdeal : Cert.UpWIdeal.Facts) (hUpWRefIdeal : Cert.UpWRefIdeal.Facts) (hDown : Cert.Down.Facts) (hDownIdeal : Cert.DownIdeal.Facts) (hDownRefIdeal : Cert.DownRefIdeal.Facts) (hDownD : Cert.DownD.Facts) (hDownDIdeal : Cert.DownDIdeal.Facts) (hDownDRefIdeal : Cert.DownDRefIdeal.Facts) (hDownW : Cert.DownW.Facts) (hDownWIdeal : Cert.DownWIdeal.Facts) (hDownWRefIdeal : Cert.DownWRefIdeal.Facts) (hIn : Cert.In.Facts) (hInIdeal : Cert.InIdeal.Facts) (hInRefIdeal : Cert.InRefIdeal.Facts) (hInD : Cert.InD.Facts) (hInDIdeal : Cert.InDIdeal.Facts) (hInDRefIdeal : Cert.InDRefIdeal.Facts) (hInW : Cert.InW.Facts) (hInWIdeal : Cert.InWIdeal.Facts) (hInWRefIdeal : Cert.InWRefIdeal.Facts) (hOut : Cert.Out.Facts) (hOutIdeal : Cert.OutIdeal.Facts) (hOutRefIdeal : Cert.OutRefIdeal.Facts) (hOutD : Cert.OutD.Facts) (hOutDIdeal : Cert.OutDIdeal.Facts) (hOutDRefIdeal : Cert.OutDRefIdeal.Facts) (hOutW : Cert.OutW.Facts) (hOutWIdeal : Cert.OutWIdeal.Facts) (hOutWRefIdeal : Cert.OutWRefIdeal.Facts) (hAdamIn : Cert.AdamIn.Facts) (hAdamInIdeal : Cert.AdamInIdeal.Facts) (hAdamInRefIdeal : Cert.AdamInRefIdeal.Facts) (hAdamSmall : Cert.AdamSmall.Facts) (hAdamSmallIdeal : Cert.AdamSmallIdeal.Facts) (hAdamSmallRefIdeal : Cert.AdamSmallRefIdeal.Facts) (hGradX : Cert.GradX.Facts) (hGradXIdeal : Cert.GradXIdeal.Facts) (hGradXRefIdeal : Cert.GradXRefIdeal.Facts) (hSumSmall : Cert.SumSmall.Facts) (hSumSmallIdeal : Cert.SumSmallIdeal.Facts) (hSumSmallRefIdeal : Cert.SumSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_UpD (hUpD := hUpD)
    ∧ quiescent_UpDIdeal (hUpDIdeal := hUpDIdeal)
    ∧ quiescent_UpDRefIdeal (hUpDRefIdeal := hUpDRefIdeal)
    ∧ quiescent_UpW (hUpW := hUpW)
    ∧ quiescent_UpWIdeal (hUpWIdeal := hUpWIdeal)
    ∧ quiescent_UpWRefIdeal (hUpWRefIdeal := hUpWRefIdeal)
    ∧ quiescent_Down (hDown := hDown)
    ∧ quiescent_DownIdeal (hDownIdeal := hDownIdeal)
    ∧ quiescent_DownRefIdeal (hDownRefIdeal := hDownRefIdeal)
    ∧ quiescent_DownD (hDownD := hDownD)
    ∧ quiescent_DownDIdeal (hDownDIdeal := hDownDIdeal)
    ∧ quiescent_DownDRefIdeal (hDownDRefIdeal := hDownDRefIdeal)
    ∧ quiescent_DownW (hDownW := hDownW)
    ∧ quiescent_DownWIdeal (hDownWIdeal := hDownWIdeal)
    ∧ quiescent_DownWRefIdeal (hDownWRefIdeal := hDownWRefIdeal)
    ∧ quiescent_In (hIn := hIn)
    ∧ quiescent_InIdeal (hInIdeal := hInIdeal)
    ∧ quiescent_InRefIdeal (hInRefIdeal := hInRefIdeal)
    ∧ quiescent_InD (hInD := hInD)
    ∧ quiescent_InDIdeal (hInDIdeal := hInDIdeal)
    ∧ quiescent_InDRefIdeal (hInDRefIdeal := hInDRefIdeal)
    ∧ quiescent_InW (hInW := hInW)
    ∧ quiescent_InWIdeal (hInWIdeal := hInWIdeal)
    ∧ quiescent_InWRefIdeal (hInWRefIdeal := hInWRefIdeal)
    ∧ quiescent_Out (hOut := hOut)
    ∧ quiescent_OutIdeal (hOutIdeal := hOutIdeal)
    ∧ quiescent_OutRefIdeal (hOutRefIdeal := hOutRefIdeal)
    ∧ quiescent_OutD (hOutD := hOutD)
    ∧ quiescent_OutDIdeal (hOutDIdeal := hOutDIdeal)
    ∧ quiescent_OutDRefIdeal (hOutDRefIdeal := hOutDRefIdeal)
    ∧ quiescent_OutW (hOutW := hOutW)
    ∧ quiescent_OutWIdeal (hOutWIdeal := hOutWIdeal)
    ∧ quiescent_OutWRefIdeal (hOutWRefIdeal := hOutWRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GradX (hGradX := hGradX)
    ∧ quiescent_GradXIdeal (hGradXIdeal := hGradXIdeal)
    ∧ quiescent_GradXRefIdeal (hGradXRefIdeal := hGradXRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_UpD_UpDIdeal
    ∧ algebraic_UpDIdeal_UpDRefIdeal (hUpDIdeal := hUpDIdeal) (hUpDRefIdeal := hUpDRefIdeal)
    ∧ preserves_UpW_UpWIdeal
    ∧ algebraic_UpWIdeal_UpWRefIdeal (hUpWIdeal := hUpWIdeal) (hUpWRefIdeal := hUpWRefIdeal)
    ∧ preserves_Down_DownIdeal
    ∧ algebraic_DownIdeal_DownRefIdeal (hDownIdeal := hDownIdeal) (hDownRefIdeal := hDownRefIdeal)
    ∧ preserves_DownD_DownDIdeal
    ∧ algebraic_DownDIdeal_DownDRefIdeal (hDownDIdeal := hDownDIdeal) (hDownDRefIdeal := hDownDRefIdeal)
    ∧ preserves_DownW_DownWIdeal
    ∧ algebraic_DownWIdeal_DownWRefIdeal (hDownWIdeal := hDownWIdeal) (hDownWRefIdeal := hDownWRefIdeal)
    ∧ preserves_In_InIdeal
    ∧ algebraic_InIdeal_InRefIdeal (hInIdeal := hInIdeal) (hInRefIdeal := hInRefIdeal)
    ∧ preserves_InD_InDIdeal
    ∧ algebraic_InDIdeal_InDRefIdeal (hInDIdeal := hInDIdeal) (hInDRefIdeal := hInDRefIdeal)
    ∧ preserves_InW_InWIdeal
    ∧ algebraic_InWIdeal_InWRefIdeal (hInWIdeal := hInWIdeal) (hInWRefIdeal := hInWRefIdeal)
    ∧ preserves_Out_OutIdeal
    ∧ algebraic_OutIdeal_OutRefIdeal (hOutIdeal := hOutIdeal) (hOutRefIdeal := hOutRefIdeal)
    ∧ preserves_OutD_OutDIdeal
    ∧ algebraic_OutDIdeal_OutDRefIdeal (hOutDIdeal := hOutDIdeal) (hOutDRefIdeal := hOutDRefIdeal)
    ∧ preserves_OutW_OutWIdeal
    ∧ algebraic_OutWIdeal_OutWRefIdeal (hOutWIdeal := hOutWIdeal) (hOutWRefIdeal := hOutWRefIdeal)
    ∧ preserves_AdamIn_AdamInIdeal
    ∧ algebraic_AdamInIdeal_AdamInRefIdeal (hAdamInIdeal := hAdamInIdeal) (hAdamInRefIdeal := hAdamInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GradX_GradXIdeal
    ∧ algebraic_GradXIdeal_GradXRefIdeal (hGradXIdeal := hGradXIdeal) (hGradXRefIdeal := hGradXRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite.lean ====
abbrev S4096x4992 : Shape := ⟨2, ![4096, 4992]⟩
abbrev S4096x2048 : Shape := ⟨2, ![4096, 2048]⟩
abbrev S4096x64 : Shape := ⟨2, ![4096, 64]⟩
abbrev S1x128 : Shape := ⟨2, ![1, 128]⟩
abbrev S_ : Shape := ⟨0, ![]⟩

class Facts : Prop where
  bcast_S_S4096x4992 : S_.BroadcastsInDim S4096x4992 (![] : Fin 0 → Fin S4096x4992.rank)
  bcast_S_S4096x2048 : S_.BroadcastsInDim S4096x2048 (![] : Fin 0 → Fin S4096x2048.rank)
  bcast_S_S4096x64 : S_.BroadcastsInDim S4096x64 (![] : Fin 0 → Fin S4096x64.rank)
  bcast_S_S1x128 : S_.BroadcastsInDim S1x128 (![] : Fin 0 → Fin S1x128.rank)

variable [Facts]

def fn_part1 {F : FTy → Type} [FloatOps F] (main_arg3 : FVec F S4096x64 .f32) (main_arg4 : FVec F S1x128 .f32) (main_v4 : IVec S4096x4992 1) (main_v9 : IVec S4096x2048 1) (main_v14 : IVec S4096x64 1) (main_v16 : IVec S4096x64 1) : IVec S4096x4992 1 × IVec S4096x2048 1 × IVec S4096x64 1 × IVec S4096x64 1 × IVec S1x128 1 :=
  let main_cst_6 : FVec F S_ .f32 := constant S_ .f32 0x7F800000#32
  let main_v17 : FVec F S4096x64 .f32 := broadcastInDim S4096x64 ![] bcast_S_S4096x64 main_cst_6
  let main_v18 : IVec S4096x64 1 := cmpf .olt main_arg3 main_v17
  let main_v19 : IVec S4096x64 1 := andi main_v16 main_v18
  let main_cst_7 : FVec F S_ .f32 := constant S_ .f32 0xFF800000#32
  let main_v20 : FVec F S1x128 .f32 := broadcastInDim S1x128 ![] bcast_S_S1x128 main_cst_7
  let main_v21 : IVec S1x128 1 := cmpf .ogt main_arg4 main_v20
  let main_cst_8 : FVec F S_ .f32 := constant S_ .f32 0x7F800000#32
  let main_v22 : FVec F S1x128 .f32 := broadcastInDim S1x128 ![] bcast_S_S1x128 main_cst_8
  let main_v23 : IVec S1x128 1 := cmpf .olt main_arg4 main_v22
  let main_v24 : IVec S1x128 1 := andi main_v21 main_v23
  (main_v4, main_v9, main_v14, main_v19, main_v24)

def fn {F : FTy → Type} [FloatOps F] (main_arg0 : FVec F S4096x4992 .f32) (main_arg1 : FVec F S4096x2048 .f32) (main_arg2 : FVec F S4096x64 .f32) (main_arg3 : FVec F S4096x64 .f32) (main_arg4 : FVec F S1x128 .f32) : IVec S4096x4992 1 × IVec S4096x2048 1 × IVec S4096x64 1 × IVec S4096x64 1 × IVec S1x128 1 :=
  let main_cst : FVec F S_ .f32 := constant S_ .f32 0xFF800000#32
  let main_v0 : FVec F S4096x4992 .f32 := broadcastInDim S4096x4992 ![] bcast_S_S4096x4992 main_cst
  let main_v1 : IVec S4096x4992 1 := cmpf .ogt main_arg0 main_v0
  let main_cst_0 : FVec F S_ .f32 := constant S_ .f32 0x7F800000#32
  let main_v2 : FVec F S4096x4992 .f32 := broadcastInDim S4096x4992 ![] bcast_S_S4096x4992 main_cst_0
  let main_v3 : IVec S4096x4992 1 := cmpf .olt main_arg0 main_v2
  let main_v4 : IVec S4096x4992 1 := andi main_v1 main_v3
  let main_cst_1 : FVec F S_ .f32 := constant S_ .f32 0xFF800000#32
  let main_v5 : FVec F S4096x2048 .f32 := broadcastInDim S4096x2048 ![] bcast_S_S4096x2048 main_cst_1
  let main_v6 : IVec S4096x2048 1 := cmpf .ogt main_arg1 main_v5
  let main_cst_2 : FVec F S_ .f32 := constant S_ .f32 0x7F800000#32
  let main_v7 : FVec F S4096x2048 .f32 := broadcastInDim S4096x2048 ![] bcast_S_S4096x2048 main_cst_2
  let main_v8 : IVec S4096x2048 1 := cmpf .olt main_arg1 main_v7
  let main_v9 : IVec S4096x2048 1 := andi main_v6 main_v8
  let main_cst_3 : FVec F S_ .f32 := constant S_ .f32 0xFF800000#32
  let main_v10 : FVec F S4096x64 .f32 := broadcastInDim S4096x64 ![] bcast_S_S4096x64 main_cst_3
  let main_v11 : IVec S4096x64 1 := cmpf .ogt main_arg2 main_v10
  let main_cst_4 : FVec F S_ .f32 := constant S_ .f32 0x7F800000#32
  let main_v12 : FVec F S4096x64 .f32 := broadcastInDim S4096x64 ![] bcast_S_S4096x64 main_cst_4
  let main_v13 : IVec S4096x64 1 := cmpf .olt main_arg2 main_v12
  let main_v14 : IVec S4096x64 1 := andi main_v11 main_v13
  let main_cst_5 : FVec F S_ .f32 := constant S_ .f32 0xFF800000#32
  let main_v15 : FVec F S4096x64 .f32 := broadcastInDim S4096x64 ![] bcast_S_S4096x64 main_cst_5
  let main_v16 : IVec S4096x64 1 := cmpf .ogt main_arg3 main_v15
  fn_part1 (F := F) main_arg3 main_arg4 main_v4 main_v9 main_v14 main_v16
-- ==== Kernel.lean ====
abbrev S4096x4992 : Shape := ⟨2, ![4096, 4992]⟩
abbrev S4096x2048 : Shape := ⟨2, ![4096, 2048]⟩
abbrev S4096x64 : Shape := ⟨2, ![4096, 64]⟩
abbrev S1x128 : Shape := ⟨2, ![1, 128]⟩
abbrev S4096x128 : Shape := ⟨2, ![4096, 128]⟩
abbrev S4096x768 : Shape := ⟨2, ![4096, 768]⟩
abbrev S4096x256 : Shape := ⟨2, ![4096, 256]⟩
abbrev S128x768 : Shape := ⟨2, ![128, 768]⟩
abbrev S128x256 : Shape := ⟨2, ![128, 256]⟩
abbrev S128x128 : Shape := ⟨2, ![128, 128]⟩
abbrev S256x128 : Shape := ⟨2, ![256, 128]⟩
abbrev S384x128 : Shape := ⟨2, ![384, 128]⟩
abbrev S384x256 : Shape := ⟨2, ![384, 256]⟩
abbrev S1x1 : Shape := ⟨2, ![1, 1]⟩
abbrev S128x1 : Shape := ⟨2, ![128, 1]⟩
abbrev S384x1 : Shape := ⟨2, ![384, 1]⟩
abbrev S384 : Shape := ⟨1, ![384]⟩
abbrev S1 : Shape := ⟨1, ![1]⟩

abbrev nBuf : Space → Nat
  | .hbm => 12
  | .vmem => 30
  | .smem => 0
  | _ => 0

abbrev bufTy : (tb : Table) → Fin (tcTables nBuf tb) → BufTy
  | .hbm, ⟨0, _⟩ => ⟨S4096x4992, .f32⟩
  | .hbm, ⟨1, _⟩ => ⟨S4096x2048, .f32⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S4096x128, .f32⟩
  | .hbm, ⟨6, _⟩ => ⟨S4096x64, .f32⟩
  | .hbm, ⟨7, _⟩ => ⟨S4096x128, .f32⟩
  | .hbm, ⟨8, _⟩ => ⟨S4096x768, .bf16⟩
  | .hbm, ⟨9, _⟩ => ⟨S4096x256, .bf16⟩
  | .hbm, ⟨10, _⟩ => ⟨S4096x256, .bf16⟩
  | .hbm, ⟨11, _⟩ => ⟨S1x128, .f32⟩
  | .local _ .vmem, ⟨0, _⟩ => ⟨S128x768, .f32⟩
  | .local _ .vmem, ⟨1, _⟩ => ⟨S128x768, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x768, .f32⟩
  | .local _ .vmem, ⟨20, _⟩ => ⟨S128x768, .f32⟩
  | .local _ .vmem, ⟨21, _⟩ => ⟨S128x768, .bf16⟩
  | .local _ .vmem, ⟨22, _⟩ => ⟨S128x768, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x256, .bf16⟩
  | .local _ .vmem, ⟨27, _⟩ => ⟨S1x128, .f32⟩
  | .local _ .vmem, ⟨28, _⟩ => ⟨S128x256, .f32⟩
  | .local _ .vmem, ⟨29, _⟩ => ⟨S128x256, .f32⟩
  | _, _ => ⟨S4096x4992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c15_i32 : BitVec 32 := 15#32
  let c0_i32 : BitVec 32 := 0#32
  ![v0.toNat, c15_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c15_i32 : BitVec 32 := 15#32
  let c0_i32_0 : BitVec 32 := 0#32
  ![v2.toNat, c15_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let c0_i32 : BitVec 32 := 0#32
  ![v0.toNat, c16_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let c0_i32_0 : BitVec 32 := 0#32
  ![v2.toNat, c16_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x4992 : Shape := ⟨2, ![4096, 4992]⟩
abbrev S4096x2048 : Shape := ⟨2, ![4096, 2048]⟩
abbrev S4096x64 : Shape := ⟨2, ![4096, 64]⟩
abbrev S1x128 : Shape := ⟨2, ![1, 128]⟩
abbrev S4096x768 : Shape := ⟨2, ![4096, 768]⟩
abbrev S4096x256 : Shape := ⟨2, ![4096, 256]⟩
abbrev S1x6 : Shape := ⟨2, ![1, 6]⟩
abbrev S6 : Shape := ⟨1, ![6]⟩
abbrev S4096x1x64 : Shape := ⟨3, ![4096, 1, 64]⟩
abbrev S4096x6x128 : Shape := ⟨3, ![4096, 6, 128]⟩
abbrev S4096x6x64 : Shape := ⟨3, ![4096, 6, 64]⟩
abbrev S4096x2x128 : Shape := ⟨3, ![4096, 2, 128]⟩
abbrev S4096x2x64 : Shape := ⟨3, ![4096, 2, 64]⟩
abbrev S32x128x2x3x128 : Shape := ⟨5, ![32, 128, 2, 3, 128]⟩
abbrev S_ : Shape := ⟨0, ![]⟩
abbrev S128x2x128 : Shape := ⟨3, ![128, 2, 128]⟩
abbrev S4224x2x128 : Shape := ⟨3, ![4224, 2, 128]⟩
abbrev S33x128x2x128 : Shape := ⟨4, ![33, 128, 2, 128]⟩
abbrev S32x128x2x128 : Shape := ⟨4, ![32, 128, 2, 128]⟩
abbrev S32x256x2x128 : Shape := ⟨4, ![32, 256, 2, 128]⟩
abbrev S32x2x256x128x3 : Shape := ⟨5, ![32, 2, 256, 128, 3]⟩
abbrev S32x2x3x128x256 : Shape := ⟨5, ![32, 2, 3, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S32x1x1x128x256 : Shape := ⟨5, ![32, 1, 1, 128, 256]⟩
abbrev S2x3 : Shape := ⟨2, ![2, 3]⟩
abbrev S1x2x3x1x1 : Shape := ⟨5, ![1, 2, 3, 1, 1]⟩
abbrev S32x2x3x128x1 : Shape := ⟨5, ![32, 2, 3, 128, 1]⟩
abbrev S32x2x3x128x257 : Shape := ⟨5, ![32, 2, 3, 128, 257]⟩
abbrev S32x2x3x128 : Shape := ⟨4, ![32, 2, 3, 128]⟩
abbrev S32x2x128x3x128 : Shape := ⟨5, ![32, 2, 128, 3, 128]⟩
abbrev S32x2x128x256 : Shape := ⟨4, ![32, 2, 128, 256]⟩
abbrev S32x2x256x128 : Shape := ⟨4, ![32, 2, 256, 128]⟩

abbrev nBuf : Space → Nat
  | .hbm => 251
  | .vmem => 0
  | .smem => 0
  | _ => 0

abbrev hbmTy0_0 (i : Nat) : BufTy := match i % 128 with
  | 0 => ⟨S4096x4992, .f32⟩
  | 1 => ⟨S4096x2048, .f32⟩
  | 2 => ⟨S4096x64, .f32⟩
  | 3 => ⟨S4096x64, .f32⟩
  | 4 => ⟨S1x128, .f32⟩
  | 5 => ⟨S4096x768, .f32⟩
  | 6 => ⟨S4096x256, .f32⟩
  | 7 => ⟨S4096x256, .f32⟩
  | 8 => ⟨S1x6, .f32⟩
  | 9 => ⟨S6, .f32⟩
  | 10 => ⟨S4096x1x64, .f32⟩
  | 11 => ⟨S4096x1x64, .f32⟩
  | 12 => ⟨S4096x6x128, .f32⟩
  | 13 => ⟨S4096x6x64, .f32⟩
  | 14 => ⟨S4096x6x64, .f32⟩
  | 15 => ⟨S4096x6x64, .f32⟩
  | 16 => ⟨S4096x6x64, .f32⟩
  | 17 => ⟨S4096x6x64, .f32⟩
  | 18 => ⟨S4096x6x64, .f32⟩
  | 19 => ⟨S4096x6x64, .f32⟩
  | 20 => ⟨S4096x6x64, .f32⟩
  | 21 => ⟨S4096x6x64, .f32⟩
  | 22 => ⟨S4096x6x64, .f32⟩
  | 23 => ⟨S4096x6x64, .f32⟩
  | 24 => ⟨S4096x6x64, .f32⟩
  | 25 => ⟨S4096x6x128, .f32⟩
  | 26 => ⟨S4096x2x128, .f32⟩
  | 27 => ⟨S4096x2x64, .f32⟩
  | 28 => ⟨S4096x2x64, .f32⟩
  | 29 => ⟨S4096x2x64, .f32⟩
  | 30 => ⟨S4096x2x64, .f32⟩
  | 31 => ⟨S4096x2x64, .f32⟩
  | 32 => ⟨S4096x2x64, .f32⟩
  | 33 => ⟨S4096x2x64, .f32⟩
  | 34 => ⟨S4096x2x64, .f32⟩
  | 35 => ⟨S4096x2x64, .f32⟩
  | 36 => ⟨S4096x2x64, .f32⟩
  | 37 => ⟨S4096x2x64, .f32⟩
  | 38 => ⟨S4096x2x64, .f32⟩
  | 39 => ⟨S4096x2x128, .f32⟩
  | 40 => ⟨S4096x2x128, .f32⟩
  | 41 => ⟨S32x128x2x3x128, .f32⟩
  | 42 => ⟨S_, .f32⟩
  | 43 => ⟨S128x2x128, .f32⟩
  | 44 => ⟨S4224x2x128, .f32⟩
  | 45 => ⟨S_, .f32⟩
  | 46 => ⟨S128x2x128, .f32⟩
  | 47 => ⟨S33x128x2x128, .f32⟩
  | 48 => ⟨S32x128x2x128, .f32⟩
  | 49 => ⟨S32x128x2x128, .f32⟩
  | 50 => ⟨S32x256x2x128, .f32⟩
  | 51 => ⟨S_, .f32⟩
  | 52 => ⟨S128x2x128, .f32⟩
  | 53 => ⟨S4224x2x128, .f32⟩
  | 54 => ⟨S_, .f32⟩
  | 55 => ⟨S128x2x128, .f32⟩
  | 56 => ⟨S33x128x2x128, .f32⟩
  | 57 => ⟨S32x128x2x128, .f32⟩
  | 58 => ⟨S32x128x2x128, .f32⟩
  | 59 => ⟨S32x256x2x128, .f32⟩
  | 60 => ⟨S32x2x256x128x3, .f32⟩
  | 61 => ⟨S32x2x3x128x256, .f32⟩
  | 62 => ⟨S_, .f32⟩
  | 63 => ⟨S32x2x3x128x256, .f32⟩
  | 64 => ⟨S32x2x3x128x256, .f32⟩
  | 65 => ⟨S128, .i32⟩
  | 66 => ⟨S128x1, .i32⟩
  | 67 => ⟨S256, .i32⟩
  | 68 => ⟨S1x256, .i32⟩
  | 69 => ⟨S_, .i32⟩
  | 70 => ⟨S128x1, .i32⟩
  | 71 => ⟨S128x1, .i32⟩
  | 72 => ⟨S128x256, .i32⟩
  | 73 => ⟨S128x256, .i32⟩
  | 74 => ⟨S128x256, .i32⟩
  | 75 => ⟨S_, .i32⟩
  | 76 => ⟨S128x256, .i32⟩
  | 77 => ⟨S128x256, .i1⟩
  | 78 => ⟨S_, .i32⟩
  | 79 => ⟨S128x256, .i32⟩
  | 80 => ⟨S128x256, .i1⟩
  | 81 => ⟨S128x256, .i1⟩
  | 82 => ⟨S32, .i32⟩
  | 83 => ⟨S32x1x1, .i32⟩
  | 84 => ⟨S1x128x256, .i1⟩
  | 85 => ⟨S_, .i32⟩
  | 86 => ⟨S32x1x1, .i32⟩
  | 87 => ⟨S32x1x1, .i1⟩
  | 88 => ⟨S_, .i32⟩
  | 89 => ⟨S1x256, .i32⟩
  | 90 => ⟨S1x256, .i1⟩
  | 91 => ⟨S1x1x256, .i1⟩
  | 92 => ⟨S32x1x256, .i1⟩
  | 93 => ⟨S32x1x256, .i1⟩
  | 94 => ⟨S32x1x256, .i1⟩
  | 95 => ⟨S32x128x256, .i1⟩
  | 96 => ⟨S32x128x256, .i1⟩
  | 97 => ⟨S32x128x256, .i1⟩
  | 98 => ⟨S32x1x1x128x256, .i1⟩
  | 99 => ⟨S_, .f32⟩
  | 100 => ⟨S_, .f32⟩
  | 101 => ⟨S32x2x3x128x256, .i1⟩
  | 102 => ⟨S32x2x3x128x256, .f32⟩
  | 103 => ⟨S32x2x3x128x256, .f32⟩
  | 104 => ⟨S_, .f32⟩
  | 105 => ⟨S32x2x3x128x256, .f32⟩
  | 106 => ⟨S2x3, .f32⟩
  | 107 => ⟨S1x2x3x1x1, .f32⟩
  | 108 => ⟨S32x2x3x128x1, .f32⟩
  | 109 => ⟨S32x2x3x128x257, .f32⟩
  | 110 => ⟨S_, .f32⟩
  | 111 => ⟨S32x2x3x128, .f32⟩
  | 112 => ⟨S32x2x3x128x1, .f32⟩
  | 113 => ⟨S32x2x3x128x257, .f32⟩
  | 114 => ⟨S32x2x3x128x257, .i1⟩
  | 115 => ⟨S32x2x3x128x257, .f32⟩
  | 116 => ⟨S_, .f32⟩
  | 117 => ⟨S32x2x3x128, .f32⟩
  | 118 => ⟨S_, .f32⟩
  | 119 => ⟨S32x2x3x128, .f32⟩
  | 120 => ⟨S32x2x3x128, .f32⟩
  | 121 => ⟨S_, .f32⟩
  | 122 => ⟨S32x2x3x128, .f32⟩
  | 123 => ⟨S32x2x3x128, .i1⟩
  | 124 => ⟨S_, .f32⟩
  | 125 => ⟨S32x2x3x128, .f32⟩
  | 126 => ⟨S32x2x3x128, .i1⟩
  | 127 => ⟨S_, .f32⟩
  | _ => ⟨S4096x4992, .f32⟩

abbrev hbmTy0_1 (i : Nat) : BufTy := match i % 128 with
  | 0 => ⟨S32x2x3x128, .f32⟩
  | 1 => ⟨S_, .f32⟩
  | 2 => ⟨S32x2x3x128, .f32⟩
  | 3 => ⟨S_, .f32⟩
  | 4 => ⟨S32x2x3x128, .f32⟩
  | 5 => ⟨S32x2x3x128, .f32⟩
  | 6 => ⟨S32x2x3x128, .f32⟩
  | 7 => ⟨S32x2x3x128x1, .f32⟩
  | 8 => ⟨S32x2x3x128x257, .f32⟩
  | 9 => ⟨S32x2x3x128x257, .f32⟩
  | 10 => ⟨S32x2x3x128x257, .f32⟩
  | 11 => ⟨S_, .f32⟩
  | 12 => ⟨S32x2x3x128, .f32⟩
  | 13 => ⟨S32x2x3x128x1, .f32⟩
  | 14 => ⟨S32x2x3x128x257, .f32⟩
  | 15 => ⟨S32x2x3x128x257, .f32⟩
  | 16 => ⟨S32x2x3x128x1, .f32⟩
  | 17 => ⟨S_, .f32⟩
  | 18 => ⟨S32x2x3x128x1, .f32⟩
  | 19 => ⟨S32x2x3x128x1, .f32⟩
  | 20 => ⟨S32x2x3x128x256, .f32⟩
  | 21 => ⟨S32x2x128x3x128, .f32⟩
  | 22 => ⟨S32x128x2x3x128, .f32⟩
  | 23 => ⟨S4096x768, .f32⟩
  | 24 => ⟨S4096x768, .f32⟩
  | 25 => ⟨S32x128x2x3x128, .f32⟩
  | 26 => ⟨S32x2x128x3x128, .f32⟩
  | 27 => ⟨S32x2x3x128x256, .f32⟩
  | 28 => ⟨S32x2x128x256, .f32⟩
  | 29 => ⟨S32x256x2x128, .f32⟩
  | 30 => ⟨S_, .f32⟩
  | 31 => ⟨S32x2x3x128x257, .f32⟩
  | 32 => ⟨S32x2x3x128x257, .f32⟩
  | 33 => ⟨S32x2x3x128x257, .f32⟩
  | 34 => ⟨S32x2x3x128x257, .f32⟩
  | 35 => ⟨S_, .f32⟩
  | 36 => ⟨S32x2x3x128, .f32⟩
  | 37 => ⟨S32x2x3x128x1, .f32⟩
  | 38 => ⟨S32x2x3x128x1, .f32⟩
  | 39 => ⟨S32x2x3x128x257, .f32⟩
  | 40 => ⟨S32x2x3x128x257, .f32⟩
  | 41 => ⟨S_, .f32⟩
  | 42 => ⟨S32x2x3x128, .f32⟩
  | 43 => ⟨S32x2x3x128x257, .f32⟩
  | 44 => ⟨S32x2x3x128x257, .f32⟩
  | 45 => ⟨S32x2x3x128x257, .f32⟩
  | 46 => ⟨S32x2x3x128x256, .f32⟩
  | 47 => ⟨S32x2x3x128x1, .f32⟩
  | 48 => ⟨S_, .f32⟩
  | 49 => ⟨S2x3, .f32⟩
  | 50 => ⟨S1x2x3x1x1, .f32⟩
  | 51 => ⟨S_, .f32⟩
  | 52 => ⟨S2x3, .f32⟩
  | 53 => ⟨S6, .f32⟩
  | 54 => ⟨S_, .f32⟩
  | 55 => ⟨S32x2x3x128x256, .f32⟩
  | 56 => ⟨S32x2x3x128x256, .f32⟩
  | 57 => ⟨S_, .f32⟩
  | 58 => ⟨S32x2x3x128x256, .f32⟩
  | 59 => ⟨S32x2x3x128x256, .f32⟩
  | 60 => ⟨S32x2x256x128x3, .f32⟩
  | 61 => ⟨S32x2x128x3x128, .f32⟩
  | 62 => ⟨S32x128x2x3x128, .f32⟩
  | 63 => ⟨S32x2x256x128, .f32⟩
  | 64 => ⟨S32x256x2x128, .f32⟩
  | 65 => ⟨S32x128x2x128, .f32⟩
  | 66 => ⟨S32x128x2x128, .f32⟩
  | 67 => ⟨S_, .f32⟩
  | 68 => ⟨S33x128x2x128, .f32⟩
  | 69 => ⟨S_, .f32⟩
  | 70 => ⟨S33x128x2x128, .f32⟩
  | 71 => ⟨S33x128x2x128, .f32⟩
  | 72 => ⟨S4224x2x128, .f32⟩
  | 73 => ⟨S128x2x128, .f32⟩
  | 74 => ⟨S4096x2x128, .f32⟩
  | 75 => ⟨S32x128x2x128, .f32⟩
  | 76 => ⟨S32x128x2x128, .f32⟩
  | 77 => ⟨S_, .f32⟩
  | 78 => ⟨S33x128x2x128, .f32⟩
  | 79 => ⟨S_, .f32⟩
  | 80 => ⟨S33x128x2x128, .f32⟩
  | 81 => ⟨S33x128x2x128, .f32⟩
  | 82 => ⟨S4224x2x128, .f32⟩
  | 83 => ⟨S128x2x128, .f32⟩
  | 84 => ⟨S4096x2x128, .f32⟩
  | 85 => ⟨S4096x6x128, .f32⟩
  | 86 => ⟨S4096x256, .f32⟩
  | 87 => ⟨S4096x2x64, .f32⟩
  | 88 => ⟨S4096x2x64, .f32⟩
  | 89 => ⟨S4096x2x64, .f32⟩
  | 90 => ⟨S4096x2x64, .f32⟩
  | 91 => ⟨S4096x2x64, .f32⟩
  | 92 => ⟨S4096x2x64, .f32⟩
  | 93 => ⟨S4096x2x64, .f32⟩
  | 94 => ⟨S4096x2x64, .f32⟩
  | 95 => ⟨S4096x2x64, .f32⟩
  | 96 => ⟨S4096x2x64, .f32⟩
  | 97 => ⟨S4096x2x64, .f32⟩
  | 98 => ⟨S4096x2x64, .f32⟩
  | 99 => ⟨S4096x2x64, .f32⟩
  | 100 => ⟨S4096x2x128, .f32⟩
  | 101 => ⟨S4096x256, .f32⟩
  | 102 => ⟨S4096x6x64, .f32⟩
  | 103 => ⟨S4096x6x64, .f32⟩
  | 104 => ⟨S4096x6x64, .f32⟩
  | 105 => ⟨S4096x6x64, .f32⟩
  | 106 => ⟨S4096x6x64, .f32⟩
  | 107 => ⟨S4096x6x64, .f32⟩
  | 108 => ⟨S4096x6x64, .f32⟩
  | 109 => ⟨S4096x6x64, .f32⟩
  | 110 => ⟨S4096x6x64, .f32⟩
  | 111 => ⟨S4096x6x64, .f32⟩
  | 112 => ⟨S4096x6x64, .f32⟩
  | 113 => ⟨S4096x6x64, .f32⟩
  | 114 => ⟨S4096x6x64, .f32⟩
  | 115 => ⟨S4096x6x128, .f32⟩
  | 116 => ⟨S4096x768, .f32⟩
  | 117 => ⟨S1x6, .f32⟩
  | 118 => ⟨S_, .f32⟩
  | 119 => ⟨S1x128, .f32⟩
  | 120 => ⟨S4096x768, .bf16⟩
  | 121 => ⟨S4096x256, .bf16⟩
  | 122 => ⟨S4096x256, .bf16⟩
  | _ => ⟨S4096x4992, .f32⟩

abbrev hbmTy (i : Nat) : BufTy := match i / 128 with
  | 0 => hbmTy0_0 i
  | 1 => hbmTy0_1 i
  | _ => ⟨S4096x4992, .f32⟩

abbrev bufTy : (tb : Table) → Fin (tcTables nBuf tb) → BufTy
  | .hbm, ⟨i, _⟩ => hbmTy i
  | _, _ => ⟨S4096x4992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_v37 : Ref sig .tc := ⟨.hbm, 43, rfl⟩
abbrev main_v38 : Ref sig .tc := ⟨.hbm, 44, rfl⟩
abbrev main_cst_0 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_c_4 : Ref sig .tc := ⟨.hbm, 75, rfl⟩
abbrev main_v64 : Ref sig .tc := ⟨.hbm, 76, rfl⟩
abbrev main_v65 : Ref sig .tc := ⟨.hbm, 77, rfl⟩
abbrev main_c_5 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_c_6 : Ref sig .tc := ⟨.hbm, 85, rfl⟩
abbrev main_v72 : Ref sig .tc := ⟨.hbm, 86, rfl⟩
abbrev main_v73 : Ref sig .tc := ⟨.hbm, 87, rfl⟩
abbrev main_c_7 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_8 : Ref sig .tc := ⟨.hbm, 99, rfl⟩
abbrev main_call0_v0 : Ref sig .tc := ⟨.hbm, 100, rfl⟩
abbrev main_v84_1 : Ref sig .tc := ⟨.hbm, 101, rfl⟩
abbrev main_call0_v2 : Ref sig .tc := ⟨.hbm, 102, rfl⟩
abbrev main_v84_0 : Ref sig .tc := ⟨.hbm, 103, rfl⟩
abbrev main_call0_cst : Ref sig .tc := ⟨.hbm, 104, rfl⟩
abbrev main_v84_2 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_9 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_cst_13 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_cst_15 : Ref sig .tc := ⟨.hbm, 129, rfl⟩
abbrev main_v102 : Ref sig .tc := ⟨.hbm, 130, rfl⟩
abbrev main_cst_16 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_18 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_19 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_21 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_22 : Ref sig .tc := ⟨.hbm, 176, rfl⟩
abbrev main_v142 : Ref sig .tc := ⟨.hbm, 177, rfl⟩
abbrev main_v143 : Ref sig .tc := ⟨.hbm, 178, rfl⟩
abbrev main_cst_23 : Ref sig .tc := ⟨.hbm, 179, rfl⟩
abbrev main_v144 : Ref sig .tc := ⟨.hbm, 180, rfl⟩
abbrev main_v145 : Ref sig .tc := ⟨.hbm, 181, rfl⟩
abbrev main_call1_cst : Ref sig .tc := ⟨.hbm, 182, rfl⟩
abbrev main_call1_v0 : Ref sig .tc := ⟨.hbm, 183, rfl⟩
abbrev main_v146 : Ref sig .tc := ⟨.hbm, 184, rfl⟩
abbrev main_cst_24 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_25 : Ref sig .tc := ⟨.hbm, 195, rfl⟩
abbrev main_v156 : Ref sig .tc := ⟨.hbm, 196, rfl⟩
abbrev main_cst_26 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_cst_27 : Ref sig .tc := ⟨.hbm, 205, rfl⟩
abbrev main_v164 : Ref sig .tc := ⟨.hbm, 206, rfl⟩
abbrev main_cst_28 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_cst_29 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩

abbrev nD : Nat := 1
abbrev τ : Topo := Topo.v7x

variable {F : FTy → Type} [FloatOps F]
-- ==== Up.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== UpD.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDRefIdeal.lean ====
abbrev S2x4096x5632 : Shape := ⟨3, ![2, 4096, 5632]⟩
abbrev S8x2048x1408 : Shape := ⟨3, ![8, 2048, 1408]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S2x4096x5632, .f32⟩
  | .hbm, ⟨3, _⟩ => ⟨S8x2048x1408, .f32⟩
  | .hbm, ⟨4, _⟩ => ⟨S_, .f32⟩
  | .hbm, ⟨5, _⟩ => ⟨S4096x2048, .f32⟩
  | .hbm, ⟨6, _⟩ => ⟨S2048x8x1408, .f32⟩
  | .hbm, ⟨7, _⟩ => ⟨S2048x11264, .f32⟩
  | .hbm, ⟨8, _⟩ => ⟨S4096x11264, .f32⟩
  | .hbm, ⟨9, _⟩ => ⟨S4096x5632, .f32⟩
  | .hbm, ⟨10, _⟩ => ⟨S4096x5632, .f32⟩
  | .hbm, ⟨11, _⟩ => ⟨S1x4096x5632, .f32⟩
  | .hbm, ⟨12, _⟩ => ⟨S1x4096x5632, .f32⟩
  | .hbm, ⟨13, _⟩ => ⟨S2x4096x5632, .f32⟩
  | .hbm, ⟨14, _⟩ => ⟨S1x4096x5632, .f32⟩
  | .hbm, ⟨15, _⟩ => ⟨S4096x5632, .f32⟩
  | .hbm, ⟨16, _⟩ => ⟨S1x4096x5632, .f32⟩
  | .hbm, ⟨17, _⟩ => ⟨S4096x5632, .f32⟩
  | .hbm, ⟨18, _⟩ => ⟨S4096x11264, .f32⟩
  | .hbm, ⟨19, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== UpW.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S4096x2048 : Shape := ⟨2, ![4096, 2048]⟩
abbrev S2x4096x5632 : Shape := ⟨3, ![2, 4096, 5632]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2048, .f32⟩
  | .hbm, ⟨3, _⟩ => ⟨S2x4096x5632, .f32⟩
  | .hbm, ⟨4, _⟩ => ⟨S_, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S4096x11264, .f32⟩
  | .hbm, ⟨9, _⟩ => ⟨S4096x5632, .f32⟩
  | .hbm, ⟨10, _⟩ => ⟨S4096x5632, .f32⟩
  | .hbm, ⟨11, _⟩ => ⟨S1x4096x5632, .f32⟩
  | .hbm, ⟨12, _⟩ => ⟨S1x4096x5632, .f32⟩
  | .hbm, ⟨13, _⟩ => ⟨S2x4096x5632, .f32⟩
  | .hbm, ⟨14, _⟩ => ⟨S1x4096x5632, .f32⟩
  | .hbm, ⟨15, _⟩ => ⟨S4096x5632, .f32⟩
  | .hbm, ⟨16, _⟩ => ⟨S1x4096x5632, .f32⟩
  | .hbm, ⟨17, _⟩ => ⟨S4096x5632, .f32⟩
  | .hbm, ⟨18, _⟩ => ⟨S4096x11264, .f32⟩
  | .hbm, ⟨19, _⟩ => ⟨S11264x2048, .f32⟩
  | .hbm, ⟨20, _⟩ => ⟨S2048x11264, .f32⟩
  | .hbm, ⟨21, _⟩ => ⟨S2048x8x1408, .f32⟩
  | .hbm, ⟨22, _⟩ => ⟨S8x2048x1408, .f32⟩
  | .hbm, ⟨23, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownD.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDIdeal.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownW.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWIdeal.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S4096x2048 : Shape := ⟨2, ![4096, 2048]⟩
abbrev S2048x4992 : Shape := ⟨2, ![2048, 4992]⟩
abbrev S4096x4992 : Shape := ⟨2, ![4096, 4992]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4992, .bf16⟩
  | .hbm, ⟨2, _⟩ => ⟨S4096x4992, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S4096x2048 : Shape := ⟨2, ![4096, 2048]⟩
abbrev S2048x4992 : Shape := ⟨2, ![2048, 4992]⟩
abbrev S4096x4992 : Shape := ⟨2, ![4096, 4992]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4992, .bf16⟩
  | .hbm, ⟨2, _⟩ => ⟨S4096x4992, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x2048 : Shape := ⟨2, ![4096, 2048]⟩
abbrev S2048x4992 : Shape := ⟨2, ![2048, 4992]⟩
abbrev S4096x4992 : Shape := ⟨2, ![4096, 4992]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4992, .bf16⟩
  | .hbm, ⟨2, _⟩ => ⟨S4096x2048, .f32⟩
  | .hbm, ⟨3, _⟩ => ⟨S2048x4992, .f32⟩
  | .hbm, ⟨4, _⟩ => ⟨S4096x4992, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InD.lean ====
abbrev S4096x4992 : Shape := ⟨2, ![4096, 4992]⟩
abbrev S2048x4992 : Shape := ⟨2, ![2048, 4992]⟩
abbrev S4096x2048 : Shape := ⟨2, ![4096, 2048]⟩
abbrev S1024x1664 : Shape := ⟨2, ![1024, 1664]⟩
abbrev S2048x1664 : Shape := ⟨2, ![2048, 1664]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4992, .bf16⟩
  | .hbm, ⟨1, _⟩ => ⟨S2048x4992, .bf16⟩
  | .hbm, ⟨2, _⟩ => ⟨S4096x2048, .f32⟩
  | .local _ .vmem, ⟨0, _⟩ => ⟨S1024x1664, .bf16⟩
  | .local _ .vmem, ⟨1, _⟩ => ⟨S1024x1664, .bf16⟩
  | .local _ .vmem, ⟨2, _⟩ => ⟨S2048x1664, .bf16⟩
  | .local _ .vmem, ⟨3, _⟩ => ⟨S2048x1664, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDIdeal.lean ====
abbrev S4096x4992 : Shape := ⟨2, ![4096, 4992]⟩
abbrev S2048x4992 : Shape := ⟨2, ![2048, 4992]⟩
abbrev S4096x2048 : Shape := ⟨2, ![4096, 2048]⟩
abbrev S1024x1664 : Shape := ⟨2, ![1024, 1664]⟩
abbrev S2048x1664 : Shape := ⟨2, ![2048, 1664]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x4992, .bf16⟩
  | .hbm, ⟨1, _⟩ => ⟨S2048x4992, .bf16⟩
  | .hbm, ⟨2, _⟩ => ⟨S4096x2048, .f32⟩
  | .local _ .vmem, ⟨0, _⟩ => ⟨S1024x1664, .bf16⟩
  | .local _ .vmem, ⟨1, _⟩ => ⟨S1024x1664, .bf16⟩
  | .local _ .vmem, ⟨2, _⟩ => ⟨S2048x1664, .bf16⟩
  | .local _ .vmem, ⟨3, _⟩ => ⟨S2048x1664, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDRefIdeal.lean ====
abbrev S4096x4992 : Shape := ⟨2, ![4096, 4992]⟩
abbrev S2048x4992 : Shape := ⟨2, ![2048, 4992]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S2048x4992, .bf16⟩
  | .hbm, ⟨2, _⟩ => ⟨S4096x4992, .f32⟩
  | .hbm, ⟨3, _⟩ => ⟨S2048x4992, .f32⟩
  | .hbm, ⟨4, _⟩ => ⟨S_, .f32⟩
  | .hbm, ⟨5, _⟩ => ⟨S4096x2048, .f32⟩
  | .hbm, ⟨6, _⟩ => ⟨S4096x4992, .f32⟩
  | .hbm, ⟨7, _⟩ => ⟨S4096x2048, .f32⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InW.lean ====
abbrev S4096x2048 : Shape := ⟨2, ![4096, 2048]⟩
abbrev S4096x4992 : Shape := ⟨2, ![4096, 4992]⟩
abbrev S2048x4992 : Shape := ⟨2, ![2048, 4992]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4992, .bf16⟩
  | .hbm, ⟨2, _⟩ => ⟨S2048x4992, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWIdeal.lean ====
abbrev S4096x2048 : Shape := ⟨2, ![4096, 2048]⟩
abbrev S4096x4992 : Shape := ⟨2, ![4096, 4992]⟩
abbrev S2048x4992 : Shape := ⟨2, ![2048, 4992]⟩
abbrev S2048x1024 : Shape := ⟨2, ![2048, 1024]⟩
abbrev S2048x1664 : Shape := ⟨2, ![2048, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4992, .bf16⟩
  | .hbm, ⟨2, _⟩ => ⟨S2048x4992, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S4096x2048 : Shape := ⟨2, ![4096, 2048]⟩
abbrev S4096x4992 : Shape := ⟨2, ![4096, 4992]⟩
abbrev S_ : Shape := ⟨0, ![]⟩
abbrev S2048x4992 : Shape := ⟨2, ![2048, 4992]⟩
abbrev S4992x2048 : Shape := ⟨2, ![4992, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4992, .bf16⟩
  | .hbm, ⟨2, _⟩ => ⟨S4096x2048, .f32⟩
  | .hbm, ⟨3, _⟩ => ⟨S4096x4992, .f32⟩
  | .hbm, ⟨4, _⟩ => ⟨S_, .f32⟩
  | .hbm, ⟨5, _⟩ => ⟨S2048x4992, .f32⟩
  | .hbm, ⟨6, _⟩ => ⟨S4096x4992, .f32⟩
  | .hbm, ⟨7, _⟩ => ⟨S4992x2048, .f32⟩
  | .hbm, ⟨8, _⟩ => ⟨S2048x4992, .f32⟩
  | .hbm, ⟨9, _⟩ => ⟨S2048x4992, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutD.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamIn.lean ====
abbrev S2x256x4876 : Shape := ⟨3, ![2, 256, 4876]⟩
abbrev S512x4876 : Shape := ⟨2, ![512, 4876]⟩
abbrev S32x4876 : Shape := ⟨2, ![32, 4876]⟩

abbrev nBuf : Space → Nat
  | .hbm => 14
  | .vmem => 14
  | .smem => 0
  | _ => 0

abbrev bufTy : (tb : Table) → Fin (tcTables nBuf tb) → BufTy
  | .hbm, ⟨0, _⟩ => ⟨S2x256x4876, .f32⟩
  | .hbm, ⟨1, _⟩ => ⟨S2x256x4876, .f32⟩
  | .hbm, ⟨2, _⟩ => ⟨S2x256x4876, .f32⟩
  | .hbm, ⟨3, _⟩ => ⟨S2x256x4876, .f32⟩
  | .hbm, ⟨4, _⟩ => ⟨S512x4876, .f32⟩
  | .hbm, ⟨5, _⟩ => ⟨S512x4876, .f32⟩
  | .hbm, ⟨6, _⟩ => ⟨S512x4876, .f32⟩
  | .hbm, ⟨7, _⟩ => ⟨S512x4876, .f32⟩
  | .hbm, ⟨8, _⟩ => ⟨S512x4876, .f32⟩
  | .hbm, ⟨9, _⟩ => ⟨S512x4876, .f32⟩
  | .hbm, ⟨10, _⟩ => ⟨S512x4876, .f32⟩
  | .hbm, ⟨11, _⟩ => ⟨S2x256x4876, .f32⟩
  | .hbm, ⟨12, _⟩ => ⟨S2x256x4876, .f32⟩
  | .hbm, ⟨13, _⟩ => ⟨S2x256x4876, .f32⟩
  | .local _ .vmem, ⟨0, _⟩ => ⟨S32x4876, .f32⟩
  | .local _ .vmem, ⟨1, _⟩ => ⟨S32x4876, .f32⟩
  | .local _ .vmem, ⟨2, _⟩ => ⟨S32x4876, .f32⟩
  | .local _ .vmem, ⟨3, _⟩ => ⟨S32x4876, .f32⟩
  | .local _ .vmem, ⟨4, _⟩ => ⟨S32x4876, .f32⟩
  | .local _ .vmem, ⟨5, _⟩ => ⟨S32x4876, .f32⟩
  | .local _ .vmem, ⟨6, _⟩ => ⟨S32x4876, .f32⟩
  | .local _ .vmem, ⟨7, _⟩ => ⟨S32x4876, .f32⟩
  | .local _ .vmem, ⟨8, _⟩ => ⟨S32x4876, .f32⟩
  | .local _ .vmem, ⟨9, _⟩ => ⟨S32x4876, .f32⟩
  | .local _ .vmem, ⟨10, _⟩ => ⟨S32x4876, .f32⟩
  | .local _ .vmem, ⟨11, _⟩ => ⟨S32x4876, .f32⟩
  | .local _ .vmem, ⟨12, _⟩ => ⟨S32x4876, .f32⟩
  | .local _ .vmem, ⟨13, _⟩ => ⟨S32x4876, .f32⟩
  | _, _ => ⟨S2x256x4876, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x4876 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4876 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4876 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4876 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4876 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x4876 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x4876 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamInRefIdeal.lean ====
abbrev S2x256x4876 : Shape := ⟨3, ![2, 256, 4876]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x4876, .f32⟩
  | .hbm, ⟨1, _⟩ => ⟨S2x256x4876, .f32⟩
  | .hbm, ⟨2, _⟩ => ⟨S2x256x4876, .f32⟩
  | .hbm, ⟨3, _⟩ => ⟨S2x256x4876, .f32⟩
  | .hbm, ⟨4, _⟩ => ⟨S_, .f32⟩
  | .hbm, ⟨5, _⟩ => ⟨S2x256x4876, .f32⟩
  | .hbm, ⟨6, _⟩ => ⟨S2x256x4876, .f32⟩
  | .hbm, ⟨7, _⟩ => ⟨S_, .f32⟩
  | .hbm, ⟨8, _⟩ => ⟨S2x256x4876, .f32⟩
  | .hbm, ⟨9, _⟩ => ⟨S2x256x4876, .f32⟩
  | .hbm, ⟨10, _⟩ => ⟨S2x256x4876, .f32⟩
  | .hbm, ⟨11, _⟩ => ⟨S_, .f32⟩
  | .hbm, ⟨12, _⟩ => ⟨S2x256x4876, .f32⟩
  | .hbm, ⟨13, _⟩ => ⟨S2x256x4876, .f32⟩
  | .hbm, ⟨14, _⟩ => ⟨S2x256x4876, .f32⟩
  | .hbm, ⟨15, _⟩ => ⟨S_, .f32⟩
  | .hbm, ⟨16, _⟩ => ⟨S2x256x4876, .f32⟩
  | .hbm, ⟨17, _⟩ => ⟨S2x256x4876, .f32⟩
  | .hbm, ⟨18, _⟩ => ⟨S2x256x4876, .f32⟩
  | .hbm, ⟨19, _⟩ => ⟨S_, .f32⟩
  | .hbm, ⟨20, _⟩ => ⟨S2x256x4876, .f32⟩
  | .hbm, ⟨21, _⟩ => ⟨S2x256x4876, .f32⟩
  | .hbm, ⟨22, _⟩ => ⟨S_, .f32⟩
  | .hbm, ⟨23, _⟩ => ⟨S2x256x4876, .f32⟩
  | .hbm, ⟨24, _⟩ => ⟨S2x256x4876, .f32⟩
  | .hbm, ⟨25, _⟩ => ⟨S2x256x4876, .f32⟩
  | .hbm, ⟨26, _⟩ => ⟨S_, .f32⟩
  | .hbm, ⟨27, _⟩ => ⟨S2x256x4876, .f32⟩
  | .hbm, ⟨28, _⟩ => ⟨S2x256x4876, .f32⟩
  | .hbm, ⟨29, _⟩ => ⟨S2x256x4876, .f32⟩
  | .hbm, ⟨30, _⟩ => ⟨S_, .f32⟩
  | .hbm, ⟨31, _⟩ => ⟨S2x256x4876, .f32⟩
  | .hbm, ⟨32, _⟩ => ⟨S2x256x4876, .f32⟩
  | .hbm, ⟨33, _⟩ => ⟨S2x256x4876, .f32⟩
  | .hbm, ⟨34, _⟩ => ⟨S_, .f32⟩
  | .hbm, ⟨35, _⟩ => ⟨S2x256x4876, .f32⟩
  | .hbm, ⟨36, _⟩ => ⟨S2x256x4876, .f32⟩
  | _, _ => ⟨S2x256x4876, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2x2048 : Shape := ⟨2, ![2, 2048]⟩
abbrev S2x4x288 : Shape := ⟨3, ![2, 4, 288]⟩
abbrev S2x6 : Shape := ⟨2, ![2, 6]⟩
abbrev S2x128 : Shape := ⟨2, ![2, 128]⟩
abbrev S2x4x128x128 : Shape := ⟨4, ![2, 4, 128, 128]⟩
abbrev S2x512 : Shape := ⟨2, ![2, 512]⟩
abbrev S2x3x1408 : Shape := ⟨3, ![2, 3, 1408]⟩
abbrev S2x11264 : Shape := ⟨2, ![2, 11264]⟩
abbrev S4096 : Shape := ⟨1, ![4096]⟩
abbrev S2304 : Shape := ⟨1, ![2304]⟩
abbrev S12 : Shape := ⟨1, ![12]⟩
abbrev S256 : Shape := ⟨1, ![256]⟩
abbrev S131072 : Shape := ⟨1, ![131072]⟩
abbrev S1024 : Shape := ⟨1, ![1024]⟩
abbrev S8448 : Shape := ⟨1, ![8448]⟩
abbrev S22528 : Shape := ⟨1, ![22528]⟩
abbrev S182052 : Shape := ⟨1, ![182052]⟩
abbrev S_ : Shape := ⟨0, ![]⟩
abbrev S196608 : Shape := ⟨1, ![196608]⟩
abbrev S1536x128 : Shape := ⟨2, ![1536, 128]⟩

abbrev nBuf : Space → Nat
  | .hbm => 208
  | .vmem => 7
  | .smem => 0
  | _ => 0

abbrev hbmTy0_0 (i : Nat) : BufTy := match i % 128 with
  | 0 => ⟨S2x2048, .f32⟩
  | 1 => ⟨S2x4x288, .f32⟩
  | 2 => ⟨S2x6, .f32⟩
  | 3 => ⟨S2x6, .f32⟩
  | 4 => ⟨S2x128, .f32⟩
  | 5 => ⟨S2x4x128x128, .f32⟩
  | 6 => ⟨S2x512, .f32⟩
  | 7 => ⟨S2x6, .f32⟩
  | 8 => ⟨S2x2048, .f32⟩
  | 9 => ⟨S2x2048, .f32⟩
  | 10 => ⟨S2x3x1408, .f32⟩
  | 11 => ⟨S2x11264, .f32⟩
  | 12 => ⟨S2x2048, .f32⟩
  | 13 => ⟨S2x2048, .f32⟩
  | 14 => ⟨S2x4x288, .f32⟩
  | 15 => ⟨S2x6, .f32⟩
  | 16 => ⟨S2x6, .f32⟩
  | 17 => ⟨S2x128, .f32⟩
  | 18 => ⟨S2x4x128x128, .f32⟩
  | 19 => ⟨S2x512, .f32⟩
  | 20 => ⟨S2x6, .f32⟩
  | 21 => ⟨S2x2048, .f32⟩
  | 22 => ⟨S2x2048, .f32⟩
  | 23 => ⟨S2x3x1408, .f32⟩
  | 24 => ⟨S2x11264, .f32⟩
  | 25 => ⟨S2x2048, .f32⟩
  | 26 => ⟨S2x2048, .f32⟩
  | 27 => ⟨S2x4x288, .f32⟩
  | 28 => ⟨S2x6, .f32⟩
  | 29 => ⟨S2x6, .f32⟩
  | 30 => ⟨S2x128, .f32⟩
  | 31 => ⟨S2x4x128x128, .f32⟩
  | 32 => ⟨S2x512, .f32⟩
  | 33 => ⟨S2x6, .f32⟩
  | 34 => ⟨S2x2048, .f32⟩
  | 35 => ⟨S2x2048, .f32⟩
  | 36 => ⟨S2x3x1408, .f32⟩
  | 37 => ⟨S2x11264, .f32⟩
  | 38 => ⟨S2x2048, .f32⟩
  | 39 => ⟨S2x2048, .f32⟩
  | 40 => ⟨S2x4x288, .f32⟩
  | 41 => ⟨S2x6, .f32⟩
  | 42 => ⟨S2x6, .f32⟩
  | 43 => ⟨S2x128, .f32⟩
  | 44 => ⟨S2x4x128x128, .f32⟩
  | 45 => ⟨S2x512, .f32⟩
  | 46 => ⟨S2x6, .f32⟩
  | 47 => ⟨S2x2048, .f32⟩
  | 48 => ⟨S2x2048, .f32⟩
  | 49 => ⟨S2x3x1408, .f32⟩
  | 50 => ⟨S2x11264, .f32⟩
  | 51 => ⟨S2x2048, .f32⟩
  | 52 => ⟨S4096, .f32⟩
  | 53 => ⟨S2304, .f32⟩
  | 54 => ⟨S12, .f32⟩
  | 55 => ⟨S12, .f32⟩
  | 56 => ⟨S256, .f32⟩
  | 57 => ⟨S131072, .f32⟩
  | 58 => ⟨S1024, .f32⟩
  | 59 => ⟨S12, .f32⟩
  | 60 => ⟨S4096, .f32⟩
  | 61 => ⟨S4096, .f32⟩
  | 62 => ⟨S8448, .f32⟩
  | 63 => ⟨S22528, .f32⟩
  | 64 => ⟨S4096, .f32⟩
  | 65 => ⟨S182052, .f32⟩
  | 66 => ⟨S_, .i32⟩
  | 67 => ⟨S_, .f32⟩
  | 68 => ⟨S196608, .f32⟩
  | 69 => ⟨S1536x128, .f32⟩
  | 70 => ⟨S4096, .f32⟩
  | 71 => ⟨S2304, .f32⟩
  | 72 => ⟨S12, .f32⟩
  | 73 => ⟨S12, .f32⟩
  | 74 => ⟨S256, .f32⟩
  | 75 => ⟨S131072, .f32⟩
  | 76 => ⟨S1024, .f32⟩
  | 77 => ⟨S12, .f32⟩
  | 78 => ⟨S4096, .f32⟩
  | 79 => ⟨S4096, .f32⟩
  | 80 => ⟨S8448, .f32⟩
  | 81 => ⟨S22528, .f32⟩
  | 82 => ⟨S4096, .f32⟩
  | 83 => ⟨S182052, .f32⟩
  | 84 => ⟨S_, .i32⟩
  | 85 => ⟨S_, .f32⟩
  | 86 => ⟨S196608, .f32⟩
  | 87 => ⟨S1536x128, .f32⟩
  | 88 => ⟨S4096, .f32⟩
  | 89 => ⟨S2304, .f32⟩
  | 90 => ⟨S12, .f32⟩
  | 91 => ⟨S12, .f32⟩
  | 92 => ⟨S256, .f32⟩
  | 93 => ⟨S131072, .f32⟩
  | 94 => ⟨S1024, .f32⟩
  | 95 => ⟨S12, .f32⟩
  | 96 => ⟨S4096, .f32⟩
  | 97 => ⟨S4096, .f32⟩
  | 98 => ⟨S8448, .f32⟩
  | 99 => ⟨S22528, .f32⟩
  | 100 => ⟨S4096, .f32⟩
  | 101 => ⟨S182052, .f32⟩
  | 102 => ⟨S_, .i32⟩
  | 103 => ⟨S_, .f32⟩
  | 104 => ⟨S196608, .f32⟩
  | 105 => ⟨S1536x128, .f32⟩
  | 106 => ⟨S4096, .f32⟩
  | 107 => ⟨S2304, .f32⟩
  | 108 => ⟨S12, .f32⟩
  | 109 => ⟨S12, .f32⟩
  | 110 => ⟨S256, .f32⟩
  | 111 => ⟨S131072, .f32⟩
  | 112 => ⟨S1024, .f32⟩
  | 113 => ⟨S12, .f32⟩
  | 114 => ⟨S4096, .f32⟩
  | 115 => ⟨S4096, .f32⟩
  | 116 => ⟨S8448, .f32⟩
  | 117 => ⟨S22528, .f32⟩
  | 118 => ⟨S4096, .f32⟩
  | 119 => ⟨S182052, .f32⟩
  | 120 => ⟨S_, .i32⟩
  | 121 => ⟨S_, .f32⟩
  | 122 => ⟨S196608, .f32⟩
  | 123 => ⟨S1536x128, .f32⟩
  | 124 => ⟨S1536x128, .f32⟩
  | 125 => ⟨S1536x128, .f32⟩
  | 126 => ⟨S1536x128, .f32⟩
  | 127 => ⟨S196608, .f32⟩
  | _ => ⟨S2x2048, .f32⟩

abbrev hbmTy0_1 (i : Nat) : BufTy := match i % 128 with
  | 0 => ⟨S4096, .f32⟩
  | 1 => ⟨S2x2048, .f32⟩
  | 2 => ⟨S2304, .f32⟩
  | 3 => ⟨S2x4x288, .f32⟩
  | 4 => ⟨S12, .f32⟩
  | 5 => ⟨S2x6, .f32⟩
  | 6 => ⟨S12, .f32⟩
  | 7 => ⟨S2x6, .f32⟩
  | 8 => ⟨S256, .f32⟩
  | 9 => ⟨S2x128, .f32⟩
  | 10 => ⟨S131072, .f32⟩
  | 11 => ⟨S2x4x128x128, .f32⟩
  | 12 => ⟨S1024, .f32⟩
  | 13 => ⟨S2x512, .f32⟩
  | 14 => ⟨S12, .f32⟩
  | 15 => ⟨S2x6, .f32⟩
  | 16 => ⟨S4096, .f32⟩
  | 17 => ⟨S2x2048, .f32⟩
  | 18 => ⟨S4096, .f32⟩
  | 19 => ⟨S2x2048, .f32⟩
  | 20 => ⟨S8448, .f32⟩
  | 21 => ⟨S2x3x1408, .f32⟩
  | 22 => ⟨S22528, .f32⟩
  | 23 => ⟨S2x11264, .f32⟩
  | 24 => ⟨S4096, .f32⟩
  | 25 => ⟨S2x2048, .f32⟩
  | 26 => ⟨S196608, .f32⟩
  | 27 => ⟨S4096, .f32⟩
  | 28 => ⟨S2x2048, .f32⟩
  | 29 => ⟨S2304, .f32⟩
  | 30 => ⟨S2x4x288, .f32⟩
  | 31 => ⟨S12, .f32⟩
  | 32 => ⟨S2x6, .f32⟩
  | 33 => ⟨S12, .f32⟩
  | 34 => ⟨S2x6, .f32⟩
  | 35 => ⟨S256, .f32⟩
  | 36 => ⟨S2x128, .f32⟩
  | 37 => ⟨S131072, .f32⟩
  | 38 => ⟨S2x4x128x128, .f32⟩
  | 39 => ⟨S1024, .f32⟩
  | 40 => ⟨S2x512, .f32⟩
  | 41 => ⟨S12, .f32⟩
  | 42 => ⟨S2x6, .f32⟩
  | 43 => ⟨S4096, .f32⟩
  | 44 => ⟨S2x2048, .f32⟩
  | 45 => ⟨S4096, .f32⟩
  | 46 => ⟨S2x2048, .f32⟩
  | 47 => ⟨S8448, .f32⟩
  | 48 => ⟨S2x3x1408, .f32⟩
  | 49 => ⟨S22528, .f32⟩
  | 50 => ⟨S2x11264, .f32⟩
  | 51 => ⟨S4096, .f32⟩
  | 52 => ⟨S2x2048, .f32⟩
  | 53 => ⟨S196608, .f32⟩
  | 54 => ⟨S4096, .f32⟩
  | 55 => ⟨S2x2048, .f32⟩
  | 56 => ⟨S2304, .f32⟩
  | 57 => ⟨S2x4x288, .f32⟩
  | 58 => ⟨S12, .f32⟩
  | 59 => ⟨S2x6, .f32⟩
  | 60 => ⟨S12, .f32⟩
  | 61 => ⟨S2x6, .f32⟩
  | 62 => ⟨S256, .f32⟩
  | 63 => ⟨S2x128, .f32⟩
  | 64 => ⟨S131072, .f32⟩
  | 65 => ⟨S2x4x128x128, .f32⟩
  | 66 => ⟨S1024, .f32⟩
  | 67 => ⟨S2x512, .f32⟩
  | 68 => ⟨S12, .f32⟩
  | 69 => ⟨S2x6, .f32⟩
  | 70 => ⟨S4096, .f32⟩
  | 71 => ⟨S2x2048, .f32⟩
  | 72 => ⟨S4096, .f32⟩
  | 73 => ⟨S2x2048, .f32⟩
  | 74 => ⟨S8448, .f32⟩
  | 75 => ⟨S2x3x1408, .f32⟩
  | 76 => ⟨S22528, .f32⟩
  | 77 => ⟨S2x11264, .f32⟩
  | 78 => ⟨S4096, .f32⟩
  | 79 => ⟨S2x2048, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c : Ref sig .tc := ⟨.hbm, 66, rfl⟩
abbrev main_call0_v0 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_c_0 : Ref sig .tc := ⟨.hbm, 84, rfl⟩
abbrev main_call1_v0 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_1 : Ref sig .tc := ⟨.hbm, 102, rfl⟩
abbrev main_call2_v0 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_c_2 : Ref sig .tc := ⟨.hbm, 120, rfl⟩
abbrev main_call3_v0 : Ref sig .tc := ⟨.hbm, 121, rfl⟩
abbrev main_v62 : Ref sig .tc := ⟨.hbm, 122, rfl⟩
abbrev main_v63 : Ref sig .tc := ⟨.hbm, 123, rfl⟩
abbrev main_v64_0 : Ref sig .tc := ⟨.hbm, 124, rfl⟩
abbrev main_v64_1 : Ref sig .tc := ⟨.hbm, 125, rfl⟩
abbrev main_v64_2 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1536x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1536x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSmallRefIdeal.lean ====
abbrev S2x2048 : Shape := ⟨2, ![2, 2048]⟩
abbrev S2x4x288 : Shape := ⟨3, ![2, 4, 288]⟩
abbrev S2x6 : Shape := ⟨2, ![2, 6]⟩
abbrev S2x128 : Shape := ⟨2, ![2, 128]⟩
abbrev S2x4x128x128 : Shape := ⟨4, ![2, 4, 128, 128]⟩
abbrev S2x512 : Shape := ⟨2, ![2, 512]⟩
abbrev S2x3x1408 : Shape := ⟨3, ![2, 3, 1408]⟩
abbrev S2x11264 : Shape := ⟨2, ![2, 11264]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S2x2048, .f32⟩
  | 1 => ⟨S2x4x288, .f32⟩
  | 2 => ⟨S2x6, .f32⟩
  | 3 => ⟨S2x6, .f32⟩
  | 4 => ⟨S2x128, .f32⟩
  | 5 => ⟨S2x4x128x128, .f32⟩
  | 6 => ⟨S2x512, .f32⟩
  | 7 => ⟨S2x6, .f32⟩
  | 8 => ⟨S2x2048, .f32⟩
  | 9 => ⟨S2x2048, .f32⟩
  | 10 => ⟨S2x3x1408, .f32⟩
  | 11 => ⟨S2x11264, .f32⟩
  | 12 => ⟨S2x2048, .f32⟩
  | 13 => ⟨S2x2048, .f32⟩
  | 14 => ⟨S2x4x288, .f32⟩
  | 15 => ⟨S2x6, .f32⟩
  | 16 => ⟨S2x6, .f32⟩
  | 17 => ⟨S2x128, .f32⟩
  | 18 => ⟨S2x4x128x128, .f32⟩
  | 19 => ⟨S2x512, .f32⟩
  | 20 => ⟨S2x6, .f32⟩
  | 21 => ⟨S2x2048, .f32⟩
  | 22 => ⟨S2x2048, .f32⟩
  | 23 => ⟨S2x3x1408, .f32⟩
  | 24 => ⟨S2x11264, .f32⟩
  | 25 => ⟨S2x2048, .f32⟩
  | 26 => ⟨S2x2048, .f32⟩
  | 27 => ⟨S2x4x288, .f32⟩
  | 28 => ⟨S2x6, .f32⟩
  | 29 => ⟨S2x6, .f32⟩
  | 30 => ⟨S2x128, .f32⟩
  | 31 => ⟨S2x4x128x128, .f32⟩
  | 32 => ⟨S2x512, .f32⟩
  | 33 => ⟨S2x6, .f32⟩
  | 34 => ⟨S2x2048, .f32⟩
  | 35 => ⟨S2x2048, .f32⟩
  | 36 => ⟨S2x3x1408, .f32⟩
  | 37 => ⟨S2x11264, .f32⟩
  | 38 => ⟨S2x2048, .f32⟩
  | 39 => ⟨S2x2048, .f32⟩
  | 40 => ⟨S2x4x288, .f32⟩
  | 41 => ⟨S2x6, .f32⟩
  | 42 => ⟨S2x6, .f32⟩
  | 43 => ⟨S2x128, .f32⟩
  | 44 => ⟨S2x4x128x128, .f32⟩
  | 45 => ⟨S2x512, .f32⟩
  | 46 => ⟨S2x6, .f32⟩
  | 47 => ⟨S2x2048, .f32⟩
  | 48 => ⟨S2x2048, .f32⟩
  | 49 => ⟨S2x3x1408, .f32⟩
  | 50 => ⟨S2x11264, .f32⟩
  | 51 => ⟨S2x2048, .f32⟩
  | 52 => ⟨S_, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S_, .f32⟩
  | 86 => ⟨S2x4x288, .f32⟩
  | 87 => ⟨S2x4x288, .f32⟩
  | 88 => ⟨S_, .f32⟩
  | 89 => ⟨S2x4x288, .f32⟩
  | 90 => ⟨S2x4x288, .f32⟩
  | 91 => ⟨S2x4x288, .f32⟩
  | 92 => ⟨S_, .f32⟩
  | 93 => ⟨S2x4x288, .f32⟩
  | 94 => ⟨S2x4x288, .f32⟩
  | 95 => ⟨S2x4x288, .f32⟩
  | 96 => ⟨S_, .f32⟩
  | 97 => ⟨S2x4x288, .f32⟩
  | 98 => ⟨S2x4x288, .f32⟩
  | 99 => ⟨S2x4x288, .f32⟩
  | 100 => ⟨S_, .f32⟩
  | 101 => ⟨S2x4x288, .f32⟩
  | 102 => ⟨S2x4x288, .f32⟩
  | 103 => ⟨S_, .f32⟩
  | 104 => ⟨S2x4x288, .f32⟩
  | 105 => ⟨S2x4x288, .f32⟩
  | 106 => ⟨S2x4x288, .f32⟩
  | 107 => ⟨S_, .f32⟩
  | 108 => ⟨S2x4x288, .f32⟩
  | 109 => ⟨S2x4x288, .f32⟩
  | 110 => ⟨S2x4x288, .f32⟩
  | 111 => ⟨S_, .f32⟩
  | 112 => ⟨S2x4x288, .f32⟩
  | 113 => ⟨S2x4x288, .f32⟩
  | 114 => ⟨S2x4x288, .f32⟩
  | 115 => ⟨S_, .f32⟩
  | 116 => ⟨S2x4x288, .f32⟩
  | 117 => ⟨S2x4x288, .f32⟩
  | 118 => ⟨S_, .f32⟩
  | 119 => ⟨S2x6, .f32⟩
  | 120 => ⟨S2x6, .f32⟩
  | 121 => ⟨S_, .f32⟩
  | 122 => ⟨S2x6, .f32⟩
  | 123 => ⟨S2x6, .f32⟩
  | 124 => ⟨S2x6, .f32⟩
  | 125 => ⟨S_, .f32⟩
  | 126 => ⟨S2x6, .f32⟩
  | 127 => ⟨S2x6, .f32⟩
  | _ => ⟨S2x2048, .f32⟩

abbrev hbmTy0_1 (i : Nat) : BufTy := match i % 128 with
  | 0 => ⟨S2x6, .f32⟩
  | 1 => ⟨S_, .f32⟩
  | 2 => ⟨S2x6, .f32⟩
  | 3 => ⟨S2x6, .f32⟩
  | 4 => ⟨S2x6, .f32⟩
  | 5 => ⟨S_, .f32⟩
  | 6 => ⟨S2x6, .f32⟩
  | 7 => ⟨S2x6, .f32⟩
  | 8 => ⟨S_, .f32⟩
  | 9 => ⟨S2x6, .f32⟩
  | 10 => ⟨S2x6, .f32⟩
  | 11 => ⟨S2x6, .f32⟩
  | 12 => ⟨S_, .f32⟩
  | 13 => ⟨S2x6, .f32⟩
  | 14 => ⟨S2x6, .f32⟩
  | 15 => ⟨S2x6, .f32⟩
  | 16 => ⟨S_, .f32⟩
  | 17 => ⟨S2x6, .f32⟩
  | 18 => ⟨S2x6, .f32⟩
  | 19 => ⟨S2x6, .f32⟩
  | 20 => ⟨S_, .f32⟩
  | 21 => ⟨S2x6, .f32⟩
  | 22 => ⟨S2x6, .f32⟩
  | 23 => ⟨S_, .f32⟩
  | 24 => ⟨S2x6, .f32⟩
  | 25 => ⟨S2x6, .f32⟩
  | 26 => ⟨S_, .f32⟩
  | 27 => ⟨S2x6, .f32⟩
  | 28 => ⟨S2x6, .f32⟩
  | 29 => ⟨S2x6, .f32⟩
  | 30 => ⟨S_, .f32⟩
  | 31 => ⟨S2x6, .f32⟩
  | 32 => ⟨S2x6, .f32⟩
  | 33 => ⟨S2x6, .f32⟩
  | 34 => ⟨S_, .f32⟩
  | 35 => ⟨S2x6, .f32⟩
  | 36 => ⟨S2x6, .f32⟩
  | 37 => ⟨S2x6, .f32⟩
  | 38 => ⟨S_, .f32⟩
  | 39 => ⟨S2x6, .f32⟩
  | 40 => ⟨S2x6, .f32⟩
  | 41 => ⟨S_, .f32⟩
  | 42 => ⟨S2x6, .f32⟩
  | 43 => ⟨S2x6, .f32⟩
  | 44 => ⟨S2x6, .f32⟩
  | 45 => ⟨S_, .f32⟩
  | 46 => ⟨S2x6, .f32⟩
  | 47 => ⟨S2x6, .f32⟩
  | 48 => ⟨S2x6, .f32⟩
  | 49 => ⟨S_, .f32⟩
  | 50 => ⟨S2x6, .f32⟩
  | 51 => ⟨S2x6, .f32⟩
  | 52 => ⟨S2x6, .f32⟩
  | 53 => ⟨S_, .f32⟩
  | 54 => ⟨S2x6, .f32⟩
  | 55 => ⟨S2x6, .f32⟩
  | 56 => ⟨S_, .f32⟩
  | 57 => ⟨S2x128, .f32⟩
  | 58 => ⟨S2x128, .f32⟩
  | 59 => ⟨S_, .f32⟩
  | 60 => ⟨S2x128, .f32⟩
  | 61 => ⟨S2x128, .f32⟩
  | 62 => ⟨S2x128, .f32⟩
  | 63 => ⟨S_, .f32⟩
  | 64 => ⟨S2x128, .f32⟩
  | 65 => ⟨S2x128, .f32⟩
  | 66 => ⟨S2x128, .f32⟩
  | 67 => ⟨S_, .f32⟩
  | 68 => ⟨S2x128, .f32⟩
  | 69 => ⟨S2x128, .f32⟩
  | 70 => ⟨S2x128, .f32⟩
  | 71 => ⟨S_, .f32⟩
  | 72 => ⟨S2x128, .f32⟩
  | 73 => ⟨S2x128, .f32⟩
  | 74 => ⟨S_, .f32⟩
  | 75 => ⟨S2x128, .f32⟩
  | 76 => ⟨S2x128, .f32⟩
  | 77 => ⟨S2x128, .f32⟩
  | 78 => ⟨S_, .f32⟩
  | 79 => ⟨S2x128, .f32⟩
  | 80 => ⟨S2x128, .f32⟩
  | 81 => ⟨S2x128, .f32⟩
  | 82 => ⟨S_, .f32⟩
  | 83 => ⟨S2x128, .f32⟩
  | 84 => ⟨S2x128, .f32⟩
  | 85 => ⟨S2x128, .f32⟩
  | 86 => ⟨S_, .f32⟩
  | 87 => ⟨S2x128, .f32⟩
  | 88 => ⟨S2x128, .f32⟩
  | 89 => ⟨S_, .f32⟩
  | 90 => ⟨S2x4x128x128, .f32⟩
  | 91 => ⟨S2x4x128x128, .f32⟩
  | 92 => ⟨S_, .f32⟩
  | 93 => ⟨S2x4x128x128, .f32⟩
  | 94 => ⟨S2x4x128x128, .f32⟩
  | 95 => ⟨S2x4x128x128, .f32⟩
  | 96 => ⟨S_, .f32⟩
  | 97 => ⟨S2x4x128x128, .f32⟩
  | 98 => ⟨S2x4x128x128, .f32⟩
  | 99 => ⟨S2x4x128x128, .f32⟩
  | 100 => ⟨S_, .f32⟩
  | 101 => ⟨S2x4x128x128, .f32⟩
  | 102 => ⟨S2x4x128x128, .f32⟩
  | 103 => ⟨S2x4x128x128, .f32⟩
  | 104 => ⟨S_, .f32⟩
  | 105 => ⟨S2x4x128x128, .f32⟩
  | 106 => ⟨S2x4x128x128, .f32⟩
  | 107 => ⟨S_, .f32⟩
  | 108 => ⟨S2x4x128x128, .f32⟩
  | 109 => ⟨S2x4x128x128, .f32⟩
  | 110 => ⟨S2x4x128x128, .f32⟩
  | 111 => ⟨S_, .f32⟩
  | 112 => ⟨S2x4x128x128, .f32⟩
  | 113 => ⟨S2x4x128x128, .f32⟩
  | 114 => ⟨S2x4x128x128, .f32⟩
  | 115 => ⟨S_, .f32⟩
  | 116 => ⟨S2x4x128x128, .f32⟩
  | 117 => ⟨S2x4x128x128, .f32⟩
  | 118 => ⟨S2x4x128x128, .f32⟩
  | 119 => ⟨S_, .f32⟩
  | 120 => ⟨S2x4x128x128, .f32⟩
  | 121 => ⟨S2x4x128x128, .f32⟩
  | 122 => ⟨S_, .f32⟩
  | 123 => ⟨S2x512, .f32⟩
  | 124 => ⟨S2x512, .f32⟩
  | 125 => ⟨S_, .f32⟩
  | 126 => ⟨S2x512, .f32⟩
  | 127 => ⟨S2x512, .f32⟩
  | _ => ⟨S2x2048, .f32⟩

abbrev hbmTy0_2 (i : Nat) : BufTy := match i % 128 with
  | 0 => ⟨S2x512, .f32⟩
  | 1 => ⟨S_, .f32⟩
  | 2 => ⟨S2x512, .f32⟩
  | 3 => ⟨S2x512, .f32⟩
  | 4 => ⟨S2x512, .f32⟩
  | 5 => ⟨S_, .f32⟩
  | 6 => ⟨S2x512, .f32⟩
  | 7 => ⟨S2x512, .f32⟩
  | 8 => ⟨S2x512, .f32⟩
  | 9 => ⟨S_, .f32⟩
  | 10 => ⟨S2x512, .f32⟩
  | 11 => ⟨S2x512, .f32⟩
  | 12 => ⟨S_, .f32⟩
  | 13 => ⟨S2x512, .f32⟩
  | 14 => ⟨S2x512, .f32⟩
  | 15 => ⟨S2x512, .f32⟩
  | 16 => ⟨S_, .f32⟩
  | 17 => ⟨S2x512, .f32⟩
  | 18 => ⟨S2x512, .f32⟩
  | 19 => ⟨S2x512, .f32⟩
  | 20 => ⟨S_, .f32⟩
  | 21 => ⟨S2x512, .f32⟩
  | 22 => ⟨S2x512, .f32⟩
  | 23 => ⟨S2x512, .f32⟩
  | 24 => ⟨S_, .f32⟩
  | 25 => ⟨S2x512, .f32⟩
  | 26 => ⟨S2x512, .f32⟩
  | 27 => ⟨S_, .f32⟩
  | 28 => ⟨S2x6, .f32⟩
  | 29 => ⟨S2x6, .f32⟩
  | 30 => ⟨S_, .f32⟩
  | 31 => ⟨S2x6, .f32⟩
  | 32 => ⟨S2x6, .f32⟩
  | 33 => ⟨S2x6, .f32⟩
  | 34 => ⟨S_, .f32⟩
  | 35 => ⟨S2x6, .f32⟩
  | 36 => ⟨S2x6, .f32⟩
  | 37 => ⟨S2x6, .f32⟩
  | 38 => ⟨S_, .f32⟩
  | 39 => ⟨S2x6, .f32⟩
  | 40 => ⟨S2x6, .f32⟩
  | 41 => ⟨S2x6, .f32⟩
  | 42 => ⟨S_, .f32⟩
  | 43 => ⟨S2x6, .f32⟩
  | 44 => ⟨S2x6, .f32⟩
  | 45 => ⟨S_, .f32⟩
  | 46 => ⟨S2x6, .f32⟩
  | 47 => ⟨S2x6, .f32⟩
  | 48 => ⟨S2x6, .f32⟩
  | 49 => ⟨S_, .f32⟩
  | 50 => ⟨S2x6, .f32⟩
  | 51 => ⟨S2x6, .f32⟩
  | 52 => ⟨S2x6, .f32⟩
  | 53 => ⟨S_, .f32⟩
  | 54 => ⟨S2x6, .f32⟩
  | 55 => ⟨S2x6, .f32⟩
  | 56 => ⟨S2x6, .f32⟩
  | 57 => ⟨S_, .f32⟩
  | 58 => ⟨S2x6, .f32⟩
  | 59 => ⟨S2x6, .f32⟩
  | 60 => ⟨S_, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S_, .f32⟩
  | 94 => ⟨S2x2048, .f32⟩
  | 95 => ⟨S2x2048, .f32⟩
  | 96 => ⟨S_, .f32⟩
  | 97 => ⟨S2x2048, .f32⟩
  | 98 => ⟨S2x2048, .f32⟩
  | 99 => ⟨S2x2048, .f32⟩
  | 100 => ⟨S_, .f32⟩
  | 101 => ⟨S2x2048, .f32⟩
  | 102 => ⟨S2x2048, .f32⟩
  | 103 => ⟨S2x2048, .f32⟩
  | 104 => ⟨S_, .f32⟩
  | 105 => ⟨S2x2048, .f32⟩
  | 106 => ⟨S2x2048, .f32⟩
  | 107 => ⟨S2x2048, .f32⟩
  | 108 => ⟨S_, .f32⟩
  | 109 => ⟨S2x2048, .f32⟩
  | 110 => ⟨S2x2048, .f32⟩
  | 111 => ⟨S_, .f32⟩
  | 112 => ⟨S2x2048, .f32⟩
  | 113 => ⟨S2x2048, .f32⟩
  | 114 => ⟨S2x2048, .f32⟩
  | 115 => ⟨S_, .f32⟩
  | 116 => ⟨S2x2048, .f32⟩
  | 117 => ⟨S2x2048, .f32⟩
  | 118 => ⟨S2x2048, .f32⟩
  | 119 => ⟨S_, .f32⟩
  | 120 => ⟨S2x2048, .f32⟩
  | 121 => ⟨S2x2048, .f32⟩
  | 122 => ⟨S2x2048, .f32⟩
  | 123 => ⟨S_, .f32⟩
  | 124 => ⟨S2x2048, .f32⟩
  | 125 => ⟨S2x2048, .f32⟩
  | 126 => ⟨S_, .f32⟩
  | 127 => ⟨S2x3x1408, .f32⟩
  | _ => ⟨S2x2048, .f32⟩

abbrev hbmTy0_3 (i : Nat) : BufTy := match i % 128 with
  | 0 => ⟨S2x3x1408, .f32⟩
  | 1 => ⟨S_, .f32⟩
  | 2 => ⟨S2x3x1408, .f32⟩
  | 3 => ⟨S2x3x1408, .f32⟩
  | 4 => ⟨S2x3x1408, .f32⟩
  | 5 => ⟨S_, .f32⟩
  | 6 => ⟨S2x3x1408, .f32⟩
  | 7 => ⟨S2x3x1408, .f32⟩
  | 8 => ⟨S2x3x1408, .f32⟩
  | 9 => ⟨S_, .f32⟩
  | 10 => ⟨S2x3x1408, .f32⟩
  | 11 => ⟨S2x3x1408, .f32⟩
  | 12 => ⟨S2x3x1408, .f32⟩
  | 13 => ⟨S_, .f32⟩
  | 14 => ⟨S2x3x1408, .f32⟩
  | 15 => ⟨S2x3x1408, .f32⟩
  | 16 => ⟨S_, .f32⟩
  | 17 => ⟨S2x3x1408, .f32⟩
  | 18 => ⟨S2x3x1408, .f32⟩
  | 19 => ⟨S2x3x1408, .f32⟩
  | 20 => ⟨S_, .f32⟩
  | 21 => ⟨S2x3x1408, .f32⟩
  | 22 => ⟨S2x3x1408, .f32⟩
  | 23 => ⟨S2x3x1408, .f32⟩
  | 24 => ⟨S_, .f32⟩
  | 25 => ⟨S2x3x1408, .f32⟩
  | 26 => ⟨S2x3x1408, .f32⟩
  | 27 => ⟨S2x3x1408, .f32⟩
  | 28 => ⟨S_, .f32⟩
  | 29 => ⟨S2x3x1408, .f32⟩
  | 30 => ⟨S2x3x1408, .f32⟩
  | 31 => ⟨S_, .f32⟩
  | 32 => ⟨S2x11264, .f32⟩
  | 33 => ⟨S2x11264, .f32⟩
  | 34 => ⟨S_, .f32⟩
  | 35 => ⟨S2x11264, .f32⟩
  | 36 => ⟨S2x11264, .f32⟩
  | 37 => ⟨S2x11264, .f32⟩
  | 38 => ⟨S_, .f32⟩
  | 39 => ⟨S2x11264, .f32⟩
  | 40 => ⟨S2x11264, .f32⟩
  | 41 => ⟨S2x11264, .f32⟩
  | 42 => ⟨S_, .f32⟩
  | 43 => ⟨S2x11264, .f32⟩
  | 44 => ⟨S2x11264, .f32⟩
  | 45 => ⟨S2x11264, .f32⟩
  | 46 => ⟨S_, .f32⟩
  | 47 => ⟨S2x11264, .f32⟩
  | 48 => ⟨S2x11264, .f32⟩
  | 49 => ⟨S_, .f32⟩
  | 50 => ⟨S2x11264, .f32⟩
  | 51 => ⟨S2x11264, .f32⟩
  | 52 => ⟨S2x11264, .f32⟩
  | 53 => ⟨S_, .f32⟩
  | 54 => ⟨S2x11264, .f32⟩
  | 55 => ⟨S2x11264, .f32⟩
  | 56 => ⟨S2x11264, .f32⟩
  | 57 => ⟨S_, .f32⟩
  | 58 => ⟨S2x11264, .f32⟩
  | 59 => ⟨S2x11264, .f32⟩
  | 60 => ⟨S2x11264, .f32⟩
  | 61 => ⟨S_, .f32⟩
  | 62 => ⟨S2x11264, .f32⟩
  | 63 => ⟨S2x11264, .f32⟩
  | 64 => ⟨S_, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S2x2048, .f32⟩
  | 75 => ⟨S_, .f32⟩
  | 76 => ⟨S2x2048, .f32⟩
  | 77 => ⟨S2x2048, .f32⟩
  | 78 => ⟨S2x2048, .f32⟩
  | 79 => ⟨S_, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S2x2048, .f32⟩
  | 90 => ⟨S_, .f32⟩
  | 91 => ⟨S2x2048, .f32⟩
  | 92 => ⟨S2x2048, .f32⟩
  | 93 => ⟨S2x2048, .f32⟩
  | 94 => ⟨S_, .f32⟩
  | 95 => ⟨S2x2048, .f32⟩
  | 96 => ⟨S2x2048, .f32⟩
  | _ => ⟨S2x2048, .f32⟩

abbrev hbmTy (i : Nat) : BufTy := match i / 128 with
  | 0 => hbmTy0_0 i
  | 1 => hbmTy0_1 i
  | 2 => hbmTy0_2 i
  | 3 => hbmTy0_3 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== GradX.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GradXRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== SumSmall.lean ====
abbrev S8x3072x128 : Shape := ⟨3, ![8, 3072, 128]⟩
abbrev S3072x128 : Shape := ⟨2, ![3072, 128]⟩
abbrev S1x3072x128 : Shape := ⟨3, ![1, 3072, 128]⟩
abbrev S393216 : Shape := ⟨1, ![393216]⟩
abbrev S2048 : Shape := ⟨1, ![2048]⟩
abbrev S1x2048 : Shape := ⟨2, ![1, 2048]⟩
abbrev S18432 : Shape := ⟨1, ![18432]⟩
abbrev S8x2304 : Shape := ⟨2, ![8, 2304]⟩
abbrev S1024 : Shape := ⟨1, ![1024]⟩
abbrev S8x128 : Shape := ⟨2, ![8, 128]⟩
abbrev S65536 : Shape := ⟨1, ![65536]⟩
abbrev S4x128x128 : Shape := ⟨3, ![4, 128, 128]⟩
abbrev S512 : Shape := ⟨1, ![512]⟩
abbrev S1x512 : Shape := ⟨2, ![1, 512]⟩
abbrev S128 : Shape := ⟨1, ![128]⟩
abbrev S1x128 : Shape := ⟨2, ![1, 128]⟩
abbrev S90112 : Shape := ⟨1, ![90112]⟩
abbrev S2x4x8x1408 : Shape := ⟨4, ![2, 4, 8, 1408]⟩
abbrev S1x1 : Shape := ⟨2, ![1, 1]⟩
abbrev S_ : Shape := ⟨0, ![]⟩
abbrev S2x2048 : Shape := ⟨2, ![2, 2048]⟩
abbrev S4x2304 : Shape := ⟨2, ![4, 2304]⟩
abbrev S1x4x2304 : Shape := ⟨3, ![1, 4, 2304]⟩
abbrev S2x4x2304 : Shape := ⟨3, ![2, 4, 2304]⟩
abbrev S1x6 : Shape := ⟨2, ![1, 6]⟩
abbrev S6 : Shape := ⟨1, ![6]⟩
abbrev S2x6 : Shape := ⟨2, ![2, 6]⟩
abbrev S2x128 : Shape := ⟨2, ![2, 128]⟩
abbrev S1x4x128x128 : Shape := ⟨4, ![1, 4, 128, 128]⟩
abbrev S2x4x128x128 : Shape := ⟨4, ![2, 4, 128, 128]⟩
abbrev S2x512 : Shape := ⟨2, ![2, 512]⟩
abbrev S8x8x1408 : Shape := ⟨3, ![8, 8, 1408]⟩
abbrev S1x8x8x1408 : Shape := ⟨4, ![1, 8, 8, 1408]⟩
abbrev S2x8x8x1408 : Shape := ⟨4, ![2, 8, 8, 1408]⟩
abbrev S2x8x3x1408 : Shape := ⟨4, ![2, 8, 3, 1408]⟩
abbrev S2x8x1x1408 : Shape := ⟨4, ![2, 8, 1, 1408]⟩
abbrev S2x8x1408 : Shape := ⟨3, ![2, 8, 1408]⟩
abbrev S2x11264 : Shape := ⟨2, ![2, 11264]⟩

abbrev nBuf : Space → Nat
  | .hbm => 117
  | .vmem => 2
  | .smem => 0
  | _ => 0

abbrev bufTy : (tb : Table) → Fin (tcTables nBuf tb) → BufTy
  | .hbm, ⟨0, _⟩ => ⟨S8x3072x128, .f32⟩
  | .hbm, ⟨1, _⟩ => ⟨S3072x128, .f32⟩
  | .hbm, ⟨2, _⟩ => ⟨S393216, .f32⟩
  | .hbm, ⟨3, _⟩ => ⟨S2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S18432, .f32⟩
  | .hbm, ⟨12, _⟩ => ⟨S8x2304, .f32⟩
  | .hbm, ⟨13, _⟩ => ⟨S1024, .f32⟩
  | .hbm, ⟨14, _⟩ => ⟨S8x128, .f32⟩
  | .hbm, ⟨15, _⟩ => ⟨S65536, .f32⟩
  | .hbm, ⟨16, _⟩ => ⟨S4x128x128, .f32⟩
  | .hbm, ⟨17, _⟩ => ⟨S512, .f32⟩
  | .hbm, ⟨18, _⟩ => ⟨S1x512, .f32⟩
  | .hbm, ⟨19, _⟩ => ⟨S128, .f32⟩
  | .hbm, ⟨20, _⟩ => ⟨S1x128, .f32⟩
  | .hbm, ⟨21, _⟩ => ⟨S90112, .f32⟩
  | .hbm, ⟨22, _⟩ => ⟨S2x4x8x1408, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S18432, .f32⟩
  | .hbm, ⟨32, _⟩ => ⟨S8x2304, .f32⟩
  | .hbm, ⟨33, _⟩ => ⟨S1024, .f32⟩
  | .hbm, ⟨34, _⟩ => ⟨S8x128, .f32⟩
  | .hbm, ⟨35, _⟩ => ⟨S65536, .f32⟩
  | .hbm, ⟨36, _⟩ => ⟨S4x128x128, .f32⟩
  | .hbm, ⟨37, _⟩ => ⟨S512, .f32⟩
  | .hbm, ⟨38, _⟩ => ⟨S1x512, .f32⟩
  | .hbm, ⟨39, _⟩ => ⟨S128, .f32⟩
  | .hbm, ⟨40, _⟩ => ⟨S1x128, .f32⟩
  | .hbm, ⟨41, _⟩ => ⟨S90112, .f32⟩
  | .hbm, ⟨42, _⟩ => ⟨S2x4x8x1408, .f32⟩
  | .hbm, ⟨43, _⟩ => ⟨S128, .f32⟩
  | .hbm, ⟨44, _⟩ => ⟨S1x128, .f32⟩
  | .hbm, ⟨45, _⟩ => ⟨S1x1, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | .hbm, ⟨52, _⟩ => ⟨S2048, .f32⟩
  | .hbm, ⟨53, _⟩ => ⟨S2048, .f32⟩
  | .hbm, ⟨54, _⟩ => ⟨S1x2048, .f32⟩
  | .hbm, ⟨55, _⟩ => ⟨S1x2048, .f32⟩
  | .hbm, ⟨56, _⟩ => ⟨S2x2048, .f32⟩
  | .hbm, ⟨57, _⟩ => ⟨S2048, .f32⟩
  | .hbm, ⟨58, _⟩ => ⟨S2048, .f32⟩
  | .hbm, ⟨59, _⟩ => ⟨S1x2048, .f32⟩
  | .hbm, ⟨60, _⟩ => ⟨S1x2048, .f32⟩
  | .hbm, ⟨61, _⟩ => ⟨S2x2048, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S1x2048, .f32⟩
  | .hbm, ⟨66, _⟩ => ⟨S2x2048, .f32⟩
  | .hbm, ⟨67, _⟩ => ⟨S4x2304, .f32⟩
  | .hbm, ⟨68, _⟩ => ⟨S4x2304, .f32⟩
  | .hbm, ⟨69, _⟩ => ⟨S1x4x2304, .f32⟩
  | .hbm, ⟨70, _⟩ => ⟨S1x4x2304, .f32⟩
  | .hbm, ⟨71, _⟩ => ⟨S2x4x2304, .f32⟩
  | .hbm, ⟨72, _⟩ => ⟨S1x6, .f32⟩
  | .hbm, ⟨73, _⟩ => ⟨S6, .f32⟩
  | .hbm, ⟨74, _⟩ => ⟨S1x6, .f32⟩
  | .hbm, ⟨75, _⟩ => ⟨S6, .f32⟩
  | .hbm, ⟨76, _⟩ => ⟨S1x6, .f32⟩
  | .hbm, ⟨77, _⟩ => ⟨S1x6, .f32⟩
  | .hbm, ⟨78, _⟩ => ⟨S2x6, .f32⟩
  | .hbm, ⟨79, _⟩ => ⟨S1x6, .f32⟩
  | .hbm, ⟨80, _⟩ => ⟨S6, .f32⟩
  | .hbm, ⟨81, _⟩ => ⟨S1x6, .f32⟩
  | .hbm, ⟨82, _⟩ => ⟨S6, .f32⟩
  | .hbm, ⟨83, _⟩ => ⟨S1x6, .f32⟩
  | .hbm, ⟨84, _⟩ => ⟨S1x6, .f32⟩
  | .hbm, ⟨85, _⟩ => ⟨S2x6, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S2x128, .f32⟩
  | .hbm, ⟨93, _⟩ => ⟨S1x4x128x128, .f32⟩
  | .hbm, ⟨94, _⟩ => ⟨S1x4x128x128, .f32⟩
  | .hbm, ⟨95, _⟩ => ⟨S2x4x128x128, .f32⟩
  | .hbm, ⟨96, _⟩ => ⟨S512, .f32⟩
  | .hbm, ⟨97, _⟩ => ⟨S512, .f32⟩
  | .hbm, ⟨98, _⟩ => ⟨S1x512, .f32⟩
  | .hbm, ⟨99, _⟩ => ⟨S1x512, .f32⟩
  | .hbm, ⟨100, _⟩ => ⟨S2x512, .f32⟩
  | .hbm, ⟨101, _⟩ => ⟨S1x6, .f32⟩
  | .hbm, ⟨102, _⟩ => ⟨S6, .f32⟩
  | .hbm, ⟨103, _⟩ => ⟨S1x6, .f32⟩
  | .hbm, ⟨104, _⟩ => ⟨S6, .f32⟩
  | .hbm, ⟨105, _⟩ => ⟨S1x6, .f32⟩
  | .hbm, ⟨106, _⟩ => ⟨S1x6, .f32⟩
  | .hbm, ⟨107, _⟩ => ⟨S2x6, .f32⟩
  | .hbm, ⟨108, _⟩ => ⟨S8x8x1408, .f32⟩
  | .hbm, ⟨109, _⟩ => ⟨S8x8x1408, .f32⟩
  | .hbm, ⟨110, _⟩ => ⟨S1x8x8x1408, .f32⟩
  | .hbm, ⟨111, _⟩ => ⟨S1x8x8x1408, .f32⟩
  | .hbm, ⟨112, _⟩ => ⟨S2x8x8x1408, .f32⟩
  | .hbm, ⟨113, _⟩ => ⟨S2x8x3x1408, .f32⟩
  | .hbm, ⟨114, _⟩ => ⟨S2x8x1x1408, .f32⟩
  | .hbm, ⟨115, _⟩ => ⟨S2x8x1408, .f32⟩
  | .hbm, ⟨116, _⟩ => ⟨S2x11264, .f32⟩
  | .local _ .vmem, ⟨0, _⟩ => ⟨S8x3072x128, .f32⟩
  | .local _ .vmem, ⟨1, _⟩ => ⟨S3072x128, .f32⟩
  | _, _ => ⟨S8x3072x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩
abbrev main_v57 : Ref sig .tc := ⟨.hbm, 58, rfl⟩
abbrev main_v58 : Ref sig .tc := ⟨.hbm, 59, rfl⟩
abbrev main_v59 : Ref sig .tc := ⟨.hbm, 60, rfl⟩
abbrev main_v60 : Ref sig .tc := ⟨.hbm, 61, rfl⟩
abbrev main_v61 : Ref sig .tc := ⟨.hbm, 62, rfl⟩
abbrev main_v62 : Ref sig .tc := ⟨.hbm, 63, rfl⟩
abbrev main_v63 : Ref sig .tc := ⟨.hbm, 64, rfl⟩
abbrev main_v64 : Ref sig .tc := ⟨.hbm, 65, rfl⟩
abbrev main_v65 : Ref sig .tc := ⟨.hbm, 66, rfl⟩
abbrev main_v66 : Ref sig .tc := ⟨.hbm, 67, rfl⟩
abbrev main_v67 : Ref sig .tc := ⟨.hbm, 68, rfl⟩
abbrev main_v68 : Ref sig .tc := ⟨.hbm, 69, rfl⟩
abbrev main_v69 : Ref sig .tc := ⟨.hbm, 70, rfl⟩
abbrev main_v70 : Ref sig .tc := ⟨.hbm, 71, rfl⟩
abbrev main_v71 : Ref sig .tc := ⟨.hbm, 72, rfl⟩
abbrev main_v72 : Ref sig .tc := ⟨.hbm, 73, rfl⟩
abbrev main_v73 : Ref sig .tc := ⟨.hbm, 74, rfl⟩
abbrev main_v74 : Ref sig .tc := ⟨.hbm, 75, rfl⟩
abbrev main_v75 : Ref sig .tc := ⟨.hbm, 76, rfl⟩
abbrev main_v76 : Ref sig .tc := ⟨.hbm, 77, rfl⟩
abbrev main_v77 : Ref sig .tc := ⟨.hbm, 78, rfl⟩
abbrev main_v78 : Ref sig .tc := ⟨.hbm, 79, rfl⟩
abbrev main_v79 : Ref sig .tc := ⟨.hbm, 80, rfl⟩
abbrev main_v80 : Ref sig .tc := ⟨.hbm, 81, rfl⟩
abbrev main_v81 : Ref sig .tc := ⟨.hbm, 82, rfl⟩
abbrev main_v82 : Ref sig .tc := ⟨.hbm, 83, rfl⟩
abbrev main_v83 : Ref sig .tc := ⟨.hbm, 84, rfl⟩
abbrev main_v84 : Ref sig .tc := ⟨.hbm, 85, rfl⟩
abbrev main_v85 : Ref sig .tc := ⟨.hbm, 86, rfl⟩
abbrev main_v86 : Ref sig .tc := ⟨.hbm, 87, rfl⟩
abbrev main_v87 : Ref sig .tc := ⟨.hbm, 88, rfl⟩
abbrev main_v88 : Ref sig .tc := ⟨.hbm, 89, rfl⟩
abbrev main_v89 : Ref sig .tc := ⟨.hbm, 90, rfl⟩
abbrev main_v90 : Ref sig .tc := ⟨.hbm, 91, rfl⟩
abbrev main_v91 : Ref sig .tc := ⟨.hbm, 92, rfl⟩
abbrev main_v92 : Ref sig .tc := ⟨.hbm, 93, rfl⟩
abbrev main_v93 : Ref sig .tc := ⟨.hbm, 94, rfl⟩
abbrev main_v94 : Ref sig .tc := ⟨.hbm, 95, rfl⟩
abbrev main_v95 : Ref sig .tc := ⟨.hbm, 96, rfl⟩
abbrev main_v96 : Ref sig .tc := ⟨.hbm, 97, rfl⟩
abbrev main_v97 : Ref sig .tc := ⟨.hbm, 98, rfl⟩
abbrev main_v98 : Ref sig .tc := ⟨.hbm, 99, rfl⟩
abbrev main_v99 : Ref sig .tc := ⟨.hbm, 100, rfl⟩
abbrev main_v100 : Ref sig .tc := ⟨.hbm, 101, rfl⟩
abbrev main_v101 : Ref sig .tc := ⟨.hbm, 102, rfl⟩
abbrev main_v102 : Ref sig .tc := ⟨.hbm, 103, rfl⟩
abbrev main_v103 : Ref sig .tc := ⟨.hbm, 104, rfl⟩
abbrev main_v104 : Ref sig .tc := ⟨.hbm, 105, rfl⟩
abbrev main_v105 : Ref sig .tc := ⟨.hbm, 106, rfl⟩
abbrev main_v106 : Ref sig .tc := ⟨.hbm, 107, rfl⟩
abbrev main_v107 : Ref sig .tc := ⟨.hbm, 108, rfl⟩
abbrev main_v108 : Ref sig .tc := ⟨.hbm, 109, rfl⟩
abbrev main_v109 : Ref sig .tc := ⟨.hbm, 110, rfl⟩
abbrev main_v110 : Ref sig .tc := ⟨.hbm, 111, rfl⟩
abbrev main_v111 : Ref sig .tc := ⟨.hbm, 112, rfl⟩
abbrev main_v112 : Ref sig .tc := ⟨.hbm, 113, rfl⟩
abbrev main_v113 : Ref sig .tc := ⟨.hbm, 114, rfl⟩
abbrev main_v114 : Ref sig .tc := ⟨.hbm, 115, rfl⟩
abbrev main_v115 : Ref sig .tc := ⟨.hbm, 116, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3072x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x3072x128 : Shape := ⟨3, ![8, 3072, 128]⟩
abbrev S_ : Shape := ⟨0, ![]⟩
abbrev S3072x128 : Shape := ⟨2, ![3072, 128]⟩
abbrev S393216 : Shape := ⟨1, ![393216]⟩
abbrev S2048 : Shape := ⟨1, ![2048]⟩
abbrev S1x2048 : Shape := ⟨2, ![1, 2048]⟩
abbrev S18432 : Shape := ⟨1, ![18432]⟩
abbrev S8x2304 : Shape := ⟨2, ![8, 2304]⟩
abbrev S1024 : Shape := ⟨1, ![1024]⟩
abbrev S8x128 : Shape := ⟨2, ![8, 128]⟩
abbrev S65536 : Shape := ⟨1, ![65536]⟩
abbrev S4x128x128 : Shape := ⟨3, ![4, 128, 128]⟩
abbrev S512 : Shape := ⟨1, ![512]⟩
abbrev S1x512 : Shape := ⟨2, ![1, 512]⟩
abbrev S128 : Shape := ⟨1, ![128]⟩
abbrev S1x128 : Shape := ⟨2, ![1, 128]⟩
abbrev S90112 : Shape := ⟨1, ![90112]⟩
abbrev S2x4x8x1408 : Shape := ⟨4, ![2, 4, 8, 1408]⟩
abbrev S1x1 : Shape := ⟨2, ![1, 1]⟩
abbrev S8x8x1408 : Shape := ⟨3, ![8, 8, 1408]⟩
abbrev S1x8x8x1408 : Shape := ⟨4, ![1, 8, 8, 1408]⟩
abbrev S2x8x8x1408 : Shape := ⟨4, ![2, 8, 8, 1408]⟩
abbrev S2x2048 : Shape := ⟨2, ![2, 2048]⟩
abbrev S4x2304 : Shape := ⟨2, ![4, 2304]⟩
abbrev S1x4x2304 : Shape := ⟨3, ![1, 4, 2304]⟩
abbrev S2x4x2304 : Shape := ⟨3, ![2, 4, 2304]⟩
abbrev S1x6 : Shape := ⟨2, ![1, 6]⟩
abbrev S6 : Shape := ⟨1, ![6]⟩
abbrev S2x6 : Shape := ⟨2, ![2, 6]⟩
abbrev S2x128 : Shape := ⟨2, ![2, 128]⟩
abbrev S1x4x128x128 : Shape := ⟨4, ![1, 4, 128, 128]⟩
abbrev S2x4x128x128 : Shape := ⟨4, ![2, 4, 128, 128]⟩
abbrev S2x512 : Shape := ⟨2, ![2, 512]⟩
abbrev S2x8x3x1408 : Shape := ⟨4, ![2, 8, 3, 1408]⟩
abbrev S2x8x1x1408 : Shape := ⟨4, ![2, 8, 1, 1408]⟩
abbrev S2x8x1408 : Shape := ⟨3, ![2, 8, 1408]⟩
abbrev S2x11264 : Shape := ⟨2, ![2, 11264]⟩

abbrev nBuf : Space → Nat
  | .hbm => 118
  | .vmem => 0
  | .smem => 0
  | _ => 0

abbrev bufTy : (tb : Table) → Fin (tcTables nBuf tb) → BufTy
  | .hbm, ⟨0, _⟩ => ⟨S8x3072x128, .f32⟩
  | .hbm, ⟨1, _⟩ => ⟨S_, .f32⟩
  | .hbm, ⟨2, _⟩ => ⟨S3072x128, .f32⟩
  | .hbm, ⟨3, _⟩ => ⟨S393216, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S18432, .f32⟩
  | .hbm, ⟨13, _⟩ => ⟨S8x2304, .f32⟩
  | .hbm, ⟨14, _⟩ => ⟨S1024, .f32⟩
  | .hbm, ⟨15, _⟩ => ⟨S8x128, .f32⟩
  | .hbm, ⟨16, _⟩ => ⟨S65536, .f32⟩
  | .hbm, ⟨17, _⟩ => ⟨S4x128x128, .f32⟩
  | .hbm, ⟨18, _⟩ => ⟨S512, .f32⟩
  | .hbm, ⟨19, _⟩ => ⟨S1x512, .f32⟩
  | .hbm, ⟨20, _⟩ => ⟨S128, .f32⟩
  | .hbm, ⟨21, _⟩ => ⟨S1x128, .f32⟩
  | .hbm, ⟨22, _⟩ => ⟨S90112, .f32⟩
  | .hbm, ⟨23, _⟩ => ⟨S2x4x8x1408, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S18432, .f32⟩
  | .hbm, ⟨33, _⟩ => ⟨S8x2304, .f32⟩
  | .hbm, ⟨34, _⟩ => ⟨S1024, .f32⟩
  | .hbm, ⟨35, _⟩ => ⟨S8x128, .f32⟩
  | .hbm, ⟨36, _⟩ => ⟨S65536, .f32⟩
  | .hbm, ⟨37, _⟩ => ⟨S4x128x128, .f32⟩
  | .hbm, ⟨38, _⟩ => ⟨S512, .f32⟩
  | .hbm, ⟨39, _⟩ => ⟨S1x512, .f32⟩
  | .hbm, ⟨40, _⟩ => ⟨S128, .f32⟩
  | .hbm, ⟨41, _⟩ => ⟨S1x128, .f32⟩
  | .hbm, ⟨42, _⟩ => ⟨S90112, .f32⟩
  | .hbm, ⟨43, _⟩ => ⟨S2x4x8x1408, .f32⟩
  | .hbm, ⟨44, _⟩ => ⟨S128, .f32⟩
  | .hbm, ⟨45, _⟩ => ⟨S1x128, .f32⟩
  | .hbm, ⟨46, _⟩ => ⟨S1x1, .f32⟩
  | .hbm, ⟨47, _⟩ => ⟨S_, .f32⟩
  | .hbm, ⟨48, _⟩ => ⟨S8x8x1408, .f32⟩
  | .hbm, ⟨49, _⟩ => ⟨S8x8x1408, .f32⟩
  | .hbm, ⟨50, _⟩ => ⟨S1x8x8x1408, .f32⟩
  | .hbm, ⟨51, _⟩ => ⟨S1x8x8x1408, .f32⟩
  | .hbm, ⟨52, _⟩ => ⟨S2x8x8x1408, .f32⟩
  | .hbm, ⟨53, _⟩ => ⟨S2048, .f32⟩
  | .hbm, ⟨54, _⟩ => ⟨S2048, .f32⟩
  | .hbm, ⟨55, _⟩ => ⟨S1x2048, .f32⟩
  | .hbm, ⟨56, _⟩ => ⟨S1x2048, .f32⟩
  | .hbm, ⟨57, _⟩ => ⟨S2x2048, .f32⟩
  | .hbm, ⟨58, _⟩ => ⟨S4x2304, .f32⟩
  | .hbm, ⟨59, _⟩ => ⟨S4x2304, .f32⟩
  | .hbm, ⟨60, _⟩ => ⟨S1x4x2304, .f32⟩
  | .hbm, ⟨61, _⟩ => ⟨S1x4x2304, .f32⟩
  | .hbm, ⟨62, _⟩ => ⟨S2x4x2304, .f32⟩
  | .hbm, ⟨63, _⟩ => ⟨S1x6, .f32⟩
  | .hbm, ⟨64, _⟩ => ⟨S6, .f32⟩
  | .hbm, ⟨65, _⟩ => ⟨S1x6, .f32⟩
  | .hbm, ⟨66, _⟩ => ⟨S6, .f32⟩
  | .hbm, ⟨67, _⟩ => ⟨S1x6, .f32⟩
  | .hbm, ⟨68, _⟩ => ⟨S1x6, .f32⟩
  | .hbm, ⟨69, _⟩ => ⟨S2x6, .f32⟩
  | .hbm, ⟨70, _⟩ => ⟨S1x6, .f32⟩
  | .hbm, ⟨71, _⟩ => ⟨S6, .f32⟩
  | .hbm, ⟨72, _⟩ => ⟨S1x6, .f32⟩
  | .hbm, ⟨73, _⟩ => ⟨S6, .f32⟩
  | .hbm, ⟨74, _⟩ => ⟨S1x6, .f32⟩
  | .hbm, ⟨75, _⟩ => ⟨S1x6, .f32⟩
  | .hbm, ⟨76, _⟩ => ⟨S2x6, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S2x128, .f32⟩
  | .hbm, ⟨84, _⟩ => ⟨S1x4x128x128, .f32⟩
  | .hbm, ⟨85, _⟩ => ⟨S1x4x128x128, .f32⟩
  | .hbm, ⟨86, _⟩ => ⟨S2x4x128x128, .f32⟩
  | .hbm, ⟨87, _⟩ => ⟨S512, .f32⟩
  | .hbm, ⟨88, _⟩ => ⟨S512, .f32⟩
  | .hbm, ⟨89, _⟩ => ⟨S1x512, .f32⟩
  | .hbm, ⟨90, _⟩ => ⟨S1x512, .f32⟩
  | .hbm, ⟨91, _⟩ => ⟨S2x512, .f32⟩
  | .hbm, ⟨92, _⟩ => ⟨S1x6, .f32⟩
  | .hbm, ⟨93, _⟩ => ⟨S6, .f32⟩
  | .hbm, ⟨94, _⟩ => ⟨S1x6, .f32⟩
  | .hbm, ⟨95, _⟩ => ⟨S6, .f32⟩
  | .hbm, ⟨96, _⟩ => ⟨S1x6, .f32⟩
  | .hbm, ⟨97, _⟩ => ⟨S1x6, .f32⟩
  | .hbm, ⟨98, _⟩ => ⟨S2x6, .f32⟩
  | .hbm, ⟨99, _⟩ => ⟨S2048, .f32⟩
  | .hbm, ⟨100, _⟩ => ⟨S2048, .f32⟩
  | .hbm, ⟨101, _⟩ => ⟨S1x2048, .f32⟩
  | .hbm, ⟨102, _⟩ => ⟨S1x2048, .f32⟩
  | .hbm, ⟨103, _⟩ => ⟨S2x2048, .f32⟩
  | .hbm, ⟨104, _⟩ => ⟨S2048, .f32⟩
  | .hbm, ⟨105, _⟩ => ⟨S2048, .f32⟩
  | .hbm, ⟨106, _⟩ => ⟨S1x2048, .f32⟩
  | .hbm, ⟨107, _⟩ => ⟨S1x2048, .f32⟩
  | .hbm, ⟨108, _⟩ => ⟨S2x2048, .f32⟩
  | .hbm, ⟨109, _⟩ => ⟨S2x8x3x1408, .f32⟩
  | .hbm, ⟨110, _⟩ => ⟨S2x8x1x1408, .f32⟩
  | .hbm, ⟨111, _⟩ => ⟨S2x8x1408, .f32⟩
  | .hbm, ⟨112, _⟩ => ⟨S2x11264, .f32⟩
  | .hbm, ⟨113, _⟩ => ⟨S2048, .f32⟩
  | .hbm, ⟨114, _⟩ => ⟨S2048, .f32⟩
  | .hbm, ⟨115, _⟩ => ⟨S1x2048, .f32⟩
  | .hbm, ⟨116, _⟩ => ⟨S1x2048, .f32⟩
  | .hbm, ⟨117, _⟩ => ⟨S2x2048, .f32⟩
  | _, _ => ⟨S8x3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩

abbrev nD : Nat := 1
abbrev τ : Topo := Topo.v7x

variable {F : FTy → Type} [FloatOps F]
-- ==== Proof.Attn.Head.lean ====
/- The arithmetic one grid point of the attention gradient does for one key/value head, written once as functions of
   the vectors the point loads, over any float interpretation, and the point's six results in terms of them. -/
module

public import proofs.«01_k».proof.Proof.Gen.KernelIdeal.Frame.RunB
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F] [Named F]

/-- The rotary embedding of a tile: the tile times the cosines plus the half-rotated tile times the signed sines. -/
def rope (x c s : FVec F S128x128 .f32) : FVec F S128x128 .f32 :=
  addf (mulf x (shapeCast S128x128 c shapeCasts_S128x128_S128x128))
    (mulf (dynamicRotate 1 64#32 none x rotates_S128x128_d1) (shapeCast S128x128 s shapeCasts_S128x128_S128x128))

/-- The transpose of the rotary embedding. -/
def ropeT (x c s : FVec F S128x128 .f32) : FVec F S128x128 .f32 :=
  addf (mulf x (shapeCast S128x128 c shapeCasts_S128x128_S128x128))
    (dynamicRotate 1 64#32 none (mulf x (shapeCast S128x128 s shapeCasts_S128x128_S128x128)) rotates_S128x128_d1)

/-- What a head reads at a point: three query tiles, the keys and values of the block and of the block before, the
    cosines and sines of the two blocks, the three cotangent tiles, the three sinks, and the first admitted key. -/
structure HIn (F : FTy → Type) where
  q0 : FVec F S128x128 .f32
  q1 : FVec F S128x128 .f32
  q2 : FVec F S128x128 .f32
  kc : FVec F S128x128 .f32
  kp : FVec F S128x128 .f32
  vc : FVec F S128x128 .f32
  vp : FVec F S128x128 .f32
  c : FVec F S128x128 .f32
  s : FVec F S128x128 .f32
  cp : FVec F S128x128 .f32
  sp : FVec F S128x128 .f32
  z0 : FVec F S1x1 .f32
  z1 : FVec F S1x1 .f32
  z2 : FVec F S1x1 .f32
  d0 : FVec F S128x128 .f32
  d1 : FVec F S128x128 .f32
  d2 : FVec F S128x128 .f32
  lo : BitVec 32

namespace HIn
variable (H : HIn F)

/-- The rotated keys of the two blocks, the earlier first. -/
def kcat : FVec F S256x128 .f32 := concatenate S256x128 0 [⟨S128x128, rope H.kp H.cp H.sp⟩, ⟨S128x128, rope H.kc H.c H.s⟩] concatenates_S128x128_S128x128_S256x128_d0
/-- The values of the two blocks. -/
def vcat : FVec F S256x128 .f32 := concatenate S256x128 0 [⟨S128x128, H.vp⟩, ⟨S128x128, H.vc⟩] concatenates_S128x128_S128x128_S256x128_d0
/-- The three rotated query tiles, stacked. -/
def qs : FVec F S384x128 .f32 := concatenate S384x128 0 [⟨S128x128, rope H.q0 H.c H.s⟩, ⟨S128x128, rope H.q1 H.c H.s⟩, ⟨S128x128, rope H.q2 H.c H.s⟩] concatenates_S128x128_S128x128_S128x128_S384x128_d0
/-- The three cotangent tiles, stacked. -/
def dos : FVec F S384x128 .f32 := concatenate S384x128 0 [⟨S128x128, H.d0⟩, ⟨S128x128, H.d1⟩, ⟨S128x128, H.d2⟩] concatenates_S128x128_S128x128_S128x128_S384x128_d0
/-- The scaled scores. -/
def sc : FVec F S384x256 .f32 :=
  mulf (matmul dot_S384x128_S256x128_S384x256_1_1_0_0_n_n none (truncf .bf16 H.qs bitsLt_bf16_f32) (truncf .bf16 H.kcat bitsLt_bf16_f32) (constant S384x256 .f32 0x00000000#32))
    (broadcast S384x256 (Scalar.ofBits .f32 0x3DB504F3#32))
/-- A row's position within its tile. -/
def row : IVec S384x256 32 := andi (iota .tc S384x256 32 [0] iota_S384x256_d0_w32) (broadcast S384x256 127#32)
/-- The band: which keys a row sees. -/
def mask : IVec S384x256 1 :=
  andi (andi (cmpi .sgt (iota .tc S384x256 32 [1] iota_S384x256_d1_w32) row)
      (cmpi .sle (iota .tc S384x256 32 [1] iota_S384x256_d1_w32) (addi row (broadcast S384x256 128#32))))
    (cmpi .sge (iota .tc S384x256 32 [1] iota_S384x256_d1_w32) (broadcast S384x256 H.lo))
/-- The masked scores. -/
def sm : FVec F S384x256 .f32 := select H.mask H.sc (broadcast S384x256 (Named.named κ "mask" 0xF149F2CA#32))
/-- The sinks, one to a row. -/
def zc : FVec F S384x1 .f32 :=
  concatenate S384x1 0 [⟨S128x1, broadcastTo S128x1 (shapeCast S1x1 H.z0 shapeCasts_S1x1_S1x1) broadcasts_S1x1_S128x1⟩,
    ⟨S128x1, broadcastTo S128x1 (shapeCast S1x1 H.z1 shapeCasts_S1x1_S1x1) broadcasts_S1x1_S128x1⟩,
    ⟨S128x1, broadcastTo S128x1 (shapeCast S1x1 H.z2 shapeCasts_S1x1_S1x1) broadcasts_S1x1_S128x1⟩] concatenates_S128x1_S128x1_S128x1_S384x1_d0
/-- The row maximum, the sink included. -/
def m : FVec F S384x1 .f32 :=
  maximumf (shapeCast S384x1 (multiReduction .maximumf [1] S384 H.sm 0xFF800000#32 reduces_S384x256_S384 (.inl rfl) rfl) shapeCasts_S384_S384x1) H.zc
/-- The exponentials. -/
def p : FVec F S384x256 .f32 := exp (subf H.sm (broadcastTo S384x256 H.m broadcasts_S384x1_S384x256))
/-- The sink's exponential. -/
def ps : FVec F S384x1 .f32 := exp (subf H.zc H.m)
/-- The normaliser. -/
def l : FVec F S384x1 .f32 :=
  addf (shapeCast S384x1 (multiReduction .add [1] S384 H.p 0x00000000#32 reduces_S384x256_S384 (.inl rfl) rfl) shapeCasts_S384_S384x1) H.ps
/-- The probabilities. -/
def pn : FVec F S384x256 .f32 := divf H.p (broadcastTo S384x256 H.l broadcasts_S384x1_S384x256)
/-- The cotangent of the probabilities. -/
def dp : FVec F S384x256 .f32 :=
  matmul dot_S384x128_S256x128_S384x256_1_1_0_0_n_n none (truncf .bf16 H.dos bitsLt_bf16_f32) (truncf .bf16 H.vcat bitsLt_bf16_f32) (constant S384x256 .f32 0x00000000#32)
/-- The gradient of the values. -/
def dv : FVec F S256x128 .f32 :=
  matmul dot_S384x256_S384x128_S256x128_0_0_1_1_n_n none (truncf .bf16 H.pn bitsLt_bf16_f32) (truncf .bf16 H.dos bitsLt_bf16_f32) (constant S256x128 .f32 0x00000000#32)
/-- The row's mean cotangent. -/
def delta : FVec F S384x1 .f32 :=
  shapeCast S384x1 (multiReduction .add [1] S384 (mulf H.pn H.dp) 0x00000000#32 reduces_S384x256_S384 (.inl rfl) rfl) shapeCasts_S384_S384x1
/-- The gradient of the scores. -/
def ds : FVec F S384x256 .f32 := mulf H.pn (subf H.dp (broadcastTo S384x256 H.delta broadcasts_S384x1_S384x256))
/-- The gradient of the rotated queries. -/
def dqs : FVec F S384x128 .f32 :=
  mulf (matmul dot_S384x256_S256x128_S384x128_1_0_0_1_n_n none (truncf .bf16 H.ds bitsLt_bf16_f32) (truncf .bf16 H.kcat bitsLt_bf16_f32) (constant S384x128 .f32 0x00000000#32))
    (broadcast S384x128 (Scalar.ofBits .f32 0x3DB504F3#32))
/-- The gradient of the rotated keys. -/
def dk : FVec F S256x128 .f32 :=
  mulf (matmul dot_S384x256_S384x128_S256x128_0_0_1_1_n_n none (truncf .bf16 H.ds bitsLt_bf16_f32) (truncf .bf16 H.qs bitsLt_bf16_f32) (constant S256x128 .f32 0x00000000#32))
    (broadcast S256x128 (Scalar.ofBits .f32 0x3DB504F3#32))
/-- The rows' contributions to the gradients of the sinks. -/
def dz : FVec F S384x1 .f32 := mulf (subf (broadcast S384x1 (Scalar.ofBits .f32 0x00000000#32)) (divf H.ps H.l)) H.delta

/-- The gradient of a query tile. -/
def dq0 : FVec F S128x128 .bf16 := truncf .bf16 (ropeT (extractStridedSlice S128x128 ![0, 0] H.dqs slices_S384x128_o0_0_S128x128) H.c H.s) bitsLt_bf16_f32
/-- The gradient of the second query tile. -/
def dq1 : FVec F S128x128 .bf16 := truncf .bf16 (ropeT (extractStridedSlice S128x128 ![128, 0] H.dqs slices_S384x128_o128_0_S128x128) H.c H.s) bitsLt_bf16_f32
/-- The gradient of the third query tile. -/
def dq2 : FVec F S128x128 .bf16 := truncf .bf16 (ropeT (extractStridedSlice S128x128 ![256, 0] H.dqs slices_S384x128_o256_0_S128x128) H.c H.s) bitsLt_bf16_f32
/-- The gradient of the block's keys: this point's part and the part carried from the block after. -/
def dko (ck : FVec F S128x128 .f32) : FVec F S128x128 .bf16 :=
  truncf .bf16 (addf (ropeT (extractStridedSlice S128x128 ![128, 0] H.dk slices_S256x128_o128_0_S128x128) H.c H.s) ck) bitsLt_bf16_f32
/-- The gradient of the block's values, likewise. -/
def dvo (cv : FVec F S128x128 .f32) : FVec F S128x128 .bf16 :=
  truncf .bf16 (addf (extractStridedSlice S128x128 ![128, 0] H.dv slices_S256x128_o128_0_S128x128) cv) bitsLt_bf16_f32
/-- The part of the keys' gradient carried to the block before. -/
def cko : FVec F S128x128 .f32 :=
  shapeCast S128x128 (ropeT (extractStridedSlice S128x128 ![0, 0] H.dk slices_S256x128_o0_0_S128x128) H.cp H.sp) shapeCasts_S128x128_S128x128
/-- The part of the values' gradient carried to the block before. -/
def cvo : FVec F S128x128 .f32 :=
  shapeCast S128x128 (extractStridedSlice S128x128 ![0, 0] H.dv slices_S256x128_o0_0_S128x128) shapeCasts_S128x128_S128x128

end HIn

/-- Adds a column's sum into one lane of a row. -/
def lane (k : BitVec 32) (col : FVec F S128x1 .f32) (acc : FVec F S1x128 .f32) : FVec F S1x128 .f32 :=
  addf acc (select (cmpi .eq (iota .tc S1x128 32 [1] iota_S1x128_d1_w32) (broadcast S1x128 k))
    (broadcastTo S1x128 (shapeCast S1x1 (shapeCast S1x1 (multiReduction .add [0] S1 col 0x00000000#32 reduces_S128x1_S1 (.inl rfl) rfl) shapeCasts_S1_S1x1) shapeCasts_S1x1_S1x1) broadcasts_S1x1_S1x128)
    (broadcast S1x128 (Scalar.ofBits .f32 0x00000000#32)))

/-- The first admitted key at a grid point: none of the block before at the first block. -/
def lo (i : grid0.Coords) : BitVec 32 :=
  Scalar.select (Scalar.cmpi .sgt (Scalar.subi 31#32 (BitVec.ofNat 32 (i 0 : Nat))) 0#32) 0#32 128#32

section
variable (i : grid0.Coords) (x0 : Vec F S128x768 .f32) (x1 x2 x3 x4 : Vec F S128x256 .f32) (x5 x6 x7 x8 : Vec F S128x128 .f32)
  (x9 : Vec F S1x128 .f32) (x10 : Vec F S128x768 .f32) (xo : Vec F S1x128 .f32) (xs0 xs1 : Vec F S128x256 .f32)

/-- What the first head reads. -/
def h0 : HIn F where
  q0 := extractStridedSlice S128x128 ![0, 0] x0 slices_S128x768_o0_0_S128x128
  q1 := extractStridedSlice S128x128 ![0, 128] x0 slices_S128x768_o0_128_S128x128
  q2 := extractStridedSlice S128x128 ![0, 256] x0 slices_S128x768_o0_256_S128x128
  kc := extractStridedSlice S128x128 ![0, 0] x1 slices_S128x256_o0_0_S128x128
  kp := extractStridedSlice S128x128 ![0, 0] x2 slices_S128x256_o0_0_S128x128
  vc := extractStridedSlice S128x128 ![0, 0] x3 slices_S128x256_o0_0_S128x128
  vp := extractStridedSlice S128x128 ![0, 0] x4 slices_S128x256_o0_0_S128x128
  c := x5
  s := x6
  cp := x7
  sp := x8
  z0 := extractStridedSlice S1x1 ![0, 0] x9 slices_S1x128_o0_0_S1x1
  z1 := extractStridedSlice S1x1 ![0, 1] x9 slices_S1x128_o0_1_S1x1
  z2 := extractStridedSlice S1x1 ![0, 2] x9 slices_S1x128_o0_2_S1x1
  d0 := extractStridedSlice S128x128 ![0, 0] x10 slices_S128x768_o0_0_S128x128
  d1 := extractStridedSlice S128x128 ![0, 128] x10 slices_S128x768_o0_128_S128x128
  d2 := extractStridedSlice S128x128 ![0, 256] x10 slices_S128x768_o0_256_S128x128
  lo := lo i

/-- What the second head reads. -/
def h1 : HIn F where
  q0 := extractStridedSlice S128x128 ![0, 384] x0 slices_S128x768_o0_384_S128x128
  q1 := extractStridedSlice S128x128 ![0, 512] x0 slices_S128x768_o0_512_S128x128
  q2 := extractStridedSlice S128x128 ![0, 640] x0 slices_S128x768_o0_640_S128x128
  kc := extractStridedSlice S128x128 ![0, 128] x1 slices_S128x256_o0_128_S128x128
  kp := extractStridedSlice S128x128 ![0, 128] x2 slices_S128x256_o0_128_S128x128
  vc := extractStridedSlice S128x128 ![0, 128] x3 slices_S128x256_o0_128_S128x128
  vp := extractStridedSlice S128x128 ![0, 128] x4 slices_S128x256_o0_128_S128x128
  c := x5
  s := x6
  cp := x7
  sp := x8
  z0 := extractStridedSlice S1x1 ![0, 3] x9 slices_S1x128_o0_3_S1x1
  z1 := extractStridedSlice S1x1 ![0, 4] x9 slices_S1x128_o0_4_S1x1
  z2 := extractStridedSlice S1x1 ![0, 5] x9 slices_S1x128_o0_5_S1x1
  d0 := extractStridedSlice S128x128 ![0, 384] x10 slices_S128x768_o0_384_S128x128
  d1 := extractStridedSlice S128x128 ![0, 512] x10 slices_S128x768_o0_512_S128x128
  d2 := extractStridedSlice S128x128 ![0, 640] x10 slices_S128x768_o0_640_S128x128
  lo := lo i

end

variable (A B : HIn F) (xo : Vec F S1x128 .f32) (xs0 xs1 : Vec F S128x256 .f32)

/-- The block of the queries' gradient: the six tiles. -/
def dqV : Vec F S128x768 .bf16 := View.canon
  [⟨Rect.unit ![0, 640] ![128, 128] inb_S128x768_S128x128_0_640, B.dq2⟩, ⟨Rect.unit ![0, 512] ![128, 128] inb_S128x768_S128x128_0_512, B.dq1⟩,
   ⟨Rect.unit ![0, 384] ![128, 128] inb_S128x768_S128x128_0_384, B.dq0⟩, ⟨Rect.unit ![0, 256] ![128, 128] inb_S128x768_S128x128_0_256, A.dq2⟩,
   ⟨Rect.unit ![0, 128] ![128, 128] inb_S128x768_S128x128_0_128, A.dq1⟩, ⟨Rect.unit ![0, 0] ![128, 128] inb_S128x768_S128x128_0_0, A.dq0⟩]

/-- Two tiles side by side. -/
def pair {e : EltTy} (a b : Vec F S128x128 e) : Vec F S128x256 e := View.canon
  [⟨Rect.unit ![0, 128] ![128, 128] inb_S128x256_S128x128_0_128, b⟩, ⟨Rect.unit ![0, 0] ![128, 128] inb_S128x256_S128x128_0_0, a⟩]

/-- The left and the right tile of a pair. -/
def lt (x : Vec F S128x256 .f32) : Vec F S128x128 .f32 := View.ld x (Rect.unit ![0, 0] ![128, 128] inb_S128x256_S128x128_0_0)
/-- The right tile. -/
def rt (x : Vec F S128x256 .f32) : Vec F S128x128 .f32 := View.ld x (Rect.unit ![0, 128] ![128, 128] inb_S128x256_S128x128_0_128)

/-- The block of the keys' gradient over the carried part. -/
def dkV : Vec F S128x256 .bf16 := pair (A.dko (lt xs0)) (B.dko (rt xs0))
/-- The block of the values' gradient over the carried part. -/
def dvV : Vec F S128x256 .bf16 := pair (A.dvo (lt xs1)) (B.dvo (rt xs1))
/-- What is carried of the keys' gradient. -/
def ckV : Vec F S128x256 .f32 := pair A.cko B.cko
/-- What is carried of the values' gradient. -/
def cvV : Vec F S128x256 .f32 := pair A.cvo B.cvo
/-- The sinks' gradients after the point, over what they were before. -/
def dzV : Vec F S1x128 .f32 :=
  addf (shapeCast S1x128 xo shapeCasts_S1x128_S1x128)
    (lane 5#32 (extractStridedSlice S128x1 ![256, 0] B.dz slices_S384x1_o256_0_S128x1)
      (lane 4#32 (extractStridedSlice S128x1 ![128, 0] B.dz slices_S384x1_o128_0_S128x1)
        (lane 3#32 (extractStridedSlice S128x1 ![0, 0] B.dz slices_S384x1_o0_0_S128x1)
          (lane 2#32 (extractStridedSlice S128x1 ![256, 0] A.dz slices_S384x1_o256_0_S128x1)
            (lane 1#32 (extractStridedSlice S128x1 ![128, 0] A.dz slices_S384x1_o128_0_S128x1)
              (lane 0#32 (extractStridedSlice S128x1 ![0, 0] A.dz slices_S384x1_o0_0_S128x1)
                (broadcast S1x128 (Scalar.ofBits .f32 0x00000000#32))))))))

end Cert.KernelIdeal.Attn

end
-- ==== Proof.Attn.WordsA.lean ====
/- The values the executed body computes at the first grid point, one by one, are those Head.lean writes. -/
module

public import proofs.«01_k».proof.Proof.Attn.Head

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F] [Named F]

/-- Pieces that cover a shape hide the pieces stored before them. -/
theorem canon_append_of_cover {S : Shape} {e : EltTy} (M : List (View.Piece (Elt F) S e)) :
    ∀ (L : List (View.Piece (Elt F) S e)) (y : S.Idx) (_ : ∃ p ∈ L, y ∈ p.1.set), View.canon (L ++ M) y = View.canon L y
  | [], _, h => by obtain ⟨p, hp, _⟩ := h; exact absurd hp List.not_mem_nil
  | p :: L, y, h => by
    by_cases hm : y ∈ p.1.set
    · obtain ⟨x, rfl⟩ := p.1.exists_idx_of_mem hm
      rw [show p.1.idx x = p.1.emb x from rfl, List.cons_append]
      exact (View.canon_cons_emb p.1 p.2 _ x).trans (View.canon_cons_emb p.1 p.2 _ x).symm
    · rw [List.cons_append, View.canon_cons_of_not_mem _ _ hm, View.canon_cons_of_not_mem _ _ hm]
      obtain ⟨q, hq, hyq⟩ := h
      rcases List.mem_cons.mp hq with rfl | hq'
      · exact absurd hyq hm
      · exact canon_append_of_cover M L y ⟨q, hq', hyq⟩

/-- Replacing the parts of a two-part stack by equal ones. -/
theorem concat2 {S S₁ S₂ : Shape} {e : EltTy} {d} {a a' : Vec F S₁ e} {b b' : Vec F S₂ e} {h} (ha : a = a') (hb : b = b') :
    concatenate S d [⟨S₁, a⟩, ⟨S₂, b⟩] h = concatenate S d [⟨S₁, a'⟩, ⟨S₂, b'⟩] h := by subst ha hb; rfl

/-- Replacing the parts of a three-part stack by equal ones. -/
theorem concat3 {S S₁ S₂ S₃ : Shape} {e : EltTy} {d} {a a' : Vec F S₁ e} {b b' : Vec F S₂ e} {c c' : Vec F S₃ e} {h} (ha : a = a') (hb : b = b') (hc : c = c') :
    concatenate S d [⟨S₁, a⟩, ⟨S₂, b⟩, ⟨S₃, c⟩] h = concatenate S d [⟨S₁, a'⟩, ⟨S₂, b'⟩, ⟨S₃, c'⟩] h := by subst ha hb hc; rfl

/-- Zero offsets of a two-axis rectangle. -/
theorem off00 : (![0, 0] : Fin 2 → ℕ) = fun _ => 0 := by funext a; fin_cases a <;> rfl

variable {c : Dev nD} {i : grid0.Coords}
  {arg1 : Memref sig .tc .vmem S128x768 .f32} {harg1 : arg1.IsWhole}
  {arg2 : Memref sig .tc .vmem S128x256 .f32} {harg2 : arg2.IsWhole}
  {arg3 : Memref sig .tc .vmem S128x256 .f32} {harg3 : arg3.IsWhole}
  {arg4 : Memref sig .tc .vmem S128x256 .f32} {harg4 : arg4.IsWhole}
  {arg5 : Memref sig .tc .vmem S128x256 .f32} {harg5 : arg5.IsWhole}
  {arg6 : Memref sig .tc .vmem S128x128 .f32} {harg6 : arg6.IsWhole}
  {arg7 : Memref sig .tc .vmem S128x128 .f32} {harg7 : arg7.IsWhole}
  {arg8 : Memref sig .tc .vmem S128x128 .f32} {harg8 : arg8.IsWhole}
  {arg9 : Memref sig .tc .vmem S128x128 .f32} {harg9 : arg9.IsWhole}
  {arg10 : Memref sig .tc .vmem S1x128 .f32} {harg10 : arg10.IsWhole}
  {arg11 : Memref sig .tc .vmem S128x768 .f32} {harg11 : arg11.IsWhole}
  {arg12 : Memref sig .tc .vmem S128x768 .bf16} {harg12 : arg12.IsWhole}
  {arg13 : Memref sig .tc .vmem S128x256 .bf16} {harg13 : arg13.IsWhole}
  {arg14 : Memref sig .tc .vmem S128x256 .bf16} {harg14 : arg14.IsWhole}
  {arg15 : Memref sig .tc .vmem S1x128 .f32} {harg15 : arg15.IsWhole}
  {arg16 : Memref sig .tc .vmem S128x256 .f32} {harg16 : arg16.IsWhole}
  {arg17 : Memref sig .tc .vmem S128x256 .f32} {harg17 : arg17.IsWhole}
  {x0 : Vec F S128x768 .f32} {x1 x2 x3 x4 : Vec F S128x256 .f32} {x5 x6 x7 x8 : Vec F S128x128 .f32}
  {x9 : Vec F S1x128 .f32} {x10 : Vec F S128x768 .f32} {xo : Vec F S1x128 .f32} {xs0 xs1 : Vec F S128x256 .f32}

/-- The window as loaded. -/
theorem wA_r : kernelRun0_A.sl.r (F := F) c arg11 harg11 x10 = x10 := by
  simp only [kernelRun0_A.sl.r, View.readAt_eq_ld, View.ld_unit_zero (S := S128x768) off00, View.ld_unit_zero (S := S128x256) off00, View.ld_unit_zero (S := S128x128) off00, View.ld_unit_zero (S := S1x128) off00, harg11.read_unread]

/-- The window as loaded. -/
theorem wA_r_1 : kernelRun0_A.sl.r_1 (F := F) c arg1 harg1 x0 = x0 := by
  simp only [kernelRun0_A.sl.r_1, View.readAt_eq_ld, View.ld_unit_zero (S := S128x768) off00, View.ld_unit_zero (S := S128x256) off00, View.ld_unit_zero (S := S128x128) off00, View.ld_unit_zero (S := S1x128) off00, harg1.read_unread]

/-- The window as loaded. -/
theorem wA_r_2 : kernelRun0_A.sl.r_2 (F := F) c arg4 harg4 x3 = x3 := by
  simp only [kernelRun0_A.sl.r_2, View.readAt_eq_ld, View.ld_unit_zero (S := S128x768) off00, View.ld_unit_zero (S := S128x256) off00, View.ld_unit_zero (S := S128x128) off00, View.ld_unit_zero (S := S1x128) off00, harg4.read_unread]

/-- The window as loaded. -/
theorem wA_r_3 : kernelRun0_A.sl.r_3 (F := F) c arg5 harg5 x4 = x4 := by
  simp only [kernelRun0_A.sl.r_3, View.readAt_eq_ld, View.ld_unit_zero (S := S128x768) off00, View.ld_unit_zero (S := S128x256) off00, View.ld_unit_zero (S := S128x128) off00, View.ld_unit_zero (S := S1x128) off00, harg5.read_unread]

/-- The window as loaded. -/
theorem wA_r_4 : kernelRun0_A.sl.r_4 (F := F) c arg10 harg10 x9 = x9 := by
  simp only [kernelRun0_A.sl.r_4, View.readAt_eq_ld, View.ld_unit_zero (S := S128x768) off00, View.ld_unit_zero (S := S128x256) off00, View.ld_unit_zero (S := S128x128) off00, View.ld_unit_zero (S := S1x128) off00, harg10.read_unread]

/-- The window as loaded. -/
theorem wA_r_5 : kernelRun0_A.sl.r_5 (F := F) c arg2 harg2 x1 = x1 := by
  simp only [kernelRun0_A.sl.r_5, View.readAt_eq_ld, View.ld_unit_zero (S := S128x768) off00, View.ld_unit_zero (S := S128x256) off00, View.ld_unit_zero (S := S128x128) off00, View.ld_unit_zero (S := S1x128) off00, harg2.read_unread]

/-- The window as loaded. -/
theorem wA_r_6 : kernelRun0_A.sl.r_6 (F := F) c arg3 harg3 x2 = x2 := by
  simp only [kernelRun0_A.sl.r_6, View.readAt_eq_ld, View.ld_unit_zero (S := S128x768) off00, View.ld_unit_zero (S := S128x256) off00, View.ld_unit_zero (S := S128x128) off00, View.ld_unit_zero (S := S1x128) off00, harg3.read_unread]

/-- The window as loaded. -/
theorem wA_r_20 : kernelRun0_A.sl.r_20 (F := F) c arg7 harg7 x6 = x6 := by
  simp only [kernelRun0_A.sl.r_20, View.readAt_eq_ld, View.ld_unit_zero (S := S128x768) off00, View.ld_unit_zero (S := S128x256) off00, View.ld_unit_zero (S := S128x128) off00, View.ld_unit_zero (S := S1x128) off00, harg7.read_unread]

/-- A table of the rotation. -/
theorem wA_v13 : kernelRun0_A.sl.v13 (F := F) c arg6 harg6 x5 = shapeCast S128x128 x5 shapeCasts_S128x128_S128x128 := by
  simp only [kernelRun0_A.sl.v13, View.readAt_eq_ld, View.ld_unit_zero (S := S128x768) off00, View.ld_unit_zero (S := S128x256) off00, View.ld_unit_zero (S := S128x128) off00, View.ld_unit_zero (S := S1x128) off00, harg6.read_unread]

/-- A table of the rotation. -/
theorem wA_v15 : kernelRun0_A.sl.v15 (F := F) c arg7 harg7 x6 = shapeCast S128x128 x6 shapeCasts_S128x128_S128x128 := by
  simp only [kernelRun0_A.sl.v15, View.readAt_eq_ld, View.ld_unit_zero (S := S128x768) off00, View.ld_unit_zero (S := S128x256) off00, View.ld_unit_zero (S := S128x128) off00, View.ld_unit_zero (S := S1x128) off00, harg7.read_unread]

/-- A table of the rotation. -/
theorem wA_v17 : kernelRun0_A.sl.v17 (F := F) c arg8 harg8 x7 = shapeCast S128x128 x7 shapeCasts_S128x128_S128x128 := by
  simp only [kernelRun0_A.sl.v17, View.readAt_eq_ld, View.ld_unit_zero (S := S128x768) off00, View.ld_unit_zero (S := S128x256) off00, View.ld_unit_zero (S := S128x128) off00, View.ld_unit_zero (S := S1x128) off00, harg8.read_unread]

/-- A table of the rotation. -/
theorem wA_v19 : kernelRun0_A.sl.v19 (F := F) c arg9 harg9 x8 = shapeCast S128x128 x8 shapeCasts_S128x128_S128x128 := by
  simp only [kernelRun0_A.sl.v19, View.readAt_eq_ld, View.ld_unit_zero (S := S128x768) off00, View.ld_unit_zero (S := S128x256) off00, View.ld_unit_zero (S := S128x128) off00, View.ld_unit_zero (S := S1x128) off00, harg9.read_unread]

/-- The carried part, still zero. -/
theorem wA_v315 : kernelRun0_A.sl.v315 (F := F) c arg16 = lt k0_pay2 := by
  simp only [kernelRun0_A.sl.v315, kernelRun0_A.sl.HS0_1]
  rw [View.readCov_fill _ _ _ _ _ (by decide)]
  rfl

/-- The carried part, still zero. -/
theorem wA_v320 : kernelRun0_A.sl.v320 (F := F) c arg17 = lt k0_pay3 := by
  simp only [kernelRun0_A.sl.v320, kernelRun0_A.sl.HS0_1]
  rw [View.readCov_fill _ _ _ _ _ (by decide)]
  rfl

/-- A tile of the stack. -/
theorem wA_v39 : kernelRun0_A.sl.v39 (F := F) c arg1 harg1 arg6 harg6 arg7 harg7 x0 x5 x6 = rope (h0 i x0 x1 x2 x3 x4 x5 x6 x7 x8 x9 x10).q0 (h0 i x0 x1 x2 x3 x4 x5 x6 x7 x8 x9 x10).c (h0 i x0 x1 x2 x3 x4 x5 x6 x7 x8 x9 x10).s := by
  simp only [kernelRun0_A.sl.v39, kernelRun0_A.sl.v36, kernelRun0_A.sl.v35, kernelRun0_A.sl.v38, kernelRun0_A.sl.v37, wA_r_1, wA_v13, wA_v15] <;> rfl

/-- A tile of the stack. -/
theorem wA_v44 : kernelRun0_A.sl.v44 (F := F) c arg1 harg1 arg6 harg6 arg7 harg7 x0 x5 x6 = rope (h0 i x0 x1 x2 x3 x4 x5 x6 x7 x8 x9 x10).q1 (h0 i x0 x1 x2 x3 x4 x5 x6 x7 x8 x9 x10).c (h0 i x0 x1 x2 x3 x4 x5 x6 x7 x8 x9 x10).s := by
  simp only [kernelRun0_A.sl.v44, kernelRun0_A.sl.v41, kernelRun0_A.sl.v40, kernelRun0_A.sl.v43, kernelRun0_A.sl.v42, wA_r_1, wA_v13, wA_v15] <;> rfl

/-- A tile of the stack. -/
theorem wA_v49 : kernelRun0_A.sl.v49 (F := F) c arg1 harg1 arg6 harg6 arg7 harg7 x0 x5 x6 = rope (h0 i x0 x1 x2 x3 x4 x5 x6 x7 x8 x9 x10).q2 (h0 i x0 x1 x2 x3 x4 x5 x6 x7 x8 x9 x10).c (h0 i x0 x1 x2 x3 x4 x5 x6 x7 x8 x9 x10).s := by
  simp only [kernelRun0_A.sl.v49, kernelRun0_A.sl.v46, kernelRun0_A.sl.v45, kernelRun0_A.sl.v48, kernelRun0_A.sl.v47, wA_r_1, wA_v13, wA_v15] <;> rfl

/-- The rotated queries of the first head. -/
theorem wA_v50 : kernelRun0_A.sl.v50 (F := F) c arg1 harg1 arg6 harg6 arg7 harg7 x0 x5 x6 = (h0 i x0 x1 x2 x3 x4 x5 x6 x7 x8 x9 x10).qs := by
  unfold kernelRun0_A.sl.v50
  exact concat3 (F := F) (e := .f32) (S₁ := S128x128) (S₂ := S128x128) (S₃ := S128x128) (wA_v39 (i := i) (x1 := x1) (x10 := x10) (x2 := x2) (x3 := x3) (x4 := x4) (x7 := x7) (x8 := x8) (x9 := x9)) (wA_v44 (i := i) (x1 := x1) (x10 := x10) (x2 := x2) (x3 := x3) (x4 := x4) (x7 := x7) (x8 := x8) (x9 := x9)) (wA_v49 (i := i) (x1 := x1) (x10 := x10) (x2 := x2) (x3 := x3) (x4 := x4) (x7 := x7) (x8 := x8) (x9 := x9))

/-- The rounded queries of the first head. -/
theorem wA_v51 : kernelRun0_A.sl.v51 (F := F) c arg1 harg1 arg6 harg6 arg7 harg7 x0 x5 x6 = truncf .bf16 (h0 i x0 x1 x2 x3 x4 x5 x6 x7 x8 x9 x10).qs bitsLt_bf16_f32 := by
  simp only [kernelRun0_A.sl.v51, wA_v50 (i := i) (x1 := x1) (x10 := x10) (x2 := x2) (x3 := x3) (x4 := x4) (x7 := x7) (x8 := x8) (x9 := x9)] <;> rfl

/-- A tile of the stack. -/
theorem wA_v25 : kernelRun0_A.sl.v25 (F := F) c arg3 harg3 arg8 harg8 arg9 harg9 x2 x7 x8 = rope (h0 i x0 x1 x2 x3 x4 x5 x6 x7 x8 x9 x10).kp (h0 i x0 x1 x2 x3 x4 x5 x6 x7 x8 x9 x10).cp (h0 i x0 x1 x2 x3 x4 x5 x6 x7 x8 x9 x10).sp := by
  simp only [kernelRun0_A.sl.v25, kernelRun0_A.sl.v22, kernelRun0_A.sl.v21, kernelRun0_A.sl.v24, kernelRun0_A.sl.v23, wA_v17, wA_v19, View.readAt_eq_ld, View.ld_unit_zero (S := S128x768) off00, View.ld_unit_zero (S := S128x256) off00, View.ld_unit_zero (S := S128x128) off00, View.ld_unit_zero (S := S1x128) off00, harg3.read_unread, harg8.read_unread, harg9.read_unread] <;> rfl

/-- A tile of the stack. -/
theorem wA_v30 : kernelRun0_A.sl.v30 (F := F) c arg2 harg2 arg6 harg6 arg7 harg7 x1 x5 x6 = rope (h0 i x0 x1 x2 x3 x4 x5 x6 x7 x8 x9 x10).kc (h0 i x0 x1 x2 x3 x4 x5 x6 x7 x8 x9 x10).c (h0 i x0 x1 x2 x3 x4 x5 x6 x7 x8 x9 x10).s := by
  simp only [kernelRun0_A.sl.v30, kernelRun0_A.sl.v27, kernelRun0_A.sl.v26, kernelRun0_A.sl.v29, kernelRun0_A.sl.v28, wA_v13, wA_v15, View.readAt_eq_ld, View.ld_unit_zero (S := S128x768) off00, View.ld_unit_zero (S := S128x256) off00, View.ld_unit_zero (S := S128x128) off00, View.ld_unit_zero (S := S1x128) off00, harg2.read_unread, harg6.read_unread, harg7.read_unread] <;> rfl

/-- The rotated keys of the first head. -/
theorem wA_v31 : kernelRun0_A.sl.v31 (F := F) c arg2 harg2 arg3 harg3 arg6 harg6 arg7 harg7 arg8 harg8 arg9 harg9 x1 x2 x5 x6 x7 x8 = (h0 i x0 x1 x2 x3 x4 x5 x6 x7 x8 x9 x10).kcat := by
  unfold kernelRun0_A.sl.v31
  exact concat2 (F := F) (e := .f32) (S₁ := S128x128) (S₂ := S128x128) (wA_v25 (i := i) (x0 := x0) (x1 := x1) (x10 := x10) (x3 := x3) (x4 := x4) (x5 := x5) (x6 := x6) (x9 := x9)) (wA_v30 (i := i) (x0 := x0) (x10 := x10) (x2 := x2) (x3 := x3) (x4 := x4) (x7 := x7) (x8 := x8) (x9 := x9))

/-- The rounded keys of the first head. -/
theorem wA_v52 : kernelRun0_A.sl.v52 (F := F) c arg2 harg2 arg3 harg3 arg6 harg6 arg7 harg7 arg8 harg8 arg9 harg9 x1 x2 x5 x6 x7 x8 = truncf .bf16 (h0 i x0 x1 x2 x3 x4 x5 x6 x7 x8 x9 x10).kcat bitsLt_bf16_f32 := by
  simp only [kernelRun0_A.sl.v52, wA_v31 (i := i) (x0 := x0) (x10 := x10) (x3 := x3) (x4 := x4) (x9 := x9)] <;> rfl

/-- The scores of the first head. -/
theorem wA_v55 : kernelRun0_A.sl.v55 (F := F) c arg1 harg1 arg2 harg2 arg3 harg3 arg6 harg6 arg7 harg7 arg8 harg8 arg9 harg9 x0 x1 x2 x5 x6 x7 x8 = (h0 i x0 x1 x2 x3 x4 x5 x6 x7 x8 x9 x10).sc := by
  simp only [kernelRun0_A.sl.v55, kernelRun0_A.sl.v53, kernelRun0_A.sl.cst_26, kernelRun0_A.sl.v54, kernelRun0_A.sl.cst_27, wA_v51 (i := i) (x1 := x1) (x10 := x10) (x2 := x2) (x3 := x3) (x4 := x4) (x7 := x7) (x8 := x8) (x9 := x9), wA_v52 (i := i) (x0 := x0) (x10 := x10) (x3 := x3) (x4 := x4) (x9 := x9)] <;> rfl

/-- The first admitted key. -/
theorem wA_v110 : kernelRun0_A.sl.v110 i = lo i := by
  simp only [kernelRun0_A.sl.v110, kernelRun0_A.sl.v109, kernelRun0_A.sl.v0] <;> rfl

/-- The probabilities of the first head. -/
theorem wA_r_9 : kernelRun0_A.sl.r_9 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).pn := by
  simp only [kernelRun0_A.sl.r_9, kernelRun0_A.sl.v105, kernelRun0_A.sl.v106, kernelRun0_A.sl.v108, kernelRun0_A.sl.v111, kernelRun0_A.sl.v112, wA_r_4, wA_v55 (i := i) (x10 := x10) (x3 := x3) (x4 := x4) (x9 := x9), wA_v110] <;> rfl

/-- A tile of the stack. -/
theorem wA_v32 : kernelRun0_A.sl.v32 (F := F) c arg5 harg5 x4 = (h0 i x0 x1 x2 x3 x4 x5 x6 x7 x8 x9 x10).vp := by
  simp only [kernelRun0_A.sl.v32, wA_r_3] <;> rfl

/-- A tile of the stack. -/
theorem wA_v33 : kernelRun0_A.sl.v33 (F := F) c arg4 harg4 x3 = (h0 i x0 x1 x2 x3 x4 x5 x6 x7 x8 x9 x10).vc := by
  simp only [kernelRun0_A.sl.v33, wA_r_2] <;> rfl

/-- The values of the first head. -/
theorem wA_v34 : kernelRun0_A.sl.v34 (F := F) c arg4 harg4 arg5 harg5 x3 x4 = (h0 i x0 x1 x2 x3 x4 x5 x6 x7 x8 x9 x10).vcat := by
  unfold kernelRun0_A.sl.v34
  exact concat2 (F := F) (e := .f32) (S₁ := S128x128) (S₂ := S128x128) (wA_v32 (i := i) (x0 := x0) (x1 := x1) (x10 := x10) (x2 := x2) (x3 := x3) (x5 := x5) (x6 := x6) (x7 := x7) (x8 := x8) (x9 := x9)) (wA_v33 (i := i) (x0 := x0) (x1 := x1) (x10 := x10) (x2 := x2) (x4 := x4) (x5 := x5) (x6 := x6) (x7 := x7) (x8 := x8) (x9 := x9))

/-- The cotangent of the probabilities of the first head. -/
theorem wA_r_10 : kernelRun0_A.sl.r_10 (F := F) c arg4 harg4 arg5 harg5 arg11 harg11 x3 x4 x10 = (h0 i x0 x1 x2 x3 x4 x5 x6 x7 x8 x9 x10).dp := by
  simp only [kernelRun0_A.sl.r_10, wA_r, wA_v34 (i := i) (x0 := x0) (x1 := x1) (x10 := x10) (x2 := x2) (x5 := x5) (x6 := x6) (x7 := x7) (x8 := x8) (x9 := x9)] <;> rfl

/-- The first head's gradient of the scores. -/
theorem wA_r_19 : kernelRun0_A.sl.r_19 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = truncf .bf16 (h0 i x0 x1 x2 x3 x4 x5 x6 x7 x8 x9 x10).ds bitsLt_bf16_f32 := by
  simp only [kernelRun0_A.sl.r_19, wA_r_9 (x10 := x10) (x3 := x3) (x4 := x4), wA_r_10 (i := i) (x0 := x0) (x1 := x1) (x2 := x2) (x5 := x5) (x6 := x6) (x7 := x7) (x8 := x8) (x9 := x9)] <;> rfl

/-- The first head's gradient of the rotated keys. -/
theorem wA_v218 : kernelRun0_A.sl.v218 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dk := by
  simp only [kernelRun0_A.sl.v218, kernelRun0_A.sl.v216, kernelRun0_A.sl.cst_76, kernelRun0_A.sl.v217, kernelRun0_A.sl.cst_27, wA_r_19, wA_v51 (i := i) (x1 := x1) (x10 := x10) (x2 := x2) (x3 := x3) (x4 := x4) (x7 := x7) (x8 := x8) (x9 := x9)] <;> rfl

/-- The first head's carried part. -/
theorem wA_v335 : kernelRun0_A.sl.v335 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).cko := by
  simp only [kernelRun0_A.sl.v335, kernelRun0_A.sl.v332, kernelRun0_A.sl.v329, kernelRun0_A.sl.v324, kernelRun0_A.sl.v331, kernelRun0_A.sl.v330, wA_v218, wA_v17, wA_v19] <;> rfl

/-- The carried part of the second head. -/
theorem wA_v412 : kernelRun0_A.sl.v412 (F := F) c i arg1 harg1 arg2 harg2 arg3 harg3 arg4 harg4 arg5 harg5 arg6 harg6 arg7 harg7 arg8 harg8 arg9 harg9 arg10 harg10 arg11 harg11 arg16 x0 x1 x2 x3 x4 x5 x6 x7 x8 x9 x10 = rt k0_pay2 := by
  simp only [kernelRun0_A.sl.v412, kernelRun0_A.sl.HS0_2, kernelRun0_A.sl.HS0_1]
  rw [View.readCov_skip _ _ _ _ _ (by decide), View.readCov_fill _ _ _ _ _ (by decide)]
  rfl

/-- The gradient of the values of the first head. -/
theorem wA_r_11 : kernelRun0_A.sl.r_11 (F := F) c i arg1 harg1 arg2 harg2 arg3 harg3 arg6 harg6 arg7 harg7 arg8 harg8 arg9 harg9 arg10 harg10 arg11 harg11 x0 x1 x2 x5 x6 x7 x8 x9 x10 = (h0 i x0 x1 x2 x3 x4 x5 x6 x7 x8 x9 x10).dv := by
  simp only [kernelRun0_A.sl.r_11, kernelRun0_A.sl.v105, kernelRun0_A.sl.v106, kernelRun0_A.sl.v108, kernelRun0_A.sl.v111, kernelRun0_A.sl.v112, wA_r, wA_r_4, wA_v55 (i := i) (x10 := x10) (x3 := x3) (x4 := x4) (x9 := x9), wA_v110] <;> rfl

/-- The first head's carried part. -/
theorem wA_v339 : kernelRun0_A.sl.v339 (F := F) c i arg1 harg1 arg2 harg2 arg3 harg3 arg6 harg6 arg7 harg7 arg8 harg8 arg9 harg9 arg10 harg10 arg11 harg11 x0 x1 x2 x5 x6 x7 x8 x9 x10 = (h0 i x0 x1 x2 x3 x4 x5 x6 x7 x8 x9 x10).cvo := by
  simp only [kernelRun0_A.sl.v339, kernelRun0_A.sl.v336, wA_r_11 (x3 := x3) (x4 := x4)] <;> rfl

/-- The carried part of the second head. -/
theorem wA_v417 : kernelRun0_A.sl.v417 (F := F) c i arg1 harg1 arg2 harg2 arg3 harg3 arg6 harg6 arg7 harg7 arg8 harg8 arg9 harg9 arg10 harg10 arg11 harg11 arg17 x0 x1 x2 x5 x6 x7 x8 x9 x10 = rt k0_pay3 := by
  simp only [kernelRun0_A.sl.v417, kernelRun0_A.sl.HS1_2, kernelRun0_A.sl.HS0_1]
  rw [View.readCov_skip _ _ _ _ _ (by decide), View.readCov_fill _ _ _ _ _ (by decide)]
  rfl

/-- A tile of the stack. -/
theorem wA_v74 : kernelRun0_A.sl.v74 (F := F) c arg3 harg3 arg8 harg8 arg9 harg9 x2 x7 x8 = rope (h1 i x0 x1 x2 x3 x4 x5 x6 x7 x8 x9 x10).kp (h1 i x0 x1 x2 x3 x4 x5 x6 x7 x8 x9 x10).cp (h1 i x0 x1 x2 x3 x4 x5 x6 x7 x8 x9 x10).sp := by
  simp only [kernelRun0_A.sl.v74, kernelRun0_A.sl.v71, kernelRun0_A.sl.v70, kernelRun0_A.sl.v73, kernelRun0_A.sl.v72, wA_r_6, wA_v17, wA_v19] <;> rfl

/-- A tile of the stack. -/
theorem wA_v79 : kernelRun0_A.sl.v79 (F := F) c arg2 harg2 arg6 harg6 arg7 harg7 x1 x5 x6 = rope (h1 i x0 x1 x2 x3 x4 x5 x6 x7 x8 x9 x10).kc (h1 i x0 x1 x2 x3 x4 x5 x6 x7 x8 x9 x10).c (h1 i x0 x1 x2 x3 x4 x5 x6 x7 x8 x9 x10).s := by
  simp only [kernelRun0_A.sl.v79, kernelRun0_A.sl.v76, kernelRun0_A.sl.v75, kernelRun0_A.sl.v78, kernelRun0_A.sl.v77, wA_r_5, wA_v13, wA_v15] <;> rfl

/-- A tile of the stack. -/
theorem wA_v81 : kernelRun0_A.sl.v81 (F := F) c arg5 harg5 x4 = (h1 i x0 x1 x2 x3 x4 x5 x6 x7 x8 x9 x10).vp := by
  simp only [kernelRun0_A.sl.v81, wA_r_3] <;> rfl

/-- A tile of the stack. -/
theorem wA_v82 : kernelRun0_A.sl.v82 (F := F) c arg4 harg4 x3 = (h1 i x0 x1 x2 x3 x4 x5 x6 x7 x8 x9 x10).vc := by
  simp only [kernelRun0_A.sl.v82, wA_r_2] <;> rfl

/-- A tile of the stack. -/
theorem wA_v88 : kernelRun0_A.sl.v88 (F := F) c arg1 harg1 arg6 harg6 arg7 harg7 x0 x5 x6 = rope (h1 i x0 x1 x2 x3 x4 x5 x6 x7 x8 x9 x10).q0 (h1 i x0 x1 x2 x3 x4 x5 x6 x7 x8 x9 x10).c (h1 i x0 x1 x2 x3 x4 x5 x6 x7 x8 x9 x10).s := by
  simp only [kernelRun0_A.sl.v88, kernelRun0_A.sl.v85, kernelRun0_A.sl.v84, kernelRun0_A.sl.v87, kernelRun0_A.sl.v86, wA_r_1, wA_v13, wA_v15] <;> rfl

/-- A tile of the stack. -/
theorem wA_v93 : kernelRun0_A.sl.v93 (F := F) c arg1 harg1 arg6 harg6 arg7 harg7 x0 x5 x6 = rope (h1 i x0 x1 x2 x3 x4 x5 x6 x7 x8 x9 x10).q1 (h1 i x0 x1 x2 x3 x4 x5 x6 x7 x8 x9 x10).c (h1 i x0 x1 x2 x3 x4 x5 x6 x7 x8 x9 x10).s := by
  simp only [kernelRun0_A.sl.v93, kernelRun0_A.sl.v90, kernelRun0_A.sl.v89, kernelRun0_A.sl.v92, kernelRun0_A.sl.v91, wA_r_1, wA_v13, wA_v15] <;> rfl

/-- A tile of the stack. -/
theorem wA_v98 : kernelRun0_A.sl.v98 (F := F) c arg1 harg1 arg6 harg6 arg7 harg7 x0 x5 x6 = rope (h1 i x0 x1 x2 x3 x4 x5 x6 x7 x8 x9 x10).q2 (h1 i x0 x1 x2 x3 x4 x5 x6 x7 x8 x9 x10).c (h1 i x0 x1 x2 x3 x4 x5 x6 x7 x8 x9 x10).s := by
  simp only [kernelRun0_A.sl.v98, kernelRun0_A.sl.v95, kernelRun0_A.sl.v94, kernelRun0_A.sl.v97, kernelRun0_A.sl.v96, wA_r_1, wA_v13, wA_v15] <;> rfl

/-- The rotated keys of the second head. -/
theorem wA_v80 : kernelRun0_A.sl.v80 (F := F) c arg2 harg2 arg3 harg3 arg6 harg6 arg7 harg7 arg8 harg8 arg9 harg9 x1 x2 x5 x6 x7 x8 = (h1 i x0 x1 x2 x3 x4 x5 x6 x7 x8 x9 x10).kcat := by
  unfold kernelRun0_A.sl.v80
  exact concat2 (F := F) (e := .f32) (S₁ := S128x128) (S₂ := S128x128) (wA_v74 (i := i) (x0 := x0) (x1 := x1) (x10 := x10) (x3 := x3) (x4 := x4) (x5 := x5) (x6 := x6) (x9 := x9)) (wA_v79 (i := i) (x0 := x0) (x10 := x10) (x2 := x2) (x3 := x3) (x4 := x4) (x7 := x7) (x8 := x8) (x9 := x9))

/-- The values of the second head. -/
theorem wA_v83 : kernelRun0_A.sl.v83 (F := F) c arg4 harg4 arg5 harg5 x3 x4 = (h1 i x0 x1 x2 x3 x4 x5 x6 x7 x8 x9 x10).vcat := by
  unfold kernelRun0_A.sl.v83
  exact concat2 (F := F) (e := .f32) (S₁ := S128x128) (S₂ := S128x128) (wA_v81 (i := i) (x0 := x0) (x1 := x1) (x10 := x10) (x2 := x2) (x3 := x3) (x5 := x5) (x6 := x6) (x7 := x7) (x8 := x8) (x9 := x9)) (wA_v82 (i := i) (x0 := x0) (x1 := x1) (x10 := x10) (x2 := x2) (x4 := x4) (x5 := x5) (x6 := x6) (x7 := x7) (x8 := x8) (x9 := x9))

/-- The rotated queries of the second head. -/
theorem wA_v99 : kernelRun0_A.sl.v99 (F := F) c arg1 harg1 arg6 harg6 arg7 harg7 x0 x5 x6 = (h1 i x0 x1 x2 x3 x4 x5 x6 x7 x8 x9 x10).qs := by
  unfold kernelRun0_A.sl.v99
  exact concat3 (F := F) (e := .f32) (S₁ := S128x128) (S₂ := S128x128) (S₃ := S128x128) (wA_v88 (i := i) (x1 := x1) (x10 := x10) (x2 := x2) (x3 := x3) (x4 := x4) (x7 := x7) (x8 := x8) (x9 := x9)) (wA_v93 (i := i) (x1 := x1) (x10 := x10) (x2 := x2) (x3 := x3) (x4 := x4) (x7 := x7) (x8 := x8) (x9 := x9)) (wA_v98 (i := i) (x1 := x1) (x10 := x10) (x2 := x2) (x3 := x3) (x4 := x4) (x7 := x7) (x8 := x8) (x9 := x9))

/-- The rounded queries of the second head. -/
theorem wA_v100 : kernelRun0_A.sl.v100 (F := F) c arg1 harg1 arg6 harg6 arg7 harg7 x0 x5 x6 = truncf .bf16 (h1 i x0 x1 x2 x3 x4 x5 x6 x7 x8 x9 x10).qs bitsLt_bf16_f32 := by
  simp only [kernelRun0_A.sl.v100, wA_v99 (i := i) (x1 := x1) (x10 := x10) (x2 := x2) (x3 := x3) (x4 := x4) (x7 := x7) (x8 := x8) (x9 := x9)] <;> rfl

/-- The rounded keys of the second head. -/
theorem wA_v101 : kernelRun0_A.sl.v101 (F := F) c arg2 harg2 arg3 harg3 arg6 harg6 arg7 harg7 arg8 harg8 arg9 harg9 x1 x2 x5 x6 x7 x8 = truncf .bf16 (h1 i x0 x1 x2 x3 x4 x5 x6 x7 x8 x9 x10).kcat bitsLt_bf16_f32 := by
  simp only [kernelRun0_A.sl.v101, wA_v80 (i := i) (x0 := x0) (x10 := x10) (x3 := x3) (x4 := x4) (x9 := x9)] <;> rfl

/-- The scores of the second head. -/
theorem wA_v104 : kernelRun0_A.sl.v104 (F := F) c arg1 harg1 arg2 harg2 arg3 harg3 arg6 harg6 arg7 harg7 arg8 harg8 arg9 harg9 x0 x1 x2 x5 x6 x7 x8 = (h1 i x0 x1 x2 x3 x4 x5 x6 x7 x8 x9 x10).sc := by
  simp only [kernelRun0_A.sl.v104, kernelRun0_A.sl.v102, kernelRun0_A.sl.cst_26, kernelRun0_A.sl.v54, kernelRun0_A.sl.cst_27, wA_v100 (i := i) (x1 := x1) (x10 := x10) (x2 := x2) (x3 := x3) (x4 := x4) (x7 := x7) (x8 := x8) (x9 := x9), wA_v101 (i := i) (x0 := x0) (x10 := x10) (x3 := x3) (x4 := x4) (x9 := x9)] <;> rfl

/-- The sink's exponential of the first head. -/
theorem wA_r_7 : kernelRun0_A.sl.r_7 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).ps := by
  simp only [kernelRun0_A.sl.r_7, kernelRun0_A.sl.v105, kernelRun0_A.sl.v106, kernelRun0_A.sl.v108, kernelRun0_A.sl.v111, kernelRun0_A.sl.v112, wA_r_4, wA_v55 (i := i) (x10 := x10) (x3 := x3) (x4 := x4) (x9 := x9), wA_v110] <;> rfl

/-- The normaliser of the first head. -/
theorem wA_r_8 : kernelRun0_A.sl.r_8 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).l := by
  simp only [kernelRun0_A.sl.r_8, kernelRun0_A.sl.v105, kernelRun0_A.sl.v106, kernelRun0_A.sl.v108, kernelRun0_A.sl.v111, kernelRun0_A.sl.v112, wA_r_4, wA_v55 (i := i) (x10 := x10) (x3 := x3) (x4 := x4) (x9 := x9), wA_v110] <;> rfl

/-- The sink's exponential of the second head. -/
theorem wA_r_12 : kernelRun0_A.sl.r_12 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).ps := by
  simp only [kernelRun0_A.sl.r_12, kernelRun0_A.sl.v157, wA_r_4, wA_v104 (i := i) (x10 := x10) (x3 := x3) (x4 := x4) (x9 := x9), wA_v110] <;> rfl

/-- The normaliser of the second head. -/
theorem wA_r_13 : kernelRun0_A.sl.r_13 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).l := by
  simp only [kernelRun0_A.sl.r_13, kernelRun0_A.sl.v157, wA_r_4, wA_v104 (i := i) (x10 := x10) (x3 := x3) (x4 := x4) (x9 := x9), wA_v110] <;> rfl

/-- The probabilities of the second head. -/
theorem wA_r_14 : kernelRun0_A.sl.r_14 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).pn := by
  simp only [kernelRun0_A.sl.r_14, kernelRun0_A.sl.v157, wA_r_4, wA_v104 (i := i) (x10 := x10) (x3 := x3) (x4 := x4) (x9 := x9), wA_v110] <;> rfl

/-- The cotangent of the probabilities of the second head. -/
theorem wA_r_15 : kernelRun0_A.sl.r_15 (F := F) c arg4 harg4 arg5 harg5 arg11 harg11 x3 x4 x10 = (h1 i x0 x1 x2 x3 x4 x5 x6 x7 x8 x9 x10).dp := by
  simp only [kernelRun0_A.sl.r_15, wA_r, wA_v83 (i := i) (x0 := x0) (x1 := x1) (x10 := x10) (x2 := x2) (x5 := x5) (x6 := x6) (x7 := x7) (x8 := x8) (x9 := x9)] <;> rfl

/-- The gradient of the values of the second head. -/
theorem wA_r_16 : kernelRun0_A.sl.r_16 (F := F) c i arg1 harg1 arg2 harg2 arg3 harg3 arg6 harg6 arg7 harg7 arg8 harg8 arg9 harg9 arg10 harg10 arg11 harg11 x0 x1 x2 x5 x6 x7 x8 x9 x10 = (h1 i x0 x1 x2 x3 x4 x5 x6 x7 x8 x9 x10).dv := by
  simp only [kernelRun0_A.sl.r_16, kernelRun0_A.sl.v157, wA_r, wA_r_4, wA_v104 (i := i) (x10 := x10) (x3 := x3) (x4 := x4) (x9 := x9), wA_v110] <;> rfl

/-- The first head's row means. -/
theorem wA_r_17 : kernelRun0_A.sl.r_17 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).delta := by
  simp only [kernelRun0_A.sl.r_17, wA_r_9 (x10 := x10) (x3 := x3) (x4 := x4), wA_r_10 (i := i) (x0 := x0) (x1 := x1) (x2 := x2) (x5 := x5) (x6 := x6) (x7 := x7) (x8 := x8) (x9 := x9)] <;> rfl

/-- The first head's gradient of the rotated queries. -/
theorem wA_r_18 : kernelRun0_A.sl.r_18 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dqs := by
  simp only [kernelRun0_A.sl.r_18, wA_v31 (i := i) (x0 := x0) (x10 := x10) (x3 := x3) (x4 := x4) (x9 := x9), wA_r_9 (x10 := x10) (x3 := x3) (x4 := x4), wA_r_10 (i := i) (x0 := x0) (x1 := x1) (x2 := x2) (x5 := x5) (x6 := x6) (x7 := x7) (x8 := x8) (x9 := x9)] <;> rfl

/-- The second head's row means. -/
theorem wA_v221 : kernelRun0_A.sl.v221 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).delta := by
  simp only [kernelRun0_A.sl.v221, kernelRun0_A.sl.v220, kernelRun0_A.sl.v219, wA_r_14 (x10 := x10) (x3 := x3) (x4 := x4), wA_r_15 (i := i) (x0 := x0) (x1 := x1) (x2 := x2) (x5 := x5) (x6 := x6) (x7 := x7) (x8 := x8) (x9 := x9)] <;> rfl

/-- The second head's gradient of the scores. -/
theorem wA_v225 : kernelRun0_A.sl.v225 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = truncf .bf16 (h1 i x0 x1 x2 x3 x4 x5 x6 x7 x8 x9 x10).ds bitsLt_bf16_f32 := by
  simp only [kernelRun0_A.sl.v225, kernelRun0_A.sl.v224, kernelRun0_A.sl.v223, kernelRun0_A.sl.v222, wA_r_14 (x10 := x10) (x3 := x3) (x4 := x4), wA_r_15 (i := i) (x0 := x0) (x1 := x1) (x2 := x2) (x5 := x5) (x6 := x6) (x7 := x7) (x8 := x8) (x9 := x9), wA_v221] <;> rfl

/-- The second head's gradient of the rotated queries. -/
theorem wA_v229 : kernelRun0_A.sl.v229 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dqs := by
  simp only [kernelRun0_A.sl.v229, kernelRun0_A.sl.v227, kernelRun0_A.sl.cst_79, kernelRun0_A.sl.v228, kernelRun0_A.sl.cst_27, wA_v225, wA_v101 (i := i) (x0 := x0) (x10 := x10) (x3 := x3) (x4 := x4) (x9 := x9)] <;> rfl

/-- The second head's gradient of the rotated keys. -/
theorem wA_v234 : kernelRun0_A.sl.v234 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dk := by
  simp only [kernelRun0_A.sl.v234, kernelRun0_A.sl.v232, kernelRun0_A.sl.cst_76, kernelRun0_A.sl.v217, kernelRun0_A.sl.cst_27, wA_v225, wA_v100 (i := i) (x1 := x1) (x10 := x10) (x2 := x2) (x3 := x3) (x4 := x4) (x7 := x7) (x8 := x8) (x9 := x9)] <;> rfl

/-- The first head's sink terms. -/
theorem wA_v238 : kernelRun0_A.sl.v238 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dz := by
  simp only [kernelRun0_A.sl.v238, kernelRun0_A.sl.v237, kernelRun0_A.sl.v236, kernelRun0_A.sl.cst_183, kernelRun0_A.sl.v235, wA_r_7 (x10 := x10) (x3 := x3) (x4 := x4), wA_r_8 (x10 := x10) (x3 := x3) (x4 := x4), wA_r_17] <;> rfl

/-- The second head's sink terms. -/
theorem wA_v242 : kernelRun0_A.sl.v242 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dz := by
  simp only [kernelRun0_A.sl.v242, kernelRun0_A.sl.v241, kernelRun0_A.sl.v236, kernelRun0_A.sl.cst_183, kernelRun0_A.sl.v239, wA_r_12 (x10 := x10) (x3 := x3) (x4 := x4), wA_r_13 (x10 := x10) (x3 := x3) (x4 := x4), wA_v221] <;> rfl

/-- The row of sink gradients so far. -/
theorem wA_v252 : kernelRun0_A.sl.v252 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 0#32 (extractStridedSlice S128x1 ![0, 0] (h0 i x0 x1 x2 x3 x4 x5 x6 x7 x8 x9 x10).dz slices_S384x1_o0_0_S128x1) (broadcast S1x128 (Scalar.ofBits .f32 0x00000000#32)) := by
  simp only [kernelRun0_A.sl.v252, kernelRun0_A.sl.v449, kernelRun0_A.sl.cst_183, kernelRun0_A.sl.v251, kernelRun0_A.sl.v4, kernelRun0_A.sl.v246, kernelRun0_A.sl.v249, kernelRun0_A.sl.v248, kernelRun0_A.sl.v245, kernelRun0_A.sl.v244, kernelRun0_A.sl.v243, wA_v238] <;> rfl

/-- The row of sink gradients so far. -/
theorem wA_v262 : kernelRun0_A.sl.v262 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))) := by
  simp only [kernelRun0_A.sl.v262, kernelRun0_A.sl.v261, kernelRun0_A.sl.v4, kernelRun0_A.sl.v256, kernelRun0_A.sl.v259, kernelRun0_A.sl.v258, kernelRun0_A.sl.v255, kernelRun0_A.sl.v254, kernelRun0_A.sl.v253, kernelRun0_A.sl.v449, kernelRun0_A.sl.cst_183, wA_v252, wA_v238] <;> rfl

/-- The row of sink gradients so far. -/
theorem wA_v272 : kernelRun0_A.sl.v272 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32)))) := by
  simp only [kernelRun0_A.sl.v272, kernelRun0_A.sl.v271, kernelRun0_A.sl.v4, kernelRun0_A.sl.v266, kernelRun0_A.sl.v269, kernelRun0_A.sl.v268, kernelRun0_A.sl.v265, kernelRun0_A.sl.v264, kernelRun0_A.sl.v263, kernelRun0_A.sl.v449, kernelRun0_A.sl.cst_183, wA_v262, wA_v238] <;> rfl

/-- The row of sink gradients so far. -/
theorem wA_v349 : kernelRun0_A.sl.v349 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))))) := by
  simp only [kernelRun0_A.sl.v349, kernelRun0_A.sl.v348, kernelRun0_A.sl.v4, kernelRun0_A.sl.v343, kernelRun0_A.sl.v346, kernelRun0_A.sl.v345, kernelRun0_A.sl.v342, kernelRun0_A.sl.v341, kernelRun0_A.sl.v340, kernelRun0_A.sl.v449, kernelRun0_A.sl.cst_183, wA_v272, wA_v242] <;> rfl

/-- The row of sink gradients so far. -/
theorem wA_v359 : kernelRun0_A.sl.v359 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 4#32 (extractStridedSlice S128x1 ![128, 0] (h1 i x0 x1 x2 x3 x4 x5 x6 x7 x8 x9 x10).dz slices_S384x1_o128_0_S128x1) (lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32)))))) := by
  simp only [kernelRun0_A.sl.v359, kernelRun0_A.sl.v358, kernelRun0_A.sl.v4, kernelRun0_A.sl.v353, kernelRun0_A.sl.v356, kernelRun0_A.sl.v355, kernelRun0_A.sl.v352, kernelRun0_A.sl.v351, kernelRun0_A.sl.v350, kernelRun0_A.sl.v449, kernelRun0_A.sl.cst_183, wA_v349, wA_v242] <;> rfl

/-- The row of sink gradients so far. -/
theorem wA_v369 : kernelRun0_A.sl.v369 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 5#32 (extractStridedSlice S128x1 ![256, 0] (h1 i x0 x1 x2 x3 x4 x5 x6 x7 x8 x9 x10).dz slices_S384x1_o256_0_S128x1) (lane 4#32 (extractStridedSlice S128x1 ![128, 0] (h1 i x0 x1 x2 x3 x4 x5 x6 x7 x8 x9 x10).dz slices_S384x1_o128_0_S128x1) (lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))))))) := by
  simp only [kernelRun0_A.sl.v369, kernelRun0_A.sl.v368, kernelRun0_A.sl.v4, kernelRun0_A.sl.v363, kernelRun0_A.sl.v366, kernelRun0_A.sl.v365, kernelRun0_A.sl.v362, kernelRun0_A.sl.v361, kernelRun0_A.sl.v360, kernelRun0_A.sl.v449, kernelRun0_A.sl.cst_183, wA_v359, wA_v242] <;> rfl

/-- A tile of the gradient of the queries. -/
theorem wA_v282 : kernelRun0_A.sl.v282 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq0 := by
  simp only [kernelRun0_A.sl.v282, kernelRun0_A.sl.v281, kernelRun0_A.sl.v278, kernelRun0_A.sl.v273, kernelRun0_A.sl.v280, kernelRun0_A.sl.v279, wA_r_18, wA_v13, wA_v15] <;> rfl

/-- A tile of the gradient of the queries. -/
theorem wA_v293 : kernelRun0_A.sl.v293 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq1 := by
  simp only [kernelRun0_A.sl.v293, kernelRun0_A.sl.v292, kernelRun0_A.sl.v289, kernelRun0_A.sl.v284, kernelRun0_A.sl.v291, kernelRun0_A.sl.v290, wA_r_18, wA_v13, wA_v15] <;> rfl

/-- A tile of the gradient of the queries. -/
theorem wA_v304 : kernelRun0_A.sl.v304 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq2 := by
  simp only [kernelRun0_A.sl.v304, kernelRun0_A.sl.v303, kernelRun0_A.sl.v300, kernelRun0_A.sl.v295, kernelRun0_A.sl.v302, kernelRun0_A.sl.v301, wA_r_18, wA_v13, wA_v15] <;> rfl

/-- A tile of the gradient of the queries. -/
theorem wA_v379 : kernelRun0_A.sl.v379 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq0 := by
  simp only [kernelRun0_A.sl.v379, kernelRun0_A.sl.v378, kernelRun0_A.sl.v375, kernelRun0_A.sl.v370, kernelRun0_A.sl.v377, kernelRun0_A.sl.v376, kernelRun0_A.sl.v374, wA_v229, wA_v13, wA_r_20] <;> rfl

/-- A tile of the gradient of the queries. -/
theorem wA_v390 : kernelRun0_A.sl.v390 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq1 := by
  simp only [kernelRun0_A.sl.v390, kernelRun0_A.sl.v389, kernelRun0_A.sl.v386, kernelRun0_A.sl.v381, kernelRun0_A.sl.v388, kernelRun0_A.sl.v387, wA_v229, wA_v13, wA_v15] <;> rfl

/-- A tile of the gradient of the queries. -/
theorem wA_v401 : kernelRun0_A.sl.v401 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq2 := by
  simp only [kernelRun0_A.sl.v401, kernelRun0_A.sl.v400, kernelRun0_A.sl.v397, kernelRun0_A.sl.v392, kernelRun0_A.sl.v399, kernelRun0_A.sl.v398, wA_v229, wA_v13, wA_v15] <;> rfl

/-- The first head's gradient of the keys. -/
theorem wA_v317 : kernelRun0_A.sl.v317 (F := F) c i arg1 harg1 arg2 harg2 arg3 harg3 arg4 harg4 arg5 harg5 arg6 harg6 arg7 harg7 arg8 harg8 arg9 harg9 arg10 harg10 arg11 harg11 arg16 x0 x1 x2 x3 x4 x5 x6 x7 x8 x9 x10 = (h0 i x0 x1 x2 x3 x4 x5 x6 x7 x8 x9 x10).dko (lt k0_pay2) := by
  simp only [kernelRun0_A.sl.v317, kernelRun0_A.sl.v316, kernelRun0_A.sl.v314, kernelRun0_A.sl.v311, kernelRun0_A.sl.v306, kernelRun0_A.sl.v313, kernelRun0_A.sl.v312, wA_v218, wA_v13, wA_v15, wA_v315] <;> rfl

/-- The first head's gradient of the values. -/
theorem wA_v322 : kernelRun0_A.sl.v322 (F := F) c i arg1 harg1 arg2 harg2 arg3 harg3 arg6 harg6 arg7 harg7 arg8 harg8 arg9 harg9 arg10 harg10 arg11 harg11 arg17 x0 x1 x2 x5 x6 x7 x8 x9 x10 = (h0 i x0 x1 x2 x3 x4 x5 x6 x7 x8 x9 x10).dvo (lt k0_pay3) := by
  simp only [kernelRun0_A.sl.v322, kernelRun0_A.sl.v321, kernelRun0_A.sl.v319, wA_r_11 (x3 := x3) (x4 := x4), wA_v320] <;> rfl

end Cert.KernelIdeal.Attn

end
-- ==== Proof.Attn.WordsB.lean ====
/- The values the executed body computes at a later grid point, one by one, are those Head.lean writes. -/
module

public import proofs.«01_k».proof.Proof.Attn.WordsA

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F] [Named F]

variable {c : Dev nD} {i : grid0.Coords}
  {arg1 : Memref sig .tc .vmem S128x768 .f32} {harg1 : arg1.IsWhole}
  {arg2 : Memref sig .tc .vmem S128x256 .f32} {harg2 : arg2.IsWhole}
  {arg3 : Memref sig .tc .vmem S128x256 .f32} {harg3 : arg3.IsWhole}
  {arg4 : Memref sig .tc .vmem S128x256 .f32} {harg4 : arg4.IsWhole}
  {arg5 : Memref sig .tc .vmem S128x256 .f32} {harg5 : arg5.IsWhole}
  {arg6 : Memref sig .tc .vmem S128x128 .f32} {harg6 : arg6.IsWhole}
  {arg7 : Memref sig .tc .vmem S128x128 .f32} {harg7 : arg7.IsWhole}
  {arg8 : Memref sig .tc .vmem S128x128 .f32} {harg8 : arg8.IsWhole}
  {arg9 : Memref sig .tc .vmem S128x128 .f32} {harg9 : arg9.IsWhole}
  {arg10 : Memref sig .tc .vmem S1x128 .f32} {harg10 : arg10.IsWhole}
  {arg11 : Memref sig .tc .vmem S128x768 .f32} {harg11 : arg11.IsWhole}
  {arg12 : Memref sig .tc .vmem S128x768 .bf16} {harg12 : arg12.IsWhole}
  {arg13 : Memref sig .tc .vmem S128x256 .bf16} {harg13 : arg13.IsWhole}
  {arg14 : Memref sig .tc .vmem S128x256 .bf16} {harg14 : arg14.IsWhole}
  {arg15 : Memref sig .tc .vmem S1x128 .f32} {harg15 : arg15.IsWhole}
  {arg16 : Memref sig .tc .vmem S128x256 .f32} {harg16 : arg16.IsWhole}
  {arg17 : Memref sig .tc .vmem S128x256 .f32} {harg17 : arg17.IsWhole}
  {x0 : Vec F S128x768 .f32} {x1 x2 x3 x4 : Vec F S128x256 .f32} {x5 x6 x7 x8 : Vec F S128x128 .f32}
  {x9 : Vec F S1x128 .f32} {x10 : Vec F S128x768 .f32} {xo : Vec F S1x128 .f32} {xs0 xs1 : Vec F S128x256 .f32}

/-- The window as loaded. -/
theorem wB_r : kernelRun0_B.sl.r (F := F) c arg11 harg11 x10 = x10 := by
  simp only [kernelRun0_B.sl.r, View.readAt_eq_ld, View.ld_unit_zero (S := S128x768) off00, View.ld_unit_zero (S := S128x256) off00, View.ld_unit_zero (S := S128x128) off00, View.ld_unit_zero (S := S1x128) off00, harg11.read_unread]

/-- The window as loaded. -/
theorem wB_r_1 : kernelRun0_B.sl.r_1 (F := F) c arg1 harg1 x0 = x0 := by
  simp only [kernelRun0_B.sl.r_1, View.readAt_eq_ld, View.ld_unit_zero (S := S128x768) off00, View.ld_unit_zero (S := S128x256) off00, View.ld_unit_zero (S := S128x128) off00, View.ld_unit_zero (S := S1x128) off00, harg1.read_unread]

/-- The window as loaded. -/
theorem wB_r_2 : kernelRun0_B.sl.r_2 (F := F) c arg4 harg4 x3 = x3 := by
  simp only [kernelRun0_B.sl.r_2, View.readAt_eq_ld, View.ld_unit_zero (S := S128x768) off00, View.ld_unit_zero (S := S128x256) off00, View.ld_unit_zero (S := S128x128) off00, View.ld_unit_zero (S := S1x128) off00, harg4.read_unread]

/-- The window as loaded. -/
theorem wB_r_3 : kernelRun0_B.sl.r_3 (F := F) c arg5 harg5 x4 = x4 := by
  simp only [kernelRun0_B.sl.r_3, View.readAt_eq_ld, View.ld_unit_zero (S := S128x768) off00, View.ld_unit_zero (S := S128x256) off00, View.ld_unit_zero (S := S128x128) off00, View.ld_unit_zero (S := S1x128) off00, harg5.read_unread]

/-- The window as loaded. -/
theorem wB_r_4 : kernelRun0_B.sl.r_4 (F := F) c arg10 harg10 x9 = x9 := by
  simp only [kernelRun0_B.sl.r_4, View.readAt_eq_ld, View.ld_unit_zero (S := S128x768) off00, View.ld_unit_zero (S := S128x256) off00, View.ld_unit_zero (S := S128x128) off00, View.ld_unit_zero (S := S1x128) off00, harg10.read_unread]

/-- The window as loaded. -/
theorem wB_r_5 : kernelRun0_B.sl.r_5 (F := F) c arg2 harg2 x1 = x1 := by
  simp only [kernelRun0_B.sl.r_5, View.readAt_eq_ld, View.ld_unit_zero (S := S128x768) off00, View.ld_unit_zero (S := S128x256) off00, View.ld_unit_zero (S := S128x128) off00, View.ld_unit_zero (S := S1x128) off00, harg2.read_unread]

/-- The window as loaded. -/
theorem wB_r_6 : kernelRun0_B.sl.r_6 (F := F) c arg3 harg3 x2 = x2 := by
  simp only [kernelRun0_B.sl.r_6, View.readAt_eq_ld, View.ld_unit_zero (S := S128x768) off00, View.ld_unit_zero (S := S128x256) off00, View.ld_unit_zero (S := S128x128) off00, View.ld_unit_zero (S := S1x128) off00, harg3.read_unread]

/-- The window as loaded. -/
theorem wB_r_20 : kernelRun0_B.sl.r_20 (F := F) c arg7 harg7 x6 = x6 := by
  simp only [kernelRun0_B.sl.r_20, View.readAt_eq_ld, View.ld_unit_zero (S := S128x768) off00, View.ld_unit_zero (S := S128x256) off00, View.ld_unit_zero (S := S128x128) off00, View.ld_unit_zero (S := S1x128) off00, harg7.read_unread]

/-- A table of the rotation. -/
theorem wB_v13 : kernelRun0_B.sl.v13 (F := F) c arg6 harg6 x5 = shapeCast S128x128 x5 shapeCasts_S128x128_S128x128 := by
  simp only [kernelRun0_B.sl.v13, View.readAt_eq_ld, View.ld_unit_zero (S := S128x768) off00, View.ld_unit_zero (S := S128x256) off00, View.ld_unit_zero (S := S128x128) off00, View.ld_unit_zero (S := S1x128) off00, harg6.read_unread]

/-- A table of the rotation. -/
theorem wB_v15 : kernelRun0_B.sl.v15 (F := F) c arg7 harg7 x6 = shapeCast S128x128 x6 shapeCasts_S128x128_S128x128 := by
  simp only [kernelRun0_B.sl.v15, View.readAt_eq_ld, View.ld_unit_zero (S := S128x768) off00, View.ld_unit_zero (S := S128x256) off00, View.ld_unit_zero (S := S128x128) off00, View.ld_unit_zero (S := S1x128) off00, harg7.read_unread]

/-- A table of the rotation. -/
theorem wB_v17 : kernelRun0_B.sl.v17 (F := F) c arg8 harg8 x7 = shapeCast S128x128 x7 shapeCasts_S128x128_S128x128 := by
  simp only [kernelRun0_B.sl.v17, View.readAt_eq_ld, View.ld_unit_zero (S := S128x768) off00, View.ld_unit_zero (S := S128x256) off00, View.ld_unit_zero (S := S128x128) off00, View.ld_unit_zero (S := S1x128) off00, harg8.read_unread]

/-- A table of the rotation. -/
theorem wB_v19 : kernelRun0_B.sl.v19 (F := F) c arg9 harg9 x8 = shapeCast S128x128 x8 shapeCasts_S128x128_S128x128 := by
  simp only [kernelRun0_B.sl.v19, View.readAt_eq_ld, View.ld_unit_zero (S := S128x768) off00, View.ld_unit_zero (S := S128x256) off00, View.ld_unit_zero (S := S128x128) off00, View.ld_unit_zero (S := S1x128) off00, harg9.read_unread]

/-- The carried part of the second head. -/
theorem wB_v412 : kernelRun0_B.sl.v412 (F := F) c arg16 harg16 xs0 = rt xs0 := by
  simp only [kernelRun0_B.sl.v412, View.readAt_eq_ld, View.ld_unit_zero (S := S128x768) off00, View.ld_unit_zero (S := S128x256) off00, View.ld_unit_zero (S := S128x128) off00, View.ld_unit_zero (S := S1x128) off00, harg16.read_unread] <;> rfl

/-- The carried part of the second head. -/
theorem wB_v417 : kernelRun0_B.sl.v417 (F := F) c arg17 harg17 xs1 = rt xs1 := by
  simp only [kernelRun0_B.sl.v417, View.readAt_eq_ld, View.ld_unit_zero (S := S128x768) off00, View.ld_unit_zero (S := S128x256) off00, View.ld_unit_zero (S := S128x128) off00, View.ld_unit_zero (S := S1x128) off00, harg17.read_unread] <;> rfl

/-- A tile of the stack. -/
theorem wB_v25 : kernelRun0_B.sl.v25 (F := F) c arg3 harg3 arg8 harg8 arg9 harg9 x2 x7 x8 = rope (h0 i x0 x1 x2 x3 x4 x5 x6 x7 x8 x9 x10).kp (h0 i x0 x1 x2 x3 x4 x5 x6 x7 x8 x9 x10).cp (h0 i x0 x1 x2 x3 x4 x5 x6 x7 x8 x9 x10).sp := by
  simp only [kernelRun0_B.sl.v25, kernelRun0_B.sl.v22, kernelRun0_B.sl.v21, kernelRun0_B.sl.v24, kernelRun0_B.sl.v23, wB_v17, wB_v19, View.readAt_eq_ld, View.ld_unit_zero (S := S128x768) off00, View.ld_unit_zero (S := S128x256) off00, View.ld_unit_zero (S := S128x128) off00, View.ld_unit_zero (S := S1x128) off00, harg3.read_unread, harg8.read_unread, harg9.read_unread] <;> rfl

/-- A tile of the stack. -/
theorem wB_v30 : kernelRun0_B.sl.v30 (F := F) c arg2 harg2 arg6 harg6 arg7 harg7 x1 x5 x6 = rope (h0 i x0 x1 x2 x3 x4 x5 x6 x7 x8 x9 x10).kc (h0 i x0 x1 x2 x3 x4 x5 x6 x7 x8 x9 x10).c (h0 i x0 x1 x2 x3 x4 x5 x6 x7 x8 x9 x10).s := by
  simp only [kernelRun0_B.sl.v30, kernelRun0_B.sl.v27, kernelRun0_B.sl.v26, kernelRun0_B.sl.v29, kernelRun0_B.sl.v28, wB_v13, wB_v15, View.readAt_eq_ld, View.ld_unit_zero (S := S128x768) off00, View.ld_unit_zero (S := S128x256) off00, View.ld_unit_zero (S := S128x128) off00, View.ld_unit_zero (S := S1x128) off00, harg2.read_unread, harg6.read_unread, harg7.read_unread] <;> rfl

/-- A tile of the stack. -/
theorem wB_v32 : kernelRun0_B.sl.v32 (F := F) c arg5 harg5 x4 = (h0 i x0 x1 x2 x3 x4 x5 x6 x7 x8 x9 x10).vp := by
  simp only [kernelRun0_B.sl.v32, wB_r_3] <;> rfl

/-- A tile of the stack. -/
theorem wB_v33 : kernelRun0_B.sl.v33 (F := F) c arg4 harg4 x3 = (h0 i x0 x1 x2 x3 x4 x5 x6 x7 x8 x9 x10).vc := by
  simp only [kernelRun0_B.sl.v33, wB_r_2] <;> rfl

/-- A tile of the stack. -/
theorem wB_v39 : kernelRun0_B.sl.v39 (F := F) c arg1 harg1 arg6 harg6 arg7 harg7 x0 x5 x6 = rope (h0 i x0 x1 x2 x3 x4 x5 x6 x7 x8 x9 x10).q0 (h0 i x0 x1 x2 x3 x4 x5 x6 x7 x8 x9 x10).c (h0 i x0 x1 x2 x3 x4 x5 x6 x7 x8 x9 x10).s := by
  simp only [kernelRun0_B.sl.v39, kernelRun0_B.sl.v36, kernelRun0_B.sl.v35, kernelRun0_B.sl.v38, kernelRun0_B.sl.v37, wB_r_1, wB_v13, wB_v15] <;> rfl

/-- A tile of the stack. -/
theorem wB_v44 : kernelRun0_B.sl.v44 (F := F) c arg1 harg1 arg6 harg6 arg7 harg7 x0 x5 x6 = rope (h0 i x0 x1 x2 x3 x4 x5 x6 x7 x8 x9 x10).q1 (h0 i x0 x1 x2 x3 x4 x5 x6 x7 x8 x9 x10).c (h0 i x0 x1 x2 x3 x4 x5 x6 x7 x8 x9 x10).s := by
  simp only [kernelRun0_B.sl.v44, kernelRun0_B.sl.v41, kernelRun0_B.sl.v40, kernelRun0_B.sl.v43, kernelRun0_B.sl.v42, wB_r_1, wB_v13, wB_v15] <;> rfl

/-- A tile of the stack. -/
theorem wB_v49 : kernelRun0_B.sl.v49 (F := F) c arg1 harg1 arg6 harg6 arg7 harg7 x0 x5 x6 = rope (h0 i x0 x1 x2 x3 x4 x5 x6 x7 x8 x9 x10).q2 (h0 i x0 x1 x2 x3 x4 x5 x6 x7 x8 x9 x10).c (h0 i x0 x1 x2 x3 x4 x5 x6 x7 x8 x9 x10).s := by
  simp only [kernelRun0_B.sl.v49, kernelRun0_B.sl.v46, kernelRun0_B.sl.v45, kernelRun0_B.sl.v48, kernelRun0_B.sl.v47, wB_r_1, wB_v13, wB_v15] <;> rfl

/-- A tile of the stack. -/
theorem wB_v74 : kernelRun0_B.sl.v74 (F := F) c arg3 harg3 arg8 harg8 arg9 harg9 x2 x7 x8 = rope (h1 i x0 x1 x2 x3 x4 x5 x6 x7 x8 x9 x10).kp (h1 i x0 x1 x2 x3 x4 x5 x6 x7 x8 x9 x10).cp (h1 i x0 x1 x2 x3 x4 x5 x6 x7 x8 x9 x10).sp := by
  simp only [kernelRun0_B.sl.v74, kernelRun0_B.sl.v71, kernelRun0_B.sl.v70, kernelRun0_B.sl.v73, kernelRun0_B.sl.v72, wB_r_6, wB_v17, wB_v19] <;> rfl

/-- A tile of the stack. -/
theorem wB_v79 : kernelRun0_B.sl.v79 (F := F) c arg2 harg2 arg6 harg6 arg7 harg7 x1 x5 x6 = rope (h1 i x0 x1 x2 x3 x4 x5 x6 x7 x8 x9 x10).kc (h1 i x0 x1 x2 x3 x4 x5 x6 x7 x8 x9 x10).c (h1 i x0 x1 x2 x3 x4 x5 x6 x7 x8 x9 x10).s := by
  simp only [kernelRun0_B.sl.v79, kernelRun0_B.sl.v76, kernelRun0_B.sl.v75, kernelRun0_B.sl.v78, kernelRun0_B.sl.v77, wB_r_5, wB_v13, wB_v15] <;> rfl

/-- A tile of the stack. -/
theorem wB_v81 : kernelRun0_B.sl.v81 (F := F) c arg5 harg5 x4 = (h1 i x0 x1 x2 x3 x4 x5 x6 x7 x8 x9 x10).vp := by
  simp only [kernelRun0_B.sl.v81, wB_r_3] <;> rfl

/-- A tile of the stack. -/
theorem wB_v82 : kernelRun0_B.sl.v82 (F := F) c arg4 harg4 x3 = (h1 i x0 x1 x2 x3 x4 x5 x6 x7 x8 x9 x10).vc := by
  simp only [kernelRun0_B.sl.v82, wB_r_2] <;> rfl

/-- A tile of the stack. -/
theorem wB_v88 : kernelRun0_B.sl.v88 (F := F) c arg1 harg1 arg6 harg6 arg7 harg7 x0 x5 x6 = rope (h1 i x0 x1 x2 x3 x4 x5 x6 x7 x8 x9 x10).q0 (h1 i x0 x1 x2 x3 x4 x5 x6 x7 x8 x9 x10).c (h1 i x0 x1 x2 x3 x4 x5 x6 x7 x8 x9 x10).s := by
  simp only [kernelRun0_B.sl.v88, kernelRun0_B.sl.v85, kernelRun0_B.sl.v84, kernelRun0_B.sl.v87, kernelRun0_B.sl.v86, wB_r_1, wB_v13, wB_v15] <;> rfl

/-- A tile of the stack. -/
theorem wB_v93 : kernelRun0_B.sl.v93 (F := F) c arg1 harg1 arg6 harg6 arg7 harg7 x0 x5 x6 = rope (h1 i x0 x1 x2 x3 x4 x5 x6 x7 x8 x9 x10).q1 (h1 i x0 x1 x2 x3 x4 x5 x6 x7 x8 x9 x10).c (h1 i x0 x1 x2 x3 x4 x5 x6 x7 x8 x9 x10).s := by
  simp only [kernelRun0_B.sl.v93, kernelRun0_B.sl.v90, kernelRun0_B.sl.v89, kernelRun0_B.sl.v92, kernelRun0_B.sl.v91, wB_r_1, wB_v13, wB_v15] <;> rfl

/-- A tile of the stack. -/
theorem wB_v98 : kernelRun0_B.sl.v98 (F := F) c arg1 harg1 arg6 harg6 arg7 harg7 x0 x5 x6 = rope (h1 i x0 x1 x2 x3 x4 x5 x6 x7 x8 x9 x10).q2 (h1 i x0 x1 x2 x3 x4 x5 x6 x7 x8 x9 x10).c (h1 i x0 x1 x2 x3 x4 x5 x6 x7 x8 x9 x10).s := by
  simp only [kernelRun0_B.sl.v98, kernelRun0_B.sl.v95, kernelRun0_B.sl.v94, kernelRun0_B.sl.v97, kernelRun0_B.sl.v96, wB_r_1, wB_v13, wB_v15] <;> rfl

/-- The first admitted key. -/
theorem wB_v110 : kernelRun0_B.sl.v110 i = lo i := by
  simp only [kernelRun0_B.sl.v110, kernelRun0_B.sl.v109, kernelRun0_B.sl.v0] <;> rfl

/-- The rotated keys of the first head. -/
theorem wB_v31 : kernelRun0_B.sl.v31 (F := F) c arg2 harg2 arg3 harg3 arg6 harg6 arg7 harg7 arg8 harg8 arg9 harg9 x1 x2 x5 x6 x7 x8 = (h0 i x0 x1 x2 x3 x4 x5 x6 x7 x8 x9 x10).kcat := by
  unfold kernelRun0_B.sl.v31
  exact concat2 (F := F) (e := .f32) (S₁ := S128x128) (S₂ := S128x128) (wB_v25 (i := i) (x0 := x0) (x1 := x1) (x10 := x10) (x3 := x3) (x4 := x4) (x5 := x5) (x6 := x6) (x9 := x9)) (wB_v30 (i := i) (x0 := x0) (x10 := x10) (x2 := x2) (x3 := x3) (x4 := x4) (x7 := x7) (x8 := x8) (x9 := x9))

/-- The values of the first head. -/
theorem wB_v34 : kernelRun0_B.sl.v34 (F := F) c arg4 harg4 arg5 harg5 x3 x4 = (h0 i x0 x1 x2 x3 x4 x5 x6 x7 x8 x9 x10).vcat := by
  unfold kernelRun0_B.sl.v34
  exact concat2 (F := F) (e := .f32) (S₁ := S128x128) (S₂ := S128x128) (wB_v32 (i := i) (x0 := x0) (x1 := x1) (x10 := x10) (x2 := x2) (x3 := x3) (x5 := x5) (x6 := x6) (x7 := x7) (x8 := x8) (x9 := x9)) (wB_v33 (i := i) (x0 := x0) (x1 := x1) (x10 := x10) (x2 := x2) (x4 := x4) (x5 := x5) (x6 := x6) (x7 := x7) (x8 := x8) (x9 := x9))

/-- The rotated queries of the first head. -/
theorem wB_v50 : kernelRun0_B.sl.v50 (F := F) c arg1 harg1 arg6 harg6 arg7 harg7 x0 x5 x6 = (h0 i x0 x1 x2 x3 x4 x5 x6 x7 x8 x9 x10).qs := by
  unfold kernelRun0_B.sl.v50
  exact concat3 (F := F) (e := .f32) (S₁ := S128x128) (S₂ := S128x128) (S₃ := S128x128) (wB_v39 (i := i) (x1 := x1) (x10 := x10) (x2 := x2) (x3 := x3) (x4 := x4) (x7 := x7) (x8 := x8) (x9 := x9)) (wB_v44 (i := i) (x1 := x1) (x10 := x10) (x2 := x2) (x3 := x3) (x4 := x4) (x7 := x7) (x8 := x8) (x9 := x9)) (wB_v49 (i := i) (x1 := x1) (x10 := x10) (x2 := x2) (x3 := x3) (x4 := x4) (x7 := x7) (x8 := x8) (x9 := x9))

/-- The rounded queries of the first head. -/
theorem wB_v51 : kernelRun0_B.sl.v51 (F := F) c arg1 harg1 arg6 harg6 arg7 harg7 x0 x5 x6 = truncf .bf16 (h0 i x0 x1 x2 x3 x4 x5 x6 x7 x8 x9 x10).qs bitsLt_bf16_f32 := by
  simp only [kernelRun0_B.sl.v51, wB_v50 (i := i) (x1 := x1) (x10 := x10) (x2 := x2) (x3 := x3) (x4 := x4) (x7 := x7) (x8 := x8) (x9 := x9)] <;> rfl

/-- The rounded keys of the first head. -/
theorem wB_v52 : kernelRun0_B.sl.v52 (F := F) c arg2 harg2 arg3 harg3 arg6 harg6 arg7 harg7 arg8 harg8 arg9 harg9 x1 x2 x5 x6 x7 x8 = truncf .bf16 (h0 i x0 x1 x2 x3 x4 x5 x6 x7 x8 x9 x10).kcat bitsLt_bf16_f32 := by
  simp only [kernelRun0_B.sl.v52, wB_v31 (i := i) (x0 := x0) (x10 := x10) (x3 := x3) (x4 := x4) (x9 := x9)] <;> rfl

/-- The scores of the first head. -/
theorem wB_v55 : kernelRun0_B.sl.v55 (F := F) c arg1 harg1 arg2 harg2 arg3 harg3 arg6 harg6 arg7 harg7 arg8 harg8 arg9 harg9 x0 x1 x2 x5 x6 x7 x8 = (h0 i x0 x1 x2 x3 x4 x5 x6 x7 x8 x9 x10).sc := by
  simp only [kernelRun0_B.sl.v55, kernelRun0_B.sl.v53, kernelRun0_B.sl.cst_26, kernelRun0_B.sl.v54, kernelRun0_B.sl.cst_27, wB_v51 (i := i) (x1 := x1) (x10 := x10) (x2 := x2) (x3 := x3) (x4 := x4) (x7 := x7) (x8 := x8) (x9 := x9), wB_v52 (i := i) (x0 := x0) (x10 := x10) (x3 := x3) (x4 := x4) (x9 := x9)] <;> rfl

/-- The rotated keys of the second head. -/
theorem wB_v80 : kernelRun0_B.sl.v80 (F := F) c arg2 harg2 arg3 harg3 arg6 harg6 arg7 harg7 arg8 harg8 arg9 harg9 x1 x2 x5 x6 x7 x8 = (h1 i x0 x1 x2 x3 x4 x5 x6 x7 x8 x9 x10).kcat := by
  unfold kernelRun0_B.sl.v80
  exact concat2 (F := F) (e := .f32) (S₁ := S128x128) (S₂ := S128x128) (wB_v74 (i := i) (x0 := x0) (x1 := x1) (x10 := x10) (x3 := x3) (x4 := x4) (x5 := x5) (x6 := x6) (x9 := x9)) (wB_v79 (i := i) (x0 := x0) (x10 := x10) (x2 := x2) (x3 := x3) (x4 := x4) (x7 := x7) (x8 := x8) (x9 := x9))

/-- The values of the second head. -/
theorem wB_v83 : kernelRun0_B.sl.v83 (F := F) c arg4 harg4 arg5 harg5 x3 x4 = (h1 i x0 x1 x2 x3 x4 x5 x6 x7 x8 x9 x10).vcat := by
  unfold kernelRun0_B.sl.v83
  exact concat2 (F := F) (e := .f32) (S₁ := S128x128) (S₂ := S128x128) (wB_v81 (i := i) (x0 := x0) (x1 := x1) (x10 := x10) (x2 := x2) (x3 := x3) (x5 := x5) (x6 := x6) (x7 := x7) (x8 := x8) (x9 := x9)) (wB_v82 (i := i) (x0 := x0) (x1 := x1) (x10 := x10) (x2 := x2) (x4 := x4) (x5 := x5) (x6 := x6) (x7 := x7) (x8 := x8) (x9 := x9))

/-- The rotated queries of the second head. -/
theorem wB_v99 : kernelRun0_B.sl.v99 (F := F) c arg1 harg1 arg6 harg6 arg7 harg7 x0 x5 x6 = (h1 i x0 x1 x2 x3 x4 x5 x6 x7 x8 x9 x10).qs := by
  unfold kernelRun0_B.sl.v99
  exact concat3 (F := F) (e := .f32) (S₁ := S128x128) (S₂ := S128x128) (S₃ := S128x128) (wB_v88 (i := i) (x1 := x1) (x10 := x10) (x2 := x2) (x3 := x3) (x4 := x4) (x7 := x7) (x8 := x8) (x9 := x9)) (wB_v93 (i := i) (x1 := x1) (x10 := x10) (x2 := x2) (x3 := x3) (x4 := x4) (x7 := x7) (x8 := x8) (x9 := x9)) (wB_v98 (i := i) (x1 := x1) (x10 := x10) (x2 := x2) (x3 := x3) (x4 := x4) (x7 := x7) (x8 := x8) (x9 := x9))

/-- The rounded queries of the second head. -/
theorem wB_v100 : kernelRun0_B.sl.v100 (F := F) c arg1 harg1 arg6 harg6 arg7 harg7 x0 x5 x6 = truncf .bf16 (h1 i x0 x1 x2 x3 x4 x5 x6 x7 x8 x9 x10).qs bitsLt_bf16_f32 := by
  simp only [kernelRun0_B.sl.v100, wB_v99 (i := i) (x1 := x1) (x10 := x10) (x2 := x2) (x3 := x3) (x4 := x4) (x7 := x7) (x8 := x8) (x9 := x9)] <;> rfl

/-- The rounded keys of the second head. -/
theorem wB_v101 : kernelRun0_B.sl.v101 (F := F) c arg2 harg2 arg3 harg3 arg6 harg6 arg7 harg7 arg8 harg8 arg9 harg9 x1 x2 x5 x6 x7 x8 = truncf .bf16 (h1 i x0 x1 x2 x3 x4 x5 x6 x7 x8 x9 x10).kcat bitsLt_bf16_f32 := by
  simp only [kernelRun0_B.sl.v101, wB_v80 (i := i) (x0 := x0) (x10 := x10) (x3 := x3) (x4 := x4) (x9 := x9)] <;> rfl

/-- The scores of the second head. -/
theorem wB_v104 : kernelRun0_B.sl.v104 (F := F) c arg1 harg1 arg2 harg2 arg3 harg3 arg6 harg6 arg7 harg7 arg8 harg8 arg9 harg9 x0 x1 x2 x5 x6 x7 x8 = (h1 i x0 x1 x2 x3 x4 x5 x6 x7 x8 x9 x10).sc := by
  simp only [kernelRun0_B.sl.v104, kernelRun0_B.sl.v102, kernelRun0_B.sl.cst_26, kernelRun0_B.sl.v54, kernelRun0_B.sl.cst_27, wB_v100 (i := i) (x1 := x1) (x10 := x10) (x2 := x2) (x3 := x3) (x4 := x4) (x7 := x7) (x8 := x8) (x9 := x9), wB_v101 (i := i) (x0 := x0) (x10 := x10) (x3 := x3) (x4 := x4) (x9 := x9)] <;> rfl

/-- The sink's exponential of the first head. -/
theorem wB_r_7 : kernelRun0_B.sl.r_7 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).ps := by
  simp only [kernelRun0_B.sl.r_7, kernelRun0_B.sl.v105, kernelRun0_B.sl.v106, kernelRun0_B.sl.v108, kernelRun0_B.sl.v111, kernelRun0_B.sl.v112, wB_r_4, wB_v55 (i := i) (x10 := x10) (x3 := x3) (x4 := x4) (x9 := x9), wB_v110] <;> rfl

/-- The normaliser of the first head. -/
theorem wB_r_8 : kernelRun0_B.sl.r_8 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).l := by
  simp only [kernelRun0_B.sl.r_8, kernelRun0_B.sl.v105, kernelRun0_B.sl.v106, kernelRun0_B.sl.v108, kernelRun0_B.sl.v111, kernelRun0_B.sl.v112, wB_r_4, wB_v55 (i := i) (x10 := x10) (x3 := x3) (x4 := x4) (x9 := x9), wB_v110] <;> rfl

/-- The probabilities of the first head. -/
theorem wB_r_9 : kernelRun0_B.sl.r_9 (F := F) c i arg1 harg1 arg2 harg2 arg3 harg3 arg6 harg6 arg7 harg7 arg8 harg8 arg9 harg9 arg10 harg10 x0 x1 x2 x5 x6 x7 x8 x9 = (h0 i x0 x1 x2 x3 x4 x5 x6 x7 x8 x9 x10).pn := by
  simp only [kernelRun0_B.sl.r_9, kernelRun0_B.sl.v105, kernelRun0_B.sl.v106, kernelRun0_B.sl.v108, kernelRun0_B.sl.v111, kernelRun0_B.sl.v112, wB_r_4, wB_v55 (i := i) (x10 := x10) (x3 := x3) (x4 := x4) (x9 := x9), wB_v110] <;> rfl

/-- The cotangent of the probabilities of the first head. -/
theorem wB_r_10 : kernelRun0_B.sl.r_10 (F := F) c arg4 harg4 arg5 harg5 arg11 harg11 x3 x4 x10 = (h0 i x0 x1 x2 x3 x4 x5 x6 x7 x8 x9 x10).dp := by
  simp only [kernelRun0_B.sl.r_10, wB_r, wB_v34 (i := i) (x0 := x0) (x1 := x1) (x10 := x10) (x2 := x2) (x5 := x5) (x6 := x6) (x7 := x7) (x8 := x8) (x9 := x9)] <;> rfl

/-- The gradient of the values of the first head. -/
theorem wB_r_11 : kernelRun0_B.sl.r_11 (F := F) c i arg1 harg1 arg2 harg2 arg3 harg3 arg6 harg6 arg7 harg7 arg8 harg8 arg9 harg9 arg10 harg10 arg11 harg11 x0 x1 x2 x5 x6 x7 x8 x9 x10 = (h0 i x0 x1 x2 x3 x4 x5 x6 x7 x8 x9 x10).dv := by
  simp only [kernelRun0_B.sl.r_11, kernelRun0_B.sl.v105, kernelRun0_B.sl.v106, kernelRun0_B.sl.v108, kernelRun0_B.sl.v111, kernelRun0_B.sl.v112, wB_r, wB_r_4, wB_v55 (i := i) (x10 := x10) (x3 := x3) (x4 := x4) (x9 := x9), wB_v110] <;> rfl

/-- The sink's exponential of the second head. -/
theorem wB_r_12 : kernelRun0_B.sl.r_12 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).ps := by
  simp only [kernelRun0_B.sl.r_12, kernelRun0_B.sl.v157, wB_r_4, wB_v104 (i := i) (x10 := x10) (x3 := x3) (x4 := x4) (x9 := x9), wB_v110] <;> rfl

/-- The normaliser of the second head. -/
theorem wB_r_13 : kernelRun0_B.sl.r_13 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).l := by
  simp only [kernelRun0_B.sl.r_13, kernelRun0_B.sl.v157, wB_r_4, wB_v104 (i := i) (x10 := x10) (x3 := x3) (x4 := x4) (x9 := x9), wB_v110] <;> rfl

/-- The probabilities of the second head. -/
theorem wB_r_14 : kernelRun0_B.sl.r_14 (F := F) c i arg1 harg1 arg2 harg2 arg3 harg3 arg6 harg6 arg7 harg7 arg8 harg8 arg9 harg9 arg10 harg10 x0 x1 x2 x5 x6 x7 x8 x9 = (h1 i x0 x1 x2 x3 x4 x5 x6 x7 x8 x9 x10).pn := by
  simp only [kernelRun0_B.sl.r_14, kernelRun0_B.sl.v157, wB_r_4, wB_v104 (i := i) (x10 := x10) (x3 := x3) (x4 := x4) (x9 := x9), wB_v110] <;> rfl

/-- The cotangent of the probabilities of the second head. -/
theorem wB_r_15 : kernelRun0_B.sl.r_15 (F := F) c arg4 harg4 arg5 harg5 arg11 harg11 x3 x4 x10 = (h1 i x0 x1 x2 x3 x4 x5 x6 x7 x8 x9 x10).dp := by
  simp only [kernelRun0_B.sl.r_15, wB_r, wB_v83 (i := i) (x0 := x0) (x1 := x1) (x10 := x10) (x2 := x2) (x5 := x5) (x6 := x6) (x7 := x7) (x8 := x8) (x9 := x9)] <;> rfl

/-- The gradient of the values of the second head. -/
theorem wB_r_16 : kernelRun0_B.sl.r_16 (F := F) c i arg1 harg1 arg2 harg2 arg3 harg3 arg6 harg6 arg7 harg7 arg8 harg8 arg9 harg9 arg10 harg10 arg11 harg11 x0 x1 x2 x5 x6 x7 x8 x9 x10 = (h1 i x0 x1 x2 x3 x4 x5 x6 x7 x8 x9 x10).dv := by
  simp only [kernelRun0_B.sl.r_16, kernelRun0_B.sl.v157, wB_r, wB_r_4, wB_v104 (i := i) (x10 := x10) (x3 := x3) (x4 := x4) (x9 := x9), wB_v110] <;> rfl

/-- The first head's row means. -/
theorem wB_r_17 : kernelRun0_B.sl.r_17 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).delta := by
  simp only [kernelRun0_B.sl.r_17, wB_r_9 (x10 := x10) (x3 := x3) (x4 := x4), wB_r_10 (i := i) (x0 := x0) (x1 := x1) (x2 := x2) (x5 := x5) (x6 := x6) (x7 := x7) (x8 := x8) (x9 := x9)] <;> rfl

/-- The first head's gradient of the rotated queries. -/
theorem wB_r_18 : kernelRun0_B.sl.r_18 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dqs := by
  simp only [kernelRun0_B.sl.r_18, wB_v31 (i := i) (x0 := x0) (x10 := x10) (x3 := x3) (x4 := x4) (x9 := x9), wB_r_9 (x10 := x10) (x3 := x3) (x4 := x4), wB_r_10 (i := i) (x0 := x0) (x1 := x1) (x2 := x2) (x5 := x5) (x6 := x6) (x7 := x7) (x8 := x8) (x9 := x9)] <;> rfl

/-- The first head's gradient of the scores. -/
theorem wB_r_19 : kernelRun0_B.sl.r_19 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = truncf .bf16 (h0 i x0 x1 x2 x3 x4 x5 x6 x7 x8 x9 x10).ds bitsLt_bf16_f32 := by
  simp only [kernelRun0_B.sl.r_19, wB_r_9 (x10 := x10) (x3 := x3) (x4 := x4), wB_r_10 (i := i) (x0 := x0) (x1 := x1) (x2 := x2) (x5 := x5) (x6 := x6) (x7 := x7) (x8 := x8) (x9 := x9)] <;> rfl

/-- The first head's gradient of the rotated keys. -/
theorem wB_v218 : kernelRun0_B.sl.v218 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dk := by
  simp only [kernelRun0_B.sl.v218, kernelRun0_B.sl.v216, kernelRun0_B.sl.cst_76, kernelRun0_B.sl.v217, kernelRun0_B.sl.cst_27, wB_r_19, wB_v51 (i := i) (x1 := x1) (x10 := x10) (x2 := x2) (x3 := x3) (x4 := x4) (x7 := x7) (x8 := x8) (x9 := x9)] <;> rfl

/-- The second head's row means. -/
theorem wB_v221 : kernelRun0_B.sl.v221 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).delta := by
  simp only [kernelRun0_B.sl.v221, kernelRun0_B.sl.v220, kernelRun0_B.sl.v219, wB_r_14 (x10 := x10) (x3 := x3) (x4 := x4), wB_r_15 (i := i) (x0 := x0) (x1 := x1) (x2 := x2) (x5 := x5) (x6 := x6) (x7 := x7) (x8 := x8) (x9 := x9)] <;> rfl

/-- The second head's gradient of the scores. -/
theorem wB_v225 : kernelRun0_B.sl.v225 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = truncf .bf16 (h1 i x0 x1 x2 x3 x4 x5 x6 x7 x8 x9 x10).ds bitsLt_bf16_f32 := by
  simp only [kernelRun0_B.sl.v225, kernelRun0_B.sl.v224, kernelRun0_B.sl.v223, kernelRun0_B.sl.v222, wB_r_14 (x10 := x10) (x3 := x3) (x4 := x4), wB_r_15 (i := i) (x0 := x0) (x1 := x1) (x2 := x2) (x5 := x5) (x6 := x6) (x7 := x7) (x8 := x8) (x9 := x9), wB_v221] <;> rfl

/-- The second head's gradient of the rotated queries. -/
theorem wB_v229 : kernelRun0_B.sl.v229 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dqs := by
  simp only [kernelRun0_B.sl.v229, kernelRun0_B.sl.v227, kernelRun0_B.sl.cst_79, kernelRun0_B.sl.v228, kernelRun0_B.sl.cst_27, wB_v225, wB_v101 (i := i) (x0 := x0) (x10 := x10) (x3 := x3) (x4 := x4) (x9 := x9)] <;> rfl

/-- The second head's gradient of the rotated keys. -/
theorem wB_v234 : kernelRun0_B.sl.v234 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dk := by
  simp only [kernelRun0_B.sl.v234, kernelRun0_B.sl.v232, kernelRun0_B.sl.cst_76, kernelRun0_B.sl.v217, kernelRun0_B.sl.cst_27, wB_v225, wB_v100 (i := i) (x1 := x1) (x10 := x10) (x2 := x2) (x3 := x3) (x4 := x4) (x7 := x7) (x8 := x8) (x9 := x9)] <;> rfl

/-- The first head's sink terms. -/
theorem wB_v238 : kernelRun0_B.sl.v238 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dz := by
  simp only [kernelRun0_B.sl.v238, kernelRun0_B.sl.v237, kernelRun0_B.sl.v236, kernelRun0_B.sl.cst, kernelRun0_B.sl.v235, wB_r_7 (x10 := x10) (x3 := x3) (x4 := x4), wB_r_8 (x10 := x10) (x3 := x3) (x4 := x4), wB_r_17] <;> rfl

/-- The second head's sink terms. -/
theorem wB_v242 : kernelRun0_B.sl.v242 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dz := by
  simp only [kernelRun0_B.sl.v242, kernelRun0_B.sl.v241, kernelRun0_B.sl.v236, kernelRun0_B.sl.cst, kernelRun0_B.sl.v239, wB_r_12 (x10 := x10) (x3 := x3) (x4 := x4), wB_r_13 (x10 := x10) (x3 := x3) (x4 := x4), wB_v221] <;> rfl

/-- The row of sink gradients so far. -/
theorem wB_v252 : kernelRun0_B.sl.v252 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 0#32 (extractStridedSlice S128x1 ![0, 0] (h0 i x0 x1 x2 x3 x4 x5 x6 x7 x8 x9 x10).dz slices_S384x1_o0_0_S128x1) (broadcast S1x128 (Scalar.ofBits .f32 0x00000000#32)) := by
  simp only [kernelRun0_B.sl.v252, kernelRun0_B.sl.v5, kernelRun0_B.sl.cst, kernelRun0_B.sl.v251, kernelRun0_B.sl.v4, kernelRun0_B.sl.v246, kernelRun0_B.sl.v249, kernelRun0_B.sl.v248, kernelRun0_B.sl.v245, kernelRun0_B.sl.v244, kernelRun0_B.sl.v243, wB_v238] <;> rfl

/-- The row of sink gradients so far. -/
theorem wB_v262 : kernelRun0_B.sl.v262 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))) := by
  simp only [kernelRun0_B.sl.v262, kernelRun0_B.sl.v261, kernelRun0_B.sl.v4, kernelRun0_B.sl.v256, kernelRun0_B.sl.v259, kernelRun0_B.sl.v258, kernelRun0_B.sl.v255, kernelRun0_B.sl.v254, kernelRun0_B.sl.v253, kernelRun0_B.sl.v5, kernelRun0_B.sl.cst, wB_v252, wB_v238] <;> rfl

/-- The row of sink gradients so far. -/
theorem wB_v272 : kernelRun0_B.sl.v272 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32)))) := by
  simp only [kernelRun0_B.sl.v272, kernelRun0_B.sl.v271, kernelRun0_B.sl.v4, kernelRun0_B.sl.v266, kernelRun0_B.sl.v269, kernelRun0_B.sl.v268, kernelRun0_B.sl.v265, kernelRun0_B.sl.v264, kernelRun0_B.sl.v263, kernelRun0_B.sl.v5, kernelRun0_B.sl.cst, wB_v262, wB_v238] <;> rfl

/-- The row of sink gradients so far. -/
theorem wB_v349 : kernelRun0_B.sl.v349 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))))) := by
  simp only [kernelRun0_B.sl.v349, kernelRun0_B.sl.v348, kernelRun0_B.sl.v4, kernelRun0_B.sl.v343, kernelRun0_B.sl.v346, kernelRun0_B.sl.v345, kernelRun0_B.sl.v342, kernelRun0_B.sl.v341, kernelRun0_B.sl.v340, kernelRun0_B.sl.v5, kernelRun0_B.sl.cst, wB_v272, wB_v242] <;> rfl

/-- The row of sink gradients so far. -/
theorem wB_v359 : kernelRun0_B.sl.v359 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 4#32 (extractStridedSlice S128x1 ![128, 0] (h1 i x0 x1 x2 x3 x4 x5 x6 x7 x8 x9 x10).dz slices_S384x1_o128_0_S128x1) (lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32)))))) := by
  simp only [kernelRun0_B.sl.v359, kernelRun0_B.sl.v358, kernelRun0_B.sl.v4, kernelRun0_B.sl.v353, kernelRun0_B.sl.v356, kernelRun0_B.sl.v355, kernelRun0_B.sl.v352, kernelRun0_B.sl.v351, kernelRun0_B.sl.v350, kernelRun0_B.sl.v5, kernelRun0_B.sl.cst, wB_v349, wB_v242] <;> rfl

/-- The row of sink gradients so far. -/
theorem wB_v369 : kernelRun0_B.sl.v369 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = lane 5#32 (extractStridedSlice S128x1 ![256, 0] (h1 i x0 x1 x2 x3 x4 x5 x6 x7 x8 x9 x10).dz slices_S384x1_o256_0_S128x1) (lane 4#32 (extractStridedSlice S128x1 ![128, 0] (h1 i x0 x1 x2 x3 x4 x5 x6 x7 x8 x9 x10).dz slices_S384x1_o128_0_S128x1) (lane 3#32 (extractStridedSlice S128x1 ![0, 0] (h1 i x0 x1 x2 x3 x4 x5 x6 x7 x8 x9 x10).dz slices_S384x1_o0_0_S128x1) (lane 2#32 (extractStridedSlice S128x1 ![256, 0] (h0 i x0 x1 x2 x3 x4 x5 x6 x7 x8 x9 x10).dz slices_S384x1_o256_0_S128x1) (lane 1#32 (extractStridedSlice S128x1 ![128, 0] (h0 i x0 x1 x2 x3 x4 x5 x6 x7 x8 x9 x10).dz slices_S384x1_o128_0_S128x1) (lane 0#32 (extractStridedSlice S128x1 ![0, 0] (h0 i x0 x1 x2 x3 x4 x5 x6 x7 x8 x9 x10).dz slices_S384x1_o0_0_S128x1) (broadcast S1x128 (Scalar.ofBits .f32 0x00000000#32))))))) := by
  simp only [kernelRun0_B.sl.v369, kernelRun0_B.sl.v368, kernelRun0_B.sl.v4, kernelRun0_B.sl.v363, kernelRun0_B.sl.v366, kernelRun0_B.sl.v365, kernelRun0_B.sl.v362, kernelRun0_B.sl.v361, kernelRun0_B.sl.v360, kernelRun0_B.sl.v5, kernelRun0_B.sl.cst, wB_v359, wB_v242] <;> rfl

/-- A tile of the gradient of the queries. -/
theorem wB_v282 : kernelRun0_B.sl.v282 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq0 := by
  simp only [kernelRun0_B.sl.v282, kernelRun0_B.sl.v281, kernelRun0_B.sl.v278, kernelRun0_B.sl.v273, kernelRun0_B.sl.v280, kernelRun0_B.sl.v279, wB_r_18, wB_v13, wB_v15] <;> rfl

/-- A tile of the gradient of the queries. -/
theorem wB_v293 : kernelRun0_B.sl.v293 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq1 := by
  simp only [kernelRun0_B.sl.v293, kernelRun0_B.sl.v292, kernelRun0_B.sl.v289, kernelRun0_B.sl.v284, kernelRun0_B.sl.v291, kernelRun0_B.sl.v290, wB_r_18, wB_v13, wB_v15] <;> rfl

/-- A tile of the gradient of the queries. -/
theorem wB_v304 : kernelRun0_B.sl.v304 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).dq2 := by
  simp only [kernelRun0_B.sl.v304, kernelRun0_B.sl.v303, kernelRun0_B.sl.v300, kernelRun0_B.sl.v295, kernelRun0_B.sl.v302, kernelRun0_B.sl.v301, wB_r_18, wB_v13, wB_v15] <;> rfl

/-- A tile of the gradient of the queries. -/
theorem wB_v379 : kernelRun0_B.sl.v379 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq0 := by
  simp only [kernelRun0_B.sl.v379, kernelRun0_B.sl.v378, kernelRun0_B.sl.v375, kernelRun0_B.sl.v370, kernelRun0_B.sl.v377, kernelRun0_B.sl.v376, kernelRun0_B.sl.v374, wB_v229, wB_v13, wB_r_20] <;> rfl

/-- A tile of the gradient of the queries. -/
theorem wB_v390 : kernelRun0_B.sl.v390 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq1 := by
  simp only [kernelRun0_B.sl.v390, kernelRun0_B.sl.v389, kernelRun0_B.sl.v386, kernelRun0_B.sl.v381, kernelRun0_B.sl.v388, kernelRun0_B.sl.v387, wB_v229, wB_v13, wB_v15] <;> rfl

/-- A tile of the gradient of the queries. -/
theorem wB_v401 : kernelRun0_B.sl.v401 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h1 i x0 x1 x2 x3 x4 x5 x6 x7 x8 x9 x10).dq2 := by
  simp only [kernelRun0_B.sl.v401, kernelRun0_B.sl.v400, kernelRun0_B.sl.v397, kernelRun0_B.sl.v392, kernelRun0_B.sl.v399, kernelRun0_B.sl.v398, wB_v229, wB_v13, wB_v15] <;> rfl

/-- The first head's gradient of the keys. -/
theorem wB_v317 : kernelRun0_B.sl.v317 (F := F) c i arg1 harg1 arg2 harg2 arg3 harg3 arg4 harg4 arg5 harg5 arg6 harg6 arg7 harg7 arg8 harg8 arg9 harg9 arg10 harg10 arg11 harg11 arg16 harg16 x0 x1 x2 x3 x4 x5 x6 x7 x8 x9 x10 xs0 = (h0 i x0 x1 x2 x3 x4 x5 x6 x7 x8 x9 x10).dko (lt xs0) := by
  simp only [kernelRun0_B.sl.v317, kernelRun0_B.sl.v316, kernelRun0_B.sl.v314, kernelRun0_B.sl.v311, kernelRun0_B.sl.v306, kernelRun0_B.sl.v313, kernelRun0_B.sl.v312, wB_v218, wB_v13, wB_v15, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg16.read_unread] <;> rfl

/-- The first head's gradient of the values. -/
theorem wB_v322 : kernelRun0_B.sl.v322 (F := F) c i arg1 harg1 arg2 harg2 arg3 harg3 arg6 harg6 arg7 harg7 arg8 harg8 arg9 harg9 arg10 harg10 arg11 harg11 arg17 harg17 x0 x1 x2 x5 x6 x7 x8 x9 x10 xs1 = (h0 i x0 x1 x2 x3 x4 x5 x6 x7 x8 x9 x10).dvo (lt xs1) := by
  simp only [kernelRun0_B.sl.v322, kernelRun0_B.sl.v321, kernelRun0_B.sl.v319, wB_r_11 (x3 := x3) (x4 := x4), View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg6.read_unread, harg7.read_unread, harg8.read_unread, harg9.read_unread, harg10.read_unread, harg11.read_unread, harg17.read_unread] <;> rfl

/-- The first head's carried part. -/
theorem wB_v335 : kernelRun0_B.sl.v335 (F := F) c i arg1 harg1 arg2 harg2 arg3 harg3 arg4 harg4 arg5 harg5 arg6 harg6 arg7 harg7 arg8 harg8 arg9 harg9 arg10 harg10 arg11 harg11 x0 x1 x2 x3 x4 x5 x6 x7 x8 x9 x10 = (h0 i x0 x1 x2 x3 x4 x5 x6 x7 x8 x9 x10).cko := by
  simp only [kernelRun0_B.sl.v335, kernelRun0_B.sl.v332, kernelRun0_B.sl.v329, kernelRun0_B.sl.v324, kernelRun0_B.sl.v331, kernelRun0_B.sl.v330, wB_v218, wB_v17, wB_v19] <;> rfl

/-- The first head's carried part. -/
theorem wB_v339 : kernelRun0_B.sl.v339 (F := F) c i arg1 harg1 arg2 harg2 arg3 harg3 arg6 harg6 arg7 harg7 arg8 harg8 arg9 harg9 arg10 harg10 arg11 harg11 x0 x1 x2 x5 x6 x7 x8 x9 x10 = (h0 i x0 x1 x2 x3 x4 x5 x6 x7 x8 x9 x10).cvo := by
  simp only [kernelRun0_B.sl.v339, kernelRun0_B.sl.v336, wB_r_11 (x3 := x3) (x4 := x4)] <;> rfl

end Cert.KernelIdeal.Attn

end
-- ==== Proof.Attn.Reads.lean ====
/- What the executed body leaves in each result's buffer and in each carried buffer, at the first grid point and at a
   later one, is the value Head.lean writes. -/
module

public import proofs.«01_k».proof.Proof.Attn.WordsB

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F] [Named F]

/-- Two tiles that fill a pair hide what was stored before them. -/
theorem canon_pair_over {e : EltTy} (a b : Vec F S128x128 e) (M : List (View.Piece (Elt F) S128x256 e)) :
    View.canon (⟨Rect.unit ![0, 128] ![128, 128] inb_S128x256_S128x128_0_128, b⟩ :: ⟨Rect.unit ![0, 0] ![128, 128] inb_S128x256_S128x128_0_0, a⟩ :: M) = pair a b := by
  funext y
  exact canon_append_of_cover (S := S128x256) M [⟨Rect.unit ![0, 128] ![128, 128] inb_S128x256_S128x128_0_128, b⟩, ⟨Rect.unit ![0, 0] ![128, 128] inb_S128x256_S128x128_0_0, a⟩] y
    (View.cover_of_tiledL (s := S128x256) (Val := Elt F) [⟨Rect.unit ![0, 128] ![128, 128] inb_S128x256_S128x128_0_128, b⟩, ⟨Rect.unit ![0, 0] ![128, 128] inb_S128x256_S128x128_0_0, a⟩] S128x128.size (by sl_kernel_rfl) y)

variable (c : Dev nD) (i : grid0.Coords)
  {arg1 : Memref sig .tc .vmem S128x768 .f32} (harg1 : arg1.IsWhole)
  {arg2 : Memref sig .tc .vmem S128x256 .f32} (harg2 : arg2.IsWhole)
  {arg3 : Memref sig .tc .vmem S128x256 .f32} (harg3 : arg3.IsWhole)
  {arg4 : Memref sig .tc .vmem S128x256 .f32} (harg4 : arg4.IsWhole)
  {arg5 : Memref sig .tc .vmem S128x256 .f32} (harg5 : arg5.IsWhole)
  {arg6 : Memref sig .tc .vmem S128x128 .f32} (harg6 : arg6.IsWhole)
  {arg7 : Memref sig .tc .vmem S128x128 .f32} (harg7 : arg7.IsWhole)
  {arg8 : Memref sig .tc .vmem S128x128 .f32} (harg8 : arg8.IsWhole)
  {arg9 : Memref sig .tc .vmem S128x128 .f32} (harg9 : arg9.IsWhole)
  {arg10 : Memref sig .tc .vmem S1x128 .f32} (harg10 : arg10.IsWhole)
  {arg11 : Memref sig .tc .vmem S128x768 .f32} (harg11 : arg11.IsWhole)
  {arg12 : Memref sig .tc .vmem S128x768 .bf16} (harg12 : arg12.IsWhole)
  {arg13 : Memref sig .tc .vmem S128x256 .bf16} (harg13 : arg13.IsWhole)
  {arg14 : Memref sig .tc .vmem S128x256 .bf16} (harg14 : arg14.IsWhole)
  {arg15 : Memref sig .tc .vmem S1x128 .f32} (harg15 : arg15.IsWhole)
  {arg16 : Memref sig .tc .vmem S128x256 .f32} (harg16 : arg16.IsWhole)
  {arg17 : Memref sig .tc .vmem S128x256 .f32} (harg17 : arg17.IsWhole)
  (x0 : Vec F S128x768 .f32) (x1 x2 x3 x4 : Vec F S128x256 .f32) (x5 x6 x7 x8 : Vec F S128x128 .f32)
  (x9 : Vec F S1x128 .f32) (x10 : Vec F S128x768 .f32) (xo : Vec F S1x128 .f32) (xs0 xs1 : Vec F S128x256 .f32)

/-- The stores of the queries' gradient at the first point cover its buffer. -/
theorem cover_dq_A (hc : cond0_0 i) (y : S128x768.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).1 S128x128.size (by sl_kernel_rfl) y

/-- The queries' gradient at the first point. -/
theorem read_dq_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).1 = dqV (h0 i x0 x1 x2 x3 x4 x5 x6 x7 x8 x9 x10) (h1 i x0 x1 x2 x3 x4 x5 x6 x7 x8 x9 x10) := by
  unfold kernelRun0_A; dsimp only
  simp only [wA_v401, wA_v390, wA_v379, wA_v304, wA_v293, wA_v282]
  rfl

/-- The stores of the keys' gradient at the first point cover its buffer. -/
theorem cover_dk_A (hc : cond0_0 i) (y : S128x256.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.1 S128x128.size (by sl_kernel_rfl) y

/-- The keys' gradient at the first point. -/
theorem read_dk_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.1 = dkV (h0 i x0 x1 x2 x3 x4 x5 x6 x7 x8 x9 x10) (h1 i x0 x1 x2 x3 x4 x5 x6 x7 x8 x9 x10) k0_pay2 := by
  unfold kernelRun0_A; dsimp only
  simp only [kernelRun0_A.sl.v408, kernelRun0_A.sl.v403, kernelRun0_A.sl.v409, wA_v317, wA_v234, wA_v13, wA_v15, wA_v412]
  rfl

/-- The stores of the values' gradient at the first point cover its buffer. -/
theorem cover_dv_A (hc : cond0_0 i) (y : S128x256.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.1 S128x128.size (by sl_kernel_rfl) y

/-- The values' gradient at the first point. -/
theorem read_dv_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.1 = dvV (h0 i x0 x1 x2 x3 x4 x5 x6 x7 x8 x9 x10) (h1 i x0 x1 x2 x3 x4 x5 x6 x7 x8 x9 x10) k0_pay3 := by
  unfold kernelRun0_A; dsimp only
  simp only [wA_v322 (x3 := x3) (x4 := x4), wA_r_16 (x3 := x3) (x4 := x4), wA_v417]
  rfl

/-- The stores of the sinks' gradient at the first point cover its buffer. -/
theorem cover_dz_A (hc : cond0_0 i) (y : S1x128.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.1 S1x128.size (by sl_kernel_rfl) y

/-- The sinks' gradient at the first point. -/
theorem read_dz_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.1 = dzV (h0 i x0 x1 x2 x3 x4 x5 x6 x7 x8 x9 x10) (h1 i x0 x1 x2 x3 x4 x5 x6 x7 x8 x9 x10) k0_pay4 := by
  unfold kernelRun0_A; dsimp only
  simp only [wA_v369, kernelRun0_A.sl.v437, kernelRun0_A.sl.H14_1, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.canon_cons_unit_zero off00, View.readCov_unit_zero _ off00]
  rfl

/-- The stores of the carried part of the keys' gradient at the first point cover its buffer. -/
theorem cover_ck_A (hc : cond0_0 i) (y : S128x256.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.1, y ∈ pc.1.set :=
  View.cover_of_wholeMem (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.1 (by sl_whole_mem) y

/-- The carried part of the keys' gradient at the first point. -/
theorem read_ck_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.1 = ckV (h0 i x0 x1 x2 x3 x4 x5 x6 x7 x8 x9 x10) (h1 i x0 x1 x2 x3 x4 x5 x6 x7 x8 x9 x10) := by
  unfold kernelRun0_A; dsimp only
  simp only [kernelRun0_A.sl.v374, wA_v335, wA_v234, wA_r_20, kernelRun0_A.sl.HS0_2, kernelRun0_A.sl.HS0_1, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact canon_pair_over _ _ _

/-- The stores of the carried part of the values' gradient at the first point cover its buffer. -/
theorem cover_cv_A (hc : cond0_0 i) (y : S128x256.Idx) : ∃ pc ∈ (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.2.1, y ∈ pc.1.set :=
  View.cover_of_wholeMem (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.2.1 (by sl_whole_mem) y

/-- The carried part of the values' gradient at the first point. -/
theorem read_cv_A (hc : cond0_0 i) : View.canon (kernelRun0_A c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10).2.2.2.2.2.1 = cvV (h0 i x0 x1 x2 x3 x4 x5 x6 x7 x8 x9 x10) (h1 i x0 x1 x2 x3 x4 x5 x6 x7 x8 x9 x10) := by
  unfold kernelRun0_A; dsimp only
  simp only [wA_v339 (x3 := x3) (x4 := x4), wA_r_16 (x3 := x3) (x4 := x4), kernelRun0_A.sl.HS1_2, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  exact canon_pair_over _ _ _

/-- The stores of the queries' gradient at a later point cover its buffer. -/
theorem cover_dq_B (hc : ¬cond0_0 i) (y : S128x768.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).1 S128x128.size (by sl_kernel_rfl) y

/-- The queries' gradient at a later point. -/
theorem read_dq_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).1 = dqV (h0 i x0 x1 x2 x3 x4 x5 x6 x7 x8 x9 x10) (h1 i x0 x1 x2 x3 x4 x5 x6 x7 x8 x9 x10) := by
  unfold kernelRun0_B; dsimp only
  simp only [wB_v401, wB_v390, wB_v379, wB_v304, wB_v293, wB_v282]
  rfl

/-- The stores of the keys' gradient at a later point cover its buffer. -/
theorem cover_dk_B (hc : ¬cond0_0 i) (y : S128x256.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.1 S128x128.size (by sl_kernel_rfl) y

/-- The keys' gradient at a later point. -/
theorem read_dk_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.1 = dkV (h0 i x0 x1 x2 x3 x4 x5 x6 x7 x8 x9 x10) (h1 i x0 x1 x2 x3 x4 x5 x6 x7 x8 x9 x10) xs0 := by
  unfold kernelRun0_B; dsimp only
  simp only [kernelRun0_B.sl.v408, kernelRun0_B.sl.v403, kernelRun0_B.sl.v409, wB_v317, wB_v234, wB_v13, wB_v15, wB_v412]
  rfl

/-- The stores of the values' gradient at a later point cover its buffer. -/
theorem cover_dv_B (hc : ¬cond0_0 i) (y : S128x256.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.1 S128x128.size (by sl_kernel_rfl) y

/-- The values' gradient at a later point. -/
theorem read_dv_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.1 = dvV (h0 i x0 x1 x2 x3 x4 x5 x6 x7 x8 x9 x10) (h1 i x0 x1 x2 x3 x4 x5 x6 x7 x8 x9 x10) xs1 := by
  unfold kernelRun0_B; dsimp only
  simp only [wB_v322 (x3 := x3) (x4 := x4), wB_r_16 (x3 := x3) (x4 := x4), wB_v417]
  rfl

/-- The stores of the sinks' gradient at a later point cover its buffer. -/
theorem cover_dz_B (hc : ¬cond0_0 i) (y : S1x128.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.1 S1x128.size (by sl_kernel_rfl) y

/-- The sinks' gradient at a later point. -/
theorem read_dz_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.1 = dzV (h0 i x0 x1 x2 x3 x4 x5 x6 x7 x8 x9 x10) (h1 i x0 x1 x2 x3 x4 x5 x6 x7 x8 x9 x10) xo := by
  unfold kernelRun0_B; dsimp only
  simp only [wB_v369, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rw [View.canon_cons_unit_zero off00]
  rfl

/-- The stores of the carried part of the keys' gradient at a later point cover its buffer. -/
theorem cover_ck_B (hc : ¬cond0_0 i) (y : S128x256.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.1 S128x128.size (by sl_kernel_rfl) y

/-- The carried part of the keys' gradient at a later point. -/
theorem read_ck_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.1 = ckV (h0 i x0 x1 x2 x3 x4 x5 x6 x7 x8 x9 x10) (h1 i x0 x1 x2 x3 x4 x5 x6 x7 x8 x9 x10) := by
  unfold kernelRun0_B; dsimp only
  simp only [kernelRun0_B.sl.v374, wB_v335, wB_v234, wB_r_20, View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rfl

/-- The stores of the carried part of the values' gradient at a later point cover its buffer. -/
theorem cover_cv_B (hc : ¬cond0_0 i) (y : S128x256.Idx) : ∃ pc ∈ (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.2.1 S128x128.size (by sl_kernel_rfl) y

/-- The carried part of the values' gradient at a later point. -/
theorem read_cv_B (hc : ¬cond0_0 i) : View.canon (kernelRun0_B c i _ harg1 _ harg2 _ harg3 _ harg4 _ harg5 _ harg6 _ harg7 _ harg8 _ harg9 _ harg10 _ harg11 _ harg12 _ harg13 _ harg14 _ harg15 _ harg16 _ harg17 hc x0 x1 x2 x3 x4 x5 x6 x7 x8 x9 x10 xo xs0 xs1).2.2.2.2.2.1 = cvV (h0 i x0 x1 x2 x3 x4 x5 x6 x7 x8 x9 x10) (h1 i x0 x1 x2 x3 x4 x5 x6 x7 x8 x9 x10) := by
  unfold kernelRun0_B; dsimp only
  simp only [wB_v339 (x3 := x3) (x4 := x4), wB_r_16 (x3 := x3) (x4 := x4), View.readAt_eq_ld, View.ld_unit_zero (S := S128x768) off00, View.ld_unit_zero (S := S128x256) off00, View.ld_unit_zero (S := S128x128) off00, View.ld_unit_zero (S := S1x128) off00, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rfl

end Cert.KernelIdeal.Attn

end
-- ==== Proof.Attn.Frame.lean ====
/- The frame of the attention gradient: at every grid point the body leaves the values of Head.lean. -/
module

public import proofs.«01_k».proof.Proof.Attn.Reads
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of a grid point, for the first head. -/
def hA (c : Dev nD) (t : Fin cfg0.N) : HIn F :=
  h0 (grid0.coords t) (X0_0 m c t) (X0_1 m c t) (X0_2 m c t) (X0_3 m c t) (X0_4 m c t) (iblk m c 5 t) (iblk m c 6 t) (iblk m c 7 t) (iblk m c 8 t) (iblk m c 9 t) (X0_10 m c t)

/-- The blocks of a grid point, for the second head. -/
def hB (c : Dev nD) (t : Fin cfg0.N) : HIn F :=
  h1 (grid0.coords t) (X0_0 m c t) (X0_1 m c t) (X0_2 m c t) (X0_3 m c t) (X0_4 m c t) (iblk m c 5 t) (iblk m c 6 t) (iblk m c 7 t) (iblk m c 8 t) (iblk m c 9 t) (X0_10 m c t)

/-- What the four results' buffers and the two carried buffers hold after a point: the first point starts from zeros, a
    later one from what the point before left. -/
def outsAt0 (c : Dev nD) : (n : ℕ) → n < cfg0.N → Vec F S128x768 .bf16 × Vec F S128x256 .bf16 × Vec F S128x256 .bf16 × Vec F S1x128 .f32 × Vec F S128x256 .f32 × Vec F S128x256 .f32
  | 0, hn => (dqV (hA m c ⟨0, hn⟩) (hB m c ⟨0, hn⟩), dkV (hA m c ⟨0, hn⟩) (hB m c ⟨0, hn⟩) k0_pay2, dvV (hA m c ⟨0, hn⟩) (hB m c ⟨0, hn⟩) k0_pay3,
      dzV (hA m c ⟨0, hn⟩) (hB m c ⟨0, hn⟩) k0_pay4, ckV (hA m c ⟨0, hn⟩) (hB m c ⟨0, hn⟩), cvV (hA m c ⟨0, hn⟩) (hB m c ⟨0, hn⟩))
  | n + 1, hn => (dqV (hA m c ⟨n + 1, hn⟩) (hB m c ⟨n + 1, hn⟩), dkV (hA m c ⟨n + 1, hn⟩) (hB m c ⟨n + 1, hn⟩) (outsAt0 c n (Nat.lt_of_succ_lt hn)).2.2.2.2.1,
      dvV (hA m c ⟨n + 1, hn⟩) (hB m c ⟨n + 1, hn⟩) (outsAt0 c n (Nat.lt_of_succ_lt hn)).2.2.2.2.2,
      dzV (hA m c ⟨n + 1, hn⟩) (hB m c ⟨n + 1, hn⟩) (outsAt0 c n (Nat.lt_of_succ_lt hn)).2.2.2.1, ckV (hA m c ⟨n + 1, hn⟩) (hB m c ⟨n + 1, hn⟩), cvV (hA m c ⟨n + 1, hn⟩) (hB m c ⟨n + 1, hn⟩))

/-- The first point's values. -/
theorem outsAt0_A (c : Dev nD) (t : Fin cfg0.N) (h0 : t.val % 32 = 0) :
    outsAt0 m c t.val t.isLt = (dqV (hA m c t) (hB m c t), dkV (hA m c t) (hB m c t) k0_pay2, dvV (hA m c t) (hB m c t) k0_pay3,
      dzV (hA m c t) (hB m c t) k0_pay4, ckV (hA m c t) (hB m c t), cvV (hA m c t) (hB m c t)) := by
  have hN : t.val < 32 := lt_of_lt_of_eq t.isLt (show cfg0.N = 32 from N_0)
  obtain ⟨n, hn⟩ := t
  cases n with
  | zero => rw [outsAt0]
  | succ n => exfalso; dsimp only at h0 hN; omega

/-- A later point's values. -/
theorem outsAt0_B (c : Dev nD) (t : Fin cfg0.N) (h0 : ¬t.val % 32 = 0) :
    outsAt0 m c t.val t.isLt = (dqV (hA m c t) (hB m c t), dkV (hA m c t) (hB m c t) (outsAt0 m c (t.val - 1) (Nat.lt_of_le_of_lt (Nat.sub_le _ _) t.isLt)).2.2.2.2.1,
      dvV (hA m c t) (hB m c t) (outsAt0 m c (t.val - 1) (Nat.lt_of_le_of_lt (Nat.sub_le _ _) t.isLt)).2.2.2.2.2,
      dzV (hA m c t) (hB m c t) (outsAt0 m c (t.val - 1) (Nat.lt_of_le_of_lt (Nat.sub_le _ _) t.isLt)).2.2.2.1, ckV (hA m c t) (hB m c t), cvV (hA m c t) (hB m c t)) := by
  obtain ⟨n, hn⟩ := t
  cases n with
  | zero => exact absurd (Nat.zero_mod _) h0
  | succ n => rw [outsAt0]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/- The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/- The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ _ _ _ _ ((hcond0_0 t).mpr h0) (X0_0 m c t) (X0_1 m c t) (X0_2 m c t) (X0_3 m c t) (X0_4 m c t) (iblk m c 5 t) (iblk m c 6 t) (iblk m c 7 t) (iblk m c 8 t) (iblk m c 9 t) (X0_10 m c t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (cover_ck_A c _ _ _ _ _ _ _ _ _ _ _ _ _ _ _ _ _ _ _ _ _ _ _ _ _ _ _ _ _ _)).trans (read_ck_A c _ _ _ _ _ _ _ _ _ _ _ _ _ _ _ _ _ _ _ _ _ _ _ _ _ _ _ _ _ _)
          unfold owns; iexists _; isplitr
          swap; · iexact HS1
          ipureintro; exact (View.read_writes_eq_canon _ _ _ (cover_cv_A c _ _ _ _ _ _ _ _ _ _ _ _ _ _ _ _ _ _ _ _ _ _ _ _ _ _ _ _ _ _)).trans (read_cv_A c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact (View.read_writes_eq_canon _ _ _ (cover_dq_A c _ _ _ _ _ _ _ _ _ _ _ _ _ _ _ _ _ _ _ _ _ _ _ _ _ _ _ _ _ _)).trans (read_dq_A c _ _ _ _ _ _ _ _ _ _ _ _ _ _ _ _ _ _ _ _ _ _ _ _ _ _ _ _ _ _)
      isplitl [H12]
      · unfold owns; iexists _; isplitr
        swap; · iexact H12
        ipureintro; exact (View.read_writes_eq_canon _ _ _ (cover_dk_A c _ _ _ _ _ _ _ _ _ _ _ _ _ _ _ _ _ _ _ _ _ _ _ _ _ _ _ _ _ _)).trans (read_dk_A c _ _ _ _ _ _ _ _ _ _ _ _ _ _ _ _ _ _ _ _ _ _ _ _ _ _ _ _ _ _)
      isplitl [H13]
      · unfold owns; iexists _; isplitr
        swap; · iexact H13
        ipureintro; exact (View.read_writes_eq_canon _ _ _ (cover_dv_A c _ _ _ _ _ _ _ _ _ _ _ _ _ _ _ _ _ _ _ _ _ _ _ _ _ _ _ _ _ _)).trans (read_dv_A c _ _ _ _ _ _ _ _ _ _ _ _ _ _ _ _ _ _ _ _ _ _ _ _ _ _ _ _ _ _)
      unfold owns; iexists _; isplitr
      swap; · iexact H14
      ipureintro; exact (View.read_writes_eq_canon _ _ _ (cover_dz_A c _ _ _ _ _ _ _ _ _ _ _ _ _ _ _ _ _ _ _ _ _ _ _ _ _ _ _ _ _ _)).trans (read_dz_A c _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_14_B m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ _ _ (fun h => h0 ((hcond0_0 t).mp h)) (X0_0 m c t) (X0_1 m c t) (X0_2 m c t) (X0_3 m c t) (X0_4 m c t) (iblk m c 5 t) (iblk m c 6 t) (iblk m c 7 t) (iblk m c 8 t) (iblk m c 9 t) (X0_10 m c t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact (View.read_writes_eq_canon _ _ _ (cover_ck_B c _ _ _ _ _ _ _ _ _ _ _ _ _ _ _ _ _ _ _ _ _ _ _ _ _ _ _ _ _ _ _ _ _)).trans (read_ck_B c _ _ _ _ _ _ _ _ _ _ _ _ _ _ _ _ _ _ _ _ _ _ _ _ _ _ _ _ _ _ _ _ _)
          unfold owns; iexists _; isplitr
          swap; · iexact HS1
          ipureintro; exact (View.read_writes_eq_canon _ _ _ (cover_cv_B c _ _ _ _ _ _ _ _ _ _ _ _ _ _ _ _ _ _ _ _ _ _ _ _ _ _ _ _ _ _ _ _ _)).trans (read_cv_B c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact (View.read_writes_eq_canon _ _ _ (cover_dq_B c _ _ _ _ _ _ _ _ _ _ _ _ _ _ _ _ _ _ _ _ _ _ _ _ _ _ _ _ _ _ _ _ _)).trans (read_dq_B c _ _ _ _ _ _ _ _ _ _ _ _ _ _ _ _ _ _ _ _ _ _ _ _ _ _ _ _ _ _ _ _ _)
      isplitl [H12]
      · unfold owns; iexists _; isplitr
        swap; · iexact H12
        ipureintro; exact (View.read_writes_eq_canon _ _ _ (cover_dk_B c _ _ _ _ _ _ _ _ _ _ _ _ _ _ _ _ _ _ _ _ _ _ _ _ _ _ _ _ _ _ _ _ _)).trans (read_dk_B c _ _ _ _ _ _ _ _ _ _ _ _ _ _ _ _ _ _ _ _ _ _ _ _ _ _ _ _ _ _ _ _ _)
      isplitl [H13]
      · unfold owns; iexists _; isplitr
        swap; · iexact H13
        ipureintro; exact (View.read_writes_eq_canon _ _ _ (cover_dv_B c _ _ _ _ _ _ _ _ _ _ _ _ _ _ _ _ _ _ _ _ _ _ _ _ _ _ _ _ _ _ _ _ _)).trans (read_dv_B c _ _ _ _ _ _ _ _ _ _ _ _ _ _ _ _ _ _ _ _ _ _ _ _ _ _ _ _ _ _ _ _ _)
      unfold owns; iexists _; isplitr
      swap; · iexact H14
      ipureintro; exact (View.read_writes_eq_canon _ _ _ (cover_dz_B c _ _ _ _ _ _ _ _ _ _ _ _ _ _ _ _ _ _ _ _ _ _ _ _ _ _ _ _ _ _ _ _ _)).trans (read_dz_B c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/- The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The frame without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, without fault, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn

end
-- ==== Proof.Attn.Value.lean ====
/- The four result arrays after the run, read at an index: each block is what its grid point wrote. -/
module

public import proofs.«01_k».proof.Proof.Attn.Frame
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The block index of each window at each point: the grid runs from the last block to the first. -/
theorem idx_all : ∀ t : Fin cfg0.N, win0_0.index t = ![31 - t.val, 4] ∧ win0_1.index t = ![31 - t.val, 15] ∧ win0_2.index t = ![31 - t.val - 1, 15]
    ∧ win0_3.index t = ![31 - t.val, 16] ∧ win0_4.index t = ![31 - t.val - 1, 16] ∧ win0_5.index t = ![31 - t.val, 0] ∧ win0_6.index t = ![31 - t.val, 0]
    ∧ win0_7.index t = ![31 - t.val - 1, 0] ∧ win0_8.index t = ![31 - t.val - 1, 0] ∧ win0_9.index t = ![0, 0] ∧ win0_10.index t = ![31 - t.val, 1]
    ∧ win0_11.index t = ![31 - t.val, 0] ∧ win0_12.index t = ![31 - t.val, 0] ∧ win0_13.index t = ![31 - t.val, 0] ∧ win0_14.index t = ![0, 0] := by
  decide +kernel

/-- The point that works on the block of a row. -/
def pt (r : ℕ) : Fin cfg0.N := ⟨31 - r / 128, by rw [show cfg0.N = 32 from N_0]; omega⟩

theorem lt32 (t : Fin cfg0.N) : t.val < 32 := lt_of_lt_of_eq t.isLt (show cfg0.N = 32 from N_0)

/-- What a point leaves. -/
def out (c : Dev nD) (t : Fin cfg0.N) := outsAt0 m c t.val t.isLt

/-- Two places of a matrix with equal coordinates are equal. -/
theorem ext2 {n0 n1 : ℕ} {x y : (⟨2, ![n0, n1]⟩ : Shape).Idx} (h0 : (x 0).val = (y 0).val) (h1 : (x 1).val = (y 1).val) : x = y :=
  funext fun a => Fin.ext (match a with | ⟨0, _⟩ => h0 | ⟨1, _⟩ => h1)

/-- The gradient of the queries. -/
theorem arr11 (c : Dev nD) : (dats m 0 c).arrAt 11 cfg0.N
    = (fun i => (out m c (pt (i 0).val)).1 (ValueIdx.ix2 ⟨(i 0).val % 128, Nat.mod_lt _ (by decide)⟩ ⟨(i 1).val, (i 1).isLt⟩) : S4096x768.Idx → Elt F .bf16) := by
  refine (dats m 0 c).arrAt_eq_of_covers 11 _ (by decide +kernel) fun t hf y => ?_
  blk_simp
  rw [after0_11]
  have e := (idx_all t).2.2.2.2.2.2.2.2.2.2.2.1
  have ht := lt32 t
  have y0 : (y 0).val < 128 := (y 0).isLt
  have e0 : win0_11.index t 0 = 31 - t.val := by rw [e]; rfl
  have e1 : win0_11.index t 1 = 0 := by rw [e]; rfl
  have h1 : pt (win0_11.index t 0 * 128 + (y 0).val) = t := Fin.ext (by rw [e0]; show 31 - ((31 - t.val) * 128 + (y 0).val) / 128 = t.val; omega)
  have h2 : ∀ h h', (ValueIdx.ix2 ⟨(win0_11.index t 0 * 128 + (y 0).val) % 128, h⟩ ⟨win0_11.index t 1 * 768 + (y 1).val, h'⟩ : S128x768.Idx) = y := fun h h' => by
    refine ext2 ?_ ?_
    · show (win0_11.index t 0 * 128 + (y 0).val) % 128 = (y 0).val
      omega
    · show win0_11.index t 1 * 768 + (y 1).val = (y 1).val
      rw [e1]; omega
  rw [h2]
  exact (congrArg (fun t => (out m c t).1 y) h1).symm

/-- The gradient of the keys. -/
theorem arr12 (c : Dev nD) : (dats m 0 c).arrAt 12 cfg0.N
    = (fun i => (out m c (pt (i 0).val)).2.1 (ValueIdx.ix2 ⟨(i 0).val % 128, Nat.mod_lt _ (by decide)⟩ ⟨(i 1).val, (i 1).isLt⟩) : S4096x256.Idx → Elt F .bf16) := by
  refine (dats m 0 c).arrAt_eq_of_covers 12 _ (by decide +kernel) fun t hf y => ?_
  blk_simp
  rw [after0_12]
  have e := (idx_all t).2.2.2.2.2.2.2.2.2.2.2.2.1
  have ht := lt32 t
  have y0 : (y 0).val < 128 := (y 0).isLt
  have e0 : win0_12.index t 0 = 31 - t.val := by rw [e]; rfl
  have e1 : win0_12.index t 1 = 0 := by rw [e]; rfl
  have h1 : pt (win0_12.index t 0 * 128 + (y 0).val) = t := Fin.ext (by rw [e0]; show 31 - ((31 - t.val) * 128 + (y 0).val) / 128 = t.val; omega)
  have h2 : ∀ h h', (ValueIdx.ix2 ⟨(win0_12.index t 0 * 128 + (y 0).val) % 128, h⟩ ⟨win0_12.index t 1 * 256 + (y 1).val, h'⟩ : S128x256.Idx) = y := fun h h' => by
    refine ext2 ?_ ?_
    · show (win0_12.index t 0 * 128 + (y 0).val) % 128 = (y 0).val
      omega
    · show win0_12.index t 1 * 256 + (y 1).val = (y 1).val
      rw [e1]; omega
  rw [h2]
  exact (congrArg (fun t => (out m c t).2.1 y) h1).symm

/-- The gradient of the values. -/
theorem arr13 (c : Dev nD) : (dats m 0 c).arrAt 13 cfg0.N
    = (fun i => (out m c (pt (i 0).val)).2.2.1 (ValueIdx.ix2 ⟨(i 0).val % 128, Nat.mod_lt _ (by decide)⟩ ⟨(i 1).val, (i 1).isLt⟩) : S4096x256.Idx → Elt F .bf16) := by
  refine (dats m 0 c).arrAt_eq_of_covers 13 _ (by decide +kernel) fun t hf y => ?_
  blk_simp
  rw [after0_13]
  have e := (idx_all t).2.2.2.2.2.2.2.2.2.2.2.2.2.1
  have ht := lt32 t
  have y0 : (y 0).val < 128 := (y 0).isLt
  have e0 : win0_13.index t 0 = 31 - t.val := by rw [e]; rfl
  have e1 : win0_13.index t 1 = 0 := by rw [e]; rfl
  have h1 : pt (win0_13.index t 0 * 128 + (y 0).val) = t := Fin.ext (by rw [e0]; show 31 - ((31 - t.val) * 128 + (y 0).val) / 128 = t.val; omega)
  have h2 : ∀ h h', (ValueIdx.ix2 ⟨(win0_13.index t 0 * 128 + (y 0).val) % 128, h⟩ ⟨win0_13.index t 1 * 256 + (y 1).val, h'⟩ : S128x256.Idx) = y := fun h h' => by
    refine ext2 ?_ ?_
    · show (win0_13.index t 0 * 128 + (y 0).val) % 128 = (y 0).val
      omega
    · show win0_13.index t 1 * 256 + (y 1).val = (y 1).val
      rw [e1]; omega
  rw [h2]
  exact (congrArg (fun t => (out m c t).2.2.1 y) h1).symm

/-- The last point. -/
def tl : Fin cfg0.N := ⟨31, by rw [show cfg0.N = 32 from N_0]; omega⟩

/-- The gradient of the sinks: what the last point leaves. -/
theorem arr14 (c : Dev nD) : (dats m 0 c).arrAt 14 cfg0.N
    = ((outsAt0 m c 31 (by rw [show cfg0.N = 32 from N_0]; omega)).2.2.2.1 : S1x128.Idx → Elt F .f32) := by
  refine (dats m 0 c).arrAt_eq_of_after_last 14 tl (by decide +kernel) _ fun j => ?_
  blk_simp
  rw [after0_14]
  rfl

/-- The kernel's arguments, as launched. -/
abbrev arg0 (c : Dev nD) : S4096x4992.Idx → Elt F .f32 := m ((c : Thread nD τ).loc main_arg0)
abbrev arg1 (c : Dev nD) : S4096x2048.Idx → Elt F .f32 := m ((c : Thread nD τ).loc main_arg1)
abbrev arg2 (c : Dev nD) : S4096x64.Idx → Elt F .f32 := m ((c : Thread nD τ).loc main_arg2)
abbrev arg3 (c : Dev nD) : S4096x64.Idx → Elt F .f32 := m ((c : Thread nD τ).loc main_arg3)
abbrev arg4 (c : Dev nD) : S1x128.Idx → Elt F .f32 := m ((c : Thread nD τ).loc main_arg4)

/-- Input block 0 at a place. -/
theorem X0_at (c : Dev nD) (t : Fin cfg0.N) (j : S128x768.Idx) (i : S4096x4992.Idx) (h0 : (i 0).val = (31 - t.val) * 128 + (j 0).val) (h1 : (i 1).val = 3072 + (j 1).val) :
    X0_0 m c t j = arg0 m c i := by
  have e := (idx_all t).1
  have e0 : win0_0.index t 0 = 31 - t.val := by rw [e]; rfl
  have e1 : win0_0.index t 1 = 4 := by rw [e]; rfl
  unfold X0_0 Pipeline.Window.fill
  rw [dif_pos (moved0_0 t j)]
  unfold iblk
  rw [View.read_apply]
  show V m c main_arg0 _ = _
  rw [V_main_arg0]
  refine congrArg (arg0 m c) (ext2 ?_ ?_)
  · blk_simp; rw [e0, h0]
  · blk_simp; rw [e1, h1]

/-- Input block 1 at a place. -/
theorem X1_at (c : Dev nD) (t : Fin cfg0.N) (j : S128x256.Idx) (i : S4096x4992.Idx) (h0 : (i 0).val = (31 - t.val) * 128 + (j 0).val) (h1 : (i 1).val = 3840 + (j 1).val) :
    X0_1 m c t j = arg0 m c i := by
  have e := (idx_all t).2.1
  have e0 : win0_1.index t 0 = 31 - t.val := by rw [e]; rfl
  have e1 : win0_1.index t 1 = 15 := by rw [e]; rfl
  unfold X0_1 Pipeline.Window.fill
  rw [dif_pos (moved0_1 t j)]
  unfold iblk
  rw [View.read_apply]
  show V m c main_arg0 _ = _
  rw [V_main_arg0]
  refine congrArg (arg0 m c) (ext2 ?_ ?_)
  · blk_simp; rw [e0, h0]
  · blk_simp; rw [e1, h1]

/-- Input block 2 at a place. -/
theorem X2_at (c : Dev nD) (t : Fin cfg0.N) (j : S128x256.Idx) (i : S4096x4992.Idx) (h0 : (i 0).val = (31 - t.val - 1) * 128 + (j 0).val) (h1 : (i 1).val = 3840 + (j 1).val) :
    X0_2 m c t j = arg0 m c i := by
  have e := (idx_all t).2.2.1
  have e0 : win0_2.index t 0 = 31 - t.val - 1 := by rw [e]; rfl
  have e1 : win0_2.index t 1 = 15 := by rw [e]; rfl
  unfold X0_2 Pipeline.Window.fill
  rw [dif_pos (moved0_2 t j)]
  unfold iblk
  rw [View.read_apply]
  show V m c main_arg0 _ = _
  rw [V_main_arg0]
  refine congrArg (arg0 m c) (ext2 ?_ ?_)
  · blk_simp; rw [e0, h0]
  · blk_simp; rw [e1, h1]

/-- Input block 3 at a place. -/
theorem X3_at (c : Dev nD) (t : Fin cfg0.N) (j : S128x256.Idx) (i : S4096x4992.Idx) (h0 : (i 0).val = (31 - t.val) * 128 + (j 0).val) (h1 : (i 1).val = 4096 + (j 1).val) :
    X0_3 m c t j = arg0 m c i := by
  have e := (idx_all t).2.2.2.1
  have e0 : win0_3.index t 0 = 31 - t.val := by rw [e]; rfl
  have e1 : win0_3.index t 1 = 16 := by rw [e]; rfl
  unfold X0_3 Pipeline.Window.fill
  rw [dif_pos (moved0_3 t j)]
  unfold iblk
  rw [View.read_apply]
  show V m c main_arg0 _ = _
  rw [V_main_arg0]
  refine congrArg (arg0 m c) (ext2 ?_ ?_)
  · blk_simp; rw [e0, h0]
  · blk_simp; rw [e1, h1]

/-- Input block 4 at a place. -/
theorem X4_at (c : Dev nD) (t : Fin cfg0.N) (j : S128x256.Idx) (i : S4096x4992.Idx) (h0 : (i 0).val = (31 - t.val - 1) * 128 + (j 0).val) (h1 : (i 1).val = 4096 + (j 1).val) :
    X0_4 m c t j = arg0 m c i := by
  have e := (idx_all t).2.2.2.2.1
  have e0 : win0_4.index t 0 = 31 - t.val - 1 := by rw [e]; rfl
  have e1 : win0_4.index t 1 = 16 := by rw [e]; rfl
  unfold X0_4 Pipeline.Window.fill
  rw [dif_pos (moved0_4 t j)]
  unfold iblk
  rw [View.read_apply]
  show V m c main_arg0 _ = _
  rw [V_main_arg0]
  refine congrArg (arg0 m c) (ext2 ?_ ?_)
  · blk_simp; rw [e0, h0]
  · blk_simp; rw [e1, h1]

/-- Input block 10 at a place. -/
theorem X10_at (c : Dev nD) (t : Fin cfg0.N) (j : S128x768.Idx) (i : S4096x2048.Idx) (h0 : (i 0).val = (31 - t.val) * 128 + (j 0).val) (h1 : (i 1).val = 768 + (j 1).val) :
    X0_10 m c t j = arg1 m c i := by
  have e := (idx_all t).2.2.2.2.2.2.2.2.2.2.1
  have e0 : win0_10.index t 0 = 31 - t.val := by rw [e]; rfl
  have e1 : win0_10.index t 1 = 1 := by rw [e]; rfl
  unfold X0_10 Pipeline.Window.fill
  rw [dif_pos (moved0_10 t j)]
  unfold iblk
  rw [View.read_apply]
  show V m c main_arg1 _ = _
  rw [V_main_arg1]
  refine congrArg (arg1 m c) (ext2 ?_ ?_)
  · blk_simp; rw [e0, h0]
  · blk_simp; rw [e1, h1]

/-- Input block 5 at a place: the cosines, repeated. -/
theorem X5_at (c : Dev nD) (t : Fin cfg0.N) (j : S128x128.Idx) (i : S4096x64.Idx) (h0 : (i 0).val = (31 - t.val) * 128 + (j 0).val) (h1 : (i 1).val = (j 1).val % 64) :
    iblk m c 5 t j = arg2 m c i := by
  have e := (idx_all t).2.2.2.2.2.1
  have e0 : win0_5.index t 0 = 31 - t.val := by rw [e]; rfl
  have e1 : win0_5.index t 1 = 0 := by rw [e]; rfl
  have j1 : (j 1).val < 128 := (j 1).isLt
  unfold iblk
  rw [View.read_apply]
  entry_read
  have g0 : (((((View.whole main_v0).slice ((win0 5).rect t)).emb j) 0).val) = (i 0).val := by blk_simp; rw [e0, h0]
  have g1 : (((((View.whole main_v0).slice ((win0 5).rect t)).emb j) 1).val) = (j 1).val := by blk_simp; rw [e1]; omega
  show concatenate S4096x128 1 [⟨S4096x64, arg2 m c⟩, ⟨S4096x64, arg2 m c⟩] concatenates_S4096x64_S4096x64_S4096x128_d1 _ = _
  generalize ((View.whole main_v0).slice ((win0 5).rect t)).emb j = q at g0 g1 ⊢
  by_cases h : (j 1).val < 64
  · exact concatenate_apply_piece 1 _ _ q 0 (by show 0 < 2; omega) S4096x64 _ rfl rfl 0 rfl i
      (fun b hb => match b, hb with | ⟨0, _⟩, _ => g0.symm | ⟨1, _⟩, hb => absurd rfl hb) (by show 0 + (i 1).val = (q 1).val; omega)
  · exact concatenate_apply_piece 1 _ _ q 1 (by show 1 < 2; omega) S4096x64 _ rfl rfl 64 rfl i
      (fun b hb => match b, hb with | ⟨0, _⟩, _ => g0.symm | ⟨1, _⟩, hb => absurd rfl hb) (by show 64 + (i 1).val = (q 1).val; omega)

/-- Input block 6 at a place: the signed sines, the first half negated. -/
theorem X6_at (c : Dev nD) (t : Fin cfg0.N) (j : S128x128.Idx) (i : S4096x64.Idx) (h0 : (i 0).val = (31 - t.val) * 128 + (j 0).val) (h1 : (i 1).val = (j 1).val % 64) :
    iblk m c 6 t j = if (j 1).val < 64 then Host.negf (s := S4096x64) (arg3 m c) i else arg3 m c i := by
  have e := (idx_all t).2.2.2.2.2.2.1
  have e0 : win0_6.index t 0 = 31 - t.val := by rw [e]; rfl
  have e1 : win0_6.index t 1 = 0 := by rw [e]; rfl
  have j1 : (j 1).val < 128 := (j 1).isLt
  unfold iblk
  rw [View.read_apply]
  entry_read
  have g0 : (((((View.whole main_v2).slice ((win0 6).rect t)).emb j) 0).val) = (i 0).val := by blk_simp; rw [e0, h0]
  have g1 : (((((View.whole main_v2).slice ((win0 6).rect t)).emb j) 1).val) = (j 1).val := by blk_simp; rw [e1]; omega
  show concatenate S4096x128 1 [⟨S4096x64, Host.negf (s := S4096x64) (arg3 m c)⟩, ⟨S4096x64, arg3 m c⟩] concatenates_S4096x64_S4096x64_S4096x128_d1 _ = _
  generalize ((View.whole main_v2).slice ((win0 6).rect t)).emb j = q at g0 g1 ⊢
  by_cases h : (j 1).val < 64
  · rw [if_pos h]; exact concatenate_apply_piece 1 _ _ q 0 (by show 0 < 2; omega) S4096x64 _ rfl rfl 0 rfl i
      (fun b hb => match b, hb with | ⟨0, _⟩, _ => g0.symm | ⟨1, _⟩, hb => absurd rfl hb) (by show 0 + (i 1).val = (q 1).val; omega)
  · rw [if_neg h]; exact concatenate_apply_piece 1 _ _ q 1 (by show 1 < 2; omega) S4096x64 _ rfl rfl 64 rfl i
      (fun b hb => match b, hb with | ⟨0, _⟩, _ => g0.symm | ⟨1, _⟩, hb => absurd rfl hb) (by show 64 + (i 1).val = (q 1).val; omega)

/-- Input block 7 at a place: the cosines, repeated. -/
theorem X7_at (c : Dev nD) (t : Fin cfg0.N) (j : S128x128.Idx) (i : S4096x64.Idx) (h0 : (i 0).val = (31 - t.val - 1) * 128 + (j 0).val) (h1 : (i 1).val = (j 1).val % 64) :
    iblk m c 7 t j = arg2 m c i := by
  have e := (idx_all t).2.2.2.2.2.2.2.1
  have e0 : win0_7.index t 0 = 31 - t.val - 1 := by rw [e]; rfl
  have e1 : win0_7.index t 1 = 0 := by rw [e]; rfl
  have j1 : (j 1).val < 128 := (j 1).isLt
  unfold iblk
  rw [View.read_apply]
  entry_read
  have g0 : (((((View.whole main_v0).slice ((win0 7).rect t)).emb j) 0).val) = (i 0).val := by blk_simp; rw [e0, h0]
  have g1 : (((((View.whole main_v0).slice ((win0 7).rect t)).emb j) 1).val) = (j 1).val := by blk_simp; rw [e1]; omega
  show concatenate S4096x128 1 [⟨S4096x64, arg2 m c⟩, ⟨S4096x64, arg2 m c⟩] concatenates_S4096x64_S4096x64_S4096x128_d1 _ = _
  generalize ((View.whole main_v0).slice ((win0 7).rect t)).emb j = q at g0 g1 ⊢
  by_cases h : (j 1).val < 64
  · exact concatenate_apply_piece 1 _ _ q 0 (by show 0 < 2; omega) S4096x64 _ rfl rfl 0 rfl i
      (fun b hb => match b, hb with | ⟨0, _⟩, _ => g0.symm | ⟨1, _⟩, hb => absurd rfl hb) (by show 0 + (i 1).val = (q 1).val; omega)
  · exact concatenate_apply_piece 1 _ _ q 1 (by show 1 < 2; omega) S4096x64 _ rfl rfl 64 rfl i
      (fun b hb => match b, hb with | ⟨0, _⟩, _ => g0.symm | ⟨1, _⟩, hb => absurd rfl hb) (by show 64 + (i 1).val = (q 1).val; omega)

/-- Input block 8 at a place: the signed sines, the first half negated. -/
theorem X8_at (c : Dev nD) (t : Fin cfg0.N) (j : S128x128.Idx) (i : S4096x64.Idx) (h0 : (i 0).val = (31 - t.val - 1) * 128 + (j 0).val) (h1 : (i 1).val = (j 1).val % 64) :
    iblk m c 8 t j = if (j 1).val < 64 then Host.negf (s := S4096x64) (arg3 m c) i else arg3 m c i := by
  have e := (idx_all t).2.2.2.2.2.2.2.2.1
  have e0 : win0_8.index t 0 = 31 - t.val - 1 := by rw [e]; rfl
  have e1 : win0_8.index t 1 = 0 := by rw [e]; rfl
  have j1 : (j 1).val < 128 := (j 1).isLt
  unfold iblk
  rw [View.read_apply]
  entry_read
  have g0 : (((((View.whole main_v2).slice ((win0 8).rect t)).emb j) 0).val) = (i 0).val := by blk_simp; rw [e0, h0]
  have g1 : (((((View.whole main_v2).slice ((win0 8).rect t)).emb j) 1).val) = (j 1).val := by blk_simp; rw [e1]; omega
  show concatenate S4096x128 1 [⟨S4096x64, Host.negf (s := S4096x64) (arg3 m c)⟩, ⟨S4096x64, arg3 m c⟩] concatenates_S4096x64_S4096x64_S4096x128_d1 _ = _
  generalize ((View.whole main_v2).slice ((win0 8).rect t)).emb j = q at g0 g1 ⊢
  by_cases h : (j 1).val < 64
  · rw [if_pos h]; exact concatenate_apply_piece 1 _ _ q 0 (by show 0 < 2; omega) S4096x64 _ rfl rfl 0 rfl i
      (fun b hb => match b, hb with | ⟨0, _⟩, _ => g0.symm | ⟨1, _⟩, hb => absurd rfl hb) (by show 0 + (i 1).val = (q 1).val; omega)
  · rw [if_neg h]; exact concatenate_apply_piece 1 _ _ q 1 (by show 1 < 2; omega) S4096x64 _ rfl rfl 64 rfl i
      (fun b hb => match b, hb with | ⟨0, _⟩, _ => g0.symm | ⟨1, _⟩, hb => absurd rfl hb) (by show 64 + (i 1).val = (q 1).val; omega)

/-- The sinks. -/
theorem X9_at (c : Dev nD) (t : Fin cfg0.N) (j : S1x128.Idx) : iblk m c 9 t j = arg4 m c j := by
  have e := (idx_all t).2.2.2.2.2.2.2.2.2.1
  have e0 : win0_9.index t 0 = 0 := by rw [e]; rfl
  have e1 : win0_9.index t 1 = 0 := by rw [e]; rfl
  unfold iblk
  rw [View.read_apply]
  show V m c main_arg4 _ = _
  rw [V_main_arg4]
  refine congrArg (arg4 m c) (ext2 ?_ ?_)
  · blk_simp; rw [e0]
  · blk_simp; rw [e1]; omega

end Cert.KernelIdeal.Attn

end
-- ==== Proof.Attn.Model.lean ====
/- The attention gradient of one key/value head over the reals: masked softmax with a sink, and its derivatives. -/
module

public import Mathlib.Analysis.SpecialFunctions.Exp
public import Mathlib.Data.EReal.Operations
public import Mathlib.Logic.Equiv.Fin.Basic

@[expose] public section

noncomputable section

namespace Attn

/-- The scale of the scores, as both programs spell it in single precision. -/
def SC : ℝ := 11863283 / 134217728

/-- The rotary embedding: the entry times the cosine plus the entry half a head away times the signed sine. -/
def ropeR (x c s : ℕ → ℕ → ℝ) (i d : ℕ) : ℝ := x i d * c i d + x i ((d + 64) % 128) * s i d

/-- Its transpose. -/
def ropeTR (x c s : ℕ → ℕ → ℝ) (i d : ℕ) : ℝ := x i d * c i d + x i ((d + 64) % 128) * s i ((d + 64) % 128)

/-- The band: a query sees itself and the 127 keys before it, from key `lo` on. -/
def msk (lo i j : ℕ) : Bool := decide (i < j ∧ j ≤ i + 128 ∧ lo ≤ j)

/-- One key/value head at one block of queries: three groups of rotated queries, 256 rotated keys and values, the
    three cotangents, the three sinks, and the first admitted key. -/
structure Head where
  q : ℕ → ℕ → ℕ → ℝ
  k : ℕ → ℕ → ℝ
  v : ℕ → ℕ → ℝ
  D : ℕ → ℕ → ℕ → ℝ
  z : ℕ → ℝ
  lo : ℕ

namespace Head
variable (H : Head)

/-- The scaled score. -/
def s (g i j : ℕ) : ℝ := (∑ d : Fin 128, H.q g i d.val * H.k j d.val) * SC
/-- The exponential of a score the band admits. -/
def E (g i j : ℕ) : ℝ := if msk H.lo i j then Real.exp (H.s g i j) else 0
/-- The normaliser. -/
def Z (g i : ℕ) : ℝ := (∑ j : Fin 256, H.E g i j.val) + Real.exp (H.z g)
/-- The probability. -/
def pn (g i j : ℕ) : ℝ := H.E g i j / H.Z g i
/-- The probability's cotangent. -/
def dp (g i j : ℕ) : ℝ := ∑ d : Fin 128, H.D g i d.val * H.v j d.val
/-- The row's mean cotangent. -/
def delta (g i : ℕ) : ℝ := ∑ j : Fin 256, H.pn g i j.val * H.dp g i j.val
/-- The score's gradient. -/
def ds (g i j : ℕ) : ℝ := H.pn g i j * (H.dp g i j - H.delta g i)
/-- The rotated query's gradient. -/
def dq (g i d : ℕ) : ℝ := (∑ j : Fin 256, H.ds g i j.val * H.k j.val d) * SC
/-- The rotated key's gradient. -/
def dk (j d : ℕ) : ℝ := (∑ g : Fin 3, ∑ i : Fin 128, H.ds g.val i.val j * H.q g.val i.val d) * SC
/-- The value's gradient. -/
def dv (j d : ℕ) : ℝ := ∑ g : Fin 3, ∑ i : Fin 128, H.pn g.val i.val j * H.D g.val i.val d
/-- A row's part of the sink's gradient. -/
def dz (g i : ℕ) : ℝ := -(Real.exp (H.z g) / H.Z g i) * H.delta g i

theorem E_nonneg (g i j : ℕ) : 0 ≤ H.E g i j := by
  unfold E; split
  · exact (Real.exp_pos _).le
  · exact le_rfl

theorem Z_pos (g i : ℕ) : 0 < H.Z g i :=
  add_pos_of_nonneg_of_pos (Finset.sum_nonneg fun _ _ => H.E_nonneg _ _ _) (Real.exp_pos _)

theorem Z_ne (g i : ℕ) : H.Z g i ≠ 0 := (H.Z_pos g i).ne'

end Head

/-- Two heads alike wherever the band admits a key. -/
structure Alike (H H' : Head) : Prop where
  q : H.q = H'.q
  D : H.D = H'.D
  z : H.z = H'.z
  lo : H.lo = H'.lo
  kv : ∀ i j, msk H.lo i j → ∀ d, H.k j d = H'.k j d ∧ H.v j d = H'.v j d

namespace Alike
variable {H H' : Head} (h : Alike H H')
include h

theorem E (g i j : ℕ) : H.E g i j = H'.E g i j := by
  unfold Head.E
  rw [← h.lo]
  split
  · rename_i hm
    unfold Head.s
    rw [h.q]
    simp only [fun d => (h.kv i j hm d).1]
  · rfl

theorem Z (g i : ℕ) : H.Z g i = H'.Z g i := by
  unfold Head.Z; rw [h.z]; simp only [h.E]

theorem pn (g i j : ℕ) : H.pn g i j = H'.pn g i j := by
  unfold Head.pn; rw [h.E, h.Z]

theorem pn_dp (g i j : ℕ) : H.pn g i j * H.dp g i j = H'.pn g i j * H'.dp g i j := by
  by_cases hm : msk H.lo i j
  · rw [h.pn]; unfold Head.dp; rw [h.D]; simp only [fun d => (h.kv i j hm d).2]
  · have e : H.pn g i j = 0 := by unfold Head.pn Head.E; rw [if_neg hm, zero_div]
    rw [← h.pn, e, zero_mul, zero_mul]

theorem delta (g i : ℕ) : H.delta g i = H'.delta g i := by
  unfold Head.delta; simp only [h.pn_dp]

theorem ds (g i j : ℕ) : H.ds g i j = H'.ds g i j := by
  unfold Head.ds; rw [mul_sub, mul_sub, h.pn_dp, h.delta, h.pn]

theorem dq (g i d : ℕ) : H.dq g i d = H'.dq g i d := by
  unfold Head.dq
  congr 1
  refine Finset.sum_congr rfl fun j _ => ?_
  by_cases hm : msk H.lo i j.val
  · rw [h.ds, (h.kv i j.val hm d).1]
  · have e : H.ds g i j.val = 0 := by unfold Head.ds Head.pn Head.E; rw [if_neg hm, zero_div, zero_mul]
    rw [← h.ds, e, zero_mul, zero_mul]

theorem dk (j d : ℕ) : H.dk j d = H'.dk j d := by
  unfold Head.dk; simp only [h.ds, h.q]

theorem dv (j d : ℕ) : H.dv j d = H'.dv j d := by
  unfold Head.dv; simp only [h.pn, h.D]

theorem dz (g i : ℕ) : H.dz g i = H'.dz g i := by
  unfold Head.dz; rw [h.z, h.Z, h.delta]

end Alike

/-- A sum of reals, in the extended reals. -/
theorem coe_sum {ι : Type*} (S : Finset ι) (f : ι → ℝ) : ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- A sum over 384 rows is a sum over three groups of 128. -/
theorem sum384 (f : ℕ → ℕ → ℝ) : (∑ r : Fin 384, f (r.val / 128) (r.val % 128)) = ∑ g : Fin 3, ∑ i : Fin 128, f g.val i.val := by
  rw [← Fintype.sum_prod_type' (f := fun (g : Fin 3) (i : Fin 128) => f g.val i.val)]
  refine (Fintype.sum_equiv (finProdFinEquiv (m := 3) (n := 128)) _ _ fun x => ?_).symm
  have h1 := x.1.isLt
  have h2 := x.2.isLt
  show f x.1.val x.2.val = f ((x.2.val + 128 * x.1.val) / 128) ((x.2.val + 128 * x.1.val) % 128)
  rw [show (x.2.val + 128 * x.1.val) / 128 = x.1.val by omega, show (x.2.val + 128 * x.1.val) % 128 = x.2.val by omega]

end Attn

end
-- ==== Proof.Attn.Tile.lean ====
/- Tiles of real numbers: what each vector operation of the attention gradient makes of them, at the ideal values. -/
module

public import proofs.«01_k».proof.Proof.Attn.Head
public import proofs.«01_k».proof.Proof.Attn.Model
public import Idealize.ShloMosaic.PureOps.Ideal.Laws
public import Idealize.ShloMosaic.Lib.ValueIdx
public import Idealize.ShloMosaic.Lib.KernelVsHost

@[expose] public section

set_option maxRecDepth 16384

noncomputable section

namespace Cert.KernelIdeal.Attn

open Idealize.ShloMosaic Idealize.ShloMosaic.TcCoe
open Cert.KernelIdeal Cert.KernelIdeal.Gen

/-- A matrix whose entries are real numbers, given by a function of the row and the column. -/
def Is {n0 n1 : ℕ} (x : (⟨2, ![n0, n1]⟩ : Shape).Idx → EReal) (f : ℕ → ℕ → ℝ) : Prop :=
  ∀ i, x i = ((f (i 0).val (i 1).val : ℝ) : EReal)

namespace Is
section
variable {n0 n1 : ℕ} {x y : FVec Ideal ⟨2, ![n0, n1]⟩ .f32} {f g : ℕ → ℕ → ℝ}

theorem congr (h : Is x f) (e : ∀ a b, a < n0 → b < n1 → f a b = g a b) : Is x g := fun i => by
  rw [h i, e _ _ (i 0).isLt (i 1).isLt]

theorem addf (hx : Is x f) (hy : Is y g) : Is (Idealize.ShloMosaic.addf x y) (fun a b => f a b + g a b) := fun i => by
  show x i + y i = _
  rw [hx i, hy i, EReal.coe_add]

theorem subf (hx : Is x f) (hy : Is y g) : Is (Idealize.ShloMosaic.subf x y) (fun a b => f a b - g a b) := fun i => by
  show x i - y i = _
  rw [hx i, hy i, EReal.coe_sub]

theorem mulf (hx : Is x f) (hy : Is y g) : Is (Idealize.ShloMosaic.mulf x y) (fun a b => f a b * g a b) := fun i => by
  show x i * y i = _
  rw [hx i, hy i, EReal.coe_mul]

theorem divf (hx : Is x f) (hy : Is y g) (h : ∀ a b, a < n0 → b < n1 → g a b ≠ 0) : Is (Idealize.ShloMosaic.divf x y) (fun a b => f a b / g a b) := fun i => by
  show Ideal.div (x i) (y i) = _
  rw [hx i, hy i, Ideal.div_coe (h _ _ (i 0).isLt (i 1).isLt), ← EReal.coe_mul, mul_one_div]

theorem exp (hx : Is x f) : Is (Idealize.ShloMosaic.exp x) (fun a b => Real.exp (f a b)) := fun i => by
  show Ideal.exp (x i) = _
  rw [hx i, Ideal.exp_coe]

theorem trunc (hx : Is x f) (h : FTy.bits .bf16 < FTy.bits .f32) : Is (Idealize.ShloMosaic.truncf .bf16 x h) f := hx

theorem cast {h : Shape.ShapeCasts ⟨2, ![n0, n1]⟩ ⟨2, ![n0, n1]⟩} (hx : Is x f) : Is (shapeCast _ x h) f := by
  rw [shapeCast_self]; exact hx

/-- A splat of a real constant. -/
theorem splat {r : ℝ} {v : EReal} (h : v = (r : EReal)) : Is (broadcast (⟨2, ![n0, n1]⟩ : Shape) v) (fun _ _ => r) := fun _ => h

/-- A rectangle cut out of a matrix. -/
theorem slice {m0 m1 : ℕ} (o0 o1 : ℕ) (h : Shape.Slices ⟨2, ![n0, n1]⟩ ![o0, o1] ⟨2, ![m0, m1]⟩) (hx : Is x f) :
    Is (extractStridedSlice ⟨2, ![m0, m1]⟩ ![o0, o1] x h) (fun a b => f (o0 + a) (o1 + b)) := fun i => by
  have b0 : o0 + (i 0).val < n0 := by
    have := h.2 0; have e := (i 0).isLt
    simp at this e; omega
  have b1 : o1 + (i 1).val < n1 := by
    have := h.2 1; have e := (i 1).isLt
    simp at this e; omega
  rw [extractStridedSlice_apply ![o0, o1] x h i (ValueIdx.ix2 ⟨o0 + (i 0).val, b0⟩ ⟨o1 + (i 1).val, b1⟩)
    (fun a => match a with | ⟨0, _⟩ => rfl | ⟨1, _⟩ => rfl), hx]
  rfl

/-- A column repeated along the rows. -/
theorem col {m : ℕ} {x : FVec Ideal ⟨2, ![n0, 1]⟩ .f32} (h : Shape.Broadcasts ⟨2, ![n0, 1]⟩ ⟨2, ![n0, m]⟩) (hx : Is x f) :
    Is (broadcastTo ⟨2, ![n0, m]⟩ x h) (fun a _ => f a 0) := fun i => by
  have e : broadcastTo ⟨2, ![n0, m]⟩ x h i = x (ValueIdx.ix2 ⟨(i 0).val, (i 0).isLt⟩ ⟨0, Nat.one_pos⟩) := by
    refine broadcastTo_apply x h i _ fun a => ?_
    match a with
    | ⟨0, _⟩ =>
      show (i 0).val = if n0 = 1 then 0 else (i 0).val
      have := (i 0).isLt; simp at this; split <;> omega
    | ⟨1, _⟩ => rfl
  rw [e, hx]
  rfl
end

/-- A tile rotated by half its columns. -/
theorem rot {x : FVec Ideal S128x128 .f32} {f : ℕ → ℕ → ℝ} (hx : Is x f) :
    Is (n0 := 128) (n1 := 128) (dynamicRotate 1 64#32 none x rotates_S128x128_d1) (fun a b => f a ((b + 64) % 128)) := fun i => by
  have e : dynamicRotate 1 64#32 none x rotates_S128x128_d1 i = x (ValueIdx.ix2 ⟨(i 0).val, (i 0).isLt⟩ ⟨((i 1).val + 64) % 128, Nat.mod_lt _ (by decide)⟩) := by
    refine dynamicRotate_apply 1 64#32 x _ i _ fun a => ?_
    match a with
    | ⟨0, _⟩ => rfl
    | ⟨1, _⟩ =>
      show ((i 1).val + 64) % 128 = ((i 1).val + 128 - 64 % 128) % 128
      omega
  rw [e, hx]

theorem rope {x c s : FVec Ideal S128x128 .f32} {f fc fs : ℕ → ℕ → ℝ} (hx : Is x f) (hc : Is c fc) (hs : Is s fs) :
    Is (n0 := 128) (n1 := 128) (Cert.KernelIdeal.Attn.rope x c s) (Attn.ropeR f fc fs) :=
  (hx.mulf hc.cast).addf (hx.rot.mulf hs.cast)

theorem ropeT {x c s : FVec Ideal S128x128 .f32} {f fc fs : ℕ → ℕ → ℝ} (hx : Is x f) (hc : Is c fc) (hs : Is s fs) :
    Is (n0 := 128) (n1 := 128) (Cert.KernelIdeal.Attn.ropeT x c s) (Attn.ropeTR f fc fs) :=
  (hx.mulf hc.cast).addf ((hx.mulf hs.cast).rot)

/-- Two matrices stacked. -/
theorem cat2 {n a b : ℕ} {x : FVec Ideal ⟨2, ![a, n]⟩ .f32} {y : FVec Ideal ⟨2, ![b, n]⟩ .f32} {f g : ℕ → ℕ → ℝ}
    (h : Shape.Concatenates [⟨2, ![a, n]⟩, ⟨2, ![b, n]⟩] ⟨2, ![a + b, n]⟩ 0) (hx : Is x f) (hy : Is y g) :
    Is (concatenate (⟨2, ![a + b, n]⟩ : Shape) 0 [⟨⟨2, ![a, n]⟩, x⟩, ⟨⟨2, ![b, n]⟩, y⟩] h) (fun r d => if r < a then f r d else g (r - a) d) := fun i => by
  have hi : (i 0).val < a + b := (i 0).isLt
  by_cases hl : (i 0).val < a
  · rw [concatenate_apply_piece 0 _ _ i 0 (by show 0 < 2; omega) ⟨2, ![a, n]⟩ x rfl rfl 0 rfl (ValueIdx.ix2 ⟨(i 0).val, hl⟩ ⟨(i 1).val, (i 1).isLt⟩)
      (fun b hb => match b, hb with | ⟨0, _⟩, hb => absurd rfl hb | ⟨1, _⟩, _ => rfl) (Nat.zero_add _), hx]
    show _ = (((if (i 0).val < a then _ else _ : ℝ)) : EReal)
    rw [if_pos hl]
    rfl
  · rw [concatenate_apply_piece 0 _ _ i 1 (by show 1 < 2; omega) ⟨2, ![b, n]⟩ y rfl rfl a (by simp only [List.map, List.take, List.sum_cons, List.sum_nil]; rfl) (ValueIdx.ix2 ⟨(i 0).val - a, by omega⟩ ⟨(i 1).val, (i 1).isLt⟩)
      (fun b hb => match b, hb with | ⟨0, _⟩, hb => absurd rfl hb | ⟨1, _⟩, _ => rfl) (by show a + ((i 0).val - a) = (i 0).val; omega), hy]
    show _ = (((if (i 0).val < a then _ else _ : ℝ)) : EReal)
    rw [if_neg hl]
    rfl

/-- Three matrices of 128 rows stacked. -/
theorem cat3 {n : ℕ} {x y z : FVec Ideal ⟨2, ![128, n]⟩ .f32} {f : ℕ → ℕ → ℕ → ℝ}
    (h : Shape.Concatenates [⟨2, ![128, n]⟩, ⟨2, ![128, n]⟩, ⟨2, ![128, n]⟩] ⟨2, ![384, n]⟩ 0) (hx : Is x (f 0)) (hy : Is y (f 1)) (hz : Is z (f 2)) :
    Is (concatenate (⟨2, ![384, n]⟩ : Shape) 0 [⟨⟨2, ![128, n]⟩, x⟩, ⟨⟨2, ![128, n]⟩, y⟩, ⟨⟨2, ![128, n]⟩, z⟩] h) (fun r d => f (r / 128) (r % 128) d) := fun i => by
  have hi : (i 0).val < 384 := (i 0).isLt
  have hm : (i 0).val % 128 < 128 := Nat.mod_lt _ (by decide)
  show _ = ((f ((i 0).val / 128) ((i 0).val % 128) (i 1).val : ℝ) : EReal)
  obtain hq | hq | hq : (i 0).val / 128 = 0 ∨ (i 0).val / 128 = 1 ∨ (i 0).val / 128 = 2 := by omega
  · rw [concatenate_apply_piece 0 _ _ i 0 (by show 0 < 3; omega) ⟨2, ![128, n]⟩ x rfl rfl 0 rfl (ValueIdx.ix2 ⟨(i 0).val % 128, hm⟩ ⟨(i 1).val, (i 1).isLt⟩)
      (fun b hb => match b, hb with | ⟨0, _⟩, hb => absurd rfl hb | ⟨1, _⟩, _ => rfl) (by show 0 + (i 0).val % 128 = (i 0).val; omega), hx, hq]
    rfl
  · rw [concatenate_apply_piece 0 _ _ i 1 (by show 1 < 3; omega) ⟨2, ![128, n]⟩ y rfl rfl 128 rfl (ValueIdx.ix2 ⟨(i 0).val % 128, hm⟩ ⟨(i 1).val, (i 1).isLt⟩)
      (fun b hb => match b, hb with | ⟨0, _⟩, hb => absurd rfl hb | ⟨1, _⟩, _ => rfl) (by show 128 + (i 0).val % 128 = (i 0).val; omega), hy, hq]
    rfl
  · rw [concatenate_apply_piece 0 _ _ i 2 (by show 2 < 3; omega) ⟨2, ![128, n]⟩ z rfl rfl 256 rfl (ValueIdx.ix2 ⟨(i 0).val % 128, hm⟩ ⟨(i 1).val, (i 1).isLt⟩)
      (fun b hb => match b, hb with | ⟨0, _⟩, hb => absurd rfl hb | ⟨1, _⟩, _ => rfl) (by show 256 + (i 0).val % 128 = (i 0).val; omega), hz, hq]
    rfl

/-- The rows' sums, as a column. -/
theorem rowSum {x : FVec Ideal S384x256 .f32} {f : ℕ → ℕ → ℝ} (hx : Is x f) (hφ : FKind.Formats .f32) (hacc) :
    Is (n0 := 384) (n1 := 1) (shapeCast S384x1 (multiReduction .add [1] S384 x 0x00000000#32 reduces_S384x256_S384 hφ hacc) shapeCasts_S384_S384x1)
      (fun a _ => ∑ j : Fin 256, f a j.val) := fun i => by
  have hi : (i 1).val < 1 := (i 1).isLt
  rw [shapeCast_apply _ _ i (ValueIdx.ix1 ⟨(i 0).val, (i 0).isLt⟩ : S384.Idx) (by
    rw [Shape.rowMajor_val_one, Shape.rowMajor_val_two]
    show (i 0).val = (i 0).val * 1 + (i 1).val; omega)]
  rw [Ideal.multiReduction_add_single, Attn.coe_sum]
  exact Finset.sum_congr rfl fun k _ => hx _

/-- A product of stacked rows, contracted along the second axis of both. -/
theorem mm11 {x : FVec Ideal S384x128 .bf16} {y : FVec Ideal S256x128 .bf16} {f g : ℕ → ℕ → ℝ}
    (hx : Is (n0 := 384) (n1 := 128) x f) (hy : Is (n0 := 256) (n1 := 128) y g) :
    Is (n0 := 384) (n1 := 256) (matmul dot_S384x128_S256x128_S384x256_1_1_0_0_n_n none x y (constant S384x256 .f32 0x00000000#32))
      (fun a b => ∑ d : Fin 128, f a d.val * g b d.val) := fun i => by
  refine (Ideal.matmul_constant_zero_apply _ none x y i).trans ?_
  rw [← Equiv.sum_comp (ValueIdx.contrEquiv1 dot_S384x128_S256x128_S384x256_1_1_0_0_n_n 128 rfl rfl).symm, Attn.coe_sum]
  refine Finset.sum_congr rfl fun k _ => ?_
  have hk := ValueIdx.contrEquiv1_symm_val dot_S384x128_S256x128_S384x256_1_1_0_0_n_n 128 rfl rfl k
  have ql : ∀ q, ((dot_S384x128_S256x128_S384x256_1_1_0_0_n_n.lhsIdx i q) 0).val = (i 0).val := fun q => by
    unfold DotDims.lhsIdx
    rw [dif_neg (show ¬ _ ∈ dot_S384x128_S256x128_S384x256_1_1_0_0_n_n.lhsBatch by decide), dif_pos (show _ ∈ dot_S384x128_S256x128_S384x256_1_1_0_0_n_n.lhsNonContracting by decide)]
    rfl
  have qr : ∀ q, ((dot_S384x128_S256x128_S384x256_1_1_0_0_n_n.rhsIdx i q) 0).val = (i 1).val := fun q => by
    unfold DotDims.rhsIdx
    rw [dif_neg (show ¬ _ ∈ dot_S384x128_S256x128_S384x256_1_1_0_0_n_n.rhsBatch by decide), dif_pos (show _ ∈ dot_S384x128_S256x128_S384x256_1_1_0_0_n_n.rhsNonContracting by decide)]
    rfl
  rw [hx, hy, ql, qr, dot_S384x128_S256x128_S384x256_1_1_0_0_n_n.lhsIdx_val_of_single rfl, dot_S384x128_S256x128_S384x256_1_1_0_0_n_n.rhsIdx_val_of_single rfl, hk, EReal.coe_mul]

/-- A product along the rows of both. -/
theorem mm00 {x : FVec Ideal S384x256 .bf16} {y : FVec Ideal S384x128 .bf16} {f g : ℕ → ℕ → ℝ}
    (hx : Is (n0 := 384) (n1 := 256) x f) (hy : Is (n0 := 384) (n1 := 128) y g) :
    Is (n0 := 256) (n1 := 128) (matmul dot_S384x256_S384x128_S256x128_0_0_1_1_n_n none x y (constant S256x128 .f32 0x00000000#32))
      (fun a b => ∑ r : Fin 384, f r.val a * g r.val b) := fun i => by
  refine (Ideal.matmul_constant_zero_apply _ none x y i).trans ?_
  rw [← Equiv.sum_comp (ValueIdx.contrEquiv1 dot_S384x256_S384x128_S256x128_0_0_1_1_n_n 384 rfl rfl).symm, Attn.coe_sum]
  refine Finset.sum_congr rfl fun k _ => ?_
  have hk := ValueIdx.contrEquiv1_symm_val dot_S384x256_S384x128_S256x128_0_0_1_1_n_n 384 rfl rfl k
  have ql : ∀ q, ((dot_S384x256_S384x128_S256x128_0_0_1_1_n_n.lhsIdx i q) 1).val = (i 0).val := fun q => by
    unfold DotDims.lhsIdx
    rw [dif_neg (show ¬ _ ∈ dot_S384x256_S384x128_S256x128_0_0_1_1_n_n.lhsBatch by decide), dif_pos (show _ ∈ dot_S384x256_S384x128_S256x128_0_0_1_1_n_n.lhsNonContracting by decide)]
    rfl
  have qr : ∀ q, ((dot_S384x256_S384x128_S256x128_0_0_1_1_n_n.rhsIdx i q) 1).val = (i 1).val := fun q => by
    unfold DotDims.rhsIdx
    rw [dif_neg (show ¬ _ ∈ dot_S384x256_S384x128_S256x128_0_0_1_1_n_n.rhsBatch by decide), dif_pos (show _ ∈ dot_S384x256_S384x128_S256x128_0_0_1_1_n_n.rhsNonContracting by decide)]
    rfl
  rw [hx, hy, ql, qr, dot_S384x256_S384x128_S256x128_0_0_1_1_n_n.lhsIdx_val_of_single rfl, dot_S384x256_S384x128_S256x128_0_0_1_1_n_n.rhsIdx_val_of_single rfl, hk, EReal.coe_mul]

/-- A plain product. -/
theorem mm10 {x : FVec Ideal S384x256 .bf16} {y : FVec Ideal S256x128 .bf16} {f g : ℕ → ℕ → ℝ}
    (hx : Is (n0 := 384) (n1 := 256) x f) (hy : Is (n0 := 256) (n1 := 128) y g) :
    Is (n0 := 384) (n1 := 128) (matmul dot_S384x256_S256x128_S384x128_1_0_0_1_n_n none x y (constant S384x128 .f32 0x00000000#32))
      (fun a b => ∑ j : Fin 256, f a j.val * g j.val b) := fun i => by
  refine (Ideal.matmul_constant_zero_apply _ none x y i).trans ?_
  rw [← Equiv.sum_comp (ValueIdx.contrEquiv1 dot_S384x256_S256x128_S384x128_1_0_0_1_n_n 256 rfl rfl).symm, Attn.coe_sum]
  refine Finset.sum_congr rfl fun k _ => ?_
  have hk := ValueIdx.contrEquiv1_symm_val dot_S384x256_S256x128_S384x128_1_0_0_1_n_n 256 rfl rfl k
  have ql : ∀ q, ((dot_S384x256_S256x128_S384x128_1_0_0_1_n_n.lhsIdx i q) 0).val = (i 0).val := fun q => by
    unfold DotDims.lhsIdx
    rw [dif_neg (show ¬ _ ∈ dot_S384x256_S256x128_S384x128_1_0_0_1_n_n.lhsBatch by decide), dif_pos (show _ ∈ dot_S384x256_S256x128_S384x128_1_0_0_1_n_n.lhsNonContracting by decide)]
    rfl
  have qr : ∀ q, ((dot_S384x256_S256x128_S384x128_1_0_0_1_n_n.rhsIdx i q) 1).val = (i 1).val := fun q => by
    unfold DotDims.rhsIdx
    rw [dif_neg (show ¬ _ ∈ dot_S384x256_S256x128_S384x128_1_0_0_1_n_n.rhsBatch by decide), dif_pos (show _ ∈ dot_S384x256_S256x128_S384x128_1_0_0_1_n_n.rhsNonContracting by decide)]
    rfl
  rw [hx, hy, ql, qr, dot_S384x256_S256x128_S384x128_1_0_0_1_n_n.lhsIdx_val_of_single rfl, dot_S384x256_S256x128_S384x128_1_0_0_1_n_n.rhsIdx_val_of_single rfl, hk, EReal.coe_mul]

/-- A single number repeated down a column. -/
theorem z {x : FVec Ideal S1x1 .f32} {t : ℝ} (hx : Is (n0 := 1) (n1 := 1) x (fun _ _ => t)) :
    Is (n0 := 128) (n1 := 1) (broadcastTo S128x1 (shapeCast S1x1 x shapeCasts_S1x1_S1x1) broadcasts_S1x1_S128x1) (fun _ _ => t) := fun i => by
  have e : broadcastTo S128x1 (shapeCast S1x1 x shapeCasts_S1x1_S1x1) broadcasts_S1x1_S128x1 i = x (ValueIdx.ix2 ⟨0, Nat.one_pos⟩ ⟨0, Nat.one_pos⟩) := by
    rw [shapeCast_self]
    refine broadcastTo_apply x _ i _ fun a => ?_
    match a with
    | ⟨0, _⟩ => rfl
    | ⟨1, _⟩ => rfl
  rw [e, hx]

/-- A column's sum, at its one entry. -/
theorem colSum {x : FVec Ideal S128x1 .f32} {f : ℕ → ℝ} (hx : Is (n0 := 128) (n1 := 1) x (fun a _ => f a)) (hφ : FKind.Formats .f32) (hacc) (j : S1.Idx) :
    multiReduction .add [0] S1 x 0x00000000#32 reduces_S128x1_S1 hφ hacc j = ((∑ i : Fin 128, f i.val : ℝ) : EReal) := by
  rw [Ideal.multiReduction_add_single, Attn.coe_sum]
  exact Finset.sum_congr rfl fun k _ => hx _

/-- The largest entry of a row without the largest value. -/
theorem rowMax_lt (x : FVec Ideal S384x256 .f32) (hx : ∀ i, x i < (⊤ : EReal)) (hφ : FKind.Formats .f32) (hacc) (j : S384.Idx) :
    multiReduction .maximumf [1] S384 x 0xFF800000#32 reduces_S384x256_S384 hφ hacc j < (⊤ : EReal) := by
  rw [Ideal.multiReduction_maximumf_single, Finset.fold_max_lt]
  refine ⟨?_, fun k _ => hx _⟩
  show Ideal.ofBits .f32 0xFF800000#32 < ⊤
  simp [Ideal.ofBits, Ideal.ieee]

end Is

end Cert.KernelIdeal.Attn

end
-- ==== Proof.Attn.KIdeal.lean ====
/- What a head's arithmetic computes at the ideal values when all it reads is real: the masked softmax with a sink and its
   derivatives over the reals. -/
module

public import proofs.«01_k».proof.Proof.Attn.Tile

@[expose] public section

set_option maxRecDepth 16384

noncomputable section

namespace Cert.KernelIdeal.Attn

open Idealize.ShloMosaic Idealize.ShloMosaic.TcCoe
open Cert.KernelIdeal Cert.KernelIdeal.Gen

/-- The real tiles a head reads. -/
structure RIn where
  q : ℕ → ℕ → ℕ → ℝ
  kc : ℕ → ℕ → ℝ
  kp : ℕ → ℕ → ℝ
  vc : ℕ → ℕ → ℝ
  vp : ℕ → ℕ → ℝ
  c : ℕ → ℕ → ℝ
  s : ℕ → ℕ → ℝ
  cp : ℕ → ℕ → ℝ
  sp : ℕ → ℕ → ℝ
  z : ℕ → ℝ
  D : ℕ → ℕ → ℕ → ℝ
  lo : ℕ

/-- The head over the reals those tiles make. -/
def RIn.head (R : RIn) : Attn.Head where
  q g i d := Attn.ropeR (R.q g) R.c R.s i d
  k j d := if j < 128 then Attn.ropeR R.kp R.cp R.sp j d else Attn.ropeR R.kc R.c R.s (j - 128) d
  v j d := if j < 128 then R.vp j d else R.vc (j - 128) d
  D := R.D
  z := R.z
  lo := R.lo

/-- The vectors a head reads hold the real tiles. -/
structure Reads (H : HIn Ideal) (R : RIn) : Prop where
  q0 : Is H.q0 (R.q 0)
  q1 : Is H.q1 (R.q 1)
  q2 : Is H.q2 (R.q 2)
  kc : Is H.kc R.kc
  kp : Is H.kp R.kp
  vc : Is H.vc R.vc
  vp : Is H.vp R.vp
  c : Is H.c R.c
  s : Is H.s R.s
  cp : Is H.cp R.cp
  sp : Is H.sp R.sp
  z0 : Is H.z0 (fun _ _ => R.z 0)
  z1 : Is H.z1 (fun _ _ => R.z 1)
  z2 : Is H.z2 (fun _ _ => R.z 2)
  d0 : Is H.d0 (R.D 0)
  d1 : Is H.d1 (R.D 1)
  d2 : Is H.d2 (R.D 2)
  lo : H.lo = BitVec.ofNat 32 R.lo
  lo_le : R.lo ≤ 128

/-- The scale as both programs spell it. -/
theorem sc_word : (Scalar.ofBits .f32 0x3DB504F3#32 : Ideal .f32) = ((Attn.SC : ℝ) : EReal) := by
  show Ideal.ofBits .f32 0x3DB504F3#32 = _
  unfold Attn.SC
  simp [Ideal.ofBits, Ideal.ieee, -EReal.coe_mul]
  norm_num

/-- The word of zero. -/
theorem zero_word : (Scalar.ofBits .f32 0x00000000#32 : Ideal .f32) = ((0 : ℝ) : EReal) := by
  show Ideal.ofBits .f32 0x00000000#32 = _
  rw [Ideal.ofBits_zero_f32]; rfl

/-- Small words compare as the numbers they spell. -/
theorem slt_small (a b : ℕ) (ha : a < 2 ^ 30) (hb : b < 2 ^ 30) : (BitVec.ofNat 32 a).slt (BitVec.ofNat 32 b) = decide (a < b) := by
  rw [BitVec.slt_eq_decide, BitVec.toInt_eq_toNat_of_lt (by simp; omega), BitVec.toInt_eq_toNat_of_lt (by simp; omega)]
  simp [Nat.mod_eq_of_lt (show a < 4294967296 by omega), Nat.mod_eq_of_lt (show b < 4294967296 by omega)]

theorem sle_small (a b : ℕ) (ha : a < 2 ^ 30) (hb : b < 2 ^ 30) : (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp [Nat.mod_eq_of_lt (show a < 4294967296 by omega), Nat.mod_eq_of_lt (show b < 4294967296 by omega)]

theorem and_small (a : ℕ) (ha : a < 2 ^ 30) : BitVec.ofNat 32 a &&& 127#32 = BitVec.ofNat 32 (a % 128) := by
  apply BitVec.eq_of_toNat_eq
  rw [BitVec.toNat_and, BitVec.toNat_ofNat, BitVec.toNat_ofNat, BitVec.toNat_ofNat, Nat.mod_eq_of_lt (show a < 2 ^ 32 by omega),
    Nat.mod_eq_of_lt (show a % 128 < 2 ^ 32 by omega), Nat.mod_eq_of_lt (show 127 < 2 ^ 32 by omega)]
  exact Nat.and_two_pow_sub_one_eq_mod a 7

namespace Reads
variable {H : HIn Ideal} {R : RIn} (r : Reads H R)
include r

theorem kcat : Is (n0 := 256) (n1 := 128) H.kcat R.head.k :=
  Is.cat2 (a := 128) (b := 128) _ (r.kp.rope r.cp r.sp) (r.kc.rope r.c r.s)

theorem vcat : Is (n0 := 256) (n1 := 128) H.vcat R.head.v :=
  Is.cat2 (a := 128) (b := 128) _ r.vp r.vc

theorem qs : Is (n0 := 384) (n1 := 128) H.qs (fun a d => R.head.q (a / 128) (a % 128) d) :=
  Is.cat3 (f := R.head.q) _ (r.q0.rope r.c r.s) (r.q1.rope r.c r.s) (r.q2.rope r.c r.s)

theorem dos : Is (n0 := 384) (n1 := 128) H.dos (fun a d => R.head.D (a / 128) (a % 128) d) :=
  Is.cat3 (f := R.head.D) _ r.d0 r.d1 r.d2

theorem sc : Is (n0 := 384) (n1 := 256) H.sc (fun a j => R.head.s (a / 128) (a % 128) j) :=
  (Is.mm11 r.qs r.kcat).mulf (Is.splat sc_word)

theorem zc : Is (n0 := 384) (n1 := 1) H.zc (fun a _ => R.z (a / 128)) :=
  Is.cat3 (f := fun g _ _ => R.z g) _
    (Is.z r.z0) (Is.z r.z1) (Is.z r.z2)

theorem mask (i : S384x256.Idx) : H.mask i = BitVec.ofBool (Attn.msk R.lo ((i 0).val % 128) (i 1).val) := by
  have h0 : (i 0).val < 384 := (i 0).isLt
  have h1 : (i 1).val < 256 := (i 1).isLt
  have hl := r.lo_le
  have e0 : iota .tc S384x256 32 [0] iota_S384x256_d0_w32 i = BitVec.ofNat 32 (i 0).val := iota_single_apply _ _ _ 0 _ i
  have e1 : iota .tc S384x256 32 [1] iota_S384x256_d1_w32 i = BitVec.ofNat 32 (i 1).val := iota_single_apply _ _ _ 1 _ i
  have er : HIn.row i = BitVec.ofNat 32 ((i 0).val % 128) := by
    show iota .tc S384x256 32 [0] iota_S384x256_d0_w32 i &&& 127#32 = _
    rw [e0, and_small _ (by omega)]
  show (BitVec.ofBool (BitVec.slt (HIn.row i) (iota .tc S384x256 32 [1] iota_S384x256_d1_w32 i)) &&&
      BitVec.ofBool (BitVec.sle (iota .tc S384x256 32 [1] iota_S384x256_d1_w32 i) (HIn.row i + 128#32))) &&&
      BitVec.ofBool (BitVec.sle H.lo (iota .tc S384x256 32 [1] iota_S384x256_d1_w32 i)) = _
  rw [e1, er, r.lo, show BitVec.ofNat 32 ((i 0).val % 128) + 128#32 = BitVec.ofNat 32 ((i 0).val % 128 + 128) from (BitVec.ofNat_add ..).symm,
    slt_small _ _ (by omega) (by omega), sle_small _ _ (by omega) (by omega), sle_small _ _ (by omega) (by omega)]
  unfold Attn.msk
  rw [Bool.decide_and, Bool.decide_and]
  cases decide ((i 0).val % 128 < (i 1).val) <;> cases decide ((i 1).val ≤ (i 0).val % 128 + 128) <;> cases decide (R.lo ≤ (i 1).val) <;> rfl

theorem sm (i : S384x256.Idx) : H.sm i = if Attn.msk R.lo ((i 0).val % 128) (i 1).val then ((R.head.s ((i 0).val / 128) ((i 0).val % 128) (i 1).val : ℝ) : EReal) else ⊥ := by
  show (if H.mask i = 1 then H.sc i else (Named.named κ "mask" 0xF149F2CA#32 : Ideal .f32)) = _
  rw [r.mask, r.sc, IdealRules.named_const.ideal_named_scalar _ _ _ _ rfl]
  cases Attn.msk R.lo ((i 0).val % 128) (i 1).val <;> rfl

theorem m : ∃ M : ℕ → ℝ, Is (n0 := 384) (n1 := 1) H.m (fun a _ => M a) := by
  have key : ∀ i : S384x1.Idx, H.m i ≠ ⊤ ∧ H.m i ≠ ⊥ := fun i => by
    have hi : (i 1).val < 1 := (i 1).isLt
    have e : H.m i = max (multiReduction .maximumf [1] S384 H.sm 0xFF800000#32 reduces_S384x256_S384 (.inl rfl) rfl (ValueIdx.ix1 ⟨(i 0).val, (i 0).isLt⟩ : S384.Idx)) (H.zc i) := by
      show max (shapeCast S384x1 _ _ i) _ = _
      rw [shapeCast_apply _ _ i (ValueIdx.ix1 ⟨(i 0).val, (i 0).isLt⟩ : S384.Idx) (by
        rw [Shape.rowMajor_val_one, Shape.rowMajor_val_two]
        show (i 0).val = (i 0).val * 1 + (i 1).val; omega)]
    rw [e, r.zc]
    constructor
    · refine ne_of_lt (max_lt (Is.rowMax_lt _ (fun k => ?_) _ _ _) (EReal.coe_lt_top _))
      rw [r.sm]
      split
      · exact EReal.coe_lt_top _
      · exact bot_lt_top
    · exact ne_of_gt (lt_max_of_lt_right (EReal.bot_lt_coe _))
  refine ⟨fun a => if h : a < 384 then (H.m (ValueIdx.ix2 ⟨a, h⟩ ⟨0, Nat.one_pos⟩)).toReal else 0, fun i => ?_⟩
  show _ = ((if h : (i 0).val < 384 then (H.m (ValueIdx.ix2 ⟨(i 0).val, h⟩ ⟨0, Nat.one_pos⟩)).toReal else 0 : ℝ) : EReal)
  have h0 : (i 0).val < 384 := (i 0).isLt
  have hi : (i 1).val < 1 := (i 1).isLt
  rw [dif_pos h0]
  have ei : i = ValueIdx.ix2 ⟨(i 0).val, h0⟩ ⟨0, Nat.one_pos⟩ := funext fun a => match a with
    | ⟨0, _⟩ => rfl
    | ⟨1, _⟩ => Fin.ext (by show (i 1).val = 0; omega)
  rw [← ei, EReal.coe_toReal (key i).1 (key i).2]

section
variable {M : ℕ → ℝ} (hm : Is (n0 := 384) (n1 := 1) H.m (fun a _ => M a))
include hm

theorem p : Is (n0 := 384) (n1 := 256) H.p (fun a j => R.head.E (a / 128) (a % 128) j * Real.exp (-M a)) := fun i => by
  show Ideal.exp (H.sm i - broadcastTo S384x256 H.m broadcasts_S384x1_S384x256 i) = ((R.head.E ((i 0).val / 128) ((i 0).val % 128) (i 1).val * Real.exp (-M (i 0).val) : ℝ) : EReal)
  rw [r.sm, hm.col _ i]
  unfold Attn.Head.E
  show _ = (((if Attn.msk R.lo ((i 0).val % 128) (i 1).val then _ else _) * _ : ℝ) : EReal)
  split
  · rw [← EReal.coe_sub, Ideal.exp_coe, ← Real.exp_add, sub_eq_add_neg]
  · rw [EReal.bot_sub, Ideal.exp_bot, zero_mul]; rfl

theorem ps : Is (n0 := 384) (n1 := 1) H.ps (fun a _ => Real.exp (R.z (a / 128)) * Real.exp (-M a)) :=
  ((r.zc.subf hm).exp).congr fun a _ _ _ => by rw [← Real.exp_add, sub_eq_add_neg]

theorem l : Is (n0 := 384) (n1 := 1) H.l (fun a _ => R.head.Z (a / 128) (a % 128) * Real.exp (-M a)) :=
  (((r.p hm).rowSum _ _).addf (r.ps hm)).congr fun a _ _ _ => by
    unfold Attn.Head.Z
    rw [add_mul, Finset.sum_mul]
    rfl

end

theorem pn : Is (n0 := 384) (n1 := 256) H.pn (fun a j => R.head.pn (a / 128) (a % 128) j) := by
  obtain ⟨M, hm⟩ := r.m
  refine ((r.p hm).divf ((r.l hm).col _) fun a _ _ _ => mul_ne_zero (R.head.Z_ne _ _) (Real.exp_ne_zero _)).congr fun a j _ _ => ?_
  exact mul_div_mul_right _ _ (Real.exp_ne_zero _)

theorem dp : Is (n0 := 384) (n1 := 256) H.dp (fun a j => R.head.dp (a / 128) (a % 128) j) :=
  Is.mm11 r.dos r.vcat

theorem dv : Is (n0 := 256) (n1 := 128) H.dv R.head.dv :=
  (Is.mm00 r.pn r.dos).congr fun j d _ _ => Attn.sum384 fun g i => R.head.pn g i j * R.head.D g i d

theorem delta : Is (n0 := 384) (n1 := 1) H.delta (fun a _ => R.head.delta (a / 128) (a % 128)) :=
  Is.rowSum (r.pn.mulf r.dp) _ _

theorem ds : Is (n0 := 384) (n1 := 256) H.ds (fun a j => R.head.ds (a / 128) (a % 128) j) :=
  r.pn.mulf (r.dp.subf (r.delta.col _))

theorem dqs : Is (n0 := 384) (n1 := 128) H.dqs (fun a d => R.head.dq (a / 128) (a % 128) d) :=
  (Is.mm10 r.ds r.kcat).mulf (Is.splat sc_word)

theorem dk : Is (n0 := 256) (n1 := 128) H.dk R.head.dk :=
  ((Is.mm00 r.ds r.qs).mulf (Is.splat sc_word)).congr fun j d _ _ =>
    congrArg (· * Attn.SC) (Attn.sum384 fun g i => R.head.ds g i j * R.head.q g i d)

theorem dz : Is (n0 := 384) (n1 := 1) H.dz (fun a _ => R.head.dz (a / 128) (a % 128)) := by
  obtain ⟨M, hm⟩ := r.m
  refine (((Is.splat zero_word).subf ((r.ps hm).divf (r.l hm) fun a _ _ _ => mul_ne_zero (R.head.Z_ne _ _) (Real.exp_ne_zero _))).mulf r.delta).congr fun a j _ _ => ?_
  show (0 - Real.exp _ * _ / _) * _ = -(Real.exp _ / _) * _
  rw [mul_div_mul_right _ _ (Real.exp_ne_zero _), zero_sub]
  rfl

theorem dq0 : Is (n0 := 128) (n1 := 128) H.dq0 (Attn.ropeTR (R.head.dq 0) R.c R.s) :=
  (((r.dqs.slice 0 0 _).congr (g := R.head.dq 0) fun a d ha _ => by
    show R.head.dq ((0 + a) / 128) ((0 + a) % 128) (0 + d) = _
    rw [show (0 + a) / 128 = 0 by omega, show (0 + a) % 128 = a by omega, Nat.zero_add]).ropeT r.c r.s).trunc _

theorem dq1 : Is (n0 := 128) (n1 := 128) H.dq1 (Attn.ropeTR (R.head.dq 1) R.c R.s) :=
  (((r.dqs.slice 128 0 _).congr (g := R.head.dq 1) fun a d ha _ => by
    show R.head.dq ((128 + a) / 128) ((128 + a) % 128) (0 + d) = _
    rw [show (128 + a) / 128 = 1 by omega, show (128 + a) % 128 = a by omega, Nat.zero_add]).ropeT r.c r.s).trunc _

theorem dq2 : Is (n0 := 128) (n1 := 128) H.dq2 (Attn.ropeTR (R.head.dq 2) R.c R.s) :=
  (((r.dqs.slice 256 0 _).congr (g := R.head.dq 2) fun a d ha _ => by
    show R.head.dq ((256 + a) / 128) ((256 + a) % 128) (0 + d) = _
    rw [show (256 + a) / 128 = 2 by omega, show (256 + a) % 128 = a by omega, Nat.zero_add]).ropeT r.c r.s).trunc _

theorem dko {ck : FVec Ideal S128x128 .f32} {f : ℕ → ℕ → ℝ} (hc : Is ck f) :
    Is (n0 := 128) (n1 := 128) (H.dko ck) (fun a d => Attn.ropeTR (fun a d => R.head.dk (128 + a) d) R.c R.s a d + f a d) :=
  ((((r.dk.slice 128 0 _).congr (g := fun a d => R.head.dk (128 + a) d) fun a d _ _ => by rw [Nat.zero_add]).ropeT r.c r.s).addf hc).trunc _

theorem dvo {cv : FVec Ideal S128x128 .f32} {f : ℕ → ℕ → ℝ} (hc : Is cv f) :
    Is (n0 := 128) (n1 := 128) (H.dvo cv) (fun a d => R.head.dv (128 + a) d + f a d) :=
  (((r.dv.slice 128 0 _).congr (g := fun a d => R.head.dv (128 + a) d) fun a d _ _ => by rw [Nat.zero_add]).addf hc).trunc _

theorem cko : Is (n0 := 128) (n1 := 128) H.cko (Attn.ropeTR R.head.dk R.cp R.sp) :=
  Is.cast (((r.dk.slice 0 0 _).congr (g := R.head.dk) fun a d _ _ => by rw [Nat.zero_add, Nat.zero_add]).ropeT r.cp r.sp)

theorem cvo : Is (n0 := 128) (n1 := 128) H.cvo R.head.dv :=
  Is.cast ((r.dv.slice 0 0 _).congr fun a d _ _ => by rw [Nat.zero_add, Nat.zero_add])

theorem dzc (g : ℕ) (hg : g < 3) (h : S384x1.Slices ![128 * g, 0] S128x1) :
    Is (n0 := 128) (n1 := 1) (extractStridedSlice S128x1 ![128 * g, 0] H.dz h) (fun a _ => R.head.dz g a) :=
  (r.dz.slice (128 * g) 0 h).congr fun a d ha _ => by
    show R.head.dz ((128 * g + a) / 128) ((128 * g + a) % 128) = _
    rw [show (128 * g + a) / 128 = g by omega, show (128 * g + a) % 128 = a by omega]

end Reads

/-- A column's sum added into one lane. -/
theorem Is.lane {k : ℕ} {col : FVec Ideal S128x1 .f32} {acc : FVec Ideal S1x128 .f32} {f : ℕ → ℝ} {g : ℕ → ℕ → ℝ} (hk : k < 128)
    (hc : Is (n0 := 128) (n1 := 1) col (fun a _ => f a)) (ha : Is (n0 := 1) (n1 := 128) acc g) :
    Is (n0 := 1) (n1 := 128) (Attn.lane (BitVec.ofNat 32 k) col acc) (fun a d => g a d + if d = k then ∑ i : Fin 128, f i.val else 0) := fun i => by
  have h1 : (i 1).val < 128 := (i 1).isLt
  have e1 : iota .tc S1x128 32 [1] iota_S1x128_d1_w32 i = BitVec.ofNat 32 (i 1).val := iota_single_apply _ _ _ 1 _ i
  have es : broadcastTo S1x128 (shapeCast S1x1 (shapeCast S1x1 (multiReduction .add [0] S1 col 0x00000000#32 reduces_S128x1_S1 (.inl rfl) rfl) shapeCasts_S1_S1x1) shapeCasts_S1x1_S1x1) broadcasts_S1x1_S1x128 i
      = ((∑ i : Fin 128, f i.val : ℝ) : EReal) := by
    rw [shapeCast_self, broadcastTo_apply _ _ i (ValueIdx.ix2 ⟨0, Nat.one_pos⟩ ⟨0, Nat.one_pos⟩ : S1x1.Idx) (fun a => match a with | ⟨0, _⟩ => rfl | ⟨1, _⟩ => rfl),
      shapeCast_apply _ _ _ (ValueIdx.ix1 ⟨0, Nat.one_pos⟩ : S1.Idx) (by rw [Shape.rowMajor_val_one, Shape.rowMajor_val_two]; rfl)]
    exact hc.colSum _ _ _
  show acc i + (if BitVec.ofBool (iota .tc S1x128 32 [1] iota_S1x128_d1_w32 i == BitVec.ofNat 32 k) = 1 then
      broadcastTo S1x128 (shapeCast S1x1 (shapeCast S1x1 (multiReduction .add [0] S1 col 0x00000000#32 reduces_S128x1_S1 (.inl rfl) rfl) shapeCasts_S1_S1x1) shapeCasts_S1x1_S1x1) broadcasts_S1x1_S1x128 i
      else (Scalar.ofBits .f32 0x00000000#32 : Ideal .f32)) = ((g (i 0).val (i 1).val + (if (i 1).val = k then ∑ i : Fin 128, f i.val else 0) : ℝ) : EReal)
  rw [es, e1, ha, zero_word, EReal.coe_add]
  congr 1
  by_cases h : (i 1).val = k
  · rw [if_pos h, h, beq_self_eq_true]; rfl
  · have hne : (BitVec.ofNat 32 (i 1).val == BitVec.ofNat 32 k) = false := by
      rw [beq_eq_false_iff_ne]
      intro he
      have := congrArg BitVec.toNat he
      rw [BitVec.toNat_ofNat, BitVec.toNat_ofNat] at this
      omega
    rw [if_neg h, hne]; rfl

/-- The sinks' gradients after a point. -/
theorem Is.dzV {A B : HIn Ideal} {RA RB : RIn} (ra : Reads A RA) (rb : Reads B RB) {xo : Vec Ideal S1x128 .f32} {g : ℕ → ℕ → ℝ}
    (hx : Is (n0 := 1) (n1 := 128) xo g) :
    Is (n0 := 1) (n1 := 128) (Attn.dzV A B xo) (fun a d => g a d +
      if d < 3 then ∑ i : Fin 128, RA.head.dz d i.val else if d < 6 then ∑ i : Fin 128, RB.head.dz (d - 3) i.val else 0) := by
  have h := (hx.cast (h := shapeCasts_S1x128_S1x128)).addf (Is.lane (k := 5) (by decide) (rb.dzc 2 (by decide) slices_S384x1_o256_0_S128x1)
    (Is.lane (k := 4) (by decide) (rb.dzc 1 (by decide) slices_S384x1_o128_0_S128x1)
    (Is.lane (k := 3) (by decide) (rb.dzc 0 (by decide) slices_S384x1_o0_0_S128x1)
    (Is.lane (k := 2) (by decide) (ra.dzc 2 (by decide) slices_S384x1_o256_0_S128x1)
    (Is.lane (k := 1) (by decide) (ra.dzc 1 (by decide) slices_S384x1_o128_0_S128x1)
    (Is.lane (k := 0) (by decide) (ra.dzc 0 (by decide) slices_S384x1_o0_0_S128x1) (Is.splat (n0 := 1) (n1 := 128) zero_word)))))))
  refine Is.congr h fun a d _ _ => ?_
  show g a d + ((((((0 + _) + _) + _) + _) + _) + _) = _
  congr 1
  by_cases h5 : d < 6
  · interval_cases d <;> simp
  · rw [if_neg (show ¬ d < 3 by omega), if_neg h5, if_neg (by omega), if_neg (by omega), if_neg (by omega), if_neg (by omega), if_neg (by omega), if_neg (by omega)]
    simp

end Cert.KernelIdeal.Attn

end
-- ==== Proof.Attn.Global.lean ====
/- The attention gradient of a whole sequence over the reals: 32 blocks of 128 queries, two key/value heads of three query
   heads each, and the four gradients put together from the blocks. -/
module

public import proofs.«01_k».proof.Proof.Attn.Model
public import Mathlib.Tactic.Ring

@[expose] public section

noncomputable section

namespace Attn

/-- The arguments: the packed projections, the packed cotangents, the cosines, the sines and the sinks. -/
structure Args where
  p : ℕ → ℕ → ℝ
  dc : ℕ → ℕ → ℝ
  co : ℕ → ℕ → ℝ
  si : ℕ → ℕ → ℝ
  z : ℕ → ℝ

namespace Args
variable (A : Args)

/-- The cosines, repeated. -/
def c2 (t d : ℕ) : ℝ := A.co t (d % 64)
/-- The signed sines: the first half negated. -/
def s2 (t d : ℕ) : ℝ := if d < 64 then -A.si t (d % 64) else A.si t (d % 64)
/-- The rotated query of head `g` of group `h`. -/
def qg (h g t d : ℕ) : ℝ := ropeR (fun t d => A.p t (3072 + 128 * (3 * h + g) + d)) A.c2 A.s2 t d
/-- The rotated key of group `h`. -/
def kg (h t d : ℕ) : ℝ := ropeR (fun t d => A.p t (3840 + 128 * h + d)) A.c2 A.s2 t d
/-- The value of group `h`. -/
def vg (h t d : ℕ) : ℝ := A.p t (4096 + 128 * h + d)
/-- The cotangent of head `g` of group `h`. -/
def Dg (h g t d : ℕ) : ℝ := A.dc t (768 + 128 * (3 * h + g) + d)

/-- Group `h` at block `b`: keys before the sequence are zero and not admitted. -/
def head (b h : ℕ) : Head where
  q g i d := A.qg h g (128 * b + i) d
  k j d := if 128 ≤ 128 * b + j then A.kg h (128 * b + j - 128) d else 0
  v j d := if 128 ≤ 128 * b + j then A.vg h (128 * b + j - 128) d else 0
  D g i d := A.Dg h g (128 * b + i) d
  z g := A.z (3 * h + g)
  lo := if b = 0 then 128 else 0

/-- The rotated query's gradient, row by row of the sequence. -/
def dqr (h g t d : ℕ) : ℝ := (A.head (t / 128) h).dq g (t % 128) d
/-- The rotated key's gradient: from the block the key lies in and from the block after. -/
def dkr (h t d : ℕ) : ℝ := (A.head (t / 128) h).dk (128 + t % 128) d + if t / 128 + 1 < 32 then (A.head (t / 128 + 1) h).dk (t % 128) d else 0
/-- The value's gradient, likewise. -/
def dvr (h t d : ℕ) : ℝ := (A.head (t / 128) h).dv (128 + t % 128) d + if t / 128 + 1 < 32 then (A.head (t / 128 + 1) h).dv (t % 128) d else 0

/-- The gradient of the queries. -/
def DQ (t l : ℕ) : ℝ := ropeTR (A.dqr (l / 384) (l / 128 % 3)) A.c2 A.s2 t (l % 128)
/-- The gradient of the keys. -/
def DK (t l : ℕ) : ℝ := ropeTR (A.dkr (l / 128)) A.c2 A.s2 t (l % 128)
/-- The gradient of the values. -/
def DV (t l : ℕ) : ℝ := A.dvr (l / 128) t (l % 128)
/-- The gradient of the sinks. -/
def DZ (l : ℕ) : ℝ := if l < 6 then ∑ b : Fin 32, ∑ i : Fin 128, (A.head b.val (l / 3)).dz (l % 3) i.val else 0

end Args

/-- Equal arguments, equal rotations. -/
theorem ropeR_congr {x x' c c' s s' : ℕ → ℕ → ℝ} {i i' d : ℕ} (hx : ∀ d, x i d = x' i' d) (hc : c i d = c' i' d) (hs : s i d = s' i' d) :
    ropeR x c s i d = ropeR x' c' s' i' d := by
  unfold ropeR; rw [hx, hx, hc, hs]

theorem ropeTR_congr {x x' c c' s s' : ℕ → ℕ → ℝ} {i i' d : ℕ} (hx : ∀ d, x i d = x' i' d) (hc : ∀ d, c i d = c' i' d) (hs : ∀ d, s i d = s' i' d) :
    ropeTR x c s i d = ropeTR x' c' s' i' d := by
  unfold ropeTR; rw [hx, hx, hc, hs]

/-- The transposed rotation of a sum. -/
theorem ropeTR_add (x y c s : ℕ → ℕ → ℝ) (i d : ℕ) : ropeTR (fun i d => x i d + y i d) c s i d = ropeTR x c s i d + ropeTR y c s i d := by
  unfold ropeTR; ring

theorem ropeTR_zero (c s : ℕ → ℕ → ℝ) (i d : ℕ) : ropeTR (fun _ _ => 0) c s i d = 0 := by
  unfold ropeTR; ring

end Attn

end
-- ==== Proof.Attn.KReal.lean ====
/- The kernel's four results on real arguments: the attention gradient of the whole sequence over the reals. -/
module

public import proofs.«01_k».proof.Proof.Attn.Value
public import proofs.«01_k».proof.Proof.Attn.KIdeal
public import proofs.«01_k».proof.Proof.Attn.Global

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- Two single-precision tiles side by side, read at a place. -/
theorem Is.pair32 {a b : Vec Ideal S128x128 .f32} {f g : ℕ → ℕ → ℝ} (ha : Is (n0 := 128) (n1 := 128) a f) (hb : Is (n0 := 128) (n1 := 128) b g) :
    Is (n0 := 128) (n1 := 256) (Attn.pair a b : Vec Ideal S128x256 .f32) (fun i d => if d < 128 then f i d else g i (d - 128)) := fun y => by
  unfold Attn.pair
  canon_tiles x h
  · refine (hb x).trans ?_
    show _ = ((if (y 1).val < 128 then _ else _ : ℝ) : EReal)
    rw [if_neg (by omega)]
    have e0 : (y 0).val = (x 0).val := by omega
    have e1 : (y 1).val - 128 = (x 1).val := by omega
    rw [e0, e1]
  · refine (ha x).trans ?_
    show _ = ((if (y 1).val < 128 then _ else _ : ℝ) : EReal)
    rw [if_pos (by omega)]
    have e0 : (y 0).val = (x 0).val := by omega
    have e1 : (y 1).val = (x 1).val := by omega
    rw [e0, e1]

/-- Two half-precision tiles side by side, read at a place. -/
theorem Is.pair16 {a b : Vec Ideal S128x128 .bf16} {f g : ℕ → ℕ → ℝ} (ha : Is (n0 := 128) (n1 := 128) a f) (hb : Is (n0 := 128) (n1 := 128) b g) :
    Is (n0 := 128) (n1 := 256) (Attn.pair a b : Vec Ideal S128x256 .bf16) (fun i d => if d < 128 then f i d else g i (d - 128)) := fun y => by
  unfold Attn.pair
  canon_tiles x h
  · refine (hb x).trans ?_
    show _ = ((if (y 1).val < 128 then _ else _ : ℝ) : EReal)
    rw [if_neg (by omega)]
    have e0 : (y 0).val = (x 0).val := by omega
    have e1 : (y 1).val - 128 = (x 1).val := by omega
    rw [e0, e1]
  · refine (ha x).trans ?_
    show _ = ((if (y 1).val < 128 then _ else _ : ℝ) : EReal)
    rw [if_pos (by omega)]
    have e0 : (y 0).val = (x 0).val := by omega
    have e1 : (y 1).val = (x 1).val := by omega
    rw [e0, e1]

/-- The left tile of a pair. -/
theorem Is.lt {x : Vec Ideal S128x256 .f32} {f : ℕ → ℕ → ℝ} (hx : Is (n0 := 128) (n1 := 256) x f) : Is (n0 := 128) (n1 := 128) (Attn.lt x) f := fun i => by
  refine (hx _).trans ?_
  have e0 : ((Rect.unit ![0, 0] ![128, 128] inb_S128x256_S128x128_0_0 : Rect S128x256).idx i 0 : ℕ) = (i 0).val := by
    rw [Rect.idx_unit_val]; exact Nat.zero_add _
  have e1 : ((Rect.unit ![0, 0] ![128, 128] inb_S128x256_S128x128_0_0 : Rect S128x256).idx i 1 : ℕ) = (i 1).val := by
    rw [Rect.idx_unit_val]; exact Nat.zero_add _
  exact congrArg₂ (fun a b => ((f a b : ℝ) : EReal)) e0 e1

/-- The right tile of a pair. -/
theorem Is.rt {x : Vec Ideal S128x256 .f32} {f : ℕ → ℕ → ℝ} (hx : Is (n0 := 128) (n1 := 256) x f) : Is (n0 := 128) (n1 := 128) (Attn.rt x) (fun i d => f i (128 + d)) := fun i => by
  refine (hx _).trans ?_
  have e0 : ((Rect.unit ![0, 128] ![128, 128] inb_S128x256_S128x128_0_128 : Rect S128x256).idx i 0 : ℕ) = (i 0).val := by
    rw [Rect.idx_unit_val]; exact Nat.zero_add _
  have e1 : ((Rect.unit ![0, 128] ![128, 128] inb_S128x256_S128x128_0_128 : Rect S128x256).idx i 1 : ℕ) = 128 + (i 1).val := by
    rw [Rect.idx_unit_val]; rfl
  exact congrArg₂ (fun a b => ((f a b : ℝ) : EReal)) e0 e1

/-- The block of the queries' gradient. -/
theorem Is.dqV {H0 H1 : HIn Ideal} {R0 R1 : RIn} (r0 : Reads H0 R0) (r1 : Reads H1 R1) :
    Is (n0 := 128) (n1 := 768) (Attn.dqV H0 H1) (fun i d => if d < 384 then Attn.ropeTR (R0.head.dq (d / 128)) R0.c R0.s i (d % 128)
      else Attn.ropeTR (R1.head.dq (d / 128 - 3)) R1.c R1.s i (d % 128)) := fun y => by
  unfold Attn.dqV
  canon_tiles x h
  · refine (r1.dq2 x).trans ?_
    show _ = ((if (y 1).val < 384 then _ else _ : ℝ) : EReal)
    rw [if_neg (by omega)]
    have e0 : (y 0).val = (x 0).val := by omega
    have e1 : (y 1).val % 128 = (x 1).val := by omega
    have e2 : (y 1).val / 128 - 3 = 2 := by omega
    rw [e0, e1, e2]
  · refine (r1.dq1 x).trans ?_
    show _ = ((if (y 1).val < 384 then _ else _ : ℝ) : EReal)
    rw [if_neg (by omega)]
    have e0 : (y 0).val = (x 0).val := by omega
    have e1 : (y 1).val % 128 = (x 1).val := by omega
    have e2 : (y 1).val / 128 - 3 = 1 := by omega
    rw [e0, e1, e2]
  · refine (r1.dq0 x).trans ?_
    show _ = ((if (y 1).val < 384 then _ else _ : ℝ) : EReal)
    rw [if_neg (by omega)]
    have e0 : (y 0).val = (x 0).val := by omega
    have e1 : (y 1).val % 128 = (x 1).val := by omega
    have e2 : (y 1).val / 128 - 3 = 0 := by omega
    rw [e0, e1, e2]
  · refine (r0.dq2 x).trans ?_
    show _ = ((if (y 1).val < 384 then _ else _ : ℝ) : EReal)
    rw [if_pos (by omega)]
    have e0 : (y 0).val = (x 0).val := by omega
    have e1 : (y 1).val % 128 = (x 1).val := by omega
    have e2 : (y 1).val / 128 = 2 := by omega
    rw [e0, e1, e2]
  · refine (r0.dq1 x).trans ?_
    show _ = ((if (y 1).val < 384 then _ else _ : ℝ) : EReal)
    rw [if_pos (by omega)]
    have e0 : (y 0).val = (x 0).val := by omega
    have e1 : (y 1).val % 128 = (x 1).val := by omega
    have e2 : (y 1).val / 128 = 1 := by omega
    rw [e0, e1, e2]
  · refine (r0.dq0 x).trans ?_
    show _ = ((if (y 1).val < 384 then _ else _ : ℝ) : EReal)
    rw [if_pos (by omega)]
    have e0 : (y 0).val = (x 0).val := by omega
    have e1 : (y 1).val % 128 = (x 1).val := by omega
    have e2 : (y 1).val / 128 = 0 := by omega
    rw [e0, e1, e2]

/-- The real tiles of group `h` at block `b`. -/
def RI (A : Attn.Args) (b h : ℕ) : RIn where
  q g i d := A.p (128 * b + i) (3072 + 128 * (3 * h + g) + d)
  kc i d := A.p (128 * b + i) (3840 + 128 * h + d)
  kp i d := A.p (128 * (b - 1) + i) (3840 + 128 * h + d)
  vc i d := A.p (128 * b + i) (4096 + 128 * h + d)
  vp i d := A.p (128 * (b - 1) + i) (4096 + 128 * h + d)
  c i d := A.c2 (128 * b + i) d
  s i d := A.s2 (128 * b + i) d
  cp i d := A.c2 (128 * (b - 1) + i) d
  sp i d := A.s2 (128 * (b - 1) + i) d
  z g := A.z (3 * h + g)
  D g i d := A.dc (128 * b + i) (768 + 128 * (3 * h + g) + d)
  lo := if b = 0 then 128 else 0

/-- The kernel's head and the sequence's differ only in keys the band does not admit. -/
theorem alike (A : Attn.Args) (b h : ℕ) : Attn.Alike (RI A b h).head (A.head b h) where
  q := funext fun g => funext fun i => funext fun d => rfl
  D := rfl
  z := rfl
  lo := rfl
  kv i j hm d := by
    have hm' : i < j ∧ j ≤ i + 128 ∧ (if b = 0 then 128 else 0) ≤ j := of_decide_eq_true hm
    have hj := hm'.2.2
    have hb : 128 ≤ 128 * b + j := by split at hj <;> omega
    constructor
    · show (if j < 128 then Attn.ropeR (RI A b h).kp (RI A b h).cp (RI A b h).sp j d else Attn.ropeR (RI A b h).kc (RI A b h).c (RI A b h).s (j - 128) d)
        = if 128 ≤ 128 * b + j then A.kg h (128 * b + j - 128) d else 0
      rw [if_pos hb]
      split
      · have e : 128 * (b - 1) + j = 128 * b + j - 128 := by split at hj <;> omega
        exact Attn.ropeR_congr (fun d => congrArg (fun t => A.p t _) e) (congrArg (fun t => A.c2 t d) e) (congrArg (fun t => A.s2 t d) e)
      · have e : 128 * b + (j - 128) = 128 * b + j - 128 := by omega
        exact Attn.ropeR_congr (fun d => congrArg (fun t => A.p t _) e) (congrArg (fun t => A.c2 t d) e) (congrArg (fun t => A.s2 t d) e)
    · show (if j < 128 then A.p (128 * (b - 1) + j) (4096 + 128 * h + d) else A.p (128 * b + (j - 128)) (4096 + 128 * h + d))
        = if 128 ≤ 128 * b + j then A.p (128 * b + j - 128) (4096 + 128 * h + d) else 0
      rw [if_pos hb]
      split
      · rw [show 128 * (b - 1) + j = 128 * b + j - 128 by split at hj <;> omega]
      · rw [show 128 * b + (j - 128) = 128 * b + j - 128 by omega]

/-- What a point's blocks hold, at block `b`. -/
structure Blk (A : Attn.Args) (b : ℕ) (x0 : Vec Ideal S128x768 .f32) (x1 x2 x3 x4 : Vec Ideal S128x256 .f32) (x5 x6 x7 x8 : Vec Ideal S128x128 .f32)
    (x9 : Vec Ideal S1x128 .f32) (x10 : Vec Ideal S128x768 .f32) : Prop where
  x0 : Is (n0 := 128) (n1 := 768) x0 (fun i d => A.p (128 * b + i) (3072 + d))
  x1 : Is (n0 := 128) (n1 := 256) x1 (fun i d => A.p (128 * b + i) (3840 + d))
  x2 : Is (n0 := 128) (n1 := 256) x2 (fun i d => A.p (128 * (b - 1) + i) (3840 + d))
  x3 : Is (n0 := 128) (n1 := 256) x3 (fun i d => A.p (128 * b + i) (4096 + d))
  x4 : Is (n0 := 128) (n1 := 256) x4 (fun i d => A.p (128 * (b - 1) + i) (4096 + d))
  x5 : Is (n0 := 128) (n1 := 128) x5 (fun i d => A.c2 (128 * b + i) d)
  x6 : Is (n0 := 128) (n1 := 128) x6 (fun i d => A.s2 (128 * b + i) d)
  x7 : Is (n0 := 128) (n1 := 128) x7 (fun i d => A.c2 (128 * (b - 1) + i) d)
  x8 : Is (n0 := 128) (n1 := 128) x8 (fun i d => A.s2 (128 * (b - 1) + i) d)
  x9 : Is (n0 := 1) (n1 := 128) x9 (fun _ l => A.z l)
  x10 : Is (n0 := 128) (n1 := 768) x10 (fun i d => A.dc (128 * b + i) (768 + d))

namespace Blk
variable {A : Attn.Args} {b : ℕ} {x0 : Vec Ideal S128x768 .f32} {x1 x2 x3 x4 : Vec Ideal S128x256 .f32} {x5 x6 x7 x8 : Vec Ideal S128x128 .f32}
    {x9 : Vec Ideal S1x128 .f32} {x10 : Vec Ideal S128x768 .f32} (B : Blk A b x0 x1 x2 x3 x4 x5 x6 x7 x8 x9 x10)
include B

/-- What the head reads of them. -/
theorem reads0 (i : grid0.Coords) (hl : lo i = BitVec.ofNat 32 (if b = 0 then 128 else 0)) : Reads (h0 i x0 x1 x2 x3 x4 x5 x6 x7 x8 x9 x10) (RI A b 0) where
  q0 := (B.x0.slice 0 0 slices_S128x768_o0_0_S128x128).congr fun i d _ _ => by
    show A.p (128 * b + (0 + i)) (3072 + (0 + d)) = A.p (128 * b + i) (3072 + 128 * (3 * 0 + 0) + d)
    congr 1 <;> omega
  d0 := (B.x10.slice 0 0 slices_S128x768_o0_0_S128x128).congr fun i d _ _ => by
    show A.dc (128 * b + (0 + i)) (768 + (0 + d)) = A.dc (128 * b + i) (768 + 128 * (3 * 0 + 0) + d)
    congr 1 <;> omega
  z0 := (B.x9.slice 0 0 slices_S1x128_o0_0_S1x1).congr fun i d _ hd => by
    show A.z (0 + d) = A.z (3 * 0 + 0)
    congr 1; omega
  q1 := (B.x0.slice 0 128 slices_S128x768_o0_128_S128x128).congr fun i d _ _ => by
    show A.p (128 * b + (0 + i)) (3072 + (128 + d)) = A.p (128 * b + i) (3072 + 128 * (3 * 0 + 1) + d)
    congr 1 <;> omega
  d1 := (B.x10.slice 0 128 slices_S128x768_o0_128_S128x128).congr fun i d _ _ => by
    show A.dc (128 * b + (0 + i)) (768 + (128 + d)) = A.dc (128 * b + i) (768 + 128 * (3 * 0 + 1) + d)
    congr 1 <;> omega
  z1 := (B.x9.slice 0 1 slices_S1x128_o0_1_S1x1).congr fun i d _ hd => by
    show A.z (1 + d) = A.z (3 * 0 + 1)
    congr 1; omega
  q2 := (B.x0.slice 0 256 slices_S128x768_o0_256_S128x128).congr fun i d _ _ => by
    show A.p (128 * b + (0 + i)) (3072 + (256 + d)) = A.p (128 * b + i) (3072 + 128 * (3 * 0 + 2) + d)
    congr 1 <;> omega
  d2 := (B.x10.slice 0 256 slices_S128x768_o0_256_S128x128).congr fun i d _ _ => by
    show A.dc (128 * b + (0 + i)) (768 + (256 + d)) = A.dc (128 * b + i) (768 + 128 * (3 * 0 + 2) + d)
    congr 1 <;> omega
  z2 := (B.x9.slice 0 2 slices_S1x128_o0_2_S1x1).congr fun i d _ hd => by
    show A.z (2 + d) = A.z (3 * 0 + 2)
    congr 1; omega
  kc := (B.x1.slice 0 0 slices_S128x256_o0_0_S128x128).congr fun i d _ _ => by
    show A.p (128 * b + (0 + i)) (3840 + (0 + d)) = A.p (128 * b + i) (3840 + 128 * 0 + d)
    congr 1 <;> omega
  kp := (B.x2.slice 0 0 slices_S128x256_o0_0_S128x128).congr fun i d _ _ => by
    show A.p (128 * (b - 1) + (0 + i)) (3840 + (0 + d)) = A.p (128 * (b - 1) + i) (3840 + 128 * 0 + d)
    congr 1 <;> omega
  vc := (B.x3.slice 0 0 slices_S128x256_o0_0_S128x128).congr fun i d _ _ => by
    show A.p (128 * b + (0 + i)) (4096 + (0 + d)) = A.p (128 * b + i) (4096 + 128 * 0 + d)
    congr 1 <;> omega
  vp := (B.x4.slice 0 0 slices_S128x256_o0_0_S128x128).congr fun i d _ _ => by
    show A.p (128 * (b - 1) + (0 + i)) (4096 + (0 + d)) = A.p (128 * (b - 1) + i) (4096 + 128 * 0 + d)
    congr 1 <;> omega
  c := B.x5
  s := B.x6
  cp := B.x7
  sp := B.x8
  lo := hl
  lo_le := by show (if b = 0 then 128 else 0) ≤ 128; split <;> omega

/-- What the head reads of them. -/
theorem reads1 (i : grid0.Coords) (hl : lo i = BitVec.ofNat 32 (if b = 0 then 128 else 0)) : Reads (h1 i x0 x1 x2 x3 x4 x5 x6 x7 x8 x9 x10) (RI A b 1) where
  q0 := (B.x0.slice 0 384 slices_S128x768_o0_384_S128x128).congr fun i d _ _ => by
    show A.p (128 * b + (0 + i)) (3072 + (384 + d)) = A.p (128 * b + i) (3072 + 128 * (3 * 1 + 0) + d)
    congr 1 <;> omega
  d0 := (B.x10.slice 0 384 slices_S128x768_o0_384_S128x128).congr fun i d _ _ => by
    show A.dc (128 * b + (0 + i)) (768 + (384 + d)) = A.dc (128 * b + i) (768 + 128 * (3 * 1 + 0) + d)
    congr 1 <;> omega
  z0 := (B.x9.slice 0 3 slices_S1x128_o0_3_S1x1).congr fun i d _ hd => by
    show A.z (3 + d) = A.z (3 * 1 + 0)
    congr 1; omega
  q1 := (B.x0.slice 0 512 slices_S128x768_o0_512_S128x128).congr fun i d _ _ => by
    show A.p (128 * b + (0 + i)) (3072 + (512 + d)) = A.p (128 * b + i) (3072 + 128 * (3 * 1 + 1) + d)
    congr 1 <;> omega
  d1 := (B.x10.slice 0 512 slices_S128x768_o0_512_S128x128).congr fun i d _ _ => by
    show A.dc (128 * b + (0 + i)) (768 + (512 + d)) = A.dc (128 * b + i) (768 + 128 * (3 * 1 + 1) + d)
    congr 1 <;> omega
  z1 := (B.x9.slice 0 4 slices_S1x128_o0_4_S1x1).congr fun i d _ hd => by
    show A.z (4 + d) = A.z (3 * 1 + 1)
    congr 1; omega
  q2 := (B.x0.slice 0 640 slices_S128x768_o0_640_S128x128).congr fun i d _ _ => by
    show A.p (128 * b + (0 + i)) (3072 + (640 + d)) = A.p (128 * b + i) (3072 + 128 * (3 * 1 + 2) + d)
    congr 1 <;> omega
  d2 := (B.x10.slice 0 640 slices_S128x768_o0_640_S128x128).congr fun i d _ _ => by
    show A.dc (128 * b + (0 + i)) (768 + (640 + d)) = A.dc (128 * b + i) (768 + 128 * (3 * 1 + 2) + d)
    congr 1 <;> omega
  z2 := (B.x9.slice 0 5 slices_S1x128_o0_5_S1x1).congr fun i d _ hd => by
    show A.z (5 + d) = A.z (3 * 1 + 2)
    congr 1; omega
  kc := (B.x1.slice 0 128 slices_S128x256_o0_128_S128x128).congr fun i d _ _ => by
    show A.p (128 * b + (0 + i)) (3840 + (128 + d)) = A.p (128 * b + i) (3840 + 128 * 1 + d)
    congr 1 <;> omega
  kp := (B.x2.slice 0 128 slices_S128x256_o0_128_S128x128).congr fun i d _ _ => by
    show A.p (128 * (b - 1) + (0 + i)) (3840 + (128 + d)) = A.p (128 * (b - 1) + i) (3840 + 128 * 1 + d)
    congr 1 <;> omega
  vc := (B.x3.slice 0 128 slices_S128x256_o0_128_S128x128).congr fun i d _ _ => by
    show A.p (128 * b + (0 + i)) (4096 + (128 + d)) = A.p (128 * b + i) (4096 + 128 * 1 + d)
    congr 1 <;> omega
  vp := (B.x4.slice 0 128 slices_S128x256_o0_128_S128x128).congr fun i d _ _ => by
    show A.p (128 * (b - 1) + (0 + i)) (4096 + (128 + d)) = A.p (128 * (b - 1) + i) (4096 + 128 * 1 + d)
    congr 1 <;> omega
  c := B.x5
  s := B.x6
  cp := B.x7
  sp := B.x8
  lo := hl
  lo_le := by show (if b = 0 then 128 else 0) ≤ 128; split <;> omega

end Blk

variable (m : (ℓ : Loc nD τ sig) → Buf (Elt Ideal) ℓ) (c : Dev nD) (A : Attn.Args)

/-- The kernel's arguments hold the real arguments. -/
structure Given : Prop where
  p : Is (n0 := 4096) (n1 := 4992) (arg0 m c) A.p
  dc : Is (n0 := 4096) (n1 := 2048) (arg1 m c) A.dc
  co : Is (n0 := 4096) (n1 := 64) (arg2 m c) A.co
  si : Is (n0 := 4096) (n1 := 64) (arg3 m c) A.si
  z : Is (n0 := 1) (n1 := 128) (arg4 m c) (fun _ l => A.z l)

/-- The first admitted key at a point. -/
theorem lo_at : ∀ t : Fin cfg0.N, lo (grid0.coords t) = BitVec.ofNat 32 (if 31 - t.val = 0 then 128 else 0) := by
  decide +kernel

namespace Given
variable {m c A} (G : Given m c A) (t : Fin cfg0.N)
include G

theorem x0 : Is (n0 := 128) (n1 := 768) (X0_0 m c t) (fun i d => A.p (128 * (31 - t.val) + i) (3072 + d)) := fun j => by
  have h0 : (j 0).val < 128 := (j 0).isLt
  have h1 : (j 1).val < 768 := (j 1).isLt
  have ht := lt32 t
  refine (X0_at m c t j (ValueIdx.ix2 ⟨128 * (31 - t.val) + (j 0).val, by omega⟩ ⟨3072 + (j 1).val, by omega⟩) (by show 128 * (31 - t.val) + (j 0).val = (31 - t.val) * 128 + (j 0).val; omega) rfl).trans ?_
  exact G.p _

theorem x1 : Is (n0 := 128) (n1 := 256) (X0_1 m c t) (fun i d => A.p (128 * (31 - t.val) + i) (3840 + d)) := fun j => by
  have h0 : (j 0).val < 128 := (j 0).isLt
  have h1 : (j 1).val < 256 := (j 1).isLt
  have ht := lt32 t
  refine (X1_at m c t j (ValueIdx.ix2 ⟨128 * (31 - t.val) + (j 0).val, by omega⟩ ⟨3840 + (j 1).val, by omega⟩) (by show 128 * (31 - t.val) + (j 0).val = (31 - t.val) * 128 + (j 0).val; omega) rfl).trans ?_
  exact G.p _

theorem x2 : Is (n0 := 128) (n1 := 256) (X0_2 m c t) (fun i d => A.p (128 * (31 - t.val - 1) + i) (3840 + d)) := fun j => by
  have h0 : (j 0).val < 128 := (j 0).isLt
  have h1 : (j 1).val < 256 := (j 1).isLt
  have ht := lt32 t
  refine (X2_at m c t j (ValueIdx.ix2 ⟨128 * (31 - t.val - 1) + (j 0).val, by omega⟩ ⟨3840 + (j 1).val, by omega⟩) (by show 128 * (31 - t.val - 1) + (j 0).val = (31 - t.val - 1) * 128 + (j 0).val; omega) rfl).trans ?_
  exact G.p _

theorem x3 : Is (n0 := 128) (n1 := 256) (X0_3 m c t) (fun i d => A.p (128 * (31 - t.val) + i) (4096 + d)) := fun j => by
  have h0 : (j 0).val < 128 := (j 0).isLt
  have h1 : (j 1).val < 256 := (j 1).isLt
  have ht := lt32 t
  refine (X3_at m c t j (ValueIdx.ix2 ⟨128 * (31 - t.val) + (j 0).val, by omega⟩ ⟨4096 + (j 1).val, by omega⟩) (by show 128 * (31 - t.val) + (j 0).val = (31 - t.val) * 128 + (j 0).val; omega) rfl).trans ?_
  exact G.p _

theorem x4 : Is (n0 := 128) (n1 := 256) (X0_4 m c t) (fun i d => A.p (128 * (31 - t.val - 1) + i) (4096 + d)) := fun j => by
  have h0 : (j 0).val < 128 := (j 0).isLt
  have h1 : (j 1).val < 256 := (j 1).isLt
  have ht := lt32 t
  refine (X4_at m c t j (ValueIdx.ix2 ⟨128 * (31 - t.val - 1) + (j 0).val, by omega⟩ ⟨4096 + (j 1).val, by omega⟩) (by show 128 * (31 - t.val - 1) + (j 0).val = (31 - t.val - 1) * 128 + (j 0).val; omega) rfl).trans ?_
  exact G.p _

theorem x10 : Is (n0 := 128) (n1 := 768) (X0_10 m c t) (fun i d => A.dc (128 * (31 - t.val) + i) (768 + d)) := fun j => by
  have h0 : (j 0).val < 128 := (j 0).isLt
  have h1 : (j 1).val < 768 := (j 1).isLt
  have ht := lt32 t
  refine (X10_at m c t j (ValueIdx.ix2 ⟨128 * (31 - t.val) + (j 0).val, by omega⟩ ⟨768 + (j 1).val, by omega⟩) (by show 128 * (31 - t.val) + (j 0).val = (31 - t.val) * 128 + (j 0).val; omega) rfl).trans ?_
  exact G.dc _

theorem x5 : Is (n0 := 128) (n1 := 128) (iblk m c 5 t) (fun i d => A.c2 (128 * (31 - t.val) + i) d) := fun j => by
  have h0 : (j 0).val < 128 := (j 0).isLt
  have ht := lt32 t
  refine (X5_at m c t j (ValueIdx.ix2 ⟨128 * (31 - t.val) + (j 0).val, by omega⟩ ⟨(j 1).val % 64, Nat.mod_lt _ (by decide)⟩) (by show 128 * (31 - t.val) + (j 0).val = (31 - t.val) * 128 + (j 0).val; omega) rfl).trans ?_
  exact G.co _

theorem x7 : Is (n0 := 128) (n1 := 128) (iblk m c 7 t) (fun i d => A.c2 (128 * (31 - t.val - 1) + i) d) := fun j => by
  have h0 : (j 0).val < 128 := (j 0).isLt
  have ht := lt32 t
  refine (X7_at m c t j (ValueIdx.ix2 ⟨128 * (31 - t.val - 1) + (j 0).val, by omega⟩ ⟨(j 1).val % 64, Nat.mod_lt _ (by decide)⟩) (by show 128 * (31 - t.val - 1) + (j 0).val = (31 - t.val - 1) * 128 + (j 0).val; omega) rfl).trans ?_
  exact G.co _

theorem x6 : Is (n0 := 128) (n1 := 128) (iblk m c 6 t) (fun i d => A.s2 (128 * (31 - t.val) + i) d) := fun j => by
  have h0 : (j 0).val < 128 := (j 0).isLt
  have ht := lt32 t
  refine (X6_at m c t j (ValueIdx.ix2 ⟨128 * (31 - t.val) + (j 0).val, by omega⟩ ⟨(j 1).val % 64, Nat.mod_lt _ (by decide)⟩) (by show 128 * (31 - t.val) + (j 0).val = (31 - t.val) * 128 + (j 0).val; omega) rfl).trans ?_
  show _ = ((if (j 1).val < 64 then _ else _ : ℝ) : EReal)
  split
  · show -(arg3 m c _) = _
    rw [G.si, EReal.coe_neg]
  · exact G.si _

theorem x8 : Is (n0 := 128) (n1 := 128) (iblk m c 8 t) (fun i d => A.s2 (128 * (31 - t.val - 1) + i) d) := fun j => by
  have h0 : (j 0).val < 128 := (j 0).isLt
  have ht := lt32 t
  refine (X8_at m c t j (ValueIdx.ix2 ⟨128 * (31 - t.val - 1) + (j 0).val, by omega⟩ ⟨(j 1).val % 64, Nat.mod_lt _ (by decide)⟩) (by show 128 * (31 - t.val - 1) + (j 0).val = (31 - t.val - 1) * 128 + (j 0).val; omega) rfl).trans ?_
  show _ = ((if (j 1).val < 64 then _ else _ : ℝ) : EReal)
  split
  · show -(arg3 m c _) = _
    rw [G.si, EReal.coe_neg]
  · exact G.si _

theorem x9 : Is (n0 := 1) (n1 := 128) (iblk m c 9 t) (fun _ l => A.z l) := fun j => by
  rw [X9_at]
  exact G.z j

/-- A point's blocks. -/
theorem blk : Blk A (31 - t.val) (X0_0 m c t) (X0_1 m c t) (X0_2 m c t) (X0_3 m c t) (X0_4 m c t) (iblk m c 5 t) (iblk m c 6 t) (iblk m c 7 t) (iblk m c 8 t) (iblk m c 9 t) (X0_10 m c t) :=
  ⟨G.x0 t, G.x1 t, G.x2 t, G.x3 t, G.x4 t, G.x5 t, G.x6 t, G.x7 t, G.x8 t, G.x9 t, G.x10 t⟩

/-- What the first head reads at a point. -/
theorem reads0 : Reads (hA m c t) (RI A (31 - t.val) 0) := (G.blk t).reads0 _ (lo_at t)

/-- What the second head reads at a point. -/
theorem reads1 : Reads (hB m c t) (RI A (31 - t.val) 1) := (G.blk t).reads1 _ (lo_at t)

end Given

end Cert.KernelIdeal.Attn

end
-- ==== Proof.Attn.KOut.lean ====
/- The kernel's four result arrays on real arguments, read at an index. -/
module

public import proofs.«01_k».proof.Proof.Attn.KReal

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- A block's keys' gradient with what the block after carries to it. -/
theorem dk_val (A : Attn.Args) (b h i d : ℕ) (hi : i < 128) :
    Attn.ropeTR (fun a d => (RI A b h).head.dk (128 + a) d) (RI A b h).c (RI A b h).s i d
      + (if b + 1 < 32 then Attn.ropeTR (RI A (b + 1) h).head.dk (RI A (b + 1) h).cp (RI A (b + 1) h).sp i d else 0)
      = Attn.ropeTR (A.dkr h) A.c2 A.s2 (128 * b + i) d := by
  have e1 : (128 * b + i) / 128 = b := by omega
  have e2 : (128 * b + i) % 128 = i := by omega
  unfold Attn.ropeTR Attn.Args.dkr
  rw [e1, e2]
  simp only [(alike A b h).dk, (alike A (b + 1) h).dk]
  show (_ * A.c2 (128 * b + i) d + _ * A.s2 (128 * b + i) _) + (if b + 1 < 32 then _ * A.c2 (128 * (b + 1 - 1) + i) d + _ * A.s2 (128 * (b + 1 - 1) + i) _ else 0) = _
  rw [Nat.add_sub_cancel]
  split <;> ring

/-- A block's values' gradient, likewise. -/
theorem dv_val (A : Attn.Args) (b h i d : ℕ) (hi : i < 128) :
    (RI A b h).head.dv (128 + i) d + (if b + 1 < 32 then (RI A (b + 1) h).head.dv i d else 0) = A.dvr h (128 * b + i) d := by
  have e1 : (128 * b + i) / 128 = b := by omega
  have e2 : (128 * b + i) % 128 = i := by omega
  unfold Attn.Args.dvr
  rw [e1, e2, (alike A b h).dv, (alike A (b + 1) h).dv]

/-- A block's queries' gradient. -/
theorem dq_val (A : Attn.Args) (b h g i d : ℕ) (hi : i < 128) :
    Attn.ropeTR ((RI A b h).head.dq g) (RI A b h).c (RI A b h).s i d = Attn.ropeTR (A.dqr h g) A.c2 A.s2 (128 * b + i) d := by
  have e1 : (128 * b + i) / 128 = b := by omega
  have e2 : (128 * b + i) % 128 = i := by omega
  unfold Attn.ropeTR Attn.Args.dqr
  rw [e1, e2, (alike A b h).dq, (alike A b h).dq]
  rfl

/-- A block's part of the sinks' gradient. -/
def DZb (A : Attn.Args) (b d : ℕ) : ℝ := if d < 6 then ∑ i : Fin 128, (A.head b (d / 3)).dz (d % 3) i.val else 0

variable {m : (ℓ : Loc nD τ sig) → Buf (Elt Ideal) ℓ} {c : Dev nD} {A : Attn.Args}

/-- A point's first result does not depend on the points before. -/
theorem out_dq (m : (ℓ : Loc nD τ sig) → Buf (Elt Ideal) ℓ) (c : Dev nD) (t : Fin cfg0.N) : (out m c t).1 = dqV (hA m c t) (hB m c t) := by
  unfold out
  by_cases h : t.val % 32 = 0
  · rw [outsAt0_A m c t h]
  · rw [outsAt0_B m c t h]

/-- What a point carries on of the keys' gradient. -/
theorem out_ck (m : (ℓ : Loc nD τ sig) → Buf (Elt Ideal) ℓ) (c : Dev nD) (t : Fin cfg0.N) : (outsAt0 m c t.val t.isLt).2.2.2.2.1 = ckV (hA m c t) (hB m c t) := by
  by_cases h : t.val % 32 = 0
  · rw [outsAt0_A m c t h]
  · rw [outsAt0_B m c t h]

/-- What a point carries on of the values' gradient. -/
theorem out_cv (m : (ℓ : Loc nD τ sig) → Buf (Elt Ideal) ℓ) (c : Dev nD) (t : Fin cfg0.N) : (outsAt0 m c t.val t.isLt).2.2.2.2.2 = cvV (hA m c t) (hB m c t) := by
  by_cases h : t.val % 32 = 0
  · rw [outsAt0_A m c t h]
  · rw [outsAt0_B m c t h]

namespace Given
variable (G : Given m c A) (t : Fin cfg0.N)
include G

theorem dq : Is (n0 := 128) (n1 := 768) (out m c t).1 (fun i d => A.DQ (128 * (31 - t.val) + i) d) := by
  rw [out_dq]
  refine (Is.dqV (G.reads0 t) (G.reads1 t)).congr (g := fun i d => A.DQ (128 * (31 - t.val) + i) d) fun i d hi hd => ?_
  unfold Attn.Args.DQ
  by_cases h : d < 384
  · rw [if_pos h, dq_val _ _ _ _ _ _ hi, show d / 384 = 0 by omega, show d / 128 % 3 = d / 128 by omega]
  · rw [if_neg h, dq_val _ _ _ _ _ _ hi, show d / 384 = 1 by omega, show d / 128 % 3 = d / 128 - 3 by omega]

theorem ck : Is (n0 := 128) (n1 := 256) (outsAt0 m c t.val t.isLt).2.2.2.2.1 (fun i d =>
    Attn.ropeTR (RI A (31 - t.val) (d / 128)).head.dk (RI A (31 - t.val) (d / 128)).cp (RI A (31 - t.val) (d / 128)).sp i (d % 128)) := by
  rw [out_ck]
  refine (Is.pair32 (G.reads0 t).cko (G.reads1 t).cko).congr (g := fun i d =>
    Attn.ropeTR (RI A (31 - t.val) (d / 128)).head.dk (RI A (31 - t.val) (d / 128)).cp (RI A (31 - t.val) (d / 128)).sp i (d % 128)) fun i d hi hd => ?_
  by_cases h : d < 128
  · rw [if_pos h, show d / 128 = 0 by omega, show d % 128 = d by omega]
  · rw [if_neg h, show d / 128 = 1 by omega, show d % 128 = d - 128 by omega]

theorem cv : Is (n0 := 128) (n1 := 256) (outsAt0 m c t.val t.isLt).2.2.2.2.2 (fun i d => (RI A (31 - t.val) (d / 128)).head.dv i (d % 128)) := by
  rw [out_cv]
  refine (Is.pair32 (G.reads0 t).cvo (G.reads1 t).cvo).congr (g := fun i d => (RI A (31 - t.val) (d / 128)).head.dv i (d % 128)) fun i d hi hd => ?_
  by_cases h : d < 128
  · rw [if_pos h, show d / 128 = 0 by omega, show d % 128 = d by omega]
  · rw [if_neg h, show d / 128 = 1 by omega, show d % 128 = d - 128 by omega]

/-- The keys' gradient at a point over a carried part. -/
theorem dk_over {xs : Vec Ideal S128x256 .f32}
    (hx : Is (n0 := 128) (n1 := 256) xs (fun i d => if 31 - t.val + 1 < 32 then Attn.ropeTR (RI A (31 - t.val + 1) (d / 128)).head.dk (RI A (31 - t.val + 1) (d / 128)).cp (RI A (31 - t.val + 1) (d / 128)).sp i (d % 128) else 0)) :
    Is (n0 := 128) (n1 := 256) (dkV (hA m c t) (hB m c t) xs) (fun i d => A.DK (128 * (31 - t.val) + i) d) := by
  refine (Is.pair16 ((G.reads0 t).dko hx.lt) ((G.reads1 t).dko hx.rt)).congr (g := fun i d => A.DK (128 * (31 - t.val) + i) d) fun i d hi hd => ?_
  unfold Attn.Args.DK
  by_cases h : d < 128
  · rw [if_pos h, show d / 128 = 0 by omega, show d % 128 = d by omega]
    exact dk_val A _ _ _ _ hi
  · rw [if_neg h, show 128 + (d - 128) = d by omega, show d / 128 = 1 by omega, show d % 128 = d - 128 by omega]
    exact dk_val A _ _ _ _ hi

/-- The values' gradient at a point over a carried part. -/
theorem dv_over {xs : Vec Ideal S128x256 .f32}
    (hx : Is (n0 := 128) (n1 := 256) xs (fun i d => if 31 - t.val + 1 < 32 then (RI A (31 - t.val + 1) (d / 128)).head.dv i (d % 128) else 0)) :
    Is (n0 := 128) (n1 := 256) (dvV (hA m c t) (hB m c t) xs) (fun i d => A.DV (128 * (31 - t.val) + i) d) := by
  refine (Is.pair16 ((G.reads0 t).dvo hx.lt) ((G.reads1 t).dvo hx.rt)).congr (g := fun i d => A.DV (128 * (31 - t.val) + i) d) fun i d hi hd => ?_
  unfold Attn.Args.DV
  by_cases h : d < 128
  · rw [if_pos h, show d / 128 = 0 by omega, show d % 128 = d by omega]
    exact dv_val A _ _ _ _ hi
  · rw [if_neg h, show 128 + (d - 128) = d by omega, show d / 128 = 1 by omega, show d % 128 = d - 128 by omega]
    exact dv_val A _ _ _ _ hi

/-- The sinks' gradients at a point over what they were. -/
theorem dz_over {xo : Vec Ideal S1x128 .f32} {g : ℕ → ℕ → ℝ} (hx : Is (n0 := 1) (n1 := 128) xo g) :
    Is (n0 := 1) (n1 := 128) (dzV (hA m c t) (hB m c t) xo) (fun a d => g a d + DZb A (31 - t.val) d) := by
  refine (Is.dzV (G.reads0 t) (G.reads1 t) hx).congr (g := fun a d => g a d + DZb A (31 - t.val) d) fun a d _ _ => ?_
  unfold DZb
  congr 1
  by_cases h3 : d < 3
  · rw [if_pos h3, if_pos (show d < 6 by omega), show d / 3 = 0 by omega, show d % 3 = d by omega]
    simp only [(alike A _ 0).dz]
  · by_cases h6 : d < 6
    · rw [if_neg h3, if_pos h6, if_pos h6, show d / 3 = 1 by omega, show d % 3 = d - 3 by omega]
      simp only [(alike A _ 1).dz]
    · rw [if_neg h3, if_neg h6, if_neg h6]

theorem dk : Is (n0 := 128) (n1 := 256) (out m c t).2.1 (fun i d => A.DK (128 * (31 - t.val) + i) d) := by
  have ht := lt32 t
  unfold out
  by_cases h : t.val % 32 = 0
  · rw [outsAt0_A m c t h]
    refine G.dk_over t fun i => ?_
    show (Scalar.ofBits .f32 0x00000000#32 : Ideal .f32) = ((if 31 - t.val + 1 < 32 then _ else 0 : ℝ) : EReal)
    rw [if_neg (by omega), zero_word]
  · rw [outsAt0_B m c t h]
    refine G.dk_over t fun i => ?_
    refine (G.ck ⟨t.val - 1, Nat.lt_of_le_of_lt (Nat.sub_le _ _) t.isLt⟩ i).trans ?_
    show _ = ((if 31 - t.val + 1 < 32 then _ else 0 : ℝ) : EReal)
    rw [if_pos (by omega)]
    show ((Attn.ropeTR (RI A (31 - (t.val - 1)) _).head.dk (RI A (31 - (t.val - 1)) _).cp (RI A (31 - (t.val - 1)) _).sp _ _ : ℝ) : EReal) = _
    rw [show 31 - (t.val - 1) = 31 - t.val + 1 by omega]

theorem dv : Is (n0 := 128) (n1 := 256) (out m c t).2.2.1 (fun i d => A.DV (128 * (31 - t.val) + i) d) := by
  have ht := lt32 t
  unfold out
  by_cases h : t.val % 32 = 0
  · rw [outsAt0_A m c t h]
    refine G.dv_over t fun i => ?_
    show (Scalar.ofBits .f32 0x00000000#32 : Ideal .f32) = ((if 31 - t.val + 1 < 32 then _ else 0 : ℝ) : EReal)
    rw [if_neg (by omega), zero_word]
  · rw [outsAt0_B m c t h]
    refine G.dv_over t fun i => ?_
    refine (G.cv ⟨t.val - 1, Nat.lt_of_le_of_lt (Nat.sub_le _ _) t.isLt⟩ i).trans ?_
    show _ = ((if 31 - t.val + 1 < 32 then _ else 0 : ℝ) : EReal)
    rw [if_pos (by omega)]
    show (((RI A (31 - (t.val - 1)) _).head.dv _ _ : ℝ) : EReal) = _
    rw [show 31 - (t.val - 1) = 31 - t.val + 1 by omega]

theorem dz (n : ℕ) (hn : n < cfg0.N) : Is (n0 := 1) (n1 := 128) (outsAt0 m c n hn).2.2.2.1 (fun _ d => ∑ k ∈ Finset.range (n + 1), DZb A (31 - k) d) := by
  induction n with
  | zero =>
    rw [outsAt0_A m c ⟨0, hn⟩ rfl]
    refine (G.dz_over ⟨0, hn⟩ (show Is (n0 := 1) (n1 := 128) (k0_pay4 (F := Ideal)) (fun _ _ => 0) from fun _ => zero_word)).congr fun a d _ _ => ?_
    rw [Finset.sum_range_one, zero_add]
  | succ n ih =>
    have h32 := lt32 ⟨n + 1, hn⟩
    rw [outsAt0_B m c ⟨n + 1, hn⟩ (by show ¬ (n + 1) % 32 = 0; simp at h32; omega)]
    refine (G.dz_over ⟨n + 1, hn⟩ (ih (Nat.lt_of_succ_lt hn))).congr fun a d _ _ => ?_
    rw [Finset.sum_range_succ _ (n + 1)]

theorem res11 : Is (n0 := 4096) (n1 := 768) ((dats m 0 c).arrAt 11 cfg0.N : S4096x768.Idx → Elt Ideal .bf16) A.DQ := fun i => by
  rw [arr11]
  refine (G.dq (pt (i 0).val) _).trans ?_
  have h0 : (i 0).val < 4096 := (i 0).isLt
  exact congrArg (fun t => ((A.DQ t (i 1).val : ℝ) : EReal)) (show 128 * (31 - (31 - (i 0).val / 128)) + (i 0).val % 128 = (i 0).val by omega)

theorem res12 : Is (n0 := 4096) (n1 := 256) ((dats m 0 c).arrAt 12 cfg0.N : S4096x256.Idx → Elt Ideal .bf16) A.DK := fun i => by
  rw [arr12]
  refine (G.dk (pt (i 0).val) _).trans ?_
  have h0 : (i 0).val < 4096 := (i 0).isLt
  exact congrArg (fun t => ((A.DK t (i 1).val : ℝ) : EReal)) (show 128 * (31 - (31 - (i 0).val / 128)) + (i 0).val % 128 = (i 0).val by omega)

theorem res13 : Is (n0 := 4096) (n1 := 256) ((dats m 0 c).arrAt 13 cfg0.N : S4096x256.Idx → Elt Ideal .bf16) A.DV := fun i => by
  rw [arr13]
  refine (G.dv (pt (i 0).val) _).trans ?_
  have h0 : (i 0).val < 4096 := (i 0).isLt
  exact congrArg (fun t => ((A.DV t (i 1).val : ℝ) : EReal)) (show 128 * (31 - (31 - (i 0).val / 128)) + (i 0).val % 128 = (i 0).val by omega)

theorem res14 : Is (n0 := 1) (n1 := 128) ((dats m 0 c).arrAt 14 cfg0.N : S1x128.Idx → Elt Ideal .f32) (fun _ l => A.DZ l) := fun i => by
  rw [arr14]
  refine (G.dz 31 _ i).trans ?_
  congr 1
  show ∑ k ∈ Finset.range 32, DZb A (31 - k) (i 1).val = A.DZ (i 1).val
  rw [Finset.sum_range_reflect (fun b => DZb A b (i 1).val) 32, Finset.sum_range]
  unfold DZb Attn.Args.DZ
  split
  · rfl
  · exact Finset.sum_const_zero

end Given

end Cert.KernelIdeal.Attn

end
-- ==== Proof.Attn.Run.lean ====
/- The kernel's run with its four results named. -/
module

public import proofs.«01_k».proof.Proof.Attn.KOut

@[expose] public section

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- Every run ends with the four results at the pipeline's final arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v3_0) = (dats m 0 c).arrAt 11 cfg0.N
      ∧ r.2.mem ((c.tc : Thread nD τ).loc main_v3_1) = (dats m 0 c).arrAt 12 cfg0.N
      ∧ r.2.mem ((c.tc : Thread nD τ).loc main_v3_2) = (dats m 0 c).arrAt 13 cfg0.N
      ∧ r.2.mem ((c.tc : Thread nD τ).loc main_v3_3) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h c).1 11, (h c).1 12, (h c).1 13, (h c).1 14,
      ((h c).1 4).trans (((dats m 0 c).arrAt_in 4 rfl _).trans ((A_eq m c 4).trans (V_main_arg0 m c))),
      ((h c).1 10).trans (((dats m 0 c).arrAt_in 10 rfl _).trans ((A_eq m c 10).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 9).trans (((dats m 0 c).arrAt_in 9 rfl _).trans ((A_eq m c 9).trans (V_main_arg4 m c)))⟩)
    (run_main m ρ)

end Cert.KernelIdeal.Attn

end
-- ==== Proof.Attn.RefA.lean ====
/- The reference's rotated queries and keys, its blocks of keys and values and its scaled scores, as real numbers. -/
module

public import proofs.«01_k».proof.Proof.Gen.ReferenceIdeal.Read
public import proofs.«01_k».proof.Proof.Attn.Global
public import Idealize.ShloMosaic.PureOps.Ideal.Laws
public import Idealize.ShloMosaic.Lib.KernelVsHost
public import Idealize.ShloMosaic.Lib.ValueIdx

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- Two halves of a head, joined. -/
theorem cat64 {n0 n1 : ℕ} {x y : (⟨3, ![n0, n1, 64]⟩ : Shape).Idx → EReal} {f g : ℕ → ℕ → ℕ → ℝ}
    (h : Shape.Concatenates [⟨3, ![n0, n1, 64]⟩, ⟨3, ![n0, n1, 64]⟩] ⟨3, ![n0, n1, 128]⟩ 2)
    (hx : ∀ i, x i = ((f (i 0).val (i 1).val (i 2).val : ℝ) : EReal)) (hy : ∀ i, y i = ((g (i 0).val (i 1).val (i 2).val : ℝ) : EReal)) (i : (⟨3, ![n0, n1, 128]⟩ : Shape).Idx) :
    concatenate (⟨3, ![n0, n1, 128]⟩ : Shape) 2 [⟨⟨3, ![n0, n1, 64]⟩, x⟩, ⟨⟨3, ![n0, n1, 64]⟩, y⟩] h i
      = ((if (i 2).val < 64 then f (i 0).val (i 1).val (i 2).val else g (i 0).val (i 1).val ((i 2).val - 64) : ℝ) : EReal) := by
  have hi : (i 2).val < 128 := (i 2).isLt
  by_cases hl : (i 2).val < 64
  · rw [concatenate_apply_piece 2 _ _ i 0 (by show 0 < 2; omega) ⟨3, ![n0, n1, 64]⟩ x rfl rfl 0 rfl (ValueIdx.ix3 ⟨(i 0).val, (i 0).isLt⟩ ⟨(i 1).val, (i 1).isLt⟩ ⟨(i 2).val, hl⟩)
      (fun b hb => match b, hb with | ⟨2, _⟩, hb => absurd rfl hb | ⟨1, _⟩, _ => rfl | ⟨0, _⟩, _ => rfl) (Nat.zero_add _), hx, if_pos hl]
    rfl
  · rw [concatenate_apply_piece 2 _ _ i 1 (by show 1 < 2; omega) ⟨3, ![n0, n1, 64]⟩ y rfl rfl 64 (by simp only [List.map, List.take, List.sum_cons, List.sum_nil]; rfl) (ValueIdx.ix3 ⟨(i 0).val, (i 0).isLt⟩ ⟨(i 1).val, (i 1).isLt⟩ ⟨(i 2).val - 64, by omega⟩)
      (fun b hb => match b, hb with | ⟨2, _⟩, hb => absurd rfl hb | ⟨1, _⟩, _ => rfl | ⟨0, _⟩, _ => rfl) (by show 64 + ((i 2).val - 64) = (i 2).val; omega), hy, if_neg hl]
    rfl

/-- A block of zeros before the rows. -/
theorem catZero {x : S128x2x128.Idx → EReal} {y : S4096x2x128.Idx → EReal} {g : ℕ → ℕ → ℕ → ℝ}
    (h : Shape.Concatenates [S128x2x128, S4096x2x128] S4224x2x128 0)
    (hx : ∀ i, x i = 0) (hy : ∀ i, y i = ((g (i 0).val (i 1).val (i 2).val : ℝ) : EReal)) (i : S4224x2x128.Idx) :
    concatenate S4224x2x128 0 [⟨S128x2x128, x⟩, ⟨S4096x2x128, y⟩] h i
      = ((if 128 ≤ (i 0).val then g ((i 0).val - 128) (i 1).val (i 2).val else 0 : ℝ) : EReal) := by
  have hi : (i 0).val < 4224 := (i 0).isLt
  by_cases hl : (i 0).val < 128
  · rw [concatenate_apply_piece 0 _ _ i 0 (by show 0 < 2; omega) S128x2x128 x rfl rfl 0 rfl (ValueIdx.ix3 ⟨(i 0).val, hl⟩ ⟨(i 1).val, (i 1).isLt⟩ ⟨(i 2).val, (i 2).isLt⟩)
      (fun b hb => match b, hb with | ⟨0, _⟩, hb => absurd rfl hb | ⟨1, _⟩, _ => rfl | ⟨2, _⟩, _ => rfl) (Nat.zero_add _), hx, if_neg (by omega)]
    rfl
  · rw [concatenate_apply_piece 0 _ _ i 1 (by show 1 < 2; omega) S4096x2x128 y rfl rfl 128 rfl (ValueIdx.ix3 ⟨(i 0).val - 128, by omega⟩ ⟨(i 1).val, (i 1).isLt⟩ ⟨(i 2).val, (i 2).isLt⟩)
      (fun b hb => match b, hb with | ⟨0, _⟩, hb => absurd rfl hb | ⟨1, _⟩, _ => rfl | ⟨2, _⟩, _ => rfl) (by show 128 + ((i 0).val - 128) = (i 0).val; omega), hy, if_pos (by omega)]

/-- The keys of the block before and of the block itself. -/
theorem catBlk {x y : S32x128x2x128.Idx → EReal} {f : ℕ → ℕ → ℕ → ℕ → ℝ}
    (h : Shape.Concatenates [S32x128x2x128, S32x128x2x128] S32x256x2x128 1)
    (hx : ∀ i, x i = ((f (i 0).val (i 1).val (i 2).val (i 3).val : ℝ) : EReal)) (hy : ∀ i, y i = ((f (i 0).val (128 + (i 1).val) (i 2).val (i 3).val : ℝ) : EReal)) (i : S32x256x2x128.Idx) :
    concatenate S32x256x2x128 1 [⟨S32x128x2x128, x⟩, ⟨S32x128x2x128, y⟩] h i = ((f (i 0).val (i 1).val (i 2).val (i 3).val : ℝ) : EReal) := by
  have hi : (i 1).val < 256 := (i 1).isLt
  by_cases hl : (i 1).val < 128
  · rw [concatenate_apply_piece 1 _ _ i 0 (by show 0 < 2; omega) S32x128x2x128 x rfl rfl 0 rfl (ValueIdx.ix4 ⟨(i 0).val, (i 0).isLt⟩ ⟨(i 1).val, hl⟩ ⟨(i 2).val, (i 2).isLt⟩ ⟨(i 3).val, (i 3).isLt⟩)
      (fun b hb => match b, hb with | ⟨1, _⟩, hb => absurd rfl hb | ⟨0, _⟩, _ => rfl | ⟨2, _⟩, _ => rfl | ⟨3, _⟩, _ => rfl) (Nat.zero_add _), hx]
  · rw [concatenate_apply_piece 1 _ _ i 1 (by show 1 < 2; omega) S32x128x2x128 y rfl rfl 128 rfl (ValueIdx.ix4 ⟨(i 0).val, (i 0).isLt⟩ ⟨(i 1).val - 128, by omega⟩ ⟨(i 2).val, (i 2).isLt⟩ ⟨(i 3).val, (i 3).isLt⟩)
      (fun b hb => match b, hb with | ⟨1, _⟩, hb => absurd rfl hb | ⟨0, _⟩, _ => rfl | ⟨2, _⟩, _ => rfl | ⟨3, _⟩, _ => rfl) (by show 128 + ((i 1).val - 128) = (i 1).val; omega), hy]
    show ((f (i 0).val (128 + ((i 1).val - 128)) (i 2).val (i 3).val : ℝ) : EReal) = _
    rw [show 128 + ((i 1).val - 128) = (i 1).val by omega]

/-- The arguments are real numbers. -/
structure Given (A : Attn.Args) (x0 : S4096x4992.Idx → EReal) (x1 : S4096x2048.Idx → EReal) (x2 x3 : S4096x64.Idx → EReal) (x4 : S1x128.Idx → EReal) : Prop where
  p : ∀ i, x0 i = ((A.p (i 0).val (i 1).val : ℝ) : EReal)
  dc : ∀ i, x1 i = ((A.dc (i 0).val (i 1).val : ℝ) : EReal)
  co : ∀ i, x2 i = ((A.co (i 0).val (i 1).val : ℝ) : EReal)
  si : ∀ i, x3 i = ((A.si (i 0).val (i 1).val : ℝ) : EReal)
  z : ∀ i, x4 i = ((A.z (i 1).val : ℝ) : EReal)

/-- Equal coordinates, equal values. -/
theorem at2 {f : ℕ → ℕ → ℝ} {a a' b b' : ℕ} (ha : a = a') (hb : b = b') : ((f a b : ℝ) : EReal) = ((f a' b' : ℝ) : EReal) := by rw [ha, hb]
theorem at3 {f : ℕ → ℕ → ℕ → ℝ} {a a' b b' c c' : ℕ} (ha : a = a') (hb : b = b') (hc : c = c') : ((f a b c : ℝ) : EReal) = ((f a' b' c' : ℝ) : EReal) := by rw [ha, hb, hc]
theorem at4 {f : ℕ → ℕ → ℕ → ℕ → ℝ} {a a' b b' c c' d d' : ℕ} (ha : a = a') (hb : b = b') (hc : c = c') (hd : d = d') : ((f a b c d : ℝ) : EReal) = ((f a' b' c' d' : ℝ) : EReal) := by rw [ha, hb, hc, hd]

theorem zero_bits : Ideal.ofBits .f32 0x00000000#32 = 0 := Ideal.ofBits_zero_f32

theorem sc_bits : Ideal.ofBits .f32 0x3DB504F3#32 = ((Attn.SC : ℝ) : EReal) := by
  unfold Attn.SC
  simp [Ideal.ofBits, Ideal.ieee, -EReal.coe_mul]
  norm_num

namespace Given
variable {A : Attn.Args} {x0 : (⟨S4096x4992, .f32⟩ : BufTy).Contents (Elt Ideal)} {x1 : (⟨S4096x2048, .f32⟩ : BufTy).Contents (Elt Ideal)}
  {x2 x3 : (⟨S4096x64, .f32⟩ : BufTy).Contents (Elt Ideal)} {x4 : (⟨S1x128, .f32⟩ : BufTy).Contents (Elt Ideal)} (G : Given A x0 x1 x2 x3 x4)
include G

/-- The queries before the rotation. -/
theorem v7 (i) : val_main_v7 (F := Ideal) x0 i = ((A.p (i 0).val (3072 + 128 * (i 1).val + (i 2).val) : ℝ) : EReal) := by
  have h1 : (i 1).val < 6 := (i 1).isLt
  have h2 : (i 2).val < 128 := (i 2).isLt
  rw [val_main_v7_apply, val_main_v0_apply, G.p]
  exact at2 (by show (((i 0).val * 6 + (i 1).val) * 128 + (i 2).val) / 768 = _; omega) (by show 3072 + (((i 0).val * 6 + (i 1).val) * 128 + (i 2).val) % 768 = _; omega)

/-- The keys before the rotation. -/
theorem v21 (i) : val_main_v21 (F := Ideal) x0 i = ((A.p (i 0).val (3840 + 128 * (i 1).val + (i 2).val) : ℝ) : EReal) := by
  have h1 : (i 1).val < 2 := (i 1).isLt
  have h2 : (i 2).val < 128 := (i 2).isLt
  rw [val_main_v21_apply, val_main_v1_apply, G.p]
  exact at2 (by show (((i 0).val * 2 + (i 1).val) * 128 + (i 2).val) / 256 = _; omega) (by show 3840 + (((i 0).val * 2 + (i 1).val) * 128 + (i 2).val) % 256 = _; omega)

/-- The values. -/
theorem v35 (i) : val_main_v35 (F := Ideal) x0 i = ((A.vg (i 1).val (i 0).val (i 2).val : ℝ) : EReal) := by
  have h1 : (i 1).val < 2 := (i 1).isLt
  have h2 : (i 2).val < 128 := (i 2).isLt
  rw [val_main_v35_apply, val_main_v2_apply, G.p]
  exact at2 (by show (((i 0).val * 2 + (i 1).val) * 128 + (i 2).val) / 256 = _; omega) (by show 4096 + (((i 0).val * 2 + (i 1).val) * 128 + (i 2).val) % 256 = _; omega)

/-- The cosines and the sines. -/
theorem v5 (i) : val_main_v5 (F := Ideal) x2 i = ((A.co (i 0).val (i 2).val : ℝ) : EReal) := by
  rw [val_main_v5_apply, G.co]

theorem v6 (i) : val_main_v6 (F := Ideal) x3 i = ((A.si (i 0).val (i 2).val : ℝ) : EReal) := by
  rw [val_main_v6_apply, G.si]

/-- The rotated queries. -/
theorem v20 (i) : val_main_v20 (F := Ideal) x0 x2 x3 i = ((A.qg ((i 1).val / 3) ((i 1).val % 3) (i 0).val (i 2).val : ℝ) : EReal) := by
  have h1 : (i 1).val < 6 := (i 1).isLt
  have h2 : (i 2).val < 128 := (i 2).isLt
  unfold val_main_v20
  rw [cat64 (f := fun t h d => A.p t (3072 + 128 * h + d) * A.co t d - A.p t (3072 + 128 * h + (64 + d)) * A.si t d)
    (g := fun t h d => A.p t (3072 + 128 * h + (64 + d)) * A.co t d + A.p t (3072 + 128 * h + d) * A.si t d)]
  · unfold Attn.Args.qg Attn.ropeR Attn.Args.c2 Attn.Args.s2
    rw [show 3 * ((i 1).val / 3) + (i 1).val % 3 = (i 1).val by omega]
    split
    · rename_i hl
      rw [show (i 2).val % 64 = (i 2).val by omega, show ((i 2).val + 64) % 128 = 64 + (i 2).val by omega]
      congr 1; ring
    · rename_i hl
      rw [show (i 2).val % 64 = (i 2).val - 64 by omega, show ((i 2).val + 64) % 128 = (i 2).val - 64 by omega, show 64 + ((i 2).val - 64) = (i 2).val by omega]
  · intro i
    rw [val_main_v14_apply, val_main_v11_apply, val_main_v13_apply, val_main_v8_apply, val_main_v9_apply, val_main_v10_apply, val_main_v12_apply, G.v7, G.v7, G.v5, G.v6]
    rw [Ideal.subf_def, Ideal.mulf_def, Ideal.mulf_def, EReal.coe_sub, EReal.coe_mul, EReal.coe_mul]
  · intro i
    rw [val_main_v19_apply, val_main_v16_apply, val_main_v18_apply, val_main_v8_apply, val_main_v9_apply, val_main_v15_apply, val_main_v17_apply, G.v7, G.v7, G.v5, G.v6]
    rw [Ideal.addf_def, Ideal.mulf_def, Ideal.mulf_def, EReal.coe_add, EReal.coe_mul, EReal.coe_mul]

/-- The rotated keys. -/
theorem v34 (i) : val_main_v34 (F := Ideal) x0 x2 x3 i = ((A.kg (i 1).val (i 0).val (i 2).val : ℝ) : EReal) := by
  have h1 : (i 1).val < 2 := (i 1).isLt
  have h2 : (i 2).val < 128 := (i 2).isLt
  unfold val_main_v34
  rw [cat64 (f := fun t h d => A.p t (3840 + 128 * h + d) * A.co t d - A.p t (3840 + 128 * h + (64 + d)) * A.si t d)
    (g := fun t h d => A.p t (3840 + 128 * h + (64 + d)) * A.co t d + A.p t (3840 + 128 * h + d) * A.si t d)]
  · unfold Attn.Args.kg Attn.ropeR Attn.Args.c2 Attn.Args.s2
    split
    · rename_i hl
      rw [show (i 2).val % 64 = (i 2).val by omega, show ((i 2).val + 64) % 128 = 64 + (i 2).val by omega]
      congr 1; ring
    · rename_i hl
      rw [show (i 2).val % 64 = (i 2).val - 64 by omega, show ((i 2).val + 64) % 128 = (i 2).val - 64 by omega, show 64 + ((i 2).val - 64) = (i 2).val by omega]
  · intro i
    rw [val_main_v28_apply, val_main_v25_apply, val_main_v27_apply, val_main_v22_apply, val_main_v23_apply, val_main_v24_apply, val_main_v26_apply, G.v21, G.v21, G.v5, G.v6]
    rw [Ideal.subf_def, Ideal.mulf_def, Ideal.mulf_def, EReal.coe_sub, EReal.coe_mul, EReal.coe_mul]
  · intro i
    rw [val_main_v33_apply, val_main_v30_apply, val_main_v32_apply, val_main_v22_apply, val_main_v23_apply, val_main_v29_apply, val_main_v31_apply, G.v21, G.v21, G.v5, G.v6]
    rw [Ideal.addf_def, Ideal.mulf_def, Ideal.mulf_def, EReal.coe_add, EReal.coe_mul, EReal.coe_mul]

/-- The rotated queries, block by block. -/
theorem v36 (i) : val_main_v36 (F := Ideal) x0 x2 x3 i = (((A.head (i 0).val (i 2).val).q (i 3).val (i 1).val (i 4).val : ℝ) : EReal) := by
  have h1 : (i 1).val < 128 := (i 1).isLt
  have h2 : (i 2).val < 2 := (i 2).isLt
  have h3 : (i 3).val < 3 := (i 3).isLt
  have h4 : (i 4).val < 128 := (i 4).isLt
  rw [val_main_v36_apply, G.v20]
  have e : (((((i 0).val * 128 + (i 1).val) * 2 + (i 2).val) * 3 + (i 3).val) * 128 + (i 4).val) / 128 % 6 = 3 * (i 2).val + (i 3).val := by omega
  refine at4 (f := A.qg) (?_ : _ / 128 % 6 / 3 = (i 2).val) (?_ : _ / 128 % 6 % 3 = (i 3).val) (?_ : (((((i 0).val * 128 + (i 1).val) * 2 + (i 2).val) * 3 + (i 3).val) * 128 + (i 4).val) / 768 = 128 * (i 0).val + (i 1).val)
    (?_ : (((((i 0).val * 128 + (i 1).val) * 2 + (i 2).val) * 3 + (i 3).val) * 128 + (i 4).val) % 128 = (i 4).val)
  · rw [e]; omega
  · rw [e]; omega
  · omega
  · omega

/-- The keys behind a block of zeros. -/
theorem v38 (i) : val_main_v38 (F := Ideal) x0 x2 x3 i = ((if 128 ≤ (i 0).val then A.kg (i 1).val ((i 0).val - 128) (i 2).val else 0 : ℝ) : EReal) := by
  unfold val_main_v38
  exact catZero (g := fun t h d => A.kg h t d) _ (fun i => by rw [val_main_v37_apply, val_main_cst_apply]; exact zero_bits) G.v34 i

/-- The values behind a block of zeros. -/
theorem v45 (i) : val_main_v45 (F := Ideal) x0 i = ((if 128 ≤ (i 0).val then A.vg (i 1).val ((i 0).val - 128) (i 2).val else 0 : ℝ) : EReal) := by
  unfold val_main_v45
  exact catZero (g := fun t h d => A.vg h t d) _ (fun i => by rw [val_main_v44_apply, val_main_cst_1_apply]; exact zero_bits) G.v35 i

omit G in
theorem blk (f : ℕ → ℕ → ℕ → ℝ) {a b h d a' b' : ℕ} {t h' d' : ℕ} (e1 : t = 128 * a' + b') (e2 : h' = h) (e3 : d' = d) (e4 : 128 * a' + b' = 128 * a + b) :
    ((if 128 ≤ t then f h' (t - 128) d' else 0 : ℝ) : EReal) = ((if 128 ≤ 128 * a + b then f h (128 * a + b - 128) d else 0 : ℝ) : EReal) := by
  rw [e1, e2, e3, e4]

/-- The keys of a block and of the block before it. -/
theorem v43 (i) : val_main_v43 (F := Ideal) x0 x2 x3 i = (((A.head (i 0).val (i 2).val).k (i 1).val (i 3).val : ℝ) : EReal) := by
  unfold val_main_v43
  refine catBlk (f := fun b j h d => (A.head b h).k j d) _ (fun i => ?_) (fun i => ?_) i
  all_goals
    have h1 : (i 1).val < 128 := (i 1).isLt
    have h2 : (i 2).val < 2 := (i 2).isLt
    have h3 : (i 3).val < 128 := (i 3).isLt
  · rw [val_main_v41_apply, val_main_v40_apply, G.v38]
    exact blk A.kg (a' := (i 0).val) (b' := (i 1).val) (by show ((((i 0).val * 128 + (i 1).val) * 2 + (i 2).val) * 128 + (i 3).val) / 256 = _; omega) (by show ((((i 0).val * 128 + (i 1).val) * 2 + (i 2).val) * 128 + (i 3).val) / 128 % 2 = _; omega)
      (by show ((((i 0).val * 128 + (i 1).val) * 2 + (i 2).val) * 128 + (i 3).val) % 128 = _; omega) rfl
  · rw [val_main_v42_apply, val_main_v40_apply, G.v38]
    exact blk A.kg (a' := 1 + (i 0).val) (b' := (i 1).val) (by show ((((1 + (i 0).val) * 128 + (i 1).val) * 2 + (i 2).val) * 128 + (i 3).val) / 256 = _; omega) (by show ((((1 + (i 0).val) * 128 + (i 1).val) * 2 + (i 2).val) * 128 + (i 3).val) / 128 % 2 = _; omega)
      (by show ((((1 + (i 0).val) * 128 + (i 1).val) * 2 + (i 2).val) * 128 + (i 3).val) % 128 = _; omega) (by omega)

/-- The values of a block and of the block before it. -/
theorem v50 (i) : val_main_v50 (F := Ideal) x0 i = (((A.head (i 0).val (i 2).val).v (i 1).val (i 3).val : ℝ) : EReal) := by
  unfold val_main_v50
  refine catBlk (f := fun b j h d => (A.head b h).v j d) _ (fun i => ?_) (fun i => ?_) i
  all_goals
    have h1 : (i 1).val < 128 := (i 1).isLt
    have h2 : (i 2).val < 2 := (i 2).isLt
    have h3 : (i 3).val < 128 := (i 3).isLt
  · rw [val_main_v48_apply, val_main_v47_apply, G.v45]
    exact blk A.vg (a' := (i 0).val) (b' := (i 1).val) (by show ((((i 0).val * 128 + (i 1).val) * 2 + (i 2).val) * 128 + (i 3).val) / 256 = _; omega) (by show ((((i 0).val * 128 + (i 1).val) * 2 + (i 2).val) * 128 + (i 3).val) / 128 % 2 = _; omega)
      (by show ((((i 0).val * 128 + (i 1).val) * 2 + (i 2).val) * 128 + (i 3).val) % 128 = _; omega) rfl
  · rw [val_main_v49_apply, val_main_v47_apply, G.v45]
    exact blk A.vg (a' := 1 + (i 0).val) (b' := (i 1).val) (by show ((((1 + (i 0).val) * 128 + (i 1).val) * 2 + (i 2).val) * 128 + (i 3).val) / 256 = _; omega) (by show ((((1 + (i 0).val) * 128 + (i 1).val) * 2 + (i 2).val) * 128 + (i 3).val) / 128 % 2 = _; omega)
      (by show ((((1 + (i 0).val) * 128 + (i 1).val) * 2 + (i 2).val) * 128 + (i 3).val) % 128 = _; omega) (by omega)

/-- The scaled scores. -/
theorem v54 (i) : val_main_v54 (F := Ideal) x0 x2 x3 i = (((A.head (i 0).val (i 1).val).s (i 2).val (i 3).val (i 4).val : ℝ) : EReal) := by
  rw [val_main_v54_apply, val_main_v52_apply, val_main_v51_apply, val_main_v53_apply, val_main_cst_3_apply, Ideal.mulf_def, Ideal.ofBits_def, sc_bits]
  unfold Attn.Head.s
  rw [EReal.coe_mul, Attn.coe_sum]
  congr 1
  refine Finset.sum_congr rfl fun k _ => ?_
  rw [G.v43, G.v36, mul_comm, EReal.coe_mul]

/-- The cotangents, block by block. -/
theorem v123 (i) : val_main_v123 (F := Ideal) x1 i = (((A.head (i 0).val (i 1).val).D (i 3).val (i 4).val (i 2).val : ℝ) : EReal) := by
  have h0 : (i 0).val < 32 := (i 0).isLt
  have h1 : (i 1).val < 2 := (i 1).isLt
  have h2 : (i 2).val < 128 := (i 2).isLt
  have h3 : (i 3).val < 3 := (i 3).isLt
  have h4 : (i 4).val < 128 := (i 4).isLt
  rw [val_main_v123_apply, val_main_v122_apply, val_main_v121_apply, G.dc]
  exact at2 (by show (((((i 0).val * 128 + (i 4).val) * 2 + (i 1).val) * 3 + (i 3).val) * 128 + (i 2).val) / 768 = 128 * (i 0).val + (i 4).val; omega)
    (by show 768 + (((((i 0).val * 128 + (i 4).val) * 2 + (i 1).val) * 3 + (i 3).val) * 128 + (i 2).val) % 768 = 768 + 128 * (3 * (i 1).val + (i 3).val) + (i 2).val; omega)

/-- The probabilities' cotangents. -/
theorem v124 (i) : val_main_v124 (F := Ideal) x0 x1 i = (((A.head (i 0).val (i 1).val).dp (i 2).val (i 3).val (i 4).val : ℝ) : EReal) := by
  rw [val_main_v124_apply]
  unfold Attn.Head.dp
  rw [Attn.coe_sum]
  refine Finset.sum_congr rfl fun k _ => ?_
  rw [G.v123, G.v50, EReal.coe_mul]

end Given

end Cert.ReferenceIdeal.Attn

end
-- ==== Proof.Attn.RefB.lean ====
/- The reference's mask, softmax with a sink and the scores' gradients, as real numbers. -/
module

public import proofs.«01_k».proof.Proof.Attn.RefA

@[expose] public section

set_option maxRecDepth 16384

noncomputable section

namespace Attn.Head
variable (H : Attn.Head)

/-- The exponential of a score the band admits, or of the sink at the last place. -/
def X (g i j : ℕ) : ℝ := if j < 256 then H.E g i j else Real.exp (H.z g)
/-- The probability's cotangent, zero at the sink. -/
def Y (g i j : ℕ) : ℝ := if j < 256 then H.dp g i j else 0

theorem sum_X (g i : ℕ) : ∑ j : Fin 257, H.X g i j.val = H.Z g i := by
  rw [Fin.sum_univ_castSucc]
  unfold X Z
  congr 1

theorem sum_YX (g i : ℕ) (w : ℝ) (hw : w ≠ 0) :
    ∑ j : Fin 257, H.Y g i j.val * (1 * (1 / (H.Z g i * w * (H.Z g i * w)))) * (H.X g i j.val * w) = H.delta g i * (1 / (H.Z g i * w)) := by
  have hz := H.Z_ne g i
  rw [Fin.sum_univ_castSucc]
  have e : H.Y g i (Fin.last 256).val = 0 := if_neg (by simp)
  rw [e, zero_mul, zero_mul, add_zero]
  unfold delta
  rw [Finset.sum_mul]
  refine Finset.sum_congr rfl fun j _ => ?_
  have h1 : H.Y g i (Fin.castSucc j).val = H.dp g i j.val := if_pos j.isLt
  have h2 : H.X g i (Fin.castSucc j).val = H.E g i j.val := if_pos j.isLt
  rw [h1, h2]
  unfold pn
  field_simp

theorem ds_of {g i j : ℕ} (hj : j < 256) (w : ℝ) (hw : w ≠ 0) :
    (H.Y g i j * (1 / (H.Z g i * w)) + -(H.delta g i * (1 / (H.Z g i * w)))) * (H.X g i j * w) = H.ds g i j := by
  have hz := H.Z_ne g i
  unfold Y X ds pn
  rw [if_pos hj, if_pos hj]
  field_simp
  ring

theorem dz_of (g i : ℕ) (w : ℝ) (hw : w ≠ 0) :
    (H.Y g i 256 * (1 / (H.Z g i * w)) + -(H.delta g i * (1 / (H.Z g i * w)))) * (H.X g i 256 * w) = H.dz g i := by
  have hz := H.Z_ne g i
  unfold Y X dz
  rw [if_neg (by omega), if_neg (by omega)]
  field_simp
  ring

end Attn.Head

namespace Cert.ReferenceIdeal.Attn

open Idealize.ShloMosaic Idealize.ShloMosaic.TcCoe
open Cert.ReferenceIdeal Cert.ReferenceIdeal.Gen Cert.ReferenceIdeal.Read

theorem nat_int (j : ℕ) (hj : j < 256) : (BitVec.ofNat 32 j).toInt = (j : ℤ) := by
  rw [BitVec.toInt_eq_toNat_bmod, BitVec.toNat_ofNat]
  simp only [Int.bmod_def]
  omega

theorem diff_int (i j : ℕ) (hi : i < 128) (hj : j < 256) : ((128#32 + BitVec.ofNat 32 i) - BitVec.ofNat 32 j).toInt = 128 + (i : ℤ) - j := by
  rw [BitVec.toInt_sub, BitVec.toInt_add, nat_int 128 (by omega), nat_int i (by omega), nat_int _ hj]
  simp only [Int.bmod_def]
  omega

/-- The mask is the band. -/
theorem v84_1 (i) : val_main_v84_1 (F := Ideal) i = BitVec.ofBool (Attn.msk (if (i 0).val = 0 then 128 else 0) (i 3).val (i 4).val) := by
  have h0 : (i 0).val < 32 := (i 0).isLt
  have h3 : (i 3).val < 128 := (i 3).isLt
  have h4 : (i 4).val < 256 := (i 4).isLt
  rw [val_main_v84_1_apply, val_main_v83_apply, val_main_v82_apply, val_main_v80_apply, val_main_v71_apply, val_main_v68_apply,
    val_main_v65_apply, val_main_v67_apply, val_main_v63_apply, val_main_v61_apply, val_main_v62_apply, val_main_v60_apply, val_main_v59_apply,
    val_main_v56_apply, val_main_v55_apply, val_main_v58_apply, val_main_v57_apply, val_main_v64_apply, val_main_v66_apply,
    val_main_v81_apply, val_main_v79_apply, val_main_v77_apply, val_main_v73_apply, val_main_v70_apply, val_main_v69_apply, val_main_v72_apply,
    val_main_v78_apply, val_main_v76_apply, val_main_v75_apply, val_main_v74_apply, val_main_v58_apply, val_main_v57_apply]
  show (BitVec.ofBool (BitVec.sle 0#32 ((128#32 + BitVec.ofNat 32 (i 3).val) - BitVec.ofNat 32 (i 4).val)) &&&
      BitVec.ofBool (BitVec.slt ((128#32 + BitVec.ofNat 32 (i 3).val) - BitVec.ofNat 32 (i 4).val) 128#32)) &&&
      (BitVec.ofBool (BitVec.slt 0#32 (BitVec.ofNat 32 (i 0).val)) ||| BitVec.ofBool (BitVec.sle 128#32 (BitVec.ofNat 32 (i 4).val))) = _
  simp only [BitVec.slt_eq_decide, BitVec.sle_eq_decide, diff_int _ _ h3 h4, nat_int _ h4, nat_int _ (show (i 0).val < 256 by omega),
    show (0#32).toInt = 0 from rfl, show (128#32).toInt = 128 from rfl]
  unfold Attn.msk
  rw [show decide ((i 3).val < (i 4).val ∧ (i 4).val ≤ (i 3).val + 128 ∧ (if (i 0).val = 0 then 128 else 0) ≤ (i 4).val)
    = (decide (0 ≤ 128 + ((i 3).val : ℤ) - (i 4).val) && decide (128 + ((i 3).val : ℤ) - (i 4).val < 128) && (decide (0 < ((i 0).val : ℤ)) || decide (128 ≤ ((i 4).val : ℤ)))) from by
      rw [← Bool.decide_and, ← Bool.decide_or, ← Bool.decide_and, decide_eq_decide]
      split <;> omega]
  generalize decide (0 ≤ 128 + ((i 3).val : ℤ) - (i 4).val) = a
  generalize decide (128 + ((i 3).val : ℤ) - (i 4).val < 128) = b
  generalize decide (0 < ((i 0).val : ℤ)) = c
  generalize decide (128 ≤ ((i 4).val : ℤ)) = d
  revert a b c d
  decide

/-- The scores with the sink behind them. -/
theorem catSink {x : S32x2x3x128x256.Idx → EReal} {y : S32x2x3x128x1.Idx → EReal} {f : ℕ → ℕ → ℕ → ℕ → ℕ → EReal} {g : ℕ → ℕ → ℕ → ℕ → EReal}
    (h : Shape.Concatenates [S32x2x3x128x256, S32x2x3x128x1] S32x2x3x128x257 4)
    (hx : ∀ i, x i = f (i 0).val (i 1).val (i 2).val (i 3).val (i 4).val) (hy : ∀ i, y i = g (i 0).val (i 1).val (i 2).val (i 3).val) (i : S32x2x3x128x257.Idx) :
    concatenate S32x2x3x128x257 4 [⟨S32x2x3x128x256, x⟩, ⟨S32x2x3x128x1, y⟩] h i
      = if (i 4).val < 256 then f (i 0).val (i 1).val (i 2).val (i 3).val (i 4).val else g (i 0).val (i 1).val (i 2).val (i 3).val := by
  have hi : (i 4).val < 257 := (i 4).isLt
  by_cases hl : (i 4).val < 256
  · rw [concatenate_apply_piece 4 _ _ i 0 (by show 0 < 2; omega) S32x2x3x128x256 x rfl rfl 0 rfl (ValueIdx.ix5 ⟨(i 0).val, (i 0).isLt⟩ ⟨(i 1).val, (i 1).isLt⟩ ⟨(i 2).val, (i 2).isLt⟩ ⟨(i 3).val, (i 3).isLt⟩ ⟨(i 4).val, hl⟩)
      (fun b hb => match b, hb with | ⟨4, _⟩, hb => absurd rfl hb | ⟨0, _⟩, _ => rfl | ⟨1, _⟩, _ => rfl | ⟨2, _⟩, _ => rfl | ⟨3, _⟩, _ => rfl) (Nat.zero_add _), hx, if_pos hl]
  · rw [concatenate_apply_piece 4 _ _ i 1 (by show 1 < 2; omega) S32x2x3x128x1 y rfl rfl 256 rfl (ValueIdx.ix5 ⟨(i 0).val, (i 0).isLt⟩ ⟨(i 1).val, (i 1).isLt⟩ ⟨(i 2).val, (i 2).isLt⟩ ⟨(i 3).val, (i 3).isLt⟩ ⟨(i 4).val - 256, by omega⟩)
      (fun b hb => match b, hb with | ⟨4, _⟩, hb => absurd rfl hb | ⟨0, _⟩, _ => rfl | ⟨1, _⟩, _ => rfl | ⟨2, _⟩, _ => rfl | ⟨3, _⟩, _ => rfl) (by show 256 + ((i 4).val - 256) = (i 4).val; omega), hy, if_neg hl]

theorem bot_bits : Ideal.ofBits .f32 0xFF800000#32 = ⊥ := by simp [Ideal.ofBits, Ideal.ieee]

theorem one_bits : Ideal.ofBits .f32 0x3F800000#32 = ((1 : ℝ) : EReal) := by
  simp [Ideal.ofBits, Ideal.ieee, -EReal.coe_mul]
  try norm_num

/-- A row's largest entry is a real number when the last one is and none is the largest value. -/
theorem rowMax (x : S32x2x3x128x257.Idx → EReal) (v : S_.Idx → EReal) (hv : v (Shape.Idx.first h_S_) = ⊥) (hx : ∀ i, x i < ⊤) (hs : ∀ i, (i 4).val = 256 → ⊥ < x i) (j : S32x2x3x128.Idx) :
    Host.reduce (FloatOps.maximumf (F := Ideal) (φ := .f32)) x v reducesTo_S32x2x3x128x257_S32x2x3x128_d4 h_S_ j ≠ ⊤ ∧
    Host.reduce (FloatOps.maximumf (F := Ideal) (φ := .f32)) x v reducesTo_S32x2x3x128x257_S32x2x3x128_d4 h_S_ j ≠ ⊥ := by
  rw [Host.reduce_eq_fold_single _ x v reducesTo_S32x2x3x128x257_S32x2x3x128_d4 (by decide) h_S_ j]
  rw [hv]
  refine ⟨(Finset.fold_max_lt _ |>.2 ⟨bot_lt_top, fun k _ => hx _⟩).ne, ?_⟩
  refine (Finset.lt_fold_max _ |>.2 (Or.inr ⟨(⟨256, by decide⟩ : Fin 257), Finset.mem_univ _, hs _ rfl⟩)).ne'

namespace Given
variable {A : Attn.Args} {x0 : (⟨S4096x4992, .f32⟩ : BufTy).Contents (Elt Ideal)} {x1 : (⟨S4096x2048, .f32⟩ : BufTy).Contents (Elt Ideal)}
  {x2 x3 : (⟨S4096x64, .f32⟩ : BufTy).Contents (Elt Ideal)} {x4 : (⟨S1x128, .f32⟩ : BufTy).Contents (Elt Ideal)} (G : Given A x0 x1 x2 x3 x4)
include G

/-- The sinks. -/
theorem v87 (i) : val_main_v87 (F := Ideal) x4 i = (((A.head (i 0).val (i 1).val).z (i 2).val : ℝ) : EReal) := by
  have h1 : (i 1).val < 2 := (i 1).isLt
  have h2 : (i 2).val < 3 := (i 2).isLt
  rw [val_main_v87_apply, val_main_v86_apply, val_main_v85_apply, val_main_v4_apply, val_main_v3_apply, G.z]
  exact congrArg (fun k => ((A.z k : ℝ) : EReal)) (by show (_ : ℕ) = 3 * (i 1).val + (i 2).val; dsimp only; omega)

/-- The masked scores and the sinks. -/
theorem v88 (i) : val_main_v88 (F := Ideal) x0 x2 x3 x4 i
    = if (i 4).val < 256 then (if Attn.msk (A.head (i 0).val (i 1).val).lo (i 3).val (i 4).val then (((A.head (i 0).val (i 1).val).s (i 2).val (i 3).val (i 4).val : ℝ) : EReal) else ⊥)
      else (((A.head (i 0).val (i 1).val).z (i 2).val : ℝ) : EReal) := by
  unfold val_main_v88
  refine catSink (f := fun b h g i j => if Attn.msk (A.head b h).lo i j then (((A.head b h).s g i j : ℝ) : EReal) else ⊥)
    (g := fun b h g i => (((A.head b h).z g : ℝ) : EReal)) _ (fun i => ?_) (fun i => G.v87 i) i
  rw [val_main_v84_0_apply, v84_1, G.v54, val_main_call0_v2_apply, val_main_call0_v0_apply, val_main_cst_8_apply, Ideal.ofBits_def, bot_bits]
  show (if BitVec.ofBool (Attn.msk (A.head (i 0).val (i 1).val).lo (i 3).val (i 4).val) = 1 then _ else _) = _
  cases Attn.msk (A.head (i 0).val (i 1).val).lo (i 3).val (i 4).val <;> rfl

/-- Each row's largest entry is a real number. -/
theorem max : ∃ M : ℕ → ℕ → ℕ → ℕ → ℝ, ∀ i, val_main_v96 (F := Ideal) x0 x2 x3 x4 i = ((M (i 0).val (i 1).val (i 2).val (i 3).val : ℝ) : EReal) := by
  have key : ∀ i, val_main_v96 (F := Ideal) x0 x2 x3 x4 i ≠ ⊤ ∧ val_main_v96 (F := Ideal) x0 x2 x3 x4 i ≠ ⊥ := fun i => by
    rw [val_main_v96_apply, val_main_v95_apply, val_main_cst_11_apply, Ideal.ofBits_def, bot_bits, Ideal.maximumf_def, max_eq_right bot_le]
    unfold val_main_v89
    refine rowMax _ _ bot_bits (fun i => ?_) (fun i hi => ?_) i
    · rw [G.v88]
      split
      · split
        · exact EReal.coe_lt_top _
        · exact bot_lt_top
      · exact EReal.coe_lt_top _
    · rw [G.v88, if_neg (by omega)]
      exact EReal.bot_lt_coe _
  refine ⟨fun b h g i => (val_main_v96 (F := Ideal) x0 x2 x3 x4 (ValueIdx.ix4 (Fin.ofNat 32 b) (Fin.ofNat 2 h) (Fin.ofNat 3 g) (Fin.ofNat 128 i))).toReal, fun i => ?_⟩
  have e : ValueIdx.ix4 (Fin.ofNat 32 (i 0).val) (Fin.ofNat 2 (i 1).val) (Fin.ofNat 3 (i 2).val) (Fin.ofNat 128 (i 3).val) = i :=
    funext fun a => Fin.ext (match a with
      | ⟨0, _⟩ => Nat.mod_eq_of_lt (i 0).isLt
      | ⟨1, _⟩ => Nat.mod_eq_of_lt (i 1).isLt
      | ⟨2, _⟩ => Nat.mod_eq_of_lt (i 2).isLt
      | ⟨3, _⟩ => Nat.mod_eq_of_lt (i 3).isLt)
  show _ = (((val_main_v96 (F := Ideal) x0 x2 x3 x4 (ValueIdx.ix4 (Fin.ofNat 32 (i 0).val) (Fin.ofNat 2 (i 1).val) (Fin.ofNat 3 (i 2).val) (Fin.ofNat 128 (i 3).val))).toReal : ℝ) : EReal)
  rw [e]
  exact (EReal.coe_toReal (key i).1 (key i).2).symm

/-- The exponentials, all of a row by one positive factor. -/
theorem v109 : ∃ W : ℕ → ℕ → ℕ → ℕ → ℝ, (∀ b h g i, W b h g i ≠ 0) ∧
    ∀ i, val_main_v109 (F := Ideal) x0 x2 x3 x4 i = (((A.head (i 0).val (i 1).val).X (i 2).val (i 3).val (i 4).val * W (i 0).val (i 1).val (i 2).val (i 3).val : ℝ) : EReal) := by
  obtain ⟨M, hM⟩ := G.max
  refine ⟨fun b h g i => Real.exp (-M b h g i), fun _ _ _ _ => (Real.exp_pos _).ne', fun i => ?_⟩
  rw [val_main_v109_apply, val_main_v108_apply, val_main_v107_apply, val_main_v106_apply, hM, G.v88]
  show Ideal.exp ((if _ then _ else _ : EReal) - ((M (i 0).val (i 1).val (i 2).val (i 3).val : ℝ) : EReal)) = _
  unfold Attn.Head.X Attn.Head.E
  split
  · split
    · rw [← EReal.coe_sub, Ideal.exp_coe, sub_eq_add_neg, Real.exp_add]
    · rw [EReal.bot_sub, Ideal.exp_bot, zero_mul]; rfl
  · rw [← EReal.coe_sub, Ideal.exp_coe, sub_eq_add_neg, Real.exp_add]

end Given

end Cert.ReferenceIdeal.Attn

end
-- ==== Proof.Attn.RefC.lean ====
/- The reference's gradients of the scores, the rotated queries and keys, the values and the sinks, as real numbers. -/
module

public import proofs.«01_k».proof.Proof.Attn.RefB
public import Idealize.ShloMosaic.Lib.TwoAxisContraction

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- One zero behind each row. -/
theorem padRow {x : S32x2x3x128x256.Idx → EReal} {v : S_.Idx → EReal} {f : ℕ → ℕ → ℕ → ℕ → ℕ → ℝ} (hv : ∀ i, v i = 0)
    (hx : ∀ i, x i = ((f (i 0).val (i 1).val (i 2).val (i 3).val (i 4).val : ℝ) : EReal)) (i : S32x2x3x128x257.Idx) :
    pad S32x2x3x128x257 ![0, 0, 0, 0, 0] ![0, 0, 0, 0, 1] ![0, 0, 0, 0, 0] x v pads_S32x2x3x128x256_S32x2x3x128x257_000_000_000_000_010 h_S_ i
      = ((if (i 4).val < 256 then f (i 0).val (i 1).val (i 2).val (i 3).val (i 4).val else 0 : ℝ) : EReal) := by
  by_cases hl : (i 4).val < 256
  · rw [pad_apply_of_inside _ _ _ x v _ _ i (ValueIdx.ix5 ⟨(i 0).val, (i 0).isLt⟩ ⟨(i 1).val, (i 1).isLt⟩ ⟨(i 2).val, (i 2).isLt⟩ ⟨(i 3).val, (i 3).isLt⟩ ⟨(i 4).val, hl⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega
        | ⟨4, _⟩ => by show (i 4).val = 0 + (i 4).val * 1; omega), hx, if_pos hl]
  · rw [pad_apply_of_not_inside _ _ _ x v _ _ i 4 (fun h => by
      have h2 : ((i 4).val - 0) / 1 < 256 := h.2.2
      omega), hv, if_neg hl]
    rfl

theorem dot125_l0 (i : S32x2x128x256.Idx) (q : dot_S32x2x128x3x128_S32x2x3x128x256_S32x2x128x256_34_23_2_4_01_01.contr.Idx) :
    (dot_S32x2x128x3x128_S32x2x3x128x256_S32x2x128x256_34_23_2_4_01_01.lhsIdx i q 0).val = (i 0).val := by
  unfold DotDims.lhsIdx
  rw [dif_pos (show (0 : Fin S32x2x128x3x128.rank) ∈ dot_S32x2x128x3x128_S32x2x3x128x256_S32x2x128x256_34_23_2_4_01_01.lhsBatch by decide)]
  rfl
theorem dot125_l1 (i : S32x2x128x256.Idx) (q : dot_S32x2x128x3x128_S32x2x3x128x256_S32x2x128x256_34_23_2_4_01_01.contr.Idx) :
    (dot_S32x2x128x3x128_S32x2x3x128x256_S32x2x128x256_34_23_2_4_01_01.lhsIdx i q 1).val = (i 1).val := by
  unfold DotDims.lhsIdx
  rw [dif_pos (show (1 : Fin S32x2x128x3x128.rank) ∈ dot_S32x2x128x3x128_S32x2x3x128x256_S32x2x128x256_34_23_2_4_01_01.lhsBatch by decide)]
  rfl
theorem dot125_l2 (i : S32x2x128x256.Idx) (q : dot_S32x2x128x3x128_S32x2x3x128x256_S32x2x128x256_34_23_2_4_01_01.contr.Idx) :
    (dot_S32x2x128x3x128_S32x2x3x128x256_S32x2x128x256_34_23_2_4_01_01.lhsIdx i q 2).val = (i 2).val := by
  unfold DotDims.lhsIdx
  rw [dif_neg (show ¬(2 : Fin S32x2x128x3x128.rank) ∈ dot_S32x2x128x3x128_S32x2x3x128x256_S32x2x128x256_34_23_2_4_01_01.lhsBatch by decide), dif_pos (show (2 : Fin S32x2x128x3x128.rank) ∈ dot_S32x2x128x3x128_S32x2x3x128x256_S32x2x128x256_34_23_2_4_01_01.lhsNonContracting by decide)]
  rfl
theorem dot125_l3 (i : S32x2x128x256.Idx) (q : dot_S32x2x128x3x128_S32x2x3x128x256_S32x2x128x256_34_23_2_4_01_01.contr.Idx) :
    (dot_S32x2x128x3x128_S32x2x3x128x256_S32x2x128x256_34_23_2_4_01_01.lhsIdx i q 3).val = (q ⟨0, by decide⟩).val := by
  unfold DotDims.lhsIdx
  rw [dif_neg (show ¬(3 : Fin S32x2x128x3x128.rank) ∈ dot_S32x2x128x3x128_S32x2x3x128x256_S32x2x128x256_34_23_2_4_01_01.lhsBatch by decide), dif_neg (show ¬(3 : Fin S32x2x128x3x128.rank) ∈ dot_S32x2x128x3x128_S32x2x3x128x256_S32x2x128x256_34_23_2_4_01_01.lhsNonContracting by decide)]
  rfl
theorem dot125_l4 (i : S32x2x128x256.Idx) (q : dot_S32x2x128x3x128_S32x2x3x128x256_S32x2x128x256_34_23_2_4_01_01.contr.Idx) :
    (dot_S32x2x128x3x128_S32x2x3x128x256_S32x2x128x256_34_23_2_4_01_01.lhsIdx i q 4).val = (q ⟨1, by decide⟩).val := by
  unfold DotDims.lhsIdx
  rw [dif_neg (show ¬(4 : Fin S32x2x128x3x128.rank) ∈ dot_S32x2x128x3x128_S32x2x3x128x256_S32x2x128x256_34_23_2_4_01_01.lhsBatch by decide), dif_neg (show ¬(4 : Fin S32x2x128x3x128.rank) ∈ dot_S32x2x128x3x128_S32x2x3x128x256_S32x2x128x256_34_23_2_4_01_01.lhsNonContracting by decide)]
  rfl
theorem dot125_r0 (i : S32x2x128x256.Idx) (q : dot_S32x2x128x3x128_S32x2x3x128x256_S32x2x128x256_34_23_2_4_01_01.contr.Idx) :
    (dot_S32x2x128x3x128_S32x2x3x128x256_S32x2x128x256_34_23_2_4_01_01.rhsIdx i q 0).val = (i 0).val := by
  unfold DotDims.rhsIdx
  rw [dif_pos (show (0 : Fin S32x2x3x128x256.rank) ∈ dot_S32x2x128x3x128_S32x2x3x128x256_S32x2x128x256_34_23_2_4_01_01.rhsBatch by decide)]
  rfl
theorem dot125_r1 (i : S32x2x128x256.Idx) (q : dot_S32x2x128x3x128_S32x2x3x128x256_S32x2x128x256_34_23_2_4_01_01.contr.Idx) :
    (dot_S32x2x128x3x128_S32x2x3x128x256_S32x2x128x256_34_23_2_4_01_01.rhsIdx i q 1).val = (i 1).val := by
  unfold DotDims.rhsIdx
  rw [dif_pos (show (1 : Fin S32x2x3x128x256.rank) ∈ dot_S32x2x128x3x128_S32x2x3x128x256_S32x2x128x256_34_23_2_4_01_01.rhsBatch by decide)]
  rfl
theorem dot125_r2 (i : S32x2x128x256.Idx) (q : dot_S32x2x128x3x128_S32x2x3x128x256_S32x2x128x256_34_23_2_4_01_01.contr.Idx) :
    (dot_S32x2x128x3x128_S32x2x3x128x256_S32x2x128x256_34_23_2_4_01_01.rhsIdx i q 2).val = (q ⟨0, by decide⟩).val := by
  unfold DotDims.rhsIdx
  rw [dif_neg (show ¬(2 : Fin S32x2x3x128x256.rank) ∈ dot_S32x2x128x3x128_S32x2x3x128x256_S32x2x128x256_34_23_2_4_01_01.rhsBatch by decide), dif_neg (show ¬(2 : Fin S32x2x3x128x256.rank) ∈ dot_S32x2x128x3x128_S32x2x3x128x256_S32x2x128x256_34_23_2_4_01_01.rhsNonContracting by decide)]
  rfl
theorem dot125_r3 (i : S32x2x128x256.Idx) (q : dot_S32x2x128x3x128_S32x2x3x128x256_S32x2x128x256_34_23_2_4_01_01.contr.Idx) :
    (dot_S32x2x128x3x128_S32x2x3x128x256_S32x2x128x256_34_23_2_4_01_01.rhsIdx i q 3).val = (q ⟨1, by decide⟩).val := by
  unfold DotDims.rhsIdx
  rw [dif_neg (show ¬(3 : Fin S32x2x3x128x256.rank) ∈ dot_S32x2x128x3x128_S32x2x3x128x256_S32x2x128x256_34_23_2_4_01_01.rhsBatch by decide), dif_neg (show ¬(3 : Fin S32x2x3x128x256.rank) ∈ dot_S32x2x128x3x128_S32x2x3x128x256_S32x2x128x256_34_23_2_4_01_01.rhsNonContracting by decide)]
  rfl
theorem dot125_r4 (i : S32x2x128x256.Idx) (q : dot_S32x2x128x3x128_S32x2x3x128x256_S32x2x128x256_34_23_2_4_01_01.contr.Idx) :
    (dot_S32x2x128x3x128_S32x2x3x128x256_S32x2x128x256_34_23_2_4_01_01.rhsIdx i q 4).val = (i 3).val := by
  unfold DotDims.rhsIdx
  rw [dif_neg (show ¬(4 : Fin S32x2x3x128x256.rank) ∈ dot_S32x2x128x3x128_S32x2x3x128x256_S32x2x128x256_34_23_2_4_01_01.rhsBatch by decide), dif_pos (show (4 : Fin S32x2x3x128x256.rank) ∈ dot_S32x2x128x3x128_S32x2x3x128x256_S32x2x128x256_34_23_2_4_01_01.rhsNonContracting by decide)]
  rfl

/-- The values' gradients: a product over the groups and the queries. -/
theorem dot125 {x : S32x2x128x3x128.Idx → EReal} {y : S32x2x3x128x256.Idx → EReal} {f g : ℕ → ℕ → ℕ → ℕ → ℕ → ℝ}
    (hx : ∀ i, x i = ((f (i 0).val (i 1).val (i 2).val (i 3).val (i 4).val : ℝ) : EReal))
    (hy : ∀ i, y i = ((g (i 0).val (i 1).val (i 2).val (i 3).val (i 4).val : ℝ) : EReal)) (i : S32x2x128x256.Idx) :
    Host.dotGeneral (F := Ideal) (φ₁ := .f32) (φ₂ := .f32) dot_S32x2x128x3x128_S32x2x3x128x256_S32x2x128x256_34_23_2_4_01_01 none x y i
      = ((∑ a : Fin 3, ∑ b : Fin 128, f (i 0).val (i 1).val (i 2).val a.val b.val * g (i 0).val (i 1).val a.val b.val (i 3).val : ℝ) : EReal) := by
  simp only [Host.dotGeneral]
  rw [Ideal.dotGeneral_apply, ValueIdx.sum_contr2 dot_S32x2x128x3x128_S32x2x3x128x256_S32x2x128x256_34_23_2_4_01_01 3 128 rfl rfl rfl, Attn.coe_sum]
  refine Finset.sum_congr rfl fun a _ => ?_
  rw [Attn.coe_sum]
  refine Finset.sum_congr rfl fun b _ => ?_
  have h0 := ValueIdx.contrEquiv2_symm_val0 dot_S32x2x128x3x128_S32x2x3x128x256_S32x2x128x256_34_23_2_4_01_01 3 128 rfl rfl rfl (a, b)
  have h1 := ValueIdx.contrEquiv2_symm_val1 dot_S32x2x128x3x128_S32x2x3x128x256_S32x2x128x256_34_23_2_4_01_01 3 128 rfl rfl rfl (a, b)
  have el : dot_S32x2x128x3x128_S32x2x3x128x256_S32x2x128x256_34_23_2_4_01_01.lhsIdx i ((ValueIdx.contrEquiv2 dot_S32x2x128x3x128_S32x2x3x128x256_S32x2x128x256_34_23_2_4_01_01 3 128 rfl rfl rfl).symm (a, b)) = ValueIdx.ix5 ⟨(i 0).val, (i 0).isLt⟩ ⟨(i 1).val, (i 1).isLt⟩ ⟨(i 2).val, (i 2).isLt⟩ (a) (b) :=
    funext fun c => Fin.ext (match c with
      | ⟨0, _⟩ => dot125_l0 _ _
      | ⟨1, _⟩ => dot125_l1 _ _
      | ⟨2, _⟩ => dot125_l2 _ _
      | ⟨3, _⟩ => (dot125_l3 _ _).trans h0
      | ⟨4, _⟩ => (dot125_l4 _ _).trans h1)
  have er : dot_S32x2x128x3x128_S32x2x3x128x256_S32x2x128x256_34_23_2_4_01_01.rhsIdx i ((ValueIdx.contrEquiv2 dot_S32x2x128x3x128_S32x2x3x128x256_S32x2x128x256_34_23_2_4_01_01 3 128 rfl rfl rfl).symm (a, b)) = ValueIdx.ix5 ⟨(i 0).val, (i 0).isLt⟩ ⟨(i 1).val, (i 1).isLt⟩ (a) (b) ⟨(i 3).val, (i 3).isLt⟩ :=
    funext fun c => Fin.ext (match c with
      | ⟨0, _⟩ => dot125_r0 _ _
      | ⟨1, _⟩ => dot125_r1 _ _
      | ⟨2, _⟩ => (dot125_r2 _ _).trans h0
      | ⟨3, _⟩ => (dot125_r3 _ _).trans h1
      | ⟨4, _⟩ => dot125_r4 _ _)
  exact (congrArg₂ (fun u v : EReal => u * v) ((congrArg x el).trans (hx _)) ((congrArg y er).trans (hy _))).trans (EReal.coe_mul _ _).symm

theorem dot152_l0 (i : S32x2x256x128.Idx) (q : dot_S32x2x256x128x3_S32x128x2x3x128_S32x2x256x128_34_13_2_4_01_02.contr.Idx) :
    (dot_S32x2x256x128x3_S32x128x2x3x128_S32x2x256x128_34_13_2_4_01_02.lhsIdx i q 0).val = (i 0).val := by
  unfold DotDims.lhsIdx
  rw [dif_pos (show (0 : Fin S32x2x256x128x3.rank) ∈ dot_S32x2x256x128x3_S32x128x2x3x128_S32x2x256x128_34_13_2_4_01_02.lhsBatch by decide)]
  rfl
theorem dot152_l1 (i : S32x2x256x128.Idx) (q : dot_S32x2x256x128x3_S32x128x2x3x128_S32x2x256x128_34_13_2_4_01_02.contr.Idx) :
    (dot_S32x2x256x128x3_S32x128x2x3x128_S32x2x256x128_34_13_2_4_01_02.lhsIdx i q 1).val = (i 1).val := by
  unfold DotDims.lhsIdx
  rw [dif_pos (show (1 : Fin S32x2x256x128x3.rank) ∈ dot_S32x2x256x128x3_S32x128x2x3x128_S32x2x256x128_34_13_2_4_01_02.lhsBatch by decide)]
  rfl
theorem dot152_l2 (i : S32x2x256x128.Idx) (q : dot_S32x2x256x128x3_S32x128x2x3x128_S32x2x256x128_34_13_2_4_01_02.contr.Idx) :
    (dot_S32x2x256x128x3_S32x128x2x3x128_S32x2x256x128_34_13_2_4_01_02.lhsIdx i q 2).val = (i 2).val := by
  unfold DotDims.lhsIdx
  rw [dif_neg (show ¬(2 : Fin S32x2x256x128x3.rank) ∈ dot_S32x2x256x128x3_S32x128x2x3x128_S32x2x256x128_34_13_2_4_01_02.lhsBatch by decide), dif_pos (show (2 : Fin S32x2x256x128x3.rank) ∈ dot_S32x2x256x128x3_S32x128x2x3x128_S32x2x256x128_34_13_2_4_01_02.lhsNonContracting by decide)]
  rfl
theorem dot152_l3 (i : S32x2x256x128.Idx) (q : dot_S32x2x256x128x3_S32x128x2x3x128_S32x2x256x128_34_13_2_4_01_02.contr.Idx) :
    (dot_S32x2x256x128x3_S32x128x2x3x128_S32x2x256x128_34_13_2_4_01_02.lhsIdx i q 3).val = (q ⟨0, by decide⟩).val := by
  unfold DotDims.lhsIdx
  rw [dif_neg (show ¬(3 : Fin S32x2x256x128x3.rank) ∈ dot_S32x2x256x128x3_S32x128x2x3x128_S32x2x256x128_34_13_2_4_01_02.lhsBatch by decide), dif_neg (show ¬(3 : Fin S32x2x256x128x3.rank) ∈ dot_S32x2x256x128x3_S32x128x2x3x128_S32x2x256x128_34_13_2_4_01_02.lhsNonContracting by decide)]
  rfl
theorem dot152_l4 (i : S32x2x256x128.Idx) (q : dot_S32x2x256x128x3_S32x128x2x3x128_S32x2x256x128_34_13_2_4_01_02.contr.Idx) :
    (dot_S32x2x256x128x3_S32x128x2x3x128_S32x2x256x128_34_13_2_4_01_02.lhsIdx i q 4).val = (q ⟨1, by decide⟩).val := by
  unfold DotDims.lhsIdx
  rw [dif_neg (show ¬(4 : Fin S32x2x256x128x3.rank) ∈ dot_S32x2x256x128x3_S32x128x2x3x128_S32x2x256x128_34_13_2_4_01_02.lhsBatch by decide), dif_neg (show ¬(4 : Fin S32x2x256x128x3.rank) ∈ dot_S32x2x256x128x3_S32x128x2x3x128_S32x2x256x128_34_13_2_4_01_02.lhsNonContracting by decide)]
  rfl
theorem dot152_r0 (i : S32x2x256x128.Idx) (q : dot_S32x2x256x128x3_S32x128x2x3x128_S32x2x256x128_34_13_2_4_01_02.contr.Idx) :
    (dot_S32x2x256x128x3_S32x128x2x3x128_S32x2x256x128_34_13_2_4_01_02.rhsIdx i q 0).val = (i 0).val := by
  unfold DotDims.rhsIdx
  rw [dif_pos (show (0 : Fin S32x128x2x3x128.rank) ∈ dot_S32x2x256x128x3_S32x128x2x3x128_S32x2x256x128_34_13_2_4_01_02.rhsBatch by decide)]
  rfl
theorem dot152_r1 (i : S32x2x256x128.Idx) (q : dot_S32x2x256x128x3_S32x128x2x3x128_S32x2x256x128_34_13_2_4_01_02.contr.Idx) :
    (dot_S32x2x256x128x3_S32x128x2x3x128_S32x2x256x128_34_13_2_4_01_02.rhsIdx i q 1).val = (q ⟨0, by decide⟩).val := by
  unfold DotDims.rhsIdx
  rw [dif_neg (show ¬(1 : Fin S32x128x2x3x128.rank) ∈ dot_S32x2x256x128x3_S32x128x2x3x128_S32x2x256x128_34_13_2_4_01_02.rhsBatch by decide), dif_neg (show ¬(1 : Fin S32x128x2x3x128.rank) ∈ dot_S32x2x256x128x3_S32x128x2x3x128_S32x2x256x128_34_13_2_4_01_02.rhsNonContracting by decide)]
  rfl
theorem dot152_r2 (i : S32x2x256x128.Idx) (q : dot_S32x2x256x128x3_S32x128x2x3x128_S32x2x256x128_34_13_2_4_01_02.contr.Idx) :
    (dot_S32x2x256x128x3_S32x128x2x3x128_S32x2x256x128_34_13_2_4_01_02.rhsIdx i q 2).val = (i 1).val := by
  unfold DotDims.rhsIdx
  rw [dif_pos (show (2 : Fin S32x128x2x3x128.rank) ∈ dot_S32x2x256x128x3_S32x128x2x3x128_S32x2x256x128_34_13_2_4_01_02.rhsBatch by decide)]
  rfl
theorem dot152_r3 (i : S32x2x256x128.Idx) (q : dot_S32x2x256x128x3_S32x128x2x3x128_S32x2x256x128_34_13_2_4_01_02.contr.Idx) :
    (dot_S32x2x256x128x3_S32x128x2x3x128_S32x2x256x128_34_13_2_4_01_02.rhsIdx i q 3).val = (q ⟨1, by decide⟩).val := by
  unfold DotDims.rhsIdx
  rw [dif_neg (show ¬(3 : Fin S32x128x2x3x128.rank) ∈ dot_S32x2x256x128x3_S32x128x2x3x128_S32x2x256x128_34_13_2_4_01_02.rhsBatch by decide), dif_neg (show ¬(3 : Fin S32x128x2x3x128.rank) ∈ dot_S32x2x256x128x3_S32x128x2x3x128_S32x2x256x128_34_13_2_4_01_02.rhsNonContracting by decide)]
  rfl
theorem dot152_r4 (i : S32x2x256x128.Idx) (q : dot_S32x2x256x128x3_S32x128x2x3x128_S32x2x256x128_34_13_2_4_01_02.contr.Idx) :
    (dot_S32x2x256x128x3_S32x128x2x3x128_S32x2x256x128_34_13_2_4_01_02.rhsIdx i q 4).val = (i 3).val := by
  unfold DotDims.rhsIdx
  rw [dif_neg (show ¬(4 : Fin S32x128x2x3x128.rank) ∈ dot_S32x2x256x128x3_S32x128x2x3x128_S32x2x256x128_34_13_2_4_01_02.rhsBatch by decide), dif_pos (show (4 : Fin S32x128x2x3x128.rank) ∈ dot_S32x2x256x128x3_S32x128x2x3x128_S32x2x256x128_34_13_2_4_01_02.rhsNonContracting by decide)]
  rfl

/-- The keys' gradients: a product over the queries and the groups. -/
theorem dot152 {x : S32x2x256x128x3.Idx → EReal} {y : S32x128x2x3x128.Idx → EReal} {f g : ℕ → ℕ → ℕ → ℕ → ℕ → ℝ}
    (hx : ∀ i, x i = ((f (i 0).val (i 1).val (i 2).val (i 3).val (i 4).val : ℝ) : EReal))
    (hy : ∀ i, y i = ((g (i 0).val (i 1).val (i 2).val (i 3).val (i 4).val : ℝ) : EReal)) (i : S32x2x256x128.Idx) :
    Host.dotGeneral (F := Ideal) (φ₁ := .f32) (φ₂ := .f32) dot_S32x2x256x128x3_S32x128x2x3x128_S32x2x256x128_34_13_2_4_01_02 none x y i
      = ((∑ a : Fin 128, ∑ b : Fin 3, f (i 0).val (i 1).val (i 2).val a.val b.val * g (i 0).val a.val (i 1).val b.val (i 3).val : ℝ) : EReal) := by
  simp only [Host.dotGeneral]
  rw [Ideal.dotGeneral_apply, ValueIdx.sum_contr2 dot_S32x2x256x128x3_S32x128x2x3x128_S32x2x256x128_34_13_2_4_01_02 128 3 rfl rfl rfl, Attn.coe_sum]
  refine Finset.sum_congr rfl fun a _ => ?_
  rw [Attn.coe_sum]
  refine Finset.sum_congr rfl fun b _ => ?_
  have h0 := ValueIdx.contrEquiv2_symm_val0 dot_S32x2x256x128x3_S32x128x2x3x128_S32x2x256x128_34_13_2_4_01_02 128 3 rfl rfl rfl (a, b)
  have h1 := ValueIdx.contrEquiv2_symm_val1 dot_S32x2x256x128x3_S32x128x2x3x128_S32x2x256x128_34_13_2_4_01_02 128 3 rfl rfl rfl (a, b)
  have el : dot_S32x2x256x128x3_S32x128x2x3x128_S32x2x256x128_34_13_2_4_01_02.lhsIdx i ((ValueIdx.contrEquiv2 dot_S32x2x256x128x3_S32x128x2x3x128_S32x2x256x128_34_13_2_4_01_02 128 3 rfl rfl rfl).symm (a, b)) = ValueIdx.ix5 ⟨(i 0).val, (i 0).isLt⟩ ⟨(i 1).val, (i 1).isLt⟩ ⟨(i 2).val, (i 2).isLt⟩ (a) (b) :=
    funext fun c => Fin.ext (match c with
      | ⟨0, _⟩ => dot152_l0 _ _
      | ⟨1, _⟩ => dot152_l1 _ _
      | ⟨2, _⟩ => dot152_l2 _ _
      | ⟨3, _⟩ => (dot152_l3 _ _).trans h0
      | ⟨4, _⟩ => (dot152_l4 _ _).trans h1)
  have er : dot_S32x2x256x128x3_S32x128x2x3x128_S32x2x256x128_34_13_2_4_01_02.rhsIdx i ((ValueIdx.contrEquiv2 dot_S32x2x256x128x3_S32x128x2x3x128_S32x2x256x128_34_13_2_4_01_02 128 3 rfl rfl rfl).symm (a, b)) = ValueIdx.ix5 ⟨(i 0).val, (i 0).isLt⟩ (a) ⟨(i 1).val, (i 1).isLt⟩ (b) ⟨(i 3).val, (i 3).isLt⟩ :=
    funext fun c => Fin.ext (match c with
      | ⟨0, _⟩ => dot152_r0 _ _
      | ⟨1, _⟩ => (dot152_r1 _ _).trans h0
      | ⟨2, _⟩ => dot152_r2 _ _
      | ⟨3, _⟩ => (dot152_r3 _ _).trans h1
      | ⟨4, _⟩ => dot152_r4 _ _)
  exact (congrArg₂ (fun u v : EReal => u * v) ((congrArg x el).trans (hx _)) ((congrArg y er).trans (hy _))).trans (EReal.coe_mul _ _).symm

/-- The sum over the blocks and the queries. -/
theorem sum142 {x : S32x2x3x128x1.Idx → EReal} {f : ℕ → ℕ → ℕ → ℕ → ℝ} (hx : ∀ i, x i = ((f (i 0).val (i 1).val (i 2).val (i 3).val : ℝ) : EReal))
    (v : EReal) (hv : v = 0) (j : S2x3.Idx) :
    Ideal.hostReduceAdd reducesTo_S32x2x3x128x1_S2x3_d0_3_4 x v j = ((∑ b : Fin 32, ∑ i : Fin 128, f b.val (j 0).val (j 1).val i.val : ℝ) : EReal) := by
  unfold Ideal.hostReduceAdd
  rw [hv, zero_add, ← Fintype.sum_prod_type' (f := fun (b : Fin 32) (i : Fin 128) => f b.val (j 0).val (j 1).val i.val), Attn.coe_sum]
  have dr : ∀ (i : S32x2x3x128x1.Idx), reducesTo_S32x2x3x128x1_S2x3_d0_3_4.drop i = j ↔ (i 1).val = (j 0).val ∧ (i 2).val = (j 1).val := fun i => by
    have d0 : (reducesTo_S32x2x3x128x1_S2x3_d0_3_4.drop i 0).val = (i 1).val := Shape.ReducesTo.drop_apply_val_of_eq _ i 0 1 (by decide)
    have d1 : (reducesTo_S32x2x3x128x1_S2x3_d0_3_4.drop i 1).val = (i 2).val := Shape.ReducesTo.drop_apply_val_of_eq _ i 1 2 (by decide)
    constructor
    · intro h; rw [← h]; exact ⟨d0.symm, d1.symm⟩
    · intro h; exact funext fun a => Fin.ext (match a with | ⟨0, _⟩ => d0.trans h.1 | ⟨1, _⟩ => d1.trans h.2)
  refine Finset.sum_nbij' (fun i => ((⟨(i 0).val, (i 0).isLt⟩ : Fin 32), (⟨(i 3).val, (i 3).isLt⟩ : Fin 128)))
    (fun p => (ValueIdx.ix5 p.1 ⟨(j 0).val, (j 0).isLt⟩ ⟨(j 1).val, (j 1).isLt⟩ p.2 0 : S32x2x3x128x1.Idx)) (fun i _ => Finset.mem_univ _)
    (fun p _ => Finset.mem_filter.2 ⟨Finset.mem_univ _, (dr _).2 ⟨rfl, rfl⟩⟩) (fun i hi => ?_) (fun p _ => rfl) (fun i hi => ?_)
  · have h := (dr i).1 (Finset.mem_filter.1 hi).2
    have h4 : (i 4).val < 1 := (i 4).isLt
    exact funext fun a => Fin.ext (match a with
      | ⟨0, _⟩ => rfl
      | ⟨1, _⟩ => h.1.symm
      | ⟨2, _⟩ => h.2.symm
      | ⟨3, _⟩ => rfl
      | ⟨4, _⟩ => by show 0 = (i 4).val; omega)
  · have h := (dr i).1 (Finset.mem_filter.1 hi).2
    rw [hx, h.1, h.2]

/-- The sum over unit axes. -/
theorem sum144 {x : S1x2x3x1x1.Idx → EReal} {f : ℕ → ℕ → ℝ} (hx : ∀ i, x i = ((f (i 1).val (i 2).val : ℝ) : EReal))
    (v : EReal) (hv : v = 0) (j : S2x3.Idx) :
    Ideal.hostReduceAdd reducesTo_S1x2x3x1x1_S2x3_d0_3_4 x v j = ((f (j 0).val (j 1).val : ℝ) : EReal) := by
  unfold Ideal.hostReduceAdd
  rw [hv, zero_add]
  have dr : ∀ (i : S1x2x3x1x1.Idx), reducesTo_S1x2x3x1x1_S2x3_d0_3_4.drop i = j ↔ (i 1).val = (j 0).val ∧ (i 2).val = (j 1).val := fun i => by
    have d0 : (reducesTo_S1x2x3x1x1_S2x3_d0_3_4.drop i 0).val = (i 1).val := Shape.ReducesTo.drop_apply_val_of_eq _ i 0 1 (by decide)
    have d1 : (reducesTo_S1x2x3x1x1_S2x3_d0_3_4.drop i 1).val = (i 2).val := Shape.ReducesTo.drop_apply_val_of_eq _ i 1 2 (by decide)
    constructor
    · intro h; rw [← h]; exact ⟨d0.symm, d1.symm⟩
    · intro h; exact funext fun a => Fin.ext (match a with | ⟨0, _⟩ => d0.trans h.1 | ⟨1, _⟩ => d1.trans h.2)
  have one : Finset.univ.filter (fun i => reducesTo_S1x2x3x1x1_S2x3_d0_3_4.drop i = j) = {(ValueIdx.ix5 0 ⟨(j 0).val, (j 0).isLt⟩ ⟨(j 1).val, (j 1).isLt⟩ 0 0 : S1x2x3x1x1.Idx)} := by
    ext i
    rw [Finset.mem_filter, Finset.mem_singleton, dr]
    have h0 : (i 0).val < 1 := (i 0).isLt
    have h3 : (i 3).val < 1 := (i 3).isLt
    have h4 : (i 4).val < 1 := (i 4).isLt
    constructor
    · rintro ⟨_, h⟩
      exact funext fun a => Fin.ext (match a with
        | ⟨0, _⟩ => by show (i 0).val = 0; omega
        | ⟨1, _⟩ => h.1
        | ⟨2, _⟩ => h.2
        | ⟨3, _⟩ => by show (i 3).val = 0; omega
        | ⟨4, _⟩ => by show (i 4).val = 0; omega)
    · intro h; rw [h]; exact ⟨Finset.mem_univ _, rfl, rfl⟩
  rw [one, Finset.sum_singleton, hx]

/-- A row and its last entry. -/
theorem div_real (a b : ℝ) (h : b ≠ 0) : Ideal.div ((a : ℝ) : EReal) ((b : ℝ) : EReal) = ((a * (1 / b) : ℝ) : EReal) := by
  rw [Ideal.div_coe h, EReal.coe_mul]

namespace Given
variable {A : Attn.Args} {x0 : (⟨S4096x4992, .f32⟩ : BufTy).Contents (Elt Ideal)} {x1 : (⟨S4096x2048, .f32⟩ : BufTy).Contents (Elt Ideal)}
  {x2 x3 : (⟨S4096x64, .f32⟩ : BufTy).Contents (Elt Ideal)} {x4 : (⟨S1x128, .f32⟩ : BufTy).Contents (Elt Ideal)} (G : Given A x0 x1 x2 x3 x4)
include G

/-- The normaliser, times the row's factor. -/
theorem v111 {W : ℕ → ℕ → ℕ → ℕ → ℝ} (h : ∀ i, val_main_v109 (F := Ideal) x0 x2 x3 x4 i = (((A.head (i 0).val (i 1).val).X (i 2).val (i 3).val (i 4).val * W (i 0).val (i 1).val (i 2).val (i 3).val : ℝ) : EReal)) (i) :
    val_main_v111 (F := Ideal) x0 x2 x3 x4 i = (((A.head (i 0).val (i 1).val).Z (i 2).val (i 3).val * W (i 0).val (i 1).val (i 2).val (i 3).val : ℝ) : EReal) := by
  rw [val_main_v111_apply, val_main_v110_apply, val_main_cst_17_apply, Ideal.ofBits_def, zero_bits, zero_add, ← Attn.Head.sum_X, Finset.sum_mul, Attn.coe_sum]
  refine Finset.sum_congr rfl fun k _ => ?_
  rw [h]

/-- The probabilities. -/
theorem v117 (i) : val_main_v117 (F := Ideal) x0 x2 x3 x4 i = (((A.head (i 0).val (i 1).val).pn (i 2).val (i 3).val (i 4).val : ℝ) : EReal) := by
  obtain ⟨W, hW, h⟩ := G.v109
  have h4 : (i 4).val < 256 := (i 4).isLt
  rw [val_main_v117_apply, val_main_v113_apply, val_main_v112_apply, G.v111 h, h, Ideal.hostDivf_def]
  refine (div_real _ _ (mul_ne_zero ((A.head _ _).Z_ne _ _) (hW _ _ _ _))).trans (congrArg _ ?_)
  show (A.head (i 0).val (i 1).val).X (i 2).val (i 3).val (i 4).val * W (i 0).val (i 1).val (i 2).val (i 3).val * (1 / ((A.head (i 0).val (i 1).val).Z (i 2).val (i 3).val * W (i 0).val (i 1).val (i 2).val (i 3).val)) = _
  have hw := hW (i 0).val (i 1).val (i 2).val (i 3).val
  have hz := (A.head (i 0).val (i 1).val).Z_ne (i 2).val (i 3).val
  unfold Attn.Head.X Attn.Head.pn
  rw [if_pos h4]
  field_simp

/-- The values' gradients, block by block. -/
theorem v126 (i) : val_main_v126 (F := Ideal) x0 x1 x2 x3 x4 i = (((A.head (i 0).val (i 2).val).dv (i 1).val (i 3).val : ℝ) : EReal) := by
  rw [val_main_v126_apply]
  unfold val_main_v125
  rw [dot125 G.v123 G.v117 (f := fun b h d g i => (A.head b h).D g i d) (g := fun b h g i j => (A.head b h).pn g i j)]
  unfold Attn.Head.dv
  simp only [mul_comm]

/-- The cotangents of the row, zero at the sink. -/
theorem v127 (i) : val_main_v127 (F := Ideal) x0 x1 i = (((A.head (i 0).val (i 1).val).Y (i 2).val (i 3).val (i 4).val : ℝ) : EReal) := by
  unfold val_main_v127
  exact padRow (f := fun b h g i j => (A.head b h).dp g i j) (fun i => by rw [val_main_cst_19_apply]; exact zero_bits) G.v124 i

/-- A row's mean cotangent, negated, over the normaliser. -/
theorem v133 {W : ℕ → ℕ → ℕ → ℕ → ℝ} (hW : ∀ b h g i, W b h g i ≠ 0) (h : ∀ i, val_main_v109 (F := Ideal) x0 x2 x3 x4 i = (((A.head (i 0).val (i 1).val).X (i 2).val (i 3).val (i 4).val * W (i 0).val (i 1).val (i 2).val (i 3).val : ℝ) : EReal)) (i) :
    val_main_v133 (F := Ideal) x0 x1 x2 x3 x4 i = ((-((A.head (i 0).val (i 1).val).delta (i 2).val (i 3).val * (1 / ((A.head (i 0).val (i 1).val).Z (i 2).val (i 3).val * W (i 0).val (i 1).val (i 2).val (i 3).val))) : ℝ) : EReal) := by
  have i0 : (i 0).val < 32 := (i 0).isLt
  have i1 : (i 1).val < 2 := (i 1).isLt
  have i2 : (i 2).val < 3 := (i 2).isLt
  have i3 : (i 3).val < 128 := (i 3).isLt
  have i4 : (i 4).val < 1 := (i 4).isLt
  have e : idx_main_v132 i = (ValueIdx.ix4 (⟨(i 0).val, i0⟩ : Fin 32) (⟨(i 1).val, i1⟩ : Fin 2) (⟨(i 2).val, i2⟩ : Fin 3) (⟨(i 3).val, i3⟩ : Fin 128) : S32x2x3x128.Idx) :=
    funext fun a => Fin.ext (match a with
      | ⟨0, _⟩ => by show (_ : ℕ) = (i 0).val; dsimp only; omega
      | ⟨1, _⟩ => by show (_ : ℕ) = (i 1).val; dsimp only; omega
      | ⟨2, _⟩ => by show (_ : ℕ) = (i 2).val; dsimp only; omega
      | ⟨3, _⟩ => by show (_ : ℕ) = (i 3).val; dsimp only; omega)
  rw [val_main_v133_apply, val_main_v132_apply, e, val_main_v131_apply, val_main_cst_20_apply, Ideal.ofBits_def, zero_bits, zero_add, EReal.coe_neg,
    ← Attn.Head.sum_YX _ _ _ _ (hW _ _ _ _), Attn.coe_sum, Ideal.hostNegf_def]
  refine congrArg (fun t : EReal => -t) (Finset.sum_congr rfl fun k _ => ?_)
  rw [val_main_v130_apply, val_main_v129_apply, G.v127, val_main_v128_apply, val_main_v116_apply, val_main_v115_apply, val_main_cst_18_apply, val_main_v114_apply,
    G.v111 h, h, Ideal.ofBits_def, one_bits, Ideal.hostDivf_def, Ideal.mulf_def, Ideal.mulf_def, Ideal.mulf_def, ← EReal.coe_mul,
    div_real _ _ (mul_ne_zero (mul_ne_zero ((A.head _ _).Z_ne _ _) (hW _ _ _ _)) (mul_ne_zero ((A.head _ _).Z_ne _ _) (hW _ _ _ _))), ← EReal.coe_mul, ← EReal.coe_mul]

/-- The gradient of a row of scores and of its sink, before it is split. -/
theorem v139 : ∃ W : ℕ → ℕ → ℕ → ℕ → ℝ, (∀ b h g i, W b h g i ≠ 0) ∧ ∀ i, val_main_v139 (F := Ideal) x0 x1 x2 x3 x4 i
    = ((((A.head (i 0).val (i 1).val).Y (i 2).val (i 3).val (i 4).val * (1 / ((A.head (i 0).val (i 1).val).Z (i 2).val (i 3).val * W (i 0).val (i 1).val (i 2).val (i 3).val))
      + -((A.head (i 0).val (i 1).val).delta (i 2).val (i 3).val * (1 / ((A.head (i 0).val (i 1).val).Z (i 2).val (i 3).val * W (i 0).val (i 1).val (i 2).val (i 3).val))))
      * ((A.head (i 0).val (i 1).val).X (i 2).val (i 3).val (i 4).val * W (i 0).val (i 1).val (i 2).val (i 3).val) : ℝ) : EReal) := by
  obtain ⟨W, hW, h⟩ := G.v109
  refine ⟨W, hW, fun i => ?_⟩
  rw [val_main_v139_apply, val_main_v138_apply, val_main_v135_apply, val_main_v134_apply, G.v127, G.v111 h, val_main_v137_apply, val_main_v136_apply, val_main_cst_21_apply,
    Fin.sum_univ_one, G.v133 hW h, h, Ideal.ofBits_def, zero_bits, zero_add, Ideal.hostDivf_def, div_real _ _ (mul_ne_zero ((A.head _ _).Z_ne _ _) (hW _ _ _ _)),
    Ideal.mulf_def, Ideal.addf_def, ← EReal.coe_add, ← EReal.coe_mul]

/-- The scores' gradients. -/
theorem v140 (i) : val_main_v140 (F := Ideal) x0 x1 x2 x3 x4 i = (((A.head (i 0).val (i 1).val).ds (i 2).val (i 3).val (i 4).val : ℝ) : EReal) := by
  obtain ⟨W, hW, h⟩ := G.v139
  rw [val_main_v140_apply, h]
  exact congrArg _ ((A.head (i 0).val (i 1).val).ds_of (i 4).isLt _ (hW _ _ _ _))

/-- The sinks' gradients, row by row. -/
theorem v141 (i) : val_main_v141 (F := Ideal) x0 x1 x2 x3 x4 i = (((A.head (i 0).val (i 1).val).dz (i 2).val (i 3).val : ℝ) : EReal) := by
  obtain ⟨W, hW, h⟩ := G.v139
  have h4 : (i 4).val < 1 := (i 4).isLt
  rw [val_main_v141_apply, h]
  rw [← (A.head (i 0).val (i 1).val).dz_of (i 2).val (i 3).val _ (hW (i 0).val (i 1).val (i 2).val (i 3).val)]
  have e : (idx_main_v141 i 4).val = 256 := by show 256 + (i 4).val = 256; omega
  rw [e]

/-- The scores' gradients, under the mask and scaled. -/
theorem v149 (i) : val_main_v149 (F := Ideal) x0 x1 x2 x3 x4 i = (((A.head (i 0).val (i 1).val).ds (i 4).val (i 3).val (i 2).val * Attn.SC : ℝ) : EReal) := by
  rw [val_main_v149_apply, val_main_v148_apply, val_main_v146_apply, v84_1, G.v140, val_main_call1_v0_apply, val_main_call1_cst_apply, val_main_v147_apply, val_main_cst_24_apply,
    Ideal.ofBits_def, Ideal.ofBits_def, zero_bits, sc_bits, Ideal.mulf_def, EReal.coe_mul]
  refine congrArg (fun t : EReal => t * ((Attn.SC : ℝ) : EReal)) ?_
  show (if BitVec.ofBool (Attn.msk (A.head (i 0).val (i 1).val).lo (i 3).val (i 2).val) = 1 then (((A.head (i 0).val (i 1).val).ds (i 4).val (i 3).val (i 2).val : ℝ) : EReal) else 0) = _
  by_cases hm : Attn.msk (A.head (i 0).val (i 1).val).lo (i 3).val (i 2).val
  · rw [hm]; rfl
  · have e : (A.head (i 0).val (i 1).val).ds (i 4).val (i 3).val (i 2).val = 0 := by unfold Attn.Head.ds Attn.Head.pn Attn.Head.E; rw [if_neg hm, zero_div, zero_mul]
    rw [e]; split <;> rfl

end Given

end Cert.ReferenceIdeal.Attn

end
-- ==== Proof.Attn.RefD.lean ====
/- The reference's four results as real numbers. -/
module

public import proofs.«01_k».proof.Proof.Attn.RefC

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read

/-- A block of zeros before the blocks. -/
theorem padLo {x : S32x128x2x128.Idx → EReal} {v : S_.Idx → EReal} {f : ℕ → ℕ → ℕ → ℕ → ℝ} (hv : ∀ i, v i = 0)
    (hx : ∀ i, x i = ((f (i 0).val (i 1).val (i 2).val (i 3).val : ℝ) : EReal)) (i : S33x128x2x128.Idx) :
    pad S33x128x2x128 ![1, 0, 0, 0] ![0, 0, 0, 0] ![0, 0, 0, 0] x v pads_S32x128x2x128_S33x128x2x128_100_000_000_000 h_S_ i
      = ((if 1 ≤ (i 0).val then f ((i 0).val - 1) (i 1).val (i 2).val (i 3).val else 0 : ℝ) : EReal) := by
  have hi : (i 0).val < 33 := (i 0).isLt
  by_cases hl : 1 ≤ (i 0).val
  · rw [pad_apply_of_inside _ _ _ x v _ _ i (ValueIdx.ix4 (⟨(i 0).val - 1, by omega⟩ : Fin 32) ⟨(i 1).val, (i 1).isLt⟩ ⟨(i 2).val, (i 2).isLt⟩ ⟨(i 3).val, (i 3).isLt⟩)
      (fun a => match a with
        | ⟨0, _⟩ => by show (i 0).val = 1 + ((i 0).val - 1) * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega), hx, if_pos hl]
  · rw [pad_apply_of_not_inside _ _ _ x v _ _ i 0 (fun h => by
      have h2 : 1 ≤ (i 0).val := h.1
      omega), hv, if_neg hl]
    rfl

/-- A block of zeros behind the blocks. -/
theorem padHi {x : S32x128x2x128.Idx → EReal} {v : S_.Idx → EReal} {f : ℕ → ℕ → ℕ → ℕ → ℝ} (hv : ∀ i, v i = 0)
    (hx : ∀ i, x i = ((f (i 0).val (i 1).val (i 2).val (i 3).val : ℝ) : EReal)) (i : S33x128x2x128.Idx) :
    pad S33x128x2x128 ![0, 0, 0, 0] ![1, 0, 0, 0] ![0, 0, 0, 0] x v pads_S32x128x2x128_S33x128x2x128_010_000_000_000 h_S_ i
      = ((if (i 0).val < 32 then f (i 0).val (i 1).val (i 2).val (i 3).val else 0 : ℝ) : EReal) := by
  by_cases hl : (i 0).val < 32
  · rw [pad_apply_of_inside _ _ _ x v _ _ i (ValueIdx.ix4 (⟨(i 0).val, by omega⟩ : Fin 32) ⟨(i 1).val, (i 1).isLt⟩ ⟨(i 2).val, (i 2).isLt⟩ ⟨(i 3).val, (i 3).isLt⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega), hx, if_pos hl]
  · rw [pad_apply_of_not_inside _ _ _ x v _ _ i 0 (fun h => by
      have h2 : ((i 0).val - 0) / 1 < 32 := h.2.2
      omega), hv, if_neg hl]
    rfl

/-- Row `t` of the sequence, one block on, in the padded blocks: its own block's part and the next block's. -/
theorem overlap (f : ℕ → ℕ → ℕ → ℕ → ℝ) {t h d b' i' h' d' : ℕ} (e0 : b' = t / 128 + 1) (e1 : i' = t % 128) (e2 : h' = h) (e3 : d' = d) :
    (((if 1 ≤ b' then f (b' - 1) (128 + i') h' d' else 0 : ℝ) : EReal)) + ((if b' < 32 then f b' i' h' d' else 0 : ℝ) : EReal)
      = ((f (t / 128) (128 + t % 128) h d + (if t / 128 + 1 < 32 then f (t / 128 + 1) (t % 128) h d else 0) : ℝ) : EReal) := by
  subst e0 e1 e2 e3
  rw [if_pos (by omega), Nat.add_sub_cancel, ← EReal.coe_add]

namespace Given
variable {A : Attn.Args} {x0 : (⟨S4096x4992, .f32⟩ : BufTy).Contents (Elt Ideal)} {x1 : (⟨S4096x2048, .f32⟩ : BufTy).Contents (Elt Ideal)}
  {x2 x3 : (⟨S4096x64, .f32⟩ : BufTy).Contents (Elt Ideal)} {x4 : (⟨S1x128, .f32⟩ : BufTy).Contents (Elt Ideal)} (G : Given A x0 x1 x2 x3 x4)
include G

/-- The rotated queries' gradients, block by block. -/
theorem v151 (i) : val_main_v151 (F := Ideal) x0 x1 x2 x3 x4 i = (((A.head (i 0).val (i 2).val).dq (i 3).val (i 1).val (i 4).val : ℝ) : EReal) := by
  rw [val_main_v151_apply, val_main_v150_apply]
  unfold Attn.Head.dq
  rw [Finset.sum_mul, Attn.coe_sum]
  refine Finset.sum_congr rfl fun k _ => ?_
  rw [G.v149, G.v43, ← EReal.coe_mul, mul_right_comm]

/-- The rotated keys' gradients, block by block. -/
theorem v153 (i) : val_main_v153 (F := Ideal) x0 x1 x2 x3 x4 i = (((A.head (i 0).val (i 2).val).dk (i 1).val (i 3).val : ℝ) : EReal) := by
  rw [val_main_v153_apply]
  unfold val_main_v152
  rw [dot152 G.v149 G.v36 (f := fun b h j i g => (A.head b h).ds g i j * Attn.SC) (g := fun b i h g d => (A.head b h).q g i d)]
  unfold Attn.Head.dk
  rw [Finset.sum_comm, Finset.sum_mul]
  simp only [Finset.sum_mul, mul_right_comm _ Attn.SC]

/-- The values' gradients. -/
theorem v161 (i) : val_main_v161 (F := Ideal) x0 x1 x2 x3 x4 i = ((A.dvr (i 1).val (i 0).val (i 2).val : ℝ) : EReal) := by
  have h0 : (i 0).val < 4096 := (i 0).isLt
  have h1 : (i 1).val < 2 := (i 1).isLt
  have h2 : (i 2).val < 128 := (i 2).isLt
  rw [val_main_v161_apply, val_main_v159_apply, val_main_v158_apply, Ideal.addf_def]
  unfold val_main_v156 val_main_v157
  rw [padLo (f := fun b i h d => (A.head b h).dv (128 + i) d) (fun i => by rw [val_main_cst_25_apply]; exact zero_bits) (fun i => by rw [val_main_v155_apply, G.v126]),
    padHi (f := fun b i h d => (A.head b h).dv i d) (fun i => by rw [val_main_cst_26_apply]; exact zero_bits) (fun i => by rw [val_main_v154_apply, G.v126])]
  exact overlap (fun b j h d => (A.head b h).dv j d) (by show (((128 + (i 0).val) * 2 + (i 1).val) * 128 + (i 2).val) / 32768 = _; omega)
    (by show (((128 + (i 0).val) * 2 + (i 1).val) * 128 + (i 2).val) / 256 % 128 = _; omega)
    (by show (((128 + (i 0).val) * 2 + (i 1).val) * 128 + (i 2).val) / 128 % 2 = _; omega)
    (by show (((128 + (i 0).val) * 2 + (i 1).val) * 128 + (i 2).val) % 128 = _; omega)

/-- The rotated keys' gradients. -/
theorem v169 (i) : val_main_v169 (F := Ideal) x0 x1 x2 x3 x4 i = ((A.dkr (i 1).val (i 0).val (i 2).val : ℝ) : EReal) := by
  have h0 : (i 0).val < 4096 := (i 0).isLt
  have h1 : (i 1).val < 2 := (i 1).isLt
  have h2 : (i 2).val < 128 := (i 2).isLt
  rw [val_main_v169_apply, val_main_v167_apply, val_main_v166_apply, Ideal.addf_def]
  unfold val_main_v164 val_main_v165
  rw [padLo (f := fun b i h d => (A.head b h).dk (128 + i) d) (fun i => by rw [val_main_cst_27_apply]; exact zero_bits) (fun i => by rw [val_main_v163_apply, G.v153]),
    padHi (f := fun b i h d => (A.head b h).dk i d) (fun i => by rw [val_main_cst_28_apply]; exact zero_bits) (fun i => by rw [val_main_v162_apply, G.v153])]
  exact overlap (fun b j h d => (A.head b h).dk j d) (by show (((128 + (i 0).val) * 2 + (i 1).val) * 128 + (i 2).val) / 32768 = _; omega)
    (by show (((128 + (i 0).val) * 2 + (i 1).val) * 128 + (i 2).val) / 256 % 128 = _; omega)
    (by show (((128 + (i 0).val) * 2 + (i 1).val) * 128 + (i 2).val) / 128 % 2 = _; omega)
    (by show (((128 + (i 0).val) * 2 + (i 1).val) * 128 + (i 2).val) % 128 = _; omega)

/-- The rotated queries' gradients. -/
theorem v170 (i) : val_main_v170 (F := Ideal) x0 x1 x2 x3 x4 i = ((A.dqr ((i 1).val / 3) ((i 1).val % 3) (i 0).val (i 2).val : ℝ) : EReal) := by
  have h0 : (i 0).val < 4096 := (i 0).isLt
  have h1 : (i 1).val < 6 := (i 1).isLt
  have h2 : (i 2).val < 128 := (i 2).isLt
  rw [val_main_v170_apply, G.v151]
  unfold Attn.Args.dqr
  have e (f : ℕ → ℕ → ℕ → ℕ → ℕ → ℝ) {a b c d e a' b' c' d' e' : ℕ} (ha : a = a') (hb : b = b') (hc : c = c') (hd : d = d') (he : e = e') :
      ((f a b c d e : ℝ) : EReal) = ((f a' b' c' d' e' : ℝ) : EReal) := by rw [ha, hb, hc, hd, he]
  exact e (fun b h g i d => (A.head b h).dq g i d) (by show (((i 0).val * 6 + (i 1).val) * 128 + (i 2).val) / 98304 = _; omega)
    (by show (((i 0).val * 6 + (i 1).val) * 128 + (i 2).val) / 384 % 2 = _; omega) (by show (((i 0).val * 6 + (i 1).val) * 128 + (i 2).val) / 128 % 3 = _; omega)
    (by show (((i 0).val * 6 + (i 1).val) * 128 + (i 2).val) / 768 % 128 = _; omega) (by show (((i 0).val * 6 + (i 1).val) * 128 + (i 2).val) % 128 = _; omega)

omit G in
/-- The transposed rotation by halves. -/
theorem ropeT_half (x : ℕ → ℕ → ℝ) {t d : ℕ} (hd : d < 128) :
    (if d < 64 then x t (64 + d) * A.si t d + x t d * A.co t d else x t (64 + (d - 64)) * A.co t (d - 64) + -x t (d - 64) * A.si t (d - 64)) = Attn.ropeTR x A.c2 A.s2 t d := by
  unfold Attn.ropeTR Attn.Args.c2 Attn.Args.s2
  by_cases hl : d < 64
  · rw [if_pos hl, show (d + 64) % 128 = 64 + d by omega, if_neg (by omega), show (64 + d) % 64 = d by omega, show d % 64 = d by omega]
    ring
  · rw [if_neg hl, show (d + 64) % 128 = d - 64 by omega, if_pos (by omega), show (d - 64) % 64 = d - 64 by omega, show d % 64 = d - 64 by omega, show 64 + (d - 64) = d by omega]
    ring

/-- The keys' gradients. -/
theorem v185 (i) : val_main_v185 (F := Ideal) x0 x1 x2 x3 x4 i = ((Attn.ropeTR (A.dkr (i 1).val) A.c2 A.s2 (i 0).val (i 2).val : ℝ) : EReal) := by
  have h2 : (i 2).val < 128 := (i 2).isLt
  unfold val_main_v185
  rw [cat64 (f := fun t h d => A.dkr h t (64 + d) * A.si t d + A.dkr h t d * A.co t d) (g := fun t h d => A.dkr h t (64 + d) * A.co t d + -A.dkr h t d * A.si t d)]
  · rw [← ropeT_half (A.dkr (i 1).val) h2]
  · intro i
    rw [val_main_v184_apply, val_main_v175_apply, val_main_v183_apply, val_main_v172_apply, val_main_v173_apply, val_main_v174_apply, val_main_v182_apply, G.v169, G.v169, G.v5, G.v6]
    rw [Ideal.addf_def, Ideal.mulf_def, Ideal.mulf_def, EReal.coe_add, EReal.coe_mul, EReal.coe_mul]
  · intro i
    rw [val_main_v181_apply, val_main_v177_apply, val_main_v180_apply, val_main_v178_apply, val_main_v172_apply, val_main_v173_apply, val_main_v176_apply, val_main_v179_apply, G.v169, G.v169, G.v5, G.v6]
    rw [Ideal.addf_def, Ideal.mulf_def, Ideal.mulf_def, Ideal.hostNegf_def, Ideal.negf_def, EReal.coe_add, EReal.coe_mul, EReal.coe_mul, EReal.coe_neg]

/-- The queries' gradients. -/
theorem v200 (i) : val_main_v200 (F := Ideal) x0 x1 x2 x3 x4 i = ((Attn.ropeTR (A.dqr ((i 1).val / 3) ((i 1).val % 3)) A.c2 A.s2 (i 0).val (i 2).val : ℝ) : EReal) := by
  have h2 : (i 2).val < 128 := (i 2).isLt
  unfold val_main_v200
  rw [cat64 (f := fun t h d => A.dqr (h / 3) (h % 3) t (64 + d) * A.si t d + A.dqr (h / 3) (h % 3) t d * A.co t d)
    (g := fun t h d => A.dqr (h / 3) (h % 3) t (64 + d) * A.co t d + -A.dqr (h / 3) (h % 3) t d * A.si t d)]
  · rw [← ropeT_half (A.dqr ((i 1).val / 3) ((i 1).val % 3)) h2]
  · intro i
    rw [val_main_v199_apply, val_main_v190_apply, val_main_v198_apply, val_main_v187_apply, val_main_v188_apply, val_main_v189_apply, val_main_v197_apply, G.v170, G.v170, G.v5, G.v6]
    rw [Ideal.addf_def, Ideal.mulf_def, Ideal.mulf_def, EReal.coe_add, EReal.coe_mul, EReal.coe_mul]
  · intro i
    rw [val_main_v196_apply, val_main_v192_apply, val_main_v195_apply, val_main_v193_apply, val_main_v187_apply, val_main_v188_apply, val_main_v191_apply, val_main_v194_apply, G.v170, G.v170, G.v5, G.v6]
    rw [Ideal.addf_def, Ideal.mulf_def, Ideal.mulf_def, Ideal.hostNegf_def, Ideal.negf_def, EReal.coe_add, EReal.coe_mul, EReal.coe_mul, EReal.coe_neg]

/-- The first result. -/
theorem dq (i) : val_main_v204 (F := Ideal) x0 x1 x2 x3 x4 i = ((A.DQ (i 0).val (i 1).val : ℝ) : EReal) := by
  have h0 : (i 0).val < 4096 := (i 0).isLt
  have h1 : (i 1).val < 768 := (i 1).isLt
  rw [val_main_v204_apply, val_main_v201_apply, G.v200, Ideal.truncf_def]
  have e {a b c d a' b' c' d' : ℕ} (ha : a = a') (hb : b = b') (hc : c = c') (hd : d = d') :
      ((Attn.ropeTR (A.dqr a b) A.c2 A.s2 c d : ℝ) : EReal) = ((Attn.ropeTR (A.dqr a' b') A.c2 A.s2 c' d' : ℝ) : EReal) := by rw [ha, hb, hc, hd]
  exact e (by show ((i 0).val * 768 + (i 1).val) / 128 % 6 / 3 = (i 1).val / 384; omega) (by show ((i 0).val * 768 + (i 1).val) / 128 % 6 % 3 = (i 1).val / 128 % 3; omega)
    (by show ((i 0).val * 768 + (i 1).val) / 768 = (i 0).val; omega) (by show ((i 0).val * 768 + (i 1).val) % 128 = (i 1).val % 128; omega)

/-- The second. -/
theorem dk (i) : val_main_v205 (F := Ideal) x0 x1 x2 x3 x4 i = ((A.DK (i 0).val (i 1).val : ℝ) : EReal) := by
  have h0 : (i 0).val < 4096 := (i 0).isLt
  have h1 : (i 1).val < 256 := (i 1).isLt
  rw [val_main_v205_apply, val_main_v186_apply, G.v185, Ideal.truncf_def]
  have e {a c d a' c' d' : ℕ} (ha : a = a') (hc : c = c') (hd : d = d') :
      ((Attn.ropeTR (A.dkr a) A.c2 A.s2 c d : ℝ) : EReal) = ((Attn.ropeTR (A.dkr a') A.c2 A.s2 c' d' : ℝ) : EReal) := by rw [ha, hc, hd]
  exact e (by show ((i 0).val * 256 + (i 1).val) / 128 % 2 = (i 1).val / 128; omega)
    (by show ((i 0).val * 256 + (i 1).val) / 256 = (i 0).val; omega) (by show ((i 0).val * 256 + (i 1).val) % 128 = (i 1).val % 128; omega)

/-- The third. -/
theorem dv (i) : val_main_v206 (F := Ideal) x0 x1 x2 x3 x4 i = ((A.DV (i 0).val (i 1).val : ℝ) : EReal) := by
  have h0 : (i 0).val < 4096 := (i 0).isLt
  have h1 : (i 1).val < 256 := (i 1).isLt
  rw [val_main_v206_apply, val_main_v171_apply, G.v161, Ideal.truncf_def]
  exact at3 (f := A.dvr) (by show ((i 0).val * 256 + (i 1).val) / 128 % 2 = (i 1).val / 128; omega)
    (by show ((i 0).val * 256 + (i 1).val) / 256 = (i 0).val; omega) (by show ((i 0).val * 256 + (i 1).val) % 128 = (i 1).val % 128; omega)

/-- The sinks' gradients. -/
theorem v202 (i) : val_main_v202 (F := Ideal) x0 x1 x2 x3 x4 i = ((∑ b : Fin 32, ∑ t : Fin 128, (A.head b.val ((i 1).val / 3)).dz ((i 1).val % 3) t.val : ℝ) : EReal) := by
  rw [val_main_v202_apply, val_main_v145_apply]
  unfold val_main_v144
  simp only [Host.reduceAdd, Ideal.hostReduceAdd_def]
  refine (sum144 (f := fun h g => ∑ b : Fin 32, ∑ t : Fin 128, (A.head b.val h).dz g t.val) (fun k => ?_) _ zero_bits _).trans ?_
  · rw [val_main_v143_apply]
    unfold val_main_v142
    simp only [Host.reduceAdd, Ideal.hostReduceAdd_def]
    exact sum142 (f := fun b h g t => (A.head b h).dz g t) G.v141 _ zero_bits _
  · rfl

/-- The fourth. -/
theorem dz (i) : val_main_v203 (F := Ideal) x0 x1 x2 x3 x4 i = ((A.DZ (i 1).val : ℝ) : EReal) := by
  have h0 : (i 0).val < 1 := (i 0).isLt
  unfold val_main_v203 Attn.Args.DZ
  by_cases hl : (i 1).val < 6
  · rw [pad_apply_of_inside _ _ _ _ _ _ _ i (ValueIdx.ix2 (⟨(i 0).val, h0⟩ : Fin 1) (⟨(i 1).val, hl⟩ : Fin 6))
      (fun a => match a with
        | ⟨0, _⟩ => by show (i 0).val = 0 + (i 0).val * 1; omega
        | ⟨1, _⟩ => by show (i 1).val = 0 + (i 1).val * 1; omega), G.v202, if_pos hl]
  · rw [pad_apply_of_not_inside _ _ _ _ _ _ _ i 1 (fun h => by
      have h2 : ((i 1).val - 0) / 1 < 6 := h.2.2
      omega), val_main_cst_29_apply, if_neg hl]
    exact zero_bits

end Given

end Cert.ReferenceIdeal.Attn

end
-- ==== Proof.Attn.Same.lean ====
/- The two programs' results are equal on finite arguments. -/
module

public import proofs.«01_k».proof.Defs
public import proofs.«01_k».proof.Proof.Attn.Run
public import proofs.«01_k».proof.Proof.Attn.RefD

@[expose] public section

set_option maxRecDepth 16384

noncomputable section

namespace Cert.Same

open Idealize.ShloMosaic Idealize.ShloMosaic.TcCoe Idealize.SL.Sem

/-- The precondition's side conditions. -/
theorem preFacts : Cert.Pre_finite.Facts where
  bcast_S_S4096x4992 := by decide
  bcast_S_S4096x2048 := by decide
  bcast_S_S4096x64 := by decide
  bcast_S_S1x128 := by decide

attribute [local instance] preFacts

theorem top_bits : Ideal.ofBits .f32 0x7F800000#32 = ⊤ := by simp [Ideal.ofBits, Ideal.ieee]

/-- Above minus infinity and below infinity is a real number. -/
theorem real_of (x : EReal) (h : IntOp.andi (Ideal.cmp .ogt x (Ideal.ofBits .f32 0xFF800000#32)) (Ideal.cmp .olt x (Ideal.ofBits .f32 0x7F800000#32)) = 1#1) :
    x = ((x.toReal : ℝ) : EReal) := by
  rw [Cert.ReferenceIdeal.Attn.bot_bits, top_bits] at h
  induction x with
  | bot => simp [Ideal.cmp, IntOp.andi] at h
  | top => simp [Ideal.cmp, IntOp.andi] at h
  | coe a => rfl

/-- The real number at a place of an array, zero outside. -/
def at2 {n0 n1 : ℕ} (x : (⟨2, ![n0, n1]⟩ : Shape).Idx → EReal) (a b : ℕ) : ℝ :=
  if h : a < n0 ∧ b < n1 then (x (ValueIdx.ix2 (⟨a, h.1⟩ : Fin n0) (⟨b, h.2⟩ : Fin n1))).toReal else 0

theorem is_at2 {n0 n1 : ℕ} (x : (⟨2, ![n0, n1]⟩ : Shape).Idx → EReal) (h : ∀ i, x i = (((x i).toReal : ℝ) : EReal)) (i : (⟨2, ![n0, n1]⟩ : Shape).Idx) :
    x i = ((at2 x (i 0).val (i 1).val : ℝ) : EReal) := by
  unfold at2
  rw [dif_pos ⟨(i 0).isLt, (i 1).isLt⟩]
  have e : ValueIdx.ix2 (⟨(i 0).val, (i 0).isLt⟩ : Fin n0) (⟨(i 1).val, (i 1).isLt⟩ : Fin n1) = i := by
    funext a
    match a with
    | ⟨0, _⟩ => rfl
    | ⟨1, _⟩ => rfl
  rw [e]
  exact h i

section
open Cert.KernelIdeal Cert.KernelIdeal.Attn

variable (m : (ℓ : Loc Cert.KernelIdeal.nD Cert.KernelIdeal.τ Cert.KernelIdeal.sig) → Buf (Elt Ideal) ℓ) (c : Dev Cert.KernelIdeal.nD)

/-- The real arguments a memory holds. -/
def args : Attn.Args where
  p := at2 (arg0 m c)
  dc := at2 (arg1 m c)
  co := at2 (arg2 m c)
  si := at2 (arg3 m c)
  z := at2 (arg4 m c) 0

theorem fin1 (i : S1x128.Idx) : (i 0).val = 0 := by have h : (i 0).val < 1 := (i 0).isLt; omega

/-- Under the precondition the arguments are real numbers. -/
theorem given (h : Cert.Pre_KernelIdeal_finite m) : Cert.KernelIdeal.Attn.Given m c (args m c) where
  p := is_at2 _ fun i => real_of _ (congrFun (h c).1 i)
  dc := is_at2 _ fun i => real_of _ (congrFun (h c).2.1 i)
  co := is_at2 _ fun i => real_of _ (congrFun (h c).2.2.1 i)
  si := is_at2 _ fun i => real_of _ (congrFun (h c).2.2.2.1 i)
  z := fun i => by
    refine (is_at2 (arg4 m c) (fun i => real_of _ (congrFun (h c).2.2.2.2 i)) i).trans ?_
    rw [fin1 i]
    rfl

end

/-- The reference, from the same arguments. -/
theorem given' (m : (ℓ : Loc Cert.KernelIdeal.nD Cert.KernelIdeal.τ Cert.KernelIdeal.sig) → Buf (Elt Ideal) ℓ) (c : Dev Cert.KernelIdeal.nD)
    {A : Attn.Args} (G : Cert.KernelIdeal.Attn.Given m c A) :
    Cert.ReferenceIdeal.Attn.Given A (Cert.KernelIdeal.Attn.arg0 m c) (Cert.KernelIdeal.Attn.arg1 m c) (Cert.KernelIdeal.Attn.arg2 m c)
      (Cert.KernelIdeal.Attn.arg3 m c) (Cert.KernelIdeal.Attn.arg4 m c) where
  p := G.p
  dc := G.dc
  co := G.co
  si := G.si
  z := G.z

/-- The equation: both programs run and end with equal results. -/
theorem algebraic : Cert.algebraic_KernelIdeal_ReferenceIdeal_pre_finite (hKernelIdeal := Cert.KernelIdeal.Gen.facts)
    (hReferenceIdeal := Cert.ReferenceIdeal.Gen.facts) (hPre_finite := preFacts) := fun m g m' g' hp ha => by
  refine ⟨_, _, _, _, Cert.KernelIdeal.Attn.run m g, (θ_run _ _ _).mono (fun r h c => ?_) (Cert.ReferenceIdeal.Value.run m' g')⟩
  obtain ⟨r0, r1, r2, r3, k⟩ := h c
  obtain ⟨a0, a1, a2, a3, a4⟩ := ha c
  have l0 : StableHlo.launchContents m' c (Proc.devRef .tc Cert.ReferenceIdeal.main_arg0) = Cert.KernelIdeal.Attn.arg0 m c := a0
  have l1 : StableHlo.launchContents m' c (Proc.devRef .tc Cert.ReferenceIdeal.main_arg1) = Cert.KernelIdeal.Attn.arg1 m c := a1
  have l2 : StableHlo.launchContents m' c (Proc.devRef .tc Cert.ReferenceIdeal.main_arg2) = Cert.KernelIdeal.Attn.arg2 m c := a2
  have l3 : StableHlo.launchContents m' c (Proc.devRef .tc Cert.ReferenceIdeal.main_arg3) = Cert.KernelIdeal.Attn.arg3 m c := a3
  have l4 : StableHlo.launchContents m' c (Proc.devRef .tc Cert.ReferenceIdeal.main_arg4) = Cert.KernelIdeal.Attn.arg4 m c := a4
  have G := given m c hp
  have R := given' m c G
  refine ⟨r0.trans ?_, r1.trans ?_, r2.trans ?_, r3.trans ?_, k⟩
  · refine (Cert.ReferenceIdeal.Read.val_main_v204_eq _).trans ?_
    rw [l0, l1, l2, l3, l4]
    funext i
    exact (R.dq i).trans (G.res11 i).symm
  · refine (Cert.ReferenceIdeal.Read.val_main_v205_eq _).trans ?_
    rw [l0, l1, l2, l3, l4]
    funext i
    exact (R.dk i).trans (G.res12 i).symm
  · refine (Cert.ReferenceIdeal.Read.val_main_v206_eq _).trans ?_
    rw [l0, l1, l2, l3, l4]
    funext i
    exact (R.dv i).trans (G.res13 i).symm
  · refine (Cert.ReferenceIdeal.Read.val_main_v203_eq _).trans ?_
    rw [l0, l1, l2, l3, l4]
    funext i
    exact (R.dz i).trans (G.res14 i).symm

end Cert.Same

end
-- ==== Proof.Attn.KernelFrame.lean ====
/- The frame of the kernel at the machine's own numbers: the generated argument over one named run of the body for each of its two cases. -/
module

public import proofs.«01_k».proof.Proof.Gen.Kernel.Frame.RunB
public import Idealize.ShloMosaic.Lib.Claim

@[expose] public section

set_option maxRecDepth 16384
set_option maxHeartbeats 2000000

noncomputable section

namespace Cert.Kernel.Attn

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the four results' buffers and the two carried buffers hold. -/
abbrev Outs (F : FTy → Type) [FloatOps F] : Type :=
  Vec F S128x768 .bf16 × Vec F S128x256 .bf16 × Vec F S128x256 .bf16 × Vec F S1x128 .f32 × Vec F S128x256 .f32 × Vec F S128x256 .f32

/-- The body's run at a point of case A, on that point's buffers and blocks. -/
def runA (c : Dev nD) (t : Fin cfg0.N) (h0 : t.val % 32 = 0) :=
  kernelRun0_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t)
    scM0_0 (Memref.isWhole_whole _) scM0_1 (Memref.isWhole_whole _) ((hcond0_0 t).mpr h0) (X0_0 m c t) (X0_1 m c t) (X0_2 m c t) (X0_3 m c t) (X0_4 m c t)
    (iblk m c 5 t) (iblk m c 6 t) (iblk m c 7 t) (iblk m c 8 t) (iblk m c 9 t) (X0_10 m c t)

/-- The body's run at a point of case B, on that point's buffers and blocks and what the point before left. -/
def runB (c : Dev nD) (t : Fin cfg0.N) (h0 : ¬t.val % 32 = 0) (p : Outs F) :=
  kernelRun0_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t)
    (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t)
    scM0_0 (Memref.isWhole_whole _) scM0_1 (Memref.isWhole_whole _) (fun h => h0 ((hcond0_0 t).mp h)) (X0_0 m c t) (X0_1 m c t) (X0_2 m c t) (X0_3 m c t) (X0_4 m c t)
    (iblk m c 5 t) (iblk m c 6 t) (iblk m c 7 t) (iblk m c 8 t) (iblk m c 9 t) (X0_10 m c t)
    p.2.2.2.1 p.2.2.2.2.1 p.2.2.2.2.2

/-- Case A's stores into the first result cover it. -/
theorem coverA_11 (c : Dev nD) (t : Fin cfg0.N) (h0 : t.val % 32 = 0) (y : S128x768.Idx) :
    ∃ pc ∈ (runA m c t h0).1, y ∈ pc.1.set :=
  View.cover_of_tiledL (runA m c t h0).1 S128x128.size (by sl_kernel_rfl) y

/-- Case A's stores into the second result cover it. -/
theorem coverA_12 (c : Dev nD) (t : Fin cfg0.N) (h0 : t.val % 32 = 0) (y : S128x256.Idx) :
    ∃ pc ∈ (runA m c t h0).2.1, y ∈ pc.1.set :=
  View.cover_of_tiledL (runA m c t h0).2.1 S128x128.size (by sl_kernel_rfl) y

/-- Case A's stores into the third result cover it. -/
theorem coverA_13 (c : Dev nD) (t : Fin cfg0.N) (h0 : t.val % 32 = 0) (y : S128x256.Idx) :
    ∃ pc ∈ (runA m c t h0).2.2.1, y ∈ pc.1.set :=
  View.cover_of_tiledL (runA m c t h0).2.2.1 S128x128.size (by sl_kernel_rfl) y

/-- Case A's stores into the fourth result cover it. -/
theorem coverA_14 (c : Dev nD) (t : Fin cfg0.N) (h0 : t.val % 32 = 0) (y : S1x128.Idx) :
    ∃ pc ∈ (runA m c t h0).2.2.2.1, y ∈ pc.1.set :=
  View.cover_of_tiledL (runA m c t h0).2.2.2.1 S1x128.size (by sl_kernel_rfl) y

/-- Case A's stores into the first carried buffer cover it. -/
theorem coverA_s0 (c : Dev nD) (t : Fin cfg0.N) (h0 : t.val % 32 = 0) (y : S128x256.Idx) :
    ∃ pc ∈ (runA m c t h0).2.2.2.2.1, y ∈ pc.1.set :=
  View.cover_of_wholeMem (runA m c t h0).2.2.2.2.1 (by sl_whole_mem) y

/-- Case A's stores into the second carried buffer cover it. -/
theorem coverA_s1 (c : Dev nD) (t : Fin cfg0.N) (h0 : t.val % 32 = 0) (y : S128x256.Idx) :
    ∃ pc ∈ (runA m c t h0).2.2.2.2.2.1, y ∈ pc.1.set :=
  View.cover_of_wholeMem (runA m c t h0).2.2.2.2.2.1 (by sl_whole_mem) y

/-- What case A leaves in the six buffers: the stores read back. -/
def outA (c : Dev nD) (t : Fin cfg0.N) (h0 : t.val % 32 = 0) : Outs F :=
  (VO0_11.read (Elt F) (VO0_11.writes (Elt F) VO0_11.junk (runA m c t h0).1),
    VO0_12.read (Elt F) (VO0_12.writes (Elt F) VO0_12.junk (runA m c t h0).2.1),
    VO0_13.read (Elt F) (VO0_13.writes (Elt F) VO0_13.junk (runA m c t h0).2.2.1),
    VO0_14.read (Elt F) (VO0_14.writes (Elt F) VO0_14.junk (runA m c t h0).2.2.2.1),
    VS0_0.read (Elt F) (VS0_0.writes (Elt F) VS0_0.junk (runA m c t h0).2.2.2.2.1),
    VS0_1.read (Elt F) (VS0_1.writes (Elt F) VS0_1.junk (runA m c t h0).2.2.2.2.2.1))

/-- Case B's stores into the first result cover it. -/
theorem coverB_11 (c : Dev nD) (t : Fin cfg0.N) (h0 : ¬t.val % 32 = 0) (p : Outs F) (y : S128x768.Idx) :
    ∃ pc ∈ (runB m c t h0 p).1, y ∈ pc.1.set :=
  View.cover_of_tiledL (runB m c t h0 p).1 S128x128.size (by sl_kernel_rfl) y

/-- Case B's stores into the second result cover it. -/
theorem coverB_12 (c : Dev nD) (t : Fin cfg0.N) (h0 : ¬t.val % 32 = 0) (p : Outs F) (y : S128x256.Idx) :
    ∃ pc ∈ (runB m c t h0 p).2.1, y ∈ pc.1.set :=
  View.cover_of_tiledL (runB m c t h0 p).2.1 S128x128.size (by sl_kernel_rfl) y

/-- Case B's stores into the third result cover it. -/
theorem coverB_13 (c : Dev nD) (t : Fin cfg0.N) (h0 : ¬t.val % 32 = 0) (p : Outs F) (y : S128x256.Idx) :
    ∃ pc ∈ (runB m c t h0 p).2.2.1, y ∈ pc.1.set :=
  View.cover_of_tiledL (runB m c t h0 p).2.2.1 S128x128.size (by sl_kernel_rfl) y

/-- Case B's stores into the fourth result cover it. -/
theorem coverB_14 (c : Dev nD) (t : Fin cfg0.N) (h0 : ¬t.val % 32 = 0) (p : Outs F) (y : S1x128.Idx) :
    ∃ pc ∈ (runB m c t h0 p).2.2.2.1, y ∈ pc.1.set :=
  View.cover_of_tiledL (runB m c t h0 p).2.2.2.1 S1x128.size (by sl_kernel_rfl) y

/-- Case B's stores into the first carried buffer cover it. -/
theorem coverB_s0 (c : Dev nD) (t : Fin cfg0.N) (h0 : ¬t.val % 32 = 0) (p : Outs F) (y : S128x256.Idx) :
    ∃ pc ∈ (runB m c t h0 p).2.2.2.2.1, y ∈ pc.1.set :=
  View.cover_of_tiledL (runB m c t h0 p).2.2.2.2.1 S128x128.size (by sl_kernel_rfl) y

/-- Case B's stores into the second carried buffer cover it. -/
theorem coverB_s1 (c : Dev nD) (t : Fin cfg0.N) (h0 : ¬t.val % 32 = 0) (p : Outs F) (y : S128x256.Idx) :
    ∃ pc ∈ (runB m c t h0 p).2.2.2.2.2.1, y ∈ pc.1.set :=
  View.cover_of_tiledL (runB m c t h0 p).2.2.2.2.2.1 S128x128.size (by sl_kernel_rfl) y

/-- What case B leaves in the six buffers: the stores read back. -/
def outB (c : Dev nD) (t : Fin cfg0.N) (h0 : ¬t.val % 32 = 0) (p : Outs F) : Outs F :=
  (VO0_11.read (Elt F) (VO0_11.writes (Elt F) VO0_11.junk (runB m c t h0 p).1),
    VO0_12.read (Elt F) (VO0_12.writes (Elt F) VO0_12.junk (runB m c t h0 p).2.1),
    VO0_13.read (Elt F) (VO0_13.writes (Elt F) VO0_13.junk (runB m c t h0 p).2.2.1),
    VO0_14.read (Elt F) (VO0_14.writes (Elt F) VO0_14.junk (runB m c t h0 p).2.2.2.1),
    VS0_0.read (Elt F) (VS0_0.writes (Elt F) VS0_0.junk (runB m c t h0 p).2.2.2.2.1),
    VS0_1.read (Elt F) (VS0_1.writes (Elt F) VS0_1.junk (runB m c t h0 p).2.2.2.2.2.1))

/-- What the six buffers hold after each point. -/
def outsAt0 (c : Dev nD) : (n : ℕ) → n < cfg0.N → Outs F
  | 0, hn => outA m c ⟨0, hn⟩ (Nat.zero_mod _)
  | n + 1, hn =>
    if h0 : (n + 1) % 32 = 0 then outA m c ⟨n + 1, hn⟩ h0
    else outB m c ⟨n + 1, hn⟩ h0 (outsAt0 c n (Nat.lt_of_succ_lt hn))

/-- `outsAt0` at a point of case A: that case's contents. -/
theorem outsAt0_A (c : Dev nD) (t : Fin cfg0.N) (h0 : t.val % 32 = 0) : outsAt0 m c t.val t.isLt = outA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = outB m c t h0 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
/-- At a point of case B output 14's current staging buffer holds what the body left at the point before: the point is
    not the first, the buffer was not written back between (`flush0_14`), the window is live and uncut (Lib/Pipeline/Frame.lean
    `Dat.before_out_kept`). -/
theorem before0_14_B (c : Dev nD) (t : Fin cfg0.N) (h0 : ¬t.val % 32 = 0) (d) :
    (dats m 0 c).before 14 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold outA; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runA m c t h0).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverA_s0 m c t h0)
          unfold owns; iexists _; isplitr
          swap; · iexact HS1
          ipureintro; exact View.read_writes_of_cover _ _ _ _ _ (coverA_s1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverA_11 m c t h0)
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      unfold owns; iexists _; isplitr
      swap; · iexact H14
      ipureintro; exact View.read_writes_of_cover _ _ _ _ _ (coverA_14 m c t h0)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_14_B m c t h0]
      unfold outB; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((runB m c t h0 _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [HS0]; · iexact HS0
      isplitl [HS1]; · iexact HS1
      iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverB_s0 m c t h0 _)
          unfold owns; iexists _; isplitr
          swap; · iexact HS1
          ipureintro; exact View.read_writes_of_cover _ _ _ _ _ (coverB_s1 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (coverB_11 m c t h0 _)
      isplitl [H12]
      · unfold owns; iexists _; isplitr
        swap; · iexact H12
        ipureintro; exact View.read_writes_of_cover _ _ _ _ _ (coverB_12 m c t h0 _)
      isplitl [H13]
      · unfold owns; iexists _; isplitr
        swap; · iexact H13
        ipureintro; exact View.read_writes_of_cover _ _ _ _ _ (coverB_13 m c t h0 _)
      unfold owns; iexists _; isplitr
      swap; · iexact H14
      ipureintro; exact View.read_writes_of_cover _ _ _ _ _ (coverB_14 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, without fault, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Attn

end
-- ==== Proof.Mm.Sum.lean ====
/- Matrix products over the extended reals, read entry by entry, and a product's sum cut into blocks. -/
module

public import Idealize.ShloMosaic.Lib.MatmulPlain
public import Idealize.ShloMosaic.Lib.Pipeline.Value

@[expose] public section

noncomputable section

namespace Cert.Mm

open Idealize.ShloMosaic Idealize.ShloMosaic.ValueIdx

/-- The entry of a matrix at a row and a column, zero outside it. -/
def at2 {n m : ℕ} (x : (⟨2, ![n, m]⟩ : Shape).Idx → EReal) (p q : ℕ) : EReal :=
  if h : p < n ∧ q < m then x (ix2 ⟨p, h.1⟩ ⟨q, h.2⟩) else 0

/-- The entry of a stack of matrices, zero outside it. -/
def at3 {l n m : ℕ} (x : (⟨3, ![l, n, m]⟩ : Shape).Idx → EReal) (s p q : ℕ) : EReal :=
  if h : s < l ∧ p < n ∧ q < m then x (ix3 ⟨s, h.1⟩ ⟨p, h.2.1⟩ ⟨q, h.2.2⟩) else 0

/-- A matrix at an index is its entry there. -/
theorem at2_eq {n m : ℕ} (x : (⟨2, ![n, m]⟩ : Shape).Idx → EReal) (i : (⟨2, ![n, m]⟩ : Shape).Idx) {p q : ℕ}
    (h0 : (i 0).val = p) (h1 : (i 1).val = q) : x i = at2 x p q := by
  subst h0 h1
  unfold at2
  rw [dif_pos ⟨(i 0).isLt, (i 1).isLt⟩]
  exact congrArg x (funext fun a => match a with | ⟨0, _⟩ => rfl | ⟨1, _⟩ => rfl)

/-- A stack at an index is its entry there. -/
theorem at3_eq {l n m : ℕ} (x : (⟨3, ![l, n, m]⟩ : Shape).Idx → EReal) (i : (⟨3, ![l, n, m]⟩ : Shape).Idx) {s p q : ℕ}
    (h0 : (i 0).val = s) (h1 : (i 1).val = p) (h2 : (i 2).val = q) : x i = at3 x s p q := by
  subst h0 h1 h2
  unfold at3
  rw [dif_pos ⟨(i 0).isLt, (i 1).isLt, (i 2).isLt⟩]
  exact congrArg x (funext fun a => match a with | ⟨0, _⟩ => rfl | ⟨1, _⟩ => rfl | ⟨2, _⟩ => rfl)

/-- A sum over `n` blocks of `t` terms is the sum over all of them. -/
theorem sum_blocks (f : ℕ → EReal) (n t : ℕ) :
    ∑ s ∈ Finset.range n, ∑ k ∈ Finset.range t, f (s * t + k) = ∑ k ∈ Finset.range (n * t), f k := by
  induction n with
  | zero => simp
  | succ n ih => rw [Finset.sum_range_succ, ih, Nat.succ_mul, Finset.sum_range_add]

/-- Rows by columns: the contraction runs over the left operand's columns and the right operand's rows. -/
theorem nn {M K N : ℕ} {φ ψ : FTy} {d : DotDims ⟨2, ![M, K]⟩ ⟨2, ![K, N]⟩ ⟨2, ![M, N]⟩} (hd : d = DotDims.plain M K N)
    {x : FVec Ideal ⟨2, ![M, K]⟩ φ} {y : FVec Ideal ⟨2, ![K, N]⟩ ψ} {f g : ℕ → ℕ → EReal}
    (hx : ∀ i, x i = f (i 0).val (i 1).val) (hy : ∀ i, y i = g (i 0).val (i 1).val) (i : (⟨2, ![M, N]⟩ : Shape).Idx) :
    matmul d none x y (constant ⟨2, ![M, N]⟩ .f32 0x00000000#32) i
      = ∑ k ∈ Finset.range K, f (i 0).val k * g k (i 1).val := by
  subst hd
  refine (Ideal.matmul_constant_zero_apply _ none x y i).trans ?_
  rw [← Equiv.sum_comp (DotDims.plainContr M K N).symm, Finset.sum_range]
  refine Finset.sum_congr rfl fun k _ => ?_
  have hk := contrEquiv1_symm_val _ K (DotDims.plain_contr_rank M K N) (DotDims.plain_contr_size M K N) k
  rw [hx, hy]
  exact congrArg₂ (fun a b => f (i 0).val a * g b (i 1).val) hk hk

/-- Rows by rows: the contraction runs over the columns of both operands. -/
theorem nt {M K N : ℕ} {φ ψ : FTy} {d : DotDims ⟨2, ![M, K]⟩ ⟨2, ![N, K]⟩ ⟨2, ![M, N]⟩} (hd : d = DotDims.transposedRhs M K N)
    {x : FVec Ideal ⟨2, ![M, K]⟩ φ} {y : FVec Ideal ⟨2, ![N, K]⟩ ψ} {f g : ℕ → ℕ → EReal}
    (hx : ∀ i, x i = f (i 0).val (i 1).val) (hy : ∀ i, y i = g (i 0).val (i 1).val) (i : (⟨2, ![M, N]⟩ : Shape).Idx) :
    matmul d none x y (constant ⟨2, ![M, N]⟩ .f32 0x00000000#32) i
      = ∑ k ∈ Finset.range K, f (i 0).val k * g (i 1).val k := by
  subst hd
  refine (Ideal.matmul_constant_zero_apply _ none x y i).trans ?_
  rw [← Equiv.sum_comp (DotDims.transposedRhsContr M K N).symm, Finset.sum_range]
  refine Finset.sum_congr rfl fun k _ => ?_
  have hk := contrEquiv1_symm_val _ K (DotDims.transposedRhs_contr_rank M K N) (DotDims.transposedRhs_contr_size M K N) k
  rw [hx, hy]
  exact congrArg₂ (fun a b => f (i 0).val a * g (i 1).val b) hk hk

/-- The dimension numbers of a product of columns by columns. -/
def colsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Columns by columns: the contraction runs over the rows of both operands. -/
theorem tn {M K N : ℕ} {φ ψ : FTy} {d : DotDims ⟨2, ![K, M]⟩ ⟨2, ![K, N]⟩ ⟨2, ![M, N]⟩} (hd : d = colsDims K M N)
    {x : FVec Ideal ⟨2, ![K, M]⟩ φ} {y : FVec Ideal ⟨2, ![K, N]⟩ ψ} {f g : ℕ → ℕ → EReal}
    (hx : ∀ i, x i = f (i 0).val (i 1).val) (hy : ∀ i, y i = g (i 0).val (i 1).val) (i : (⟨2, ![M, N]⟩ : Shape).Idx) :
    matmul d none x y (constant ⟨2, ![M, N]⟩ .f32 0x00000000#32) i
      = ∑ k ∈ Finset.range K, f k (i 0).val * g k (i 1).val := by
  subst hd
  refine (Ideal.matmul_constant_zero_apply _ none x y i).trans ?_
  rw [← Equiv.sum_comp (contrEquiv1 (colsDims K M N) K rfl rfl).symm, Finset.sum_range]
  refine Finset.sum_congr rfl fun k _ => ?_
  have hk := contrEquiv1_symm_val (colsDims K M N) K rfl rfl k
  rw [hx, hy]
  exact congrArg₂ (fun a b => f a (i 0).val * g b (i 1).val) hk hk

/-- The one matrix of a stack of one, taken out. -/
theorem drop1 {n m : ℕ} {α : Type} {x : (⟨3, ![1, n, m]⟩ : Shape).Idx → α} {f : ℕ → ℕ → α}
    (hx : ∀ i, x i = f (i 1).val (i 2).val) (h : (⟨3, ![1, n, m]⟩ : Shape).ShapeCasts ⟨2, ![n, m]⟩)
    (i : (⟨2, ![n, m]⟩ : Shape).Idx) : shapeCast ⟨2, ![n, m]⟩ x h i = f (i 0).val (i 1).val := by
  rw [shapeCast_apply x h i (ix3 ⟨0, Nat.one_pos⟩ (i 0) (i 1)) (by
    rw [Shape.rowMajor_val_three, Shape.rowMajor_val_two]
    show (0 * n + (i 0).val) * m + (i 1).val = (i 0).val * m + (i 1).val
    rw [Nat.zero_mul, Nat.zero_add]), hx]
  rfl

/-- A matrix as a stack of one. -/
theorem add1 {n m : ℕ} {α : Type} {x : (⟨2, ![n, m]⟩ : Shape).Idx → α} {f : ℕ → ℕ → α}
    (hx : ∀ i, x i = f (i 0).val (i 1).val) (h : (⟨2, ![n, m]⟩ : Shape).ShapeCasts ⟨3, ![1, n, m]⟩)
    (i : (⟨3, ![1, n, m]⟩ : Shape).Idx) : shapeCast ⟨3, ![1, n, m]⟩ x h i = f (i 1).val (i 2).val := by
  have h0 : (i 0).val = 0 := Nat.lt_one_iff.mp (i 0).isLt
  rw [shapeCast_apply x h i (ix2 (i 1) (i 2)) (by
    rw [Shape.rowMajor_val_three, Shape.rowMajor_val_two]
    show (i 1).val * m + (i 2).val = ((i 0).val * n + (i 1).val) * m + (i 2).val
    rw [h0, Nat.zero_mul, Nat.zero_add]), hx]
  rfl

end Cert.Mm

end
-- ==== Proof.Mm.Up.lean ====
/- The product of `Up` (rows by columns) as its grid computes it: the result array is the whole sum, entry by entry. -/
module

public import proofs.«01_k».proof.Proof.Gen.UpIdeal.Value
public import proofs.«01_k».proof.Proof.Mm.Sum
public import Idealize.ShloMosaic.Lib.Pipeline.ValueKit

@[expose] public section

set_option maxRecDepth 16384

noncomputable section

namespace Cert.UpIdeal.Mm

open Cert.UpIdeal Cert.UpIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S8x2048x1408.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at3 (B m c) (q / 1408) k (q % 1408)

/-- The points of the grid. -/
theorem lt (t : Fin cfg0.N) : t.val < 32 := lt_of_lt_of_eq t.isLt (show cfg0.N = 32 from N_0)

/-- The block of each window at each point. -/
theorem idx_all : ∀ t : Fin cfg0.N, win0_0.index t = ![t.val / 8, 0] ∧ win0_1.index t = ![t.val % 8, 0, 0] ∧ win0_2.index t = ![(t.val % 8) / 4, t.val / 8, (t.val % 8) % 4] := by
  decide +kernel

/-- The block of operand 0 at a point, entry by entry. -/
theorem blk0 (c : Dev nD) (t : Fin cfg0.N) (j : S1024x2048.Idx) :
    iblk m c 0 t j = fa m c ((t.val / 8) * 1024 + (j 0).val) (0 * 2048 + (j 1).val) := by
  have ht := lt t
  have j0 : (j 0).val < 1024 := (j 0).isLt
  have e0 : win0_0.index t 0 = t.val / 8 := by rw [(idx_all t).1]; rfl
  have j1 : (j 1).val < 2048 := (j 1).isLt
  have e1 : win0_0.index t 1 = 0 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S1x2048x1408.Idx) :
    iblk m c 1 t j = fb m c (0 * 2048 + (j 1).val) ((t.val % 8) * 1408 + (j 2).val) := by
  have ht := lt t
  have j0 : (j 0).val < 1 := (j 0).isLt
  have e0 : win0_1.index t 0 = t.val % 8 := by rw [(idx_all t).2.1]; rfl
  have j1 : (j 1).val < 2048 := (j 1).isLt
  have e1 : win0_1.index t 1 = 0 := by rw [(idx_all t).2.1]; rfl
  have j2 : (j 2).val < 1408 := (j 2).isLt
  have e2 : win0_1.index t 2 = 0 := by rw [(idx_all t).2.1]; rfl
  unfold iblk fb
  rw [View.read_apply]
  show V m c main_arg1 _ = _
  rw [V_main_arg1]
  refine at3_eq _ _ ?_ ?_ ?_
  · blk_simp; rw [e0]; try omega
  · blk_simp; rw [e1]; try omega
  · blk_simp; rw [e2]; try omega

/-- No offset along two axes. -/
theorem hz2 : (![0, 0] : Fin 2 → ℕ) = fun _ => 0 := funext fun a => by fin_cases a <;> rfl

/-- No offset along three axes. -/
theorem hz3 : (![0, 0, 0] : Fin 3 → ℕ) = fun _ => 0 := funext fun a => by fin_cases a <;> rfl

/-- What the body computes from two blocks: their product. -/
theorem pay_apply {x : Vec Ideal S1024x2048 .bf16} {y : Vec Ideal S1x2048x1408 .bf16} {f g : ℕ → ℕ → EReal}
    (hx : ∀ i, x i = f (i 0).val (i 1).val) (hy : ∀ i, y i = g (i 1).val (i 2).val) (i : S1x1024x1408.Idx) :
    k0_pay1 (F := Ideal) x y i = ∑ k ∈ Finset.range 2048, f (i 1).val k * g k (i 2).val :=
  add1 (f := fun a b => ∑ k ∈ Finset.range 2048, f a k * g k b) (fun (i : S1024x1408.Idx) => nn rfl (fun i => hx i) (drop1 hy _) i) _ i

/-- What the body stores, as the one piece it is. -/
theorem out_eq (x : Vec Ideal S1024x2048 .bf16) (y : Vec Ideal S1x2048x1408 .bf16) : out0_2 (F := Ideal) x y = k0_pay1 x y := by
  unfold out0_2
  rw [View.canon_unit_zero hz3, View.ld_unit_zero (S := S1024x2048) hz2, View.ld_unit_zero (S := S1x2048x1408) hz3]

/-- What a point leaves in its block of the result: the whole sums. -/
theorem left (c : Dev nD) (t : Fin cfg0.N) (_ : t.val % 1 = 0) (j : S1x1024x1408.Idx) :
    (dats (F := Ideal) m 0 c).after 2 t j = ∑ k ∈ Finset.range 2048, fa m c ((t.val / 8) * 1024 + (j 1).val) k * fb m c k ((t.val % 8) * 1408 + (j 2).val) := by
  rw [after0_2, out_eq]
  refine (pay_apply (f := fun a b => fa m c ((t.val / 8) * 1024 + a) (0 * 2048 + b))
    (g := fun a b => fb m c (0 * 2048 + a) ((t.val % 8) * 1408 + b)) (blk0 m c t) (blk1 m c t) j).trans ?_
  simp only [Nat.zero_mul, Nat.zero_add]

/-- The result array: every entry is its whole sum. -/
theorem arr (c : Dev nD) : (dats (F := Ideal) m 0 c).arrAt 2 cfg0.N
    = (fun i => ∑ k ∈ Finset.range 2048, fa m c (i 1).val k * fb m c k ((i 0).val * 5632 + (i 2).val) : S2x4096x5632.Idx → EReal) := by
  refine (dats m 0 c).arrAt_eq_of_covers 2 _ (by decide +kernel) fun t hf j => ?_
  have hm : t.val % 1 = 0 := Nat.mod_one _
  have ht := lt t
  have j0 : (j 0).val < 1 := (j 0).isLt
  have e0 : win0_2.index t 0 = (t.val % 8) / 4 := by rw [(idx_all t).2.2]; rfl
  have j1 : (j 1).val < 1024 := (j 1).isLt
  have e1 : win0_2.index t 1 = t.val / 8 := by rw [(idx_all t).2.2]; rfl
  have j2 : (j 2).val < 1408 := (j 2).isLt
  have e2 : win0_2.index t 2 = (t.val % 8) % 4 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e1]
  · rw [e0, e2]; omega

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 2048, fa m c (i 1).val k * fb m c k ((i 0).val * 5632 + (i 2).val) : S2x4096x5632.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.UpIdeal.Mm

end
-- ==== Proof.Mm.UpSame.lean ====
/- The program `Up` and its reference: the reference's composed term is the same sum. -/
module

public import proofs.«01_k».proof.Defs
public import proofs.«01_k».proof.Proof.Gen.UpRefIdeal.Read
public import proofs.«01_k».proof.Proof.Mm.Up
public import Idealize.ShloMosaic.Adequacy
public import Idealize.ShloMosaic.Init

@[expose] public section

set_option maxRecDepth 16384

noncomputable section

namespace Cert.Mm.Up

open Cert.UpIdeal (nD τ sig)
open Cert.UpRefIdeal (S2048x11264 S4096x11264 S1x4096x5632)
open Cert.UpRefIdeal.Read Cert.UpIdeal.Mm Idealize.ShloMosaic Idealize.SL.Sem

variable (m : (ℓ : Loc nD τ sig) → Buf (Elt Ideal) ℓ) (c : Dev nD)

/-- The gathered shards side by side: column `q` of the matrix is column `q % 1408` of shard `q / 1408`. -/
theorem shard (i : S2048x11264.Idx) : val_main_v3 (F := Ideal) (B m c) i = fb m c (i 0).val (i 1).val := by
  have h0 : (i 0).val < 2048 := (i 0).isLt
  have h1 : (i 1).val < 11264 := (i 1).isLt
  rw [val_main_v3_apply, val_main_v2_apply]
  refine at3_eq (B m c) _ ?_ ?_ ?_
  · show ((i 0).val * 11264 + (i 1).val) / 1408 % 8 = (i 1).val / 1408
    omega
  · show ((i 0).val * 11264 + (i 1).val) / 11264 = (i 0).val
    omega
  · show ((i 0).val * 11264 + (i 1).val) % 1408 = (i 1).val % 1408
    omega

/-- The whole product. -/
theorem whole (i : S4096x11264.Idx) : val_main_v4 (F := Ideal) (A m c) (B m c) i = ∑ k ∈ Finset.range 2048, fa m c (i 0).val k * fb m c k (i 1).val := by
  rw [val_main_v4_apply, Finset.sum_range]
  exact Finset.sum_congr rfl fun k _ => congrArg₂ (· * ·) (at2_eq (A m c) _ rfl rfl) (shard m c _)

/-- The reference's result, entry by entry. -/
theorem ref (i : Cert.UpIdeal.S2x4096x5632.Idx) :
    val_main_v9 (F := Ideal) (A m c) (B m c) i = ∑ k ∈ Finset.range 2048, fa m c (i 1).val k * fb m c k ((i 0).val * 5632 + (i 2).val) := by
  have h0 : (i 0).val < 2 := (i 0).isLt
  unfold val_main_v9
  by_cases h : (i 0).val = 0
  · refine (concatenate_pair_apply_left (s₁ := S1x4096x5632) (s₂ := S1x4096x5632) 0 _ _ _ i rfl (ValueIdx.ix3 ⟨0, Nat.one_pos⟩ (i 1) (i 2) : S1x4096x5632.Idx)
      (fun b => match b with | ⟨0, _⟩ => h.symm | ⟨1, _⟩ => rfl | ⟨2, _⟩ => rfl)).trans ?_
    rw [val_main_v7_apply, val_main_v5_apply, whole, h, Nat.zero_mul, Nat.zero_add]
  · have h : (i 0).val = 1 := by omega
    refine (concatenate_pair_apply_right (s₁ := S1x4096x5632) (s₂ := S1x4096x5632) 0 _ _ _ i rfl rfl (ValueIdx.ix3 ⟨0, Nat.one_pos⟩ (i 1) (i 2) : S1x4096x5632.Idx)
      (fun b => match b with | ⟨0, _⟩ => fun h => absurd rfl h | ⟨1, _⟩ => fun _ => rfl | ⟨2, _⟩ => fun _ => rfl) (show 0 + 1 = (i 0).val by omega)).trans ?_
    rw [val_main_v8_apply, val_main_v6_apply, whole, h, Nat.one_mul]

/-- The reference runs, keeps its arguments, and has no counters. -/
theorem referenceFrame : Cert.quiescent_UpRefIdeal (hUpRefIdeal := Cert.UpRefIdeal.Gen.facts) := fun m g _ =>
  (θ_run Cert.UpRefIdeal.defs _ _).mono (fun r h => ⟨fun c => (h c).2, sem_eq_zero_of_no_sems (by decide) r.2⟩)
    (Cert.UpRefIdeal.Value.run (F := Ideal) m g)

/-- The equation: both programs run and end with equal results. -/
theorem algebraic : Cert.algebraic_UpIdeal_UpRefIdeal (hUpIdeal := Cert.UpIdeal.Gen.facts) (hUpRefIdeal := Cert.UpRefIdeal.Gen.facts) := fun m g m' g' _ ha => by
  refine ⟨_, Cert.UpIdeal.Mm.run m g, (θ_run _ _ _).mono (fun r h c => ?_) (Cert.UpRefIdeal.Value.run m' g')⟩
  obtain ⟨r0, k⟩ := h c
  obtain ⟨a0, a1⟩ := ha c
  refine ⟨r0.trans ?_, k⟩
  refine (val_main_v9_eq _ _).trans ?_
  funext i
  refine (congrArg₂ (fun a b => val_main_v9 (F := Ideal) a b i) a0 a1).trans (ref m c i)

end Cert.Mm.Up

end
-- ==== Proof.Mm.UpD.lean ====
/- The product of `UpD` (rows by rows) as its grid computes it: the result array is the whole sum, entry by entry. -/
module

public import proofs.«01_k».proof.Proof.Gen.UpDIdeal.Value
public import proofs.«01_k».proof.Proof.Mm.Sum
public import Idealize.ShloMosaic.Lib.Pipeline.ValueKit

@[expose] public section

set_option maxRecDepth 16384

noncomputable section

namespace Cert.UpDIdeal.Mm

open Cert.UpDIdeal Cert.UpDIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S2x4096x5632.Idx → EReal := m ((c : Thread nD τ).loc main_arg0)

/-- The right operand, as launched. -/
abbrev B (c : Dev nD) : S8x2048x1408.Idx → EReal := m ((c : Thread nD τ).loc main_arg1)

/-- The left factor for row `p` of the product and term `k`. -/
def fa (c : Dev nD) (p k : ℕ) : EReal := at3 (A m c) (k / 5632) p (k % 5632)

/-- The right factor for term `k` and column `q` of the product. -/
def fb (c : Dev nD) (k q : ℕ) : EReal := at3 (B m c) (k / 1408) q (k % 1408)

/-- The points of the grid. -/
theorem lt (t : Fin cfg0.N) : t.val < 32 := lt_of_lt_of_eq t.isLt (show cfg0.N = 32 from N_0)

/-- The block of each window at each point. -/
theorem idx_all : ∀ t : Fin cfg0.N, win0_0.index t = ![(t.val % 8) / 4, t.val / 8, (t.val % 8) % 4] ∧ win0_1.index t = ![t.val % 8, 0, 0] ∧ win0_2.index t = ![t.val / 8, 0] := by
  decide +kernel

/-- The block of operand 0 at a point, entry by entry. -/
theorem blk0 (c : Dev nD) (t : Fin cfg0.N) (j : S1x1024x1408.Idx) :
    iblk m c 0 t j = fa m c ((t.val / 8) * 1024 + (j 1).val) ((t.val % 8) * 1408 + (j 2).val) := by
  have ht := lt t
  have j0 : (j 0).val < 1 := (j 0).isLt
  have e0 : win0_0.index t 0 = (t.val % 8) / 4 := by rw [(idx_all t).1]; rfl
  have j1 : (j 1).val < 1024 := (j 1).isLt
  have e1 : win0_0.index t 1 = t.val / 8 := by rw [(idx_all t).1]; rfl
  have j2 : (j 2).val < 1408 := (j 2).isLt
  have e2 : win0_0.index t 2 = (t.val % 8) % 4 := by rw [(idx_all t).1]; rfl
  unfold iblk fa
  rw [View.read_apply]
  show V m c main_arg0 _ = _
  rw [V_main_arg0]
  refine at3_eq _ _ ?_ ?_ ?_
  · blk_simp; rw [e0]; try omega
  · blk_simp; rw [e1]; try omega
  · blk_simp; rw [e2]; try omega

/-- The block of operand 1 at a point, entry by entry. -/
theorem blk1 (c : Dev nD) (t : Fin cfg0.N) (j : S1x2048x1408.Idx) :
    iblk m c 1 t j = fb m c ((t.val % 8) * 1408 + (j 2).val) (0 * 2048 + (j 1).val) := by
  have ht := lt t
  have j0 : (j 0).val < 1 := (j 0).isLt
  have e0 : win0_1.index t 0 = t.val % 8 := by rw [(idx_all t).2.1]; rfl
  have j1 : (j 1).val < 2048 := (j 1).isLt
  have e1 : win0_1.index t 1 = 0 := by rw [(idx_all t).2.1]; rfl
  have j2 : (j 2).val < 1408 := (j 2).isLt
  have e2 : win0_1.index t 2 = 0 := by rw [(idx_all t).2.1]; rfl
  unfold iblk fb
  rw [View.read_apply]
  show V m c main_arg1 _ = _
  rw [V_main_arg1]
  refine at3_eq _ _ ?_ ?_ ?_
  · blk_simp; rw [e0]; try omega
  · blk_simp; rw [e1]; try omega
  · blk_simp; rw [e2]; try omega

/-- No offset along two axes. -/
theorem hz2 : (![0, 0] : Fin 2 → ℕ) = fun _ => 0 := funext fun a => by fin_cases a <;> rfl

/-- No offset along three axes. -/
theorem hz3 : (![0, 0, 0] : Fin 3 → ℕ) = fun _ => 0 := funext fun a => by fin_cases a <;> rfl

/-- What the body adds to the running sum: the product of its two blocks. -/
theorem pay_apply {acc : Vec Ideal S1024x2048 .f32} {x : Vec Ideal S1x1024x1408 .bf16} {y : Vec Ideal S1x2048x1408 .bf16} {f g : ℕ → ℕ → EReal}
    (hx : ∀ i, x i = f (i 1).val (i 2).val) (hy : ∀ i, y i = g (i 1).val (i 2).val) (i : S1024x2048.Idx) :
    k0_pay2 (F := Ideal) acc x y i = acc i + ∑ k ∈ Finset.range 1408, f (i 0).val k * g (i 1).val k := by
  unfold k0_pay2
  rw [shapeCast_self]
  exact congrArg (acc i + ·) (nt rfl (drop1 hx _) (drop1 hy _) i)

/-- The running sum starts at zero. -/
theorem zero_apply (i : S1024x2048.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S1x1024x1408 .bf16) (y : Vec Ideal S1x2048x1408 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x2048) hz2, View.readCov_unit_zero (S := S1024x2048) _ hz2]
  simp only [View.readAt_eq_ld, h3.read_unread, h4.read_unread, View.ld_unit_zero (S := S1x1024x1408) hz3, View.ld_unit_zero (S := S1x2048x1408) hz3]

/-- At a middle step the running sum takes one more product. -/
theorem sumB {c : Dev nD} {i : grid0.Coords} {a3 h3 a4 h4 a5 h5 a6 h6 p q} (x : Vec Ideal S1x1024x1408 .bf16) (y : Vec Ideal S1x2048x1408 .bf16) (s : Vec Ideal S1024x2048 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x2048) hz2]
  simp only [View.readAt_eq_ld, h3.read_unread, h4.read_unread, h6.read_unread, View.ld_unit_zero (S := S1x1024x1408) hz3, View.ld_unit_zero (S := S1x2048x1408) hz3, View.ld_unit_zero (S := S1024x2048) hz2]

/-- At the last step the running sum takes one more product. -/
theorem sumC {c : Dev nD} {i : grid0.Coords} {a3 h3 a4 h4 a5 h5 a6 h6 p q} (x : Vec Ideal S1x1024x1408 .bf16) (y : Vec Ideal S1x2048x1408 .bf16) (s : Vec Ideal S1024x2048 .f32) :
    sout0_C_0 (F := Ideal) c i a3 h3 a4 h4 a5 h5 a6 h6 p q x y s = k0_pay2 s x y := by
  unfold sout0_C_0
  rw [View.read_writes_eq_canon _ _ _ (scover0_C_0 c i a3 h3 a4 h4 a5 h5 a6 h6 p q x y s)]
  unfold kernelRun0_C
  dsimp only
  sl_unfold_words
  rw [View.canon_unit_zero (S := S1024x2048) hz2]
  simp only [View.readAt_eq_ld, h3.read_unread, h4.read_unread, h6.read_unread, View.ld_unit_zero (S := S1x1024x1408) hz3, View.ld_unit_zero (S := S1x2048x1408) hz3, View.ld_unit_zero (S := S1024x2048) hz2]

/-- The last step writes the running sum out. -/
theorem outLast {c : Dev nD} {i : grid0.Coords} {a3 h3 a4 h4 a5 h5 a6 h6 p q} (x : Vec Ideal S1x1024x1408 .bf16) (y : Vec Ideal S1x2048x1408 .bf16) (s : Vec Ideal S1024x2048 .f32) :
    out0_C_2 (F := Ideal) c i a3 h3 a4 h4 a5 h5 a6 h6 p q x y s = k0_pay2 s x y := by
  unfold out0_C_2
  rw [View.read_writes_eq_canon _ _ _ (cover0_C_2 c i a3 h3 a4 h4 a5 h5 a6 h6 p q x y s)]
  unfold kernelRun0_C
  dsimp only
  sl_unfold_words
  rw [View.canon_unit_zero (S := S1024x2048) hz2, View.readCov_unit_zero (S := S1024x2048) _ hz2]
  simp only [View.readAt_eq_ld, h3.read_unread, h4.read_unread, h6.read_unread, View.ld_unit_zero (S := S1x1024x1408) hz3, View.ld_unit_zero (S := S1x2048x1408) hz3, View.ld_unit_zero (S := S1024x2048) hz2]

/-- One step adds the products of its block of terms. -/
theorem step (c : Dev nD) (t : Fin cfg0.N) (s : Vec Ideal S1024x2048 .f32) (j : S1024x2048.Idx) :
    k0_pay2 (F := Ideal) s (iblk m c 0 t) (iblk m c 1 t) j = s j + ∑ k ∈ Finset.range 1408, fa m c ((t.val / 8) * 1024 + (j 0).val) ((t.val % 8) * 1408 + k) * fb m c ((t.val % 8) * 1408 + k) (0 * 2048 + (j 1).val) :=
  pay_apply (f := fun a b => fa m c ((t.val / 8) * 1024 + a) ((t.val % 8) * 1408 + b))
    (g := fun a b => fb m c ((t.val % 8) * 1408 + b) (0 * 2048 + a)) (blk0 m c t) (blk1 m c t) j

/-- The running sum after a point: the products of the blocks of terms so far. -/
theorem sofar (c : Dev nD) : ∀ (n : ℕ) (h : n < cfg0.N) (j : S1024x2048.Idx),
    (outsAt0 (F := Ideal) m c n h).2 j = ∑ s ∈ Finset.range (n % 8 + 1), ∑ k ∈ Finset.range 1408, fa m c ((n / 8) * 1024 + (j 0).val) (s * 1408 + k) * fb m c (s * 1408 + k) (0 * 2048 + (j 1).val) := by
  have first : ∀ (t : Fin cfg0.N) (j : S1024x2048.Idx), t.val % 8 = 0 →
      (outsAt0 (F := Ideal) m c t.val t.isLt).2 j = ∑ s ∈ Finset.range (t.val % 8 + 1), ∑ k ∈ Finset.range 1408, fa m c ((t.val / 8) * 1024 + (j 0).val) (s * 1408 + k) * fb m c (s * 1408 + k) (0 * 2048 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 8 = 0
    · exact first ⟨n + 1, h⟩ j h0
    have e0 : n / 8 = (n + 1) / 8 := by omega
    have e2 : n % 8 + 1 = (n + 1) % 8 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 8 + 1), ∑ k ∈ Finset.range 1408, fa m c (((n + 1) / 8) * 1024 + (j 0).val) (s * 1408 + k) * fb m c (s * 1408 + k) (0 * 2048 + (j 1).val) := by
      rw [Finset.sum_range_succ, ← e2, step, ih, e0, e2]
    by_cases h1 : (n + 1) % 8 = 7
    · rw [outsAt0_C m c ⟨n + 1, h⟩ h0 h1]
      dsimp only
      rw [sumC]
      exact next
    · rw [outsAt0_B m c ⟨n + 1, h⟩ h0 h1]
      dsimp only
      rw [sumB]
      exact next

/-- What the last point of a block leaves in its block of the result: the whole sums. -/
theorem left (c : Dev nD) (t : Fin cfg0.N) (h : t.val % 8 = 7) (j : S1024x2048.Idx) :
    (dats (F := Ideal) m 0 c).after 2 t j = ∑ k ∈ Finset.range 11264, fa m c ((t.val / 8) * 1024 + (j 0).val) k * fb m c k (0 * 2048 + (j 1).val) := by
  have h0 : ¬t.val % 8 = 0 := by omega
  rw [after0_2, outsAt0_C m c t h0 h]
  dsimp only
  rw [outLast]
  refine (show _ = (outsAt0 (F := Ideal) m c t.val t.isLt).2 j from by
    rw [outsAt0_C m c t h0 h]
    dsimp only
    rw [sumC]
    ).trans ((sofar m c t.val t.isLt j).trans ?_)
  rw [h]
  exact sum_blocks (fun k => fa m c ((t.val / 8) * 1024 + (j 0).val) k * fb m c k (0 * 2048 + (j 1).val)) 8 1408

/-- The result array: every entry is its whole sum. -/
theorem arr (c : Dev nD) : (dats (F := Ideal) m 0 c).arrAt 2 cfg0.N
    = (fun i => ∑ k ∈ Finset.range 11264, fa m c (i 0).val k * fb m c k (i 1).val : S4096x2048.Idx → EReal) := by
  refine (dats m 0 c).arrAt_eq_of_covers 2 _ (by decide +kernel) fun t hf j => ?_
  have hm : t.val % 8 = 7 := (flush0_2 t).mp hf
  have ht := lt t
  have j0 : (j 0).val < 1024 := (j 0).isLt
  have e0 : win0_2.index t 0 = t.val / 8 := by rw [(idx_all t).2.2]; rfl
  have j1 : (j 1).val < 2048 := (j 1).isLt
  have e1 : win0_2.index t 1 = 0 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 11264, fa m c (i 0).val k * fb m c k (i 1).val : S4096x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.UpDIdeal.Mm

end
-- ==== Proof.Mm.UpDSame.lean ====
/- The program `UpD` and its reference: the reference's composed term is the same sum. -/
module

public import proofs.«01_k».proof.Defs
public import proofs.«01_k».proof.Proof.Gen.UpDRefIdeal.Read
public import proofs.«01_k».proof.Proof.Mm.UpD
public import Idealize.ShloMosaic.Adequacy
public import Idealize.ShloMosaic.Init

@[expose] public section

set_option maxRecDepth 16384

noncomputable section

namespace Cert.Mm.UpD

open Cert.UpDIdeal (nD τ sig)
open Cert.UpDRefIdeal (S2048x11264 S4096x11264 S4096x5632)
open Cert.UpDRefIdeal.Read Cert.UpDIdeal.Mm Idealize.ShloMosaic Idealize.SL.Sem

variable (m : (ℓ : Loc nD τ sig) → Buf (Elt Ideal) ℓ) (c : Dev nD)

/-- The gathered shards side by side: column `q` of the matrix is column `q % 1408` of shard `q / 1408`. -/
theorem shard (i : S2048x11264.Idx) : val_main_v4 (F := Ideal) (B m c) i = fb m c (i 1).val (i 0).val := by
  have h0 : (i 0).val < 2048 := (i 0).isLt
  have h1 : (i 1).val < 11264 := (i 1).isLt
  rw [val_main_v4_apply, val_main_v3_apply]
  refine at3_eq (B m c) _ ?_ ?_ ?_
  · show ((i 0).val * 11264 + (i 1).val) / 1408 % 8 = (i 1).val / 1408
    omega
  · show ((i 0).val * 11264 + (i 1).val) / 11264 = (i 0).val
    omega
  · show ((i 0).val * 11264 + (i 1).val) % 1408 = (i 1).val % 1408
    omega

/-- The two halves of the cotangent side by side: column `k` of the matrix is column `k % 5632` of half `k / 5632`. -/
theorem half (i : S4096x11264.Idx) : val_main_v15 (F := Ideal) (A m c) i = fa m c (i 0).val (i 1).val := by
  have h0 : (i 0).val < 4096 := (i 0).isLt
  have h1 : (i 1).val < 11264 := (i 1).isLt
  unfold val_main_v15
  by_cases h : (i 1).val < 5632
  · refine (concatenate_pair_apply_left (s₁ := S4096x5632) (s₂ := S4096x5632) 1 _ _ _ i rfl (ValueIdx.ix2 ⟨(i 0).val, h0⟩ ⟨(i 1).val, h⟩ : S4096x5632.Idx)
      (fun b => match b with | ⟨0, _⟩ => rfl | ⟨1, _⟩ => rfl)).trans ?_
    rw [val_main_v12_apply, val_main_v11_apply]
    refine at3_eq (A m c) _ ?_ ?_ ?_
    · show 0 = (i 1).val / 5632
      omega
    · show ((i 0).val * 5632 + (i 1).val) / 5632 % 4096 = (i 0).val
      omega
    · show ((i 0).val * 5632 + (i 1).val) % 5632 = (i 1).val % 5632
      omega
  · refine (concatenate_pair_apply_right (s₁ := S4096x5632) (s₂ := S4096x5632) 1 _ _ _ i rfl rfl (ValueIdx.ix2 ⟨(i 0).val, h0⟩ ⟨(i 1).val - 5632, by omega⟩ : S4096x5632.Idx)
      (fun b => match b with | ⟨0, _⟩ => fun _ => rfl | ⟨1, _⟩ => fun h => absurd rfl h) (show (i 1).val - 5632 + 5632 = (i 1).val by omega)).trans ?_
    rw [val_main_v14_apply, val_main_v13_apply]
    refine at3_eq (A m c) _ ?_ ?_ ?_
    · show 1 + 0 = (i 1).val / 5632
      omega
    · show ((i 0).val * 5632 + ((i 1).val - 5632)) / 5632 % 4096 = (i 0).val
      omega
    · show ((i 0).val * 5632 + ((i 1).val - 5632)) % 5632 = (i 1).val % 5632
      omega

/-- The reference's result, entry by entry. -/
theorem ref (i : Cert.UpDIdeal.S4096x2048.Idx) :
    val_main_v16 (F := Ideal) (A m c) (B m c) i = ∑ k ∈ Finset.range 11264, fa m c (i 0).val k * fb m c k (i 1).val := by
  rw [val_main_v16_apply, Finset.sum_range]
  exact Finset.sum_congr rfl fun k _ => congrArg₂ (· * ·) (half m c _) (shard m c _)

/-- The reference runs, keeps its arguments, and has no counters. -/
theorem referenceFrame : Cert.quiescent_UpDRefIdeal (hUpDRefIdeal := Cert.UpDRefIdeal.Gen.facts) := fun m g _ =>
  (θ_run Cert.UpDRefIdeal.defs _ _).mono (fun r h => ⟨fun c => (h c).2, sem_eq_zero_of_no_sems (by decide) r.2⟩)
    (Cert.UpDRefIdeal.Value.run (F := Ideal) m g)

/-- The equation: both programs run and end with equal results. -/
theorem algebraic : Cert.algebraic_UpDIdeal_UpDRefIdeal (hUpDIdeal := Cert.UpDIdeal.Gen.facts) (hUpDRefIdeal := Cert.UpDRefIdeal.Gen.facts) := fun m g m' g' _ ha => by
  refine ⟨_, Cert.UpDIdeal.Mm.run m g, (θ_run _ _ _).mono (fun r h c => ?_) (Cert.UpDRefIdeal.Value.run m' g')⟩
  obtain ⟨r0, k⟩ := h c
  obtain ⟨a0, a1⟩ := ha c
  refine ⟨r0.trans ?_, k⟩
  refine (val_main_v16_eq _ _).trans ?_
  funext i
  refine (congrArg₂ (fun a b => val_main_v16 (F := Ideal) a b i) a0 a1).trans (ref m c i)

end Cert.Mm.UpD

end
-- ==== Proof.Mm.UpW.lean ====
/- The product of `UpW` (columns by columns) as its grid computes it: the result array is the whole sum, entry by entry. -/
module

public import proofs.«01_k».proof.Proof.Gen.UpWIdeal.Value
public import proofs.«01_k».proof.Proof.Mm.Sum
public import Idealize.ShloMosaic.Lib.Pipeline.ValueKit

@[expose] public section

set_option maxRecDepth 16384

noncomputable section

namespace Cert.UpWIdeal.Mm

open Cert.UpWIdeal Cert.UpWIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S2x4096x5632.Idx → EReal := m ((c : Thread nD τ).loc main_arg1)

/-- The left factor for row `p` of the product and term `k`. -/
def fa (c : Dev nD) (p k : ℕ) : EReal := at2 (A m c) k p

/-- The right factor for term `k` and column `q` of the product. -/
def fb (c : Dev nD) (k q : ℕ) : EReal := at3 (B m c) (q / 5632) k (q % 5632)

/-- The points of the grid. -/
theorem lt (t : Fin cfg0.N) : t.val < 32 := lt_of_lt_of_eq t.isLt (show cfg0.N = 32 from N_0)

/-- The block of each window at each point. -/
theorem idx_all : ∀ t : Fin cfg0.N, win0_0.index t = ![t.val % 2, t.val / 16] ∧ win0_1.index t = ![(t.val / 2 % 8) / 4, t.val % 2, (t.val / 2 % 8) % 4] ∧ win0_2.index t = ![t.val / 2 % 8, t.val / 16, 0] := by
  decide +kernel

/-- The block of operand 0 at a point, entry by entry. -/
theorem blk0 (c : Dev nD) (t : Fin cfg0.N) (j : S2048x1024.Idx) :
    iblk m c 0 t j = fa m c ((t.val / 16) * 1024 + (j 1).val) ((t.val % 2) * 2048 + (j 0).val) := by
  have ht := lt t
  have j0 : (j 0).val < 2048 := (j 0).isLt
  have e0 : win0_0.index t 0 = t.val % 2 := by rw [(idx_all t).1]; rfl
  have j1 : (j 1).val < 1024 := (j 1).isLt
  have e1 : win0_0.index t 1 = t.val / 16 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S1x2048x1408.Idx) :
    iblk m c 1 t j = fb m c ((t.val % 2) * 2048 + (j 1).val) ((t.val / 2 % 8) * 1408 + (j 2).val) := by
  have ht := lt t
  have j0 : (j 0).val < 1 := (j 0).isLt
  have e0 : win0_1.index t 0 = (t.val / 2 % 8) / 4 := by rw [(idx_all t).2.1]; rfl
  have j1 : (j 1).val < 2048 := (j 1).isLt
  have e1 : win0_1.index t 1 = t.val % 2 := by rw [(idx_all t).2.1]; rfl
  have j2 : (j 2).val < 1408 := (j 2).isLt
  have e2 : win0_1.index t 2 = (t.val / 2 % 8) % 4 := by rw [(idx_all t).2.1]; rfl
  unfold iblk fb
  rw [View.read_apply]
  show V m c main_arg1 _ = _
  rw [V_main_arg1]
  refine at3_eq _ _ ?_ ?_ ?_
  · blk_simp; rw [e0]; try omega
  · blk_simp; rw [e1]; try omega
  · blk_simp; rw [e2]; try omega

/-- No offset along two axes. -/
theorem hz2 : (![0, 0] : Fin 2 → ℕ) = fun _ => 0 := funext fun a => by fin_cases a <;> rfl

/-- No offset along three axes. -/
theorem hz3 : (![0, 0, 0] : Fin 3 → ℕ) = fun _ => 0 := funext fun a => by fin_cases a <;> rfl

/-- What the body adds to the running sum: the product of its two blocks. -/
theorem pay_apply {acc : Vec Ideal S1024x1408 .f32} {x : Vec Ideal S2048x1024 .bf16} {y : Vec Ideal S1x2048x1408 .bf16} {f g : ℕ → ℕ → EReal}
    (hx : ∀ i, x i = f (i 0).val (i 1).val) (hy : ∀ i, y i = g (i 1).val (i 2).val) (i : S1024x1408.Idx) :
    k0_pay2 (F := Ideal) acc x y i = acc i + ∑ k ∈ Finset.range 2048, f k (i 0).val * g k (i 1).val := by
  unfold k0_pay2
  rw [shapeCast_self]
  exact congrArg (acc i + ·) (tn rfl (fun i => hx i) (drop1 hy _) i)

/-- The running sum starts at zero. -/
theorem zero_apply (i : S1024x1408.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S2048x1024 .bf16) (y : Vec Ideal S1x2048x1408 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x1408) hz2, View.readCov_unit_zero (S := S1024x1408) _ hz2]
  simp only [View.readAt_eq_ld, h3.read_unread, h4.read_unread, View.ld_unit_zero (S := S2048x1024) hz2, View.ld_unit_zero (S := S1x2048x1408) hz3]

/-- At the last step the running sum takes one more product. -/
theorem sumB {c : Dev nD} {i : grid0.Coords} {a3 h3 a4 h4 a5 h5 a6 h6 p q} (x : Vec Ideal S2048x1024 .bf16) (y : Vec Ideal S1x2048x1408 .bf16) (s : Vec Ideal S1024x1408 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x1408) hz2]
  simp only [View.readAt_eq_ld, h3.read_unread, h4.read_unread, h6.read_unread, View.ld_unit_zero (S := S2048x1024) hz2, View.ld_unit_zero (S := S1x2048x1408) hz3, View.ld_unit_zero (S := S1024x1408) hz2]

/-- The last step writes the running sum out. -/
theorem outLast {c : Dev nD} {i : grid0.Coords} {a3 h3 a4 h4 a5 h5 a6 h6 p q} (x : Vec Ideal S2048x1024 .bf16) (y : Vec Ideal S1x2048x1408 .bf16) (s : Vec Ideal S1024x1408 .f32) :
    out0_B_2 (F := Ideal) c i a3 h3 a4 h4 a5 h5 a6 h6 p q x y s = k0_pay3 (k0_pay2 s x y) := by
  unfold out0_B_2
  rw [View.read_writes_eq_canon _ _ _ (cover0_B_2 c i a3 h3 a4 h4 a5 h5 a6 h6 p q x y s)]
  unfold kernelRun0_B
  dsimp only
  sl_unfold_words
  rw [View.canon_unit_zero (S := S1x1024x1408) hz3, View.readCov_unit_zero (S := S1024x1408) _ hz2]
  simp only [View.readAt_eq_ld, h3.read_unread, h4.read_unread, h6.read_unread, View.ld_unit_zero (S := S2048x1024) hz2, View.ld_unit_zero (S := S1x2048x1408) hz3, View.ld_unit_zero (S := S1024x1408) hz2]

/-- What is written out is the running sum. -/
theorem cast_apply {s : Vec Ideal S1024x1408 .f32} {f : ℕ → ℕ → EReal} (hs : ∀ i, s i = f (i 0).val (i 1).val) (j : S1x1024x1408.Idx) :
    k0_pay3 (F := Ideal) s j = f (j 1).val (j 2).val :=
  add1 (α := EReal) hs _ j

/-- One step adds the products of its block of terms. -/
theorem step (c : Dev nD) (t : Fin cfg0.N) (s : Vec Ideal S1024x1408 .f32) (j : S1024x1408.Idx) :
    k0_pay2 (F := Ideal) s (iblk m c 0 t) (iblk m c 1 t) j = s j + ∑ k ∈ Finset.range 2048, fa m c ((t.val / 16) * 1024 + (j 0).val) ((t.val % 2) * 2048 + k) * fb m c ((t.val % 2) * 2048 + k) ((t.val / 2 % 8) * 1408 + (j 1).val) :=
  pay_apply (f := fun a b => fa m c ((t.val / 16) * 1024 + b) ((t.val % 2) * 2048 + a))
    (g := fun a b => fb m c ((t.val % 2) * 2048 + a) ((t.val / 2 % 8) * 1408 + b)) (blk0 m c t) (blk1 m c t) j

/-- The running sum after a point: the products of the blocks of terms so far. -/
theorem sofar (c : Dev nD) : ∀ (n : ℕ) (h : n < cfg0.N) (j : S1024x1408.Idx),
    (outsAt0 (F := Ideal) m c n h).2 j = ∑ s ∈ Finset.range (n % 2 + 1), ∑ k ∈ Finset.range 2048, fa m c ((n / 16) * 1024 + (j 0).val) (s * 2048 + k) * fb m c (s * 2048 + k) ((n / 2 % 8) * 1408 + (j 1).val) := by
  have first : ∀ (t : Fin cfg0.N) (j : S1024x1408.Idx), t.val % 2 = 0 →
      (outsAt0 (F := Ideal) m c t.val t.isLt).2 j = ∑ s ∈ Finset.range (t.val % 2 + 1), ∑ k ∈ Finset.range 2048, fa m c ((t.val / 16) * 1024 + (j 0).val) (s * 2048 + k) * fb m c (s * 2048 + k) ((t.val / 2 % 8) * 1408 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 2 = 0
    · exact first ⟨n + 1, h⟩ j h0
    have e0 : n / 16 = (n + 1) / 16 := by omega
    have e1 : n / 2 % 8 = (n + 1) / 2 % 8 := by omega
    have e2 : n % 2 + 1 = (n + 1) % 2 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 2 + 1), ∑ k ∈ Finset.range 2048, fa m c (((n + 1) / 16) * 1024 + (j 0).val) (s * 2048 + k) * fb m c (s * 2048 + k) (((n + 1) / 2 % 8) * 1408 + (j 1).val) := by
      rw [Finset.sum_range_succ, ← e2, step, ih, e0, e1, e2]
    by_cases h1 : (n + 1) % 2 = 1
    · rw [outsAt0_B m c ⟨n + 1, h⟩ h0 h1]
      dsimp only
      rw [sumB]
      exact next
    · omega

/-- What the last point of a block leaves in its block of the result: the whole sums. -/
theorem left (c : Dev nD) (t : Fin cfg0.N) (h : t.val % 2 = 1) (j : S1x1024x1408.Idx) :
    (dats (F := Ideal) m 0 c).after 2 t j = ∑ k ∈ Finset.range 4096, fa m c ((t.val / 16) * 1024 + (j 1).val) k * fb m c k ((t.val / 2 % 8) * 1408 + (j 2).val) := by
  have h0 : ¬t.val % 2 = 0 := by omega
  rw [after0_2, outsAt0_B m c t h0 h]
  dsimp only
  rw [outLast]
  have e : ∀ i : S1024x1408.Idx, k0_pay2 (F := Ideal) (outsAt0 (F := Ideal) m c (t.val - 1) (Nat.lt_of_le_of_lt (Nat.sub_le _ _) t.isLt)).2 (iblk m c 0 t) (iblk m c 1 t) i
      = ∑ s ∈ Finset.range (t.val % 2 + 1), ∑ k ∈ Finset.range 2048, fa m c ((t.val / 16) * 1024 + (i 0).val) (s * 2048 + k) * fb m c (s * 2048 + k) ((t.val / 2 % 8) * 1408 + (i 1).val) := fun i => by
    have e := sofar m c t.val t.isLt i
    rw [outsAt0_B m c t h0 h] at e
    dsimp only at e
    rw [sumB] at e
    exact e
  refine (cast_apply (f := fun a b => ∑ s ∈ Finset.range (t.val % 2 + 1), ∑ k ∈ Finset.range 2048, fa m c ((t.val / 16) * 1024 + a) (s * 2048 + k) * fb m c (s * 2048 + k) ((t.val / 2 % 8) * 1408 + b)) e j).trans ?_
  dsimp only
  rw [h]
  exact sum_blocks (fun k => fa m c ((t.val / 16) * 1024 + (j 1).val) k * fb m c k ((t.val / 2 % 8) * 1408 + (j 2).val)) 2 2048

/-- The result array: every entry is its whole sum. -/
theorem arr (c : Dev nD) : (dats (F := Ideal) m 0 c).arrAt 2 cfg0.N
    = (fun i => ∑ k ∈ Finset.range 4096, fa m c (i 1).val k * fb m c k ((i 0).val * 1408 + (i 2).val) : S8x2048x1408.Idx → EReal) := by
  refine (dats m 0 c).arrAt_eq_of_covers 2 _ (by decide +kernel) fun t hf j => ?_
  have hm : t.val % 2 = 1 := (flush0_2 t).mp hf
  have ht := lt t
  have j0 : (j 0).val < 1 := (j 0).isLt
  have e0 : win0_2.index t 0 = t.val / 2 % 8 := by rw [(idx_all t).2.2]; rfl
  have j1 : (j 1).val < 1024 := (j 1).isLt
  have e1 : win0_2.index t 1 = t.val / 16 := by rw [(idx_all t).2.2]; rfl
  have j2 : (j 2).val < 1408 := (j 2).isLt
  have e2 : win0_2.index t 2 = 0 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e1]
  · rw [e0, e2]; omega

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 4096, fa m c (i 1).val k * fb m c k ((i 0).val * 1408 + (i 2).val) : S8x2048x1408.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.UpWIdeal.Mm

end
-- ==== Proof.Mm.UpWSame.lean ====
/- The program `UpW` and its reference: the reference's composed term is the same sum. -/
module

public import proofs.«01_k».proof.Defs
public import proofs.«01_k».proof.Proof.Gen.UpWRefIdeal.Read
public import proofs.«01_k».proof.Proof.Mm.UpW
public import Idealize.ShloMosaic.Adequacy
public import Idealize.ShloMosaic.Init

@[expose] public section

set_option maxRecDepth 16384

noncomputable section

namespace Cert.Mm.UpW

open Cert.UpWIdeal (nD τ sig)
open Cert.UpWRefIdeal (S4096x11264 S4096x5632 S11264x2048)
open Cert.UpWRefIdeal.Read Cert.UpWIdeal.Mm Idealize.ShloMosaic Idealize.SL.Sem

variable (m : (ℓ : Loc nD τ sig) → Buf (Elt Ideal) ℓ) (c : Dev nD)

/-- The two halves of the cotangent side by side: column `k` of the matrix is column `k % 5632` of half `k / 5632`. -/
theorem half (i : S4096x11264.Idx) : val_main_v15 (F := Ideal) (B m c) i = fb m c (i 0).val (i 1).val := by
  have h0 : (i 0).val < 4096 := (i 0).isLt
  have h1 : (i 1).val < 11264 := (i 1).isLt
  unfold val_main_v15
  by_cases h : (i 1).val < 5632
  · refine (concatenate_pair_apply_left (s₁ := S4096x5632) (s₂ := S4096x5632) 1 _ _ _ i rfl (ValueIdx.ix2 ⟨(i 0).val, h0⟩ ⟨(i 1).val, h⟩ : S4096x5632.Idx)
      (fun b => match b with | ⟨0, _⟩ => rfl | ⟨1, _⟩ => rfl)).trans ?_
    rw [val_main_v12_apply, val_main_v11_apply]
    refine at3_eq (B m c) _ ?_ ?_ ?_
    · show 0 = (i 1).val / 5632
      omega
    · show ((i 0).val * 5632 + (i 1).val) / 5632 % 4096 = (i 0).val
      omega
    · show ((i 0).val * 5632 + (i 1).val) % 5632 = (i 1).val % 5632
      omega
  · refine (concatenate_pair_apply_right (s₁ := S4096x5632) (s₂ := S4096x5632) 1 _ _ _ i rfl rfl (ValueIdx.ix2 ⟨(i 0).val, h0⟩ ⟨(i 1).val - 5632, by omega⟩ : S4096x5632.Idx)
      (fun b => match b with | ⟨0, _⟩ => fun _ => rfl | ⟨1, _⟩ => fun h => absurd rfl h) (show (i 1).val - 5632 + 5632 = (i 1).val by omega)).trans ?_
    rw [val_main_v14_apply, val_main_v13_apply]
    refine at3_eq (B m c) _ ?_ ?_ ?_
    · show 1 + 0 = (i 1).val / 5632
      omega
    · show ((i 0).val * 5632 + ((i 1).val - 5632)) / 5632 % 4096 = (i 0).val
      omega
    · show ((i 0).val * 5632 + ((i 1).val - 5632)) % 5632 = (i 1).val % 5632
      omega

/-- The whole product. -/
theorem whole (i : S11264x2048.Idx) : val_main_v16 (F := Ideal) (A m c) (B m c) i = ∑ k ∈ Finset.range 4096, fa m c (i 1).val k * fb m c k (i 0).val := by
  rw [val_main_v16_apply, Finset.sum_range]
  exact Finset.sum_congr rfl fun k _ => (mul_comm _ _).trans (congrArg₂ (· * ·) (at2_eq (A m c) _ rfl rfl) (half m c _))

/-- The reference's result, entry by entry. -/
theorem ref (i : Cert.UpWIdeal.S8x2048x1408.Idx) :
    val_main_v20 (F := Ideal) (A m c) (B m c) i = ∑ k ∈ Finset.range 4096, fa m c (i 1).val k * fb m c k ((i 0).val * 1408 + (i 2).val) := by
  have h0 : (i 0).val < 8 := (i 0).isLt
  have h1 : (i 1).val < 2048 := (i 1).isLt
  have h2 : (i 2).val < 1408 := (i 2).isLt
  rw [val_main_v20_apply]
  show val_main_v19 (F := Ideal) (A m c) (B m c) i = _
  rw [val_main_v19_apply, val_main_v18_apply, val_main_v17_apply, whole]
  refine Finset.sum_congr rfl fun k _ => congrArg₂ (fun a b => fa m c a k * fb m c k b) ?_ ?_
  · show (((i 1).val * 8 + (i 0).val) * 1408 + (i 2).val) / 11264 = (i 1).val
    omega
  · show (((i 1).val * 8 + (i 0).val) * 1408 + (i 2).val) % 11264 = (i 0).val * 1408 + (i 2).val
    omega

/-- The reference runs, keeps its arguments, and has no counters. -/
theorem referenceFrame : Cert.quiescent_UpWRefIdeal (hUpWRefIdeal := Cert.UpWRefIdeal.Gen.facts) := fun m g _ =>
  (θ_run Cert.UpWRefIdeal.defs _ _).mono (fun r h => ⟨fun c => (h c).2, sem_eq_zero_of_no_sems (by decide) r.2⟩)
    (Cert.UpWRefIdeal.Value.run (F := Ideal) m g)

/-- The equation: both programs run and end with equal results. -/
theorem algebraic : Cert.algebraic_UpWIdeal_UpWRefIdeal (hUpWIdeal := Cert.UpWIdeal.Gen.facts) (hUpWRefIdeal := Cert.UpWRefIdeal.Gen.facts) := fun m g m' g' _ ha => by
  refine ⟨_, Cert.UpWIdeal.Mm.run m g, (θ_run _ _ _).mono (fun r h c => ?_) (Cert.UpWRefIdeal.Value.run m' g')⟩
  obtain ⟨r0, k⟩ := h c
  obtain ⟨a0, a1⟩ := ha c
  refine ⟨r0.trans ?_, k⟩
  refine (val_main_v20_eq _ _).trans ?_
  funext i
  refine (congrArg₂ (fun a b => val_main_v20 (F := Ideal) a b i) a0 a1).trans (ref m c i)

end Cert.Mm.UpW

end
-- ==== Proof.Mm.Down.lean ====
/- The product of `Down` (rows by columns) as its grid computes it: the result array is the whole sum, entry by entry. -/
module

public import proofs.«01_k».proof.Proof.Gen.DownIdeal.Value
public import proofs.«01_k».proof.Proof.Mm.Sum
public import Idealize.ShloMosaic.Lib.Pipeline.ValueKit

@[expose] public section

set_option maxRecDepth 16384

noncomputable section

namespace Cert.DownIdeal.Mm

open Cert.DownIdeal Cert.DownIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x5632.Idx → EReal := m ((c : Thread nD τ).loc main_arg0)

/-- The right operand, as launched. -/
abbrev B (c : Dev nD) : S5632x2048.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) k q

/-- The points of the grid. -/
theorem lt (t : Fin cfg0.N) : t.val < 16 := lt_of_lt_of_eq t.isLt (show cfg0.N = 16 from N_0)

/-- The block of each window at each point. -/
theorem idx_all : ∀ t : Fin cfg0.N, win0_0.index t = ![t.val / 4, t.val % 2] ∧ win0_1.index t = ![t.val % 2, t.val / 2 % 2] ∧ win0_2.index t = ![t.val / 4, t.val / 2 % 2] := by
  decide +kernel

/-- The block of operand 0 at a point, entry by entry. -/
theorem blk0 (c : Dev nD) (t : Fin cfg0.N) (j : S1024x2816.Idx) :
    iblk m c 0 t j = fa m c ((t.val / 4) * 1024 + (j 0).val) ((t.val % 2) * 2816 + (j 1).val) := by
  have ht := lt t
  have j0 : (j 0).val < 1024 := (j 0).isLt
  have e0 : win0_0.index t 0 = t.val / 4 := by rw [(idx_all t).1]; rfl
  have j1 : (j 1).val < 2816 := (j 1).isLt
  have e1 : win0_0.index t 1 = t.val % 2 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2816x1024.Idx) :
    iblk m c 1 t j = fb m c ((t.val % 2) * 2816 + (j 0).val) ((t.val / 2 % 2) * 1024 + (j 1).val) := by
  have ht := lt t
  have j0 : (j 0).val < 2816 := (j 0).isLt
  have e0 : win0_1.index t 0 = t.val % 2 := by rw [(idx_all t).2.1]; rfl
  have j1 : (j 1).val < 1024 := (j 1).isLt
  have e1 : win0_1.index t 1 = t.val / 2 % 2 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body adds to the running sum: the product of its two blocks. -/
theorem pay_apply {acc : Vec Ideal S1024x1024 .f32} {x : Vec Ideal S1024x2816 .bf16} {y : Vec Ideal S2816x1024 .bf16} {f g : ℕ → ℕ → EReal}
    (hx : ∀ i, x i = f (i 0).val (i 1).val) (hy : ∀ i, y i = g (i 0).val (i 1).val) (i : S1024x1024.Idx) :
    k0_pay2 (F := Ideal) acc x y i = acc i + ∑ k ∈ Finset.range 2816, f (i 0).val k * g k (i 1).val := by
  unfold k0_pay2
  rw [shapeCast_self]
  exact congrArg (acc i + ·) (nn rfl (fun i => hx i) (fun i => hy i) i)

/-- The running sum starts at zero. -/
theorem zero_apply (i : S1024x1024.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S1024x2816 .bf16) (y : Vec Ideal S2816x1024 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x2816) hz2, View.ld_unit_zero (S := S2816x1024) hz2]

/-- At the last step the running sum takes one more product. -/
theorem sumB {c : Dev nD} {i : grid0.Coords} {a3 h3 a4 h4 a5 h5 a6 h6 p q} (x : Vec Ideal S1024x2816 .bf16) (y : Vec Ideal S2816x1024 .bf16) (s : Vec Ideal S1024x1024 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x1024) hz2]
  simp only [View.readAt_eq_ld, h3.read_unread, h4.read_unread, h6.read_unread, View.ld_unit_zero (S := S1024x2816) hz2, View.ld_unit_zero (S := S2816x1024) hz2, View.ld_unit_zero (S := S1024x1024) hz2]

/-- The last step writes the running sum out. -/
theorem outLast {c : Dev nD} {i : grid0.Coords} {a3 h3 a4 h4 a5 h5 a6 h6 p q} (x : Vec Ideal S1024x2816 .bf16) (y : Vec Ideal S2816x1024 .bf16) (s : Vec Ideal S1024x1024 .f32) :
    out0_B_2 (F := Ideal) c i a3 h3 a4 h4 a5 h5 a6 h6 p q x y s = k0_pay2 s x y := by
  unfold out0_B_2
  rw [View.read_writes_eq_canon _ _ _ (cover0_B_2 c i a3 h3 a4 h4 a5 h5 a6 h6 p q x y s)]
  unfold kernelRun0_B
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x2816) hz2, View.ld_unit_zero (S := S2816x1024) hz2, View.ld_unit_zero (S := S1024x1024) hz2]

/-- One step adds the products of its block of terms. -/
theorem step (c : Dev nD) (t : Fin cfg0.N) (s : Vec Ideal S1024x1024 .f32) (j : S1024x1024.Idx) :
    k0_pay2 (F := Ideal) s (iblk m c 0 t) (iblk m c 1 t) j = s j + ∑ k ∈ Finset.range 2816, fa m c ((t.val / 4) * 1024 + (j 0).val) ((t.val % 2) * 2816 + k) * fb m c ((t.val % 2) * 2816 + k) ((t.val / 2 % 2) * 1024 + (j 1).val) :=
  pay_apply (f := fun a b => fa m c ((t.val / 4) * 1024 + a) ((t.val % 2) * 2816 + b))
    (g := fun a b => fb m c ((t.val % 2) * 2816 + a) ((t.val / 2 % 2) * 1024 + b)) (blk0 m c t) (blk1 m c t) j

/-- The running sum after a point: the products of the blocks of terms so far. -/
theorem sofar (c : Dev nD) : ∀ (n : ℕ) (h : n < cfg0.N) (j : S1024x1024.Idx),
    (outsAt0 (F := Ideal) m c n h).2 j = ∑ s ∈ Finset.range (n % 2 + 1), ∑ k ∈ Finset.range 2816, fa m c ((n / 4) * 1024 + (j 0).val) (s * 2816 + k) * fb m c (s * 2816 + k) ((n / 2 % 2) * 1024 + (j 1).val) := by
  have first : ∀ (t : Fin cfg0.N) (j : S1024x1024.Idx), t.val % 2 = 0 →
      (outsAt0 (F := Ideal) m c t.val t.isLt).2 j = ∑ s ∈ Finset.range (t.val % 2 + 1), ∑ k ∈ Finset.range 2816, fa m c ((t.val / 4) * 1024 + (j 0).val) (s * 2816 + k) * fb m c (s * 2816 + k) ((t.val / 2 % 2) * 1024 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 2 = 0
    · exact first ⟨n + 1, h⟩ j h0
    have e0 : n / 4 = (n + 1) / 4 := by omega
    have e1 : n / 2 % 2 = (n + 1) / 2 % 2 := by omega
    have e2 : n % 2 + 1 = (n + 1) % 2 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 2 + 1), ∑ k ∈ Finset.range 2816, fa m c (((n + 1) / 4) * 1024 + (j 0).val) (s * 2816 + k) * fb m c (s * 2816 + k) (((n + 1) / 2 % 2) * 1024 + (j 1).val) := by
      rw [Finset.sum_range_succ, ← e2, step, ih, e0, e1, e2]
    by_cases h1 : (n + 1) % 2 = 1
    · rw [outsAt0_B m c ⟨n + 1, h⟩ h0 h1]
      dsimp only
      rw [sumB]
      exact next
    · omega

/-- What the last point of a block leaves in its block of the result: the whole sums. -/
theorem left (c : Dev nD) (t : Fin cfg0.N) (h : t.val % 2 = 1) (j : S1024x1024.Idx) :
    (dats (F := Ideal) m 0 c).after 2 t j = ∑ k ∈ Finset.range 5632, fa m c ((t.val / 4) * 1024 + (j 0).val) k * fb m c k ((t.val / 2 % 2) * 1024 + (j 1).val) := by
  have h0 : ¬t.val % 2 = 0 := by omega
  rw [after0_2, outsAt0_B m c t h0 h]
  dsimp only
  rw [outLast]
  refine (show _ = (outsAt0 (F := Ideal) m c t.val t.isLt).2 j from by
    rw [outsAt0_B m c t h0 h]
    dsimp only
    rw [sumB]
    ).trans ((sofar m c t.val t.isLt j).trans ?_)
  rw [h]
  exact sum_blocks (fun k => fa m c ((t.val / 4) * 1024 + (j 0).val) k * fb m c k ((t.val / 2 % 2) * 1024 + (j 1).val)) 2 2816

/-- The result array: every entry is its whole sum. -/
theorem arr (c : Dev nD) : (dats (F := Ideal) m 0 c).arrAt 2 cfg0.N
    = (fun i => ∑ k ∈ Finset.range 5632, fa m c (i 0).val k * fb m c k (i 1).val : S4096x2048.Idx → EReal) := by
  refine (dats m 0 c).arrAt_eq_of_covers 2 _ (by decide +kernel) fun t hf j => ?_
  have hm : t.val % 2 = 1 := (flush0_2 t).mp hf
  have ht := lt t
  have j0 : (j 0).val < 1024 := (j 0).isLt
  have e0 : win0_2.index t 0 = t.val / 4 := by rw [(idx_all t).2.2]; rfl
  have j1 : (j 1).val < 1024 := (j 1).isLt
  have e1 : win0_2.index t 1 = t.val / 2 % 2 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 5632, fa m c (i 0).val k * fb m c k (i 1).val : S4096x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.DownIdeal.Mm

end
-- ==== Proof.Mm.DownSame.lean ====
/- The program `Down` and its reference: the reference's composed term is the same sum. -/
module

public import proofs.«01_k».proof.Defs
public import proofs.«01_k».proof.Proof.Gen.DownRefIdeal.Read
public import proofs.«01_k».proof.Proof.Mm.Down
public import Idealize.ShloMosaic.Adequacy
public import Idealize.ShloMosaic.Init

@[expose] public section

set_option maxRecDepth 16384

noncomputable section

namespace Cert.Mm.Down

open Cert.DownIdeal (nD τ sig)
open Cert.DownRefIdeal.Read Cert.DownIdeal.Mm Idealize.ShloMosaic Idealize.SL.Sem

variable (m : (ℓ : Loc nD τ sig) → Buf (Elt Ideal) ℓ) (c : Dev nD)

/-- The reference's result, entry by entry. -/
theorem ref (i : Cert.DownIdeal.S4096x2048.Idx) :
    val_main_v2 (F := Ideal) (A m c) (B m c) i = ∑ k ∈ Finset.range 5632, fa m c (i 0).val k * fb m c k (i 1).val := by
  rw [val_main_v2_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_DownRefIdeal (hDownRefIdeal := Cert.DownRefIdeal.Gen.facts) := fun m g _ =>
  (θ_run Cert.DownRefIdeal.defs _ _).mono (fun r h => ⟨fun c => (h c).2, sem_eq_zero_of_no_sems (by decide) r.2⟩)
    (Cert.DownRefIdeal.Value.run (F := Ideal) m g)

/-- The equation: both programs run and end with equal results. -/
theorem algebraic : Cert.algebraic_DownIdeal_DownRefIdeal (hDownIdeal := Cert.DownIdeal.Gen.facts) (hDownRefIdeal := Cert.DownRefIdeal.Gen.facts) := fun m g m' g' _ ha => by
  refine ⟨_, Cert.DownIdeal.Mm.run m g, (θ_run _ _ _).mono (fun r h c => ?_) (Cert.DownRefIdeal.Value.run m' g')⟩
  obtain ⟨r0, k⟩ := h c
  obtain ⟨a0, a1⟩ := ha c
  refine ⟨r0.trans ?_, k⟩
  refine (val_main_v2_eq _ _).trans ?_
  funext i
  refine (congrArg₂ (fun a b => val_main_v2 (F := Ideal) a b i) a0 a1).trans (ref m c i)

end Cert.Mm.Down

end
-- ==== Proof.Mm.DownD.lean ====
/- The product of `DownD` (rows by rows) as its grid computes it: the result array is the whole sum, entry by entry. -/
module

public import proofs.«01_k».proof.Proof.Gen.DownDIdeal.Value
public import proofs.«01_k».proof.Proof.Mm.Sum
public import Idealize.ShloMosaic.Lib.Pipeline.ValueKit

@[expose] public section

set_option maxRecDepth 16384

noncomputable section

namespace Cert.DownDIdeal.Mm

open Cert.DownDIdeal Cert.DownDIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S5632x2048.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) q k

/-- The points of the grid. -/
theorem lt (t : Fin cfg0.N) : t.val < 16 := lt_of_lt_of_eq t.isLt (show cfg0.N = 16 from N_0)

/-- The block of each window at each point. -/
theorem idx_all : ∀ t : Fin cfg0.N, win0_0.index t = ![t.val / 4, 0] ∧ win0_1.index t = ![t.val % 4, 0] ∧ win0_2.index t = ![t.val / 4, t.val % 4] := by
  decide +kernel

/-- The block of operand 0 at a point, entry by entry. -/
theorem blk0 (c : Dev nD) (t : Fin cfg0.N) (j : S1024x2048.Idx) :
    iblk m c 0 t j = fa m c ((t.val / 4) * 1024 + (j 0).val) (0 * 2048 + (j 1).val) := by
  have ht := lt t
  have j0 : (j 0).val < 1024 := (j 0).isLt
  have e0 : win0_0.index t 0 = t.val / 4 := by rw [(idx_all t).1]; rfl
  have j1 : (j 1).val < 2048 := (j 1).isLt
  have e1 : win0_0.index t 1 = 0 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S1408x2048.Idx) :
    iblk m c 1 t j = fb m c (0 * 2048 + (j 1).val) ((t.val % 4) * 1408 + (j 0).val) := by
  have ht := lt t
  have j0 : (j 0).val < 1408 := (j 0).isLt
  have e0 : win0_1.index t 0 = t.val % 4 := by rw [(idx_all t).2.1]; rfl
  have j1 : (j 1).val < 2048 := (j 1).isLt
  have e1 : win0_1.index t 1 = 0 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body computes from two blocks: their product. -/
theorem pay_apply {x : Vec Ideal S1024x2048 .bf16} {y : Vec Ideal S1408x2048 .bf16} {f g : ℕ → ℕ → EReal}
    (hx : ∀ i, x i = f (i 0).val (i 1).val) (hy : ∀ i, y i = g (i 0).val (i 1).val) (i : S1024x1408.Idx) :
    k0_pay1 (F := Ideal) x y i = ∑ k ∈ Finset.range 2048, f (i 0).val k * g (i 1).val k :=
  nt rfl (fun i => hx i) (fun i => hy i) i

/-- What the body stores, as the one piece it is. -/
theorem out_eq (x : Vec Ideal S1024x2048 .bf16) (y : Vec Ideal S1408x2048 .bf16) : out0_2 (F := Ideal) x y = k0_pay1 x y := by
  unfold out0_2
  rw [View.canon_unit_zero hz2, View.ld_unit_zero (S := S1024x2048) hz2, View.ld_unit_zero (S := S1408x2048) hz2]

/-- What a point leaves in its block of the result: the whole sums. -/
theorem left (c : Dev nD) (t : Fin cfg0.N) (_ : t.val % 1 = 0) (j : S1024x1408.Idx) :
    (dats (F := Ideal) m 0 c).after 2 t j = ∑ k ∈ Finset.range 2048, fa m c ((t.val / 4) * 1024 + (j 0).val) k * fb m c k ((t.val % 4) * 1408 + (j 1).val) := by
  rw [after0_2, out_eq]
  refine (pay_apply (f := fun a b => fa m c ((t.val / 4) * 1024 + a) (0 * 2048 + b))
    (g := fun a b => fb m c (0 * 2048 + b) ((t.val % 4) * 1408 + a)) (blk0 m c t) (blk1 m c t) j).trans ?_
  simp only [Nat.zero_mul, Nat.zero_add]

/-- The result array: every entry is its whole sum. -/
theorem arr (c : Dev nD) : (dats (F := Ideal) m 0 c).arrAt 2 cfg0.N
    = (fun i => ∑ k ∈ Finset.range 2048, fa m c (i 0).val k * fb m c k (i 1).val : S4096x5632.Idx → EReal) := by
  refine (dats m 0 c).arrAt_eq_of_covers 2 _ (by decide +kernel) fun t hf j => ?_
  have hm : t.val % 1 = 0 := Nat.mod_one _
  have ht := lt t
  have j0 : (j 0).val < 1024 := (j 0).isLt
  have e0 : win0_2.index t 0 = t.val / 4 := by rw [(idx_all t).2.2]; rfl
  have j1 : (j 1).val < 1408 := (j 1).isLt
  have e1 : win0_2.index t 1 = t.val % 4 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 2048, fa m c (i 0).val k * fb m c k (i 1).val : S4096x5632.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.DownDIdeal.Mm

end
-- ==== Proof.Mm.DownDSame.lean ====
/- The program `DownD` and its reference: the reference's composed term is the same sum. -/
module

public import proofs.«01_k».proof.Defs
public import proofs.«01_k».proof.Proof.Gen.DownDRefIdeal.Read
public import proofs.«01_k».proof.Proof.Mm.DownD
public import Idealize.ShloMosaic.Adequacy
public import Idealize.ShloMosaic.Init

@[expose] public section

set_option maxRecDepth 16384

noncomputable section

namespace Cert.Mm.DownD

open Cert.DownDIdeal (nD τ sig)
open Cert.DownDRefIdeal.Read Cert.DownDIdeal.Mm Idealize.ShloMosaic Idealize.SL.Sem

variable (m : (ℓ : Loc nD τ sig) → Buf (Elt Ideal) ℓ) (c : Dev nD)

/-- The reference's result, entry by entry. -/
theorem ref (i : Cert.DownDIdeal.S4096x5632.Idx) :
    val_main_v4 (F := Ideal) (A m c) (B m c) i = ∑ k ∈ Finset.range 2048, fa m c (i 0).val k * fb m c k (i 1).val := by
  rw [val_main_v4_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_DownDRefIdeal (hDownDRefIdeal := Cert.DownDRefIdeal.Gen.facts) := fun m g _ =>
  (θ_run Cert.DownDRefIdeal.defs _ _).mono (fun r h => ⟨fun c => (h c).2, sem_eq_zero_of_no_sems (by decide) r.2⟩)
    (Cert.DownDRefIdeal.Value.run (F := Ideal) m g)

/-- The equation: both programs run and end with equal results. -/
theorem algebraic : Cert.algebraic_DownDIdeal_DownDRefIdeal (hDownDIdeal := Cert.DownDIdeal.Gen.facts) (hDownDRefIdeal := Cert.DownDRefIdeal.Gen.facts) := fun m g m' g' _ ha => by
  refine ⟨_, Cert.DownDIdeal.Mm.run m g, (θ_run _ _ _).mono (fun r h c => ?_) (Cert.DownDRefIdeal.Value.run m' g')⟩
  obtain ⟨r0, k⟩ := h c
  obtain ⟨a0, a1⟩ := ha c
  refine ⟨r0.trans ?_, k⟩
  refine (val_main_v4_eq _ _).trans ?_
  funext i
  refine (congrArg₂ (fun a b => val_main_v4 (F := Ideal) a b i) a0 a1).trans (ref m c i)

end Cert.Mm.DownD

end
-- ==== Proof.Mm.DownW.lean ====
/- The product of `DownW` (columns by columns) as its grid computes it: the result array is the whole sum, entry by entry. -/
module

public import proofs.«01_k».proof.Proof.Gen.DownWIdeal.Value
public import proofs.«01_k».proof.Proof.Mm.Sum
public import Idealize.ShloMosaic.Lib.Pipeline.ValueKit

@[expose] public section

set_option maxRecDepth 16384

noncomputable section

namespace Cert.DownWIdeal.Mm

open Cert.DownWIdeal Cert.DownWIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x5632.Idx → EReal := m ((c : Thread nD τ).loc main_arg0)

/-- The right operand, as launched. -/
abbrev B (c : Dev nD) : S4096x2048.Idx → EReal := m ((c : Thread nD τ).loc main_arg1)

/-- The left factor for row `p` of the product and term `k`. -/
def fa (c : Dev nD) (p k : ℕ) : EReal := at2 (A m c) k p

/-- The right factor for term `k` and column `q` of the product. -/
def fb (c : Dev nD) (k q : ℕ) : EReal := at2 (B m c) k q

/-- The points of the grid. -/
theorem lt (t : Fin cfg0.N) : t.val < 44 := lt_of_lt_of_eq t.isLt (show cfg0.N = 44 from N_0)

/-- The block of each window at each point. -/
theorem idx_all : ∀ t : Fin cfg0.N, win0_0.index t = ![t.val % 2, t.val / 4] ∧ win0_1.index t = ![t.val % 2, t.val / 2 % 2] ∧ win0_2.index t = ![t.val / 4, t.val / 2 % 2] := by
  decide +kernel

/-- The block of operand 0 at a point, entry by entry. -/
theorem blk0 (c : Dev nD) (t : Fin cfg0.N) (j : S2048x512.Idx) :
    iblk m c 0 t j = fa m c ((t.val / 4) * 512 + (j 1).val) ((t.val % 2) * 2048 + (j 0).val) := by
  have ht := lt t
  have j0 : (j 0).val < 2048 := (j 0).isLt
  have e0 : win0_0.index t 0 = t.val % 2 := by rw [(idx_all t).1]; rfl
  have j1 : (j 1).val < 512 := (j 1).isLt
  have e1 : win0_0.index t 1 = t.val / 4 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1024.Idx) :
    iblk m c 1 t j = fb m c ((t.val % 2) * 2048 + (j 0).val) ((t.val / 2 % 2) * 1024 + (j 1).val) := by
  have ht := lt t
  have j0 : (j 0).val < 2048 := (j 0).isLt
  have e0 : win0_1.index t 0 = t.val % 2 := by rw [(idx_all t).2.1]; rfl
  have j1 : (j 1).val < 1024 := (j 1).isLt
  have e1 : win0_1.index t 1 = t.val / 2 % 2 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body adds to the running sum: the product of its two blocks. -/
theorem pay_apply {acc : Vec Ideal S512x1024 .f32} {x : Vec Ideal S2048x512 .bf16} {y : Vec Ideal S2048x1024 .bf16} {f g : ℕ → ℕ → EReal}
    (hx : ∀ i, x i = f (i 0).val (i 1).val) (hy : ∀ i, y i = g (i 0).val (i 1).val) (i : S512x1024.Idx) :
    k0_pay2 (F := Ideal) acc x y i = acc i + ∑ k ∈ Finset.range 2048, f k (i 0).val * g k (i 1).val := by
  unfold k0_pay2
  rw [shapeCast_self]
  exact congrArg (acc i + ·) (tn rfl (fun i => hx i) (fun i => hy i) i)

/-- The running sum starts at zero. -/
theorem zero_apply (i : S512x1024.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S2048x512 .bf16) (y : Vec Ideal S2048x1024 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S512x1024) hz2, View.readCov_unit_zero (S := S512x1024) _ hz2]
  simp only [View.readAt_eq_ld, h3.read_unread, h4.read_unread, View.ld_unit_zero (S := S2048x512) hz2, View.ld_unit_zero (S := S2048x1024) hz2]

/-- At the last step the running sum takes one more product. -/
theorem sumB {c : Dev nD} {i : grid0.Coords} {a3 h3 a4 h4 a5 h5 a6 h6 p q} (x : Vec Ideal S2048x512 .bf16) (y : Vec Ideal S2048x1024 .bf16) (s : Vec Ideal S512x1024 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S512x1024) hz2]
  simp only [View.readAt_eq_ld, h3.read_unread, h4.read_unread, h6.read_unread, View.ld_unit_zero (S := S2048x512) hz2, View.ld_unit_zero (S := S2048x1024) hz2, View.ld_unit_zero (S := S512x1024) hz2]

/-- The last step writes the running sum out. -/
theorem outLast {c : Dev nD} {i : grid0.Coords} {a3 h3 a4 h4 a5 h5 a6 h6 p q} (x : Vec Ideal S2048x512 .bf16) (y : Vec Ideal S2048x1024 .bf16) (s : Vec Ideal S512x1024 .f32) :
    out0_B_2 (F := Ideal) c i a3 h3 a4 h4 a5 h5 a6 h6 p q x y s = k0_pay3 (k0_pay2 s x y) := by
  unfold out0_B_2
  rw [View.read_writes_eq_canon _ _ _ (cover0_B_2 c i a3 h3 a4 h4 a5 h5 a6 h6 p q x y s)]
  unfold kernelRun0_B
  dsimp only
  sl_unfold_words
  rw [View.canon_unit_zero (S := S512x1024) hz2, View.readCov_unit_zero (S := S512x1024) _ hz2]
  simp only [View.readAt_eq_ld, h3.read_unread, h4.read_unread, h6.read_unread, View.ld_unit_zero (S := S2048x512) hz2, View.ld_unit_zero (S := S2048x1024) hz2, View.ld_unit_zero (S := S512x1024) hz2]

/-- One step adds the products of its block of terms. -/
theorem step (c : Dev nD) (t : Fin cfg0.N) (s : Vec Ideal S512x1024 .f32) (j : S512x1024.Idx) :
    k0_pay2 (F := Ideal) s (iblk m c 0 t) (iblk m c 1 t) j = s j + ∑ k ∈ Finset.range 2048, fa m c ((t.val / 4) * 512 + (j 0).val) ((t.val % 2) * 2048 + k) * fb m c ((t.val % 2) * 2048 + k) ((t.val / 2 % 2) * 1024 + (j 1).val) :=
  pay_apply (f := fun a b => fa m c ((t.val / 4) * 512 + b) ((t.val % 2) * 2048 + a))
    (g := fun a b => fb m c ((t.val % 2) * 2048 + a) ((t.val / 2 % 2) * 1024 + b)) (blk0 m c t) (blk1 m c t) j

/-- The running sum after a point: the products of the blocks of terms so far. -/
theorem sofar (c : Dev nD) : ∀ (n : ℕ) (h : n < cfg0.N) (j : S512x1024.Idx),
    (outsAt0 (F := Ideal) m c n h).2 j = ∑ s ∈ Finset.range (n % 2 + 1), ∑ k ∈ Finset.range 2048, fa m c ((n / 4) * 512 + (j 0).val) (s * 2048 + k) * fb m c (s * 2048 + k) ((n / 2 % 2) * 1024 + (j 1).val) := by
  have first : ∀ (t : Fin cfg0.N) (j : S512x1024.Idx), t.val % 2 = 0 →
      (outsAt0 (F := Ideal) m c t.val t.isLt).2 j = ∑ s ∈ Finset.range (t.val % 2 + 1), ∑ k ∈ Finset.range 2048, fa m c ((t.val / 4) * 512 + (j 0).val) (s * 2048 + k) * fb m c (s * 2048 + k) ((t.val / 2 % 2) * 1024 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 2 = 0
    · exact first ⟨n + 1, h⟩ j h0
    have e0 : n / 4 = (n + 1) / 4 := by omega
    have e1 : n / 2 % 2 = (n + 1) / 2 % 2 := by omega
    have e2 : n % 2 + 1 = (n + 1) % 2 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 2 + 1), ∑ k ∈ Finset.range 2048, fa m c (((n + 1) / 4) * 512 + (j 0).val) (s * 2048 + k) * fb m c (s * 2048 + k) (((n + 1) / 2 % 2) * 1024 + (j 1).val) := by
      rw [Finset.sum_range_succ, ← e2, step, ih, e0, e1, e2]
    by_cases h1 : (n + 1) % 2 = 1
    · rw [outsAt0_B m c ⟨n + 1, h⟩ h0 h1]
      dsimp only
      rw [sumB]
      exact next
    · omega

/-- What the last point of a block leaves in its block of the result: the whole sums. -/
theorem left (c : Dev nD) (t : Fin cfg0.N) (h : t.val % 2 = 1) (j : S512x1024.Idx) :
    (dats (F := Ideal) m 0 c).after 2 t j = ∑ k ∈ Finset.range 4096, fa m c ((t.val / 4) * 512 + (j 0).val) k * fb m c k ((t.val / 2 % 2) * 1024 + (j 1).val) := by
  have h0 : ¬t.val % 2 = 0 := by omega
  rw [after0_2, outsAt0_B m c t h0 h]
  dsimp only
  rw [outLast]
  refine (show _ = (outsAt0 (F := Ideal) m c t.val t.isLt).2 j from by
    rw [outsAt0_B m c t h0 h]
    dsimp only
    rw [sumB]
    rfl).trans ((sofar m c t.val t.isLt j).trans ?_)
  rw [h]
  exact sum_blocks (fun k => fa m c ((t.val / 4) * 512 + (j 0).val) k * fb m c k ((t.val / 2 % 2) * 1024 + (j 1).val)) 2 2048

/-- The result array: every entry is its whole sum. -/
theorem arr (c : Dev nD) : (dats (F := Ideal) m 0 c).arrAt 2 cfg0.N
    = (fun i => ∑ k ∈ Finset.range 4096, fa m c (i 0).val k * fb m c k (i 1).val : S5632x2048.Idx → EReal) := by
  refine (dats m 0 c).arrAt_eq_of_covers 2 _ (by decide +kernel) fun t hf j => ?_
  have hm : t.val % 2 = 1 := (flush0_2 t).mp hf
  have ht := lt t
  have j0 : (j 0).val < 512 := (j 0).isLt
  have e0 : win0_2.index t 0 = t.val / 4 := by rw [(idx_all t).2.2]; rfl
  have j1 : (j 1).val < 1024 := (j 1).isLt
  have e1 : win0_2.index t 1 = t.val / 2 % 2 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 4096, fa m c (i 0).val k * fb m c k (i 1).val : S5632x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.DownWIdeal.Mm

end
-- ==== Proof.Mm.DownWSame.lean ====
/- The program `DownW` and its reference: the reference's composed term is the same sum. -/
module

public import proofs.«01_k».proof.Defs
public import proofs.«01_k».proof.Proof.Gen.DownWRefIdeal.Read
public import proofs.«01_k».proof.Proof.Mm.DownW
public import Idealize.ShloMosaic.Adequacy
public import Idealize.ShloMosaic.Init

@[expose] public section

set_option maxRecDepth 16384

noncomputable section

namespace Cert.Mm.DownW

open Cert.DownWIdeal (nD τ sig)
open Cert.DownWRefIdeal.Read Cert.DownWIdeal.Mm Idealize.ShloMosaic Idealize.SL.Sem

variable (m : (ℓ : Loc nD τ sig) → Buf (Elt Ideal) ℓ) (c : Dev nD)

/-- The reference's result, entry by entry. -/
theorem ref (i : Cert.DownWIdeal.S5632x2048.Idx) :
    val_main_v6 (F := Ideal) (A m c) (B m c) i = ∑ k ∈ Finset.range 4096, fa m c (i 0).val k * fb m c k (i 1).val := by
  rw [val_main_v6_apply]
  show val_main_v5 (F := Ideal) (A m c) (B m c) i = _
  rw [val_main_v5_apply, val_main_v4_apply, Finset.sum_range]
  exact Finset.sum_congr rfl fun k _ => (mul_comm _ _).trans (congrArg₂ (· * ·) (at2_eq (A m c) _ rfl rfl) (at2_eq (B m c) _ rfl rfl))

/-- The reference runs, keeps its arguments, and has no counters. -/
theorem referenceFrame : Cert.quiescent_DownWRefIdeal (hDownWRefIdeal := Cert.DownWRefIdeal.Gen.facts) := fun m g _ =>
  (θ_run Cert.DownWRefIdeal.defs _ _).mono (fun r h => ⟨fun c => (h c).2, sem_eq_zero_of_no_sems (by decide) r.2⟩)
    (Cert.DownWRefIdeal.Value.run (F := Ideal) m g)

/-- The equation: both programs run and end with equal results. -/
theorem algebraic : Cert.algebraic_DownWIdeal_DownWRefIdeal (hDownWIdeal := Cert.DownWIdeal.Gen.facts) (hDownWRefIdeal := Cert.DownWRefIdeal.Gen.facts) := fun m g m' g' _ ha => by
  refine ⟨_, Cert.DownWIdeal.Mm.run m g, (θ_run _ _ _).mono (fun r h c => ?_) (Cert.DownWRefIdeal.Value.run m' g')⟩
  obtain ⟨r0, k⟩ := h c
  obtain ⟨a0, a1⟩ := ha c
  refine ⟨r0.trans ?_, k⟩
  refine (val_main_v6_eq _ _).trans ?_
  funext i
  refine (congrArg₂ (fun a b => val_main_v6 (F := Ideal) a b i) a0 a1).trans (ref m c i)

end Cert.Mm.DownW

end
-- ==== Proof.Mm.In.lean ====
/- The product of `In` (rows by columns) as its grid computes it: the result array is the whole sum, entry by entry. -/
module

public import proofs.«01_k».proof.Proof.Gen.InIdeal.Value
public import proofs.«01_k».proof.Proof.Mm.Sum
public import Idealize.ShloMosaic.Lib.Pipeline.ValueKit

@[expose] public section

set_option maxRecDepth 16384

noncomputable section

namespace Cert.InIdeal.Mm

open Cert.InIdeal Cert.InIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S2048x4992.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) k q

/-- The points of the grid. -/
theorem lt (t : Fin cfg0.N) : t.val < 12 := lt_of_lt_of_eq t.isLt (show cfg0.N = 12 from N_0)

/-- The block of each window at each point. -/
theorem idx_all : ∀ t : Fin cfg0.N, win0_0.index t = ![t.val / 3, 0] ∧ win0_1.index t = ![0, t.val % 3] ∧ win0_2.index t = ![t.val / 3, t.val % 3] := by
  decide +kernel

/-- The block of operand 0 at a point, entry by entry. -/
theorem blk0 (c : Dev nD) (t : Fin cfg0.N) (j : S1024x2048.Idx) :
    iblk m c 0 t j = fa m c ((t.val / 3) * 1024 + (j 0).val) (0 * 2048 + (j 1).val) := by
  have ht := lt t
  have j0 : (j 0).val < 1024 := (j 0).isLt
  have e0 : win0_0.index t 0 = t.val / 3 := by rw [(idx_all t).1]; rfl
  have j1 : (j 1).val < 2048 := (j 1).isLt
  have e1 : win0_0.index t 1 = 0 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1664.Idx) :
    iblk m c 1 t j = fb m c (0 * 2048 + (j 0).val) ((t.val % 3) * 1664 + (j 1).val) := by
  have ht := lt t
  have j0 : (j 0).val < 2048 := (j 0).isLt
  have e0 : win0_1.index t 0 = 0 := by rw [(idx_all t).2.1]; rfl
  have j1 : (j 1).val < 1664 := (j 1).isLt
  have e1 : win0_1.index t 1 = t.val % 3 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body computes from two blocks: their product. -/
theorem pay_apply {x : Vec Ideal S1024x2048 .bf16} {y : Vec Ideal S2048x1664 .bf16} {f g : ℕ → ℕ → EReal}
    (hx : ∀ i, x i = f (i 0).val (i 1).val) (hy : ∀ i, y i = g (i 0).val (i 1).val) (i : S1024x1664.Idx) :
    k0_pay1 (F := Ideal) x y i = ∑ k ∈ Finset.range 2048, f (i 0).val k * g k (i 1).val :=
  nn rfl (fun i => hx i) (fun i => hy i) i

/-- What the body stores, as the one piece it is. -/
theorem out_eq (x : Vec Ideal S1024x2048 .bf16) (y : Vec Ideal S2048x1664 .bf16) : out0_2 (F := Ideal) x y = k0_pay1 x y := by
  unfold out0_2
  rw [View.canon_unit_zero hz2, View.ld_unit_zero (S := S1024x2048) hz2, View.ld_unit_zero (S := S2048x1664) hz2]

/-- What a point leaves in its block of the result: the whole sums. -/
theorem left (c : Dev nD) (t : Fin cfg0.N) (_ : t.val % 1 = 0) (j : S1024x1664.Idx) :
    (dats (F := Ideal) m 0 c).after 2 t j = ∑ k ∈ Finset.range 2048, fa m c ((t.val / 3) * 1024 + (j 0).val) k * fb m c k ((t.val % 3) * 1664 + (j 1).val) := by
  rw [after0_2, out_eq]
  refine (pay_apply (f := fun a b => fa m c ((t.val / 3) * 1024 + a) (0 * 2048 + b))
    (g := fun a b => fb m c (0 * 2048 + a) ((t.val % 3) * 1664 + b)) (blk0 m c t) (blk1 m c t) j).trans ?_
  simp only [Nat.zero_mul, Nat.zero_add]

/-- The result array: every entry is its whole sum. -/
theorem arr (c : Dev nD) : (dats (F := Ideal) m 0 c).arrAt 2 cfg0.N
    = (fun i => ∑ k ∈ Finset.range 2048, fa m c (i 0).val k * fb m c k (i 1).val : S4096x4992.Idx → EReal) := by
  refine (dats m 0 c).arrAt_eq_of_covers 2 _ (by decide +kernel) fun t hf j => ?_
  have hm : t.val % 1 = 0 := Nat.mod_one _
  have ht := lt t
  have j0 : (j 0).val < 1024 := (j 0).isLt
  have e0 : win0_2.index t 0 = t.val / 3 := by rw [(idx_all t).2.2]; rfl
  have j1 : (j 1).val < 1664 := (j 1).isLt
  have e1 : win0_2.index t 1 = t.val % 3 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 2048, fa m c (i 0).val k * fb m c k (i 1).val : S4096x4992.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.InIdeal.Mm

end
-- ==== Proof.Mm.InSame.lean ====
/- The program `In` and its reference: the reference's composed term is the same sum. -/
module

public import proofs.«01_k».proof.Defs
public import proofs.«01_k».proof.Proof.Gen.InRefIdeal.Read
public import proofs.«01_k».proof.Proof.Mm.In
public import Idealize.ShloMosaic.Adequacy
public import Idealize.ShloMosaic.Init

@[expose] public section

set_option maxRecDepth 16384

noncomputable section

namespace Cert.Mm.In

open Cert.InIdeal (nD τ sig)
open Cert.InRefIdeal.Read Cert.InIdeal.Mm Idealize.ShloMosaic Idealize.SL.Sem

variable (m : (ℓ : Loc nD τ sig) → Buf (Elt Ideal) ℓ) (c : Dev nD)

/-- The reference's result, entry by entry. -/
theorem ref (i : Cert.InIdeal.S4096x4992.Idx) :
    val_main_v2 (F := Ideal) (A m c) (B m c) i = ∑ k ∈ Finset.range 2048, fa m c (i 0).val k * fb m c k (i 1).val := by
  rw [val_main_v2_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_InRefIdeal (hInRefIdeal := Cert.InRefIdeal.Gen.facts) := fun m g _ =>
  (θ_run Cert.InRefIdeal.defs _ _).mono (fun r h => ⟨fun c => (h c).2, sem_eq_zero_of_no_sems (by decide) r.2⟩)
    (Cert.InRefIdeal.Value.run (F := Ideal) m g)

/-- The equation: both programs run and end with equal results. -/
theorem algebraic : Cert.algebraic_InIdeal_InRefIdeal (hInIdeal := Cert.InIdeal.Gen.facts) (hInRefIdeal := Cert.InRefIdeal.Gen.facts) := fun m g m' g' _ ha => by
  refine ⟨_, Cert.InIdeal.Mm.run m g, (θ_run _ _ _).mono (fun r h c => ?_) (Cert.InRefIdeal.Value.run m' g')⟩
  obtain ⟨r0, k⟩ := h c
  obtain ⟨a0, a1⟩ := ha c
  refine ⟨r0.trans ?_, k⟩
  refine (val_main_v2_eq _ _).trans ?_
  funext i
  refine (congrArg₂ (fun a b => val_main_v2 (F := Ideal) a b i) a0 a1).trans (ref m c i)

end Cert.Mm.In

end
-- ==== Proof.Mm.InD.lean ====
/- The product of `InD` (rows by rows) as its grid computes it: the result array is the whole sum, entry by entry. -/
module

public import proofs.«01_k».proof.Proof.Gen.InDIdeal.Value
public import proofs.«01_k».proof.Proof.Mm.Sum
public import Idealize.ShloMosaic.Lib.Pipeline.ValueKit

@[expose] public section

set_option maxRecDepth 16384

noncomputable section

namespace Cert.InDIdeal.Mm

open Cert.InDIdeal Cert.InDIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x4992.Idx → EReal := m ((c : Thread nD τ).loc main_arg0)

/-- The right operand, as launched. -/
abbrev B (c : Dev nD) : S2048x4992.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) q k

/-- The points of the grid. -/
theorem lt (t : Fin cfg0.N) : t.val < 12 := lt_of_lt_of_eq t.isLt (show cfg0.N = 12 from N_0)

/-- The block of each window at each point. -/
theorem idx_all : ∀ t : Fin cfg0.N, win0_0.index t = ![t.val / 3, t.val % 3] ∧ win0_1.index t = ![0, t.val % 3] ∧ win0_2.index t = ![t.val / 3, 0] := by
  decide +kernel

/-- The block of operand 0 at a point, entry by entry. -/
theorem blk0 (c : Dev nD) (t : Fin cfg0.N) (j : S1024x1664.Idx) :
    iblk m c 0 t j = fa m c ((t.val / 3) * 1024 + (j 0).val) ((t.val % 3) * 1664 + (j 1).val) := by
  have ht := lt t
  have j0 : (j 0).val < 1024 := (j 0).isLt
  have e0 : win0_0.index t 0 = t.val / 3 := by rw [(idx_all t).1]; rfl
  have j1 : (j 1).val < 1664 := (j 1).isLt
  have e1 : win0_0.index t 1 = t.val % 3 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1664.Idx) :
    iblk m c 1 t j = fb m c ((t.val % 3) * 1664 + (j 1).val) (0 * 2048 + (j 0).val) := by
  have ht := lt t
  have j0 : (j 0).val < 2048 := (j 0).isLt
  have e0 : win0_1.index t 0 = 0 := by rw [(idx_all t).2.1]; rfl
  have j1 : (j 1).val < 1664 := (j 1).isLt
  have e1 : win0_1.index t 1 = t.val % 3 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body adds to the running sum: the product of its two blocks. -/
theorem pay_apply {acc : Vec Ideal S1024x2048 .f32} {x : Vec Ideal S1024x1664 .bf16} {y : Vec Ideal S2048x1664 .bf16} {f g : ℕ → ℕ → EReal}
    (hx : ∀ i, x i = f (i 0).val (i 1).val) (hy : ∀ i, y i = g (i 0).val (i 1).val) (i : S1024x2048.Idx) :
    k0_pay2 (F := Ideal) acc x y i = acc i + ∑ k ∈ Finset.range 1664, f (i 0).val k * g (i 1).val k := by
  unfold k0_pay2
  rw [shapeCast_self]
  exact congrArg (acc i + ·) (nt rfl (fun i => hx i) (fun i => hy i) i)

/-- The running sum starts at zero. -/
theorem zero_apply (i : S1024x2048.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S1024x1664 .bf16) (y : Vec Ideal S2048x1664 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x2048) hz2, View.readCov_unit_zero (S := S1024x2048) _ hz2]
  simp only [View.readAt_eq_ld, h3.read_unread, h4.read_unread, View.ld_unit_zero (S := S1024x1664) hz2, View.ld_unit_zero (S := S2048x1664) hz2]

/-- At a middle step the running sum takes one more product. -/
theorem sumB {c : Dev nD} {i : grid0.Coords} {a3 h3 a4 h4 a5 h5 a6 h6 p q} (x : Vec Ideal S1024x1664 .bf16) (y : Vec Ideal S2048x1664 .bf16) (s : Vec Ideal S1024x2048 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x2048) hz2]
  simp only [View.readAt_eq_ld, h3.read_unread, h4.read_unread, h6.read_unread, View.ld_unit_zero (S := S1024x1664) hz2, View.ld_unit_zero (S := S2048x1664) hz2, View.ld_unit_zero (S := S1024x2048) hz2]

/-- At the last step the running sum takes one more product. -/
theorem sumC {c : Dev nD} {i : grid0.Coords} {a3 h3 a4 h4 a5 h5 a6 h6 p q} (x : Vec Ideal S1024x1664 .bf16) (y : Vec Ideal S2048x1664 .bf16) (s : Vec Ideal S1024x2048 .f32) :
    sout0_C_0 (F := Ideal) c i a3 h3 a4 h4 a5 h5 a6 h6 p q x y s = k0_pay2 s x y := by
  unfold sout0_C_0
  rw [View.read_writes_eq_canon _ _ _ (scover0_C_0 c i a3 h3 a4 h4 a5 h5 a6 h6 p q x y s)]
  unfold kernelRun0_C
  dsimp only
  sl_unfold_words
  rw [View.canon_unit_zero (S := S1024x2048) hz2]
  simp only [View.readAt_eq_ld, h3.read_unread, h4.read_unread, h6.read_unread, View.ld_unit_zero (S := S1024x1664) hz2, View.ld_unit_zero (S := S2048x1664) hz2, View.ld_unit_zero (S := S1024x2048) hz2]

/-- The last step writes the running sum out. -/
theorem outLast {c : Dev nD} {i : grid0.Coords} {a3 h3 a4 h4 a5 h5 a6 h6 p q} (x : Vec Ideal S1024x1664 .bf16) (y : Vec Ideal S2048x1664 .bf16) (s : Vec Ideal S1024x2048 .f32) :
    out0_C_2 (F := Ideal) c i a3 h3 a4 h4 a5 h5 a6 h6 p q x y s = k0_pay2 s x y := by
  unfold out0_C_2
  rw [View.read_writes_eq_canon _ _ _ (cover0_C_2 c i a3 h3 a4 h4 a5 h5 a6 h6 p q x y s)]
  unfold kernelRun0_C
  dsimp only
  sl_unfold_words
  rw [View.canon_unit_zero (S := S1024x2048) hz2, View.readCov_unit_zero (S := S1024x2048) _ hz2]
  simp only [View.readAt_eq_ld, h3.read_unread, h4.read_unread, h6.read_unread, View.ld_unit_zero (S := S1024x1664) hz2, View.ld_unit_zero (S := S2048x1664) hz2, View.ld_unit_zero (S := S1024x2048) hz2]

/-- One step adds the products of its block of terms. -/
theorem step (c : Dev nD) (t : Fin cfg0.N) (s : Vec Ideal S1024x2048 .f32) (j : S1024x2048.Idx) :
    k0_pay2 (F := Ideal) s (iblk m c 0 t) (iblk m c 1 t) j = s j + ∑ k ∈ Finset.range 1664, fa m c ((t.val / 3) * 1024 + (j 0).val) ((t.val % 3) * 1664 + k) * fb m c ((t.val % 3) * 1664 + k) (0 * 2048 + (j 1).val) :=
  pay_apply (f := fun a b => fa m c ((t.val / 3) * 1024 + a) ((t.val % 3) * 1664 + b))
    (g := fun a b => fb m c ((t.val % 3) * 1664 + b) (0 * 2048 + a)) (blk0 m c t) (blk1 m c t) j

/-- The running sum after a point: the products of the blocks of terms so far. -/
theorem sofar (c : Dev nD) : ∀ (n : ℕ) (h : n < cfg0.N) (j : S1024x2048.Idx),
    (outsAt0 (F := Ideal) m c n h).2 j = ∑ s ∈ Finset.range (n % 3 + 1), ∑ k ∈ Finset.range 1664, fa m c ((n / 3) * 1024 + (j 0).val) (s * 1664 + k) * fb m c (s * 1664 + k) (0 * 2048 + (j 1).val) := by
  have first : ∀ (t : Fin cfg0.N) (j : S1024x2048.Idx), t.val % 3 = 0 →
      (outsAt0 (F := Ideal) m c t.val t.isLt).2 j = ∑ s ∈ Finset.range (t.val % 3 + 1), ∑ k ∈ Finset.range 1664, fa m c ((t.val / 3) * 1024 + (j 0).val) (s * 1664 + k) * fb m c (s * 1664 + k) (0 * 2048 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 3 = 0
    · exact first ⟨n + 1, h⟩ j h0
    have e0 : n / 3 = (n + 1) / 3 := by omega
    have e2 : n % 3 + 1 = (n + 1) % 3 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 3 + 1), ∑ k ∈ Finset.range 1664, fa m c (((n + 1) / 3) * 1024 + (j 0).val) (s * 1664 + k) * fb m c (s * 1664 + k) (0 * 2048 + (j 1).val) := by
      rw [Finset.sum_range_succ, ← e2, step, ih, e0, e2]
    by_cases h1 : (n + 1) % 3 = 2
    · rw [outsAt0_C m c ⟨n + 1, h⟩ h0 h1]
      dsimp only
      rw [sumC]
      exact next
    · rw [outsAt0_B m c ⟨n + 1, h⟩ h0 h1]
      dsimp only
      rw [sumB]
      exact next

/-- What the last point of a block leaves in its block of the result: the whole sums. -/
theorem left (c : Dev nD) (t : Fin cfg0.N) (h : t.val % 3 = 2) (j : S1024x2048.Idx) :
    (dats (F := Ideal) m 0 c).after 2 t j = ∑ k ∈ Finset.range 4992, fa m c ((t.val / 3) * 1024 + (j 0).val) k * fb m c k (0 * 2048 + (j 1).val) := by
  have h0 : ¬t.val % 3 = 0 := by omega
  rw [after0_2, outsAt0_C m c t h0 h]
  dsimp only
  rw [outLast]
  refine (show _ = (outsAt0 (F := Ideal) m c t.val t.isLt).2 j from by
    rw [outsAt0_C m c t h0 h]
    dsimp only
    rw [sumC]
    ).trans ((sofar m c t.val t.isLt j).trans ?_)
  rw [h]
  exact sum_blocks (fun k => fa m c ((t.val / 3) * 1024 + (j 0).val) k * fb m c k (0 * 2048 + (j 1).val)) 3 1664

/-- The result array: every entry is its whole sum. -/
theorem arr (c : Dev nD) : (dats (F := Ideal) m 0 c).arrAt 2 cfg0.N
    = (fun i => ∑ k ∈ Finset.range 4992, fa m c (i 0).val k * fb m c k (i 1).val : S4096x2048.Idx → EReal) := by
  refine (dats m 0 c).arrAt_eq_of_covers 2 _ (by decide +kernel) fun t hf j => ?_
  have hm : t.val % 3 = 2 := (flush0_2 t).mp hf
  have ht := lt t
  have j0 : (j 0).val < 1024 := (j 0).isLt
  have e0 : win0_2.index t 0 = t.val / 3 := by rw [(idx_all t).2.2]; rfl
  have j1 : (j 1).val < 2048 := (j 1).isLt
  have e1 : win0_2.index t 1 = 0 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 4992, fa m c (i 0).val k * fb m c k (i 1).val : S4096x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.InDIdeal.Mm

end
-- ==== Proof.Mm.InDSame.lean ====
/- The program `InD` and its reference: the reference's composed term is the same sum. -/
module

public import proofs.«01_k».proof.Defs
public import proofs.«01_k».proof.Proof.Gen.InDRefIdeal.Read
public import proofs.«01_k».proof.Proof.Mm.InD
public import Idealize.ShloMosaic.Adequacy
public import Idealize.ShloMosaic.Init

@[expose] public section

set_option maxRecDepth 16384

noncomputable section

namespace Cert.Mm.InD

open Cert.InDIdeal (nD τ sig)
open Cert.InDRefIdeal.Read Cert.InDIdeal.Mm Idealize.ShloMosaic Idealize.SL.Sem

variable (m : (ℓ : Loc nD τ sig) → Buf (Elt Ideal) ℓ) (c : Dev nD)

/-- The reference's result, entry by entry. -/
theorem ref (i : Cert.InDIdeal.S4096x2048.Idx) :
    val_main_v4 (F := Ideal) (A m c) (B m c) i = ∑ k ∈ Finset.range 4992, fa m c (i 0).val k * fb m c k (i 1).val := by
  rw [val_main_v4_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_InDRefIdeal (hInDRefIdeal := Cert.InDRefIdeal.Gen.facts) := fun m g _ =>
  (θ_run Cert.InDRefIdeal.defs _ _).mono (fun r h => ⟨fun c => (h c).2, sem_eq_zero_of_no_sems (by decide) r.2⟩)
    (Cert.InDRefIdeal.Value.run (F := Ideal) m g)

/-- The equation: both programs run and end with equal results. -/
theorem algebraic : Cert.algebraic_InDIdeal_InDRefIdeal (hInDIdeal := Cert.InDIdeal.Gen.facts) (hInDRefIdeal := Cert.InDRefIdeal.Gen.facts) := fun m g m' g' _ ha => by
  refine ⟨_, Cert.InDIdeal.Mm.run m g, (θ_run _ _ _).mono (fun r h c => ?_) (Cert.InDRefIdeal.Value.run m' g')⟩
  obtain ⟨r0, k⟩ := h c
  obtain ⟨a0, a1⟩ := ha c
  refine ⟨r0.trans ?_, k⟩
  refine (val_main_v4_eq _ _).trans ?_
  funext i
  refine (congrArg₂ (fun a b => val_main_v4 (F := Ideal) a b i) a0 a1).trans (ref m c i)

end Cert.Mm.InD

end
-- ==== Proof.Mm.InW.lean ====
/- The product of `InW` (columns by columns) as its grid computes it: the result array is the whole sum, entry by entry. -/
module

public import proofs.«01_k».proof.Proof.Gen.InWIdeal.Value
public import proofs.«01_k».proof.Proof.Mm.Sum
public import Idealize.ShloMosaic.Lib.Pipeline.ValueKit

@[expose] public section

set_option maxRecDepth 16384

noncomputable section

namespace Cert.InWIdeal.Mm

open Cert.InWIdeal Cert.InWIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S4096x4992.Idx → EReal := m ((c : Thread nD τ).loc main_arg1)

/-- The left factor for row `p` of the product and term `k`. -/
def fa (c : Dev nD) (p k : ℕ) : EReal := at2 (A m c) k p

/-- The right factor for term `k` and column `q` of the product. -/
def fb (c : Dev nD) (k q : ℕ) : EReal := at2 (B m c) k q

/-- The points of the grid. -/
theorem lt (t : Fin cfg0.N) : t.val < 12 := lt_of_lt_of_eq t.isLt (show cfg0.N = 12 from N_0)

/-- The block of each window at each point. -/
theorem idx_all : ∀ t : Fin cfg0.N, win0_0.index t = ![t.val % 2, t.val / 6] ∧ win0_1.index t = ![t.val % 2, t.val / 2 % 3] ∧ win0_2.index t = ![t.val / 6, t.val / 2 % 3] := by
  decide +kernel

/-- The block of operand 0 at a point, entry by entry. -/
theorem blk0 (c : Dev nD) (t : Fin cfg0.N) (j : S2048x1024.Idx) :
    iblk m c 0 t j = fa m c ((t.val / 6) * 1024 + (j 1).val) ((t.val % 2) * 2048 + (j 0).val) := by
  have ht := lt t
  have j0 : (j 0).val < 2048 := (j 0).isLt
  have e0 : win0_0.index t 0 = t.val % 2 := by rw [(idx_all t).1]; rfl
  have j1 : (j 1).val < 1024 := (j 1).isLt
  have e1 : win0_0.index t 1 = t.val / 6 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1664.Idx) :
    iblk m c 1 t j = fb m c ((t.val % 2) * 2048 + (j 0).val) ((t.val / 2 % 3) * 1664 + (j 1).val) := by
  have ht := lt t
  have j0 : (j 0).val < 2048 := (j 0).isLt
  have e0 : win0_1.index t 0 = t.val % 2 := by rw [(idx_all t).2.1]; rfl
  have j1 : (j 1).val < 1664 := (j 1).isLt
  have e1 : win0_1.index t 1 = t.val / 2 % 3 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body adds to the running sum: the product of its two blocks. -/
theorem pay_apply {acc : Vec Ideal S1024x1664 .f32} {x : Vec Ideal S2048x1024 .bf16} {y : Vec Ideal S2048x1664 .bf16} {f g : ℕ → ℕ → EReal}
    (hx : ∀ i, x i = f (i 0).val (i 1).val) (hy : ∀ i, y i = g (i 0).val (i 1).val) (i : S1024x1664.Idx) :
    k0_pay2 (F := Ideal) acc x y i = acc i + ∑ k ∈ Finset.range 2048, f k (i 0).val * g k (i 1).val := by
  unfold k0_pay2
  rw [shapeCast_self]
  exact congrArg (acc i + ·) (tn rfl (fun i => hx i) (fun i => hy i) i)

/-- The running sum starts at zero. -/
theorem zero_apply (i : S1024x1664.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S2048x1024 .bf16) (y : Vec Ideal S2048x1664 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x1664) hz2, View.readCov_unit_zero (S := S1024x1664) _ hz2]
  simp only [View.readAt_eq_ld, h3.read_unread, h4.read_unread, View.ld_unit_zero (S := S2048x1024) hz2, View.ld_unit_zero (S := S2048x1664) hz2]

/-- At the last step the running sum takes one more product. -/
theorem sumB {c : Dev nD} {i : grid0.Coords} {a3 h3 a4 h4 a5 h5 a6 h6 p q} (x : Vec Ideal S2048x1024 .bf16) (y : Vec Ideal S2048x1664 .bf16) (s : Vec Ideal S1024x1664 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x1664) hz2]
  simp only [View.readAt_eq_ld, h3.read_unread, h4.read_unread, h6.read_unread, View.ld_unit_zero (S := S2048x1024) hz2, View.ld_unit_zero (S := S2048x1664) hz2, View.ld_unit_zero (S := S1024x1664) hz2]

/-- The last step writes the running sum out. -/
theorem outLast {c : Dev nD} {i : grid0.Coords} {a3 h3 a4 h4 a5 h5 a6 h6 p q} (x : Vec Ideal S2048x1024 .bf16) (y : Vec Ideal S2048x1664 .bf16) (s : Vec Ideal S1024x1664 .f32) :
    out0_B_2 (F := Ideal) c i a3 h3 a4 h4 a5 h5 a6 h6 p q x y s = k0_pay3 (k0_pay2 s x y) := by
  unfold out0_B_2
  rw [View.read_writes_eq_canon _ _ _ (cover0_B_2 c i a3 h3 a4 h4 a5 h5 a6 h6 p q x y s)]
  unfold kernelRun0_B
  dsimp only
  sl_unfold_words
  rw [View.canon_unit_zero (S := S1024x1664) hz2, View.readCov_unit_zero (S := S1024x1664) _ hz2]
  simp only [View.readAt_eq_ld, h3.read_unread, h4.read_unread, h6.read_unread, View.ld_unit_zero (S := S2048x1024) hz2, View.ld_unit_zero (S := S2048x1664) hz2, View.ld_unit_zero (S := S1024x1664) hz2]

/-- One step adds the products of its block of terms. -/
theorem step (c : Dev nD) (t : Fin cfg0.N) (s : Vec Ideal S1024x1664 .f32) (j : S1024x1664.Idx) :
    k0_pay2 (F := Ideal) s (iblk m c 0 t) (iblk m c 1 t) j = s j + ∑ k ∈ Finset.range 2048, fa m c ((t.val / 6) * 1024 + (j 0).val) ((t.val % 2) * 2048 + k) * fb m c ((t.val % 2) * 2048 + k) ((t.val / 2 % 3) * 1664 + (j 1).val) :=
  pay_apply (f := fun a b => fa m c ((t.val / 6) * 1024 + b) ((t.val % 2) * 2048 + a))
    (g := fun a b => fb m c ((t.val % 2) * 2048 + a) ((t.val / 2 % 3) * 1664 + b)) (blk0 m c t) (blk1 m c t) j

/-- The running sum after a point: the products of the blocks of terms so far. -/
theorem sofar (c : Dev nD) : ∀ (n : ℕ) (h : n < cfg0.N) (j : S1024x1664.Idx),
    (outsAt0 (F := Ideal) m c n h).2 j = ∑ s ∈ Finset.range (n % 2 + 1), ∑ k ∈ Finset.range 2048, fa m c ((n / 6) * 1024 + (j 0).val) (s * 2048 + k) * fb m c (s * 2048 + k) ((n / 2 % 3) * 1664 + (j 1).val) := by
  have first : ∀ (t : Fin cfg0.N) (j : S1024x1664.Idx), t.val % 2 = 0 →
      (outsAt0 (F := Ideal) m c t.val t.isLt).2 j = ∑ s ∈ Finset.range (t.val % 2 + 1), ∑ k ∈ Finset.range 2048, fa m c ((t.val / 6) * 1024 + (j 0).val) (s * 2048 + k) * fb m c (s * 2048 + k) ((t.val / 2 % 3) * 1664 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 2 = 0
    · exact first ⟨n + 1, h⟩ j h0
    have e0 : n / 6 = (n + 1) / 6 := by omega
    have e1 : n / 2 % 3 = (n + 1) / 2 % 3 := by omega
    have e2 : n % 2 + 1 = (n + 1) % 2 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 2 + 1), ∑ k ∈ Finset.range 2048, fa m c (((n + 1) / 6) * 1024 + (j 0).val) (s * 2048 + k) * fb m c (s * 2048 + k) (((n + 1) / 2 % 3) * 1664 + (j 1).val) := by
      rw [Finset.sum_range_succ, ← e2, step, ih, e0, e1, e2]
    by_cases h1 : (n + 1) % 2 = 1
    · rw [outsAt0_B m c ⟨n + 1, h⟩ h0 h1]
      dsimp only
      rw [sumB]
      exact next
    · omega

/-- What the last point of a block leaves in its block of the result: the whole sums. -/
theorem left (c : Dev nD) (t : Fin cfg0.N) (h : t.val % 2 = 1) (j : S1024x1664.Idx) :
    (dats (F := Ideal) m 0 c).after 2 t j = ∑ k ∈ Finset.range 4096, fa m c ((t.val / 6) * 1024 + (j 0).val) k * fb m c k ((t.val / 2 % 3) * 1664 + (j 1).val) := by
  have h0 : ¬t.val % 2 = 0 := by omega
  rw [after0_2, outsAt0_B m c t h0 h]
  dsimp only
  rw [outLast]
  refine (show _ = (outsAt0 (F := Ideal) m c t.val t.isLt).2 j from by
    rw [outsAt0_B m c t h0 h]
    dsimp only
    rw [sumB]
    rfl).trans ((sofar m c t.val t.isLt j).trans ?_)
  rw [h]
  exact sum_blocks (fun k => fa m c ((t.val / 6) * 1024 + (j 0).val) k * fb m c k ((t.val / 2 % 3) * 1664 + (j 1).val)) 2 2048

/-- The result array: every entry is its whole sum. -/
theorem arr (c : Dev nD) : (dats (F := Ideal) m 0 c).arrAt 2 cfg0.N
    = (fun i => ∑ k ∈ Finset.range 4096, fa m c (i 0).val k * fb m c k (i 1).val : S2048x4992.Idx → EReal) := by
  refine (dats m 0 c).arrAt_eq_of_covers 2 _ (by decide +kernel) fun t hf j => ?_
  have hm : t.val % 2 = 1 := (flush0_2 t).mp hf
  have ht := lt t
  have j0 : (j 0).val < 1024 := (j 0).isLt
  have e0 : win0_2.index t 0 = t.val / 6 := by rw [(idx_all t).2.2]; rfl
  have j1 : (j 1).val < 1664 := (j 1).isLt
  have e1 : win0_2.index t 1 = t.val / 2 % 3 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 4096, fa m c (i 0).val k * fb m c k (i 1).val : S2048x4992.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.InWIdeal.Mm

end
-- ==== Proof.Mm.InWSame.lean ====
/- The program `InW` and its reference: the reference's composed term is the same sum. -/
module

public import proofs.«01_k».proof.Defs
public import proofs.«01_k».proof.Proof.Gen.InWRefIdeal.Read
public import proofs.«01_k».proof.Proof.Mm.InW
public import Idealize.ShloMosaic.Adequacy
public import Idealize.ShloMosaic.Init

@[expose] public section

set_option maxRecDepth 16384

noncomputable section

namespace Cert.Mm.InW

open Cert.InWIdeal (nD τ sig)
open Cert.InWRefIdeal.Read Cert.InWIdeal.Mm Idealize.ShloMosaic Idealize.SL.Sem

variable (m : (ℓ : Loc nD τ sig) → Buf (Elt Ideal) ℓ) (c : Dev nD)

/-- The reference's result, entry by entry. -/
theorem ref (i : Cert.InWIdeal.S2048x4992.Idx) :
    val_main_v6 (F := Ideal) (A m c) (B m c) i = ∑ k ∈ Finset.range 4096, fa m c (i 0).val k * fb m c k (i 1).val := by
  rw [val_main_v6_apply]
  show val_main_v5 (F := Ideal) (A m c) (B m c) i = _
  rw [val_main_v5_apply, val_main_v4_apply, Finset.sum_range]
  exact Finset.sum_congr rfl fun k _ => (mul_comm _ _).trans (congrArg₂ (· * ·) (at2_eq (A m c) _ rfl rfl) (at2_eq (B m c) _ rfl rfl))

/-- The reference runs, keeps its arguments, and has no counters. -/
theorem referenceFrame : Cert.quiescent_InWRefIdeal (hInWRefIdeal := Cert.InWRefIdeal.Gen.facts) := fun m g _ =>
  (θ_run Cert.InWRefIdeal.defs _ _).mono (fun r h => ⟨fun c => (h c).2, sem_eq_zero_of_no_sems (by decide) r.2⟩)
    (Cert.InWRefIdeal.Value.run (F := Ideal) m g)

/-- The equation: both programs run and end with equal results. -/
theorem algebraic : Cert.algebraic_InWIdeal_InWRefIdeal (hInWIdeal := Cert.InWIdeal.Gen.facts) (hInWRefIdeal := Cert.InWRefIdeal.Gen.facts) := fun m g m' g' _ ha => by
  refine ⟨_, Cert.InWIdeal.Mm.run m g, (θ_run _ _ _).mono (fun r h c => ?_) (Cert.InWRefIdeal.Value.run m' g')⟩
  obtain ⟨r0, k⟩ := h c
  obtain ⟨a0, a1⟩ := ha c
  refine ⟨r0.trans ?_, k⟩
  refine (val_main_v6_eq _ _).trans ?_
  funext i
  refine (congrArg₂ (fun a b => val_main_v6 (F := Ideal) a b i) a0 a1).trans (ref m c i)

end Cert.Mm.InW

end
-- ==== Proof.Mm.Out.lean ====
/- The product of `Out` (rows by columns) as its grid computes it: the result array is the whole sum, entry by entry. -/
module

public import proofs.«01_k».proof.Proof.Gen.OutIdeal.Value
public import proofs.«01_k».proof.Proof.Mm.Sum
public import Idealize.ShloMosaic.Lib.Pipeline.ValueKit

@[expose] public section

set_option maxRecDepth 16384

noncomputable section

namespace Cert.OutIdeal.Mm

open Cert.OutIdeal Cert.OutIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S2048x2048.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) k q

/-- The points of the grid. -/
theorem lt (t : Fin cfg0.N) : t.val < 8 := lt_of_lt_of_eq t.isLt (show cfg0.N = 8 from N_0)

/-- The block of each window at each point. -/
theorem idx_all : ∀ t : Fin cfg0.N, win0_0.index t = ![t.val / 2, 0] ∧ win0_1.index t = ![0, t.val % 2] ∧ win0_2.index t = ![t.val / 2, t.val % 2] := by
  decide +kernel

/-- The block of operand 0 at a point, entry by entry. -/
theorem blk0 (c : Dev nD) (t : Fin cfg0.N) (j : S1024x2048.Idx) :
    iblk m c 0 t j = fa m c ((t.val / 2) * 1024 + (j 0).val) (0 * 2048 + (j 1).val) := by
  have ht := lt t
  have j0 : (j 0).val < 1024 := (j 0).isLt
  have e0 : win0_0.index t 0 = t.val / 2 := by rw [(idx_all t).1]; rfl
  have j1 : (j 1).val < 2048 := (j 1).isLt
  have e1 : win0_0.index t 1 = 0 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1024.Idx) :
    iblk m c 1 t j = fb m c (0 * 2048 + (j 0).val) ((t.val % 2) * 1024 + (j 1).val) := by
  have ht := lt t
  have j0 : (j 0).val < 2048 := (j 0).isLt
  have e0 : win0_1.index t 0 = 0 := by rw [(idx_all t).2.1]; rfl
  have j1 : (j 1).val < 1024 := (j 1).isLt
  have e1 : win0_1.index t 1 = t.val % 2 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body computes from two blocks: their product. -/
theorem pay_apply {x : Vec Ideal S1024x2048 .bf16} {y : Vec Ideal S2048x1024 .bf16} {f g : ℕ → ℕ → EReal}
    (hx : ∀ i, x i = f (i 0).val (i 1).val) (hy : ∀ i, y i = g (i 0).val (i 1).val) (i : S1024x1024.Idx) :
    k0_pay1 (F := Ideal) x y i = ∑ k ∈ Finset.range 2048, f (i 0).val k * g k (i 1).val :=
  nn rfl (fun i => hx i) (fun i => hy i) i

/-- What the body stores, as the one piece it is. -/
theorem out_eq (x : Vec Ideal S1024x2048 .bf16) (y : Vec Ideal S2048x1024 .bf16) : out0_2 (F := Ideal) x y = k0_pay1 x y := by
  unfold out0_2
  rw [View.canon_unit_zero hz2, View.ld_unit_zero (S := S1024x2048) hz2, View.ld_unit_zero (S := S2048x1024) hz2]

/-- What a point leaves in its block of the result: the whole sums. -/
theorem left (c : Dev nD) (t : Fin cfg0.N) (_ : t.val % 1 = 0) (j : S1024x1024.Idx) :
    (dats (F := Ideal) m 0 c).after 2 t j = ∑ k ∈ Finset.range 2048, fa m c ((t.val / 2) * 1024 + (j 0).val) k * fb m c k ((t.val % 2) * 1024 + (j 1).val) := by
  rw [after0_2, out_eq]
  refine (pay_apply (f := fun a b => fa m c ((t.val / 2) * 1024 + a) (0 * 2048 + b))
    (g := fun a b => fb m c (0 * 2048 + a) ((t.val % 2) * 1024 + b)) (blk0 m c t) (blk1 m c t) j).trans ?_
  simp only [Nat.zero_mul, Nat.zero_add]

/-- The result array: every entry is its whole sum. -/
theorem arr (c : Dev nD) : (dats (F := Ideal) m 0 c).arrAt 2 cfg0.N
    = (fun i => ∑ k ∈ Finset.range 2048, fa m c (i 0).val k * fb m c k (i 1).val : S4096x2048.Idx → EReal) := by
  refine (dats m 0 c).arrAt_eq_of_covers 2 _ (by decide +kernel) fun t hf j => ?_
  have hm : t.val % 1 = 0 := Nat.mod_one _
  have ht := lt t
  have j0 : (j 0).val < 1024 := (j 0).isLt
  have e0 : win0_2.index t 0 = t.val / 2 := by rw [(idx_all t).2.2]; rfl
  have j1 : (j 1).val < 1024 := (j 1).isLt
  have e1 : win0_2.index t 1 = t.val % 2 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 2048, fa m c (i 0).val k * fb m c k (i 1).val : S4096x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.OutIdeal.Mm

end
-- ==== Proof.Mm.OutSame.lean ====
/- The program `Out` and its reference: the reference's composed term is the same sum. -/
module

public import proofs.«01_k».proof.Defs
public import proofs.«01_k».proof.Proof.Gen.OutRefIdeal.Read
public import proofs.«01_k».proof.Proof.Mm.Out
public import Idealize.ShloMosaic.Adequacy
public import Idealize.ShloMosaic.Init

@[expose] public section

set_option maxRecDepth 16384

noncomputable section

namespace Cert.Mm.Out

open Cert.OutIdeal (nD τ sig)
open Cert.OutRefIdeal.Read Cert.OutIdeal.Mm Idealize.ShloMosaic Idealize.SL.Sem

variable (m : (ℓ : Loc nD τ sig) → Buf (Elt Ideal) ℓ) (c : Dev nD)

/-- The reference's result, entry by entry. -/
theorem ref (i : Cert.OutIdeal.S4096x2048.Idx) :
    val_main_v2 (F := Ideal) (A m c) (B m c) i = ∑ k ∈ Finset.range 2048, fa m c (i 0).val k * fb m c k (i 1).val := by
  rw [val_main_v2_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_OutRefIdeal (hOutRefIdeal := Cert.OutRefIdeal.Gen.facts) := fun m g _ =>
  (θ_run Cert.OutRefIdeal.defs _ _).mono (fun r h => ⟨fun c => (h c).2, sem_eq_zero_of_no_sems (by decide) r.2⟩)
    (Cert.OutRefIdeal.Value.run (F := Ideal) m g)

/-- The equation: both programs run and end with equal results. -/
theorem algebraic : Cert.algebraic_OutIdeal_OutRefIdeal (hOutIdeal := Cert.OutIdeal.Gen.facts) (hOutRefIdeal := Cert.OutRefIdeal.Gen.facts) := fun m g m' g' _ ha => by
  refine ⟨_, Cert.OutIdeal.Mm.run m g, (θ_run _ _ _).mono (fun r h c => ?_) (Cert.OutRefIdeal.Value.run m' g')⟩
  obtain ⟨r0, k⟩ := h c
  obtain ⟨a0, a1⟩ := ha c
  refine ⟨r0.trans ?_, k⟩
  refine (val_main_v2_eq _ _).trans ?_
  funext i
  refine (congrArg₂ (fun a b => val_main_v2 (F := Ideal) a b i) a0 a1).trans (ref m c i)

end Cert.Mm.Out

end
-- ==== Proof.Mm.OutD.lean ====
/- The product of `OutD` (rows by rows) as its grid computes it: the result array is the whole sum, entry by entry. -/
module

public import proofs.«01_k».proof.Proof.Gen.OutDIdeal.Value
public import proofs.«01_k».proof.Proof.Mm.Sum
public import Idealize.ShloMosaic.Lib.Pipeline.ValueKit

@[expose] public section

set_option maxRecDepth 16384

noncomputable section

namespace Cert.OutDIdeal.Mm

open Cert.OutDIdeal Cert.OutDIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S2048x2048.Idx → EReal := m ((c : Thread nD τ).loc main_arg1)

/-- The left factor for row `p` of the product and term `k`. -/
def fa (c : Dev nD) (p k : ℕ) : EReal := at2 (A m c) p k

/-- The right factor for term `k` and column `q` of the product. -/
def fb (c : Dev nD) (k q : ℕ) : EReal := at2 (B m c) q k

/-- The points of the grid. -/
theorem lt (t : Fin cfg0.N) : t.val < 4 := lt_of_lt_of_eq t.isLt (show cfg0.N = 4 from N_0)

/-- The block of each window at each point. -/
theorem idx_all : ∀ t : Fin cfg0.N, win0_0.index t = ![t.val, 0] ∧ win0_1.index t = ![0, 0] ∧ win0_2.index t = ![t.val, 0] := by
  decide +kernel

/-- The block of operand 0 at a point, entry by entry. -/
theorem blk0 (c : Dev nD) (t : Fin cfg0.N) (j : S1024x2048.Idx) :
    iblk m c 0 t j = fa m c ((t.val) * 1024 + (j 0).val) (0 * 2048 + (j 1).val) := by
  have ht := lt t
  have j0 : (j 0).val < 1024 := (j 0).isLt
  have e0 : win0_0.index t 0 = t.val := by rw [(idx_all t).1]; rfl
  have j1 : (j 1).val < 2048 := (j 1).isLt
  have e1 : win0_0.index t 1 = 0 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x2048.Idx) :
    iblk m c 1 t j = fb m c (0 * 2048 + (j 1).val) (0 * 2048 + (j 0).val) := by
  have ht := lt t
  have j0 : (j 0).val < 2048 := (j 0).isLt
  have e0 : win0_1.index t 0 = 0 := by rw [(idx_all t).2.1]; rfl
  have j1 : (j 1).val < 2048 := (j 1).isLt
  have e1 : win0_1.index t 1 = 0 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body computes from two blocks: their product. -/
theorem pay_apply {x : Vec Ideal S1024x2048 .bf16} {y : Vec Ideal S2048x2048 .bf16} {f g : ℕ → ℕ → EReal}
    (hx : ∀ i, x i = f (i 0).val (i 1).val) (hy : ∀ i, y i = g (i 0).val (i 1).val) (i : S1024x2048.Idx) :
    k0_pay1 (F := Ideal) x y i = ∑ k ∈ Finset.range 2048, f (i 0).val k * g (i 1).val k :=
  nt rfl (fun i => hx i) (fun i => hy i) i

/-- What the body stores, as the one piece it is. -/
theorem out_eq (x : Vec Ideal S1024x2048 .bf16) (y : Vec Ideal S2048x2048 .bf16) : out0_2 (F := Ideal) x y = k0_pay1 x y := by
  unfold out0_2
  rw [View.canon_unit_zero hz2, View.ld_unit_zero (S := S1024x2048) hz2, View.ld_unit_zero (S := S2048x2048) hz2]

/-- What a point leaves in its block of the result: the whole sums. -/
theorem left (c : Dev nD) (t : Fin cfg0.N) (_ : t.val % 1 = 0) (j : S1024x2048.Idx) :
    (dats (F := Ideal) m 0 c).after 2 t j = ∑ k ∈ Finset.range 2048, fa m c ((t.val) * 1024 + (j 0).val) k * fb m c k (0 * 2048 + (j 1).val) := by
  rw [after0_2, out_eq]
  refine (pay_apply (f := fun a b => fa m c ((t.val) * 1024 + a) (0 * 2048 + b))
    (g := fun a b => fb m c (0 * 2048 + b) (0 * 2048 + a)) (blk0 m c t) (blk1 m c t) j).trans ?_
  simp only [Nat.zero_mul, Nat.zero_add]

/-- The result array: every entry is its whole sum. -/
theorem arr (c : Dev nD) : (dats (F := Ideal) m 0 c).arrAt 2 cfg0.N
    = (fun i => ∑ k ∈ Finset.range 2048, fa m c (i 0).val k * fb m c k (i 1).val : S4096x2048.Idx → EReal) := by
  refine (dats m 0 c).arrAt_eq_of_covers 2 _ (by decide +kernel) fun t hf j => ?_
  have hm : t.val % 1 = 0 := Nat.mod_one _
  have ht := lt t
  have j0 : (j 0).val < 1024 := (j 0).isLt
  have e0 : win0_2.index t 0 = t.val := by rw [(idx_all t).2.2]; rfl
  have j1 : (j 1).val < 2048 := (j 1).isLt
  have e1 : win0_2.index t 1 = 0 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 2048, fa m c (i 0).val k * fb m c k (i 1).val : S4096x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.OutDIdeal.Mm

end
-- ==== Proof.Mm.OutDSame.lean ====
/- The program `OutD` and its reference: the reference's composed term is the same sum. -/
module

public import proofs.«01_k».proof.Defs
public import proofs.«01_k».proof.Proof.Gen.OutDRefIdeal.Read
public import proofs.«01_k».proof.Proof.Mm.OutD
public import Idealize.ShloMosaic.Adequacy
public import Idealize.ShloMosaic.Init

@[expose] public section

set_option maxRecDepth 16384

noncomputable section

namespace Cert.Mm.OutD

open Cert.OutDIdeal (nD τ sig)
open Cert.OutDRefIdeal.Read Cert.OutDIdeal.Mm Idealize.ShloMosaic Idealize.SL.Sem

variable (m : (ℓ : Loc nD τ sig) → Buf (Elt Ideal) ℓ) (c : Dev nD)

/-- The reference's result, entry by entry. -/
theorem ref (i : Cert.OutDIdeal.S4096x2048.Idx) :
    val_main_v4 (F := Ideal) (A m c) (B m c) i = ∑ k ∈ Finset.range 2048, fa m c (i 0).val k * fb m c k (i 1).val := by
  rw [val_main_v4_apply, Finset.sum_range]
  exact Finset.sum_congr rfl fun k _ => congrArg₂ (· * ·) (at2_eq (A m c) _ rfl rfl) (at2_eq (B m c) _ rfl rfl)

/-- The reference runs, keeps its arguments, and has no counters. -/
theorem referenceFrame : Cert.quiescent_OutDRefIdeal (hOutDRefIdeal := Cert.OutDRefIdeal.Gen.facts) := fun m g _ =>
  (θ_run Cert.OutDRefIdeal.defs _ _).mono (fun r h => ⟨fun c => (h c).2, sem_eq_zero_of_no_sems (by decide) r.2⟩)
    (Cert.OutDRefIdeal.Value.run (F := Ideal) m g)

/-- The equation: both programs run and end with equal results. -/
theorem algebraic : Cert.algebraic_OutDIdeal_OutDRefIdeal (hOutDIdeal := Cert.OutDIdeal.Gen.facts) (hOutDRefIdeal := Cert.OutDRefIdeal.Gen.facts) := fun m g m' g' _ ha => by
  refine ⟨_, Cert.OutDIdeal.Mm.run m g, (θ_run _ _ _).mono (fun r h c => ?_) (Cert.OutDRefIdeal.Value.run m' g')⟩
  obtain ⟨r0, k⟩ := h c
  obtain ⟨a0, a1⟩ := ha c
  refine ⟨r0.trans ?_, k⟩
  refine (val_main_v4_eq _ _).trans ?_
  funext i
  refine (congrArg₂ (fun a b => val_main_v4 (F := Ideal) a b i) a0 a1).trans (ref m c i)

end Cert.Mm.OutD

end
-- ==== Proof.Mm.OutW.lean ====
/- The product of `OutW` (columns by columns) as its grid computes it: the result array is the whole sum, entry by entry. -/
module

public import proofs.«01_k».proof.Proof.Gen.OutWIdeal.Value
public import proofs.«01_k».proof.Proof.Mm.Sum
public import Idealize.ShloMosaic.Lib.Pipeline.ValueKit

@[expose] public section

set_option maxRecDepth 16384

noncomputable section

namespace Cert.OutWIdeal.Mm

open Cert.OutWIdeal Cert.OutWIdeal.Gen Cert.Mm Idealize.ShloMosaic Idealize.ShloMosaic.TcCoe Idealize.SL.Sem

variable (m : (ℓ : Loc nD τ sig) → Buf (Elt Ideal) ℓ) (ρ : Dev nD → PrngReg)

/-- The left operand, as launched. -/
abbrev A (c : Dev nD) : S4096x2048.Idx → EReal := m ((c : Thread nD τ).loc main_arg0)

/-- The right operand, as launched. -/
abbrev B (c : Dev nD) : S4096x2048.Idx → EReal := m ((c : Thread nD τ).loc main_arg1)

/-- The left factor for row `p` of the product and term `k`. -/
def fa (c : Dev nD) (p k : ℕ) : EReal := at2 (A m c) k p

/-- The right factor for term `k` and column `q` of the product. -/
def fb (c : Dev nD) (k q : ℕ) : EReal := at2 (B m c) k q

/-- The points of the grid. -/
theorem lt (t : Fin cfg0.N) : t.val < 8 := lt_of_lt_of_eq t.isLt (show cfg0.N = 8 from N_0)

/-- The block of each window at each point. -/
theorem idx_all : ∀ t : Fin cfg0.N, win0_0.index t = ![t.val % 2, t.val / 4] ∧ win0_1.index t = ![t.val % 2, t.val / 2 % 2] ∧ win0_2.index t = ![t.val / 4, t.val / 2 % 2] := by
  decide +kernel

/-- The block of operand 0 at a point, entry by entry. -/
theorem blk0 (c : Dev nD) (t : Fin cfg0.N) (j : S2048x1024.Idx) :
    iblk m c 0 t j = fa m c ((t.val / 4) * 1024 + (j 1).val) ((t.val % 2) * 2048 + (j 0).val) := by
  have ht := lt t
  have j0 : (j 0).val < 2048 := (j 0).isLt
  have e0 : win0_0.index t 0 = t.val % 2 := by rw [(idx_all t).1]; rfl
  have j1 : (j 1).val < 1024 := (j 1).isLt
  have e1 : win0_0.index t 1 = t.val / 4 := by rw [(idx_all t).1]; rfl
  unfold iblk fa
  rw [View.read_apply]
  show V m c main_arg0 _ = _
  rw [V_main_arg0]
  refine at2_eq _ _ ?_ ?_
  · blk_simp; rw [e0]; try omega
  · blk_simp; rw [e1]; try omega

/-- The block of operand 1 at a point, entry by entry. -/
theorem blk1 (c : Dev nD) (t : Fin cfg0.N) (j : S2048x1024.Idx) :
    iblk m c 1 t j = fb m c ((t.val % 2) * 2048 + (j 0).val) ((t.val / 2 % 2) * 1024 + (j 1).val) := by
  have ht := lt t
  have j0 : (j 0).val < 2048 := (j 0).isLt
  have e0 : win0_1.index t 0 = t.val % 2 := by rw [(idx_all t).2.1]; rfl
  have j1 : (j 1).val < 1024 := (j 1).isLt
  have e1 : win0_1.index t 1 = t.val / 2 % 2 := by rw [(idx_all t).2.1]; rfl
  unfold iblk fb
  rw [View.read_apply]
  show V m c main_arg1 _ = _
  rw [V_main_arg1]
  refine at2_eq _ _ ?_ ?_
  · blk_simp; rw [e0]; try omega
  · blk_simp; rw [e1]; try omega

/-- No offset along two axes. -/
theorem hz2 : (![0, 0] : Fin 2 → ℕ) = fun _ => 0 := funext fun a => by fin_cases a <;> rfl

/-- What the body adds to the running sum: the product of its two blocks. -/
theorem pay_apply {acc : Vec Ideal S1024x1024 .f32} {x : Vec Ideal S2048x1024 .bf16} {y : Vec Ideal S2048x1024 .bf16} {f g : ℕ → ℕ → EReal}
    (hx : ∀ i, x i = f (i 0).val (i 1).val) (hy : ∀ i, y i = g (i 0).val (i 1).val) (i : S1024x1024.Idx) :
    k0_pay2 (F := Ideal) acc x y i = acc i + ∑ k ∈ Finset.range 2048, f k (i 0).val * g k (i 1).val := by
  unfold k0_pay2
  rw [shapeCast_self]
  exact congrArg (acc i + ·) (tn rfl (fun i => hx i) (fun i => hy i) i)

/-- The running sum starts at zero. -/
theorem zero_apply (i : S1024x1024.Idx) : k0_pay1 (F := Ideal) i = 0 := by
  unfold k0_pay1
  rw [shapeCast_self]
  exact Ideal.ofBits_zero_f32

/-- At the first step of a block the running sum is the first product. -/
theorem sumA {c : Dev nD} {i : grid0.Coords} {a3 h3 a4 h4 a5 h5 a6 h6 p q} (x : Vec Ideal S2048x1024 .bf16) (y : Vec Ideal S2048x1024 .bf16) :
    sout0_A_0 (F := Ideal) c i a3 h3 a4 h4 a5 h5 a6 h6 p q x y = k0_pay2 k0_pay1 x y := by
  unfold sout0_A_0
  rw [View.read_writes_eq_canon _ _ _ (scover0_A_0 c i a3 h3 a4 h4 a5 h5 a6 h6 p q x y)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S2048x1024) hz2, View.ld_unit_zero (S := S2048x1024) hz2]

/-- At the last step the running sum takes one more product. -/
theorem sumB {c : Dev nD} {i : grid0.Coords} {a3 h3 a4 h4 a5 h5 a6 h6 p q} (x : Vec Ideal S2048x1024 .bf16) (y : Vec Ideal S2048x1024 .bf16) (s : Vec Ideal S1024x1024 .f32) :
    sout0_B_0 (F := Ideal) c i a3 h3 a4 h4 a5 h5 a6 h6 p q x y s = k0_pay2 s x y := by
  unfold sout0_B_0
  rw [View.read_writes_eq_canon _ _ _ (scover0_B_0 c i a3 h3 a4 h4 a5 h5 a6 h6 p q x y s)]
  unfold kernelRun0_B
  dsimp only
  sl_unfold_words
  rw [View.canon_unit_zero (S := S1024x1024) hz2]
  simp only [View.readAt_eq_ld, h3.read_unread, h4.read_unread, h6.read_unread, View.ld_unit_zero (S := S2048x1024) hz2, View.ld_unit_zero (S := S2048x1024) hz2, View.ld_unit_zero (S := S1024x1024) hz2]

/-- The last step writes the running sum out. -/
theorem outLast {c : Dev nD} {i : grid0.Coords} {a3 h3 a4 h4 a5 h5 a6 h6 p q} (x : Vec Ideal S2048x1024 .bf16) (y : Vec Ideal S2048x1024 .bf16) (s : Vec Ideal S1024x1024 .f32) :
    out0_B_2 (F := Ideal) c i a3 h3 a4 h4 a5 h5 a6 h6 p q x y s = k0_pay3 (k0_pay2 s x y) := by
  unfold out0_B_2
  rw [View.read_writes_eq_canon _ _ _ (cover0_B_2 c i a3 h3 a4 h4 a5 h5 a6 h6 p q x y s)]
  unfold kernelRun0_B
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S2048x1024) hz2, View.ld_unit_zero (S := S2048x1024) hz2, View.ld_unit_zero (S := S1024x1024) hz2]

/-- One step adds the products of its block of terms. -/
theorem step (c : Dev nD) (t : Fin cfg0.N) (s : Vec Ideal S1024x1024 .f32) (j : S1024x1024.Idx) :
    k0_pay2 (F := Ideal) s (iblk m c 0 t) (iblk m c 1 t) j = s j + ∑ k ∈ Finset.range 2048, fa m c ((t.val / 4) * 1024 + (j 0).val) ((t.val % 2) * 2048 + k) * fb m c ((t.val % 2) * 2048 + k) ((t.val / 2 % 2) * 1024 + (j 1).val) :=
  pay_apply (f := fun a b => fa m c ((t.val / 4) * 1024 + b) ((t.val % 2) * 2048 + a))
    (g := fun a b => fb m c ((t.val % 2) * 2048 + a) ((t.val / 2 % 2) * 1024 + b)) (blk0 m c t) (blk1 m c t) j

/-- The running sum after a point: the products of the blocks of terms so far. -/
theorem sofar (c : Dev nD) : ∀ (n : ℕ) (h : n < cfg0.N) (j : S1024x1024.Idx),
    (outsAt0 (F := Ideal) m c n h).2 j = ∑ s ∈ Finset.range (n % 2 + 1), ∑ k ∈ Finset.range 2048, fa m c ((n / 4) * 1024 + (j 0).val) (s * 2048 + k) * fb m c (s * 2048 + k) ((n / 2 % 2) * 1024 + (j 1).val) := by
  have first : ∀ (t : Fin cfg0.N) (j : S1024x1024.Idx), t.val % 2 = 0 →
      (outsAt0 (F := Ideal) m c t.val t.isLt).2 j = ∑ s ∈ Finset.range (t.val % 2 + 1), ∑ k ∈ Finset.range 2048, fa m c ((t.val / 4) * 1024 + (j 0).val) (s * 2048 + k) * fb m c (s * 2048 + k) ((t.val / 2 % 2) * 1024 + (j 1).val) := by
    intro t j h0
    rw [outsAt0_A m c t h0 (by omega)]
    dsimp only
    rw [sumA, step, zero_apply, h0, zero_add, Finset.sum_range_one]
  intro n
  induction n with
  | zero => exact fun h j => first ⟨0, h⟩ j rfl
  | succ n ih =>
    intro h j
    by_cases h0 : (n + 1) % 2 = 0
    · exact first ⟨n + 1, h⟩ j h0
    have e0 : n / 4 = (n + 1) / 4 := by omega
    have e1 : n / 2 % 2 = (n + 1) / 2 % 2 := by omega
    have e2 : n % 2 + 1 = (n + 1) % 2 := by omega
    have next : k0_pay2 (F := Ideal) (outsAt0 (F := Ideal) m c n (Nat.lt_of_succ_lt h)).2 (iblk m c 0 ⟨n + 1, h⟩) (iblk m c 1 ⟨n + 1, h⟩) j
        = ∑ s ∈ Finset.range ((n + 1) % 2 + 1), ∑ k ∈ Finset.range 2048, fa m c (((n + 1) / 4) * 1024 + (j 0).val) (s * 2048 + k) * fb m c (s * 2048 + k) (((n + 1) / 2 % 2) * 1024 + (j 1).val) := by
      rw [Finset.sum_range_succ, ← e2, step, ih, e0, e1, e2]
    by_cases h1 : (n + 1) % 2 = 1
    · rw [outsAt0_B m c ⟨n + 1, h⟩ h0 h1]
      dsimp only
      rw [sumB]
      exact next
    · omega

/-- What the last point of a block leaves in its block of the result: the whole sums. -/
theorem left (c : Dev nD) (t : Fin cfg0.N) (h : t.val % 2 = 1) (j : S1024x1024.Idx) :
    (dats (F := Ideal) m 0 c).after 2 t j = ∑ k ∈ Finset.range 4096, fa m c ((t.val / 4) * 1024 + (j 0).val) k * fb m c k ((t.val / 2 % 2) * 1024 + (j 1).val) := by
  have h0 : ¬t.val % 2 = 0 := by omega
  rw [after0_2, outsAt0_B m c t h0 h]
  dsimp only
  rw [outLast]
  refine (show _ = (outsAt0 (F := Ideal) m c t.val t.isLt).2 j from by
    rw [outsAt0_B m c t h0 h]
    dsimp only
    rw [sumB]
    rfl).trans ((sofar m c t.val t.isLt j).trans ?_)
  rw [h]
  exact sum_blocks (fun k => fa m c ((t.val / 4) * 1024 + (j 0).val) k * fb m c k ((t.val / 2 % 2) * 1024 + (j 1).val)) 2 2048

/-- The result array: every entry is its whole sum. -/
theorem arr (c : Dev nD) : (dats (F := Ideal) m 0 c).arrAt 2 cfg0.N
    = (fun i => ∑ k ∈ Finset.range 4096, fa m c (i 0).val k * fb m c k (i 1).val : S2048x2048.Idx → EReal) := by
  refine (dats m 0 c).arrAt_eq_of_covers 2 _ (by decide +kernel) fun t hf j => ?_
  have hm : t.val % 2 = 1 := (flush0_2 t).mp hf
  have ht := lt t
  have j0 : (j 0).val < 1024 := (j 0).isLt
  have e0 : win0_2.index t 0 = t.val / 4 := by rw [(idx_all t).2.2]; rfl
  have j1 : (j 1).val < 1024 := (j 1).isLt
  have e1 : win0_2.index t 1 = t.val / 2 % 2 := by rw [(idx_all t).2.2]; rfl
  blk_simp
  refine (left m c t hm j).trans ?_
  refine (Finset.sum_congr rfl fun k _ => ?_ : (_ : EReal) = _)
  refine congrArg₂ (fun a b => fa m c a k * fb m c k b) ?_ ?_
  · rw [e0]
  · rw [e1]

/-- The run: the result array holds the product, the operands are kept. -/
theorem run : θ_run (defs (F := Ideal)) (onTc (τ := τ) (main (F := Ideal))) ⟨m, fun _ => 0, ρ⟩ fun r => ∀ c : Dev nD,
    r.2.mem ((c : Thread nD τ).loc main_v0) = (fun i => ∑ k ∈ Finset.range 4096, fa m c (i 0).val k * fb m c k (i 1).val : S2048x2048.Idx → EReal)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (arr m c), (h c).2⟩) (Value.run_blocks (F := Ideal) m ρ)

end Cert.OutWIdeal.Mm

end
-- ==== Proof.Mm.OutWSame.lean ====
/- The program `OutW` and its reference: the reference's composed term is the same sum. -/
module

public import proofs.«01_k».proof.Defs
public import proofs.«01_k».proof.Proof.Gen.OutWRefIdeal.Read
public import proofs.«01_k».proof.Proof.Mm.OutW
public import Idealize.ShloMosaic.Adequacy
public import Idealize.ShloMosaic.Init

@[expose] public section

set_option maxRecDepth 16384

noncomputable section

namespace Cert.Mm.OutW

open Cert.OutWIdeal (nD τ sig)
open Cert.OutWRefIdeal.Read Cert.OutWIdeal.Mm Idealize.ShloMosaic Idealize.SL.Sem

variable (m : (ℓ : Loc nD τ sig) → Buf (Elt Ideal) ℓ) (c : Dev nD)

/-- The reference's result, entry by entry. -/
theorem ref (i : Cert.OutWIdeal.S2048x2048.Idx) :
    val_main_v6 (F := Ideal) (A m c) (B m c) i = ∑ k ∈ Finset.range 4096, fa m c (i 0).val k * fb m c k (i 1).val := by
  rw [val_main_v6_apply]
  show val_main_v5 (F := Ideal) (A m c) (B m c) i = _
  rw [val_main_v5_apply, val_main_v4_apply, Finset.sum_range]
  exact Finset.sum_congr rfl fun k _ => (mul_comm _ _).trans (congrArg₂ (· * ·) (at2_eq (A m c) _ rfl rfl) (at2_eq (B m c) _ rfl rfl))

/-- The reference runs, keeps its arguments, and has no counters. -/
theorem referenceFrame : Cert.quiescent_OutWRefIdeal (hOutWRefIdeal := Cert.OutWRefIdeal.Gen.facts) := fun m g _ =>
  (θ_run Cert.OutWRefIdeal.defs _ _).mono (fun r h => ⟨fun c => (h c).2, sem_eq_zero_of_no_sems (by decide) r.2⟩)
    (Cert.OutWRefIdeal.Value.run (F := Ideal) m g)

/-- The equation: both programs run and end with equal results. -/
theorem algebraic : Cert.algebraic_OutWIdeal_OutWRefIdeal (hOutWIdeal := Cert.OutWIdeal.Gen.facts) (hOutWRefIdeal := Cert.OutWRefIdeal.Gen.facts) := fun m g m' g' _ ha => by
  refine ⟨_, Cert.OutWIdeal.Mm.run m g, (θ_run _ _ _).mono (fun r h c => ?_) (Cert.OutWRefIdeal.Value.run m' g')⟩
  obtain ⟨r0, k⟩ := h c
  obtain ⟨a0, a1⟩ := ha c
  refine ⟨r0.trans ?_, k⟩
  refine (val_main_v6_eq _ _).trans ?_
  funext i
  refine (congrArg₂ (fun a b => val_main_v6 (F := Ideal) a b i) a0 a1).trans (ref m c i)

end Cert.Mm.OutW

end
-- ==== Proof.Adam.Step.lean ====
/- One element of an AdamW step over the extended reals: the two moments, the step, and the division by a bias correction
   as the product with its reciprocal. -/
module

public import Idealize.ShloMosaic.Lib.Pointwise

@[expose] public section

noncomputable section

namespace Cert.Adam

open Idealize.ShloMosaic

/-- The first moment after one step. -/
def mom (g m : EReal) : EReal := Ideal.ofBits .f32 0x3F666666#32 * m + Ideal.ofBits .f32 0x3DCCCCCD#32 * g

/-- The second moment after one step. -/
def var (g v : EReal) : EReal := Ideal.ofBits .f32 0x3F7FBE77#32 * v + Ideal.ofBits .f32 0x3A83126F#32 * (g * g)

/-- The change of the weight, the bias corrections divided by. -/
def delta (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32)
    + Ideal.ofBits .f32 0x3C23D70A#32 * w)

/-- A division by a real that isn't zero is the product with its reciprocal. -/
theorem div_real (x : EReal) {a b : ℝ} (h : a * b = 1) : Ideal.div x ((a : ℝ) : EReal) = x * ((b : ℝ) : EReal) := by
  have ha : a ≠ 0 := left_ne_zero_of_mul_eq_one h
  have hb : b = a⁻¹ := eq_inv_of_mul_eq_one_right h
  unfold Ideal.div
  rw [if_neg (by exact_mod_cast ha), hb, EReal.coe_inv]

/-- The first bias correction, from its word. -/
theorem word1 : Ideal.ofBits .f32 0x3F26BD02#32 = ((5463681 / 8388608 : ℝ) : EReal) := by
  simp [Ideal.ofBits, Ideal.ieee, -EReal.coe_mul]
  norm_num

/-- The second bias correction, from its word. -/
theorem word2 : Ideal.ofBits .f32 0x3C231ACC#32 = ((2672307 / 268435456 : ℝ) : EReal) := by
  simp [Ideal.ofBits, Ideal.ieee, -EReal.coe_mul]
  norm_num

/-- The change of the weight, the bias corrections multiplied by. -/
theorem delta_eq (w g m v : EReal) : delta w g m v =
    Ideal.ofBits .f32 0xBA83126F#32 * (Ideal.div (mom g m * ((8388608 / 5463681 : ℝ) : EReal))
      (Ideal.sqrt (var g v * ((268435456 / 2672307 : ℝ) : EReal)) + Ideal.ofBits .f32 0x322BCC77#32)
      + Ideal.ofBits .f32 0x3C23D70A#32 * w) := by
  unfold delta
  rw [word1, word2, div_real _ (b := 8388608 / 5463681) (by norm_num), div_real _ (b := 268435456 / 2672307) (by norm_num)]

end Cert.Adam

end
-- ==== Proof.Adam.In.lean ====
/- The optimiser's step of the input projection: the run's three arrays are the step of every element, and so are the reference's. -/
module

public import proofs.«01_k».proof.Defs
public import proofs.«01_k».proof.Proof.Gen.AdamInIdeal.Frame
public import proofs.«01_k».proof.Proof.Gen.AdamInRefIdeal.Run
public import proofs.«01_k».proof.Proof.Adam.Step
public import proofs.«01_k».proof.Proof.Mm.Sum
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Adam.In

open Cert.AdamInIdeal Cert.AdamInIdeal.Gen Cert.Adam Cert.Mm Idealize.ShloMosaic Idealize.ShloMosaic.TcCoe Idealize.SL.Sem

/-- The first moment's block. -/
theorem pay_m (g m : Vec Ideal S32x4876 .f32) : k0_pay2 (F := Ideal) g m = fun i => mom (g i) (m i) := by
  unfold k0_pay2 k0_pay1
  simp only [shapeCast_self]
  rfl

/-- The second moment's block. -/
theorem pay_v (g v : Vec Ideal S32x4876 .f32) : k0_pay3 (F := Ideal) g v = fun i => var (g i) (v i) := by
  unfold k0_pay3 k0_pay1
  simp only [shapeCast_self]
  rfl

/-- The step's block. -/
theorem pay_d (g m v w : Vec Ideal S32x4876 .f32) : k0_pay4 (F := Ideal) g m v w = fun i => delta (w i) (g i) (m i) (v i) := by
  unfold k0_pay4
  rw [pay_m, pay_v]
  simp only [shapeCast_self]
  funext i
  rw [delta_eq]
  rfl

variable (m : (ℓ : Loc nD τ sig) → Buf (Elt Ideal) ℓ)

/-- The arrays as the grid finds them: the weight, its gradient, its two moments. -/
abbrev W (c : Dev nD) : S512x4876.Idx → EReal := V m c main_v0
abbrev G (c : Dev nD) : S512x4876.Idx → EReal := V m c main_v1
abbrev M (c : Dev nD) : S512x4876.Idx → EReal := V m c main_v2
abbrev N (c : Dev nD) : S512x4876.Idx → EReal := V m c main_v3

/-- No offset along two axes. -/
theorem hz2 : (![0, 0] : Fin 2 → ℕ) = fun _ => 0 := funext fun a => by fin_cases a <;> rfl

/-- The block of each window at each point. -/
theorem idx_all : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  decide +kernel

/-- A block of the weight, element by element. -/
theorem blk0 (c : Dev nD) (t : Fin cfg0.N) (j : S32x4876.Idx) : iblk m c 0 t j = at2 (W m c) (t.val * 32 + (j 0).val) (j 1).val := by
  have e := (idx_all t).1
  unfold iblk
  rw [View.read_apply]
  show V m c main_v0 _ = _
  refine at2_eq _ _ ?_ ?_
  · blk_simp; rw [show win0_0.index t 0 = t.val from by rw [e]; rfl]
  · blk_simp; rw [show win0_0.index t 1 = 0 from by rw [e]; rfl]; try omega

/-- A block of the gradient, element by element. -/
theorem blk1 (c : Dev nD) (t : Fin cfg0.N) (j : S32x4876.Idx) : iblk m c 1 t j = at2 (G m c) (t.val * 32 + (j 0).val) (j 1).val := by
  have e := (idx_all t).2.1
  unfold iblk
  rw [View.read_apply]
  show V m c main_v1 _ = _
  refine at2_eq _ _ ?_ ?_
  · blk_simp; rw [show win0_1.index t 0 = t.val from by rw [e]; rfl]
  · blk_simp; rw [show win0_1.index t 1 = 0 from by rw [e]; rfl]; try omega

/-- A block of the first moment, element by element. -/
theorem blk2 (c : Dev nD) (t : Fin cfg0.N) (j : S32x4876.Idx) : iblk m c 2 t j = at2 (M m c) (t.val * 32 + (j 0).val) (j 1).val := by
  have e := (idx_all t).2.2.1
  unfold iblk
  rw [View.read_apply]
  show V m c main_v2 _ = _
  refine at2_eq _ _ ?_ ?_
  · blk_simp; rw [show win0_2.index t 0 = t.val from by rw [e]; rfl]
  · blk_simp; rw [show win0_2.index t 1 = 0 from by rw [e]; rfl]; try omega

/-- A block of the second moment, element by element. -/
theorem blk3 (c : Dev nD) (t : Fin cfg0.N) (j : S32x4876.Idx) : iblk m c 3 t j = at2 (N m c) (t.val * 32 + (j 0).val) (j 1).val := by
  have e := (idx_all t).2.2.2.1
  unfold iblk
  rw [View.read_apply]
  show V m c main_v3 _ = _
  refine at2_eq _ _ ?_ ?_
  · blk_simp; rw [show win0_3.index t 0 = t.val from by rw [e]; rfl]
  · blk_simp; rw [show win0_3.index t 1 = 0 from by rw [e]; rfl]; try omega

/-- Where window 4 writes an element of its block. -/
theorem emb4 (X : S512x4876.Idx → EReal) (t : Fin cfg0.N) (j : S32x4876.Idx) :
    X ((win0_4.blk t).view.emb j) = at2 X (t.val * 32 + (j 0).val) (j 1).val := by
  have e := (idx_all t).2.2.2.2.1
  refine at2_eq _ _ ?_ ?_
  · blk_simp; rw [show win0_4.index t 0 = t.val from by rw [e]; rfl]
  · blk_simp; rw [show win0_4.index t 1 = 0 from by rw [e]; rfl]; try omega

/-- Where window 5 writes an element of its block. -/
theorem emb5 (X : S512x4876.Idx → EReal) (t : Fin cfg0.N) (j : S32x4876.Idx) :
    X ((win0_5.blk t).view.emb j) = at2 X (t.val * 32 + (j 0).val) (j 1).val := by
  have e := (idx_all t).2.2.2.2.2.1
  refine at2_eq _ _ ?_ ?_
  · blk_simp; rw [show win0_5.index t 0 = t.val from by rw [e]; rfl]
  · blk_simp; rw [show win0_5.index t 1 = 0 from by rw [e]; rfl]; try omega

/-- Where window 6 writes an element of its block. -/
theorem emb6 (X : S512x4876.Idx → EReal) (t : Fin cfg0.N) (j : S32x4876.Idx) :
    X ((win0_6.blk t).view.emb j) = at2 X (t.val * 32 + (j 0).val) (j 1).val := by
  have e := (idx_all t).2.2.2.2.2.2
  refine at2_eq _ _ ?_ ?_
  · blk_simp; rw [show win0_6.index t 0 = t.val from by rw [e]; rfl]
  · blk_simp; rw [show win0_6.index t 1 = 0 from by rw [e]; rfl]; try omega

/-- The new first moment. -/
theorem arr5 (c : Dev nD) : (dats (F := Ideal) m 0 c).arrAt 5 cfg0.N = (fun i => mom (G m c i) (M m c i) : S512x4876.Idx → EReal) := by
  refine (dats m 0 c).arrAt_eq_of_covers 5 _ (by decide +kernel) fun t hf j => ?_
  rw [after0_5]
  unfold out0_5
  rw [View.canon_unit_zero (S := S32x4876) hz2]
  simp only [View.ld_unit_zero (S := S32x4876) hz2, pay_m]
  blk_simp
  rw [blk1, blk2, emb5 (G m c), emb5 (M m c)]

/-- The new second moment. -/
theorem arr6 (c : Dev nD) : (dats (F := Ideal) m 0 c).arrAt 6 cfg0.N = (fun i => var (G m c i) (N m c i) : S512x4876.Idx → EReal) := by
  refine (dats m 0 c).arrAt_eq_of_covers 6 _ (by decide +kernel) fun t hf j => ?_
  rw [after0_6]
  unfold out0_6
  rw [View.canon_unit_zero (S := S32x4876) hz2]
  simp only [View.ld_unit_zero (S := S32x4876) hz2, pay_v]
  blk_simp
  rw [blk1, blk3, emb6 (G m c), emb6 (N m c)]

/-- The change of the weight. -/
theorem arr4 (c : Dev nD) : (dats (F := Ideal) m 0 c).arrAt 4 cfg0.N = (fun i => delta (W m c i) (G m c i) (M m c i) (N m c i) : S512x4876.Idx → EReal) := by
  refine (dats m 0 c).arrAt_eq_of_covers 4 _ (by decide +kernel) fun t hf j => ?_
  rw [after0_4]
  unfold out0_4
  rw [View.canon_unit_zero (S := S32x4876) hz2]
  simp only [View.ld_unit_zero (S := S32x4876) hz2, pay_d]
  blk_simp
  rw [blk0, blk1, blk2, blk3, emb4 (W m c), emb4 (G m c), emb4 (M m c), emb4 (N m c)]

/-- The arguments: the weight, its gradient, its two moments. -/
abbrev A0 (c : Dev nD) : S2x256x4876.Idx → EReal := m ((c : Thread nD τ).loc main_arg0)
abbrev A1 (c : Dev nD) : S2x256x4876.Idx → EReal := m ((c : Thread nD τ).loc main_arg1)
abbrev A2 (c : Dev nD) : S2x256x4876.Idx → EReal := m ((c : Thread nD τ).loc main_arg2)
abbrev A3 (c : Dev nD) : S2x256x4876.Idx → EReal := m ((c : Thread nD τ).loc main_arg3)

/-- Argument 0 as the grid finds it, element by element. -/
theorem read0 (c : Dev nD) (i : S2x256x4876.Idx) : W m c (Shape.reshapeEquiv shapeCasts_S512x4876_S2x256x4876 i) = A0 m c i := by
  have h : W m c = shapeCast S512x4876 (A0 m c) shapeCasts_S2x256x4876_S512x4876 := by
    unfold W V V0 hostOps0
    simp only [List.flatten_cons, List.flatten_nil, List.append_nil]
    after_results
    rfl
  rw [h]
  exact congrFun (shapeCast_shapeCast (A0 m c) _ shapeCasts_S512x4876_S2x256x4876) i

/-- Argument 1 as the grid finds it, element by element. -/
theorem read1 (c : Dev nD) (i : S2x256x4876.Idx) : G m c (Shape.reshapeEquiv shapeCasts_S512x4876_S2x256x4876 i) = A1 m c i := by
  have h : G m c = shapeCast S512x4876 (A1 m c) shapeCasts_S2x256x4876_S512x4876 := by
    unfold G V V0 hostOps0
    simp only [List.flatten_cons, List.flatten_nil, List.append_nil]
    after_results
    rfl
  rw [h]
  exact congrFun (shapeCast_shapeCast (A1 m c) _ shapeCasts_S512x4876_S2x256x4876) i

/-- Argument 2 as the grid finds it, element by element. -/
theorem read2 (c : Dev nD) (i : S2x256x4876.Idx) : M m c (Shape.reshapeEquiv shapeCasts_S512x4876_S2x256x4876 i) = A2 m c i := by
  have h : M m c = shapeCast S512x4876 (A2 m c) shapeCasts_S2x256x4876_S512x4876 := by
    unfold M V V0 hostOps0
    simp only [List.flatten_cons, List.flatten_nil, List.append_nil]
    after_results
    rfl
  rw [h]
  exact congrFun (shapeCast_shapeCast (A2 m c) _ shapeCasts_S512x4876_S2x256x4876) i

/-- Argument 3 as the grid finds it, element by element. -/
theorem read3 (c : Dev nD) (i : S2x256x4876.Idx) : N m c (Shape.reshapeEquiv shapeCasts_S512x4876_S2x256x4876 i) = A3 m c i := by
  have h : N m c = shapeCast S512x4876 (A3 m c) shapeCasts_S2x256x4876_S512x4876 := by
    unfold N V V0 hostOps0
    simp only [List.flatten_cons, List.flatten_nil, List.append_nil]
    after_results
    rfl
  rw [h]
  exact congrFun (shapeCast_shapeCast (A3 m c) _ shapeCasts_S512x4876_S2x256x4876) i

/-- Result `main_v5`, in the shape of the arguments. -/
theorem tail4 (c : Dev nD) : Pipeline.afterTail₀ cfgs (dats (F := Ideal) m) 0 (V0 m) [hostOps1] c main_v5 = (fun i => delta (A0 m c i) (A1 m c i) (A2 m c i) (A3 m c i) : S2x256x4876.Idx → EReal) := by
  have h : Pipeline.afterTail₀ cfgs (dats (F := Ideal) m) 0 (V0 m) [hostOps1] c main_v5
      = shapeCast S2x256x4876 ((dats (F := Ideal) m 0 c).arrAt 4 cfg0.N) shapeCasts_S512x4876_S2x256x4876 := by
    unfold Pipeline.afterTail₀ hostOps1
    simp only [List.flatten_cons, List.flatten_nil, List.append_nil]
    after_results
    exact congrArg (fun x => shapeCast S2x256x4876 x shapeCasts_S512x4876_S2x256x4876) (Pipeline.withArrays_arr spec0 (by decide) c _ _ 4)
  rw [h, arr4]
  funext i
  simp only [shapeCast]
  rw [read0, read1, read2, read3]

/-- Result `main_v6`, in the shape of the arguments. -/
theorem tail5 (c : Dev nD) : Pipeline.afterTail₀ cfgs (dats (F := Ideal) m) 0 (V0 m) [hostOps1] c main_v6 = (fun i => mom (A1 m c i) (A2 m c i) : S2x256x4876.Idx → EReal) := by
  have h : Pipeline.afterTail₀ cfgs (dats (F := Ideal) m) 0 (V0 m) [hostOps1] c main_v6
      = shapeCast S2x256x4876 ((dats (F := Ideal) m 0 c).arrAt 5 cfg0.N) shapeCasts_S512x4876_S2x256x4876 := by
    unfold Pipeline.afterTail₀ hostOps1
    simp only [List.flatten_cons, List.flatten_nil, List.append_nil]
    after_results
    exact congrArg (fun x => shapeCast S2x256x4876 x shapeCasts_S512x4876_S2x256x4876) (Pipeline.withArrays_arr spec0 (by decide) c _ _ 5)
  rw [h, arr5]
  funext i
  simp only [shapeCast]
  rw [read1, read2]

/-- Result `main_v7`, in the shape of the arguments. -/
theorem tail6 (c : Dev nD) : Pipeline.afterTail₀ cfgs (dats (F := Ideal) m) 0 (V0 m) [hostOps1] c main_v7 = (fun i => var (A1 m c i) (A3 m c i) : S2x256x4876.Idx → EReal) := by
  have h : Pipeline.afterTail₀ cfgs (dats (F := Ideal) m) 0 (V0 m) [hostOps1] c main_v7
      = shapeCast S2x256x4876 ((dats (F := Ideal) m 0 c).arrAt 6 cfg0.N) shapeCasts_S512x4876_S2x256x4876 := by
    unfold Pipeline.afterTail₀ hostOps1
    simp only [List.flatten_cons, List.flatten_nil, List.append_nil]
    after_results
    exact congrArg (fun x => shapeCast S2x256x4876 x shapeCasts_S512x4876_S2x256x4876) (Pipeline.withArrays_arr spec0 (by decide) c _ _ 6)
  rw [h, arr6]
  funext i
  simp only [shapeCast]
  rw [read1, read3]

/-- The equation: both programs run and end with equal results. -/
theorem algebraic : Cert.algebraic_AdamInIdeal_AdamInRefIdeal (hAdamInIdeal := Cert.AdamInIdeal.Gen.facts) (hAdamInRefIdeal := Cert.AdamInRefIdeal.Gen.facts) := by
  pair_intro
  · run_from Cert.AdamInIdeal.Gen.run_main m g
    · exact W_main_arg0 m _ c
    · exact W_main_arg1 m _ c
    · exact W_main_arg2 m _ c
    · exact W_main_arg3 m _ c
  · run_from Cert.AdamInRefIdeal.Value.run m' g'
    · exact (tail4 m c).symm
    · exact (tail5 m c).symm
    · exact (tail6 m c).symm

/-- The named constants are the reciprocals of the bias corrections. -/
theorem preserves : Cert.preserves_AdamIn_AdamInIdeal :=
  ⟨IdealRules.named_const.statement Cert.AdamInIdeal.κ "c1" .f32 0x3FC48605#32 (((8388608 / 5463681 : ℝ)) : EReal) rfl,
    IdealRules.named_const.statement Cert.AdamInIdeal.κ "c2" .f32 0x42C8E6D3#32 (((268435456 / 2672307 : ℝ)) : EReal) rfl⟩

/-- The reference runs, keeps its arguments, and has no counters. -/
theorem referenceFrame : Cert.quiescent_AdamInRefIdeal (hAdamInRefIdeal := Cert.AdamInRefIdeal.Gen.facts) := fun m g _ =>
  (θ_run Cert.AdamInRefIdeal.defs _ _).mono (fun r h => ⟨fun c => (h c).2.2.2, sem_eq_zero_of_no_sems (by decide) r.2⟩)
    (Cert.AdamInRefIdeal.Value.run (F := Ideal) m g)

end Cert.Adam.In

end
-- ==== Proof.Adam.Pack.lean ====
/- Arrays laid end to end: a slice of the whole at a piece's offset is the piece. -/
module

public import Idealize.ShloMosaic.Lib.Pipeline.ValueKit

@[expose] public section

noncomputable section

namespace Cert.Adam

open Idealize.ShloMosaic

variable {α : Type}

/-- The pieces `xs` end to end along one axis, filled up with `v` to `p` entries, and folded to shape `t`. -/
def pack {n p hi : ℕ} (t : Shape) (xs : List ((s : Shape) × (s.Idx → α))) (h : Shape.Concatenates (xs.map (·.1)) ⟨1, ![n]⟩ 0)
    {u : Shape} (v : u.Idx → α) (hu : 0 < u.numel) (hp : (⟨1, ![n]⟩ : Shape).Pads ![0] ![hi] ![0] ⟨1, ![p]⟩)
    (ht : t.numel = (⟨1, ![p]⟩ : Shape).numel) : t.Idx → α :=
  shapeCast t (pad ⟨1, ![p]⟩ ![0] ![hi] ![0] (concatenate ⟨1, ![n]⟩ 0 xs h) v hp hu) ht

/-- The `l` entries from `off` on, folded to shape `s`. -/
def cut {p l off : ℕ} {t s : Shape} (ht : (⟨1, ![p]⟩ : Shape).numel = t.numel) (hs : (⟨1, ![p]⟩ : Shape).Slices ![off] ⟨1, ![l]⟩)
    (hc : s.numel = (⟨1, ![l]⟩ : Shape).numel) (y : t.Idx → α) : s.Idx → α :=
  shapeCast s (extractStridedSlice ⟨1, ![l]⟩ ![off] (shapeCast ⟨1, ![p]⟩ y ht) hs) hc

/-- A piece cut out of the whole is the piece. -/
theorem cut_pack {n p hi l off : ℕ} {t s u : Shape} (xs : List ((s : Shape) × (s.Idx → α))) (h : Shape.Concatenates (xs.map (·.1)) ⟨1, ![n]⟩ 0)
    (v : u.Idx → α) (hu : 0 < u.numel) (hp : (⟨1, ![n]⟩ : Shape).Pads ![0] ![hi] ![0] ⟨1, ![p]⟩) (ht : t.numel = (⟨1, ![p]⟩ : Shape).numel)
    (ht' : (⟨1, ![p]⟩ : Shape).numel = t.numel) (hs : (⟨1, ![p]⟩ : Shape).Slices ![off] ⟨1, ![l]⟩)
    (hc : s.numel = (⟨1, ![l]⟩ : Shape).numel) (hc' : (⟨1, ![l]⟩ : Shape).numel = s.numel)
    (k : ℕ) (x : s.Idx → α) (hk : k < xs.length) (hx : xs[k] = ⟨⟨1, ![l]⟩, shapeCast ⟨1, ![l]⟩ x hc'⟩)
    (hpre : (((xs.take k).map (·.1)).map fun s => if h : s.rank = 1 then s.size ((0 : Fin 1).cast h.symm) else 0).sum = off)
    (hl : off + l ≤ n) :
    cut ht' hs hc (pack t xs h v hu hp ht) = x := by
  have key : extractStridedSlice ⟨1, ![l]⟩ ![off] (pad ⟨1, ![p]⟩ ![0] ![hi] ![0] (concatenate ⟨1, ![n]⟩ 0 xs h) v hp hu) hs
      = shapeCast ⟨1, ![l]⟩ x hc' := by
    funext j
    have hj : (j 0).val < l := (j 0).isLt
    show pad _ _ _ _ _ _ _ _ _ = _
    unfold pad
    rw [dif_pos (by
      intro a
      obtain rfl : a = 0 := Subsingleton.elim _ _
      refine ⟨Nat.zero_le _, Nat.mod_one _, ?_⟩
      show (off + (j 0).val - 0) / 1 < n
      rw [Nat.div_one]; omega)]
    refine concatenate_apply_piece 0 xs h _ k hk _ _ hx rfl off hpre j (fun b hb => absurd (Subsingleton.elim _ _) hb) ?_
    show off + (j 0).val = (off + (j 0).val - 0) / 1
    rw [Nat.div_one, Nat.sub_zero]
  unfold cut pack
  rw [shapeCast_shapeCast, key, shapeCast_shapeCast]

/-- Cutting goes past a function applied entry by entry. -/
theorem cut_map {β : Type} {p l off : ℕ} {t s : Shape} (ht : (⟨1, ![p]⟩ : Shape).numel = t.numel) (hs : (⟨1, ![p]⟩ : Shape).Slices ![off] ⟨1, ![l]⟩)
    (hc : s.numel = (⟨1, ![l]⟩ : Shape).numel) (f : α → α → α → α → β) {W G M N : t.Idx → α} {w g m v : s.Idx → α}
    (hw : cut ht hs hc W = w) (hg : cut ht hs hc G = g) (hm : cut ht hs hc M = m) (hv : cut ht hs hc N = v) :
    cut ht hs hc (fun i => f (W i) (G i) (M i) (N i)) = fun i => f (w i) (g i) (m i) (v i) := by
  subst hw hg hm hv
  rfl

end Cert.Adam

end
-- ==== Proof.Adam.Small.lean ====
/- The optimiser's step of the small weights, laid out in one array: the run's results are the step of every element of every weight, and so are the reference's. -/
module

public import proofs.«01_k».proof.Defs
public import proofs.«01_k».proof.Proof.Gen.AdamSmallIdeal.Frame
public import proofs.«01_k».proof.Proof.Gen.AdamSmallRefIdeal.Run
public import proofs.«01_k».proof.Proof.Adam.Step
public import proofs.«01_k».proof.Proof.Adam.Pack
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Adam.Small

open Cert.AdamSmallIdeal Cert.AdamSmallIdeal.Gen Cert.Adam Idealize.ShloMosaic Idealize.ShloMosaic.TcCoe Idealize.SL.Sem

/-- The thirteen arrays of the small weights, end to end and filled up with zeros. -/
def whole (a0 : S2x2048.Idx → EReal) (a1 : S2x4x288.Idx → EReal) (a2 : S2x6.Idx → EReal) (a3 : S2x6.Idx → EReal) (a4 : S2x128.Idx → EReal) (a5 : S2x4x128x128.Idx → EReal) (a6 : S2x512.Idx → EReal) (a7 : S2x6.Idx → EReal) (a8 : S2x2048.Idx → EReal) (a9 : S2x2048.Idx → EReal) (a10 : S2x3x1408.Idx → EReal) (a11 : S2x11264.Idx → EReal) (a12 : S2x2048.Idx → EReal) : S1536x128.Idx → EReal :=
  pack S1536x128 [⟨S4096, shapeCast S4096 a0 shapeCasts_S2x2048_S4096⟩, ⟨S2304, shapeCast S2304 a1 shapeCasts_S2x4x288_S2304⟩, ⟨S12, shapeCast S12 a2 shapeCasts_S2x6_S12⟩, ⟨S12, shapeCast S12 a3 shapeCasts_S2x6_S12⟩, ⟨S256, shapeCast S256 a4 shapeCasts_S2x128_S256⟩, ⟨S131072, shapeCast S131072 a5 shapeCasts_S2x4x128x128_S131072⟩, ⟨S1024, shapeCast S1024 a6 shapeCasts_S2x512_S1024⟩, ⟨S12, shapeCast S12 a7 shapeCasts_S2x6_S12⟩, ⟨S4096, shapeCast S4096 a8 shapeCasts_S2x2048_S4096⟩, ⟨S4096, shapeCast S4096 a9 shapeCasts_S2x2048_S4096⟩, ⟨S8448, shapeCast S8448 a10 shapeCasts_S2x3x1408_S8448⟩, ⟨S22528, shapeCast S22528 a11 shapeCasts_S2x11264_S22528⟩, ⟨S4096, shapeCast S4096 a12 shapeCasts_S2x2048_S4096⟩]
    concatenates_S4096_S2304_S12_S12_S256_S131072_S1024_S12_S4096_S4096_S8448_S22528_S4096_S182052_d0
    (sitofp (F := Ideal) .f32 (constantI S_ 32 0#32)) h_S_ pads_S182052_S196608_0145560 shapeCasts_S196608_S1536x128

/-- Filled up with the zero the program fills with, and folded. -/
def fill (x : S182052.Idx → EReal) (v : S_.Idx → EReal) : S1536x128.Idx → EReal :=
  shapeCast S1536x128 (pad S196608 ![0] ![14556] ![0] x v pads_S182052_S196608_0145560 h_S_) shapeCasts_S196608_S1536x128

/-- Lines run one after another. -/
theorem after_append (l l' : List (HloOp τ sig (Elt Ideal))) (X : Valuation τ sig (Elt Ideal)) :
    StableHlo.after (l ++ l') X = StableHlo.after l' (StableHlo.after l X) := by
  induction l generalizing X with
  | nil => rfl
  | cons a l ih => exact ih _

/-- The weights' three lines: laid end to end, filled up, folded. -/
theorem lines0 (X : Valuation τ sig (Elt Ideal)) :
    StableHlo.after hostOps0_2 (StableHlo.after hostOps0_1 (StableHlo.after hostOps0 X)) (Proc.devRef .tc main_v15)
      = whole (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) := by
  have h2 : ∀ Y : Valuation τ sig (Elt Ideal), StableHlo.after hostOps0_2 (StableHlo.after hostOps0_1 Y) (Proc.devRef .tc main_v15)
      = fill (Y (Proc.devRef .tc main_v13)) (sitofp (F := Ideal) .f32 (Y (Proc.devRef .tc main_c))) := fun Y => by
    after_results
    rfl
  have h3 : StableHlo.after hostOps0 X (Proc.devRef .tc main_c) = constantI S_ 32 0#32 := by
    after_results
  rw [h2, h3]
  refine congrArg (fill · _) ?_
  after_results
  rfl

/-- The gradients' three lines: laid end to end, filled up, folded. -/
theorem lines1 (X : Valuation τ sig (Elt Ideal)) :
    StableHlo.after hostOps0_4 (StableHlo.after hostOps0_3 (StableHlo.after hostOps0_2 X)) (Proc.devRef .tc main_v31)
      = whole (X (Proc.devRef .tc main_arg13)) (X (Proc.devRef .tc main_arg14)) (X (Proc.devRef .tc main_arg15)) (X (Proc.devRef .tc main_arg16)) (X (Proc.devRef .tc main_arg17)) (X (Proc.devRef .tc main_arg18)) (X (Proc.devRef .tc main_arg19)) (X (Proc.devRef .tc main_arg20)) (X (Proc.devRef .tc main_arg21)) (X (Proc.devRef .tc main_arg22)) (X (Proc.devRef .tc main_arg23)) (X (Proc.devRef .tc main_arg24)) (X (Proc.devRef .tc main_arg25)) := by
  have h2 : ∀ Y : Valuation τ sig (Elt Ideal), StableHlo.after hostOps0_4 (StableHlo.after hostOps0_3 Y) (Proc.devRef .tc main_v31)
      = fill (Y (Proc.devRef .tc main_v29)) (sitofp (F := Ideal) .f32 (Y (Proc.devRef .tc main_c_0))) := fun Y => by
    after_results
    rfl
  have h3 : StableHlo.after hostOps0_2 X (Proc.devRef .tc main_c_0) = constantI S_ 32 0#32 := by
    after_results
  rw [h2, h3]
  refine congrArg (fill · _) ?_
  after_results
  rfl

/-- The first moments' three lines: laid end to end, filled up, folded. -/
theorem lines2 (X : Valuation τ sig (Elt Ideal)) :
    StableHlo.after hostOps0_6 (StableHlo.after hostOps0_5 (StableHlo.after hostOps0_4 X)) (Proc.devRef .tc main_v47)
      = whole (X (Proc.devRef .tc main_arg26)) (X (Proc.devRef .tc main_arg27)) (X (Proc.devRef .tc main_arg28)) (X (Proc.devRef .tc main_arg29)) (X (Proc.devRef .tc main_arg30)) (X (Proc.devRef .tc main_arg31)) (X (Proc.devRef .tc main_arg32)) (X (Proc.devRef .tc main_arg33)) (X (Proc.devRef .tc main_arg34)) (X (Proc.devRef .tc main_arg35)) (X (Proc.devRef .tc main_arg36)) (X (Proc.devRef .tc main_arg37)) (X (Proc.devRef .tc main_arg38)) := by
  have h2 : ∀ Y : Valuation τ sig (Elt Ideal), StableHlo.after hostOps0_6 (StableHlo.after hostOps0_5 Y) (Proc.devRef .tc main_v47)
      = fill (Y (Proc.devRef .tc main_v45)) (sitofp (F := Ideal) .f32 (Y (Proc.devRef .tc main_c_1))) := fun Y => by
    after_results
    rfl
  have h3 : StableHlo.after hostOps0_4 X (Proc.devRef .tc main_c_1) = constantI S_ 32 0#32 := by
    after_results
  rw [h2, h3]
  refine congrArg (fill · _) ?_
  after_results
  rfl

/-- The second moments' three lines: laid end to end, filled up, folded. -/
theorem lines3 (X : Valuation τ sig (Elt Ideal)) :
    StableHlo.after hostOps0_8 (StableHlo.after hostOps0_7 (StableHlo.after hostOps0_6 X)) (Proc.devRef .tc main_v63)
      = whole (X (Proc.devRef .tc main_arg39)) (X (Proc.devRef .tc main_arg40)) (X (Proc.devRef .tc main_arg41)) (X (Proc.devRef .tc main_arg42)) (X (Proc.devRef .tc main_arg43)) (X (Proc.devRef .tc main_arg44)) (X (Proc.devRef .tc main_arg45)) (X (Proc.devRef .tc main_arg46)) (X (Proc.devRef .tc main_arg47)) (X (Proc.devRef .tc main_arg48)) (X (Proc.devRef .tc main_arg49)) (X (Proc.devRef .tc main_arg50)) (X (Proc.devRef .tc main_arg51)) := by
  have h2 : ∀ Y : Valuation τ sig (Elt Ideal), StableHlo.after hostOps0_8 (StableHlo.after hostOps0_7 Y) (Proc.devRef .tc main_v63)
      = fill (Y (Proc.devRef .tc main_v61)) (sitofp (F := Ideal) .f32 (Y (Proc.devRef .tc main_c_2))) := fun Y => by
    after_results
    rfl
  have h3 : StableHlo.after hostOps0_6 X (Proc.devRef .tc main_c_2) = constantI S_ 32 0#32 := by
    after_results
  rw [h2, h3]
  refine congrArg (fill · _) ?_
  after_results
  rfl

variable (m : (ℓ : Loc nD τ sig) → Buf (Elt Ideal) ℓ)

/-- What the lines before the second moments' write. -/
abbrev wr : List (List (Ref sig .tc)) := [[main_v0, main_v1, main_v2, main_v3, main_v4, main_v5, main_v6, main_v7, main_v8, main_v9, main_v10, main_v11, main_v12, main_v13, main_c], [main_call0_v0, main_v14], [main_v15, main_v16, main_v17, main_v18, main_v19, main_v20, main_v21, main_v22, main_v23, main_v24, main_v25, main_v26, main_v27, main_v28, main_v29, main_c_0], [main_call1_v0, main_v30], [main_v31, main_v32, main_v33, main_v34, main_v35, main_v36, main_v37, main_v38, main_v39, main_v40, main_v41, main_v42, main_v43, main_v44, main_v45, main_c_1], [main_call2_v0, main_v46]]

/-- The weights as the grid finds them. -/
abbrev W (c : Dev nD) : S1536x128.Idx → EReal :=
  whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The gradients as the grid finds them. -/
abbrev G (c : Dev nD) : S1536x128.Idx → EReal :=
  whole (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- The first moments as the grid finds them. -/
abbrev M (c : Dev nD) : S1536x128.Idx → EReal :=
  whole (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38))

/-- The second moments as the grid finds them. -/
abbrev N (c : Dev nD) : S1536x128.Idx → EReal :=
  whole (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51))

/-- The weights are laid out so. -/
theorem readW (c : Dev nD) : V m c main_v15 = W m c := by
  have late : ∀ Y : Valuation τ sig (Elt Ideal), StableHlo.after hostOps0_8 (StableHlo.after hostOps0_7 (StableHlo.after hostOps0_6 (StableHlo.after hostOps0_5 (StableHlo.after hostOps0_4 (StableHlo.after hostOps0_3 (Y)))))) (Proc.devRef .tc main_v15) = Y (Proc.devRef .tc main_v15) := fun Y =>
    by after_results
  show StableHlo.after (hostOps0 ++ (hostOps0_1 ++ (hostOps0_2 ++ (hostOps0_3 ++ (hostOps0_4 ++ (hostOps0_5 ++ (hostOps0_6 ++ (hostOps0_7 ++ (hostOps0_8))))))))) (fun b => m (c, b)) (Proc.devRef .tc main_v15) = _
  rw [after_append, after_append, after_append, after_append, after_append, after_append, after_append, after_append, late, lines0]

/-- The gradients are laid out so. -/
theorem readG (c : Dev nD) : V m c main_v31 = G m c := by
  have late : ∀ Y : Valuation τ sig (Elt Ideal), StableHlo.after hostOps0_8 (StableHlo.after hostOps0_7 (StableHlo.after hostOps0_6 (StableHlo.after hostOps0_5 (Y)))) (Proc.devRef .tc main_v31) = Y (Proc.devRef .tc main_v31) := fun Y =>
    by after_results
  show StableHlo.after ([hostOps0, hostOps0_1].flatten ++ (hostOps0_2 ++ (hostOps0_3 ++ (hostOps0_4 ++ (hostOps0_5 ++ (hostOps0_6 ++ (hostOps0_7 ++ (hostOps0_8)))))))) (fun b => m (c, b)) (Proc.devRef .tc main_v31) = _
  rw [after_append, after_append, after_append, after_append, after_append, after_append, after_append, late, lines1]
  have k : ∀ r : Ref sig .tc, r ∉ (wr.take 2).flatten → StableHlo.after [hostOps0, hostOps0_1].flatten (fun b => m (c, b)) (Proc.devRef .tc r) = m (c, Proc.devRef .tc r) :=
    fun r h => StableHlo.after_of_writes_sub _ _ (StableHlo.forall_writes_sub_of_map rfl) h
  congr 1 <;> exact k _ (by decide)

/-- The first moments are laid out so. -/
theorem readM (c : Dev nD) : V m c main_v47 = M m c := by
  have late : ∀ Y : Valuation τ sig (Elt Ideal), StableHlo.after hostOps0_8 (StableHlo.after hostOps0_7 (Y)) (Proc.devRef .tc main_v47) = Y (Proc.devRef .tc main_v47) := fun Y =>
    by after_results
  show StableHlo.after ([hostOps0, hostOps0_1, hostOps0_2, hostOps0_3].flatten ++ (hostOps0_4 ++ (hostOps0_5 ++ (hostOps0_6 ++ (hostOps0_7 ++ (hostOps0_8)))))) (fun b => m (c, b)) (Proc.devRef .tc main_v47) = _
  rw [after_append, after_append, after_append, after_append, after_append, late, lines2]
  have k : ∀ r : Ref sig .tc, r ∉ (wr.take 4).flatten → StableHlo.after [hostOps0, hostOps0_1, hostOps0_2, hostOps0_3].flatten (fun b => m (c, b)) (Proc.devRef .tc r) = m (c, Proc.devRef .tc r) :=
    fun r h => StableHlo.after_of_writes_sub _ _ (StableHlo.forall_writes_sub_of_map rfl) h
  congr 1 <;> exact k _ (by decide)

/-- The second moments are laid out so. -/
theorem readN (c : Dev nD) : V m c main_v63 = N m c := by
  show StableHlo.after ([hostOps0, hostOps0_1, hostOps0_2, hostOps0_3, hostOps0_4, hostOps0_5].flatten ++ (hostOps0_6 ++ (hostOps0_7 ++ (hostOps0_8)))) (fun b => m (c, b)) (Proc.devRef .tc main_v63) = _
  rw [after_append, after_append, after_append, lines3]
  have k : ∀ r : Ref sig .tc, r ∉ (wr.take 6).flatten → StableHlo.after [hostOps0, hostOps0_1, hostOps0_2, hostOps0_3, hostOps0_4, hostOps0_5].flatten (fun b => m (c, b)) (Proc.devRef .tc r) = m (c, Proc.devRef .tc r) :=
    fun r h => StableHlo.after_of_writes_sub _ _ (StableHlo.forall_writes_sub_of_map rfl) h
  congr 1 <;> exact k _ (by decide)

/-- The first moment's block. -/
theorem pay_m (g m : Vec Ideal S1536x128 .f32) : k0_pay2 (F := Ideal) g m = fun i => mom (g i) (m i) := by
  unfold k0_pay2 k0_pay1
  simp only [shapeCast_self]
  rfl

/-- The second moment's block. -/
theorem pay_v (g v : Vec Ideal S1536x128 .f32) : k0_pay3 (F := Ideal) g v = fun i => var (g i) (v i) := by
  unfold k0_pay3 k0_pay1
  simp only [shapeCast_self]
  rfl

/-- The step's block. -/
theorem pay_d (g m v w : Vec Ideal S1536x128 .f32) : k0_pay4 (F := Ideal) g m v w = fun i => delta (w i) (g i) (m i) (v i) := by
  unfold k0_pay4
  rw [pay_m, pay_v]
  simp only [shapeCast_self]
  funext i
  rw [delta_eq]
  rfl

/-- No offset along two axes. -/
theorem hz2 : (![0, 0] : Fin 2 → ℕ) = fun _ => 0 := funext fun a => by fin_cases a <;> rfl

/-- Window 0's block is its whole array. -/
theorem emb0 (t : Fin cfg0.N) (j : S1536x128.Idx) : (win0_0.blk t).view.emb j = j := by
  have e : ∀ t : Fin cfg0.N, ∀ a : Fin 2, win0_0.index t a = 0 := by decide +kernel
  funext a
  apply Fin.ext
  fin_cases a
  · blk_simp; rw [e t 0]; try omega
  · blk_simp; rw [e t 1]; try omega

/-- Window 1's block is its whole array. -/
theorem emb1 (t : Fin cfg0.N) (j : S1536x128.Idx) : (win0_1.blk t).view.emb j = j := by
  have e : ∀ t : Fin cfg0.N, ∀ a : Fin 2, win0_1.index t a = 0 := by decide +kernel
  funext a
  apply Fin.ext
  fin_cases a
  · blk_simp; rw [e t 0]; try omega
  · blk_simp; rw [e t 1]; try omega

/-- Window 2's block is its whole array. -/
theorem emb2 (t : Fin cfg0.N) (j : S1536x128.Idx) : (win0_2.blk t).view.emb j = j := by
  have e : ∀ t : Fin cfg0.N, ∀ a : Fin 2, win0_2.index t a = 0 := by decide +kernel
  funext a
  apply Fin.ext
  fin_cases a
  · blk_simp; rw [e t 0]; try omega
  · blk_simp; rw [e t 1]; try omega

/-- Window 3's block is its whole array. -/
theorem emb3 (t : Fin cfg0.N) (j : S1536x128.Idx) : (win0_3.blk t).view.emb j = j := by
  have e : ∀ t : Fin cfg0.N, ∀ a : Fin 2, win0_3.index t a = 0 := by decide +kernel
  funext a
  apply Fin.ext
  fin_cases a
  · blk_simp; rw [e t 0]; try omega
  · blk_simp; rw [e t 1]; try omega

/-- Window 4's block is its whole array. -/
theorem emb4 (t : Fin cfg0.N) (j : S1536x128.Idx) : (win0_4.blk t).view.emb j = j := by
  have e : ∀ t : Fin cfg0.N, ∀ a : Fin 2, win0_4.index t a = 0 := by decide +kernel
  funext a
  apply Fin.ext
  fin_cases a
  · blk_simp; rw [e t 0]; try omega
  · blk_simp; rw [e t 1]; try omega

/-- Window 5's block is its whole array. -/
theorem emb5 (t : Fin cfg0.N) (j : S1536x128.Idx) : (win0_5.blk t).view.emb j = j := by
  have e : ∀ t : Fin cfg0.N, ∀ a : Fin 2, win0_5.index t a = 0 := by decide +kernel
  funext a
  apply Fin.ext
  fin_cases a
  · blk_simp; rw [e t 0]; try omega
  · blk_simp; rw [e t 1]; try omega

/-- Window 6's block is its whole array. -/
theorem emb6 (t : Fin cfg0.N) (j : S1536x128.Idx) : (win0_6.blk t).view.emb j = j := by
  have e : ∀ t : Fin cfg0.N, ∀ a : Fin 2, win0_6.index t a = 0 := by decide +kernel
  funext a
  apply Fin.ext
  fin_cases a
  · blk_simp; rw [e t 0]; try omega
  · blk_simp; rw [e t 1]; try omega

theorem blk0 (c : Dev nD) (t : Fin cfg0.N) (j : S1536x128.Idx) : iblk m c 0 t j = W m c j := by
  unfold iblk
  rw [View.read_apply]
  exact (congrArg (V m c main_v15) (emb0 t j)).trans (congrFun (readW m c) j)

theorem blk1 (c : Dev nD) (t : Fin cfg0.N) (j : S1536x128.Idx) : iblk m c 1 t j = G m c j := by
  unfold iblk
  rw [View.read_apply]
  exact (congrArg (V m c main_v31) (emb1 t j)).trans (congrFun (readG m c) j)

theorem blk2 (c : Dev nD) (t : Fin cfg0.N) (j : S1536x128.Idx) : iblk m c 2 t j = M m c j := by
  unfold iblk
  rw [View.read_apply]
  exact (congrArg (V m c main_v47) (emb2 t j)).trans (congrFun (readM m c) j)

theorem blk3 (c : Dev nD) (t : Fin cfg0.N) (j : S1536x128.Idx) : iblk m c 3 t j = N m c j := by
  unfold iblk
  rw [View.read_apply]
  exact (congrArg (V m c main_v63) (emb3 t j)).trans (congrFun (readN m c) j)

/-- The change of the weights, all in one array. -/
theorem arr4 (c : Dev nD) : (dats (F := Ideal) m 0 c).arrAt 4 cfg0.N = (fun i => delta (W m c i) (G m c i) (M m c i) (N m c i) : S1536x128.Idx → EReal) := by
  refine (dats m 0 c).arrAt_eq_of_covers 4 _ (by decide +kernel) fun t hf j => ?_
  rw [after0_4]
  unfold out0_4
  rw [View.canon_unit_zero (S := S1536x128) hz2]
  simp only [View.ld_unit_zero (S := S1536x128) hz2, pay_d]
  blk_simp
  rw [blk0, blk1, blk2, blk3]
  exact congrArg (fun i => delta (W m c i) (G m c i) (M m c i) (N m c i)) (emb4 t j).symm

/-- The new first moments, all in one array. -/
theorem arr5 (c : Dev nD) : (dats (F := Ideal) m 0 c).arrAt 5 cfg0.N = (fun i => mom (G m c i) (M m c i) : S1536x128.Idx → EReal) := by
  refine (dats m 0 c).arrAt_eq_of_covers 5 _ (by decide +kernel) fun t hf j => ?_
  rw [after0_5]
  unfold out0_5
  rw [View.canon_unit_zero (S := S1536x128) hz2]
  simp only [View.ld_unit_zero (S := S1536x128) hz2, pay_m]
  blk_simp
  rw [blk1, blk2]
  exact congrArg (fun i => mom (G m c i) (M m c i)) (emb5 t j).symm

/-- The new second moments, all in one array. -/
theorem arr6 (c : Dev nD) : (dats (F := Ideal) m 0 c).arrAt 6 cfg0.N = (fun i => var (G m c i) (N m c i) : S1536x128.Idx → EReal) := by
  refine (dats m 0 c).arrAt_eq_of_covers 6 _ (by decide +kernel) fun t hf j => ?_
  rw [after0_6]
  unfold out0_6
  rw [View.canon_unit_zero (S := S1536x128) hz2]
  simp only [View.ld_unit_zero (S := S1536x128) hz2, pay_v]
  blk_simp
  rw [blk1, blk3]
  exact congrArg (fun i => var (G m c i) (N m c i)) (emb6 t j).symm

end Cert.Adam.Small

end
-- ==== Proof.Adam.SmallEnd.lean ====
/- The optimiser's step of the small weights: each result is the step of its weight, and the reference's is too. -/
module

public import proofs.«01_k».proof.Proof.Adam.Small

@[expose] public section

set_option maxRecDepth 16384

noncomputable section

namespace Cert.Adam.Small

open Cert.AdamSmallIdeal Cert.AdamSmallIdeal.Gen Cert.Adam Idealize.ShloMosaic Idealize.ShloMosaic.TcCoe Idealize.SL.Sem

/-- The shapes of the thirteen, in order. -/
abbrev shapes : List Shape := [S4096, S2304, S12, S12, S256, S131072, S1024, S12, S4096, S4096, S8448, S22528, S4096]

variable {a0 : S2x2048.Idx → EReal} {a1 : S2x4x288.Idx → EReal} {a2 : S2x6.Idx → EReal} {a3 : S2x6.Idx → EReal} {a4 : S2x128.Idx → EReal} {a5 : S2x4x128x128.Idx → EReal} {a6 : S2x512.Idx → EReal} {a7 : S2x6.Idx → EReal} {a8 : S2x2048.Idx → EReal} {a9 : S2x2048.Idx → EReal} {a10 : S2x3x1408.Idx → EReal} {a11 : S2x11264.Idx → EReal} {a12 : S2x2048.Idx → EReal}

/-- Piece 0 of the thirteen. -/
theorem pick0 : cut shapeCasts_S1536x128_S196608 slices_S196608_S4096_0 shapeCasts_S4096_S2x2048 (whole a0 a1 a2 a3 a4 a5 a6 a7 a8 a9 a10 a11 a12) = a0 :=
  cut_pack _ _ _ _ _ _ _ _ _ shapeCasts_S2x2048_S4096 0 _ (by decide : 0 < 13) rfl
    (by decide +kernel : (((shapes.take 0).map fun s => if h : s.rank = 1 then s.size ((0 : Fin 1).cast h.symm) else 0).sum = 0)) (by decide)

/-- Piece 1 of the thirteen. -/
theorem pick1 : cut shapeCasts_S1536x128_S196608 slices_S196608_S2304_4096 shapeCasts_S2304_S2x4x288 (whole a0 a1 a2 a3 a4 a5 a6 a7 a8 a9 a10 a11 a12) = a1 :=
  cut_pack _ _ _ _ _ _ _ _ _ shapeCasts_S2x4x288_S2304 1 _ (by decide : 1 < 13) rfl
    (by decide +kernel : (((shapes.take 1).map fun s => if h : s.rank = 1 then s.size ((0 : Fin 1).cast h.symm) else 0).sum = 4096)) (by decide)

/-- Piece 2 of the thirteen. -/
theorem pick2 : cut shapeCasts_S1536x128_S196608 slices_S196608_S12_6400 shapeCasts_S12_S2x6 (whole a0 a1 a2 a3 a4 a5 a6 a7 a8 a9 a10 a11 a12) = a2 :=
  cut_pack _ _ _ _ _ _ _ _ _ shapeCasts_S2x6_S12 2 _ (by decide : 2 < 13) rfl
    (by decide +kernel : (((shapes.take 2).map fun s => if h : s.rank = 1 then s.size ((0 : Fin 1).cast h.symm) else 0).sum = 6400)) (by decide)

/-- Piece 3 of the thirteen. -/
theorem pick3 : cut shapeCasts_S1536x128_S196608 slices_S196608_S12_6412 shapeCasts_S12_S2x6 (whole a0 a1 a2 a3 a4 a5 a6 a7 a8 a9 a10 a11 a12) = a3 :=
  cut_pack _ _ _ _ _ _ _ _ _ shapeCasts_S2x6_S12 3 _ (by decide : 3 < 13) rfl
    (by decide +kernel : (((shapes.take 3).map fun s => if h : s.rank = 1 then s.size ((0 : Fin 1).cast h.symm) else 0).sum = 6412)) (by decide)

/-- Piece 4 of the thirteen. -/
theorem pick4 : cut shapeCasts_S1536x128_S196608 slices_S196608_S256_6424 shapeCasts_S256_S2x128 (whole a0 a1 a2 a3 a4 a5 a6 a7 a8 a9 a10 a11 a12) = a4 :=
  cut_pack _ _ _ _ _ _ _ _ _ shapeCasts_S2x128_S256 4 _ (by decide : 4 < 13) rfl
    (by decide +kernel : (((shapes.take 4).map fun s => if h : s.rank = 1 then s.size ((0 : Fin 1).cast h.symm) else 0).sum = 6424)) (by decide)

/-- Piece 5 of the thirteen. -/
theorem pick5 : cut shapeCasts_S1536x128_S196608 slices_S196608_S131072_6680 shapeCasts_S131072_S2x4x128x128 (whole a0 a1 a2 a3 a4 a5 a6 a7 a8 a9 a10 a11 a12) = a5 :=
  cut_pack _ _ _ _ _ _ _ _ _ shapeCasts_S2x4x128x128_S131072 5 _ (by decide : 5 < 13) rfl
    (by decide +kernel : (((shapes.take 5).map fun s => if h : s.rank = 1 then s.size ((0 : Fin 1).cast h.symm) else 0).sum = 6680)) (by decide)

/-- Piece 6 of the thirteen. -/
theorem pick6 : cut shapeCasts_S1536x128_S196608 slices_S196608_S1024_137752 shapeCasts_S1024_S2x512 (whole a0 a1 a2 a3 a4 a5 a6 a7 a8 a9 a10 a11 a12) = a6 :=
  cut_pack _ _ _ _ _ _ _ _ _ shapeCasts_S2x512_S1024 6 _ (by decide : 6 < 13) rfl
    (by decide +kernel : (((shapes.take 6).map fun s => if h : s.rank = 1 then s.size ((0 : Fin 1).cast h.symm) else 0).sum = 137752)) (by decide)

/-- Piece 7 of the thirteen. -/
theorem pick7 : cut shapeCasts_S1536x128_S196608 slices_S196608_S12_138776 shapeCasts_S12_S2x6 (whole a0 a1 a2 a3 a4 a5 a6 a7 a8 a9 a10 a11 a12) = a7 :=
  cut_pack _ _ _ _ _ _ _ _ _ shapeCasts_S2x6_S12 7 _ (by decide : 7 < 13) rfl
    (by decide +kernel : (((shapes.take 7).map fun s => if h : s.rank = 1 then s.size ((0 : Fin 1).cast h.symm) else 0).sum = 138776)) (by decide)

/-- Piece 8 of the thirteen. -/
theorem pick8 : cut shapeCasts_S1536x128_S196608 slices_S196608_S4096_138788 shapeCasts_S4096_S2x2048 (whole a0 a1 a2 a3 a4 a5 a6 a7 a8 a9 a10 a11 a12) = a8 :=
  cut_pack _ _ _ _ _ _ _ _ _ shapeCasts_S2x2048_S4096 8 _ (by decide : 8 < 13) rfl
    (by decide +kernel : (((shapes.take 8).map fun s => if h : s.rank = 1 then s.size ((0 : Fin 1).cast h.symm) else 0).sum = 138788)) (by decide)

/-- Piece 9 of the thirteen. -/
theorem pick9 : cut shapeCasts_S1536x128_S196608 slices_S196608_S4096_142884 shapeCasts_S4096_S2x2048 (whole a0 a1 a2 a3 a4 a5 a6 a7 a8 a9 a10 a11 a12) = a9 :=
  cut_pack _ _ _ _ _ _ _ _ _ shapeCasts_S2x2048_S4096 9 _ (by decide : 9 < 13) rfl
    (by decide +kernel : (((shapes.take 9).map fun s => if h : s.rank = 1 then s.size ((0 : Fin 1).cast h.symm) else 0).sum = 142884)) (by decide)

/-- Piece 10 of the thirteen. -/
theorem pick10 : cut shapeCasts_S1536x128_S196608 slices_S196608_S8448_146980 shapeCasts_S8448_S2x3x1408 (whole a0 a1 a2 a3 a4 a5 a6 a7 a8 a9 a10 a11 a12) = a10 :=
  cut_pack _ _ _ _ _ _ _ _ _ shapeCasts_S2x3x1408_S8448 10 _ (by decide : 10 < 13) rfl
    (by decide +kernel : (((shapes.take 10).map fun s => if h : s.rank = 1 then s.size ((0 : Fin 1).cast h.symm) else 0).sum = 146980)) (by decide)

/-- Piece 11 of the thirteen. -/
theorem pick11 : cut shapeCasts_S1536x128_S196608 slices_S196608_S22528_155428 shapeCasts_S22528_S2x11264 (whole a0 a1 a2 a3 a4 a5 a6 a7 a8 a9 a10 a11 a12) = a11 :=
  cut_pack _ _ _ _ _ _ _ _ _ shapeCasts_S2x11264_S22528 11 _ (by decide : 11 < 13) rfl
    (by decide +kernel : (((shapes.take 11).map fun s => if h : s.rank = 1 then s.size ((0 : Fin 1).cast h.symm) else 0).sum = 155428)) (by decide)

/-- Piece 12 of the thirteen. -/
theorem pick12 : cut shapeCasts_S1536x128_S196608 slices_S196608_S4096_177956 shapeCasts_S4096_S2x2048 (whole a0 a1 a2 a3 a4 a5 a6 a7 a8 a9 a10 a11 a12) = a12 :=
  cut_pack _ _ _ _ _ _ _ _ _ shapeCasts_S2x2048_S4096 12 _ (by decide : 12 < 13) rfl
    (by decide +kernel : (((shapes.take 12).map fun s => if h : s.rank = 1 then s.size ((0 : Fin 1).cast h.symm) else 0).sum = 177956)) (by decide)

variable (m : (ℓ : Loc nD τ sig) → Buf (Elt Ideal) ℓ)

/-- The step of a whole array: its change and its two new moments. -/
abbrev D {s : Shape} (w g x v : s.Idx → EReal) : s.Idx → EReal := fun i => delta (w i) (g i) (x i) (v i)
abbrev M' {s : Shape} (_ g x _ : s.Idx → EReal) : s.Idx → EReal := fun i => mom (g i) (x i)
abbrev V' {s : Shape} (_ g _ v : s.Idx → EReal) : s.Idx → EReal := fun i => var (g i) (v i)

/-- What a buffer holds after the program's last lines. -/
abbrev fin (c : Dev nD) (r : Ref sig .tc) := Pipeline.afterTail₀ cfgs (dats (F := Ideal) m) 0 (V0 m) [hostOps1] c r

/-- An argument on a device. -/
abbrev inp (c : Dev nD) (r : Ref sig .tc) := m ((c : Thread nD τ).loc r)

/-- The changes of the weights. -/
theorem deltas (c : Dev nD) :
    fin m c main_v67 = D (s := S2x2048) (inp m c main_arg0) (inp m c main_arg13) (inp m c main_arg26) (inp m c main_arg39)
    ∧ fin m c main_v69 = D (s := S2x4x288) (inp m c main_arg1) (inp m c main_arg14) (inp m c main_arg27) (inp m c main_arg40)
    ∧ fin m c main_v71 = D (s := S2x6) (inp m c main_arg2) (inp m c main_arg15) (inp m c main_arg28) (inp m c main_arg41)
    ∧ fin m c main_v73 = D (s := S2x6) (inp m c main_arg3) (inp m c main_arg16) (inp m c main_arg29) (inp m c main_arg42)
    ∧ fin m c main_v75 = D (s := S2x128) (inp m c main_arg4) (inp m c main_arg17) (inp m c main_arg30) (inp m c main_arg43)
    ∧ fin m c main_v77 = D (s := S2x4x128x128) (inp m c main_arg5) (inp m c main_arg18) (inp m c main_arg31) (inp m c main_arg44)
    ∧ fin m c main_v79 = D (s := S2x512) (inp m c main_arg6) (inp m c main_arg19) (inp m c main_arg32) (inp m c main_arg45)
    ∧ fin m c main_v81 = D (s := S2x6) (inp m c main_arg7) (inp m c main_arg20) (inp m c main_arg33) (inp m c main_arg46)
    ∧ fin m c main_v83 = D (s := S2x2048) (inp m c main_arg8) (inp m c main_arg21) (inp m c main_arg34) (inp m c main_arg47)
    ∧ fin m c main_v85 = D (s := S2x2048) (inp m c main_arg9) (inp m c main_arg22) (inp m c main_arg35) (inp m c main_arg48)
    ∧ fin m c main_v87 = D (s := S2x3x1408) (inp m c main_arg10) (inp m c main_arg23) (inp m c main_arg36) (inp m c main_arg49)
    ∧ fin m c main_v89 = D (s := S2x11264) (inp m c main_arg11) (inp m c main_arg24) (inp m c main_arg37) (inp m c main_arg50)
    ∧ fin m c main_v91 = D (s := S2x2048) (inp m c main_arg12) (inp m c main_arg25) (inp m c main_arg38) (inp m c main_arg51) := by
  have h : ∀ {s : Shape} {l off : ℕ} (hs : S196608.Slices ![off] ⟨1, ![l]⟩) (hc : s.numel = (⟨1, ![l]⟩ : Shape).numel) {w g x v : s.Idx → EReal},
      cut shapeCasts_S1536x128_S196608 hs hc (W m c) = w → cut shapeCasts_S1536x128_S196608 hs hc (G m c) = g →
      cut shapeCasts_S1536x128_S196608 hs hc (M m c) = x → cut shapeCasts_S1536x128_S196608 hs hc (N m c) = v →
      cut shapeCasts_S1536x128_S196608 hs hc (Pipeline.withArrays spec0 c (V0 m c) (fun w => (dats (F := Ideal) m 0 c).arrAt w cfg0.N) (Proc.devRef .tc main_v64_0)) = D w g x v := by
    intro s l off hs hc w g x v hw hg hx hv
    refine (congrArg (cut shapeCasts_S1536x128_S196608 hs hc) ((Pipeline.withArrays_arr spec0 (by decide) c _ _ 4).trans (arr4 m c))).trans ?_
    exact cut_map _ hs hc (fun w g x v => delta w g x v) hw hg hx hv
  refine ⟨?_, ?_, ?_, ?_, ?_, ?_, ?_, ?_, ?_, ?_, ?_, ?_, ?_⟩ <;> unfold fin Pipeline.afterTail₀ hostOps1 <;> simp only [List.flatten_cons, List.flatten_nil, List.append_nil] <;> after_results
  · exact h slices_S196608_S4096_0 shapeCasts_S4096_S2x2048 pick0 pick0 pick0 pick0
  · exact h slices_S196608_S2304_4096 shapeCasts_S2304_S2x4x288 pick1 pick1 pick1 pick1
  · exact h slices_S196608_S12_6400 shapeCasts_S12_S2x6 pick2 pick2 pick2 pick2
  · exact h slices_S196608_S12_6412 shapeCasts_S12_S2x6 pick3 pick3 pick3 pick3
  · exact h slices_S196608_S256_6424 shapeCasts_S256_S2x128 pick4 pick4 pick4 pick4
  · exact h slices_S196608_S131072_6680 shapeCasts_S131072_S2x4x128x128 pick5 pick5 pick5 pick5
  · exact h slices_S196608_S1024_137752 shapeCasts_S1024_S2x512 pick6 pick6 pick6 pick6
  · exact h slices_S196608_S12_138776 shapeCasts_S12_S2x6 pick7 pick7 pick7 pick7
  · exact h slices_S196608_S4096_138788 shapeCasts_S4096_S2x2048 pick8 pick8 pick8 pick8
  · exact h slices_S196608_S4096_142884 shapeCasts_S4096_S2x2048 pick9 pick9 pick9 pick9
  · exact h slices_S196608_S8448_146980 shapeCasts_S8448_S2x3x1408 pick10 pick10 pick10 pick10
  · exact h slices_S196608_S22528_155428 shapeCasts_S22528_S2x11264 pick11 pick11 pick11 pick11
  · exact h slices_S196608_S4096_177956 shapeCasts_S4096_S2x2048 pick12 pick12 pick12 pick12

/-- The new first moments. -/
theorem moms (c : Dev nD) :
    fin m c main_v94 = M' (s := S2x2048) (inp m c main_arg0) (inp m c main_arg13) (inp m c main_arg26) (inp m c main_arg39)
    ∧ fin m c main_v96 = M' (s := S2x4x288) (inp m c main_arg1) (inp m c main_arg14) (inp m c main_arg27) (inp m c main_arg40)
    ∧ fin m c main_v98 = M' (s := S2x6) (inp m c main_arg2) (inp m c main_arg15) (inp m c main_arg28) (inp m c main_arg41)
    ∧ fin m c main_v100 = M' (s := S2x6) (inp m c main_arg3) (inp m c main_arg16) (inp m c main_arg29) (inp m c main_arg42)
    ∧ fin m c main_v102 = M' (s := S2x128) (inp m c main_arg4) (inp m c main_arg17) (inp m c main_arg30) (inp m c main_arg43)
    ∧ fin m c main_v104 = M' (s := S2x4x128x128) (inp m c main_arg5) (inp m c main_arg18) (inp m c main_arg31) (inp m c main_arg44)
    ∧ fin m c main_v106 = M' (s := S2x512) (inp m c main_arg6) (inp m c main_arg19) (inp m c main_arg32) (inp m c main_arg45)
    ∧ fin m c main_v108 = M' (s := S2x6) (inp m c main_arg7) (inp m c main_arg20) (inp m c main_arg33) (inp m c main_arg46)
    ∧ fin m c main_v110 = M' (s := S2x2048) (inp m c main_arg8) (inp m c main_arg21) (inp m c main_arg34) (inp m c main_arg47)
    ∧ fin m c main_v112 = M' (s := S2x2048) (inp m c main_arg9) (inp m c main_arg22) (inp m c main_arg35) (inp m c main_arg48)
    ∧ fin m c main_v114 = M' (s := S2x3x1408) (inp m c main_arg10) (inp m c main_arg23) (inp m c main_arg36) (inp m c main_arg49)
    ∧ fin m c main_v116 = M' (s := S2x11264) (inp m c main_arg11) (inp m c main_arg24) (inp m c main_arg37) (inp m c main_arg50)
    ∧ fin m c main_v118 = M' (s := S2x2048) (inp m c main_arg12) (inp m c main_arg25) (inp m c main_arg38) (inp m c main_arg51) := by
  have h : ∀ {s : Shape} {l off : ℕ} (hs : S196608.Slices ![off] ⟨1, ![l]⟩) (hc : s.numel = (⟨1, ![l]⟩ : Shape).numel) {w g x v : s.Idx → EReal},
      cut shapeCasts_S1536x128_S196608 hs hc (W m c) = w → cut shapeCasts_S1536x128_S196608 hs hc (G m c) = g →
      cut shapeCasts_S1536x128_S196608 hs hc (M m c) = x → cut shapeCasts_S1536x128_S196608 hs hc (N m c) = v →
      cut shapeCasts_S1536x128_S196608 hs hc (Pipeline.withArrays spec0 c (V0 m c) (fun w => (dats (F := Ideal) m 0 c).arrAt w cfg0.N) (Proc.devRef .tc main_v64_1)) = M' w g x v := by
    intro s l off hs hc w g x v hw hg hx hv
    refine (congrArg (cut shapeCasts_S1536x128_S196608 hs hc) ((Pipeline.withArrays_arr spec0 (by decide) c _ _ 5).trans (arr5 m c))).trans ?_
    exact cut_map _ hs hc (fun _ g x _ => mom g x) hw hg hx hv
  refine ⟨?_, ?_, ?_, ?_, ?_, ?_, ?_, ?_, ?_, ?_, ?_, ?_, ?_⟩ <;> unfold fin Pipeline.afterTail₀ hostOps1 <;> simp only [List.flatten_cons, List.flatten_nil, List.append_nil] <;> after_results
  · exact h slices_S196608_S4096_0 shapeCasts_S4096_S2x2048 pick0 pick0 pick0 pick0
  · exact h slices_S196608_S2304_4096 shapeCasts_S2304_S2x4x288 pick1 pick1 pick1 pick1
  · exact h slices_S196608_S12_6400 shapeCasts_S12_S2x6 pick2 pick2 pick2 pick2
  · exact h slices_S196608_S12_6412 shapeCasts_S12_S2x6 pick3 pick3 pick3 pick3
  · exact h slices_S196608_S256_6424 shapeCasts_S256_S2x128 pick4 pick4 pick4 pick4
  · exact h slices_S196608_S131072_6680 shapeCasts_S131072_S2x4x128x128 pick5 pick5 pick5 pick5
  · exact h slices_S196608_S1024_137752 shapeCasts_S1024_S2x512 pick6 pick6 pick6 pick6
  · exact h slices_S196608_S12_138776 shapeCasts_S12_S2x6 pick7 pick7 pick7 pick7
  · exact h slices_S196608_S4096_138788 shapeCasts_S4096_S2x2048 pick8 pick8 pick8 pick8
  · exact h slices_S196608_S4096_142884 shapeCasts_S4096_S2x2048 pick9 pick9 pick9 pick9
  · exact h slices_S196608_S8448_146980 shapeCasts_S8448_S2x3x1408 pick10 pick10 pick10 pick10
  · exact h slices_S196608_S22528_155428 shapeCasts_S22528_S2x11264 pick11 pick11 pick11 pick11
  · exact h slices_S196608_S4096_177956 shapeCasts_S4096_S2x2048 pick12 pick12 pick12 pick12

/-- The new second moments. -/
theorem vars (c : Dev nD) :
    fin m c main_v121 = V' (s := S2x2048) (inp m c main_arg0) (inp m c main_arg13) (inp m c main_arg26) (inp m c main_arg39)
    ∧ fin m c main_v123 = V' (s := S2x4x288) (inp m c main_arg1) (inp m c main_arg14) (inp m c main_arg27) (inp m c main_arg40)
    ∧ fin m c main_v125 = V' (s := S2x6) (inp m c main_arg2) (inp m c main_arg15) (inp m c main_arg28) (inp m c main_arg41)
    ∧ fin m c main_v127 = V' (s := S2x6) (inp m c main_arg3) (inp m c main_arg16) (inp m c main_arg29) (inp m c main_arg42)
    ∧ fin m c main_v129 = V' (s := S2x128) (inp m c main_arg4) (inp m c main_arg17) (inp m c main_arg30) (inp m c main_arg43)
    ∧ fin m c main_v131 = V' (s := S2x4x128x128) (inp m c main_arg5) (inp m c main_arg18) (inp m c main_arg31) (inp m c main_arg44)
    ∧ fin m c main_v133 = V' (s := S2x512) (inp m c main_arg6) (inp m c main_arg19) (inp m c main_arg32) (inp m c main_arg45)
    ∧ fin m c main_v135 = V' (s := S2x6) (inp m c main_arg7) (inp m c main_arg20) (inp m c main_arg33) (inp m c main_arg46)
    ∧ fin m c main_v137 = V' (s := S2x2048) (inp m c main_arg8) (inp m c main_arg21) (inp m c main_arg34) (inp m c main_arg47)
    ∧ fin m c main_v139 = V' (s := S2x2048) (inp m c main_arg9) (inp m c main_arg22) (inp m c main_arg35) (inp m c main_arg48)
    ∧ fin m c main_v141 = V' (s := S2x3x1408) (inp m c main_arg10) (inp m c main_arg23) (inp m c main_arg36) (inp m c main_arg49)
    ∧ fin m c main_v143 = V' (s := S2x11264) (inp m c main_arg11) (inp m c main_arg24) (inp m c main_arg37) (inp m c main_arg50)
    ∧ fin m c main_v145 = V' (s := S2x2048) (inp m c main_arg12) (inp m c main_arg25) (inp m c main_arg38) (inp m c main_arg51) := by
  have h : ∀ {s : Shape} {l off : ℕ} (hs : S196608.Slices ![off] ⟨1, ![l]⟩) (hc : s.numel = (⟨1, ![l]⟩ : Shape).numel) {w g x v : s.Idx → EReal},
      cut shapeCasts_S1536x128_S196608 hs hc (W m c) = w → cut shapeCasts_S1536x128_S196608 hs hc (G m c) = g →
      cut shapeCasts_S1536x128_S196608 hs hc (M m c) = x → cut shapeCasts_S1536x128_S196608 hs hc (N m c) = v →
      cut shapeCasts_S1536x128_S196608 hs hc (Pipeline.withArrays spec0 c (V0 m c) (fun w => (dats (F := Ideal) m 0 c).arrAt w cfg0.N) (Proc.devRef .tc main_v64_2)) = V' w g x v := by
    intro s l off hs hc w g x v hw hg hx hv
    refine (congrArg (cut shapeCasts_S1536x128_S196608 hs hc) ((Pipeline.withArrays_arr spec0 (by decide) c _ _ 6).trans (arr6 m c))).trans ?_
    exact cut_map _ hs hc (fun _ g _ v => var g v) hw hg hx hv
  refine ⟨?_, ?_, ?_, ?_, ?_, ?_, ?_, ?_, ?_, ?_, ?_, ?_, ?_⟩ <;> unfold fin Pipeline.afterTail₀ hostOps1 <;> simp only [List.flatten_cons, List.flatten_nil, List.append_nil] <;> after_results
  · exact h slices_S196608_S4096_0 shapeCasts_S4096_S2x2048 pick0 pick0 pick0 pick0
  · exact h slices_S196608_S2304_4096 shapeCasts_S2304_S2x4x288 pick1 pick1 pick1 pick1
  · exact h slices_S196608_S12_6400 shapeCasts_S12_S2x6 pick2 pick2 pick2 pick2
  · exact h slices_S196608_S12_6412 shapeCasts_S12_S2x6 pick3 pick3 pick3 pick3
  · exact h slices_S196608_S256_6424 shapeCasts_S256_S2x128 pick4 pick4 pick4 pick4
  · exact h slices_S196608_S131072_6680 shapeCasts_S131072_S2x4x128x128 pick5 pick5 pick5 pick5
  · exact h slices_S196608_S1024_137752 shapeCasts_S1024_S2x512 pick6 pick6 pick6 pick6
  · exact h slices_S196608_S12_138776 shapeCasts_S12_S2x6 pick7 pick7 pick7 pick7
  · exact h slices_S196608_S4096_138788 shapeCasts_S4096_S2x2048 pick8 pick8 pick8 pick8
  · exact h slices_S196608_S4096_142884 shapeCasts_S4096_S2x2048 pick9 pick9 pick9 pick9
  · exact h slices_S196608_S8448_146980 shapeCasts_S8448_S2x3x1408 pick10 pick10 pick10 pick10
  · exact h slices_S196608_S22528_155428 shapeCasts_S22528_S2x11264 pick11 pick11 pick11 pick11
  · exact h slices_S196608_S4096_177956 shapeCasts_S4096_S2x2048 pick12 pick12 pick12 pick12

set_option maxHeartbeats 4000000 in
/-- The equation: both programs run and end with equal results. -/
theorem algebraic : Cert.algebraic_AdamSmallIdeal_AdamSmallRefIdeal (hAdamSmallIdeal := Cert.AdamSmallIdeal.Gen.facts) (hAdamSmallRefIdeal := Cert.AdamSmallRefIdeal.Gen.facts) := by
  pair_intro
  · run_from Cert.AdamSmallIdeal.Gen.run_main m g
    · exact W_main_arg0 m _ c
    · exact W_main_arg1 m _ c
    · exact W_main_arg2 m _ c
    · exact W_main_arg3 m _ c
    · exact W_main_arg4 m _ c
    · exact W_main_arg5 m _ c
    · exact W_main_arg6 m _ c
    · exact W_main_arg7 m _ c
    · exact W_main_arg8 m _ c
    · exact W_main_arg9 m _ c
    · exact W_main_arg10 m _ c
    · exact W_main_arg11 m _ c
    · exact W_main_arg12 m _ c
    · exact W_main_arg13 m _ c
    · exact W_main_arg14 m _ c
    · exact W_main_arg15 m _ c
    · exact W_main_arg16 m _ c
    · exact W_main_arg17 m _ c
    · exact W_main_arg18 m _ c
    · exact W_main_arg19 m _ c
    · exact W_main_arg20 m _ c
    · exact W_main_arg21 m _ c
    · exact W_main_arg22 m _ c
    · exact W_main_arg23 m _ c
    · exact W_main_arg24 m _ c
    · exact W_main_arg25 m _ c
    · exact W_main_arg26 m _ c
    · exact W_main_arg27 m _ c
    · exact W_main_arg28 m _ c
    · exact W_main_arg29 m _ c
    · exact W_main_arg30 m _ c
    · exact W_main_arg31 m _ c
    · exact W_main_arg32 m _ c
    · exact W_main_arg33 m _ c
    · exact W_main_arg34 m _ c
    · exact W_main_arg35 m _ c
    · exact W_main_arg36 m _ c
    · exact W_main_arg37 m _ c
    · exact W_main_arg38 m _ c
    · exact W_main_arg39 m _ c
    · exact W_main_arg40 m _ c
    · exact W_main_arg41 m _ c
    · exact W_main_arg42 m _ c
    · exact W_main_arg43 m _ c
    · exact W_main_arg44 m _ c
    · exact W_main_arg45 m _ c
    · exact W_main_arg46 m _ c
    · exact W_main_arg47 m _ c
    · exact W_main_arg48 m _ c
    · exact W_main_arg49 m _ c
    · exact W_main_arg50 m _ c
    · exact W_main_arg51 m _ c
  · run_from Cert.AdamSmallRefIdeal.Value.run m' g'
    · exact (deltas m c).1.symm
    · exact (deltas m c).2.1.symm
    · exact (deltas m c).2.2.1.symm
    · exact (deltas m c).2.2.2.1.symm
    · exact (deltas m c).2.2.2.2.1.symm
    · exact (deltas m c).2.2.2.2.2.1.symm
    · exact (deltas m c).2.2.2.2.2.2.1.symm
    · exact (deltas m c).2.2.2.2.2.2.2.1.symm
    · exact (deltas m c).2.2.2.2.2.2.2.2.1.symm
    · exact (deltas m c).2.2.2.2.2.2.2.2.2.1.symm
    · exact (deltas m c).2.2.2.2.2.2.2.2.2.2.1.symm
    · exact (deltas m c).2.2.2.2.2.2.2.2.2.2.2.1.symm
    · exact (deltas m c).2.2.2.2.2.2.2.2.2.2.2.2.symm
    · exact (moms m c).1.symm
    · exact (moms m c).2.1.symm
    · exact (moms m c).2.2.1.symm
    · exact (moms m c).2.2.2.1.symm
    · exact (moms m c).2.2.2.2.1.symm
    · exact (moms m c).2.2.2.2.2.1.symm
    · exact (moms m c).2.2.2.2.2.2.1.symm
    · exact (moms m c).2.2.2.2.2.2.2.1.symm
    · exact (moms m c).2.2.2.2.2.2.2.2.1.symm
    · exact (moms m c).2.2.2.2.2.2.2.2.2.1.symm
    · exact (moms m c).2.2.2.2.2.2.2.2.2.2.1.symm
    · exact (moms m c).2.2.2.2.2.2.2.2.2.2.2.1.symm
    · exact (moms m c).2.2.2.2.2.2.2.2.2.2.2.2.symm
    · exact (vars m c).1.symm
    · exact (vars m c).2.1.symm
    · exact (vars m c).2.2.1.symm
    · exact (vars m c).2.2.2.1.symm
    · exact (vars m c).2.2.2.2.1.symm
    · exact (vars m c).2.2.2.2.2.1.symm
    · exact (vars m c).2.2.2.2.2.2.1.symm
    · exact (vars m c).2.2.2.2.2.2.2.1.symm
    · exact (vars m c).2.2.2.2.2.2.2.2.1.symm
    · exact (vars m c).2.2.2.2.2.2.2.2.2.1.symm
    · exact (vars m c).2.2.2.2.2.2.2.2.2.2.1.symm
    · exact (vars m c).2.2.2.2.2.2.2.2.2.2.2.1.symm
    · exact (vars m c).2.2.2.2.2.2.2.2.2.2.2.2.symm

/-- The named constants are the reciprocals of the bias corrections. -/
theorem preserves : Cert.preserves_AdamSmall_AdamSmallIdeal :=
  ⟨IdealRules.named_const.statement Cert.AdamSmallIdeal.κ "c1" .f32 0x3FC48605#32 (((8388608 / 5463681 : ℝ)) : EReal) rfl,
    IdealRules.named_const.statement Cert.AdamSmallIdeal.κ "c2" .f32 0x42C8E6D3#32 (((268435456 / 2672307 : ℝ)) : EReal) rfl⟩

/-- The reference runs, keeps its arguments, and has no counters. -/
theorem referenceFrame : Cert.quiescent_AdamSmallRefIdeal (hAdamSmallRefIdeal := Cert.AdamSmallRefIdeal.Gen.facts) := fun m g _ =>
  (θ_run Cert.AdamSmallRefIdeal.defs _ _).mono (fun r h => ⟨fun c => (h c).2.2.2.2.2.2.2.2.2.2.2.2.2.2.2.2.2.2.2.2.2.2.2.2.2.2.2.2.2.2.2.2.2.2.2.2.2.2.2, sem_eq_zero_of_no_sems (by decide) r.2⟩)
    (Cert.AdamSmallRefIdeal.Value.run (F := Ideal) m g)

end Cert.Adam.Small

end
-- ==== Proof.GradX.Row.lean ====
/- One row of the gradient through a root-mean-square norm: the fused form and the derivative's are equal. -/
module

public import Idealize.ShloMosaic.PureOps.Ideal

@[expose] public section

noncomputable section

namespace Cert.Norm

open Idealize.ShloMosaic

/-- The number of columns, from its word. -/
theorem word_n : Ideal.ofBits .f32 0x45000000#32 = ((2048 : ℝ) : EReal) := by
  simp [Ideal.ofBits, Ideal.ieee, -EReal.coe_mul]
  norm_num

/-- Minus one half, from its word. -/
theorem word_h : Ideal.ofBits .f32 0xBF000000#32 = ((-1 / 2 : ℝ) : EReal) := by
  simp [Ideal.ofBits, Ideal.ieee, -EReal.coe_mul]
  norm_num

/-- The small number added to the mean square is a positive real. -/
theorem word_e : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- The mean square of a row, and the small number. -/
def ms (x : ℕ → EReal) : EReal :=
  Ideal.div (∑ k ∈ Finset.range 2048, x k * x k) (Ideal.ofBits .f32 0x45000000#32) + Ideal.ofBits .f32 0x358637BD#32

/-- The reciprocal root of a row's mean square. -/
def rs (x : ℕ → EReal) : EReal := Ideal.rsqrt (ms x)

/-- A row of the gradient in the fused form. -/
def fused (d h x w : ℕ → EReal) (q : ℕ) : EReal :=
  d q + rs x * (h q * w q - x q * rs x * Ideal.div (∑ k ∈ Finset.range 2048, h k * w k * (x k * rs x)) (Ideal.ofBits .f32 0x45000000#32))

/-- What the derivative multiplies the row by, for the mean square. -/
def through (h x w : ℕ → EReal) : EReal :=
  Ideal.div ((∑ k ∈ Finset.range 2048, x k * (h k * w k)) * (Ideal.ofBits .f32 0xBF000000#32 * Ideal.div (rs x) (ms x)))
    (Ideal.ofBits .f32 0x45000000#32)

/-- A row of the gradient as the derivative has it. -/
def derived (d h x w : ℕ → EReal) (q : ℕ) : EReal :=
  d q + h q * w q * rs x + x q * through h x w + through h x w * x q

/-- A square is not negative. -/
theorem square_nonneg (y : EReal) : 0 ≤ y * y := by
  induction y with
  | bot => simp
  | top => simp
  | coe y => exact_mod_cast mul_self_nonneg y

/-- A real factor that is not negative moves into a sum. -/
theorem coe_mul_sum {r : ℝ} (hr : 0 ≤ r) (f : ℕ → EReal) (n : ℕ) :
    (r : EReal) * ∑ k ∈ Finset.range n, f k = ∑ k ∈ Finset.range n, (r : EReal) * f k := by
  induction n with
  | zero => simp
  | succ n ih =>
    rw [Finset.sum_range_succ, Finset.sum_range_succ,
      EReal.left_distrib_of_nonneg_of_ne_top (EReal.coe_nonneg.mpr hr) (EReal.coe_ne_top r), ih]

/-- A number added to itself is twice the number. -/
theorem add_self (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add, two_mul]

/-- A row's mean square is infinite or a positive number. -/
theorem ms_cases (x : ℕ → EReal) : ms x = ⊤ ∨ ∃ a : ℝ, 0 < a ∧ ms x = (a : EReal) := by
  obtain ⟨e, he, hw⟩ := word_e
  have hS : 0 ≤ ∑ k ∈ Finset.range 2048, x k * x k := Finset.sum_nonneg fun k _ => square_nonneg _
  unfold ms
  rw [word_n, hw, Ideal.div_coe (by norm_num)]
  generalize ∑ k ∈ Finset.range 2048, x k * x k = s at hS
  induction s with
  | bot => simp at hS
  | top => exact Or.inl (by rw [EReal.top_mul_coe_of_pos (by norm_num)]; rfl)
  | coe s =>
    have hs : 0 ≤ s := EReal.coe_nonneg.mp hS
    exact Or.inr ⟨s * (1 / 2048) + e, by positivity, by rw [← EReal.coe_mul, ← EReal.coe_add]⟩

/-- The two forms agree on every row: where the mean square is infinite both give the residual's gradient, elsewhere both
    are that gradient, the norm's and the same multiple of the row. -/
theorem fused_eq (d h x w : ℕ → EReal) (q : ℕ) : fused d h x w q = derived d h x w q := by
  have hn : (2048 : ℝ) ≠ 0 := by norm_num
  unfold fused derived through rs
  rcases ms_cases x with hm | ⟨a, hp, hm⟩
  · have ht : Ideal.div 0 ⊤ = 0 := by simp [Ideal.div]
    rw [hm, Ideal.rsqrt_top, ht, word_n]
    simp [Ideal.div_coe hn]
  · have hr : Ideal.rsqrt (ms x) = (((Real.sqrt a)⁻¹ : ℝ) : EReal) := by
      rw [hm, Ideal.rsqrt_coe, if_neg (not_lt.mpr hp.le), if_neg hp.ne']
    have hq : (Real.sqrt a)⁻¹ * (Real.sqrt a)⁻¹ = 1 / a := by
      rw [← mul_inv, Real.mul_self_sqrt hp.le, one_div]
    have h0 : 0 ≤ (Real.sqrt a)⁻¹ := by positivity
    rw [hr, hm, word_n, word_h]
    generalize (Real.sqrt a)⁻¹ = r at hq h0
    have hs : ∑ k ∈ Finset.range 2048, h k * w k * (x k * (r : EReal)) = (r : EReal) * ∑ k ∈ Finset.range 2048, x k * (h k * w k) := by
      rw [coe_mul_sum h0]
      exact Finset.sum_congr rfl fun k _ => by rw [← mul_assoc, mul_comm (h k * w k), mul_comm]
    rw [hs]
    generalize ∑ k ∈ Finset.range 2048, x k * (h k * w k) = s
    rw [Ideal.div_coe hn, Ideal.div_coe hn, Ideal.div_coe hp.ne', ← hq, sub_eq_add_neg,
      EReal.left_distrib_of_nonneg_of_ne_top (EReal.coe_nonneg.mpr h0) (EReal.coe_ne_top r), add_assoc, add_assoc,
      mul_comm _ (x q), add_self]
    refine congrArg (d q + ·) (congrArg₂ (· + ·) (mul_comm _ _) ?_)
    have e1 : (r : EReal) * -(x q * (r : EReal) * ((r : EReal) * s * ((1 / 2048 : ℝ) : EReal)))
        = x q * s * ((-(r * r * r * (1 / 2048)) : ℝ) : EReal) := by
      rw [EReal.coe_neg, EReal.coe_mul, EReal.coe_mul, EReal.coe_mul, mul_neg, mul_neg]
      ac_rfl
    have e2 : ((2 : ℝ) : EReal) * (x q * (s * (((-1 / 2 : ℝ) : EReal) * ((r : EReal) * ((r * r : ℝ) : EReal))) * ((1 / 2048 : ℝ) : EReal)))
        = x q * s * ((2 * ((-1 / 2) * (r * (r * r)) * (1 / 2048)) : ℝ) : EReal) := by
      simp only [EReal.coe_mul]
      ac_rfl
    rw [e1, e2]
    exact congrArg (fun z : ℝ => x q * s * (z : EReal)) (by ring)

end Cert.Norm

end
-- ==== Proof.GradX.Value.lean ====
/- The gradient through the first norm as its grid computes it: each row's fused form, and the weight's gradient summed over all rows. -/
module

public import proofs.«01_k».proof.Proof.Gen.GradXIdeal.Value
public import proofs.«01_k».proof.Proof.Mm.Sum
public import proofs.«01_k».proof.Proof.GradX.Row
public import Idealize.ShloMosaic.Lib.Pipeline.ValueKit

@[expose] public section

set_option maxRecDepth 16384

noncomputable section

namespace Cert.GradXIdeal.Norm

open Cert.GradXIdeal Cert.GradXIdeal.Gen Cert.Mm Cert.Norm Idealize.ShloMosaic Idealize.ShloMosaic.TcCoe Idealize.SL.Sem

/-- A column spread over the columns of a block. -/
theorem col_apply (y : FVec Ideal S256x1 .f32) (i : S256x2048.Idx) :
    broadcastTo S256x2048 y broadcasts_S256x1_S256x2048 i = y (ValueIdx.ix2 (i 0) ⟨0, Nat.one_pos⟩) :=
  broadcastTo_apply y _ i _ fun a => match a with
    | ⟨0, _⟩ => rfl
    | ⟨1, _⟩ => rfl

/-- A row spread over the rows of a block. -/
theorem row_apply (y : FVec Ideal S1x2048 .f32) (i : S256x2048.Idx) :
    broadcastTo S256x2048 y broadcasts_S1x2048_S256x2048 i = y (ValueIdx.ix2 ⟨0, Nat.one_pos⟩ (i 1)) :=
  broadcastTo_apply y _ i _ fun a => match a with
    | ⟨0, _⟩ => rfl
    | ⟨1, _⟩ => rfl

/-- The rows' sums of a block, as a column. -/
theorem rowSum {x : FVec Ideal S256x2048 .f32} {f : ℕ → ℕ → EReal} (hx : ∀ i, x i = f (i 0).val (i 1).val) (hφ : FKind.Formats .f32) (hacc) (i : S256x1.Idx) :
    shapeCast S256x1 (multiReduction .add [1] S256 x 0x00000000#32 reduces_S256x2048_S256 hφ hacc) shapeCasts_S256_S256x1 i
      = ∑ k ∈ Finset.range 2048, f (i 0).val k := by
  have hi : (i 1).val < 1 := (i 1).isLt
  rw [shapeCast_apply _ _ i (ValueIdx.ix1 ⟨(i 0).val, (i 0).isLt⟩ : S256.Idx) (by
    rw [Shape.rowMajor_val_one, Shape.rowMajor_val_two]
    show (i 0).val = (i 0).val * 1 + (i 1).val; omega)]
  rw [Ideal.multiReduction_add_single, Finset.sum_range]
  exact Finset.sum_congr rfl fun k _ => hx _

/-- The columns' sums of a block, as a row. -/
theorem colSum {x : FVec Ideal S256x2048 .f32} {f : ℕ → ℕ → EReal} (hx : ∀ i, x i = f (i 0).val (i 1).val) (hφ : FKind.Formats .f32) (hacc) (i : S1x2048.Idx) :
    shapeCast S1x2048 (multiReduction .add [0] S2048 x 0x00000000#32 reduces_S256x2048_S2048 hφ hacc) shapeCasts_S2048_S1x2048 i
      = ∑ k ∈ Finset.range 256, f k (i 1).val := by
  have hi : (i 0).val < 1 := (i 0).isLt
  rw [shapeCast_apply _ _ i (ValueIdx.ix1 ⟨(i 1).val, (i 1).isLt⟩ : S2048.Idx) (by
    rw [Shape.rowMajor_val_one, Shape.rowMajor_val_two]
    show (i 1).val = (i 0).val * 2048 + (i 1).val; omega)]
  rw [Ideal.multiReduction_add_single, Finset.sum_range]
  exact Finset.sum_congr rfl fun k _ => hx _

section
variable {d h x : Vec Ideal S256x2048 .f32} {w : Vec Ideal S1x2048 .f32} {fd fh fx : ℕ → ℕ → EReal} {fw : ℕ → EReal}

/-- The reciprocal roots of a block's rows. -/
theorem root_apply (hx : ∀ i, x i = fx (i 0).val (i 1).val) (i : S256x1.Idx) : k0_pay2 (F := Ideal) x i = rs (fx (i 0).val) := by
  have e := rowSum (x := mulf x x) (f := fun a b => fx a b * fx a b) (fun i => congrArg₂ (· * ·) (hx i) (hx i)) (.inl rfl) rfl i
  exact congrArg (fun s => Ideal.rsqrt (Ideal.div s (Ideal.ofBits .f32 0x45000000#32) + Ideal.ofBits .f32 0x358637BD#32)) e

/-- The normed block. -/
theorem normed_apply (hx : ∀ i, x i = fx (i 0).val (i 1).val) (i : S256x2048.Idx) :
    k0_pay3 (F := Ideal) x i = fx (i 0).val (i 1).val * rs (fx (i 0).val) :=
  congrArg₂ (· * ·) (hx i) ((col_apply _ i).trans (root_apply hx _))

/-- What a block adds to the weight's gradient. -/
theorem weight_apply (hh : ∀ i, h i = fh (i 0).val (i 1).val) (hx : ∀ i, x i = fx (i 0).val (i 1).val) (i : S1x2048.Idx) :
    k0_pay4 (F := Ideal) h x i = ∑ k ∈ Finset.range 256, fh k (i 1).val * (fx k (i 1).val * rs (fx k)) :=
  colSum (x := mulf h (k0_pay3 x)) (f := fun a b => fh a b * (fx a b * rs (fx a)))
    (fun i => congrArg₂ (· * ·) (hh i) (normed_apply hx i)) (.inl rfl) rfl i

/-- The block of the gradient: each row in its fused form. -/
theorem grad_apply (hd : ∀ i, d i = fd (i 0).val (i 1).val) (hh : ∀ i, h i = fh (i 0).val (i 1).val) (hx : ∀ i, x i = fx (i 0).val (i 1).val)
    (hw : ∀ i, w i = fw (i 1).val) (i : S256x2048.Idx) :
    k0_pay5 (F := Ideal) d h x w i = fused (fd (i 0).val) (fh (i 0).val) (fx (i 0).val) fw (i 1).val := by
  let y : FVec Ideal S256x2048 .f32 := mulf h (broadcastTo S256x2048 (shapeCast S1x2048 w shapeCasts_S1x2048_S1x2048) broadcasts_S1x2048_S256x2048)
  have hv : ∀ i : S256x2048.Idx, y i = fh (i 0).val (i 1).val * fw (i 1).val := fun i => by
    refine congrArg₂ (· * ·) (hh i) ((row_apply _ i).trans ?_)
    rw [shapeCast_self]
    exact hw _
  have hs := rowSum (x := mulf y (k0_pay3 x))
    (f := fun a b => fh a b * fw b * (fx a b * rs (fx a))) (fun i => congrArg₂ (· * ·) (hv i) (normed_apply hx i)) (.inl rfl) rfl
    (ValueIdx.ix2 (i 0) ⟨0, Nat.one_pos⟩)
  unfold k0_pay5 fused
  refine congrArg₂ (· + ·) (hd i) (congrArg₂ (· * ·) ((col_apply _ i).trans (root_apply hx _))
    (congrArg₂ (· - ·) (hv i) (congrArg₂ (· * ·) (normed_apply hx i) ((col_apply _ i).trans ?_))))
  exact congrArg (fun s => Ideal.div s (Ideal.ofBits .f32 0x45000000#32)) hs

end

variable (m : (ℓ : Loc nD τ sig) → Buf (Elt Ideal) ℓ) (ρ : Dev nD → PrngReg)

/-- The arguments, as launched: the gradient carried by the residual, the norm's gradient, the rows and the weight. -/
abbrev aD (c : Dev nD) : S4096x2048.Idx → EReal := m ((c : Thread nD τ).loc main_arg0)
abbrev aH (c : Dev nD) : S4096x2048.Idx → EReal := m ((c : Thread nD τ).loc main_arg1)
abbrev aX (c : Dev nD) : S4096x2048.Idx → EReal := m ((c : Thread nD τ).loc main_arg2)
abbrev aW (c : Dev nD) : S2048.Idx → EReal := m ((c : Thread nD τ).loc main_arg3)

/-- The weight's entry at a column, zero outside it. -/
def wt (y : S2048.Idx → EReal) (q : ℕ) : EReal := if h : q < 2048 then y (ValueIdx.ix1 ⟨q, h⟩) else 0

/-- The weight at an index is its entry there. -/
theorem wt_eq (y : S2048.Idx → EReal) (i : S2048.Idx) {q : ℕ} (h : (i 0).val = q) : y i = wt y q := by
  subst h
  unfold wt
  rw [dif_pos (show (i 0).val < 2048 from (i 0).isLt)]
  exact congrArg y (funext fun a => match a with | ⟨0, _⟩ => rfl)

/-- The points of the grid. -/
theorem lt (t : Fin cfg0.N) : t.val < 16 := lt_of_lt_of_eq t.isLt (show cfg0.N = 16 from N_0)

/-- No offset along two axes. -/
theorem hz2 : (![0, 0] : Fin 2 → ℕ) = fun _ => 0 := funext fun a => by fin_cases a <;> rfl

/-- The block of each window at each point. -/
theorem idx_all : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] := by
  decide +kernel

/-- A block of the residual's gradient, entry by entry. -/
theorem blk0 (c : Dev nD) (t : Fin cfg0.N) (j : S256x2048.Idx) : iblk m c 0 t j = at2 (aD m c) (t.val * 256 + (j 0).val) (j 1).val := by
  have e := (idx_all t).1
  unfold iblk
  rw [View.read_apply]
  show V m c main_arg0 _ = _
  rw [V_main_arg0]
  refine at2_eq _ _ ?_ ?_
  · blk_simp; rw [show win0_0.index t 0 = t.val from by rw [e]; rfl]
  · blk_simp; rw [show win0_0.index t 1 = 0 from by rw [e]; rfl]; try omega

/-- A block of the norm's gradient, entry by entry. -/
theorem blk1 (c : Dev nD) (t : Fin cfg0.N) (j : S256x2048.Idx) : iblk m c 1 t j = at2 (aH m c) (t.val * 256 + (j 0).val) (j 1).val := by
  have e := (idx_all t).2.1
  unfold iblk
  rw [View.read_apply]
  show V m c main_arg1 _ = _
  rw [V_main_arg1]
  refine at2_eq _ _ ?_ ?_
  · blk_simp; rw [show win0_1.index t 0 = t.val from by rw [e]; rfl]
  · blk_simp; rw [show win0_1.index t 1 = 0 from by rw [e]; rfl]; try omega

/-- A block of the rows, entry by entry. -/
theorem blk2 (c : Dev nD) (t : Fin cfg0.N) (j : S256x2048.Idx) : iblk m c 2 t j = at2 (aX m c) (t.val * 256 + (j 0).val) (j 1).val := by
  have e := (idx_all t).2.2.1
  unfold iblk
  rw [View.read_apply]
  show V m c main_arg2 _ = _
  rw [V_main_arg2]
  refine at2_eq _ _ ?_ ?_
  · blk_simp; rw [show win0_2.index t 0 = t.val from by rw [e]; rfl]
  · blk_simp; rw [show win0_2.index t 1 = 0 from by rw [e]; rfl]; try omega

/-- The weight as the grid finds it: one row. -/
theorem found (c : Dev nD) (i : S1x2048.Idx) : V m c main_v0 i = wt (aW m c) (i 1).val := by
  have e : V m c main_v0 = (broadcastInDim S1x2048 ![1] bcast_S2048_S1x2048_1 (aW m c) : S1x2048.Idx → EReal) := by
    show StableHlo.after hostOps0 (fun b => m (c, b)) (Proc.devRef .tc main_v0) = _
    after_results
  rw [e, broadcastInDim_apply (![1] : Fin 1 → Fin 2) bcast_S2048_S1x2048_1 (aW m c) i (ValueIdx.ix1 (i 1)) (fun a => match a with
    | ⟨0, _⟩ => by show (i 1).val = if (2048 : Nat) = 1 then 0 else (i 1).val; rw [if_neg (by decide)])]
  exact wt_eq _ _ rfl

/-- The block of the weight is the weight. -/
theorem blk3 (c : Dev nD) (t : Fin cfg0.N) (j : S1x2048.Idx) : iblk m c 3 t j = wt (aW m c) (j 1).val := by
  have e := (idx_all t).2.2.2.1
  unfold iblk
  rw [View.read_apply]
  show V m c main_v0 _ = _
  rw [found]
  refine congrArg (wt (aW m c)) ?_
  blk_simp; rw [show win0_3.index t 1 = 0 from by rw [e]; rfl]; try omega

/-- The running sum starts at zero. -/
theorem zero_apply (i : S1x2048.Idx) : k0_pay6 (F := Ideal) i = 0 := Ideal.ofBits_zero_f32

/-- The first step's block of the gradient. -/
theorem outA {c : Dev nD} {i : grid0.Coords} {a1 h1 a2 h2 a3 h3 a4 h4 a5 h5 a6 h6 p} (d h x : Vec Ideal S256x2048 .f32) (w : Vec Ideal S1x2048 .f32) :
    out0_A_4 (F := Ideal) c i a1 h1 a2 h2 a3 h3 a4 h4 a5 h5 a6 h6 p d h x w = k0_pay5 d h x w := by
  unfold out0_A_4
  rw [View.read_writes_eq_canon _ _ _ (cover0_A_4 c i a1 h1 a2 h2 a3 h3 a4 h4 a5 h5 a6 h6 p d h x w)]
  unfold kernelRun0_A
  dsimp only
  rw [View.canon_unit_zero (S := S256x2048) hz2]
  simp only [View.readAt_eq_ld, h1.read_unread, h2.read_unread, h3.read_unread, h4.read_unread, View.ld_unit_zero (S := S256x2048) hz2, View.ld_unit_zero (S := S1x2048) hz2]

/-- A later step's block of the gradient. -/
theorem outB {c : Dev nD} {i : grid0.Coords} {a1 h1 a2 h2 a3 h3 a4 h4 a5 h5 a6 h6 p} (d h x : Vec Ideal S256x2048 .f32) (w s : Vec Ideal S1x2048 .f32) :
    out0_B_4 (F := Ideal) c i a1 h1 a2 h2 a3 h3 a4 h4 a5 h5 a6 h6 p d h x w s = k0_pay5 d h x w := by
  unfold out0_B_4
  rw [View.read_writes_eq_canon _ _ _ (cover0_B_4 c i a1 h1 a2 h2 a3 h3 a4 h4 a5 h5 a6 h6 p d h x w s)]
  unfold kernelRun0_B
  dsimp only
  rw [View.canon_unit_zero (S := S256x2048) hz2]
  simp only [View.readAt_eq_ld, h1.read_unread, h2.read_unread, h3.read_unread, h4.read_unread, View.ld_unit_zero (S := S256x2048) hz2, View.ld_unit_zero (S := S1x2048) hz2]

/-- The first step's sum. -/
theorem sumA {c : Dev nD} {i : grid0.Coords} {a1 h1 a2 h2 a3 h3 a4 h4 a5 h5 a6 h6 p} (d h x : Vec Ideal S256x2048 .f32) (w : Vec Ideal S1x2048 .f32) :
    out0_A_5 (F := Ideal) c i a1 h1 a2 h2 a3 h3 a4 h4 a5 h5 a6 h6 p d h x w = k0_pay1 (k0_pay4 h x) k0_pay6 := by
  unfold out0_A_5
  rw [View.read_writes_eq_canon _ _ _ (cover0_A_5 c i a1 h1 a2 h2 a3 h3 a4 h4 a5 h5 a6 h6 p d h x w)]
  unfold kernelRun0_A
  dsimp only
  sl_unfold_words
  rw [View.canon_cons_unit_zero (S := S1x2048) hz2, View.readCov_unit_zero (S := S1x2048) _ hz2]
  simp only [View.readAt_eq_ld, h2.read_unread, h3.read_unread, k0_pay7, shapeCast_self, View.ld_unit_zero (S := S256x2048) hz2, View.ld_unit_zero (S := S1x2048) hz2]

/-- A later step's sum. -/
theorem sumB {c : Dev nD} {i : grid0.Coords} {a1 h1 a2 h2 a3 h3 a4 h4 a5 h5 a6 h6 p} (d h x : Vec Ideal S256x2048 .f32) (w s : Vec Ideal S1x2048 .f32) :
    out0_B_5 (F := Ideal) c i a1 h1 a2 h2 a3 h3 a4 h4 a5 h5 a6 h6 p d h x w s = k0_pay1 (k0_pay4 h x) s := by
  unfold out0_B_5
  rw [View.read_writes_eq_canon _ _ _ (cover0_B_5 c i a1 h1 a2 h2 a3 h3 a4 h4 a5 h5 a6 h6 p d h x w s)]
  unfold kernelRun0_B
  dsimp only
  sl_unfold_words
  rw [View.canon_unit_zero (S := S1x2048) hz2]
  simp only [View.readAt_eq_ld, h2.read_unread, h3.read_unread, h6.read_unread, k0_pay7, shapeCast_self, View.ld_unit_zero (S := S256x2048) hz2, View.ld_unit_zero (S := S1x2048) hz2]

/-- What row `p` adds to the weight's gradient at column `q`. -/
def share (c : Dev nD) (p q : ℕ) : EReal := at2 (aH m c) p q * (at2 (aX m c) p q * rs (at2 (aX m c) p))

/-- One step adds its block of rows. -/
theorem step (c : Dev nD) (t : Fin cfg0.N) (s : Vec Ideal S1x2048 .f32) (j : S1x2048.Idx) :
    k0_pay1 (F := Ideal) (k0_pay4 (iblk m c 1 t) (iblk m c 2 t)) s j = s j + ∑ k ∈ Finset.range 256, share m c (t.val * 256 + k) (j 1).val :=
  congrArg (s j + ·) (weight_apply (fh := fun a b => at2 (aH m c) (t.val * 256 + a) b) (fx := fun a b => at2 (aX m c) (t.val * 256 + a) b)
    (blk1 m c t) (blk2 m c t) j)

/-- The running sum after a point: the rows so far. -/
theorem sofar (c : Dev nD) : ∀ (n : ℕ) (h : n < cfg0.N) (j : S1x2048.Idx),
    (outsAt0 (F := Ideal) m c n h).2 j = ∑ s ∈ Finset.range (n + 1), ∑ k ∈ Finset.range 256, share m c (s * 256 + k) (j 1).val := by
  intro n
  induction n with
  | zero =>
    intro h j
    rw [outsAt0_A m c ⟨0, h⟩ rfl]
    dsimp only
    rw [sumA, step, zero_apply, zero_add, Finset.sum_range_one]
  | succ n ih =>
    intro h j
    have hn := lt ⟨n + 1, h⟩
    rw [outsAt0_B m c ⟨n + 1, h⟩ (by dsimp only at hn ⊢; omega)]
    dsimp only
    rw [sumB, step, Finset.sum_range_succ _ (n + 1)]
    exact congrArg (fun z : EReal => z + ∑ k ∈ Finset.range 256, share m c ((n + 1) * 256 + k) (j 1).val) (ih (Nat.lt_of_succ_lt h) j)

/-- A point's block of the gradient. -/
theorem left (c : Dev nD) (t : Fin cfg0.N) (j : S256x2048.Idx) : (dats (F := Ideal) m 0 c).after 4 t j
    = fused (at2 (aD m c) (t.val * 256 + (j 0).val)) (at2 (aH m c) (t.val * 256 + (j 0).val)) (at2 (aX m c) (t.val * 256 + (j 0).val)) (wt (aW m c)) (j 1).val := by
  have e := grad_apply (fd := fun a b => at2 (aD m c) (t.val * 256 + a) b) (fh := fun a b => at2 (aH m c) (t.val * 256 + a) b)
    (fx := fun a b => at2 (aX m c) (t.val * 256 + a) b) (blk0 m c t) (blk1 m c t) (blk2 m c t) (blk3 m c t) j
  rw [after0_4]
  by_cases h0 : t.val % 16 = 0
  · rw [outsAt0_A m c t h0]
    dsimp only
    rw [outA]
    exact e
  · rw [outsAt0_B m c t h0]
    dsimp only
    rw [outB]
    exact e

/-- The gradient: every row in its fused form. -/
theorem arr4 (c : Dev nD) : (dats (F := Ideal) m 0 c).arrAt 4 cfg0.N
    = (fun i => fused (at2 (aD m c) (i 0).val) (at2 (aH m c) (i 0).val) (at2 (aX m c) (i 0).val) (wt (aW m c)) (i 1).val : S4096x2048.Idx → EReal) := by
  refine (dats m 0 c).arrAt_eq_of_covers 4 _ (by decide +kernel) fun t hf j => ?_
  have e := (idx_all t).2.2.2.2.1
  have e0 : win0_4.index t 0 = t.val := by rw [e]; rfl
  have e1 : win0_4.index t 1 = 0 := by rw [e]; rfl
  blk_simp
  refine (left m c t j).trans ?_
  rw [e0, e1, Nat.zero_mul, Nat.zero_add]

/-- The weight's gradient: the sum over all rows. -/
theorem arr5 (c : Dev nD) : (dats (F := Ideal) m 0 c).arrAt 5 cfg0.N
    = (fun i => ∑ k ∈ Finset.range 4096, share m c k (i 1).val : S1x2048.Idx → EReal) := by
  refine (dats m 0 c).arrAt_eq_of_covers 5 _ (by decide +kernel) fun t hf j => ?_
  have ht := lt t
  have hm : t.val = 15 := by have := (flush0_5 t).mp hf; omega
  have e1 : win0_5.index t 1 = 0 := by rw [(idx_all t).2.2.2.2.2]; rfl
  blk_simp
  rw [after0_5]
  refine (sofar m c t.val t.isLt j).trans ?_
  rw [hm, e1, Nat.zero_mul, Nat.zero_add]
  exact sum_blocks (fun k => share m c k (j 1).val) 16 256

/-- The run: the two results, and the arguments kept. -/
theorem run : θ_run (defs (F := Ideal)) (onTc (τ := τ) (main (F := Ideal))) ⟨m, fun _ => 0, ρ⟩ fun r => ∀ c : Dev nD,
    r.2.mem ((c : Thread nD τ).loc main_v1_0) = (fun i => fused (at2 (aD m c) (i 0).val) (at2 (aH m c) (i 0).val) (at2 (aX m c) (i 0).val) (wt (aW m c)) (i 1).val : S4096x2048.Idx → EReal)
    ∧ r.2.mem ((c : Thread nD τ).loc main_v1_1) = (fun i => ∑ k ∈ Finset.range 4096, share m c k (i 1).val : S1x2048.Idx → EReal)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (arr4 m c), (h c).2.1.trans (arr5 m c), (h c).2.2⟩) (Value.run_blocks (F := Ideal) m ρ)

end Cert.GradXIdeal.Norm

end
-- ==== Proof.GradX.Same.lean ====
/- The gradient through the first norm and its reference: the reference's row is the derivative's form, equal to the fused one. -/
module

public import proofs.«01_k».proof.Defs
public import proofs.«01_k».proof.Proof.Gen.GradXRefIdeal.Read
public import proofs.«01_k».proof.Proof.GradX.Value
public import Idealize.ShloMosaic.Adequacy
public import Idealize.ShloMosaic.Init

@[expose] public section

set_option maxRecDepth 16384

noncomputable section

namespace Cert.Norm.GradX

open Cert.GradXIdeal (nD τ sig)
open Cert.GradXRefIdeal.Read Cert.GradXIdeal.Norm Cert.Mm Cert.Norm Idealize.ShloMosaic Idealize.ShloMosaic.TcCoe Idealize.SL.Sem

section
variable (d h x : Cert.GradXIdeal.S4096x2048.Idx → EReal) (w : Cert.GradXIdeal.S2048.Idx → EReal)

/-- The reference's mean squares. -/
theorem ref_ms (j : Cert.GradXRefIdeal.S4096x1.Idx) : val_main_v6 (F := Ideal) x j = ms (at2 x (j 0).val) := by
  have e : ∑ k : Fin 2048, val_main_v0 (F := Ideal) x (idx_main_v1 (idx_main_v2 j) k) = ∑ k ∈ Finset.range 2048, at2 x (j 0).val k * at2 x (j 0).val k := by
    rw [Finset.sum_range]
    exact Finset.sum_congr rfl fun k _ => congrArg₂ (· * ·) (at2_eq x _ rfl rfl) (at2_eq x _ rfl rfl)
  rw [val_main_v6_apply, val_main_v4_apply, val_main_v2_apply, val_main_v1_apply, e]
  show Ideal.div (Ideal.ofBits .f32 0x00000000#32 + _) _ + _ = _
  rw [Ideal.ofBits_zero_f32, zero_add, val_main_v3_apply, val_main_v5_apply]
  rfl

/-- The reference's reciprocal roots. -/
theorem ref_rs (j : Cert.GradXRefIdeal.S4096x1.Idx) : val_main_v7 (F := Ideal) x j = rs (at2 x (j 0).val) :=
  congrArg Ideal.rsqrt (ref_ms x j)

/-- The norm's gradient times the weight. -/
theorem ref_hw (i : Cert.GradXRefIdeal.S4096x2048.Idx) : val_main_v20 (F := Ideal) h w i = at2 h (i 0).val (i 1).val * wt w (i 1).val := by
  rw [val_main_v20_apply, val_main_v19_apply, val_main_v13_apply]
  exact congrArg₂ (· * ·) (at2_eq h i rfl rfl) (wt_eq w _ rfl)

/-- What the reference multiplies a row by. -/
theorem ref_through (i : Cert.GradXRefIdeal.S4096x2048.Idx) :
    val_main_v32 (F := Ideal) h x w i = through (at2 h (i 0).val) (at2 x (i 0).val) (wt w) := by
  have e : ∑ k : Fin 2048, val_main_v22 (F := Ideal) h x w (idx_main_v23 (idx_main_v24 (idx_main_v31 (idx_main_v32 i) 0)) k)
      = ∑ k ∈ Finset.range 2048, at2 x (i 0).val k * (at2 h (i 0).val k * wt w k) := by
    rw [Finset.sum_range]
    refine Finset.sum_congr rfl fun k _ => ?_
    have e0 : (idx_main_v23 (idx_main_v24 (idx_main_v31 (idx_main_v32 i) 0)) k 0).val = (i 0).val := by
      show (i 0).val * 1 + 0 = (i 0).val; omega
    exact congrArg₂ (· * ·) (at2_eq x _ e0 rfl) ((ref_hw h w _).trans (by rw [e0]))
  rw [val_main_v32_apply, val_main_v31_apply, Fin.sum_univ_one, val_main_v30_apply, val_main_v28_apply, val_main_v24_apply, val_main_v23_apply, e,
    val_main_v10_apply, val_main_v8_apply, ref_rs, ref_ms, val_main_v9_apply, val_main_v29_apply]
  show Ideal.ofBits .f32 0x00000000#32 + Ideal.div ((Ideal.ofBits .f32 0x00000000#32 + _) * _) _ = _
  rw [Ideal.ofBits_zero_f32, zero_add, zero_add]
  rfl

/-- The reference's gradient, entry by entry. -/
theorem ref_grad (i : Cert.GradXRefIdeal.S4096x2048.Idx) :
    val_main_v36 (F := Ideal) d h x w i = derived (at2 d (i 0).val) (at2 h (i 0).val) (at2 x (i 0).val) (wt w) (i 1).val := by
  rw [val_main_v36_apply, val_main_v35_apply, val_main_v34_apply, val_main_v33_apply, val_main_v27_apply, val_main_v26_apply, val_main_v25_apply,
    ref_through, ref_hw, ref_rs, at2_eq d i rfl rfl, at2_eq x i rfl rfl]
  rfl

/-- The reference's gradient of the weight. -/
theorem ref_weight (i : Cert.GradXRefIdeal.S1x2048.Idx) :
    val_main_v37 (F := Ideal) h x i = ∑ k ∈ Finset.range 4096, at2 h k (i 1).val * (at2 x k (i 1).val * rs (at2 x k)) := by
  have e : ∑ k : Fin 4096, val_main_v16 (F := Ideal) h x (idx_main_v17 (idx_main_v18 (idx_main_v21 (idx_main_v37 i) 0)) k)
      = ∑ k ∈ Finset.range 4096, at2 h k (i 1).val * (at2 x k (i 1).val * rs (at2 x k)) := by
    rw [Finset.sum_range]
    refine Finset.sum_congr rfl fun k _ => ?_
    rw [val_main_v16_apply, val_main_v12_apply, val_main_v11_apply, ref_rs]
    refine (mul_comm _ _).trans (congrArg₂ (· * ·) (at2_eq h _ rfl ?_) (congrArg₂ (· * ·) (at2_eq x _ rfl ?_) rfl))
    · show 0 * 2048 + (i 1).val = (i 1).val; omega
    · show 0 * 2048 + (i 1).val = (i 1).val; omega
  rw [val_main_v37_apply, val_main_v21_apply, Fin.sum_univ_one, val_main_v18_apply, val_main_v17_apply, e]
  show Ideal.ofBits .f32 0x00000000#32 + (Ideal.ofBits .f32 0x00000000#32 + _) = _
  rw [Ideal.ofBits_zero_f32, zero_add, zero_add]

end

/-- The reference runs, keeps its arguments, and has no counters. -/
theorem referenceFrame : Cert.quiescent_GradXRefIdeal (hGradXRefIdeal := Cert.GradXRefIdeal.Gen.facts) := fun m g _ =>
  (θ_run Cert.GradXRefIdeal.defs _ _).mono (fun r h => ⟨fun c => (h c).2.2, sem_eq_zero_of_no_sems (by decide) r.2⟩)
    (Cert.GradXRefIdeal.Value.run (F := Ideal) m g)

/-- The equation: both programs run and end with equal results. -/
theorem algebraic : Cert.algebraic_GradXIdeal_GradXRefIdeal (hGradXIdeal := Cert.GradXIdeal.Gen.facts)
    (hGradXRefIdeal := Cert.GradXRefIdeal.Gen.facts) := fun m g m' g' hp ha => by
  refine ⟨_, _, Cert.GradXIdeal.Norm.run m g, (θ_run _ _ _).mono (fun r h c => ?_) (Cert.GradXRefIdeal.Value.run m' g')⟩
  obtain ⟨r0, r1, k⟩ := h c
  obtain ⟨a0, a1, a2, a3⟩ := ha c
  refine ⟨r0.trans ((val_main_v36_eq _ _ _ _).trans ?_), r1.trans ((val_main_v37_eq _ _).trans ?_), k⟩
  · rw [a0, a1, a2, a3]
    funext i
    exact (ref_grad (aD m c) (aH m c) (aX m c) (aW m c) i).trans (fused_eq _ _ _ _ _).symm
  · rw [a1, a2]
    funext i
    exact ref_weight (aH m c) (aX m c) i

end Cert.Norm.GradX

end
-- ==== Proof.Sum.Same.lean ====
/- The small weights' gradients and the loss: the kernel's array is the sum of the devices' parts, and so is the reference's. -/
module

public import proofs.«01_k».proof.Defs
public import proofs.«01_k».proof.Proof.Gen.SumSmallIdeal.Frame
public import proofs.«01_k».proof.Proof.Gen.SumSmallRefIdeal
public import proofs.«01_k».proof.Proof.Mm.Sum
public import Idealize.ShloMosaic.Lib.Pipeline.ValueKit
public import Idealize.ShloMosaic.Lib.Claim
public import Idealize.ShloMosaic.Adequacy
public import Idealize.ShloMosaic.Init

@[expose] public section

set_option maxRecDepth 16384

noncomputable section

namespace Cert.Sum.Small

open Cert.SumSmallIdeal Cert.SumSmallIdeal.Gen Cert.Mm Idealize.ShloMosaic Idealize.ShloMosaic.TcCoe Idealize.SL.Sem

/-- The sum over the devices, as the reference writes it. -/
abbrev total (x : S8x3072x128.Idx → EReal) : S3072x128.Idx → EReal :=
  Host.reduceAdd (F := Ideal) (φ := .f32) x (constant (F := Ideal) S_ .f32 0x00000000#32) Cert.SumSmallRefIdeal.Gen.reducesTo_S8x3072x128_S3072x128_d0 Cert.SumSmallRefIdeal.Gen.h_S_

/-- Its entry is the sum of the eight devices' entries, from the first on. -/
theorem total_apply (x : S8x3072x128.Idx → EReal) (j : S3072x128.Idx) :
    total x j = x (ValueIdx.ix3 0 (j 0) (j 1)) + x (ValueIdx.ix3 1 (j 0) (j 1)) + x (ValueIdx.ix3 2 (j 0) (j 1)) + x (ValueIdx.ix3 3 (j 0) (j 1))
      + x (ValueIdx.ix3 4 (j 0) (j 1)) + x (ValueIdx.ix3 5 (j 0) (j 1)) + x (ValueIdx.ix3 6 (j 0) (j 1)) + x (ValueIdx.ix3 7 (j 0) (j 1)) := by
  unfold total
  simp only [Host.reduceAdd, Ideal.hostReduceAdd_def]
  rw [Ideal.hostReduceAdd_single Cert.SumSmallRefIdeal.Gen.reducesTo_S8x3072x128_S3072x128_d0 (by decide)]
  have e : ∀ k : Fin 8, x (Shape.Reduces.lift (s := S8x3072x128) (t := S3072x128) (a := 0) (by decide) j k) = x (ValueIdx.ix3 k (j 0) (j 1)) :=
    fun k => congrArg x (funext fun a => Fin.ext (by match a with | ⟨0, _⟩ => rfl | ⟨1, _⟩ => rfl | ⟨2, _⟩ => rfl))
  refine (congrArg (_ + ·) ((Finset.sum_congr rfl fun k _ => e k).trans (Fin.sum_univ_eight _))).trans ?_
  show Ideal.ofBits .f32 0x00000000#32 + _ = _
  rw [Ideal.ofBits_zero_f32, zero_add]

/-- A device's slab, read as a matrix. -/
theorem slab (x : S8x3072x128.Idx → EReal) (k : Fin 8) (inb : ∀ a, (![k.val, 0, 0] : Fin 3 → ℕ) a + S1x3072x128.size a ≤ S8x3072x128.size a)
    (j : S3072x128.Idx) :
    shapeCast S3072x128 (View.ld (Val := Elt Ideal) (e' := .f32) x (Rect.unit (s := S8x3072x128) ![k.val, 0, 0] S1x3072x128.size inb) : S1x3072x128.Idx → EReal)
      shapeCasts_S1x3072x128_S3072x128 j = x (ValueIdx.ix3 k (j 0) (j 1)) := by
  refine (shapeCast_dropUnit_apply (n := 2) ![3072, 128] _ shapeCasts_S1x3072x128_S3072x128 j).trans ?_
  refine View.ld_unit_apply_of (Val := Elt Ideal) (e := .f32) x _ _ inb _ (ValueIdx.ix3 k (j 0) (j 1)) fun a => ?_
  fin_cases a
  · show k.val = k.val + 0; omega
  · show (j 0).val = 0 + (j 0).val; omega
  · show (j 1).val = 0 + (j 1).val; omega

/-- No offset along two axes. -/
theorem hz2 : (![0, 0] : Fin 2 → ℕ) = fun _ => 0 := funext fun a => by fin_cases a <;> rfl

/-- The body's block is the sum of its eight slabs. -/
theorem block (x : S8x3072x128.Idx → EReal) : out0_1 (F := Ideal) x = total x := by
  unfold out0_1
  rw [View.canon_unit_zero (S := S3072x128) hz2]
  funext j
  rw [total_apply]
  unfold k0_pay1
  rw [← slab x 0 inb_S8x3072x128_S1x3072x128_0_0_0 j, ← slab x 1 inb_S8x3072x128_S1x3072x128_1_0_0 j,
    ← slab x 2 inb_S8x3072x128_S1x3072x128_2_0_0 j, ← slab x 3 inb_S8x3072x128_S1x3072x128_3_0_0 j,
    ← slab x 4 inb_S8x3072x128_S1x3072x128_4_0_0 j, ← slab x 5 inb_S8x3072x128_S1x3072x128_5_0_0 j,
    ← slab x 6 inb_S8x3072x128_S1x3072x128_6_0_0 j, ← slab x 7 inb_S8x3072x128_S1x3072x128_7_0_0 j]
  rfl

variable (m : (ℓ : Loc nD τ sig) → Buf (Elt Ideal) ℓ)

/-- The argument: the parts of all devices. -/
abbrev X (c : Dev nD) : S8x3072x128.Idx → EReal := m ((c : Thread nD τ).loc main_arg0)

/-- The argument's block is the whole of it. -/
theorem emb0 (t : Fin cfg0.N) (j : S8x3072x128.Idx) : (win0_0.blk t).view.emb j = j := by
  have e : ∀ t : Fin cfg0.N, ∀ a : Fin 3, win0_0.index t a = 0 := by decide +kernel
  funext a
  apply Fin.ext
  fin_cases a
  · blk_simp; rw [e t 0]; try omega
  · blk_simp; rw [e t 1]; try omega
  · blk_simp; rw [e t 2]; try omega

/-- The result's block is the whole of it. -/
theorem emb1 (t : Fin cfg0.N) (j : S3072x128.Idx) : (win0_1.blk t).view.emb j = j := by
  have e : ∀ t : Fin cfg0.N, ∀ a : Fin 2, win0_1.index t a = 0 := by decide +kernel
  funext a
  apply Fin.ext
  fin_cases a
  · blk_simp; rw [e t 0]; try omega
  · blk_simp; rw [e t 1]; try omega

/-- What the grid reads is the argument. -/
theorem blk0 (c : Dev nD) (t : Fin cfg0.N) : iblk m c 0 t = X m c := by
  funext j
  unfold iblk
  rw [View.read_apply]
  exact congrArg (V m c main_arg0) (emb0 t j)

/-- What the grid leaves is the sum over the devices. -/
theorem arr1 (c : Dev nD) : (dats (F := Ideal) m 0 c).arrAt 1 cfg0.N = total (X m c) := by
  refine (dats m 0 c).arrAt_eq_of_covers 1 _ (by decide +kernel) fun t hf j => ?_
  rw [after0_1, blk0, block]
  blk_simp
  exact congrArg (total (X m c)) (emb1 t j).symm

/-- The same, as the lines after the grid find it. -/
theorem left (c : Dev nD) :
    Pipeline.withArrays spec0 c (V0 m c) (fun w => (dats (F := Ideal) m 0 c).arrAt w cfg0.N) (Proc.devRef .tc main_v0) = total (X m c) :=
  (Pipeline.withArrays_arr spec0 (by decide) c _ _ 1).trans (arr1 m c)

set_option maxHeartbeats 8000000 in
/-- The equation: both programs run and end with equal results. -/
theorem algebraic : Cert.algebraic_SumSmallIdeal_SumSmallRefIdeal (hSumSmallIdeal := Cert.SumSmallIdeal.Gen.facts)
    (hSumSmallRefIdeal := Cert.SumSmallRefIdeal.Gen.facts) := by
  pair_intro
  · run_from Cert.SumSmallIdeal.Gen.run_main m g
  · hlo_run
    all_goals (first | rw [hagree c] | skip)
    all_goals (unfold Pipeline.afterTail₀ hostOps1; simp only [List.flatten_cons, List.flatten_nil, List.append_nil]; after_results)
    all_goals (rw [left])
    all_goals rfl

/-- The reference runs, keeps its arguments, and has no counters. -/
theorem referenceFrame : Cert.quiescent_SumSmallRefIdeal (hSumSmallRefIdeal := Cert.SumSmallRefIdeal.Gen.facts) := by
  intro m g _
  hlo_run
  · intro _; trivial
  · exact sem_eq_zero_of_no_sems (by decide) r.2

end Cert.Sum.Small

end
-- ==== Proof.lean ====
/- The claims of the attention gradient, the twelve products, one norm's gradient, the small weights' sums and the optimiser's steps: the frames, the replacements and the equations. -/
module

public import proofs.«01_k».proof.Defs
public import proofs.«01_k».proof.Proof.Attn.Same
public import proofs.«01_k».proof.Proof.Attn.KernelFrame
public import proofs.«01_k».proof.Proof.Mm.UpSame
public import proofs.«01_k».proof.Proof.Gen.Up.Frame
public import proofs.«01_k».proof.Proof.Gen.UpIdeal.Frame
public import proofs.«01_k».proof.Proof.Mm.UpDSame
public import proofs.«01_k».proof.Proof.Gen.UpD.Frame
public import proofs.«01_k».proof.Proof.Gen.UpDIdeal.Frame
public import proofs.«01_k».proof.Proof.Mm.UpWSame
public import proofs.«01_k».proof.Proof.Gen.UpW.Frame
public import proofs.«01_k».proof.Proof.Gen.UpWIdeal.Frame
public import proofs.«01_k».proof.Proof.Mm.DownSame
public import proofs.«01_k».proof.Proof.Gen.Down.Frame
public import proofs.«01_k».proof.Proof.Gen.DownIdeal.Frame
public import proofs.«01_k».proof.Proof.Mm.DownDSame
public import proofs.«01_k».proof.Proof.Gen.DownD.Frame
public import proofs.«01_k».proof.Proof.Gen.DownDIdeal.Frame
public import proofs.«01_k».proof.Proof.Mm.DownWSame
public import proofs.«01_k».proof.Proof.Gen.DownW.Frame
public import proofs.«01_k».proof.Proof.Gen.DownWIdeal.Frame
public import proofs.«01_k».proof.Proof.Mm.InSame
public import proofs.«01_k».proof.Proof.Gen.In.Frame
public import proofs.«01_k».proof.Proof.Gen.InIdeal.Frame
public import proofs.«01_k».proof.Proof.Mm.InDSame
public import proofs.«01_k».proof.Proof.Gen.InD.Frame
public import proofs.«01_k».proof.Proof.Gen.InDIdeal.Frame
public import proofs.«01_k».proof.Proof.Mm.InWSame
public import proofs.«01_k».proof.Proof.Gen.InW.Frame
public import proofs.«01_k».proof.Proof.Gen.InWIdeal.Frame
public import proofs.«01_k».proof.Proof.Mm.OutSame
public import proofs.«01_k».proof.Proof.Gen.Out.Frame
public import proofs.«01_k».proof.Proof.Gen.OutIdeal.Frame
public import proofs.«01_k».proof.Proof.Mm.OutDSame
public import proofs.«01_k».proof.Proof.Gen.OutD.Frame
public import proofs.«01_k».proof.Proof.Gen.OutDIdeal.Frame
public import proofs.«01_k».proof.Proof.Mm.OutWSame
public import proofs.«01_k».proof.Proof.Gen.OutW.Frame
public import proofs.«01_k».proof.Proof.Gen.OutWIdeal.Frame
public import proofs.«01_k».proof.Proof.Gen.AdamIn.Frame
public import proofs.«01_k».proof.Proof.Gen.AdamInIdeal.Frame
public import proofs.«01_k».proof.Proof.Adam.In
public import proofs.«01_k».proof.Proof.Gen.AdamSmall.Frame
public import proofs.«01_k».proof.Proof.Gen.AdamSmallIdeal.Frame
public import proofs.«01_k».proof.Proof.Adam.SmallEnd
public import proofs.«01_k».proof.Proof.Gen.GradX.Frame
public import proofs.«01_k».proof.Proof.Gen.GradXIdeal.Frame
public import proofs.«01_k».proof.Proof.GradX.Same
public import proofs.«01_k».proof.Proof.Gen.SumSmall.Frame
public import proofs.«01_k».proof.Proof.Gen.SumSmallIdeal.Frame
public import proofs.«01_k».proof.Proof.Sum.Same
public import Idealize.ShloMosaic.Adequacy
public import Idealize.ShloMosaic.Init

@[expose] public section

noncomputable section

namespace Cert.Proof

open Idealize.ShloMosaic Idealize.SL.Sem

/-- The reference's frame: it runs, keeps its arguments, and has no counters. -/
theorem referenceFrame : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- Every claim. -/
theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.UpD.Gen.facts, Cert.UpDIdeal.Gen.facts, Cert.UpDRefIdeal.Gen.facts,
  Cert.UpW.Gen.facts, Cert.UpWIdeal.Gen.facts, Cert.UpWRefIdeal.Gen.facts,
  Cert.Down.Gen.facts, Cert.DownIdeal.Gen.facts, Cert.DownRefIdeal.Gen.facts,
  Cert.DownD.Gen.facts, Cert.DownDIdeal.Gen.facts, Cert.DownDRefIdeal.Gen.facts,
  Cert.DownW.Gen.facts, Cert.DownWIdeal.Gen.facts, Cert.DownWRefIdeal.Gen.facts,
  Cert.In.Gen.facts, Cert.InIdeal.Gen.facts, Cert.InRefIdeal.Gen.facts,
  Cert.InD.Gen.facts, Cert.InDIdeal.Gen.facts, Cert.InDRefIdeal.Gen.facts,
  Cert.InW.Gen.facts, Cert.InWIdeal.Gen.facts, Cert.InWRefIdeal.Gen.facts,
  Cert.Out.Gen.facts, Cert.OutIdeal.Gen.facts, Cert.OutRefIdeal.Gen.facts,
  Cert.OutD.Gen.facts, Cert.OutDIdeal.Gen.facts, Cert.OutDRefIdeal.Gen.facts,
  Cert.OutW.Gen.facts, Cert.OutWIdeal.Gen.facts, Cert.OutWRefIdeal.Gen.facts,
  Cert.AdamIn.Gen.facts, Cert.AdamInIdeal.Gen.facts, Cert.AdamInRefIdeal.Gen.facts,
  Cert.AdamSmall.Gen.facts, Cert.AdamSmallIdeal.Gen.facts, Cert.AdamSmallRefIdeal.Gen.facts,
  Cert.GradX.Gen.facts, Cert.GradXIdeal.Gen.facts, Cert.GradXRefIdeal.Gen.facts,
  Cert.SumSmall.Gen.facts, Cert.SumSmallIdeal.Gen.facts, Cert.SumSmallRefIdeal.Gen.facts,
  Cert.Same.preFacts,
  fun m g _ => Cert.Kernel.Attn.frame m g,
  fun m g _ => Cert.KernelIdeal.Attn.frame m g,
  fun m g _ => Cert.KernelIdeal.Attn.frame m g,
  referenceFrame,
  fun m g _ => referenceFrame m g trivial,
  fun m g _ => Cert.Up.Gen.frame m g, fun m g _ => Cert.UpIdeal.Gen.frame m g, Cert.Mm.Up.referenceFrame,
  fun m g _ => Cert.UpD.Gen.frame m g, fun m g _ => Cert.UpDIdeal.Gen.frame m g, Cert.Mm.UpD.referenceFrame,
  fun m g _ => Cert.UpW.Gen.frame m g, fun m g _ => Cert.UpWIdeal.Gen.frame m g, Cert.Mm.UpW.referenceFrame,
  fun m g _ => Cert.Down.Gen.frame m g, fun m g _ => Cert.DownIdeal.Gen.frame m g, Cert.Mm.Down.referenceFrame,
  fun m g _ => Cert.DownD.Gen.frame m g, fun m g _ => Cert.DownDIdeal.Gen.frame m g, Cert.Mm.DownD.referenceFrame,
  fun m g _ => Cert.DownW.Gen.frame m g, fun m g _ => Cert.DownWIdeal.Gen.frame m g, Cert.Mm.DownW.referenceFrame,
  fun m g _ => Cert.In.Gen.frame m g, fun m g _ => Cert.InIdeal.Gen.frame m g, Cert.Mm.In.referenceFrame,
  fun m g _ => Cert.InD.Gen.frame m g, fun m g _ => Cert.InDIdeal.Gen.frame m g, Cert.Mm.InD.referenceFrame,
  fun m g _ => Cert.InW.Gen.frame m g, fun m g _ => Cert.InWIdeal.Gen.frame m g, Cert.Mm.InW.referenceFrame,
  fun m g _ => Cert.Out.Gen.frame m g, fun m g _ => Cert.OutIdeal.Gen.frame m g, Cert.Mm.Out.referenceFrame,
  fun m g _ => Cert.OutD.Gen.frame m g, fun m g _ => Cert.OutDIdeal.Gen.frame m g, Cert.Mm.OutD.referenceFrame,
  fun m g _ => Cert.OutW.Gen.frame m g, fun m g _ => Cert.OutWIdeal.Gen.frame m g, Cert.Mm.OutW.referenceFrame,
  fun m g _ => Cert.AdamIn.Gen.frame m g, fun m g _ => Cert.AdamInIdeal.Gen.frame m g, Cert.Adam.In.referenceFrame,
  fun m g _ => Cert.AdamSmall.Gen.frame m g, fun m g _ => Cert.AdamSmallIdeal.Gen.frame m g, Cert.Adam.Small.referenceFrame,
  fun m g _ => Cert.GradX.Gen.frame m g, fun m g _ => Cert.GradXIdeal.Gen.frame m g, Cert.Norm.GradX.referenceFrame,
  fun m g _ => Cert.SumSmall.Gen.frame m g, fun m g _ => Cert.SumSmallIdeal.Gen.frame m g, Cert.Sum.Small.referenceFrame,
  IdealRules.named_const.statement Cert.KernelIdeal.κ "mask" .f32 0xF149F2CA#32 ⊥ rfl,
  Cert.Same.algebraic,
  trivial, Cert.Mm.Up.algebraic,
  trivial, Cert.Mm.UpD.algebraic,
  trivial, Cert.Mm.UpW.algebraic,
  trivial, Cert.Mm.Down.algebraic,
  trivial, Cert.Mm.DownD.algebraic,
  trivial, Cert.Mm.DownW.algebraic,
  trivial, Cert.Mm.In.algebraic,
  trivial, Cert.Mm.InD.algebraic,
  trivial, Cert.Mm.InW.algebraic,
  trivial, Cert.Mm.Out.algebraic,
  trivial, Cert.Mm.OutD.algebraic,
  trivial, Cert.Mm.OutW.algebraic,
  Cert.Adam.In.preserves, Cert.Adam.In.algebraic,
  Cert.Adam.Small.preserves, Cert.Adam.Small.algebraic,
  trivial, Cert.Norm.GradX.algebraic,
  trivial, Cert.Sum.Small.algebraic⟩

end Cert.Proof

end
